-- ==== Defs.lean ====
def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstRefIdeal (m : (ℓ : Loc Cert.FirstRefIdeal.nD Cert.FirstRefIdeal.τ Cert.FirstRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3)
      ∧ r.2.mem ((c.tc : Thread Cert.First.nD Cert.First.τ).loc Cert.First.main_arg4) = m ((c.tc : Thread Cert.First.nD Cert.First.τ).loc Cert.First.main_arg4)
      ∧ r.2.mem ((c.tc : Thread Cert.First.nD Cert.First.τ).loc Cert.First.main_arg5) = m ((c.tc : Thread Cert.First.nD Cert.First.τ).loc Cert.First.main_arg5))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
      ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
      ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ r.2.sem = fun _ => 0)

def quiescent_FirstRefIdeal [hFirstRefIdeal : Cert.FirstRefIdeal.Facts] : Prop :=
  ∀ (m : (ℓ : Loc Cert.FirstRefIdeal.nD Cert.FirstRefIdeal.τ Cert.FirstRefIdeal.sig) → Buf (Elt Ideal) ℓ) (g : Dev Cert.FirstRefIdeal.nD → PrngReg), Pre_FirstRefIdeal m →
    θ_run (Cert.FirstRefIdeal.defs (F := Ideal)) (onTc (τ := Cert.FirstRefIdeal.τ) (Cert.FirstRefIdeal.main (F := Ideal))) ⟨m, fun _ => 0, g⟩ (fun r => (∀ c : Dev Cert.FirstRefIdeal.nD,
      r.2.mem ((c.tc : Thread Cert.FirstRefIdeal.nD Cert.FirstRefIdeal.τ).loc Cert.FirstRefIdeal.main_arg0) = m ((c.tc : Thread Cert.FirstRefIdeal.nD Cert.FirstRefIdeal.τ).loc Cert.FirstRefIdeal.main_arg0)
      ∧ r.2.mem ((c.tc : Thread Cert.FirstRefIdeal.nD Cert.FirstRefIdeal.τ).loc Cert.FirstRefIdeal.main_arg1) = m ((c.tc : Thread Cert.FirstRefIdeal.nD Cert.FirstRefIdeal.τ).loc Cert.FirstRefIdeal.main_arg1)
      ∧ r.2.mem ((c.tc : Thread Cert.FirstRefIdeal.nD Cert.FirstRefIdeal.τ).loc Cert.FirstRefIdeal.main_arg2) = m ((c.tc : Thread Cert.FirstRefIdeal.nD Cert.FirstRefIdeal.τ).loc Cert.FirstRefIdeal.main_arg2)
      ∧ r.2.mem ((c.tc : Thread Cert.FirstRefIdeal.nD Cert.FirstRefIdeal.τ).loc Cert.FirstRefIdeal.main_arg3) = m ((c.tc : Thread Cert.FirstRefIdeal.nD Cert.FirstRefIdeal.τ).loc Cert.FirstRefIdeal.main_arg3)
      ∧ r.2.mem ((c.tc : Thread Cert.FirstRefIdeal.nD Cert.FirstRefIdeal.τ).loc Cert.FirstRefIdeal.main_arg4) = m ((c.tc : Thread Cert.FirstRefIdeal.nD Cert.FirstRefIdeal.τ).loc Cert.FirstRefIdeal.main_arg4)
      ∧ r.2.mem ((c.tc : Thread Cert.FirstRefIdeal.nD Cert.FirstRefIdeal.τ).loc Cert.FirstRefIdeal.main_arg5) = m ((c.tc : Thread Cert.FirstRefIdeal.nD Cert.FirstRefIdeal.τ).loc Cert.FirstRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3)
      ∧ r.2.mem ((c.tc : Thread Cert.Outproj.nD Cert.Outproj.τ).loc Cert.Outproj.main_arg4) = m ((c.tc : Thread Cert.Outproj.nD Cert.Outproj.τ).loc Cert.Outproj.main_arg4))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
      ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3)
      ∧ r.2.mem ((c.tc : Thread Cert.OutprojRefIdeal.nD Cert.OutprojRefIdeal.τ).loc Cert.OutprojRefIdeal.main_arg4) = m ((c.tc : Thread Cert.OutprojRefIdeal.nD Cert.OutprojRefIdeal.τ).loc Cert.OutprojRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4))
      ∧ r.2.sem = fun _ => 0)

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v37)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v37) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v66) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def preserves_First_FirstIdeal : Prop :=
  True

def algebraic_FirstIdeal_FirstRefIdeal [hFirstIdeal : Cert.FirstIdeal.Facts] [hFirstRefIdeal : Cert.FirstRefIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstRefIdeal.nD Cert.FirstRefIdeal.τ Cert.FirstRefIdeal.sig) → Buf (Elt Ideal) ℓ) (g' : Dev Cert.FirstRefIdeal.nD → PrngReg), Pre_FirstIdeal m →
    (∀ c : Dev Cert.FirstIdeal.nD,
      m' ((c.tc : Thread Cert.FirstRefIdeal.nD Cert.FirstRefIdeal.τ).loc Cert.FirstRefIdeal.main_arg0) = m ((c.tc : Thread Cert.FirstIdeal.nD Cert.FirstIdeal.τ).loc Cert.FirstIdeal.main_arg0)
      ∧ m' ((c.tc : Thread Cert.FirstRefIdeal.nD Cert.FirstRefIdeal.τ).loc Cert.FirstRefIdeal.main_arg1) = m ((c.tc : Thread Cert.FirstIdeal.nD Cert.FirstIdeal.τ).loc Cert.FirstIdeal.main_arg1)
      ∧ m' ((c.tc : Thread Cert.FirstRefIdeal.nD Cert.FirstRefIdeal.τ).loc Cert.FirstRefIdeal.main_arg2) = m ((c.tc : Thread Cert.FirstIdeal.nD Cert.FirstIdeal.τ).loc Cert.FirstIdeal.main_arg2)
      ∧ m' ((c.tc : Thread Cert.FirstRefIdeal.nD Cert.FirstRefIdeal.τ).loc Cert.FirstRefIdeal.main_arg3) = m ((c.tc : Thread Cert.FirstIdeal.nD Cert.FirstIdeal.τ).loc Cert.FirstIdeal.main_arg3)
      ∧ m' ((c.tc : Thread Cert.FirstRefIdeal.nD Cert.FirstRefIdeal.τ).loc Cert.FirstRefIdeal.main_arg4) = m ((c.tc : Thread Cert.FirstIdeal.nD Cert.FirstIdeal.τ).loc Cert.FirstIdeal.main_arg4)
      ∧ m' ((c.tc : Thread Cert.FirstRefIdeal.nD Cert.FirstRefIdeal.τ).loc Cert.FirstRefIdeal.main_arg5) = m ((c.tc : Thread Cert.FirstIdeal.nD Cert.FirstIdeal.τ).loc Cert.FirstIdeal.main_arg5)) →
    ∃ (v0 : (c : Dev Cert.FirstIdeal.nD) → Buf (Elt Ideal) ((c.tc : Thread Cert.FirstIdeal.nD Cert.FirstIdeal.τ).loc Cert.FirstIdeal.main_v2_0)) (v1 : (c : Dev Cert.FirstIdeal.nD) → Buf (Elt Ideal) ((c.tc : Thread Cert.FirstIdeal.nD Cert.FirstIdeal.τ).loc Cert.FirstIdeal.main_v2_1)) (v2 : (c : Dev Cert.FirstIdeal.nD) → Buf (Elt Ideal) ((c.tc : Thread Cert.FirstIdeal.nD Cert.FirstIdeal.τ).loc Cert.FirstIdeal.main_v2_2)) (v3 : (c : Dev Cert.FirstIdeal.nD) → Buf (Elt Ideal) ((c.tc : Thread Cert.FirstIdeal.nD Cert.FirstIdeal.τ).loc Cert.FirstIdeal.main_v2_3)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v2_0) = v0 c
          ∧ r.2.mem ((c.tc : Thread Cert.FirstIdeal.nD Cert.FirstIdeal.τ).loc Cert.FirstIdeal.main_v2_1) = v1 c
          ∧ r.2.mem ((c.tc : Thread Cert.FirstIdeal.nD Cert.FirstIdeal.τ).loc Cert.FirstIdeal.main_v2_2) = v2 c
          ∧ r.2.mem ((c.tc : Thread Cert.FirstIdeal.nD Cert.FirstIdeal.τ).loc Cert.FirstIdeal.main_v2_3) = v3 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3)
          ∧ r.2.mem ((c.tc : Thread Cert.FirstIdeal.nD Cert.FirstIdeal.τ).loc Cert.FirstIdeal.main_arg4) = m ((c.tc : Thread Cert.FirstIdeal.nD Cert.FirstIdeal.τ).loc Cert.FirstIdeal.main_arg4)
          ∧ r.2.mem ((c.tc : Thread Cert.FirstIdeal.nD Cert.FirstIdeal.τ).loc Cert.FirstIdeal.main_arg5) = m ((c.tc : Thread Cert.FirstIdeal.nD Cert.FirstIdeal.τ).loc Cert.FirstIdeal.main_arg5))
      ∧ θ_run (Cert.FirstRefIdeal.defs (F := Ideal)) (onTc (τ := Cert.FirstRefIdeal.τ) (Cert.FirstRefIdeal.main (F := Ideal))) ⟨m', fun _ => 0, g'⟩ (fun r => ∀ c : Dev Cert.FirstRefIdeal.nD,
          r.2.mem ((c.tc : Thread Cert.FirstRefIdeal.nD Cert.FirstRefIdeal.τ).loc Cert.FirstRefIdeal.main_v34) = v0 c
          ∧ r.2.mem ((c.tc : Thread Cert.FirstRefIdeal.nD Cert.FirstRefIdeal.τ).loc Cert.FirstRefIdeal.main_v35) = v1 c
          ∧ r.2.mem ((c.tc : Thread Cert.FirstRefIdeal.nD Cert.FirstRefIdeal.τ).loc Cert.FirstRefIdeal.main_v36) = v2 c
          ∧ r.2.mem ((c.tc : Thread Cert.FirstRefIdeal.nD Cert.FirstRefIdeal.τ).loc Cert.FirstRefIdeal.main_v37) = v3 c
          ∧ r.2.mem ((c.tc : Thread Cert.FirstRefIdeal.nD Cert.FirstRefIdeal.τ).loc Cert.FirstRefIdeal.main_arg0) = m' ((c.tc : Thread Cert.FirstRefIdeal.nD Cert.FirstRefIdeal.τ).loc Cert.FirstRefIdeal.main_arg0)
          ∧ r.2.mem ((c.tc : Thread Cert.FirstRefIdeal.nD Cert.FirstRefIdeal.τ).loc Cert.FirstRefIdeal.main_arg1) = m' ((c.tc : Thread Cert.FirstRefIdeal.nD Cert.FirstRefIdeal.τ).loc Cert.FirstRefIdeal.main_arg1)
          ∧ r.2.mem ((c.tc : Thread Cert.FirstRefIdeal.nD Cert.FirstRefIdeal.τ).loc Cert.FirstRefIdeal.main_arg2) = m' ((c.tc : Thread Cert.FirstRefIdeal.nD Cert.FirstRefIdeal.τ).loc Cert.FirstRefIdeal.main_arg2)
          ∧ r.2.mem ((c.tc : Thread Cert.FirstRefIdeal.nD Cert.FirstRefIdeal.τ).loc Cert.FirstRefIdeal.main_arg3) = m' ((c.tc : Thread Cert.FirstRefIdeal.nD Cert.FirstRefIdeal.τ).loc Cert.FirstRefIdeal.main_arg3)
          ∧ r.2.mem ((c.tc : Thread Cert.FirstRefIdeal.nD Cert.FirstRefIdeal.τ).loc Cert.FirstRefIdeal.main_arg4) = m' ((c.tc : Thread Cert.FirstRefIdeal.nD Cert.FirstRefIdeal.τ).loc Cert.FirstRefIdeal.main_arg4)
          ∧ r.2.mem ((c.tc : Thread Cert.FirstRefIdeal.nD Cert.FirstRefIdeal.τ).loc Cert.FirstRefIdeal.main_arg5) = m' ((c.tc : Thread Cert.FirstRefIdeal.nD Cert.FirstRefIdeal.τ).loc Cert.FirstRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v14_0)) (v1 : (c : Dev Cert.InprojIdeal.nD) → Buf (Elt Ideal) ((c.tc : Thread Cert.InprojIdeal.nD Cert.InprojIdeal.τ).loc Cert.InprojIdeal.main_v14_1)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v14_0) = v0 c
          ∧ r.2.mem ((c.tc : Thread Cert.InprojIdeal.nD Cert.InprojIdeal.τ).loc Cert.InprojIdeal.main_v14_1) = v1 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v25) = v0 c
          ∧ r.2.mem ((c.tc : Thread Cert.InprojRefIdeal.nD Cert.InprojRefIdeal.τ).loc Cert.InprojRefIdeal.main_v27) = v1 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)
      ∧ m' ((c.tc : Thread Cert.OutprojRefIdeal.nD Cert.OutprojRefIdeal.τ).loc Cert.OutprojRefIdeal.main_arg4) = m ((c.tc : Thread Cert.OutprojIdeal.nD Cert.OutprojIdeal.τ).loc Cert.OutprojIdeal.main_arg4)) →
    ∃ (v0 : (c : Dev Cert.OutprojIdeal.nD) → Buf (Elt Ideal) ((c.tc : Thread Cert.OutprojIdeal.nD Cert.OutprojIdeal.τ).loc Cert.OutprojIdeal.main_v2)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v2) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3)
          ∧ r.2.mem ((c.tc : Thread Cert.OutprojIdeal.nD Cert.OutprojIdeal.τ).loc Cert.OutprojIdeal.main_arg4) = m ((c.tc : Thread Cert.OutprojIdeal.nD Cert.OutprojIdeal.τ).loc Cert.OutprojIdeal.main_arg4))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v17) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3)
          ∧ r.2.mem ((c.tc : Thread Cert.OutprojRefIdeal.nD Cert.OutprojRefIdeal.τ).loc Cert.OutprojRefIdeal.main_arg4) = m' ((c.tc : Thread Cert.OutprojRefIdeal.nD Cert.OutprojRefIdeal.τ).loc Cert.OutprojRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)) →
    ∃ (v0 : (c : Dev Cert.PleIdeal.nD) → Buf (Elt Ideal) ((c.tc : Thread Cert.PleIdeal.nD Cert.PleIdeal.τ).loc Cert.PleIdeal.main_v3)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v3) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v22) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4))

def Claim : Prop :=
  ∃ (hGla : Cert.Gla.Facts) (hGlaIdeal : Cert.GlaIdeal.Facts) (hGlaRefIdeal : Cert.GlaRefIdeal.Facts) (hFirst : Cert.First.Facts) (hFirstIdeal : Cert.FirstIdeal.Facts) (hFirstRefIdeal : Cert.FirstRefIdeal.Facts) (hFfn : Cert.Ffn.Facts) (hFfnIdeal : Cert.FfnIdeal.Facts) (hFfnRefIdeal : Cert.FfnRefIdeal.Facts) (hInproj : Cert.Inproj.Facts) (hInprojIdeal : Cert.InprojIdeal.Facts) (hInprojRefIdeal : Cert.InprojRefIdeal.Facts) (hOutproj : Cert.Outproj.Facts) (hOutprojIdeal : Cert.OutprojIdeal.Facts) (hOutprojRefIdeal : Cert.OutprojRefIdeal.Facts) (hPle : Cert.Ple.Facts) (hPleIdeal : Cert.PleIdeal.Facts) (hPleRefIdeal : Cert.PleRefIdeal.Facts),
    quiescent_Gla (hGla := hGla)
    ∧ quiescent_GlaIdeal (hGlaIdeal := hGlaIdeal)
    ∧ quiescent_GlaRefIdeal (hGlaRefIdeal := hGlaRefIdeal)
    ∧ quiescent_First (hFirst := hFirst)
    ∧ quiescent_FirstIdeal (hFirstIdeal := hFirstIdeal)
    ∧ quiescent_FirstRefIdeal (hFirstRefIdeal := hFirstRefIdeal)
    ∧ quiescent_Ffn (hFfn := hFfn)
    ∧ quiescent_FfnIdeal (hFfnIdeal := hFfnIdeal)
    ∧ quiescent_FfnRefIdeal (hFfnRefIdeal := hFfnRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_Ple (hPle := hPle)
    ∧ quiescent_PleIdeal (hPleIdeal := hPleIdeal)
    ∧ quiescent_PleRefIdeal (hPleRefIdeal := hPleRefIdeal)
    ∧ preserves_Gla_GlaIdeal
    ∧ algebraic_GlaIdeal_GlaRefIdeal (hGlaIdeal := hGlaIdeal) (hGlaRefIdeal := hGlaRefIdeal)
    ∧ preserves_First_FirstIdeal
    ∧ algebraic_FirstIdeal_FirstRefIdeal (hFirstIdeal := hFirstIdeal) (hFirstRefIdeal := hFirstRefIdeal)
    ∧ preserves_Ffn_FfnIdeal
    ∧ algebraic_FfnIdeal_FfnRefIdeal (hFfnIdeal := hFfnIdeal) (hFfnRefIdeal := hFfnRefIdeal)
    ∧ preserves_Inproj_InprojIdeal
    ∧ algebraic_InprojIdeal_InprojRefIdeal (hInprojIdeal := hInprojIdeal) (hInprojRefIdeal := hInprojRefIdeal)
    ∧ preserves_Outproj_OutprojIdeal
    ∧ algebraic_OutprojIdeal_OutprojRefIdeal (hOutprojIdeal := hOutprojIdeal) (hOutprojRefIdeal := hOutprojRefIdeal)
    ∧ preserves_Ple_PleIdeal
    ∧ algebraic_PleIdeal_PleRefIdeal (hPleIdeal := hPleIdeal) (hPleRefIdeal := hPleRefIdeal)
-- ==== Gla.lean ====
abbrev S8192x12320 : Shape := ⟨2, ![8192, 12320]⟩
abbrev S16x1024 : Shape := ⟨2, ![16, 1024]⟩
abbrev S1024 : Shape := ⟨1, ![1024]⟩
abbrev S512 : Shape := ⟨1, ![512]⟩
abbrev S8192x6144 : Shape := ⟨2, ![8192, 6144]⟩
abbrev S8192x12288 : Shape := ⟨2, ![8192, 12288]⟩
abbrev S8192x16 : Shape := ⟨2, ![8192, 16]⟩
abbrev S_ : Shape := ⟨0, ![]⟩
abbrev S8192x96 : Shape := ⟨2, ![8192, 96]⟩
abbrev S8192x128 : Shape := ⟨2, ![8192, 128]⟩
abbrev S1x12288 : Shape := ⟨2, ![1, 12288]⟩
abbrev S1 : Shape := ⟨1, ![1]⟩
abbrev S1x2048 : Shape := ⟨2, ![1, 2048]⟩
abbrev S1x1024 : Shape := ⟨2, ![1, 1024]⟩
abbrev S128x1024 : Shape := ⟨2, ![128, 1024]⟩
abbrev S1x512 : Shape := ⟨2, ![1, 512]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8192x2048 : Shape := ⟨2, ![8192, 2048]⟩
abbrev S512x256 : Shape := ⟨2, ![512, 256]⟩
abbrev S512x512 : Shape := ⟨2, ![512, 512]⟩
abbrev S512x128 : Shape := ⟨2, ![512, 128]⟩
abbrev S128x256 : Shape := ⟨2, ![128, 256]⟩
abbrev S512x768 : Shape := ⟨2, ![512, 768]⟩
abbrev S256x768 : Shape := ⟨2, ![256, 768]⟩
abbrev S64x256 : Shape := ⟨2, ![64, 256]⟩
abbrev S256x512 : Shape := ⟨2, ![256, 512]⟩
abbrev S64x512 : Shape := ⟨2, ![64, 512]⟩
abbrev S64 : Shape := ⟨1, ![64]⟩
abbrev S64x1 : Shape := ⟨2, ![64, 1]⟩

abbrev nBuf : Space → Nat
  | .hbm => 84
  | .vmem => 19
  | .smem => 0
  | _ => 0

abbrev bufTy : (tb : Table) → Fin (tcTables nBuf tb) → BufTy
  | .hbm, ⟨0, _⟩ => ⟨S8192x12320, .f32⟩
  | .hbm, ⟨1, _⟩ => ⟨S16x1024, .f32⟩
  | .hbm, ⟨2, _⟩ => ⟨S1024, .f32⟩
  | .hbm, ⟨3, _⟩ => ⟨S512, .f32⟩
  | .hbm, ⟨4, _⟩ => ⟨S8192x6144, .f32⟩
  | .hbm, ⟨5, _⟩ => ⟨S8192x6144, .f32⟩
  | .hbm, ⟨6, _⟩ => ⟨S8192x12288, .f32⟩
  | .hbm, ⟨7, _⟩ => ⟨S8192x16, .f32⟩
  | .hbm, ⟨8, _⟩ => ⟨S8192x16, .f32⟩
  | .hbm, ⟨9, _⟩ => ⟨S_, .f32⟩
  | .hbm, ⟨10, _⟩ => ⟨S8192x96, .f32⟩
  | .hbm, ⟨11, _⟩ => ⟨S8192x128, .f32⟩
  | .hbm, ⟨12, _⟩ => ⟨S_, .f32⟩
  | .hbm, ⟨13, _⟩ => ⟨S1x12288, .f32⟩
  | .hbm, ⟨14, _⟩ => ⟨S_, .i32⟩
  | .hbm, ⟨15, _⟩ => ⟨S1, .i32⟩
  | .hbm, ⟨16, _⟩ => ⟨S_, .f32⟩
  | .hbm, ⟨17, _⟩ => ⟨S1x2048, .f32⟩
  | .hbm, ⟨18, _⟩ => ⟨S1x12288, .f32⟩
  | .hbm, ⟨19, _⟩ => ⟨S_, .i32⟩
  | .hbm, ⟨20, _⟩ => ⟨S1, .i32⟩
  | .hbm, ⟨21, _⟩ => ⟨S_, .f32⟩
  | .hbm, ⟨22, _⟩ => ⟨S1x1024, .f32⟩
  | .hbm, ⟨23, _⟩ => ⟨S1x12288, .f32⟩
  | .hbm, ⟨24, _⟩ => ⟨S8192x12288, .f32⟩
  | .hbm, ⟨25, _⟩ => ⟨S8192x12288, .f32⟩
  | .hbm, ⟨26, _⟩ => ⟨S8192x12288, .bf16⟩
  | .hbm, ⟨27, _⟩ => ⟨S_, .f32⟩
  | .hbm, ⟨28, _⟩ => ⟨S128x1024, .f32⟩
  | .hbm, ⟨29, _⟩ => ⟨S_, .i32⟩
  | .hbm, ⟨30, _⟩ => ⟨S1, .i32⟩
  | .hbm, ⟨31, _⟩ => ⟨S128x1024, .f32⟩
  | .hbm, ⟨32, _⟩ => ⟨S128x1024, .bf16⟩
  | .hbm, ⟨33, _⟩ => ⟨S1x1024, .f32⟩
  | .hbm, ⟨34, _⟩ => ⟨S1x512, .f32⟩
  | .hbm, ⟨35, _⟩ => ⟨S256, .i32⟩
  | .hbm, ⟨36, _⟩ => ⟨S256x1, .i32⟩
  | .hbm, ⟨37, _⟩ => ⟨S256, .i32⟩
  | .hbm, ⟨38, _⟩ => ⟨S1x256, .i32⟩
  | .hbm, ⟨39, _⟩ => ⟨S_, .i32⟩
  | .hbm, ⟨40, _⟩ => ⟨S_, .i32⟩
  | .hbm, ⟨41, _⟩ => ⟨S256x1, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S256x1, .i32⟩
  | .hbm, ⟨46, _⟩ => ⟨S256x1, .i1⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S256x1, .i1⟩
  | .hbm, ⟨53, _⟩ => ⟨S_, .i32⟩
  | .hbm, ⟨54, _⟩ => ⟨S256x1, .i32⟩
  | .hbm, ⟨55, _⟩ => ⟨S256x1, .i32⟩
  | .hbm, ⟨56, _⟩ => ⟨S256x1, .i32⟩
  | .hbm, ⟨57, _⟩ => ⟨S_, .i32⟩
  | .hbm, ⟨58, _⟩ => ⟨S_, .i32⟩
  | .hbm, ⟨59, _⟩ => ⟨S1x256, .i32⟩
  | .hbm, ⟨60, _⟩ => ⟨S1x256, .i32⟩
  | .hbm, ⟨61, _⟩ => ⟨S1x256, .i32⟩
  | .hbm, ⟨62, _⟩ => ⟨S_, .i32⟩
  | .hbm, ⟨63, _⟩ => ⟨S1x256, .i32⟩
  | .hbm, ⟨64, _⟩ => ⟨S1x256, .i1⟩
  | .hbm, ⟨65, _⟩ => ⟨S1x256, .i32⟩
  | .hbm, ⟨66, _⟩ => ⟨S1x256, .i32⟩
  | .hbm, ⟨67, _⟩ => ⟨S_, .i32⟩
  | .hbm, ⟨68, _⟩ => ⟨S1x256, .i32⟩
  | .hbm, ⟨69, _⟩ => ⟨S1x256, .i1⟩
  | .hbm, ⟨70, _⟩ => ⟨S1x256, .i1⟩
  | .hbm, ⟨71, _⟩ => ⟨S_, .i32⟩
  | .hbm, ⟨72, _⟩ => ⟨S1x256, .i32⟩
  | .hbm, ⟨73, _⟩ => ⟨S1x256, .i32⟩
  | .hbm, ⟨74, _⟩ => ⟨S1x256, .i32⟩
  | .hbm, ⟨75, _⟩ => ⟨S256x256, .i32⟩
  | .hbm, ⟨76, _⟩ => ⟨S256x256, .i32⟩
  | .hbm, ⟨77, _⟩ => ⟨S256x256, .i1⟩
  | .hbm, ⟨78, _⟩ => ⟨S256x256, .i32⟩
  | .hbm, ⟨79, _⟩ => ⟨S256x256, .i32⟩
  | .hbm, ⟨80, _⟩ => ⟨S256x256, .i1⟩
  | .hbm, ⟨81, _⟩ => ⟨S256x256, .i1⟩
  | .hbm, ⟨82, _⟩ => ⟨S256x256, .f32⟩
  | .hbm, ⟨83, _⟩ => ⟨S8192x2048, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .f32⟩
  | .local _ .vmem, ⟨9, _⟩ => ⟨S512x128, .f32⟩
  | .local _ .vmem, ⟨10, _⟩ => ⟨S128x256, .bf16⟩
  | .local _ .vmem, ⟨11, _⟩ => ⟨S128x256, .bf16⟩
  | .local _ .vmem, ⟨12, _⟩ => ⟨S1x256, .f32⟩
  | .local _ .vmem, ⟨13, _⟩ => ⟨S1x256, .f32⟩
  | .local _ .vmem, ⟨14, _⟩ => ⟨S1x512, .f32⟩
  | .local _ .vmem, ⟨15, _⟩ => ⟨S256x256, .f32⟩
  | .local _ .vmem, ⟨16, _⟩ => ⟨S512x512, .bf16⟩
  | .local _ .vmem, ⟨17, _⟩ => ⟨S512x512, .bf16⟩
  | .local _ .vmem, ⟨18, _⟩ => ⟨S512x256, .f32⟩
  | _, _ => ⟨S8192x12320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_c_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_c_6 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_call0_v7 : Ref sig .tc := ⟨.hbm, 47, rfl⟩
abbrev main_call0_v8 : Ref sig .tc := ⟨.hbm, 48, rfl⟩
abbrev main_call0_c : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_c_0 : Ref sig .tc := ⟨.hbm, 53, rfl⟩
abbrev main_call0_v12 : Ref sig .tc := ⟨.hbm, 54, rfl⟩
abbrev main_call0_v13 : Ref sig .tc := ⟨.hbm, 55, rfl⟩
abbrev main_v27 : Ref sig .tc := ⟨.hbm, 56, rfl⟩
abbrev main_c_7 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_call1_v3 : Ref sig .tc := ⟨.hbm, 61, rfl⟩
abbrev main_call1_v4 : Ref sig .tc := ⟨.hbm, 62, rfl⟩
abbrev main_call1_v5 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_c : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_0 : Ref sig .tc := ⟨.hbm, 71, rfl⟩
abbrev main_call1_v12 : Ref sig .tc := ⟨.hbm, 72, rfl⟩
abbrev main_call1_v13 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_v37 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== GlaRefIdeal.lean ====
abbrev S8192x12320 : Shape := ⟨2, ![8192, 12320]⟩
abbrev S16x1024 : Shape := ⟨2, ![16, 1024]⟩
abbrev S1024 : Shape := ⟨1, ![1024]⟩
abbrev S512 : Shape := ⟨1, ![512]⟩
abbrev S8192x1024 : Shape := ⟨2, ![8192, 1024]⟩
abbrev S8192x2048 : Shape := ⟨2, ![8192, 2048]⟩
abbrev S8192x16 : Shape := ⟨2, ![8192, 16]⟩
abbrev S1x1024 : Shape := ⟨2, ![1, 1024]⟩
abbrev S_ : Shape := ⟨0, ![]⟩
abbrev S128x64x4x256 : Shape := ⟨4, ![128, 64, 4, 256]⟩
abbrev S4x128x64x256 : Shape := ⟨4, ![4, 128, 64, 256]⟩
abbrev S128x64x4x512 : Shape := ⟨4, ![128, 64, 4, 512]⟩
abbrev S4x128x64x512 : Shape := ⟨4, ![4, 128, 64, 512]⟩
abbrev S4x128x1x256 : Shape := ⟨4, ![4, 128, 1, 256]⟩
abbrev S64x64 : Shape := ⟨2, ![64, 64]⟩
abbrev S4x128x64x64 : Shape := ⟨4, ![4, 128, 64, 64]⟩
abbrev S128x4x64x256 : Shape := ⟨4, ![128, 4, 64, 256]⟩
abbrev S128x4x64x512 : Shape := ⟨4, ![128, 4, 64, 512]⟩
abbrev S4x128x256 : Shape := ⟨3, ![4, 128, 256]⟩
abbrev S128x4x256 : Shape := ⟨3, ![128, 4, 256]⟩
abbrev S4x256x512 : Shape := ⟨3, ![4, 256, 512]⟩
abbrev S1x4x64x256 : Shape := ⟨4, ![1, 4, 64, 256]⟩
abbrev S4x64x256 : Shape := ⟨3, ![4, 64, 256]⟩
abbrev S1x4x64x512 : Shape := ⟨4, ![1, 4, 64, 512]⟩
abbrev S4x64x512 : Shape := ⟨3, ![4, 64, 512]⟩
abbrev S1x4x256 : Shape := ⟨3, ![1, 4, 256]⟩
abbrev S4x256 : Shape := ⟨2, ![4, 256]⟩
abbrev S4x256x1 : Shape := ⟨3, ![4, 256, 1]⟩
abbrev S8192x4x512 : Shape := ⟨3, ![8192, 4, 512]⟩
abbrev S8192x4 : Shape := ⟨2, ![8192, 4]⟩
abbrev S8192x4x1 : Shape := ⟨3, ![8192, 4, 1]⟩
abbrev S1x1x512 : Shape := ⟨3, ![1, 1, 512]⟩

abbrev nBuf : Space → Nat
  | .hbm => 165
  | .vmem => 0
  | .smem => 0
  | _ => 0

abbrev hbmTy0_0 (i : Nat) : BufTy := match i % 128 with
  | 0 => ⟨S8192x12320, .f32⟩
  | 1 => ⟨S16x1024, .f32⟩
  | 2 => ⟨S1024, .f32⟩
  | 3 => ⟨S512, .f32⟩
  | 4 => ⟨S8192x1024, .f32⟩
  | 5 => ⟨S8192x1024, .f32⟩
  | 6 => ⟨S8192x2048, .f32⟩
  | 7 => ⟨S8192x16, .f32⟩
  | 8 => ⟨S8192x1024, .f32⟩
  | 9 => ⟨S1x1024, .f32⟩
  | 10 => ⟨S8192x1024, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S8192x1024, .i1⟩
  | 19 => ⟨S8192x1024, .f32⟩
  | 20 => ⟨S8192x1024, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S128x64x4x256, .f32⟩
  | 32 => ⟨S4x128x64x256, .f32⟩
  | 33 => ⟨S_, .f32⟩
  | 34 => ⟨S4x128x64x256, .f32⟩
  | 35 => ⟨S4x128x64x256, .f32⟩
  | 36 => ⟨S128x64x4x256, .f32⟩
  | 37 => ⟨S4x128x64x256, .f32⟩
  | 38 => ⟨S128x64x4x512, .f32⟩
  | 39 => ⟨S4x128x64x512, .f32⟩
  | 40 => ⟨S128x64x4x256, .f32⟩
  | 41 => ⟨S4x128x64x256, .f32⟩
  | 42 => ⟨S_, .f32⟩
  | 43 => ⟨S_, .f32⟩
  | 44 => ⟨S4x128x64x256, .f32⟩
  | 45 => ⟨S4x128x1x256, .f32⟩
  | 46 => ⟨S4x128x64x256, .f32⟩
  | 47 => ⟨S4x128x64x256, .f32⟩
  | 48 => ⟨S4x128x64x256, .f32⟩
  | 49 => ⟨S4x128x64x256, .f32⟩
  | 50 => ⟨S4x128x64x256, .f32⟩
  | 51 => ⟨S4x128x64x256, .f32⟩
  | 52 => ⟨S4x128x64x256, .f32⟩
  | 53 => ⟨S4x128x64x256, .f32⟩
  | 54 => ⟨S4x128x64x256, .f32⟩
  | 55 => ⟨S_, .i1⟩
  | 56 => ⟨S64x64, .i1⟩
  | 57 => ⟨S64x64, .i32⟩
  | 58 => ⟨S_, .i32⟩
  | 59 => ⟨S64x64, .i32⟩
  | 60 => ⟨S64x64, .i32⟩
  | 61 => ⟨S64x64, .i32⟩
  | 62 => ⟨S64x64, .i1⟩
  | 63 => ⟨S_, .i1⟩
  | 64 => ⟨S64x64, .i1⟩
  | 65 => ⟨S64x64, .i1⟩
  | 66 => ⟨S4x128x64x64, .f32⟩
  | 67 => ⟨S_, .f32⟩
  | 68 => ⟨S_, .f32⟩
  | 69 => ⟨S4x128x64x64, .i1⟩
  | 70 => ⟨S4x128x64x64, .f32⟩
  | 71 => ⟨S4x128x64x64, .f32⟩
  | 72 => ⟨S4x128x64x512, .f32⟩
  | 73 => ⟨S128x4x64x256, .f32⟩
  | 74 => ⟨S128x4x64x256, .f32⟩
  | 75 => ⟨S128x4x64x512, .f32⟩
  | 76 => ⟨S4x128x256, .f32⟩
  | 77 => ⟨S128x4x256, .f32⟩
  | 78 => ⟨S128x4x64x512, .f32⟩
  | 79 => ⟨S_, .f32⟩
  | 80 => ⟨S4x256x512, .f32⟩
  | 81 => ⟨S_, .f32⟩
  | 82 => ⟨S128x4x64x512, .f32⟩
  | 83 => ⟨S_, .i32⟩
  | 84 => ⟨S128x4x64x256, .f32⟩
  | 85 => ⟨S128x4x64x256, .f32⟩
  | 86 => ⟨S128x4x64x512, .f32⟩
  | 87 => ⟨S128x4x256, .f32⟩
  | 88 => ⟨S128x4x64x512, .f32⟩
  | 89 => ⟨S_, .i32⟩
  | 90 => ⟨S4x256x512, .f32⟩
  | 91 => ⟨S128x4x64x512, .f32⟩
  | 92 => ⟨S_, .i32⟩
  | 93 => ⟨S_, .i1⟩
  | 94 => ⟨S_, .i32⟩
  | 95 => ⟨S_, .i32⟩
  | 96 => ⟨S_, .i32⟩
  | 97 => ⟨S1x4x64x256, .f32⟩
  | 98 => ⟨S4x64x256, .f32⟩
  | 99 => ⟨S_, .i32⟩
  | 100 => ⟨S_, .i32⟩
  | 101 => ⟨S_, .i32⟩
  | 102 => ⟨S1x4x64x256, .f32⟩
  | 103 => ⟨S4x64x256, .f32⟩
  | 104 => ⟨S_, .i32⟩
  | 105 => ⟨S_, .i32⟩
  | 106 => ⟨S_, .i32⟩
  | 107 => ⟨S1x4x64x512, .f32⟩
  | 108 => ⟨S4x64x512, .f32⟩
  | 109 => ⟨S_, .i32⟩
  | 110 => ⟨S_, .i32⟩
  | 111 => ⟨S1x4x256, .f32⟩
  | 112 => ⟨S4x256, .f32⟩
  | 113 => ⟨S_, .i32⟩
  | 114 => ⟨S_, .i32⟩
  | 115 => ⟨S_, .i32⟩
  | 116 => ⟨S1x4x64x512, .f32⟩
  | 117 => ⟨S4x64x512, .f32⟩
  | 118 => ⟨S4x64x512, .f32⟩
  | 119 => ⟨S4x64x512, .f32⟩
  | 120 => ⟨S4x256, .f32⟩
  | 121 => ⟨S4x256x1, .f32⟩
  | 122 => ⟨S4x256x512, .f32⟩
  | 123 => ⟨S4x256x512, .f32⟩
  | 124 => ⟨S4x256x512, .f32⟩
  | 125 => ⟨S4x256x512, .f32⟩
  | 126 => ⟨S1x4x64x512, .f32⟩
  | 127 => ⟨S_, .i32⟩
  | _ => ⟨S8192x12320, .f32⟩

abbrev hbmTy0_1 (i : Nat) : BufTy := match i % 128 with
  | 0 => ⟨S_, .i32⟩
  | 1 => ⟨S_, .i32⟩
  | 2 => ⟨S128x4x64x512, .f32⟩
  | 3 => ⟨S_, .i32⟩
  | 4 => ⟨S_, .i32⟩
  | 5 => ⟨S128x64x4x512, .f32⟩
  | 6 => ⟨S8192x4x512, .f32⟩
  | 7 => ⟨S8192x2048, .f32⟩
  | 8 => ⟨S8192x4x512, .f32⟩
  | 9 => ⟨S_, .f32⟩
  | 10 => ⟨S8192x4, .f32⟩
  | 11 => ⟨S8192x4x1, .f32⟩
  | 12 => ⟨S_, .f32⟩
  | 13 => ⟨S8192x4x1, .f32⟩
  | 14 => ⟨S8192x4x1, .f32⟩
  | 15 => ⟨S_, .f32⟩
  | 16 => ⟨S8192x4x1, .f32⟩
  | 17 => ⟨S8192x4x1, .f32⟩
  | 18 => ⟨S8192x4x1, .f32⟩
  | 19 => ⟨S8192x4x512, .f32⟩
  | 20 => ⟨S8192x4x512, .f32⟩
  | 21 => ⟨S1x1x512, .f32⟩
  | 22 => ⟨S8192x4x512, .f32⟩
  | 23 => ⟨S8192x4x512, .f32⟩
  | 24 => ⟨S8192x2048, .f32⟩
  | 25 => ⟨S8192x2048, .f32⟩
  | 26 => ⟨S_, .f32⟩
  | 27 => ⟨S8192x2048, .f32⟩
  | 28 => ⟨S8192x2048, .f32⟩
  | 29 => ⟨S_, .f32⟩
  | 30 => ⟨S8192x2048, .f32⟩
  | 31 => ⟨S8192x2048, .f32⟩
  | 32 => ⟨S8192x2048, .f32⟩
  | 33 => ⟨S8192x4x512, .f32⟩
  | 34 => ⟨S8192x4x512, .f32⟩
  | 35 => ⟨S8192x2048, .f32⟩
  | 36 => ⟨S8192x2048, .bf16⟩
  | _ => ⟨S8192x12320, .f32⟩

abbrev hbmTy (i : Nat) : BufTy := match i / 128 with
  | 0 => hbmTy0_0 i
  | 1 => hbmTy0_1 i
  | _ => ⟨S8192x12320, .f32⟩

abbrev bufTy : (tb : Table) → Fin (tcTables nBuf tb) → BufTy
  | .hbm, ⟨i, _⟩ => hbmTy i
  | _, _ => ⟨S8192x12320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_call1_call0_cst : Ref sig .tc := ⟨.hbm, 42, rfl⟩
abbrev main_call1_call0_v0 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_call2_v0 : Ref sig .tc := ⟨.hbm, 57, rfl⟩
abbrev main_call2_c : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_c_0 : Ref sig .tc := ⟨.hbm, 63, rfl⟩
abbrev main_call2_v5 : Ref sig .tc := ⟨.hbm, 64, rfl⟩
abbrev main_v33 : Ref sig .tc := ⟨.hbm, 65, rfl⟩
abbrev main_v34 : Ref sig .tc := ⟨.hbm, 66, rfl⟩
abbrev main_cst_1 : Ref sig .tc := ⟨.hbm, 67, rfl⟩
abbrev main_call3_v0 : Ref sig .tc := ⟨.hbm, 68, rfl⟩
abbrev main_call3_v1 : Ref sig .tc := ⟨.hbm, 69, rfl⟩
abbrev main_call3_v2 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_2 : Ref sig .tc := ⟨.hbm, 79, rfl⟩
abbrev main_v43 : Ref sig .tc := ⟨.hbm, 80, rfl⟩
abbrev main_cst_3 : Ref sig .tc := ⟨.hbm, 81, rfl⟩
abbrev main_v44 : Ref sig .tc := ⟨.hbm, 82, rfl⟩
abbrev main_c_4 : Ref sig .tc := ⟨.hbm, 83, rfl⟩
abbrev main_v45_0 : Ref sig .tc := ⟨.hbm, 84, rfl⟩
abbrev main_v45_1 : Ref sig .tc := ⟨.hbm, 85, rfl⟩
abbrev main_v45_2 : Ref sig .tc := ⟨.hbm, 86, rfl⟩
abbrev main_v45_3 : Ref sig .tc := ⟨.hbm, 87, rfl⟩
abbrev main_v45_4 : Ref sig .tc := ⟨.hbm, 88, rfl⟩
abbrev main_v45_5 : Ref sig .tc := ⟨.hbm, 89, rfl⟩
abbrev main_v45_6 : Ref sig .tc := ⟨.hbm, 90, rfl⟩
abbrev main_v45_7 : Ref sig .tc := ⟨.hbm, 91, rfl⟩
abbrev main_while0c_c_15 : Ref sig .tc := ⟨.hbm, 92, rfl⟩
abbrev main_while0c_v67 : Ref sig .tc := ⟨.hbm, 93, rfl⟩
abbrev main_while0b_call4_c : Ref sig .tc := ⟨.hbm, 94, rfl⟩
abbrev main_while0b_call4_c_0 : Ref sig .tc := ⟨.hbm, 95, rfl⟩
abbrev main_while0b_call4_c_1 : Ref sig .tc := ⟨.hbm, 96, rfl⟩
abbrev main_while0b_call4_v0 : Ref sig .tc := ⟨.hbm, 97, rfl⟩
abbrev main_while0b_v67 : Ref sig .tc := ⟨.hbm, 98, rfl⟩
abbrev main_while0b_call5_c : Ref sig .tc := ⟨.hbm, 99, rfl⟩
abbrev main_while0b_call5_c_0 : Ref sig .tc := ⟨.hbm, 100, rfl⟩
abbrev main_while0b_call5_c_1 : Ref sig .tc := ⟨.hbm, 101, rfl⟩
abbrev main_while0b_call5_v0 : Ref sig .tc := ⟨.hbm, 102, rfl⟩
abbrev main_while0b_v68 : Ref sig .tc := ⟨.hbm, 103, rfl⟩
abbrev main_while0b_call6_c : Ref sig .tc := ⟨.hbm, 104, rfl⟩
abbrev main_while0b_call6_c_0 : Ref sig .tc := ⟨.hbm, 105, rfl⟩
abbrev main_while0b_call6_c_1 : Ref sig .tc := ⟨.hbm, 106, rfl⟩
abbrev main_while0b_call6_v0 : Ref sig .tc := ⟨.hbm, 107, rfl⟩
abbrev main_while0b_v69 : Ref sig .tc := ⟨.hbm, 108, rfl⟩
abbrev main_while0b_call7_c : Ref sig .tc := ⟨.hbm, 109, rfl⟩
abbrev main_while0b_call7_c_0 : Ref sig .tc := ⟨.hbm, 110, rfl⟩
abbrev main_while0b_call7_v0 : Ref sig .tc := ⟨.hbm, 111, rfl⟩
abbrev main_while0b_v70 : Ref sig .tc := ⟨.hbm, 112, rfl⟩
abbrev main_while0b_call8_c : Ref sig .tc := ⟨.hbm, 113, rfl⟩
abbrev main_while0b_call8_c_0 : Ref sig .tc := ⟨.hbm, 114, rfl⟩
abbrev main_while0b_call8_c_1 : Ref sig .tc := ⟨.hbm, 115, rfl⟩
abbrev main_while0b_call8_v0 : Ref sig .tc := ⟨.hbm, 116, rfl⟩
abbrev main_while0b_v71 : Ref sig .tc := ⟨.hbm, 117, rfl⟩
abbrev main_while0b_v72 : Ref sig .tc := ⟨.hbm, 118, rfl⟩
abbrev main_while0b_v73 : Ref sig .tc := ⟨.hbm, 119, rfl⟩
abbrev main_while0b_v74 : Ref sig .tc := ⟨.hbm, 120, rfl⟩
abbrev main_while0b_v75 : Ref sig .tc := ⟨.hbm, 121, rfl⟩
abbrev main_while0b_v76 : Ref sig .tc := ⟨.hbm, 122, rfl⟩
abbrev main_while0b_v77 : Ref sig .tc := ⟨.hbm, 123, rfl⟩
abbrev main_while0b_v78 : Ref sig .tc := ⟨.hbm, 124, rfl⟩
abbrev main_while0b_v79 : Ref sig .tc := ⟨.hbm, 125, rfl⟩
abbrev main_while0b_call9_v0 : Ref sig .tc := ⟨.hbm, 126, rfl⟩
abbrev main_while0b_call9_c : Ref sig .tc := ⟨.hbm, 127, rfl⟩
abbrev main_while0b_call9_c_0 : Ref sig .tc := ⟨.hbm, 128, rfl⟩
abbrev main_while0b_call9_c_1 : Ref sig .tc := ⟨.hbm, 129, rfl⟩
abbrev main_while0b_v80 : Ref sig .tc := ⟨.hbm, 130, rfl⟩
abbrev main_while0b_c_15 : Ref sig .tc := ⟨.hbm, 131, rfl⟩
abbrev main_while0b_v81 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_cst_5 : Ref sig .tc := ⟨.hbm, 137, rfl⟩
abbrev main_v50 : Ref sig .tc := ⟨.hbm, 138, rfl⟩
abbrev main_v51 : Ref sig .tc := ⟨.hbm, 139, rfl⟩
abbrev main_cst_6 : Ref sig .tc := ⟨.hbm, 140, rfl⟩
abbrev main_v52 : Ref sig .tc := ⟨.hbm, 141, rfl⟩
abbrev main_v53 : Ref sig .tc := ⟨.hbm, 142, rfl⟩
abbrev main_cst_7 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_v59 : Ref sig .tc := ⟨.hbm, 149, rfl⟩
abbrev main_v60 : Ref sig .tc := ⟨.hbm, 150, rfl⟩
abbrev main_v61 : Ref sig .tc := ⟨.hbm, 151, rfl⟩
abbrev main_call10_v0 : Ref sig .tc := ⟨.hbm, 152, rfl⟩
abbrev main_call10_v1 : Ref sig .tc := ⟨.hbm, 153, rfl⟩
abbrev main_call10_cst : Ref sig .tc := ⟨.hbm, 154, rfl⟩
abbrev main_call10_v2 : Ref sig .tc := ⟨.hbm, 155, rfl⟩
abbrev main_call10_v3 : Ref sig .tc := ⟨.hbm, 156, rfl⟩
abbrev main_call10_cst_0 : Ref sig .tc := ⟨.hbm, 157, rfl⟩
abbrev main_call10_v4 : Ref sig .tc := ⟨.hbm, 158, rfl⟩
abbrev main_call10_v5 : Ref sig .tc := ⟨.hbm, 159, rfl⟩
abbrev main_v62 : Ref sig .tc := ⟨.hbm, 160, rfl⟩
abbrev main_v63 : Ref sig .tc := ⟨.hbm, 161, rfl⟩
abbrev main_v64 : Ref sig .tc := ⟨.hbm, 162, rfl⟩
abbrev main_v65 : Ref sig .tc := ⟨.hbm, 163, rfl⟩
abbrev main_v66 : Ref sig .tc := ⟨.hbm, 164, rfl⟩

abbrev nD : Nat := 1
abbrev τ : Topo := Topo.v7x

variable {F : FTy → Type} [FloatOps F]

abbrev main_while0_count : Scf.Loop 32 := ⟨0#32, 128#32, 1#32⟩
-- ==== First.lean ====
abbrev S8192x4096 : Shape := ⟨2, ![8192, 4096]⟩
abbrev S4096 : Shape := ⟨1, ![4096]⟩
abbrev S4096x11008 : Shape := ⟨2, ![4096, 11008]⟩
abbrev S11008x4096 : Shape := ⟨2, ![11008, 4096]⟩
abbrev S1x4096 : Shape := ⟨2, ![1, 4096]⟩
abbrev S512x4096 : Shape := ⟨2, ![512, 4096]⟩
abbrev S256x4096 : Shape := ⟨2, ![256, 4096]⟩
abbrev S2048x256 : Shape := ⟨2, ![2048, 256]⟩
abbrev S512x256 : Shape := ⟨2, ![512, 256]⟩
abbrev S3x2048x256 : Shape := ⟨3, ![3, 2048, 256]⟩
abbrev S2x3 : Shape := ⟨2, ![2, 3]⟩
abbrev S1x1 : Shape := ⟨2, ![1, 1]⟩
abbrev S_ : Shape := ⟨0, ![]⟩
abbrev S1x2048x256 : Shape := ⟨3, ![1, 2048, 256]⟩
abbrev S32x4096 : Shape := ⟨2, ![32, 4096]⟩
abbrev S32 : Shape := ⟨1, ![32]⟩
abbrev S32x1 : Shape := ⟨2, ![32, 1]⟩
abbrev S512x2048 : Shape := ⟨2, ![512, 2048]⟩

abbrev nBuf : Space → Nat
  | .hbm => 12
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096, .f32⟩
  | .hbm, ⟨6, _⟩ => ⟨S1x4096, .f32⟩
  | .hbm, ⟨7, _⟩ => ⟨S1x4096, .f32⟩
  | .hbm, ⟨8, _⟩ => ⟨S512x4096, .f32⟩
  | .hbm, ⟨9, _⟩ => ⟨S4096x11008, .bf16⟩
  | .hbm, ⟨10, _⟩ => ⟨S4096x11008, .bf16⟩
  | .hbm, ⟨11, _⟩ => ⟨S11008x4096, .bf16⟩
  | .local _ .vmem, ⟨0, _⟩ => ⟨S512x4096, .f32⟩
  | .local _ .vmem, ⟨1, _⟩ => ⟨S1x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S512x4096, .f32⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S256x4096, .bf16⟩
  | .local _ .vmem, ⟨11, _⟩ => ⟨S256x4096, .bf16⟩
  | .local _ .vmem, ⟨12, _⟩ => ⟨S512x4096, .bf16⟩
  | .local _ .vmem, ⟨13, _⟩ => ⟨S512x256, .f32⟩
  | .local _ .vmem, ⟨14, _⟩ => ⟨S512x256, .f32⟩
  | .local _ .vmem, ⟨15, _⟩ => ⟨S3x2048x256, .f32⟩
  | .local _ .vmem, ⟨16, _⟩ => ⟨S3x2048x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![43, 2], ![false, false]⟩

def k0_cond1 (i : grid0.Coords) : BitVec 1 :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_mult1 : BitVec 32 :=
  let c0_i32_29 : BitVec 32 := 0#32
  c0_i32_29
def k0_mult2 : BitVec 32 :=
  let c0_i32_30 : BitVec 32 := 0#32
  c0_i32_30
def k0_mult3 : BitVec 32 :=
  let c2048_i32_31 : BitVec 32 := 2048#32
  c2048_i32_31
def k0_mult4 : BitVec 32 :=
  let c0_i32_32 : BitVec 32 := 0#32
  c0_i32_32
@[reducible] def k0_t1_loop : Scf.Loop 32 :=
  let c0_i32_53 : BitVec 32 := 0#32
  let c4_i32 : BitVec 32 := 4#32
  let v84 : BitVec 32 := Scalar.addi c0_i32_53 c4_i32
  let c1_i32_54 : BitVec 32 := 1#32
  ⟨c0_i32_53, v84, c1_i32_54⟩
def k0_mult5 (k0_t1 : Fin k0_t1_loop.trips) : BitVec 32 :=
  let c0_i32_53 : BitVec 32 := 0#32
  let c1_i32_54 : BitVec 32 := 1#32
  let arg18 : BitVec 32 := Scf.iv c0_i32_53 c1_i32_54 k0_t1
  let c128_i32 : BitVec 32 := 128#32
  let v85 : BitVec 32 := Scalar.muli arg18 c128_i32
  let c0_i32_56 : BitVec 32 := 0#32
  let v86 : BitVec 32 := Scalar.addi v85 c0_i32_56
  v86
def k0_mult6 (k0_t1 : Fin k0_t1_loop.trips) : BitVec 32 :=
  let c0_i32_53 : BitVec 32 := 0#32
  let c1_i32_54 : BitVec 32 := 1#32
  let arg18 : BitVec 32 := Scf.iv c0_i32_53 c1_i32_54 k0_t1
  let c128_i32_57 : BitVec 32 := 128#32
  let v88 : BitVec 32 := Scalar.muli arg18 c128_i32_57
  let c32_i32 : BitVec 32 := 32#32
  let v89 : BitVec 32 := Scalar.addi v88 c32_i32
  v89
def k0_mult7 (k0_t1 : Fin k0_t1_loop.trips) : BitVec 32 :=
  let c0_i32_53 : BitVec 32 := 0#32
  let c1_i32_54 : BitVec 32 := 1#32
  let arg18 : BitVec 32 := Scf.iv c0_i32_53 c1_i32_54 k0_t1
  let c128_i32_58 : BitVec 32 := 128#32
  let v91 : BitVec 32 := Scalar.muli arg18 c128_i32_58
  let c64_i32 : BitVec 32 := 64#32
  let v92 : BitVec 32 := Scalar.addi v91 c64_i32
  v92
def k0_mult8 (k0_t1 : Fin k0_t1_loop.trips) : BitVec 32 :=
  let c0_i32_53 : BitVec 32 := 0#32
  let c1_i32_54 : BitVec 32 := 1#32
  let arg18 : BitVec 32 := Scf.iv c0_i32_53 c1_i32_54 k0_t1
  let c128_i32_59 : BitVec 32 := 128#32
  let v94 : BitVec 32 := Scalar.muli arg18 c128_i32_59
  let c96_i32 : BitVec 32 := 96#32
  let v95 : BitVec 32 := Scalar.addi v94 c96_i32
  v95
def k0_off1 (k0_t1 : Fin k0_t1_loop.trips) (c0_i32_56 : BitVec 32) : Fin 2 → Nat :=
  let c0_i32_53 : BitVec 32 := 0#32
  let c1_i32_54 : BitVec 32 := 1#32
  let arg18 : BitVec 32 := Scf.iv c0_i32_53 c1_i32_54 k0_t1
  let c128_i32 : BitVec 32 := 128#32
  let v85 : BitVec 32 := Scalar.muli arg18 c128_i32
  let v86 : BitVec 32 := Scalar.addi v85 c0_i32_56
  let v87 : BitVec 32 := v86
  let v97 : Index := Scalar.indexCast v87
  let c0_60 : Index := 0#32
  ![v97.toNat, 0]
def k0_cond2 (i : grid0.Coords) : BitVec 1 :=
  let arg0 : BitVec 32 := BitVec.ofNat 32 (i 0).val
  let c1_i32 : BitVec 32 := 1#32
  let v5 : BitVec 32 := Scalar.addi arg0 c1_i32
  let c43_i32 : BitVec 32 := 43#32
  let v6 : BitVec 1 := Scalar.cmpi .slt v5 c43_i32
  let v7 : BitVec 32 := Scalar.extui v6
  let c0_i32_1 : BitVec 32 := 0#32
  let v8 : BitVec 1 := Scalar.cmpi .ne v7 c0_i32_1
  v8

def k0_mult9 (i : grid0.Coords) : BitVec 32 :=
  let arg1 : BitVec 32 := BitVec.ofNat 32 (i 1).val
  let c2048_i32_37 : BitVec 32 := 2048#32
  let v72 : BitVec 32 := Scalar.muli arg1 c2048_i32_37
  v72
def k0_mult10 (i : grid0.Coords) : BitVec 32 :=
  let arg0 : BitVec 32 := BitVec.ofNat 32 (i 0).val
  let c1_i32_29 : BitVec 32 := 1#32
  let v60 : BitVec 32 := Scalar.addi arg0 c1_i32_29
  let c256_i32_38 : BitVec 32 := 256#32
  let v74 : BitVec 32 := Scalar.muli v60 c256_i32_38
  v74
def k0_off2 (i : grid0.Coords) : Fin 2 → Nat :=
  let c0_i32_39 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_30 : BitVec 32 := 2#32
  let v61 : BitVec 32 := Scalar.addi v1 c2_i32_30
  let c3_i32_31 : BitVec 32 := 3#32
  let c0_i32_32 : BitVec 32 := 0#32
  let v62 : BitVec 1 := Scalar.cmpi .eq c3_i32_31 c0_i32_32
  let c1_i32_33 : BitVec 32 := 1#32
  let v63 : BitVec 32 := Scalar.select v62 c1_i32_33 c3_i32_31
  let v64 : BitVec 32 := Scalar.remsi v61 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  ![0, v71.toNat]
def k0_off3 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_30 : BitVec 32 := 2#32
  let v61 : BitVec 32 := Scalar.addi v1 c2_i32_30
  let c3_i32_31 : BitVec 32 := 3#32
  let c0_i32_32 : BitVec 32 := 0#32
  let v62 : BitVec 1 := Scalar.cmpi .eq c3_i32_31 c0_i32_32
  let c1_i32_33 : BitVec 32 := 1#32
  let v63 : BitVec 32 := Scalar.select v62 c1_i32_33 c3_i32_31
  let v64 : BitVec 32 := Scalar.remsi v61 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  let c0_i32_40 : BitVec 32 := 0#32
  let c0_i32_41 : BitVec 32 := 0#32
  ![v71.toNat, 0, 0]
def k0_off4 (i : grid0.Coords) : Fin 2 → Nat :=
  let arg1 : BitVec 32 := BitVec.ofNat 32 (i 1).val
  let c2048_i32_37 : BitVec 32 := 2048#32
  let v72 : BitVec 32 := Scalar.muli arg1 c2048_i32_37
  let v73 : BitVec 32 := v72
  let arg0 : BitVec 32 := BitVec.ofNat 32 (i 0).val
  let c1_i32_29 : BitVec 32 := 1#32
  let v60 : BitVec 32 := Scalar.addi arg0 c1_i32_29
  let c256_i32_38 : BitVec 32 := 256#32
  let v74 : BitVec 32 := Scalar.muli v60 c256_i32_38
  let v75 : BitVec 32 := v74
  ![v73.toNat, v75.toNat]
def k0_off5 (i : grid0.Coords) : Fin 2 → Nat :=
  let c1_i32_42 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c2_i32_30 : BitVec 32 := 2#32
  let v61 : BitVec 32 := Scalar.addi v1 c2_i32_30
  let c3_i32_31 : BitVec 32 := 3#32
  let c0_i32_32 : BitVec 32 := 0#32
  let v62 : BitVec 1 := Scalar.cmpi .eq c3_i32_31 c0_i32_32
  let c1_i32_33 : BitVec 32 := 1#32
  let v63 : BitVec 32 := Scalar.select v62 c1_i32_33 c3_i32_31
  let v64 : BitVec 32 := Scalar.remsi v61 v63
  let c0_i32_35 : BitVec 32 := 0#32
  let v66 : BitVec 1 := Scalar.cmpi .slt v64 c0_i32_35
  let c0_i32_36 : BitVec 32 := 0#32
  let v67 : BitVec 1 := Scalar.cmpi .slt v63 c0_i32_36
  let v68 : BitVec 1 := Scalar.xori v66 v67
  let c0_i32_34 : BitVec 32 := 0#32
  let v65 : BitVec 1 := Scalar.cmpi .ne v64 c0_i32_34
  let v69 : BitVec 1 := Scalar.andi v68 v65
  let v70 : BitVec 32 := Scalar.addi v64 v63
  let v71 : BitVec 32 := Scalar.select v69 v70 v64
  ![1, v71.toNat]
def k0_mult11 (i : grid0.Coords) : BitVec 32 :=
  let arg1 : BitVec 32 := BitVec.ofNat 32 (i 1).val
  let c2048_i32 : BitVec 32 := 2048#32
  let v19 : BitVec 32 := Scalar.muli arg1 c2048_i32
  v19
def k0_mult12 (i : grid0.Coords) : BitVec 32 :=
  let arg0 : BitVec 32 := BitVec.ofNat 32 (i 0).val
  let c256_i32 : BitVec 32 := 256#32
  let v21 : BitVec 32 := Scalar.muli arg0 c256_i32
  v21
def k0_off6 (i : grid0.Coords) : Fin 2 → Nat :=
  let c0_i32_7 : BitVec 32 := 0#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32_3 : BitVec 32 := 1#32
  let v10 : BitVec 32 := Scalar.select v9 c1_i32_3 c3_i32
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  ![0, v18.toNat]
def k0_off7 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32_3 : BitVec 32 := 1#32
  let v10 : BitVec 32 := Scalar.select v9 c1_i32_3 c3_i32
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let c0_i32_8 : BitVec 32 := 0#32
  let c0_i32_9 : BitVec 32 := 0#32
  ![v18.toNat, 0, 0]
def k0_off8 (i : grid0.Coords) : Fin 2 → Nat :=
  let arg1 : BitVec 32 := BitVec.ofNat 32 (i 1).val
  let c2048_i32 : BitVec 32 := 2048#32
  let v19 : BitVec 32 := Scalar.muli arg1 c2048_i32
  let v20 : BitVec 32 := v19
  let arg0 : BitVec 32 := BitVec.ofNat 32 (i 0).val
  let c256_i32 : BitVec 32 := 256#32
  let v21 : BitVec 32 := Scalar.muli arg0 c256_i32
  let v22 : BitVec 32 := v21
  ![v20.toNat, v22.toNat]
def k0_off9 (i : grid0.Coords) : Fin 2 → Nat :=
  let c1_i32_10 : BitVec 32 := 1#32
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32_3 : BitVec 32 := 1#32
  let v10 : BitVec 32 := Scalar.select v9 c1_i32_3 c3_i32
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  ![1, v18.toNat]
def k0_off10 (i : grid0.Coords) : Fin 3 → Nat :=
  let arg0 : BitVec 32 := BitVec.ofNat 32 (i 0).val
  let c2_i32 : BitVec 32 := 2#32
  let v0 : BitVec 32 := Scalar.muli arg0 c2_i32
  let arg1 : BitVec 32 := BitVec.ofNat 32 (i 1).val
  let v1 : BitVec 32 := Scalar.addi v0 arg1
  let c3_i32 : BitVec 32 := 3#32
  let c0_i32_2 : BitVec 32 := 0#32
  let v9 : BitVec 1 := Scalar.cmpi .eq c3_i32 c0_i32_2
  let c1_i32_3 : BitVec 32 := 1#32
  let v10 : BitVec 32 := Scalar.select v9 c1_i32_3 c3_i32
  let v11 : BitVec 32 := Scalar.remsi v1 v10
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let c0_i32_4 : BitVec 32 := 0#32
  let v12 : BitVec 1 := Scalar.cmpi .ne v11 c0_i32_4
  let v16 : BitVec 1 := Scalar.andi v15 v12
  let v17 : BitVec 32 := Scalar.addi v11 v10
  let v18 : BitVec 32 := Scalar.select v16 v17 v11
  let v33 : Index := Scalar.indexCast v18
  let c0 : Index := 0#32
  let c0_13 : Index := 0#32
  ![v33.toNat, 0, 0]
def k0_mult13 (i : grid0.Coords) : BitVec 32 :=
  let arg1 : BitVec 32 := BitVec.ofNat 32 (i 1).val
  let c2048_i32_20 : BitVec 32 := 2048#32
  let v43 : BitVec 32 := Scalar.muli arg1 c2048_i32_20
  v43
def k0_off11 (i : grid0.Coords) : Fin 2 → Nat :=
  let c0_21 : Index := 0#32
  let arg1 : BitVec 32 := BitVec.ofNat 32 (i 1).val
  let c2048_i32_20 : BitVec 32 := 2048#32
  let v43 : BitVec 32 := Scalar.muli arg1 c2048_i32_20
  let v44 : BitVec 32 := v43
  let v45 : Index := Scalar.indexCast v44
  ![0, v45.toNat]
def k0_cond5 (i : grid0.Coords) : BitVec 1 :=
  let arg0 : BitVec 32 := BitVec.ofNat 32 (i 0).val
  let c42_i32 : BitVec 32 := 42#32
  let v55 : BitVec 1 := Scalar.cmpi .eq arg0 c42_i32
  let arg1 : BitVec 32 := BitVec.ofNat 32 (i 1).val
  let c1_i32_27 : BitVec 32 := 1#32
  let v56 : BitVec 1 := Scalar.cmpi .eq arg1 c1_i32_27
  let v57 : BitVec 1 := Scalar.andi v55 v56
  let v58 : BitVec 32 := Scalar.extui v57
  let c0_i32_28 : BitVec 32 := 0#32
  let v59 : BitVec 1 := Scalar.cmpi .ne v58 c0_i32_28
  v59

@[reducible] def k0_t2_loop : Scf.Loop 32 :=
  let c0_i32_29 : BitVec 32 := 0#32
  let c4_i32 : BitVec 32 := 4#32
  let v60 : BitVec 32 := Scalar.addi c0_i32_29 c4_i32
  let c1_i32_30 : BitVec 32 := 1#32
  ⟨c0_i32_29, v60, c1_i32_30⟩
def k0_mult14 (k0_t2 : Fin k0_t2_loop.trips) : BitVec 32 :=
  let c0_i32_29 : BitVec 32 := 0#32
  let c1_i32_30 : BitVec 32 := 1#32
  let arg18 : BitVec 32 := Scf.iv c0_i32_29 c1_i32_30 k0_t2
  let c128_i32 : BitVec 32 := 128#32
  let v61 : BitVec 32 := Scalar.muli arg18 c128_i32
  let c0_i32_32 : BitVec 32 := 0#32
  let v62 : BitVec 32 := Scalar.addi v61 c0_i32_32
  v62
def k0_mult15 (k0_t2 : Fin k0_t2_loop.trips) : BitVec 32 :=
  let c0_i32_29 : BitVec 32 := 0#32
  let c1_i32_30 : BitVec 32 := 1#32
  let arg18 : BitVec 32 := Scf.iv c0_i32_29 c1_i32_30 k0_t2
  let c128_i32_33 : BitVec 32 := 128#32
  let v64 : BitVec 32 := Scalar.muli arg18 c128_i32_33
  let c32_i32 : BitVec 32 := 32#32
  let v65 : BitVec 32 := Scalar.addi v64 c32_i32
  v65
def k0_mult16 (k0_t2 : Fin k0_t2_loop.trips) : BitVec 32 :=
  let c0_i32_29 : BitVec 32 := 0#32
  let c1_i32_30 : BitVec 32 := 1#32
  let arg18 : BitVec 32 := Scf.iv c0_i32_29 c1_i32_30 k0_t2
  let c128_i32_34 : BitVec 32 := 128#32
  let v67 : BitVec 32 := Scalar.muli arg18 c128_i32_34
  let c64_i32 : BitVec 32 := 64#32
  let v68 : BitVec 32 := Scalar.addi v67 c64_i32
  v68
def k0_mult17 (k0_t2 : Fin k0_t2_loop.trips) : BitVec 32 :=
  let c0_i32_29 : BitVec 32 := 0#32
  let c1_i32_30 : BitVec 32 := 1#32
  let arg18 : BitVec 32 := Scf.iv c0_i32_29 c1_i32_30 k0_t2
  let c128_i32_35 : BitVec 32 := 128#32
  let v70 : BitVec 32 := Scalar.muli arg18 c128_i32_35
  let c96_i32 : BitVec 32 := 96#32
  let v71 : BitVec 32 := Scalar.addi v70 c96_i32
  v71
def k0_off12 (k0_t2 : Fin k0_t2_loop.trips) (c0_i32_32 : BitVec 32) : Fin 2 → Nat :=
  let c0_i32_29 : BitVec 32 := 0#32
  let c1_i32_30 : BitVec 32 := 1#32
  let arg18 : BitVec 32 := Scf.iv c0_i32_29 c1_i32_30 k0_t2
  let c128_i32 : BitVec 32 := 128#32
  let v61 : BitVec 32 := Scalar.muli arg18 c128_i32
  let v62 : BitVec 32 := Scalar.addi v61 c0_i32_32
  let v63 : BitVec 32 := v62
  let v73 : Index := Scalar.indexCast v63
  let c0_36 : Index := 0#32
  ![v73.toNat, 0]
def k0_cond4 (i : grid0.Coords) : BitVec 1 :=
  let arg1 : BitVec 32 := BitVec.ofNat 32 (i 1).val
  let c1_i32_25 : BitVec 32 := 1#32
  let v52 : BitVec 1 := Scalar.cmpi .eq arg1 c1_i32_25
  let v53 : BitVec 32 := Scalar.extui v52
  let c0_i32_26 : BitVec 32 := 0#32
  let v54 : BitVec 1 := Scalar.cmpi .ne v53 c0_i32_26
  v54

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FirstRefIdeal.lean ====
abbrev S8192x4096 : Shape := ⟨2, ![8192, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S512x4096 : Shape := ⟨2, ![512, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S11008x4096, .f32⟩
  | .hbm, ⟨5, _⟩ => ⟨S4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x11008, .f32⟩
  | .hbm, ⟨23, _⟩ => ⟨S8192x11008, .f32⟩
  | .hbm, ⟨24, _⟩ => ⟨S8192x11008, .f32⟩
  | .hbm, ⟨25, _⟩ => ⟨S_, .f32⟩
  | .hbm, ⟨26, _⟩ => ⟨S8192x11008, .f32⟩
  | .hbm, ⟨27, _⟩ => ⟨S8192x11008, .f32⟩
  | .hbm, ⟨28, _⟩ => ⟨S_, .f32⟩
  | .hbm, ⟨29, _⟩ => ⟨S8192x11008, .f32⟩
  | .hbm, ⟨30, _⟩ => ⟨S8192x11008, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x4096, .f32⟩
  | .hbm, ⟨47, _⟩ => ⟨S8192x4096, .f32⟩
  | .hbm, ⟨48, _⟩ => ⟨S1x4096, .f32⟩
  | .hbm, ⟨49, _⟩ => ⟨S8192x4096, .f32⟩
  | .hbm, ⟨50, _⟩ => ⟨S8192x4096, .f32⟩
  | .hbm, ⟨51, _⟩ => ⟨S_, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S512x4096, .f32⟩
  | .hbm, ⟨56, _⟩ => ⟨S4096x11008, .bf16⟩
  | .hbm, ⟨57, _⟩ => ⟨S4096x11008, .bf16⟩
  | .hbm, ⟨58, _⟩ => ⟨S11008x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== Ffn.lean ====
abbrev S8192x4096 : Shape := ⟨2, ![8192, 4096]⟩
abbrev S512x4096 : Shape := ⟨2, ![512, 4096]⟩
abbrev S4096 : Shape := ⟨1, ![4096]⟩
abbrev S4096x11008 : Shape := ⟨2, ![4096, 11008]⟩
abbrev S11008x4096 : Shape := ⟨2, ![11008, 4096]⟩
abbrev S1x4096 : Shape := ⟨2, ![1, 4096]⟩
abbrev S4096x256 : Shape := ⟨2, ![4096, 256]⟩
abbrev S256x4096 : Shape := ⟨2, ![256, 4096]⟩
abbrev S128x4096 : Shape := ⟨2, ![128, 4096]⟩
abbrev S32x4096 : Shape := ⟨2, ![32, 4096]⟩
abbrev S32 : Shape := ⟨1, ![32]⟩
abbrev S32x1 : Shape := ⟨2, ![32, 1]⟩
abbrev S512x256 : Shape := ⟨2, ![512, 256]⟩

abbrev nBuf : Space → Nat
  | .hbm => 13
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S4096, .f32⟩
  | .hbm, ⟨3, _⟩ => ⟨S4096x11008, .f32⟩
  | .hbm, ⟨4, _⟩ => ⟨S4096x11008, .f32⟩
  | .hbm, ⟨5, _⟩ => ⟨S11008x4096, .f32⟩
  | .hbm, ⟨6, _⟩ => ⟨S4096, .f32⟩
  | .hbm, ⟨7, _⟩ => ⟨S1x4096, .f32⟩
  | .hbm, ⟨8, _⟩ => ⟨S4096x11008, .bf16⟩
  | .hbm, ⟨9, _⟩ => ⟨S4096x11008, .bf16⟩
  | .hbm, ⟨10, _⟩ => ⟨S11008x4096, .bf16⟩
  | .hbm, ⟨11, _⟩ => ⟨S1x4096, .f32⟩
  | .hbm, ⟨12, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S256x4096, .bf16⟩
  | .local _ .vmem, ⟨8, _⟩ => ⟨S256x4096, .bf16⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 43], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c4_i32 : BitVec 32 := 4#32
  let v1 : BitVec 1 := Scalar.cmpi .slt arg1 c4_i32
  let v2 : BitVec 1 := Scalar.andi v0 v1
  let v3 : BitVec 32 := Scalar.extui v2
  let c0_i32_0 : BitVec 32 := 0#32
  let v4 : BitVec 1 := Scalar.cmpi .ne v3 c0_i32_0
  v4

def k0_mult1 (i : grid0.Coords) : BitVec 32 :=
  let arg1 : BitVec 32 := BitVec.ofNat 32 (i 1).val
  let c128_i32 : BitVec 32 := 128#32
  let v9 : BitVec 32 := Scalar.muli arg1 c128_i32
  v9
def k0_off1 (i : grid0.Coords) : Fin 2 → Nat :=
  let arg1 : BitVec 32 := BitVec.ofNat 32 (i 1).val
  let c128_i32 : BitVec 32 := 128#32
  let v9 : BitVec 32 := Scalar.muli arg1 c128_i32
  let v10 : BitVec 32 := v9
  let v11 : Index := Scalar.indexCast v10
  let c0_4 : Index := 0#32
  ![v11.toNat, 0]
def k0_cond2 (i : grid0.Coords) : BitVec 1 :=
  let arg0 : BitVec 32 := BitVec.ofNat 32 (i 0).val
  let c0_i32_1 : BitVec 32 := 0#32
  let v5 : BitVec 1 := Scalar.cmpi .sgt arg0 c0_i32_1
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c0_i32_3 : BitVec 32 := 0#32
  let v8 : BitVec 1 := Scalar.cmpi .eq arg1 c0_i32_3
  let v9 : BitVec 32 := Scalar.extui v8
  let c0_i32_4 : BitVec 32 := 0#32
  let v10 : BitVec 1 := Scalar.cmpi .ne v9 c0_i32_4
  v10

@[reducible] def k0_t1_loop : Scf.Loop 32 :=
  let c0_i32_19 : BitVec 32 := 0#32
  let c4_i32_20 : BitVec 32 := 4#32
  let v32 : BitVec 32 := Scalar.addi c0_i32_19 c4_i32_20
  let c1_i32 : BitVec 32 := 1#32
  ⟨c0_i32_19, v32, c1_i32⟩
def k0_mult2 (k0_t1 : Fin k0_t1_loop.trips) : BitVec 32 :=
  let c0_i32_19 : BitVec 32 := 0#32
  let c1_i32 : BitVec 32 := 1#32
  let arg11 : BitVec 32 := Scf.iv c0_i32_19 c1_i32 k0_t1
  let c128_i32 : BitVec 32 := 128#32
  let v33 : BitVec 32 := Scalar.muli arg11 c128_i32
  let c0_i32_22 : BitVec 32 := 0#32
  let v34 : BitVec 32 := Scalar.addi v33 c0_i32_22
  v34
def k0_mult3 (k0_t1 : Fin k0_t1_loop.trips) : BitVec 32 :=
  let c0_i32_19 : BitVec 32 := 0#32
  let c1_i32 : BitVec 32 := 1#32
  let arg11 : BitVec 32 := Scf.iv c0_i32_19 c1_i32 k0_t1
  let c128_i32_23 : BitVec 32 := 128#32
  let v36 : BitVec 32 := Scalar.muli arg11 c128_i32_23
  let c32_i32 : BitVec 32 := 32#32
  let v37 : BitVec 32 := Scalar.addi v36 c32_i32
  v37
def k0_mult4 (k0_t1 : Fin k0_t1_loop.trips) : BitVec 32 :=
  let c0_i32_19 : BitVec 32 := 0#32
  let c1_i32 : BitVec 32 := 1#32
  let arg11 : BitVec 32 := Scf.iv c0_i32_19 c1_i32 k0_t1
  let c128_i32_24 : BitVec 32 := 128#32
  let v39 : BitVec 32 := Scalar.muli arg11 c128_i32_24
  let c64_i32 : BitVec 32 := 64#32
  let v40 : BitVec 32 := Scalar.addi v39 c64_i32
  v40
def k0_mult5 (k0_t1 : Fin k0_t1_loop.trips) : BitVec 32 :=
  let c0_i32_19 : BitVec 32 := 0#32
  let c1_i32 : BitVec 32 := 1#32
  let arg11 : BitVec 32 := Scf.iv c0_i32_19 c1_i32 k0_t1
  let c128_i32_25 : BitVec 32 := 128#32
  let v42 : BitVec 32 := Scalar.muli arg11 c128_i32_25
  let c96_i32 : BitVec 32 := 96#32
  let v43 : BitVec 32 := Scalar.addi v42 c96_i32
  v43
def k0_off2 (k0_t1 : Fin k0_t1_loop.trips) (c0_i32_22 : BitVec 32) : Fin 2 → Nat :=
  let c0_i32_19 : BitVec 32 := 0#32
  let c1_i32 : BitVec 32 := 1#32
  let arg11 : BitVec 32 := Scf.iv c0_i32_19 c1_i32 k0_t1
  let c128_i32 : BitVec 32 := 128#32
  let v33 : BitVec 32 := Scalar.muli arg11 c128_i32
  let v34 : BitVec 32 := Scalar.addi v33 c0_i32_22
  let v35 : BitVec 32 := v34
  let v45 : Index := Scalar.indexCast v35
  let c0_26 : Index := 0#32
  ![v45.toNat, 0]
def k0_cond4 (i : grid0.Coords) : BitVec 1 :=
  let arg1 : BitVec 32 := BitVec.ofNat 32 (i 1).val
  let c42_i32 : BitVec 32 := 42#32
  let v29 : BitVec 1 := Scalar.cmpi .eq arg1 c42_i32
  let v30 : BitVec 32 := Scalar.extui v29
  let c0_i32_18 : BitVec 32 := 0#32
  let v31 : BitVec 1 := Scalar.cmpi .ne v30 c0_i32_18
  v31

@[reducible] def k0_t2_loop : Scf.Loop 32 :=
  let c0_i32_19 : BitVec 32 := 0#32
  let c4_i32_20 : BitVec 32 := 4#32
  let v32 : BitVec 32 := Scalar.addi c0_i32_19 c4_i32_20
  let c1_i32 : BitVec 32 := 1#32
  ⟨c0_i32_19, v32, c1_i32⟩
def k0_mult6 (k0_t2 : Fin k0_t2_loop.trips) : BitVec 32 :=
  let c0_i32_19 : BitVec 32 := 0#32
  let c1_i32 : BitVec 32 := 1#32
  let arg11 : BitVec 32 := Scf.iv c0_i32_19 c1_i32 k0_t2
  let c128_i32 : BitVec 32 := 128#32
  let v33 : BitVec 32 := Scalar.muli arg11 c128_i32
  let c0_i32_22 : BitVec 32 := 0#32
  let v34 : BitVec 32 := Scalar.addi v33 c0_i32_22
  v34
def k0_mult7 (k0_t2 : Fin k0_t2_loop.trips) : BitVec 32 :=
  let c0_i32_19 : BitVec 32 := 0#32
  let c1_i32 : BitVec 32 := 1#32
  let arg11 : BitVec 32 := Scf.iv c0_i32_19 c1_i32 k0_t2
  let c128_i32_23 : BitVec 32 := 128#32
  let v36 : BitVec 32 := Scalar.muli arg11 c128_i32_23
  let c32_i32 : BitVec 32 := 32#32
  let v37 : BitVec 32 := Scalar.addi v36 c32_i32
  v37
def k0_mult8 (k0_t2 : Fin k0_t2_loop.trips) : BitVec 32 :=
  let c0_i32_19 : BitVec 32 := 0#32
  let c1_i32 : BitVec 32 := 1#32
  let arg11 : BitVec 32 := Scf.iv c0_i32_19 c1_i32 k0_t2
  let c128_i32_24 : BitVec 32 := 128#32
  let v39 : BitVec 32 := Scalar.muli arg11 c128_i32_24
  let c64_i32 : BitVec 32 := 64#32
  let v40 : BitVec 32 := Scalar.addi v39 c64_i32
  v40
def k0_mult9 (k0_t2 : Fin k0_t2_loop.trips) : BitVec 32 :=
  let c0_i32_19 : BitVec 32 := 0#32
  let c1_i32 : BitVec 32 := 1#32
  let arg11 : BitVec 32 := Scf.iv c0_i32_19 c1_i32 k0_t2
  let c128_i32_25 : BitVec 32 := 128#32
  let v42 : BitVec 32 := Scalar.muli arg11 c128_i32_25
  let c96_i32 : BitVec 32 := 96#32
  let v43 : BitVec 32 := Scalar.addi v42 c96_i32
  v43
def k0_off3 (k0_t2 : Fin k0_t2_loop.trips) (c0_i32_22 : BitVec 32) : Fin 2 → Nat :=
  let c0_i32_19 : BitVec 32 := 0#32
  let c1_i32 : BitVec 32 := 1#32
  let arg11 : BitVec 32 := Scf.iv c0_i32_19 c1_i32 k0_t2
  let c128_i32 : BitVec 32 := 128#32
  let v33 : BitVec 32 := Scalar.muli arg11 c128_i32
  let v34 : BitVec 32 := Scalar.addi v33 c0_i32_22
  let v35 : BitVec 32 := v34
  let v45 : Index := Scalar.indexCast v35
  let c0_26 : Index := 0#32
  ![v45.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.minsi arg1 c3_i32
  let c3_i32_0 : BitVec 32 := 3#32
  let v2 : BitVec 32 := Scalar.select v0 v1 c3_i32_0
  let c0_i32_1 : BitVec 32 := 0#32
  let c0_i32_2 : BitVec 32 := 0#32
  ![v2.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== FfnRefIdeal.lean ====
abbrev S8192x4096 : Shape := ⟨2, ![8192, 4096]⟩
abbrev S512x4096 : Shape := ⟨2, ![512, 4096]⟩
abbrev S4096 : Shape := ⟨1, ![4096]⟩
abbrev S4096x11008 : Shape := ⟨2, ![4096, 11008]⟩
abbrev S11008x4096 : Shape := ⟨2, ![11008, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x11008 : Shape := ⟨2, ![8192, 11008]⟩
abbrev S7680x4096 : Shape := ⟨2, ![7680, 4096]⟩

abbrev nBuf : Space → Nat
  | .hbm => 58
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S512x4096, .f32⟩
  | .hbm, ⟨2, _⟩ => ⟨S4096, .f32⟩
  | .hbm, ⟨3, _⟩ => ⟨S4096x11008, .f32⟩
  | .hbm, ⟨4, _⟩ => ⟨S4096x11008, .f32⟩
  | .hbm, ⟨5, _⟩ => ⟨S11008x4096, .f32⟩
  | .hbm, ⟨6, _⟩ => ⟨S4096, .f32⟩
  | .hbm, ⟨7, _⟩ => ⟨S8192x4096, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S1x4096, .f32⟩
  | .hbm, ⟨21, _⟩ => ⟨S8192x4096, .f32⟩
  | .hbm, ⟨22, _⟩ => ⟨S8192x4096, .f32⟩
  | .hbm, ⟨23, _⟩ => ⟨S8192x11008, .f32⟩
  | .hbm, ⟨24, _⟩ => ⟨S8192x11008, .f32⟩
  | .hbm, ⟨25, _⟩ => ⟨S8192x11008, .f32⟩
  | .hbm, ⟨26, _⟩ => ⟨S_, .f32⟩
  | .hbm, ⟨27, _⟩ => ⟨S8192x11008, .f32⟩
  | .hbm, ⟨28, _⟩ => ⟨S8192x11008, .f32⟩
  | .hbm, ⟨29, _⟩ => ⟨S_, .f32⟩
  | .hbm, ⟨30, _⟩ => ⟨S8192x11008, .f32⟩
  | .hbm, ⟨31, _⟩ => ⟨S8192x11008, .f32⟩
  | .hbm, ⟨32, _⟩ => ⟨S8192x11008, .f32⟩
  | .hbm, ⟨33, _⟩ => ⟨S8192x11008, .f32⟩
  | .hbm, ⟨34, _⟩ => ⟨S8192x11008, .f32⟩
  | .hbm, ⟨35, _⟩ => ⟨S8192x4096, .f32⟩
  | .hbm, ⟨36, _⟩ => ⟨S8192x4096, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x4096, .f32⟩
  | .hbm, ⟨48, _⟩ => ⟨S8192x4096, .f32⟩
  | .hbm, ⟨49, _⟩ => ⟨S1x4096, .f32⟩
  | .hbm, ⟨50, _⟩ => ⟨S8192x4096, .f32⟩
  | .hbm, ⟨51, _⟩ => ⟨S8192x4096, .f32⟩
  | .hbm, ⟨52, _⟩ => ⟨S_, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S7680x4096, .f32⟩
  | .hbm, ⟨57, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩

abbrev nD : Nat := 1
abbrev τ : Topo := Topo.v7x

variable {F : FTy → Type} [FloatOps F]
-- ==== Inproj.lean ====
abbrev S8192x4096 : Shape := ⟨2, ![8192, 4096]⟩
abbrev S4096 : Shape := ⟨1, ![4096]⟩
abbrev S4096x12320 : Shape := ⟨2, ![4096, 12320]⟩
abbrev S12320x4096 : Shape := ⟨2, ![12320, 4096]⟩
abbrev S_ : Shape := ⟨0, ![]⟩
abbrev S96x4096 : Shape := ⟨2, ![96, 4096]⟩
abbrev S16x4096 : Shape := ⟨2, ![16, 4096]⟩
abbrev S128x4096 : Shape := ⟨2, ![128, 4096]⟩
abbrev S1x12288 : Shape := ⟨2, ![1, 12288]⟩
abbrev S1 : Shape := ⟨1, ![1]⟩
abbrev S1x2048 : Shape := ⟨2, ![1, 2048]⟩
abbrev S1x1024 : Shape := ⟨2, ![1, 1024]⟩
abbrev S1x4096 : Shape := ⟨2, ![1, 4096]⟩
abbrev S8192x12288 : Shape := ⟨2, ![8192, 12288]⟩
abbrev S8192x128 : Shape := ⟨2, ![8192, 128]⟩
abbrev S1024x4096 : Shape := ⟨2, ![1024, 4096]⟩
abbrev S1024x1024 : Shape := ⟨2, ![1024, 1024]⟩
abbrev S1024x128 : Shape := ⟨2, ![1024, 128]⟩
abbrev S32x4096 : Shape := ⟨2, ![32, 4096]⟩
abbrev S32 : Shape := ⟨1, ![32]⟩
abbrev S32x1 : Shape := ⟨2, ![32, 1]⟩
abbrev S256x4096 : Shape := ⟨2, ![256, 4096]⟩
abbrev S1024x256 : Shape := ⟨2, ![1024, 256]⟩
abbrev S1x256 : Shape := ⟨2, ![1, 256]⟩

abbrev nBuf : Space → Nat
  | .hbm => 25
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x12320, .f32⟩
  | .hbm, ⟨3, _⟩ => ⟨S12320x4096, .f32⟩
  | .hbm, ⟨4, _⟩ => ⟨S12320x4096, .bf16⟩
  | .hbm, ⟨5, _⟩ => ⟨S_, .bf16⟩
  | .hbm, ⟨6, _⟩ => ⟨S96x4096, .bf16⟩
  | .hbm, ⟨7, _⟩ => ⟨S16x4096, .bf16⟩
  | .hbm, ⟨8, _⟩ => ⟨S16x4096, .bf16⟩
  | .hbm, ⟨9, _⟩ => ⟨S128x4096, .bf16⟩
  | .hbm, ⟨10, _⟩ => ⟨S_, .f32⟩
  | .hbm, ⟨11, _⟩ => ⟨S1x12288, .f32⟩
  | .hbm, ⟨12, _⟩ => ⟨S_, .i32⟩
  | .hbm, ⟨13, _⟩ => ⟨S1, .i32⟩
  | .hbm, ⟨14, _⟩ => ⟨S_, .f32⟩
  | .hbm, ⟨15, _⟩ => ⟨S1x2048, .f32⟩
  | .hbm, ⟨16, _⟩ => ⟨S1x12288, .f32⟩
  | .hbm, ⟨17, _⟩ => ⟨S_, .i32⟩
  | .hbm, ⟨18, _⟩ => ⟨S1, .i32⟩
  | .hbm, ⟨19, _⟩ => ⟨S_, .f32⟩
  | .hbm, ⟨20, _⟩ => ⟨S1x1024, .f32⟩
  | .hbm, ⟨21, _⟩ => ⟨S1x12288, .f32⟩
  | .hbm, ⟨22, _⟩ => ⟨S1x4096, .f32⟩
  | .hbm, ⟨23, _⟩ => ⟨S8192x12288, .bf16⟩
  | .hbm, ⟨24, _⟩ => ⟨S8192x128, .f32⟩
  | .local _ .vmem, ⟨0, _⟩ => ⟨S1024x4096, .bf16⟩
  | .local _ .vmem, ⟨1, _⟩ => ⟨S1024x4096, .bf16⟩
  | .local _ .vmem, ⟨2, _⟩ => ⟨S1x4096, .f32⟩
  | .local _ .vmem, ⟨3, _⟩ => ⟨S1024x4096, .f32⟩
  | .local _ .vmem, ⟨4, _⟩ => ⟨S128x4096, .bf16⟩
  | .local _ .vmem, ⟨5, _⟩ => ⟨S1x1024, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 12], ![false, false]⟩

def k0_mult1 (i : grid0.Coords) : BitVec 32 :=
  let arg1 : BitVec 32 := BitVec.ofNat 32 (i 1).val
  let c6_i32 : BitVec 32 := 6#32
  let v0 : BitVec 1 := Scalar.cmpi .slt arg1 c6_i32
  let c1024_i32 : BitVec 32 := 1024#32
  let v1 : BitVec 32 := Scalar.muli arg1 c1024_i32
  let c6160_i32 : BitVec 32 := 6160#32
  let c6_i32_0 : BitVec 32 := 6#32
  let v2 : BitVec 32 := Scalar.subi arg1 c6_i32_0
  let c1024_i32_1 : BitVec 32 := 1024#32
  let v3 : BitVec 32 := Scalar.muli v2 c1024_i32_1
  let v4 : BitVec 32 := Scalar.addi c6160_i32 v3
  let v5 : BitVec 32 := Scalar.select v0 v1 v4
  v5
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_32 : BitVec 32 := 0#32
  let c8_i32 : BitVec 32 := 8#32
  let v43 : BitVec 32 := Scalar.addi c0_i32_32 c8_i32
  let c1_i32 : BitVec 32 := 1#32
  ⟨c0_i32_32, v43, c1_i32⟩
def k0_mult2 (k0_t1 : Fin k0_t1_loop.trips) : BitVec 32 :=
  let c0_i32_32 : BitVec 32 := 0#32
  let c1_i32 : BitVec 32 := 1#32
  let arg10 : BitVec 32 := Scf.iv c0_i32_32 c1_i32 k0_t1
  let c128_i32 : BitVec 32 := 128#32
  let v49 : BitVec 32 := Scalar.muli arg10 c128_i32
  let c0_i32_41 : BitVec 32 := 0#32
  let v50 : BitVec 32 := Scalar.addi v49 c0_i32_41
  v50
def k0_mult3 (k0_t1 : Fin k0_t1_loop.trips) : BitVec 32 :=
  let c0_i32_32 : BitVec 32 := 0#32
  let c1_i32 : BitVec 32 := 1#32
  let arg10 : BitVec 32 := Scf.iv c0_i32_32 c1_i32 k0_t1
  let c128_i32_42 : BitVec 32 := 128#32
  let v52 : BitVec 32 := Scalar.muli arg10 c128_i32_42
  let c32_i32 : BitVec 32 := 32#32
  let v53 : BitVec 32 := Scalar.addi v52 c32_i32
  v53
def k0_mult4 (k0_t1 : Fin k0_t1_loop.trips) : BitVec 32 :=
  let c0_i32_32 : BitVec 32 := 0#32
  let c1_i32 : BitVec 32 := 1#32
  let arg10 : BitVec 32 := Scf.iv c0_i32_32 c1_i32 k0_t1
  let c128_i32_43 : BitVec 32 := 128#32
  let v55 : BitVec 32 := Scalar.muli arg10 c128_i32_43
  let c64_i32 : BitVec 32 := 64#32
  let v56 : BitVec 32 := Scalar.addi v55 c64_i32
  v56
def k0_mult5 (k0_t1 : Fin k0_t1_loop.trips) : BitVec 32 :=
  let c0_i32_32 : BitVec 32 := 0#32
  let c1_i32 : BitVec 32 := 1#32
  let arg10 : BitVec 32 := Scf.iv c0_i32_32 c1_i32 k0_t1
  let c128_i32_44 : BitVec 32 := 128#32
  let v58 : BitVec 32 := Scalar.muli arg10 c128_i32_44
  let c96_i32 : BitVec 32 := 96#32
  let v59 : BitVec 32 := Scalar.addi v58 c96_i32
  v59
def k0_off1 (k0_t1 : Fin k0_t1_loop.trips) (c0_i32_41 : BitVec 32) : Fin 2 → Nat :=
  let c0_i32_32 : BitVec 32 := 0#32
  let c1_i32 : BitVec 32 := 1#32
  let arg10 : BitVec 32 := Scf.iv c0_i32_32 c1_i32 k0_t1
  let c128_i32 : BitVec 32 := 128#32
  let v49 : BitVec 32 := Scalar.muli arg10 c128_i32
  let v50 : BitVec 32 := Scalar.addi v49 c0_i32_41
  let v51 : BitVec 32 := v50
  let v61 : Index := Scalar.indexCast v51
  let c0_45 : Index := 0#32
  ![v61.toNat, 0]
def cc0_transform_0 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 1 := Scalar.cmpi .slt arg1 c6_i32
  let c1024_i32 : BitVec 32 := 1024#32
  let v1 : BitVec 32 := Scalar.muli arg1 c1024_i32
  let c6_i32_0 : BitVec 32 := 6#32
  let v2 : BitVec 32 := Scalar.subi arg1 c6_i32_0
  let c1024_i32_1 : BitVec 32 := 1024#32
  let v3 : BitVec 32 := Scalar.muli v2 c1024_i32_1
  let c6160_i32 : BitVec 32 := 6160#32
  let v4 : BitVec 32 := Scalar.addi c6160_i32 v3
  let v5 : BitVec 32 := Scalar.select v0 v1 v4
  let v6 : BitVec 32 := v5
  let c0_i32 : BitVec 32 := 0#32
  let c0_i32_2 : BitVec 32 := 0#32
  ![v6.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S128x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InprojRefIdeal.lean ====
abbrev S8192x4096 : Shape := ⟨2, ![8192, 4096]⟩
abbrev S4096 : Shape := ⟨1, ![4096]⟩
abbrev S4096x12320 : Shape := ⟨2, ![4096, 12320]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x12320 : Shape := ⟨2, ![8192, 12320]⟩
abbrev S8192x2048 : Shape := ⟨2, ![8192, 2048]⟩
abbrev S8192x16 : Shape := ⟨2, ![8192, 16]⟩
abbrev S8192x1024 : Shape := ⟨2, ![8192, 1024]⟩
abbrev S8192x5120 : Shape := ⟨2, ![8192, 5120]⟩
abbrev S8192x12288 : Shape := ⟨2, ![8192, 12288]⟩
abbrev S8192x96 : Shape := ⟨2, ![8192, 96]⟩
abbrev S8192x128 : Shape := ⟨2, ![8192, 128]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x12320, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x12320, .f32⟩
  | .hbm, ⟨20, _⟩ => ⟨S8192x2048, .f32⟩
  | .hbm, ⟨21, _⟩ => ⟨S8192x4096, .f32⟩
  | .hbm, ⟨22, _⟩ => ⟨S8192x16, .f32⟩
  | .hbm, ⟨23, _⟩ => ⟨S8192x1024, .f32⟩
  | .hbm, ⟨24, _⟩ => ⟨S8192x5120, .f32⟩
  | .hbm, ⟨25, _⟩ => ⟨S8192x16, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x12288, .f32⟩
  | .hbm, ⟨33, _⟩ => ⟨S8192x12288, .bf16⟩
  | .hbm, ⟨34, _⟩ => ⟨S_, .f32⟩
  | .hbm, ⟨35, _⟩ => ⟨S8192x96, .f32⟩
  | .hbm, ⟨36, _⟩ => ⟨S8192x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_cst_3 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Outproj.lean ====
abbrev S8192x2048 : Shape := ⟨2, ![8192, 2048]⟩
abbrev S4096x4096 : Shape := ⟨2, ![4096, 4096]⟩
abbrev S8192x4096 : Shape := ⟨2, ![8192, 4096]⟩
abbrev S4096 : Shape := ⟨1, ![4096]⟩
abbrev S1x4096 : Shape := ⟨2, ![1, 4096]⟩
abbrev S512x2048 : Shape := ⟨2, ![512, 2048]⟩
abbrev S2048x512 : Shape := ⟨2, ![2048, 512]⟩
abbrev S512x4096 : Shape := ⟨2, ![512, 4096]⟩
abbrev S2048x256 : Shape := ⟨2, ![2048, 256]⟩
abbrev S512x256 : Shape := ⟨2, ![512, 256]⟩
abbrev S32x4096 : Shape := ⟨2, ![32, 4096]⟩
abbrev S32 : Shape := ⟨1, ![32]⟩
abbrev S32x1 : Shape := ⟨2, ![32, 1]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S4096, .f32⟩
  | .hbm, ⟨5, _⟩ => ⟨S4096x4096, .bf16⟩
  | .hbm, ⟨6, _⟩ => ⟨S1x4096, .f32⟩
  | .hbm, ⟨7, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x4096, .f32⟩
  | .local _ .vmem, ⟨9, _⟩ => ⟨S512x4096, .f32⟩
  | .local _ .vmem, ⟨10, _⟩ => ⟨S1x4096, .f32⟩
  | .local _ .vmem, ⟨11, _⟩ => ⟨S512x4096, .f32⟩
  | .local _ .vmem, ⟨12, _⟩ => ⟨S512x4096, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi v0 c0_i32
  v1
def k0_off1 (i : grid0.Coords) (c0_i32 : BitVec 32) : Fin 2 → Nat :=
  let c0_8 : Index := 0#32
  let arg1 : BitVec 32 := BitVec.ofNat 32 (i 1).val
  let c512_i32 : BitVec 32 := 512#32
  let v0 : BitVec 32 := Scalar.muli arg1 c512_i32
  let v1 : BitVec 32 := Scalar.addi v0 c0_i32
  let v2 : BitVec 32 := v1
  let v12 : Index := Scalar.indexCast v2
  ![0, v12.toNat]
def k0_mult2 (i : grid0.Coords) : BitVec 32 :=
  let arg1 : BitVec 32 := BitVec.ofNat 32 (i 1).val
  let c512_i32_9 : BitVec 32 := 512#32
  let v14 : BitVec 32 := Scalar.muli arg1 c512_i32_9
  let c256_i32 : BitVec 32 := 256#32
  let v15 : BitVec 32 := Scalar.addi v14 c256_i32
  v15
def k0_cond1 (i : grid0.Coords) : BitVec 1 :=
  let arg1 : BitVec 32 := BitVec.ofNat 32 (i 1).val
  let c7_i32 : BitVec 32 := 7#32
  let v28 : BitVec 1 := Scalar.cmpi .eq arg1 c7_i32
  let v29 : BitVec 32 := Scalar.extui v28
  let c0_i32_20 : BitVec 32 := 0#32
  let v30 : BitVec 1 := Scalar.cmpi .ne v29 c0_i32_20
  v30

@[reducible] def k0_t1_loop : Scf.Loop 32 :=
  let c0_i32_21 : BitVec 32 := 0#32
  let c4_i32 : BitVec 32 := 4#32
  let v31 : BitVec 32 := Scalar.addi c0_i32_21 c4_i32
  let c1_i32 : BitVec 32 := 1#32
  ⟨c0_i32_21, v31, c1_i32⟩
def k0_mult3 (k0_t1 : Fin k0_t1_loop.trips) : BitVec 32 :=
  let c0_i32_21 : BitVec 32 := 0#32
  let c1_i32 : BitVec 32 := 1#32
  let arg9 : BitVec 32 := Scf.iv c0_i32_21 c1_i32 k0_t1
  let c128_i32 : BitVec 32 := 128#32
  let v32 : BitVec 32 := Scalar.muli arg9 c128_i32
  let c0_i32_23 : BitVec 32 := 0#32
  let v33 : BitVec 32 := Scalar.addi v32 c0_i32_23
  v33
def k0_mult4 (k0_t1 : Fin k0_t1_loop.trips) : BitVec 32 :=
  let c0_i32_21 : BitVec 32 := 0#32
  let c1_i32 : BitVec 32 := 1#32
  let arg9 : BitVec 32 := Scf.iv c0_i32_21 c1_i32 k0_t1
  let c128_i32_24 : BitVec 32 := 128#32
  let v35 : BitVec 32 := Scalar.muli arg9 c128_i32_24
  let c32_i32 : BitVec 32 := 32#32
  let v36 : BitVec 32 := Scalar.addi v35 c32_i32
  v36
def k0_mult5 (k0_t1 : Fin k0_t1_loop.trips) : BitVec 32 :=
  let c0_i32_21 : BitVec 32 := 0#32
  let c1_i32 : BitVec 32 := 1#32
  let arg9 : BitVec 32 := Scf.iv c0_i32_21 c1_i32 k0_t1
  let c128_i32_25 : BitVec 32 := 128#32
  let v38 : BitVec 32 := Scalar.muli arg9 c128_i32_25
  let c64_i32 : BitVec 32 := 64#32
  let v39 : BitVec 32 := Scalar.addi v38 c64_i32
  v39
def k0_mult6 (k0_t1 : Fin k0_t1_loop.trips) : BitVec 32 :=
  let c0_i32_21 : BitVec 32 := 0#32
  let c1_i32 : BitVec 32 := 1#32
  let arg9 : BitVec 32 := Scf.iv c0_i32_21 c1_i32 k0_t1
  let c128_i32_26 : BitVec 32 := 128#32
  let v41 : BitVec 32 := Scalar.muli arg9 c128_i32_26
  let c96_i32 : BitVec 32 := 96#32
  let v42 : BitVec 32 := Scalar.addi v41 c96_i32
  v42
def k0_off2 (k0_t1 : Fin k0_t1_loop.trips) (c0_i32_23 : BitVec 32) : Fin 2 → Nat :=
  let c0_i32_21 : BitVec 32 := 0#32
  let c1_i32 : BitVec 32 := 1#32
  let arg9 : BitVec 32 := Scf.iv c0_i32_21 c1_i32 k0_t1
  let c128_i32 : BitVec 32 := 128#32
  let v32 : BitVec 32 := Scalar.muli arg9 c128_i32
  let v33 : BitVec 32 := Scalar.addi v32 c0_i32_23
  let v34 : BitVec 32 := v33
  let v44 : Index := Scalar.indexCast v34
  let c0_27 : Index := 0#32
  ![v44.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== OutprojRefIdeal.lean ====
abbrev S8192x2048 : Shape := ⟨2, ![8192, 2048]⟩
abbrev S4096x4096 : Shape := ⟨2, ![4096, 4096]⟩
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S4096x4096, .f32⟩
  | .hbm, ⟨3, _⟩ => ⟨S8192x4096, .f32⟩
  | .hbm, ⟨4, _⟩ => ⟨S4096, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x4096, .f32⟩
  | .hbm, ⟨21, _⟩ => ⟨S8192x4096, .f32⟩
  | .hbm, ⟨22, _⟩ => ⟨S1x4096, .f32⟩
  | .hbm, ⟨23, _⟩ => ⟨S8192x4096, .f32⟩
  | .hbm, ⟨24, _⟩ => ⟨S8192x4096, .f32⟩
  | .hbm, ⟨25, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Ple.lean ====
abbrev S8192x4096 : Shape := ⟨2, ![8192, 4096]⟩
abbrev S8192x256 : Shape := ⟨2, ![8192, 256]⟩
abbrev S256x4096 : Shape := ⟨2, ![256, 4096]⟩
abbrev S4096 : Shape := ⟨1, ![4096]⟩
abbrev S4096x4096 : Shape := ⟨2, ![4096, 4096]⟩
abbrev S1x4096 : Shape := ⟨2, ![1, 4096]⟩
abbrev S512x4096 : Shape := ⟨2, ![512, 4096]⟩
abbrev S512x256 : Shape := ⟨2, ![512, 256]⟩
abbrev S4096x1024 : Shape := ⟨2, ![4096, 1024]⟩
abbrev S512x1024 : Shape := ⟨2, ![512, 1024]⟩
abbrev S32x4096 : Shape := ⟨2, ![32, 4096]⟩
abbrev S32 : Shape := ⟨1, ![32]⟩
abbrev S32x1 : Shape := ⟨2, ![32, 1]⟩
abbrev S4096x256 : Shape := ⟨2, ![4096, 256]⟩

abbrev nBuf : Space → Nat
  | .hbm => 9
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S8192x256, .f32⟩
  | .hbm, ⟨2, _⟩ => ⟨S256x4096, .f32⟩
  | .hbm, ⟨3, _⟩ => ⟨S4096, .f32⟩
  | .hbm, ⟨4, _⟩ => ⟨S4096x4096, .f32⟩
  | .hbm, ⟨5, _⟩ => ⟨S256x4096, .bf16⟩
  | .hbm, ⟨6, _⟩ => ⟨S1x4096, .f32⟩
  | .hbm, ⟨7, _⟩ => ⟨S4096x4096, .bf16⟩
  | .hbm, ⟨8, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x256, .f32⟩
  | .local _ .vmem, ⟨3, _⟩ => ⟨S512x256, .f32⟩
  | .local _ .vmem, ⟨4, _⟩ => ⟨S256x4096, .bf16⟩
  | .local _ .vmem, ⟨5, _⟩ => ⟨S1x4096, .f32⟩
  | .local _ .vmem, ⟨6, _⟩ => ⟨S4096x1024, .bf16⟩
  | .local _ .vmem, ⟨7, _⟩ => ⟨S4096x1024, .bf16⟩
  | .local _ .vmem, ⟨8, _⟩ => ⟨S512x1024, .f32⟩
  | .local _ .vmem, ⟨9, _⟩ => ⟨S512x1024, .f32⟩
  | .local _ .vmem, ⟨10, _⟩ => ⟨S512x4096, .bf16⟩
  | .local _ .vmem, ⟨11, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_43 : BitVec 32 := 0#32
  let c4_i32 : BitVec 32 := 4#32
  let v71 : BitVec 32 := Scalar.addi c0_i32_43 c4_i32
  let c1_i32 : BitVec 32 := 1#32
  ⟨c0_i32_43, v71, c1_i32⟩
def k0_mult1 (k0_t1 : Fin k0_t1_loop.trips) : BitVec 32 :=
  let c0_i32_43 : BitVec 32 := 0#32
  let c1_i32 : BitVec 32 := 1#32
  let arg10 : BitVec 32 := Scf.iv c0_i32_43 c1_i32 k0_t1
  let c128_i32 : BitVec 32 := 128#32
  let v72 : BitVec 32 := Scalar.muli arg10 c128_i32
  let c0_i32_45 : BitVec 32 := 0#32
  let v73 : BitVec 32 := Scalar.addi v72 c0_i32_45
  v73
def k0_mult2 (k0_t1 : Fin k0_t1_loop.trips) : BitVec 32 :=
  let c0_i32_43 : BitVec 32 := 0#32
  let c1_i32 : BitVec 32 := 1#32
  let arg10 : BitVec 32 := Scf.iv c0_i32_43 c1_i32 k0_t1
  let c128_i32_46 : BitVec 32 := 128#32
  let v75 : BitVec 32 := Scalar.muli arg10 c128_i32_46
  let c32_i32 : BitVec 32 := 32#32
  let v76 : BitVec 32 := Scalar.addi v75 c32_i32
  v76
def k0_mult3 (k0_t1 : Fin k0_t1_loop.trips) : BitVec 32 :=
  let c0_i32_43 : BitVec 32 := 0#32
  let c1_i32 : BitVec 32 := 1#32
  let arg10 : BitVec 32 := Scf.iv c0_i32_43 c1_i32 k0_t1
  let c128_i32_47 : BitVec 32 := 128#32
  let v78 : BitVec 32 := Scalar.muli arg10 c128_i32_47
  let c64_i32 : BitVec 32 := 64#32
  let v79 : BitVec 32 := Scalar.addi v78 c64_i32
  v79
def k0_mult4 (k0_t1 : Fin k0_t1_loop.trips) : BitVec 32 :=
  let c0_i32_43 : BitVec 32 := 0#32
  let c1_i32 : BitVec 32 := 1#32
  let arg10 : BitVec 32 := Scf.iv c0_i32_43 c1_i32 k0_t1
  let c128_i32_48 : BitVec 32 := 128#32
  let v81 : BitVec 32 := Scalar.muli arg10 c128_i32_48
  let c96_i32 : BitVec 32 := 96#32
  let v82 : BitVec 32 := Scalar.addi v81 c96_i32
  v82
def k0_off1 (k0_t1 : Fin k0_t1_loop.trips) (c0_i32_45 : BitVec 32) : Fin 2 → Nat :=
  let c0_i32_43 : BitVec 32 := 0#32
  let c1_i32 : BitVec 32 := 1#32
  let arg10 : BitVec 32 := Scf.iv c0_i32_43 c1_i32 k0_t1
  let c128_i32 : BitVec 32 := 128#32
  let v72 : BitVec 32 := Scalar.muli arg10 c128_i32
  let v73 : BitVec 32 := Scalar.addi v72 c0_i32_45
  let v74 : BitVec 32 := v73
  let v84 : Index := Scalar.indexCast v74
  let c0_49 : Index := 0#32
  ![v84.toNat, 0]
def k0_mult5 (i : grid0.Coords) : BitVec 32 :=
  let arg1 : BitVec 32 := BitVec.ofNat 32 (i 1).val
  let c1024_i32 : BitVec 32 := 1024#32
  let v3 : BitVec 32 := Scalar.muli arg1 c1024_i32
  let c0_i32_1 : BitVec 32 := 0#32
  let v4 : BitVec 32 := Scalar.addi v3 c0_i32_1
  v4
def k0_off2 (i : grid0.Coords) (c0_i32_1 : BitVec 32) : Fin 2 → Nat :=
  let c0_5 : Index := 0#32
  let arg1 : BitVec 32 := BitVec.ofNat 32 (i 1).val
  let c1024_i32 : BitVec 32 := 1024#32
  let v3 : BitVec 32 := Scalar.muli arg1 c1024_i32
  let v4 : BitVec 32 := Scalar.addi v3 c0_i32_1
  let v5 : BitVec 32 := v4
  let v11 : Index := Scalar.indexCast v5
  ![0, v11.toNat]
def k0_mult6 (i : grid0.Coords) : BitVec 32 :=
  let arg1 : BitVec 32 := BitVec.ofNat 32 (i 1).val
  let c1024_i32_9 : BitVec 32 := 1024#32
  let v18 : BitVec 32 := Scalar.muli arg1 c1024_i32_9
  let c256_i32 : BitVec 32 := 256#32
  let v19 : BitVec 32 := Scalar.addi v18 c256_i32
  v19
def k0_mult7 (i : grid0.Coords) : BitVec 32 :=
  let arg1 : BitVec 32 := BitVec.ofNat 32 (i 1).val
  let c1024_i32_18 : BitVec 32 := 1024#32
  let v33 : BitVec 32 := Scalar.muli arg1 c1024_i32_18
  let c512_i32 : BitVec 32 := 512#32
  let v34 : BitVec 32 := Scalar.addi v33 c512_i32
  v34
def k0_mult8 (i : grid0.Coords) : BitVec 32 :=
  let arg1 : BitVec 32 := BitVec.ofNat 32 (i 1).val
  let c1024_i32_27 : BitVec 32 := 1024#32
  let v48 : BitVec 32 := Scalar.muli arg1 c1024_i32_27
  let c768_i32 : BitVec 32 := 768#32
  let v49 : BitVec 32 := Scalar.addi v48 c768_i32
  v49
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== PleRefIdeal.lean ====
abbrev S8192x4096 : Shape := ⟨2, ![8192, 4096]⟩
abbrev S8192x256 : Shape := ⟨2, ![8192, 256]⟩
abbrev S256x4096 : Shape := ⟨2, ![256, 4096]⟩
abbrev S4096 : Shape := ⟨1, ![4096]⟩
abbrev S4096x4096 : Shape := ⟨2, ![4096, 4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x256, .f32⟩
  | .hbm, ⟨2, _⟩ => ⟨S256x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x4096, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.GlaV.Body.lean ====
/- What one grid point's body of the gated-linear-attention kernel leaves in its two buffers. -/
module

public import proofs.«01_k».proof.Proof.Gen.GlaIdeal.Value
public import Idealize.ShloMosaic.Lib.Pipeline.ReadBack
public import Idealize.ShloMosaic.Lib.Pipeline.ValueKit

@[expose] public section

set_option maxRecDepth 16384

noncomputable section

namespace Cert.GlaIdeal.Body

open Idealize.ShloMosaic Idealize.ShloMosaic.TcCoe Idealize.ShloMosaic.Tactic Cert.GlaIdeal.Gen

variable {F : FTy → Type} [FloatOps F]
  (c : Dev nD) (i : grid0.Coords)
  (arg2 : Memref sig .tc .vmem S512x256 .bf16) (harg2 : arg2.IsWhole) (arg3 : Memref sig .tc .vmem S512x256 .bf16) (harg3 : arg3.IsWhole)
  (arg4 : Memref sig .tc .vmem S512x512 .bf16) (harg4 : arg4.IsWhole) (arg5 : Memref sig .tc .vmem S512x512 .bf16) (harg5 : arg5.IsWhole)
  (arg6 : Memref sig .tc .vmem S512x128 .f32) (harg6 : arg6.IsWhole) (arg7 : Memref sig .tc .vmem S128x256 .bf16) (harg7 : arg7.IsWhole)
  (arg8 : Memref sig .tc .vmem S1x256 .f32) (harg8 : arg8.IsWhole) (arg9 : Memref sig .tc .vmem S1x512 .f32) (harg9 : arg9.IsWhole)
  (arg10 : Memref sig .tc .vmem S256x256 .f32) (harg10 : arg10.IsWhole) (arg11 : Memref sig .tc .vmem S512x512 .bf16) (harg11 : arg11.IsWhole)
  (arg12 : Memref sig .tc .vmem S512x256 .f32) (harg12 : arg12.IsWhole)
  (x0 x1 : Vec F S512x256 .bf16) (x2 x3 : Vec F S512x512 .bf16) (x4 : Vec F S512x128 .f32) (x5 : Vec F S128x256 .bf16)
  (x6 : Vec F S1x256 .f32) (x7 : Vec F S1x512 .f32) (x8 : Vec F S256x256 .f32) (xs0 : Vec F S512x256 .f32)

/-- The running sums of the log-gates within each chunk. -/
def bB : FVec F S512x256 .f32 := k0_pay5 (k0_pay2 x4 x5 x6) (k0_pay3 x8) (k0_pay4 x4 x5 x6)
/-- A chunk's whole sum, at each of its rows. -/
def bT : FVec F S512x256 .f32 := k0_pay6 (k0_pay2 x4 x5 x6) (k0_pay3 x8) (k0_pay4 x4 x5 x6)
/-- The queries with their decay. -/
def qD : FVec F S512x256 .bf16 := k0_pay10 (k0_pay2 x4 x5 x6) (k0_pay3 x8) (k0_pay4 x4 x5 x6) x0
/-- The keys decayed to the chunk's end. -/
def kE : FVec F S512x256 .bf16 := k0_pay11 (bB x4 x5 x6 x8) (bT x4 x5 x6 x8) (k0_pay8 x1)
/-- The part of the output within the chunk. -/
def oI : FVec F S512x512 .f32 :=
  k0_pay12 (bB x4 x5 x6 x8) (k0_pay7 x8) (k0_pay8 x1) (k0_pay9 x2) (qD x0 x4 x5 x6 x8)
/-- The state after the first `1`, `2`, … chunks of a point. -/
def s1 : FVec F S512x256 .f32 := k0_pay14 (bB x4 x5 x6 x8) (bT x4 x5 x6 x8) (k0_pay8 x1) (k0_pay9 x2) xs0
def s2 : FVec F S512x256 .f32 := k0_pay17 (bT x4 x5 x6 x8) (k0_pay9 x2) (kE x1 x4 x5 x6 x8) (s1 x1 x2 x4 x5 x6 x8 xs0)
def s3 : FVec F S512x256 .f32 := k0_pay22 (bT x4 x5 x6 x8) (k0_pay9 x2) (kE x1 x4 x5 x6 x8) (s2 x1 x2 x4 x5 x6 x8 xs0)
def s4 : FVec F S512x256 .f32 := k0_pay27 (bT x4 x5 x6 x8) (k0_pay9 x2) (kE x1 x4 x5 x6 x8) (s3 x1 x2 x4 x5 x6 x8 xs0)
def s5 : FVec F S512x256 .f32 := k0_pay31 (bT x4 x5 x6 x8) (k0_pay9 x2) (kE x1 x4 x5 x6 x8) (s4 x1 x2 x4 x5 x6 x8 xs0)
def s6 : FVec F S512x256 .f32 := k0_pay34 (bT x4 x5 x6 x8) (k0_pay9 x2) (kE x1 x4 x5 x6 x8) (s5 x1 x2 x4 x5 x6 x8 xs0)
def s7 : FVec F S512x256 .f32 := k0_pay38 (bT x4 x5 x6 x8) (k0_pay9 x2) (kE x1 x4 x5 x6 x8) (s6 x1 x2 x4 x5 x6 x8 xs0)
def s8 : FVec F S512x256 .f32 := k0_pay41 (bT x4 x5 x6 x8) (k0_pay9 x2) (kE x1 x4 x5 x6 x8) (s7 x1 x2 x4 x5 x6 x8 xs0)

/-- The state a point leaves, as the body's payloads. -/
theorem sout_B (hc0 : ¬cond0_0 i) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = s8 x1 x2 x4 x5 x6 x8 xs0 := by
  frame_out
  try simp only [read_unread_whole]
  rfl

/-- The same where the state is reset first. -/
theorem sout_A (hc0 : cond0_0 i) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8 = s8 x1 x2 x4 x5 x6 x8 (k0_pay1 (F := F)) := by
  frame_out
  try simp only [read_unread_whole]
  rfl

end Cert.GlaIdeal.Body
end
-- ==== Proof.GlaV.Spec.lean ====
/- Gated linear attention in chunks of 64 rows, as functions of row and column numbers over the extended reals, and
   the facts about sums that the two programs' readings need. -/
module

public import Idealize.ShloMosaic.Lib.Pointwise
public import Idealize.ShloMosaic.PureOps.Ideal

@[expose] public section

noncomputable section

namespace Cert.GlaV

open Idealize.ShloMosaic

/-- A matrix read at two numbers; zero outside it. -/
def at2 {n k : ℕ} (A : (⟨2, ![n, k]⟩ : Shape).Idx → EReal) (i j : ℕ) : EReal :=
  if h : i < n ∧ j < k then A (ix2 ⟨i, h.1⟩ ⟨j, h.2⟩) else 0

theorem at2_ix {n k : ℕ} (A : (⟨2, ![n, k]⟩ : Shape).Idx → EReal) (i : Fin n) (j : Fin k) : A (ix2 i j) = at2 A i j := by
  unfold at2; rw [dif_pos ⟨i.isLt, j.isLt⟩]

/-- A vector read at a number; zero outside it. -/
def at1 {n : ℕ} (A : (⟨1, ![n]⟩ : Shape).Idx → EReal) (i : ℕ) : EReal :=
  if h : i < n then A (ix1 ⟨i, h⟩) else 0

theorem at1_ix {n : ℕ} (A : (⟨1, ![n]⟩ : Shape).Idx → EReal) (i : Fin n) : A (ix1 i) = at1 A i := by
  unfold at1; rw [dif_pos i.isLt]

section Spec

variable (Q K V GR LA : ℕ → ℕ → EReal) (G : ℕ → EReal)

/-- The running sum of the log-gates within the row's chunk. -/
def B (s c : ℕ) : EReal := ∑ r : Fin 64, if r.val ≤ s % 64 then LA (64 * (s / 64) + r.val) c else 0
/-- The chunk's whole sum. -/
def BL (s c : ℕ) : EReal := B LA (64 * (s / 64) + 63) c
/-- The decayed queries, … -/
def QD (s c : ℕ) : EReal := Q s c * Ideal.exp (B LA s c)
/-- … the keys with the decay undone, … -/
def KI (s c : ℕ) : EReal := K s c * Ideal.exp (0 - B LA s c)
/-- … and the keys decayed to the chunk's end. -/
def KE (s c : ℕ) : EReal := K s c * Ideal.exp (BL LA s c - B LA s c)
/-- The causal attention within the chunk. -/
def OI (h s e : ℕ) : EReal :=
  ∑ r : Fin 64, (if r.val ≤ s % 64 then ∑ d : Fin 256, QD Q LA s (256 * h + d.val) * KI K LA (64 * (s / 64) + r.val) (256 * h + d.val) else 0)
    * V (64 * (s / 64) + r.val) (512 * h + e)
/-- Head `h`'s state before chunk `n`. -/
def ST (h : ℕ) : ℕ → ℕ → ℕ → EReal
  | 0, _, _ => 0
  | n + 1, e, d => ST h n e d * Ideal.exp (BL LA (64 * n) (256 * h + d))
      + ∑ r : Fin 64, V (64 * n + r.val) (512 * h + e) * KE K LA (64 * n + r.val) (256 * h + d)
theorem ST_succ (h n e d : ℕ) : ST K V LA h (n + 1) e d = ST K V LA h n e d * Ideal.exp (BL LA (64 * n) (256 * h + d))
      + ∑ r : Fin 64, V (64 * n + r.val) (512 * h + e) * KE K LA (64 * n + r.val) (256 * h + d) := rfl
/-- The attention's output. -/
def O (h s e : ℕ) : EReal :=
  OI Q K V LA h s e + ∑ d : Fin 256, QD Q LA s (256 * h + d.val) * ST K V LA h (s / 64) e d.val
/-- Normalised over the head's columns and gated. -/
def OUT (h s e : ℕ) : EReal :=
  O Q K V LA h s e * Ideal.rsqrt (Ideal.div (∑ j : Fin 512, O Q K V LA h s j.val * O Q K V LA h s j.val) (Ideal.ofBits FTy.f32 1140850688#32) + Ideal.ofBits FTy.f32 897988541#32)
    * G e * (GR s (512 * h + e) * Ideal.logistic (GR s (512 * h + e)))

end Spec

/-- A sum over 256 rows of what vanishes off block `q` of 64 rows is the sum over the block. -/
theorem sum_block (f : ℕ → EReal) (q : ℕ) (hq : q < 4) :
    ∑ x : Fin 256, (if x.val / 64 = q then f x.val else 0) = ∑ r : Fin 64, f (64 * q + r.val) := by
  rw [← Finset.sum_filter]
  symm
  refine Finset.sum_bij (fun r _ => (⟨64 * q + r.val, by have := r.isLt; omega⟩ : Fin 256)) ?_ ?_ ?_ ?_
  · intro r _; have := r.isLt; simp only [Finset.mem_filter, Finset.mem_univ, true_and]; omega
  · intro a _ b _ hab; have := Fin.mk.inj_iff.mp hab; ext; omega
  · intro x hx
    simp only [Finset.mem_filter, Finset.mem_univ, true_and] at hx
    exact ⟨⟨x.val % 64, by omega⟩, Finset.mem_univ _, by ext; show 64 * q + x.val % 64 = x.val; omega⟩
  · intro r _; rfl

/-- A sum with a term `⊥` is `⊥`. -/
theorem sum_eq_bot {ι : Type*} [Fintype ι] [DecidableEq ι] (f : ι → EReal) (i : ι) (h : f i = ⊥) : ∑ x, f x = ⊥ := by
  rw [← Finset.add_sum_erase _ _ (Finset.mem_univ i), h, EReal.bot_add]

/-- The three-way split of a summand changes nothing over the extended reals, as no summand is `⊤`. -/
theorem split_sum {ι : Type*} [Fintype ι] [DecidableEq ι] (T s : ι → EReal) (hT : ∀ x, T x = 0 ∨ T x = 1) (hs : ∀ x, s x ≠ ⊤) :
    ∑ x, T x * s x + ∑ x, T x * (s x - s x) + ∑ x, T x * (s x - s x - (s x - s x)) = ∑ x, T x * s x := by
  by_cases h : ∃ x, T x = 1 ∧ s x = ⊥
  · obtain ⟨x, h1, h2⟩ := h
    rw [sum_eq_bot (fun x => T x * s x) x (by simp only [h1, h2, one_mul]), EReal.bot_add, EReal.bot_add]
  · have z : ∀ x, T x * (s x - s x) = 0 ∧ T x * (s x - s x - (s x - s x)) = 0 := by
      intro x
      rcases hT x with h0 | h1
      · simp [h0]
      · have hb : s x ≠ ⊥ := fun e => h ⟨x, h1, e⟩
        have e : s x - s x = 0 := EReal.sub_self (hs x) hb
        rw [e]; simp
    rw [Finset.sum_eq_zero (fun x _ => (z x).1), Finset.sum_eq_zero (fun x _ => (z x).2), add_zero, add_zero]

end Cert.GlaV
end
-- ==== Proof.GlaV.Block.lean ====
/- What one grid point's payloads are, read at an index. -/
module

public import proofs.«01_k».proof.Proof.GlaV.Body
public import proofs.«01_k».proof.Proof.GlaV.Spec

@[expose] public section

set_option maxRecDepth 16384

noncomputable section

namespace Cert.GlaIdeal.Body

open Idealize.ShloMosaic Idealize.ShloMosaic.TcCoe Idealize.ShloMosaic.Tactic Cert.GlaIdeal.Gen Cert.GlaV

/-- The log-gate as the kernel computes it from one row of `small` and one column of the weights. -/
def laK (x4 : Vec Ideal S512x128 .f32) (x5 : Vec Ideal S128x256 .bf16) (x6 : Vec Ideal S1x256 .f32) (r : Fin 512) (c : Fin 256) : EReal :=
  (min (∑ x : Fin 128, x4 (ix2 r x) * x5 (ix2 x c) + x6 (ix2 0 c)) 0
    - Ideal.log (1 + Ideal.exp (0 - FloatOps.absf (F := Ideal) (φ := .f32) (∑ x : Fin 128, x4 (ix2 r x) * x5 (ix2 x c) + x6 (ix2 0 c))))) * Ideal.ofBits FTy.f32 1031798784#32

section
variable (x4 : Vec Ideal S512x128 .f32) (x5 : Vec Ideal S128x256 .bf16) (x6 : Vec Ideal S1x256 .f32)

theorem pay2_0 (r : Fin 512) (c : Fin 256) (h : c.val < 768) : k0_pay2 x4 x5 x6 (ix2 r ⟨c.val, h⟩) = laK x4 x5 x6 r c := by
  have hc := c.isLt
  unfold_payloads
  pointwise
  rfl

theorem pay2_1 (r : Fin 512) (c : Fin 256) (h : 256 + c.val < 768) :
    k0_pay2 x4 x5 x6 (ix2 r ⟨256 + c.val, h⟩) = laK x4 x5 x6 r c - laK x4 x5 x6 r c := by
  have hc := c.isLt
  have e : (⟨256 + c.val - 256, by omega⟩ : Fin 256) = c := by ext; show 256 + c.val - 256 = c.val; omega
  unfold_payloads
  pointwise
  rfl

theorem pay2_2 (r : Fin 512) (c : Fin 256) (h : 512 + c.val < 768) :
    k0_pay2 x4 x5 x6 (ix2 r ⟨512 + c.val, h⟩) = laK x4 x5 x6 r c - laK x4 x5 x6 r c - (laK x4 x5 x6 r c - laK x4 x5 x6 r c) := by
  have hc := c.isLt
  have e : (⟨512 + c.val - 256 - 256, by omega⟩ : Fin 256) = c := by ext; show 512 + c.val - 256 - 256 = c.val; omega
  unfold_payloads
  pointwise
  have e' : (⟨512 + c.val - 512, by omega⟩ : Fin 256) = c := by ext; show 512 + c.val - 512 = c.val; omega
  rw [dif_neg (by omega), dif_neg (by omega)]; simp only [e]; rfl

theorem pay4_at (r : Fin 256) (c : Fin 768) : k0_pay4 x4 x5 x6 (ix2 r c) = k0_pay2 x4 x5 x6 (ix2 ⟨r.val, by omega⟩ c) := by
  unfold k0_pay4
  pointwise
end

theorem pay3_at (x8 : Vec Ideal S256x256 .f32) : (k0_pay3 x8 : S256x256.Idx → EReal) = x8 := by
  funext y; unfold_payloads; pointwise

section
variable (x4 : Vec Ideal S512x128 .f32) (x5 : Vec Ideal S128x256 .bf16) (x6 : Vec Ideal S1x256 .f32) (x8 : Vec Ideal S256x256 .f32)
  (LA : ℕ → ℕ → EReal) (R h : ℕ) (hR : R % 256 = 0)
  (hla : ∀ r c, laK x4 x5 x6 r c = LA (R + r.val) (256 * h + c.val)) (htop : ∀ s c, LA s c ≠ ⊤)
  (h8 : ∀ i j : Fin 256, x8 (ix2 i j) = if i.val / 64 = j.val / 64 ∧ j.val ≤ i.val then 1 else 0)
include hR hla htop h8

theorem bB_at (r : Fin 512) (c : Fin 256) : bB x4 x5 x6 x8 (ix2 r c) = B LA (R + r.val) (256 * h + c.val) := by
  have key : ∀ (i : Fin 256) (q : ℕ) (hq : q < 2) (hr : r.val = 256 * q + i.val),
      ∑ x : Fin 256, x8 (ix2 i x) * LA (R + (256 * q + x.val)) (256 * h + c.val) = B LA (R + r.val) (256 * h + c.val) := by
    intro i q hq hr
    have hi := i.isLt
    have e : ∀ x : Fin 256, x8 (ix2 i x) * LA (R + (256 * q + x.val)) (256 * h + c.val)
        = if x.val / 64 = i.val / 64 then (fun n => if n ≤ i.val then LA (R + (256 * q + n)) (256 * h + c.val) else 0) x.val else 0 := by
      intro x
      rw [h8]
      by_cases h1 : x.val / 64 = i.val / 64
      · by_cases h2 : x.val ≤ i.val
        · rw [if_pos ⟨h1.symm, h2⟩, if_pos h1]; simp only [if_pos h2, one_mul]
        · rw [if_neg (fun t => h2 t.2), if_pos h1]; simp only [if_neg h2, zero_mul]
      · rw [if_neg (fun t => h1 t.1.symm), if_neg h1, zero_mul]
    refine (Finset.sum_congr rfl fun x _ => e x).trans ((sum_block (fun n => if n ≤ i.val then LA (R + (256 * q + n)) (256 * h + c.val) else 0) (i.val / 64) (by omega)).trans ?_)
    unfold B
    refine Finset.sum_congr rfl fun x _ => ?_
    have hx := x.isLt
    by_cases h2 : x.val ≤ (R + r.val) % 64
    · rw [if_pos h2, if_pos (by omega)]; congr 1; omega
    · rw [if_neg h2, if_neg (by omega)]
  unfold bB k0_pay5
  pointwise
  simp only [pay3_at]
  have hr := r.isLt
  by_cases h0 : r.val < 256
  · simp only [dif_pos h0, pay4_at, pay2_1, pay2_2]
    have e0 : ∀ x : Fin 256, k0_pay2 x4 x5 x6 (ix2 (⟨x.val, by omega⟩ : Fin 512) (⟨c.val, by omega⟩ : Fin 768)) = laK x4 x5 x6 ⟨x.val, by omega⟩ c :=
      fun x => pay2_0 x4 x5 x6 _ c _
    simp only [e0]
    rw [split_sum (fun x : Fin 256 => x8 (ix2 ⟨r.val, h0⟩ x)) (fun x : Fin 256 => laK x4 x5 x6 ⟨x.val, by omega⟩ c)]
    · simp only [hla]
      rw [← key ⟨r.val, h0⟩ 0 (by omega) (by simp)]
      simp
    · intro x; rw [h8]; split <;> simp
    · intro x; rw [hla]; exact htop _ _
  · simp only [dif_neg h0, pay2_1, pay2_2]
    have e0 : ∀ x : Fin 256, k0_pay2 x4 x5 x6 (ix2 (⟨256 + x.val, by omega⟩ : Fin 512) (⟨c.val, by omega⟩ : Fin 768)) = laK x4 x5 x6 ⟨256 + x.val, by omega⟩ c :=
      fun x => pay2_0 x4 x5 x6 _ c _
    simp only [e0]
    rw [split_sum (fun x : Fin 256 => x8 (ix2 ⟨r.val - 256, by omega⟩ x)) (fun x : Fin 256 => laK x4 x5 x6 ⟨256 + x.val, by omega⟩ c)]
    · simp only [hla]
      rw [← key ⟨r.val - 256, by omega⟩ 1 (by omega) (by show r.val = 256 * 1 + (r.val - 256); omega)]
    · intro x; rw [h8]; split <;> simp
    · intro x; rw [hla]; exact htop _ _

end

/-- The chunk's whole sum is the running sum at the chunk's last row. -/
theorem bT_eq (P : FVec Ideal S512x768 .bf16) (P0 : FVec Ideal S256x768 .bf16) (T : FVec Ideal S256x256 .bf16) (r : Fin 512) (c : Fin 256) :
    k0_pay6 P T P0 (ix2 r c) = k0_pay5 P T P0 (ix2 ⟨64 * (r.val / 64) + 63, by omega⟩ c) := by
  have hr := r.isLt
  unfold k0_pay6
  generalize k0_pay5 P T P0 = b
  pointwise
  have hk : r.val / 64 = 0 ∨ r.val / 64 = 1 ∨ r.val / 64 = 2 ∨ r.val / 64 = 3 ∨ r.val / 64 = 4 ∨ r.val / 64 = 5 ∨ r.val / 64 = 6 ∨ r.val / 64 = 7 := by omega
  rcases hk with e | e | e | e | e | e | e | e <;> simp only [e]
  · rw [dif_pos (by omega)]; rfl
  · rw [dif_neg (by omega), dif_pos (by omega)]; rfl
  · rw [dif_neg (by omega), dif_neg (by omega), dif_pos (by omega)]; rfl
  · rw [dif_neg (by omega), dif_neg (by omega), dif_neg (by omega), dif_pos (by omega)]; rfl
  · rw [dif_neg (by omega), dif_neg (by omega), dif_neg (by omega), dif_neg (by omega), dif_pos (by omega)]; rfl
  · rw [dif_neg (by omega), dif_neg (by omega), dif_neg (by omega), dif_neg (by omega), dif_neg (by omega), dif_pos (by omega)]; rfl
  · rw [dif_neg (by omega), dif_neg (by omega), dif_neg (by omega), dif_neg (by omega), dif_neg (by omega), dif_neg (by omega), dif_pos (by omega)]; rfl
  · rw [dif_neg (by omega), dif_neg (by omega), dif_neg (by omega), dif_neg (by omega), dif_neg (by omega), dif_neg (by omega), dif_neg (by omega)]; rfl

end Cert.GlaIdeal.Body
end
-- ==== Proof.GlaV.State.lean ====
/- The state and the output of one grid point, chunk by chunk. -/
module

public import proofs.«01_k».proof.Proof.GlaV.Block

@[expose] public section

set_option maxRecDepth 16384

noncomputable section

namespace Cert.GlaIdeal.Body

open Idealize.ShloMosaic Idealize.ShloMosaic.TcCoe Idealize.ShloMosaic.Tactic Cert.GlaIdeal.Gen Cert.GlaV

section
variable (x0 x1 : Vec Ideal S512x256 .bf16) (x2 x3 : Vec Ideal S512x512 .bf16) (x4 : Vec Ideal S512x128 .f32) (x5 : Vec Ideal S128x256 .bf16)
  (x6 : Vec Ideal S1x256 .f32) (x7 : Vec Ideal S1x512 .f32) (x8 : Vec Ideal S256x256 .f32) (xs0 : Vec Ideal S512x256 .f32)

/-- One chunk's update of the state. -/
def chunkStep (k : ℕ) (hk : k < 8) (s : FVec Ideal S512x256 .f32) : S512x256.Idx → EReal := fun y =>
  s y * Ideal.exp (bT x4 x5 x6 x8 (ix2 ⟨64 * k, by omega⟩ (y 1)))
    + ∑ r : Fin 64, x2 (ix2 ⟨64 * k + r.val, by omega⟩ (y 0)) * kE x1 x4 x5 x6 x8 (ix2 ⟨64 * k + r.val, by omega⟩ (y 1))

theorem pay9_eq : (k0_pay9 x2 : S512x512.Idx → EReal) = x2 := by
  funext y; unfold_payloads; pointwise

theorem pay8_eq : (k0_pay8 x1 : S512x256.Idx → EReal) = x1 := by
  funext y; unfold_payloads; pointwise

theorem qD_eq (y : S512x256.Idx) : qD x0 x4 x5 x6 x8 y = x0 y * Ideal.exp (bB x4 x5 x6 x8 y) := by
  unfold qD bB k0_pay10
  pointwise

theorem kE_eq (y : S512x256.Idx) : kE x1 x4 x5 x6 x8 y = x1 y * Ideal.exp (bT x4 x5 x6 x8 y - bB x4 x5 x6 x8 y) := by
  unfold kE k0_pay11
  pointwise
  rw [pay8_eq]

theorem s1_eq : (s1 x1 x2 x4 x5 x6 x8 xs0 : S512x256.Idx → EReal) = chunkStep x1 x2 x4 x5 x6 x8 0 (by omega) (xs0) := by
  funext y
  unfold s1 chunkStep k0_pay14
  pointwise [kE_eq]
  simp only [pay9_eq, pay8_eq]
  rfl

theorem s2_eq : (s2 x1 x2 x4 x5 x6 x8 xs0 : S512x256.Idx → EReal) = chunkStep x1 x2 x4 x5 x6 x8 1 (by omega) (s1 x1 x2 x4 x5 x6 x8 xs0) := by
  funext y
  unfold s2 chunkStep k0_pay17
  pointwise
  simp only [pay9_eq]

theorem s3_eq : (s3 x1 x2 x4 x5 x6 x8 xs0 : S512x256.Idx → EReal) = chunkStep x1 x2 x4 x5 x6 x8 2 (by omega) (s2 x1 x2 x4 x5 x6 x8 xs0) := by
  funext y
  unfold s3 chunkStep k0_pay22
  pointwise
  simp only [pay9_eq]

theorem s4_eq : (s4 x1 x2 x4 x5 x6 x8 xs0 : S512x256.Idx → EReal) = chunkStep x1 x2 x4 x5 x6 x8 3 (by omega) (s3 x1 x2 x4 x5 x6 x8 xs0) := by
  funext y
  unfold s4 chunkStep k0_pay27
  pointwise
  simp only [pay9_eq]

theorem s5_eq : (s5 x1 x2 x4 x5 x6 x8 xs0 : S512x256.Idx → EReal) = chunkStep x1 x2 x4 x5 x6 x8 4 (by omega) (s4 x1 x2 x4 x5 x6 x8 xs0) := by
  funext y
  unfold s5 chunkStep k0_pay31
  pointwise
  simp only [pay9_eq]

theorem s6_eq : (s6 x1 x2 x4 x5 x6 x8 xs0 : S512x256.Idx → EReal) = chunkStep x1 x2 x4 x5 x6 x8 5 (by omega) (s5 x1 x2 x4 x5 x6 x8 xs0) := by
  funext y
  unfold s6 chunkStep k0_pay34
  pointwise
  simp only [pay9_eq]

theorem s7_eq : (s7 x1 x2 x4 x5 x6 x8 xs0 : S512x256.Idx → EReal) = chunkStep x1 x2 x4 x5 x6 x8 6 (by omega) (s6 x1 x2 x4 x5 x6 x8 xs0) := by
  funext y
  unfold s7 chunkStep k0_pay38
  pointwise
  simp only [pay9_eq]

theorem s8_eq : (s8 x1 x2 x4 x5 x6 x8 xs0 : S512x256.Idx → EReal) = chunkStep x1 x2 x4 x5 x6 x8 7 (by omega) (s7 x1 x2 x4 x5 x6 x8 xs0) := by
  funext y
  unfold s8 chunkStep k0_pay41
  pointwise
  simp only [pay9_eq]

end
end Cert.GlaIdeal.Body
end
-- ==== Proof.GlaV.Point.lean ====
/- One grid point's state and output as the mathematics of its chunks. -/
module

public import proofs.«01_k».proof.Proof.GlaV.State

@[expose] public section

set_option maxRecDepth 16384

noncomputable section

namespace Cert.GlaIdeal.Body

open Idealize.ShloMosaic Idealize.ShloMosaic.TcCoe Idealize.ShloMosaic.Tactic Cert.GlaIdeal.Gen Cert.GlaV

/-- The point's blocks are the rows from `R` and the columns of head `h` of the arrays `Q`, `K`, `V`, `GR`; its gates are
    `LA`'s; and the mask is the chunks' causal mask. -/
structure Blk (x0 x1 : Vec Ideal S512x256 .bf16) (x2 x3 : Vec Ideal S512x512 .bf16) (x4 : Vec Ideal S512x128 .f32) (x5 : Vec Ideal S128x256 .bf16)
    (x6 : Vec Ideal S1x256 .f32) (x7 : Vec Ideal S1x512 .f32) (x8 : Vec Ideal S256x256 .f32)
    (Q K V GR LA : ℕ → ℕ → EReal) (G : ℕ → EReal) (R h : ℕ) : Prop where
  hR : R % 512 = 0
  h0 : ∀ r c, x0 (ix2 r c) = Q (R + r.val) (256 * h + c.val)
  h1 : ∀ r c, x1 (ix2 r c) = K (R + r.val) (256 * h + c.val)
  h2 : ∀ r c, x2 (ix2 r c) = V (R + r.val) (512 * h + c.val)
  h3 : ∀ r c, x3 (ix2 r c) = GR (R + r.val) (512 * h + c.val)
  hla : ∀ r c, laK x4 x5 x6 r c = LA (R + r.val) (256 * h + c.val)
  htop : ∀ s c, LA s c ≠ ⊤
  h7 : ∀ c, x7 (ix2 0 c) = G c.val
  h8 : ∀ i j : Fin 256, x8 (ix2 i j) = if i.val / 64 = j.val / 64 ∧ j.val ≤ i.val then 1 else 0

section
variable {x0 x1 : Vec Ideal S512x256 .bf16} {x2 x3 : Vec Ideal S512x512 .bf16} {x4 : Vec Ideal S512x128 .f32} {x5 : Vec Ideal S128x256 .bf16}
  {x6 : Vec Ideal S1x256 .f32} {x7 : Vec Ideal S1x512 .f32} {x8 : Vec Ideal S256x256 .f32} {xs0 : Vec Ideal S512x256 .f32}
  {Q K V GR LA : ℕ → ℕ → EReal} {G : ℕ → EReal} {R h : ℕ} (H : Blk x0 x1 x2 x3 x4 x5 x6 x7 x8 Q K V GR LA G R h)
include H

theorem bB_spec (r : Fin 512) (c : Fin 256) : bB x4 x5 x6 x8 (ix2 r c) = B LA (R + r.val) (256 * h + c.val) :=
  bB_at x4 x5 x6 x8 LA R h (by have := H.hR; omega) H.hla H.htop H.h8 r c

theorem bT_spec (r : Fin 512) (c : Fin 256) : bT x4 x5 x6 x8 (ix2 r c) = BL LA (R + r.val) (256 * h + c.val) := by
  have hR := H.hR
  refine (bT_eq _ _ _ r c).trans ((bB_spec H _ c).trans ?_)
  unfold BL
  congr 1
  show R + (64 * (r.val / 64) + 63) = 64 * ((R + r.val) / 64) + 63
  omega

theorem qD_spec (r : Fin 512) (c : Fin 256) : qD x0 x4 x5 x6 x8 (ix2 r c) = QD Q LA (R + r.val) (256 * h + c.val) := by
  rw [qD_eq, H.h0, bB_spec H]; rfl

theorem kE_spec (r : Fin 512) (c : Fin 256) : kE x1 x4 x5 x6 x8 (ix2 r c) = KE K LA (R + r.val) (256 * h + c.val) := by
  rw [kE_eq, H.h1, bB_spec H, bT_spec H]; rfl

theorem chunkStep_spec (k : ℕ) (hk : k < 8) (s : FVec Ideal S512x256 .f32)
    (hs : ∀ e d, s (ix2 e d) = ST K V LA h (R / 64 + k) e.val d.val) (e : Fin 512) (d : Fin 256) :
    chunkStep x1 x2 x4 x5 x6 x8 k hk s (ix2 e d) = ST K V LA h (R / 64 + (k + 1)) e.val d.val := by
  have hR := H.hR
  unfold chunkStep
  rw [hs]
  show _ = ST K V LA h (R / 64 + k + 1) e.val d.val
  rw [ST_succ]
  have e0 : R + 64 * k = 64 * (R / 64 + k) := by omega
  refine congrArg₂ (· + ·) (congrArg₂ (· * ·) rfl (congrArg Ideal.exp ?_)) (Finset.sum_congr rfl fun r _ => ?_)
  · exact (bT_spec H ⟨64 * k, by omega⟩ d).trans (by rw [← e0])
  · have e1 : R + (64 * k + r.val) = 64 * (R / 64 + k) + r.val := by omega
    exact (congrArg₂ (· * ·) (H.h2 ⟨64 * k + r.val, by omega⟩ e) (kE_spec H ⟨64 * k + r.val, by omega⟩ d)).trans (by
      show V (R + (64 * k + r.val)) _ * KE K LA (R + (64 * k + r.val)) _ = _
      rw [e1])

theorem oI_spec (r : Fin 512) (e : Fin 512) : oI x0 x1 x2 x4 x5 x6 x8 (ix2 r e) = OI Q K V LA h (R + r.val) e.val := by
  have hR := H.hR
  have key : ∀ (i : Fin 256) (q : ℕ) (hq : q < 2) (hr : r.val = 256 * q + i.val),
      ∑ x : Fin 256, (if 0 < x8 (ix2 i x) then
        ∑ d : Fin 256, QD Q LA (R + r.val) (256 * h + d.val) * KI K LA (R + (256 * q + x.val)) (256 * h + d.val) else 0) * V (R + (256 * q + x.val)) (512 * h + e.val)
      = OI Q K V LA h (R + r.val) e.val := by
    intro i q hq hr
    have hi := i.isLt
    refine (Finset.sum_congr rfl fun x _ => ?_).trans ((sum_block (fun n => if n ≤ i.val then
        (∑ d : Fin 256, QD Q LA (R + r.val) (256 * h + d.val) * KI K LA (R + (256 * q + n)) (256 * h + d.val)) * V (R + (256 * q + n)) (512 * h + e.val) else 0) (i.val / 64) (by omega)).trans ?_)
    · have e8 := H.h8 i x
      by_cases h1 : x.val / 64 = i.val / 64
      · by_cases h2 : x.val ≤ i.val
        · rw [if_pos ⟨h1.symm, h2⟩] at e8
          rw [if_pos h1, if_pos h2, e8, if_pos zero_lt_one]
        · rw [if_neg (fun t => h2 t.2)] at e8
          rw [if_pos h1, if_neg h2, e8, if_neg (lt_irrefl _), zero_mul]
      · rw [if_neg (fun t => h1 t.1.symm)] at e8
        rw [if_neg h1, e8, if_neg (lt_irrefl _), zero_mul]
    · unfold OI
      refine Finset.sum_congr rfl fun x _ => ?_
      have hx := x.isLt
      have e1 : R + (256 * q + (64 * (i.val / 64) + x.val)) = 64 * ((R + r.val) / 64) + x.val := by omega
      by_cases h2 : x.val ≤ (R + r.val) % 64
      · rw [if_pos h2, if_pos (by omega), e1]
      · rw [if_neg h2, if_neg (by omega), zero_mul]
  have hr := r.isLt
  unfold oI k0_pay12 k0_pay7
  pointwise
  simp only [pay8_eq, pay9_eq]
  by_cases h0 : r.val < 256
  · rw [dif_pos h0, ← key ⟨r.val, h0⟩ 0 (by omega) (by simp)]
    refine Finset.sum_congr rfl fun x _ => ?_
    refine congrArg₂ (· * ·) (if_congr Iff.rfl (Finset.sum_congr rfl fun d _ => ?_) rfl) ?_
    · rw [qD_spec H, H.h1, bB_spec H, Nat.mul_zero, Nat.zero_add]; rfl
    · rw [H.h2, Nat.mul_zero, Nat.zero_add]
  · rw [dif_neg h0, ← key ⟨r.val - 256, by omega⟩ 1 (by omega) (by show r.val = 256 * 1 + (r.val - 256); omega)]
    refine Finset.sum_congr rfl fun x _ => ?_
    refine congrArg₂ (· * ·) (if_congr Iff.rfl (Finset.sum_congr rfl fun d _ => ?_) rfl) ?_
    · rw [qD_spec H, H.h1, bB_spec H]
      have e2 : 256 + (r.val - 256) = r.val := by omega
      show QD Q LA (R + (256 + (r.val - 256))) _ * _ = _
      rw [e2]; rfl
    · rw [H.h2]

end
end Cert.GlaIdeal.Body
end
-- ==== Proof.GlaV.Out.lean ====
/- One grid point's output. -/
module

public import proofs.«01_k».proof.Proof.GlaV.Point

@[expose] public section

set_option maxRecDepth 16384

noncomputable section

namespace Cert.GlaIdeal.Body

open Idealize.ShloMosaic Idealize.ShloMosaic.TcCoe Idealize.ShloMosaic.Tactic Cert.GlaIdeal.Gen Cert.GlaV

section
variable (x0 x1 : Vec Ideal S512x256 .bf16) (x2 x3 : Vec Ideal S512x512 .bf16) (x4 : Vec Ideal S512x128 .f32) (x5 : Vec Ideal S128x256 .bf16)
  (x6 : Vec Ideal S1x256 .f32) (x7 : Vec Ideal S1x512 .f32) (x8 : Vec Ideal S256x256 .f32) (xs0 : Vec Ideal S512x256 .f32)

/-- The attention's output at row `r` of chunk `k`, from the state `s` before the chunk. -/
def chunkO (k : ℕ) (hk : k < 8) (s : FVec Ideal S512x256 .f32) (r : Fin 64) (e : Fin 512) : EReal :=
  oI x0 x1 x2 x4 x5 x6 x8 (ix2 ⟨64 * k + r.val, by omega⟩ e)
    + ∑ d : Fin 256, qD x0 x4 x5 x6 x8 (ix2 ⟨64 * k + r.val, by omega⟩ d) * s (ix2 e d)

/-- … normalised and gated. -/
def chunkOut (k : ℕ) (hk : k < 8) (s : FVec Ideal S512x256 .f32) (r : Fin 64) (e : Fin 512) : EReal :=
  chunkO x0 x1 x2 x4 x5 x6 x8 k hk s r e
    * Ideal.rsqrt (Ideal.div (∑ j : Fin 512, chunkO x0 x1 x2 x4 x5 x6 x8 k hk s r j * chunkO x0 x1 x2 x4 x5 x6 x8 k hk s r j) (Ideal.ofBits FTy.f32 1140850688#32) + Ideal.ofBits FTy.f32 897988541#32)
    * x7 (ix2 0 e) * (x3 (ix2 ⟨64 * k + r.val, by omega⟩ e) * Ideal.logistic (x3 (ix2 ⟨64 * k + r.val, by omega⟩ e)))

section
variable {x0 x1 x2 x3 x4 x5 x6 x7 x8} {Q K V GR LA : ℕ → ℕ → EReal} {G : ℕ → EReal} {R h : ℕ} (H : Blk x0 x1 x2 x3 x4 x5 x6 x7 x8 Q K V GR LA G R h)
include H

theorem chunkO_spec (k : ℕ) (hk : k < 8) (s : FVec Ideal S512x256 .f32) (hs : ∀ e d, s (ix2 e d) = ST K V LA h (R / 64 + k) e.val d.val)
    (r : Fin 64) (e : Fin 512) : chunkO x0 x1 x2 x4 x5 x6 x8 k hk s r e = O Q K V LA h (R + (64 * k + r.val)) e.val := by
  have hR := H.hR
  unfold chunkO O
  rw [oI_spec H]
  refine congrArg₂ (· + ·) rfl (Finset.sum_congr rfl fun d _ => ?_)
  rw [qD_spec H, hs]
  have e0 : (R + (64 * k + r.val)) / 64 = R / 64 + k := by omega
  rw [e0]

theorem chunkOut_spec (k : ℕ) (hk : k < 8) (s : FVec Ideal S512x256 .f32) (hs : ∀ e d, s (ix2 e d) = ST K V LA h (R / 64 + k) e.val d.val)
    (r : Fin 64) (e : Fin 512) : chunkOut x0 x1 x2 x3 x4 x5 x6 x7 x8 k hk s r e = OUT Q K V GR LA G h (R + (64 * k + r.val)) e.val := by
  unfold chunkOut OUT
  simp only [chunkO_spec H k hk s hs, H.h7, H.h3]
end

theorem piece0 (r : Fin 64) (e : Fin 512) : k0_pay15 (k0_pay13 (bB x4 x5 x6 x8) (k0_pay7 x8) (k0_pay8 x1) (k0_pay9 x2) (qD x0 x4 x5 x6 x8) xs0) x7 (View.ld (Val := Elt Ideal) x3 (Rect.unit (s := S512x512) ![0, 0] S64x512.size inb_S512x512_S64x512_0_0)) (ix2 r e) = chunkOut x0 x1 x2 x3 x4 x5 x6 x7 x8 0 (by omega) xs0 r e := by
  have e0 : ∀ y, k0_pay12 (bB x4 x5 x6 x8) (k0_pay7 x8) (k0_pay8 x1) (k0_pay9 x2) (qD x0 x4 x5 x6 x8) y = oI x0 x1 x2 x4 x5 x6 x8 y := fun _ => rfl
  unfold chunkOut chunkO k0_pay15 k0_pay13
  pointwise [e0]
  try rfl

theorem piece1 (r : Fin 64) (e : Fin 512) : k0_pay20 (k0_pay16 (qD x0 x4 x5 x6 x8) (oI x0 x1 x2 x4 x5 x6 x8) (s1 x1 x2 x4 x5 x6 x8 xs0)) (k0_pay18 x7) (k0_pay19 (qD x0 x4 x5 x6 x8) (oI x0 x1 x2 x4 x5 x6 x8) (s1 x1 x2 x4 x5 x6 x8 xs0)) (View.ld (Val := Elt Ideal) x3 (Rect.unit (s := S512x512) ![64, 0] S64x512.size inb_S512x512_S64x512_64_0)) (ix2 r e) = chunkOut x0 x1 x2 x3 x4 x5 x6 x7 x8 1 (by omega) (s1 x1 x2 x4 x5 x6 x8 xs0) r e := by
  generalize hs : s1 x1 x2 x4 x5 x6 x8 xs0 = s
  unfold chunkOut chunkO k0_pay20 k0_pay18 k0_pay19 k0_pay16
  pointwise
  try rfl

theorem piece2 (r : Fin 64) (e : Fin 512) : k0_pay25 (k0_pay21 (qD x0 x4 x5 x6 x8) (oI x0 x1 x2 x4 x5 x6 x8) (s2 x1 x2 x4 x5 x6 x8 xs0)) (k0_pay23 x7) (k0_pay24 (qD x0 x4 x5 x6 x8) (oI x0 x1 x2 x4 x5 x6 x8) (s2 x1 x2 x4 x5 x6 x8 xs0)) (View.ld (Val := Elt Ideal) x3 (Rect.unit (s := S512x512) ![128, 0] S64x512.size inb_S512x512_S64x512_128_0)) (ix2 r e) = chunkOut x0 x1 x2 x3 x4 x5 x6 x7 x8 2 (by omega) (s2 x1 x2 x4 x5 x6 x8 xs0) r e := by
  generalize hs : s2 x1 x2 x4 x5 x6 x8 xs0 = s
  unfold chunkOut chunkO k0_pay25 k0_pay23 k0_pay24 k0_pay21
  pointwise
  try rfl

theorem piece3 (r : Fin 64) (e : Fin 512) : k0_pay30 (k0_pay26 (qD x0 x4 x5 x6 x8) (oI x0 x1 x2 x4 x5 x6 x8) (s3 x1 x2 x4 x5 x6 x8 xs0)) (k0_pay28 x7) (k0_pay29 (qD x0 x4 x5 x6 x8) (oI x0 x1 x2 x4 x5 x6 x8) (s3 x1 x2 x4 x5 x6 x8 xs0)) (View.ld (Val := Elt Ideal) x3 (Rect.unit (s := S512x512) ![192, 0] S64x512.size inb_S512x512_S64x512_192_0)) (ix2 r e) = chunkOut x0 x1 x2 x3 x4 x5 x6 x7 x8 3 (by omega) (s3 x1 x2 x4 x5 x6 x8 xs0) r e := by
  generalize hs : s3 x1 x2 x4 x5 x6 x8 xs0 = s
  unfold chunkOut chunkO k0_pay30 k0_pay28 k0_pay29 k0_pay26
  pointwise
  try rfl

theorem piece4 (r : Fin 64) (e : Fin 512) : k0_pay33 (k0_pay32 (qD x0 x4 x5 x6 x8) (oI x0 x1 x2 x4 x5 x6 x8) (s4 x1 x2 x4 x5 x6 x8 xs0) x7) (View.ld (Val := Elt Ideal) x3 (Rect.unit (s := S512x512) ![256, 0] S64x512.size inb_S512x512_S64x512_256_0)) (ix2 r e) = chunkOut x0 x1 x2 x3 x4 x5 x6 x7 x8 4 (by omega) (s4 x1 x2 x4 x5 x6 x8 xs0) r e := by
  generalize hs : s4 x1 x2 x4 x5 x6 x8 xs0 = s
  unfold chunkOut chunkO k0_pay33 k0_pay32
  pointwise
  try rfl

theorem piece5 (r : Fin 64) (e : Fin 512) : k0_pay37 (k0_pay35 (qD x0 x4 x5 x6 x8) (oI x0 x1 x2 x4 x5 x6 x8) (s5 x1 x2 x4 x5 x6 x8 xs0) x7) (k0_pay36 (View.ld (Val := Elt Ideal) x3 (Rect.unit (s := S512x512) ![320, 0] S64x512.size inb_S512x512_S64x512_320_0))) (ix2 r e) = chunkOut x0 x1 x2 x3 x4 x5 x6 x7 x8 5 (by omega) (s5 x1 x2 x4 x5 x6 x8 xs0) r e := by
  generalize hs : s5 x1 x2 x4 x5 x6 x8 xs0 = s
  unfold chunkOut chunkO k0_pay37 k0_pay35 k0_pay36
  pointwise
  try rfl

theorem piece6 (r : Fin 64) (e : Fin 512) : k0_pay40 (k0_pay39 (qD x0 x4 x5 x6 x8) (oI x0 x1 x2 x4 x5 x6 x8) (s6 x1 x2 x4 x5 x6 x8 xs0) x7 (View.ld (Val := Elt Ideal) x3 (Rect.unit (s := S512x512) ![384, 0] S64x512.size inb_S512x512_S64x512_384_0))) (ix2 r e) = chunkOut x0 x1 x2 x3 x4 x5 x6 x7 x8 6 (by omega) (s6 x1 x2 x4 x5 x6 x8 xs0) r e := by
  generalize hs : s6 x1 x2 x4 x5 x6 x8 xs0 = s
  unfold chunkOut chunkO k0_pay40 k0_pay39
  pointwise
  try rfl

theorem piece7 (r : Fin 64) (e : Fin 512) : k0_pay42 (qD x0 x4 x5 x6 x8) (oI x0 x1 x2 x4 x5 x6 x8) (s7 x1 x2 x4 x5 x6 x8 xs0) x7 (View.ld (Val := Elt Ideal) x3 (Rect.unit (s := S512x512) ![448, 0] S64x512.size inb_S512x512_S64x512_448_0)) (ix2 r e) = chunkOut x0 x1 x2 x3 x4 x5 x6 x7 x8 7 (by omega) (s7 x1 x2 x4 x5 x6 x8 xs0) r e := by
  generalize hs : s7 x1 x2 x4 x5 x6 x8 xs0 = s
  unfold chunkOut chunkO k0_pay42
  pointwise
  try rfl

end
end Cert.GlaIdeal.Body
end
-- ==== Proof.GlaV.PointVal.lean ====
/- What one grid point leaves in the state and in its output block. -/
module

public import proofs.«01_k».proof.Proof.GlaV.Out

@[expose] public section

set_option maxRecDepth 16384

noncomputable section

namespace Cert.GlaIdeal.Body

open Idealize.ShloMosaic Idealize.ShloMosaic.TcCoe Idealize.ShloMosaic.Tactic Cert.GlaIdeal.Gen Cert.GlaV

section
variable (c : Dev nD) (i : grid0.Coords)
  (arg2 : Memref sig .tc .vmem S512x256 .bf16) (harg2 : arg2.IsWhole) (arg3 : Memref sig .tc .vmem S512x256 .bf16) (harg3 : arg3.IsWhole)
  (arg4 : Memref sig .tc .vmem S512x512 .bf16) (harg4 : arg4.IsWhole) (arg5 : Memref sig .tc .vmem S512x512 .bf16) (harg5 : arg5.IsWhole)
  (arg6 : Memref sig .tc .vmem S512x128 .f32) (harg6 : arg6.IsWhole) (arg7 : Memref sig .tc .vmem S128x256 .bf16) (harg7 : arg7.IsWhole)
  (arg8 : Memref sig .tc .vmem S1x256 .f32) (harg8 : arg8.IsWhole) (arg9 : Memref sig .tc .vmem S1x512 .f32) (harg9 : arg9.IsWhole)
  (arg10 : Memref sig .tc .vmem S256x256 .f32) (harg10 : arg10.IsWhole) (arg11 : Memref sig .tc .vmem S512x512 .bf16) (harg11 : arg11.IsWhole)
  (arg12 : Memref sig .tc .vmem S512x256 .f32) (harg12 : arg12.IsWhole)
  {x0 x1 : Vec Ideal S512x256 .bf16} {x2 x3 : Vec Ideal S512x512 .bf16} {x4 : Vec Ideal S512x128 .f32} {x5 : Vec Ideal S128x256 .bf16}
  {x6 : Vec Ideal S1x256 .f32} {x7 : Vec Ideal S1x512 .f32} {x8 : Vec Ideal S256x256 .f32} {xs0 : Vec Ideal S512x256 .f32}
  {Q K V GR LA : ℕ → ℕ → EReal} {G : ℕ → EReal} {R h : ℕ} (H : Blk x0 x1 x2 x3 x4 x5 x6 x7 x8 Q K V GR LA G R h)
include H

theorem s1_spec (hs : ∀ e d, xs0 (ix2 e d) = ST K V LA h (R / 64) e.val d.val) (e : Fin 512) (d : Fin 256) :
    s1 x1 x2 x4 x5 x6 x8 xs0 (ix2 e d) = ST K V LA h (R / 64 + 1) e.val d.val := by
  rw [s1_eq]; exact chunkStep_spec H 0 (by omega) _ (hs) e d
theorem s2_spec (hs : ∀ e d, xs0 (ix2 e d) = ST K V LA h (R / 64) e.val d.val) (e : Fin 512) (d : Fin 256) :
    s2 x1 x2 x4 x5 x6 x8 xs0 (ix2 e d) = ST K V LA h (R / 64 + 2) e.val d.val := by
  rw [s2_eq]; exact chunkStep_spec H 1 (by omega) _ (s1_spec H hs) e d
theorem s3_spec (hs : ∀ e d, xs0 (ix2 e d) = ST K V LA h (R / 64) e.val d.val) (e : Fin 512) (d : Fin 256) :
    s3 x1 x2 x4 x5 x6 x8 xs0 (ix2 e d) = ST K V LA h (R / 64 + 3) e.val d.val := by
  rw [s3_eq]; exact chunkStep_spec H 2 (by omega) _ (s2_spec H hs) e d
theorem s4_spec (hs : ∀ e d, xs0 (ix2 e d) = ST K V LA h (R / 64) e.val d.val) (e : Fin 512) (d : Fin 256) :
    s4 x1 x2 x4 x5 x6 x8 xs0 (ix2 e d) = ST K V LA h (R / 64 + 4) e.val d.val := by
  rw [s4_eq]; exact chunkStep_spec H 3 (by omega) _ (s3_spec H hs) e d
theorem s5_spec (hs : ∀ e d, xs0 (ix2 e d) = ST K V LA h (R / 64) e.val d.val) (e : Fin 512) (d : Fin 256) :
    s5 x1 x2 x4 x5 x6 x8 xs0 (ix2 e d) = ST K V LA h (R / 64 + 5) e.val d.val := by
  rw [s5_eq]; exact chunkStep_spec H 4 (by omega) _ (s4_spec H hs) e d
theorem s6_spec (hs : ∀ e d, xs0 (ix2 e d) = ST K V LA h (R / 64) e.val d.val) (e : Fin 512) (d : Fin 256) :
    s6 x1 x2 x4 x5 x6 x8 xs0 (ix2 e d) = ST K V LA h (R / 64 + 6) e.val d.val := by
  rw [s6_eq]; exact chunkStep_spec H 5 (by omega) _ (s5_spec H hs) e d
theorem s7_spec (hs : ∀ e d, xs0 (ix2 e d) = ST K V LA h (R / 64) e.val d.val) (e : Fin 512) (d : Fin 256) :
    s7 x1 x2 x4 x5 x6 x8 xs0 (ix2 e d) = ST K V LA h (R / 64 + 7) e.val d.val := by
  rw [s7_eq]; exact chunkStep_spec H 6 (by omega) _ (s6_spec H hs) e d
theorem s8_spec (hs : ∀ e d, xs0 (ix2 e d) = ST K V LA h (R / 64) e.val d.val) (e : Fin 512) (d : Fin 256) :
    s8 x1 x2 x4 x5 x6 x8 xs0 (ix2 e d) = ST K V LA h (R / 64 + 8) e.val d.val := by
  rw [s8_eq]; exact chunkStep_spec H 7 (by omega) _ (s7_spec H hs) e d

/-- The block of the output: the specification at the point's rows and head. -/
def outG (Q K V GR LA : ℕ → ℕ → EReal) (G : ℕ → EReal) (R h : ℕ) : S512x512.Idx → EReal := fun y => OUT Q K V GR LA G h (R + (y 0).val) (y 1).val

omit H in
theorem emb_ix (o k : ℕ) (ho : o = 64 * k) (inb : ∀ a, (![o, 0] : Fin 2 → ℕ) a + S64x512.size a ≤ S512x512.size a) (hk : k < 8) (x : S64x512.Idx) :
    (Rect.unit (s := S512x512) ![o, 0] S64x512.size inb).emb x = ix2 ⟨64 * k + (x 0).val, by have := (x 0).isLt; have : (x 0).val < 64 := this; omega⟩ (x 1) := by
  subst ho
  funext a
  ext
  fin_cases a
  · show 64 * k + 1 * (x 0).val = 64 * k + (x 0).val; omega
  · show 0 + 1 * (x 1).val = (x 1).val; omega

theorem sout_B_spec (hc0 : ¬cond0_0 i) (hs : ∀ e d, xs0 (ix2 e d) = ST K V LA h (R / 64) e.val d.val) (e : Fin 512) (d : Fin 256) :
    sout0_B_0 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 (ix2 e d) = ST K V LA h (R / 64 + 8) e.val d.val := by
  rw [sout_B]
  exact s8_spec H hs e d

theorem out_B_spec (hc0 : ¬cond0_0 i) (hs : ∀ e d, xs0 (ix2 e d) = ST K V LA h (R / 64) e.val d.val) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 x8 xs0 = outG Q K V GR LA G R h := by
  frame_out
  try simp only [read_unread_whole]
  funext y
  refine View.canon_apply_of_pieces (Val := Elt Ideal) (S := S512x512) (e := .bf16) (outG Q K V GR LA G R h) _ ?_ y (View.cover_of_tiledL (Val := Elt Ideal) (s := S512x512) (e := .bf16) _ S64x512.size (by sl_kernel_rfl) y)
  refine View.PiecesOf.mem ?_
  refine ⟨?_, ?_, ?_, ?_, ?_, ?_, ?_, ?_, trivial⟩
  · intro (x : S64x512.Idx)
    have e := (piece7 x0 x1 x2 x3 x4 x5 x6 x7 x8 xs0 (x 0) (x 1)).trans (chunkOut_spec H 7 (by omega) _ (s7_spec H hs) (x 0) (x 1))
    exact (congrArg _ (eq_ix2 x)).trans (e.trans (congrArg (outG Q K V GR LA G R h) (emb_ix 448 7 rfl inb_S512x512_S64x512_448_0 (by omega) x)).symm)
  · intro (x : S64x512.Idx)
    have e := (piece6 x0 x1 x2 x3 x4 x5 x6 x7 x8 xs0 (x 0) (x 1)).trans (chunkOut_spec H 6 (by omega) _ (s6_spec H hs) (x 0) (x 1))
    exact (congrArg _ (eq_ix2 x)).trans (e.trans (congrArg (outG Q K V GR LA G R h) (emb_ix 384 6 rfl inb_S512x512_S64x512_384_0 (by omega) x)).symm)
  · intro (x : S64x512.Idx)
    have e := (piece5 x0 x1 x2 x3 x4 x5 x6 x7 x8 xs0 (x 0) (x 1)).trans (chunkOut_spec H 5 (by omega) _ (s5_spec H hs) (x 0) (x 1))
    exact (congrArg _ (eq_ix2 x)).trans (e.trans (congrArg (outG Q K V GR LA G R h) (emb_ix 320 5 rfl inb_S512x512_S64x512_320_0 (by omega) x)).symm)
  · intro (x : S64x512.Idx)
    have e := (piece4 x0 x1 x2 x3 x4 x5 x6 x7 x8 xs0 (x 0) (x 1)).trans (chunkOut_spec H 4 (by omega) _ (s4_spec H hs) (x 0) (x 1))
    exact (congrArg _ (eq_ix2 x)).trans (e.trans (congrArg (outG Q K V GR LA G R h) (emb_ix 256 4 rfl inb_S512x512_S64x512_256_0 (by omega) x)).symm)
  · intro (x : S64x512.Idx)
    have e := (piece3 x0 x1 x2 x3 x4 x5 x6 x7 x8 xs0 (x 0) (x 1)).trans (chunkOut_spec H 3 (by omega) _ (s3_spec H hs) (x 0) (x 1))
    exact (congrArg _ (eq_ix2 x)).trans (e.trans (congrArg (outG Q K V GR LA G R h) (emb_ix 192 3 rfl inb_S512x512_S64x512_192_0 (by omega) x)).symm)
  · intro (x : S64x512.Idx)
    have e := (piece2 x0 x1 x2 x3 x4 x5 x6 x7 x8 xs0 (x 0) (x 1)).trans (chunkOut_spec H 2 (by omega) _ (s2_spec H hs) (x 0) (x 1))
    exact (congrArg _ (eq_ix2 x)).trans (e.trans (congrArg (outG Q K V GR LA G R h) (emb_ix 128 2 rfl inb_S512x512_S64x512_128_0 (by omega) x)).symm)
  · intro (x : S64x512.Idx)
    have e := (piece1 x0 x1 x2 x3 x4 x5 x6 x7 x8 xs0 (x 0) (x 1)).trans (chunkOut_spec H 1 (by omega) _ (s1_spec H hs) (x 0) (x 1))
    exact (congrArg _ (eq_ix2 x)).trans (e.trans (congrArg (outG Q K V GR LA G R h) (emb_ix 64 1 rfl inb_S512x512_S64x512_64_0 (by omega) x)).symm)
  · intro (x : S64x512.Idx)
    have e := (piece0 x0 x1 x2 x3 x4 x5 x6 x7 x8 xs0 (x 0) (x 1)).trans (chunkOut_spec H 0 (by omega) _ (hs) (x 0) (x 1))
    exact (congrArg _ (eq_ix2 x)).trans (e.trans (congrArg (outG Q K V GR LA G R h) (emb_ix 0 0 rfl inb_S512x512_S64x512_0_0 (by omega) x)).symm)
theorem sout_A_spec (hc0 : cond0_0 i) (hR0 : R = 0) (e : Fin 512) (d : Fin 256) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 x8  (ix2 e d) = ST K V LA h (R / 64 + 8) e.val d.val := by
  have hs : ∀ (e : Fin 512) (d : Fin 256), k0_pay1 (F := Ideal) (ix2 e d) = ST K V LA h (R / 64) e.val d.val := by
    intro e d
    subst hR0
    unfold_payloads
    pointwise
    rfl
  rw [sout_A]
  exact s8_spec H hs e d

theorem out_A_spec (hc0 : cond0_0 i) (hR0 : R = 0) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 x8  = outG Q K V GR LA G R h := by
  have hs : ∀ (e : Fin 512) (d : Fin 256), k0_pay1 (F := Ideal) (ix2 e d) = ST K V LA h (R / 64) e.val d.val := by
    intro e d
    subst hR0
    unfold_payloads
    pointwise
    rfl
  frame_out
  try simp only [read_unread_whole]
  funext y
  refine View.canon_apply_of_pieces (Val := Elt Ideal) (S := S512x512) (e := .bf16) (outG Q K V GR LA G R h) _ ?_ y (View.cover_of_tiledL (Val := Elt Ideal) (s := S512x512) (e := .bf16) _ S64x512.size (by sl_kernel_rfl) y)
  refine View.PiecesOf.mem ?_
  refine ⟨?_, ?_, ?_, ?_, ?_, ?_, ?_, ?_, trivial⟩
  · intro (x : S64x512.Idx)
    have e := (piece7 x0 x1 x2 x3 x4 x5 x6 x7 x8 (k0_pay1 (F := Ideal)) (x 0) (x 1)).trans (chunkOut_spec H 7 (by omega) _ (s7_spec H hs) (x 0) (x 1))
    exact (congrArg _ (eq_ix2 x)).trans (e.trans (congrArg (outG Q K V GR LA G R h) (emb_ix 448 7 rfl inb_S512x512_S64x512_448_0 (by omega) x)).symm)
  · intro (x : S64x512.Idx)
    have e := (piece6 x0 x1 x2 x3 x4 x5 x6 x7 x8 (k0_pay1 (F := Ideal)) (x 0) (x 1)).trans (chunkOut_spec H 6 (by omega) _ (s6_spec H hs) (x 0) (x 1))
    exact (congrArg _ (eq_ix2 x)).trans (e.trans (congrArg (outG Q K V GR LA G R h) (emb_ix 384 6 rfl inb_S512x512_S64x512_384_0 (by omega) x)).symm)
  · intro (x : S64x512.Idx)
    have e := (piece5 x0 x1 x2 x3 x4 x5 x6 x7 x8 (k0_pay1 (F := Ideal)) (x 0) (x 1)).trans (chunkOut_spec H 5 (by omega) _ (s5_spec H hs) (x 0) (x 1))
    exact (congrArg _ (eq_ix2 x)).trans (e.trans (congrArg (outG Q K V GR LA G R h) (emb_ix 320 5 rfl inb_S512x512_S64x512_320_0 (by omega) x)).symm)
  · intro (x : S64x512.Idx)
    have e := (piece4 x0 x1 x2 x3 x4 x5 x6 x7 x8 (k0_pay1 (F := Ideal)) (x 0) (x 1)).trans (chunkOut_spec H 4 (by omega) _ (s4_spec H hs) (x 0) (x 1))
    exact (congrArg _ (eq_ix2 x)).trans (e.trans (congrArg (outG Q K V GR LA G R h) (emb_ix 256 4 rfl inb_S512x512_S64x512_256_0 (by omega) x)).symm)
  · intro (x : S64x512.Idx)
    have e := (piece3 x0 x1 x2 x3 x4 x5 x6 x7 x8 (k0_pay1 (F := Ideal)) (x 0) (x 1)).trans (chunkOut_spec H 3 (by omega) _ (s3_spec H hs) (x 0) (x 1))
    exact (congrArg _ (eq_ix2 x)).trans (e.trans (congrArg (outG Q K V GR LA G R h) (emb_ix 192 3 rfl inb_S512x512_S64x512_192_0 (by omega) x)).symm)
  · intro (x : S64x512.Idx)
    have e := (piece2 x0 x1 x2 x3 x4 x5 x6 x7 x8 (k0_pay1 (F := Ideal)) (x 0) (x 1)).trans (chunkOut_spec H 2 (by omega) _ (s2_spec H hs) (x 0) (x 1))
    exact (congrArg _ (eq_ix2 x)).trans (e.trans (congrArg (outG Q K V GR LA G R h) (emb_ix 128 2 rfl inb_S512x512_S64x512_128_0 (by omega) x)).symm)
  · intro (x : S64x512.Idx)
    have e := (piece1 x0 x1 x2 x3 x4 x5 x6 x7 x8 (k0_pay1 (F := Ideal)) (x 0) (x 1)).trans (chunkOut_spec H 1 (by omega) _ (s1_spec H hs) (x 0) (x 1))
    exact (congrArg _ (eq_ix2 x)).trans (e.trans (congrArg (outG Q K V GR LA G R h) (emb_ix 64 1 rfl inb_S512x512_S64x512_64_0 (by omega) x)).symm)
  · intro (x : S64x512.Idx)
    have e := (piece0 x0 x1 x2 x3 x4 x5 x6 x7 x8 (k0_pay1 (F := Ideal)) (x 0) (x 1)).trans (chunkOut_spec H 0 (by omega) _ (hs) (x 0) (x 1))
    exact (congrArg _ (eq_ix2 x)).trans (e.trans (congrArg (outG Q K V GR LA G R h) (emb_ix 0 0 rfl inb_S512x512_S64x512_0_0 (by omega) x)).symm)

end
end Cert.GlaIdeal.Body
end
-- ==== Proof.GlaV.Scatter.lean ====
/- A slab written into a matrix at a fixed place, read at an element. -/
module

public import Idealize.ShloMosaic.Lib.Pointwise
public import Idealize.ShloMosaic.Lib.Routing.OpsSet

@[expose] public section

noncomputable section

namespace Cert.GlaV

open Idealize.ShloMosaic Idealize.ShloMosaic.Routing

variable {α : Type} {R C n k w : ℕ} {si : Shape} (d : ScatterDims (⟨2, ![R, C]⟩ : Shape) si (⟨2, ![n, k]⟩ : Shape)) (idx : IVec si w) (p q : ℕ)

/-- An update of a slab whose corner is at `(p, q)` lands at its own coordinates moved by the corner. -/
theorem slab_lands (h0 : ∀ j, d.start j idx 0 = p) (h1 : ∀ j, d.start j idx 1 = q)
    (w0 : ∀ j, d.window j 0 = (j 0).val) (w1 : ∀ j, d.window j 1 = (j 1).val) (y : Fin n) (z : Fin k) (i : Fin R) (j : Fin C) :
    d.resultIdx? (ix2 y z) idx = some (ix2 i j) ↔ p + y.val = i.val ∧ q + z.val = j.val := by
  have e0 : d.start (ix2 y z) idx 0 + d.window (ix2 y z) 0 = ((p + y.val : ℕ) : ℤ) := by rw [h0, w0]; rfl
  have e1 : d.start (ix2 y z) idx 1 + d.window (ix2 y z) 1 = ((q + z.val : ℕ) : ℤ) := by rw [h1, w1]; rfl
  unfold ScatterDims.resultIdx?
  constructor
  · intro h
    split at h
    · have h := Option.some.inj h
      have a0 := congrArg Fin.val (congrFun h 0)
      have a1 := congrArg Fin.val (congrFun h 1)
      have a0 : (d.start (ix2 y z) idx 0 + d.window (ix2 y z) 0).toNat = i.val := a0
      have a1 : (d.start (ix2 y z) idx 1 + d.window (ix2 y z) 1).toNat = j.val := a1
      rw [e0] at a0; rw [e1] at a1
      exact ⟨by omega, by omega⟩
    · cases h
  · rintro ⟨a0, a1⟩
    rw [dif_pos]
    · congr 1
      funext a
      match a with
      | 0 => exact Fin.ext (by show (d.start (ix2 y z) idx 0 + d.window (ix2 y z) 0).toNat = i.val; rw [e0]; omega)
      | 1 => exact Fin.ext (by show (d.start (ix2 y z) idx 1 + d.window (ix2 y z) 1).toNat = j.val; rw [e1]; omega)
    · intro a
      match a with
      | 0 =>
        show 0 ≤ d.start (ix2 y z) idx 0 + d.window (ix2 y z) 0 ∧ d.start (ix2 y z) idx 0 + d.window (ix2 y z) 0 < (R : ℤ)
        rw [e0]; have := i.isLt; omega
      | 1 =>
        show 0 ≤ d.start (ix2 y z) idx 1 + d.window (ix2 y z) 1 ∧ d.start (ix2 y z) idx 1 + d.window (ix2 y z) 1 < (C : ℤ)
        rw [e1]; have := j.isLt; omega

/-- The slab's element where it covers, the matrix's own elsewhere. -/
theorem scatter_slab (x0 : (⟨2, ![R, C]⟩ : Shape).Idx → α) (upd : (⟨2, ![n, k]⟩ : Shape).Idx → α)
    (h0 : ∀ j, d.start j idx 0 = p) (h1 : ∀ j, d.start j idx 1 = q)
    (w0 : ∀ j, d.window j 0 = (j 0).val) (w1 : ∀ j, d.window j 1 = (j 1).val) (i : Fin R) (j : Fin C) :
    Host.scatter d (fun _ b => b) x0 idx upd (ix2 i j)
      = if h : p ≤ i.val ∧ i.val < p + n ∧ q ≤ j.val ∧ j.val < q + k then upd (ix2 ⟨i.val - p, by omega⟩ ⟨j.val - q, by omega⟩) else x0 (ix2 i j) := by
  split
  · rename_i h
    refine scatter_set_hit d x0 idx upd _ _ (fun κ hκ => ?_) (ix2 ⟨i.val - p, by omega⟩ ⟨j.val - q, by omega⟩) ?_
    · obtain ⟨y, z, rfl⟩ : ∃ y z, κ = ix2 y z := ⟨κ 0, κ 1, eq_ix2 κ⟩
      have := (slab_lands d idx p q h0 h1 w0 w1 y z i j).1 hκ
      congr 2 <;> apply Fin.ext <;> dsimp only <;> omega
    · exact (slab_lands d idx p q h0 h1 w0 w1 _ _ i j).2 ⟨by dsimp only; omega, by dsimp only; omega⟩
  · rename_i h
    refine scatter_set_miss d x0 idx upd _ fun κ hκ => h ?_
    obtain ⟨y, z, rfl⟩ : ∃ y z, κ = ix2 y z := ⟨κ 0, κ 1, eq_ix2 κ⟩
    have := (slab_lands d idx p q h0 h1 w0 w1 y z i j).1 hκ
    have := y.isLt; have := z.isLt
    omega

end Cert.GlaV
-- ==== Proof.GlaV.Args.lean ====
/- What the recurrence's arrays are in the layer's arguments: the projection's columns, and the gate's logarithm. -/
module

public import proofs.«01_k».proof.Proof.GlaV.Spec

@[expose] public section

noncomputable section

namespace Cert.GlaV

open Idealize.ShloMosaic

variable (X W : ℕ → ℕ → EReal) (Bg : ℕ → EReal)

/-- 1/16, the scale of the queries and of the gates. -/
abbrev k16 : EReal := Ideal.ofBits FTy.f32 1031798784#32

/-- Queries (scaled), keys, values and output gates. -/
def qA (s c : ℕ) : EReal := X s (6160 + c) * k16
def kA (s c : ℕ) : EReal := X s (7184 + c)
def vA (s e : ℕ) : EReal := X s (8208 + e)
def rA (s e : ℕ) : EReal := X s (10256 + e)
/-- The gate's low-rank product, with its bias, … -/
def gA (s c : ℕ) : EReal := (∑ j : Fin 16, X s (12304 + j.val) * W j.val c) + Bg c
/-- … and its logarithm: a sixteenth of the log-sigmoid. -/
def laA (s c : ℕ) : EReal :=
  (min (gA X W Bg s c) 0 - Ideal.log (1 + Ideal.exp (0 - (FloatOps.absf (F := Ideal) (φ := .f32) (gA X W Bg s c))))) * k16

theorem k16_eq : k16 = ((1 / 16 : ℝ) : EReal) := by
  simp [k16, Ideal.ofBits, Ideal.ieee, -EReal.coe_mul]; norm_num

theorem one_bits : Ideal.ofBits FTy.f32 1065353216#32 = 1 := by
  simp [Ideal.ofBits, Ideal.ieee, -EReal.coe_mul]; norm_num

theorem log_one : Ideal.log 1 = 0 := by
  rw [← EReal.coe_one, Ideal.log_coe, if_neg (by norm_num), Real.log_one, EReal.coe_zero]
theorem coe_max (a b : ℝ) : ((max a b : ℝ) : EReal) = max (a : EReal) b := EReal.coe_strictMono.monotone.map_max
theorem coe_min (a b : ℝ) : ((min a b : ℝ) : EReal) = min (a : EReal) b := EReal.coe_strictMono.monotone.map_min

/-- `log (1 + exp (−a))` of a number `a ≥ 0` is a real number, not negative. -/
theorem softplus_real (g : EReal) : ∃ L : ℝ, 0 ≤ L ∧ Ideal.log (1 + Ideal.exp (0 - max g (-g))) = (L : EReal) := by
  induction g using EReal.rec with
  | bot => exact ⟨0, le_rfl, by simp [log_one]⟩
  | top => exact ⟨0, le_rfl, by simp [log_one]⟩
  | coe r =>
    have hp := Real.exp_pos (-|r|)
    refine ⟨Real.log (1 + Real.exp (-|r|)), Real.log_nonneg (by linarith), ?_⟩
    have e : (0 : EReal) - max (r : EReal) (-(r : EReal)) = ((-|r| : ℝ) : EReal) := by
      rw [zero_sub, ← EReal.coe_neg, ← coe_max, ← EReal.coe_neg]; rfl
    rw [e, Ideal.exp_coe, ← EReal.coe_one, ← EReal.coe_add, Ideal.log_coe, if_neg (by linarith)]

/-- A gate's logarithm is never `⊤`: it is at most zero. -/
theorem laA_ne_top (s c : ℕ) : laA X W Bg s c ≠ ⊤ := by
  unfold laA
  generalize gA X W Bg s c = g
  obtain ⟨L, -, hL⟩ := softplus_real g
  rw [k16_eq, show FloatOps.absf (F := Ideal) (φ := .f32) g = max g (-g) from rfl, hL]
  induction g using EReal.rec with
  | bot => simp [EReal.bot_mul_coe_of_pos]
  | top =>
    rw [min_eq_right le_top, zero_sub, ← EReal.coe_neg, ← EReal.coe_mul]; exact EReal.coe_ne_top _
  | coe r =>
    rw [← EReal.coe_zero, ← coe_min, ← EReal.coe_sub, ← EReal.coe_mul]; exact EReal.coe_ne_top _

/-- The log-sigmoid as the negative of a softplus of the negative, the same number divided by 16. -/
theorem logsig (g : EReal) :
    (min g 0 - Ideal.log (1 + Ideal.exp (0 - max g (-g)))) = -(max (-g) 0 + Ideal.log (1 + Ideal.exp (-(max (-g) (-(-g)))))) := by
  have hm : max (-g) (-(-g)) = max g (-g) := by rw [neg_neg, max_comm]
  obtain ⟨L, -, hL⟩ := softplus_real g
  rw [hm, ← zero_sub (max g (-g)), hL]
  induction g using EReal.rec with
  | bot => simp
  | top => simp
  | coe r =>
    rw [← EReal.coe_neg, ← EReal.coe_zero, ← coe_min, ← EReal.coe_sub, ← coe_max, ← EReal.coe_add, ← EReal.coe_neg]
    congr 1
    rcases le_total r 0 with h | h
    · rw [min_eq_left h, max_eq_left (by linarith)]; ring
    · rw [min_eq_right h, max_eq_right (by linarith)]; ring

end Cert.GlaV
-- ==== Proof.GlaV.Arrays.lean ====
/- The arrays the recurrence's launch is given, read at an element: the scaled projection, the gates' operands, the mask. -/
module

public import proofs.«01_k».proof.Proof.GlaV.PointVal
public import proofs.«01_k».proof.Proof.GlaV.Scatter
public import proofs.«01_k».proof.Proof.GlaV.Args
public import proofs.«01_k».proof.Proof.Gen.GlaIdeal.Value
public import Idealize.ShloMosaic.Lib.Claim
public import Idealize.ShloMosaic.Lib.WordCmp

@[expose] public section

set_option maxRecDepth 16384

noncomputable section

namespace Cert.GlaIdeal.Body

open Idealize.ShloMosaic Idealize.ShloMosaic.TcCoe Idealize.ShloMosaic.Tactic Cert.GlaIdeal.Gen Cert.GlaV

variable (m : (l : Loc nD τ sig) → Buf (Elt Ideal) l) (c : Dev nD)

/-- The launch memory's four arguments, as numbered matrices. -/
abbrev Xm : ℕ → ℕ → EReal := at2 (n := 8192) (k := 12320) (m ((c : Thread nD τ).loc main_arg0))
abbrev Wm : ℕ → ℕ → EReal := at2 (n := 16) (k := 1024) (m ((c : Thread nD τ).loc main_arg1))
abbrev Bm : ℕ → EReal := at1 (n := 1024) (m ((c : Thread nD τ).loc main_arg2))
abbrev Gm : ℕ → EReal := at1 (n := 512) (m ((c : Thread nD τ).loc main_arg3))

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

theorem main6 (s : Fin 8192) (j : Fin 128) :
    V m c main_v6 (ix2 s j) = (if j.val < 16 then Xm m c s (6144 + j.val) else if j.val < 32 then Xm m c s (12304 + (j.val - 16)) else 0 : EReal) := by
  have e : V m c main_v6 = StableHlo.after hostOps0 (fun b => m (c, b)) (Proc.devRef .tc main_v6) := by
    show StableHlo.after _ _ _ = _
    rw [show List.flatten [hostOps0, hostOps0_1, hostOps0_2, hostOps0_3, hostOps0_4]
      = (hostOps0 ++ (hostOps0_1 ++ (hostOps0_2 ++ (hostOps0_3 ++ hostOps0_4))) : List (HloOp τ sig (Elt Ideal))) by
        simp only [List.flatten_cons, List.flatten_nil, List.append_nil], after_append]
    refine StableHlo.after_of_forall_not_mem _ _ (List.forall_iff_forall_mem.mp ?_)
    simp only [hostOps0_1, hostOps0_2, hostOps0_3, hostOps0_4, List.append_nil, List.cons_append, List.nil_append, List.Forall, StableHlo.nullary_writes,
      StableHlo.unary_writes, StableHlo.binary_writes, StableHlo.ternary_writes, Finset.mem_singleton]
    repeat' apply And.intro
    all_goals exact StableHlo.devRef_ne_of_ne (by decide)
  have e2 : StableHlo.after hostOps0 (fun b => m (c, b)) (Proc.devRef .tc main_v6)
      = (concatenate S8192x128 1 [⟨S8192x16, (StableHlo.after (List.take 7 hostOps0) (fun b => m (c, b)) (Proc.devRef .tc main_v3) : Vec Ideal S8192x16 .f32)⟩,
          ⟨S8192x16, (StableHlo.after (List.take 7 hostOps0) (fun b => m (c, b)) (Proc.devRef .tc main_v4) : Vec Ideal S8192x16 .f32)⟩,
          ⟨S8192x96, (StableHlo.after (List.take 7 hostOps0) (fun b => m (c, b)) (Proc.devRef .tc main_v5) : Vec Ideal S8192x96 .f32)⟩]
          concatenates_S8192x16_S8192x16_S8192x96_S8192x128_d1 : Vec Ideal S8192x128 .f32) := by
    conv_lhs => rw [← List.take_append_drop 7 (hostOps0 : List (HloOp τ sig (Elt Ideal))), after_append]
    generalize StableHlo.after (List.take 7 hostOps0) (fun b => m (c, b)) = W
    have hd : List.drop 7 (hostOps0 : List (HloOp τ sig (Elt Ideal))) = hostOps0[7] :: List.drop 8 hostOps0 := rfl
    rw [hd]
    show StableHlo.after (List.drop 8 hostOps0) (HloOp.result hostOps0[7] W) _ = _
    refine (StableHlo.after_of_forall_not_mem _ _ (List.forall_iff_forall_mem.mp ?_)).trans ?_
    · simp only [hostOps0, List.drop_succ_cons, List.drop_zero, List.Forall, StableHlo.nullary_writes,
        StableHlo.unary_writes, StableHlo.binary_writes, StableHlo.ternary_writes, StableHlo.reshape_writes, Finset.mem_singleton]
      repeat' apply And.intro
      all_goals exact StableHlo.devRef_ne_of_ne (by decide)
    · simp only [hostOps0, List.getElem_cons_succ, List.getElem_cons_zero]
      rw [StableHlo.nary_result]
      rfl
  have a3 : StableHlo.after (List.take 7 hostOps0) (fun b => m (c, b)) (Proc.devRef .tc main_v3)
      = (extractStridedSlice S8192x16 ![0, 6144] (m ((c : Thread nD τ).loc main_arg0)) slices_S8192x12320_S8192x16_0_6144 : Vec Ideal S8192x16 .f32) := by
    simp only [hostOps0, List.take_succ_cons, List.take_zero]
    entry_read
    rfl
  have a4 : StableHlo.after (List.take 7 hostOps0) (fun b => m (c, b)) (Proc.devRef .tc main_v4)
      = (extractStridedSlice S8192x16 ![0, 12304] (m ((c : Thread nD τ).loc main_arg0)) slices_S8192x12320_S8192x16_0_12304 : Vec Ideal S8192x16 .f32) := by
    simp only [hostOps0, List.take_succ_cons, List.take_zero]
    entry_read
    rfl
  have a5 : StableHlo.after (List.take 7 hostOps0) (fun b => m (c, b)) (Proc.devRef .tc main_v5)
      = (broadcastInDim S8192x96 ![] bcast_S_S8192x96 (constant (F := Ideal) S_ .f32 0x00000000#32 : Vec Ideal S_ .f32) : Vec Ideal S8192x96 .f32) := by
    simp only [hostOps0, List.take_succ_cons, List.take_zero]
    entry_read
    rfl
  rw [e, e2, a3, a4, a5]
  generalize hz : (if j.val < 16 then Xm m c s (6144 + j.val) else if j.val < 32 then Xm m c s (12304 + (j.val - 16)) else 0 : EReal) = z
  pointwise
  subst hz
  have := j.isLt
  by_cases h1 : j.val < 16
  · rw [dif_pos h1, if_pos h1]
    exact at2_ix (n := 8192) (k := 12320) _ _ _
  · rw [dif_neg h1, if_neg h1]
    by_cases h2 : j.val < 32
    · rw [dif_pos (by omega), if_pos h2]
      exact at2_ix (n := 8192) (k := 12320) _ _ _
    · rw [dif_neg (by omega), if_neg h2]

theorem main20 (s : Fin 128) (j : Fin 1024) :
    V m c main_v20 (ix2 s j) = (if 16 ≤ s.val ∧ s.val < 32 then Wm m c (s.val - 16) j else 0 : EReal) := by
  show StableHlo.after _ _ _ _ = _
  simp only [hostOps0, hostOps0_1, hostOps0_2, hostOps0_3, hostOps0_4, List.flatten_cons, List.flatten_nil, List.append_nil, List.cons_append, List.nil_append]
  entry_read
  pointwise
  rw [scatter_slab _ _ 16 0 _ _ (by intro j; rfl) (by intro j; rfl) (by intro j; rfl) (by intro j; rfl)]
  have := j.isLt
  by_cases h : 16 ≤ s.val ∧ s.val < 32
  · rw [dif_pos ⟨h.1, by omega, by omega, by omega⟩, if_pos h]
    exact at2_ix (n := 16) (k := 1024) _ _ _
  · rw [dif_neg (by omega), if_neg h]
    exact Ideal.ofBits_zero_f32

theorem main21 (j : Fin 1024) : V m c main_v21 (ix2 0 j) = (Bm m c j : EReal) := by
  show StableHlo.after _ _ _ _ = _
  simp only [hostOps0, hostOps0_1, hostOps0_2, hostOps0_3, hostOps0_4, List.flatten_cons, List.flatten_nil, List.append_nil, List.cons_append, List.nil_append]
  entry_read
  pointwise
  exact at1_ix (n := 1024) _ _

theorem main22 (j : Fin 512) : V m c main_v22 (ix2 0 j) = (Gm m c j : EReal) := by
  show StableHlo.after _ _ _ _ = _
  simp only [hostOps0, hostOps0_1, hostOps0_2, hostOps0_3, hostOps0_4, List.flatten_cons, List.flatten_nil, List.append_nil, List.cons_append, List.nil_append]
  entry_read
  pointwise
  exact at1_ix (n := 512) _ _

theorem div64 : ∀ s : Fin 256,
    Scalar.select (IntOp.andi (IntOp.cmpi CmpIPredicate.ne (if BitVec.ofNat 32 s.val = 0 then (0 : BitVec 32) else if (BitVec.ofNat 32 s.val).msb = true then -1 else 1)
          (if 64#32 = 0 then (0 : BitVec 32) else if (64#32).msb = true then -1 else 1))
        (IntOp.cmpi CmpIPredicate.ne (IntOp.remsi ArithUnit.host (BitVec.ofNat 32 s.val) 64#32) 0#32))
      (IntOp.subi (IntOp.divsi ArithUnit.host (BitVec.ofNat 32 s.val) 64#32) 1#32)
      (IntOp.divsi ArithUnit.host (BitVec.ofNat 32 s.val) 64#32) = BitVec.ofNat 32 (s.val / 64) := by
  decide +kernel

theorem maskbit (s j : Fin 256) : IntOp.andi (IntOp.cmpi CmpIPredicate.eq (BitVec.ofNat 32 (s.val / 64)) (BitVec.ofNat 32 (j.val / 64)))
     (IntOp.cmpi CmpIPredicate.sge (BitVec.ofNat 32 s.val) (BitVec.ofNat 32 j.val)) = if s.val / 64 = j.val / 64 ∧ j.val ≤ s.val then 1#1 else 0#1 := by
  have := s.isLt; have := j.isLt
  rw [WordCmp.cmpi_eq_ofNat (by omega) (by omega), WordCmp.cmpi_sge_ofNat (by omega) (by omega)]
  by_cases h1 : s.val / 64 = j.val / 64 <;> by_cases h2 : j.val ≤ s.val <;> simp [h1, h2] <;> rfl

theorem main36 (s : Fin 256) (j : Fin 256) : V m c main_v36 (ix2 s j) = (if s.val / 64 = j.val / 64 ∧ j.val ≤ s.val then 1 else 0 : EReal) := by
  show StableHlo.after _ _ _ _ = _
  simp only [hostOps0, hostOps0_1, hostOps0_2, hostOps0_3, hostOps0_4, List.flatten_cons, List.flatten_nil, List.append_nil, List.cons_append, List.nil_append]
  entry_read
  simp only [StableHlo.TRef.ofBuf_toBuf]
  simp only [StableHlo.TRef.ofBuf, StableHlo.TRef.toBuf, cast_eq]
  pointwise
  refine (congrArg₂ (fun a b => FloatOps.uitofp (F := Ideal) FTy.f32 (IntOp.andi (IntOp.cmpi CmpIPredicate.eq a b)
    (IntOp.cmpi CmpIPredicate.sge (BitVec.ofNat 32 s.val) (BitVec.ofNat 32 j.val)))) (div64 s) (div64 j)).trans ?_
  beta_reduce
  rw [maskbit]
  split
  · simp [FloatOps.uitofp]
  · simp [FloatOps.uitofp]

theorem main16 (s : Fin 8192) (j : Fin 12288) :
    V m c main_v16 (ix2 s j) = ((if j.val < 6144 then Xm m c s j else Xm m c s (16 + j.val)) *
      (if 6144 ≤ j.val ∧ j.val < 7168 then k16 else if j.val < 2048 then Ideal.ofBits FTy.f32 1040356334#32 else 1) : EReal) := by
  show StableHlo.after _ _ _ _ = _
  simp only [hostOps0, hostOps0_1, hostOps0_2, hostOps0_3, hostOps0_4, List.flatten_cons, List.flatten_nil, List.append_nil, List.cons_append, List.nil_append]
  entry_read
  pointwise
  rw [scatter_slab _ _ 0 6144 _ _ (by intro j; rfl) (by intro j; rfl) (by intro j; rfl) (by intro j; rfl)]
  rw [scatter_slab _ _ 0 0 _ _ (by intro j; rfl) (by intro j; rfl) (by intro j; rfl) (by intro j; rfl)]
  have := j.isLt
  refine congrArg₂ _ ?_ ?_
  · by_cases h : j.val < 6144
    · rw [dif_pos h, if_pos h]; exact at2_ix (n := 8192) (k := 12320) _ _ _
    · rw [dif_neg h, if_neg h]
      refine (at2_ix (n := 8192) (k := 12320) _ _ _).trans ?_
      exact congrArg (Xm m c s.val) (show 6160 + (j.val - 6144) = 16 + j.val by omega)
  · split
    · rename_i h
      rw [if_pos ⟨h.2.2.1, by omega⟩]; rfl
    · rename_i h
      rw [if_neg (fun q => h ⟨Nat.zero_le _, Nat.one_pos, q.1, by omega⟩)]
      split
      · rename_i h
        rw [if_pos (by omega)]; rfl
      · rename_i h
        rw [if_neg (fun q => h ⟨Nat.zero_le _, Nat.one_pos, Nat.zero_le _, by omega⟩)]
        exact one_bits

end Cert.GlaIdeal.Body
-- ==== Proof.GlaV.Blocks.lean ====
/- Every grid point's blocks: point `t` is head `t / 16`, rows `512 * (t % 16)` on. -/
module

public import proofs.«01_k».proof.Proof.GlaV.Arrays
public import Idealize.ShloMosaic.Lib.Pipeline.ValueKit

@[expose] public section

set_option maxRecDepth 16384

noncomputable section

namespace Cert.GlaIdeal.Body

open Idealize.ShloMosaic Idealize.ShloMosaic.TcCoe Idealize.ShloMosaic.Tactic Cert.GlaIdeal.Gen Cert.GlaV

variable (m : (l : Loc nD τ sig) → Buf (Elt Ideal) l) (c : Dev nD)

theorem ix_0 : ∀ t : Fin cfg0.N, win0_0.index t 0 = t.val % 16 ∧ win0_0.index t 1 = 24 + t.val / 16 := by decide +kernel
theorem ix_1 : ∀ t : Fin cfg0.N, win0_1.index t 0 = t.val % 16 ∧ win0_1.index t 1 = 28 + t.val / 16 := by decide +kernel
theorem ix_2 : ∀ t : Fin cfg0.N, win0_2.index t 0 = t.val % 16 ∧ win0_2.index t 1 = 16 + t.val / 16 := by decide +kernel
theorem ix_3 : ∀ t : Fin cfg0.N, win0_3.index t 0 = t.val % 16 ∧ win0_3.index t 1 = 20 + t.val / 16 := by decide +kernel
theorem ix_4 : ∀ t : Fin cfg0.N, win0_4.index t 0 = t.val % 16 ∧ win0_4.index t 1 = 0 := by decide +kernel
theorem ix_5 : ∀ t : Fin cfg0.N, win0_5.index t 0 = 0 ∧ win0_5.index t 1 = t.val / 16 := by decide +kernel
theorem ix_6 : ∀ t : Fin cfg0.N, win0_6.index t 0 = 0 ∧ win0_6.index t 1 = t.val / 16 := by decide +kernel
theorem ix_7 : ∀ t : Fin cfg0.N, win0_7.index t 0 = 0 ∧ win0_7.index t 1 = 0 := by decide +kernel
theorem ix_8 : ∀ t : Fin cfg0.N, win0_8.index t 0 = 0 ∧ win0_8.index t 1 = 0 := by decide +kernel
theorem N_eq : cfg0.N = 64 := by decide +kernel

theorem lt_N (t : Fin cfg0.N) : t.val < 64 := lt_of_lt_of_eq t.isLt N_eq

theorem blk_0 (t : Fin cfg0.N) (r : Fin 512) (k : Fin 256) :
    iblk m c 0 t (ix2 r k) = V m c main_v16 (ix2 ⟨512 * (t.val % 16) + r.val, by omega⟩ ⟨256 * (24 + t.val / 16) + k.val, by have := lt_N t; omega⟩) := by
  have h := ix_0 t
  blk_ext [iblk, h.1, h.2]
theorem blk_1 (t : Fin cfg0.N) (r : Fin 512) (k : Fin 256) :
    iblk m c 1 t (ix2 r k) = V m c main_v16 (ix2 ⟨512 * (t.val % 16) + r.val, by omega⟩ ⟨256 * (28 + t.val / 16) + k.val, by have := lt_N t; omega⟩) := by
  have h := ix_1 t
  blk_ext [iblk, h.1, h.2]
theorem blk_2 (t : Fin cfg0.N) (r : Fin 512) (k : Fin 512) :
    iblk m c 2 t (ix2 r k) = V m c main_v16 (ix2 ⟨512 * (t.val % 16) + r.val, by omega⟩ ⟨512 * (16 + t.val / 16) + k.val, by have := lt_N t; omega⟩) := by
  have h := ix_2 t
  blk_ext [iblk, h.1, h.2]
theorem blk_3 (t : Fin cfg0.N) (r : Fin 512) (k : Fin 512) :
    iblk m c 3 t (ix2 r k) = V m c main_v16 (ix2 ⟨512 * (t.val % 16) + r.val, by omega⟩ ⟨512 * (20 + t.val / 16) + k.val, by have := lt_N t; omega⟩) := by
  have h := ix_3 t
  blk_ext [iblk, h.1, h.2]
theorem blk_4 (t : Fin cfg0.N) (r : Fin 512) (k : Fin 128) :
    iblk m c 4 t (ix2 r k) = V m c main_v6 (ix2 ⟨512 * (t.val % 16) + r.val, by omega⟩ k) := by
  have h := ix_4 t
  blk_ext [iblk, h.1, h.2]
theorem blk_5 (t : Fin cfg0.N) (r : Fin 128) (k : Fin 256) :
    iblk m c 5 t (ix2 r k) = V m c main_v20 (ix2 r ⟨256 * (t.val / 16) + k.val, by have := lt_N t; omega⟩) := by
  have h := ix_5 t
  unfold iblk
  rw [View.read_apply]
  show V m c main_v20 _ = V m c main_v20 _
  congr 1
  funext a
  apply Fin.ext
  match a with
  | ⟨0, _⟩ => show win0_5.index t 0 * 128 + 1 * r.val = r.val; rw [h.1]; omega
  | ⟨1, _⟩ => show win0_5.index t 1 * 256 + 1 * k.val = 256 * (t.val / 16) + k.val; rw [h.2]; omega
theorem blk_6 (t : Fin cfg0.N) (k : Fin 256) :
    iblk m c 6 t (ix2 0 k) = V m c main_v21 (ix2 0 ⟨256 * (t.val / 16) + k.val, by have := lt_N t; omega⟩) := by
  have h := ix_6 t
  blk_ext [iblk, h.1, h.2]
theorem blk_7 (t : Fin cfg0.N) (k : Fin 512) : iblk m c 7 t (ix2 0 k) = V m c main_v22 (ix2 0 k) := by
  have h := ix_7 t
  blk_ext [iblk, h.1, h.2]
theorem blk_8 (t : Fin cfg0.N) (r k : Fin 256) : iblk m c 8 t (ix2 r k) = V m c main_v36 (ix2 r k) := by
  have h := ix_8 t
  blk_ext [iblk, h.1, h.2]

/-- A sum over 128 numbers of which only those from 16 to 31 count. -/
theorem sum_window (f : ℕ → EReal) : (∑ x : Fin 128, if 16 ≤ x.val ∧ x.val < 32 then f (x.val - 16) else 0) = ∑ j : Fin 16, f j.val := by
  rw [← Finset.sum_filter]
  refine Finset.sum_bij' (fun x hx => ⟨x.val - 16, by have := (Finset.mem_filter.1 hx).2; omega⟩) (fun j _ => ⟨16 + j.val, by omega⟩) ?_ ?_ ?_ ?_ ?_
  · intro x hx; exact Finset.mem_univ _
  · intro j _; exact Finset.mem_filter.2 ⟨Finset.mem_univ _, by dsimp only; omega⟩
  · intro x hx; have := (Finset.mem_filter.1 hx).2; apply Fin.ext; dsimp only; omega
  · intro j _; apply Fin.ext; dsimp only; omega
  · intro x hx; rfl

/-- The padded gate product and its bias, from the blocks. -/
theorem gate_sum (x4 : Vec Ideal S512x128 .f32) (x5 : Vec Ideal S128x256 .bf16) (x6 : Vec Ideal S1x256 .f32) (X W : ℕ → ℕ → EReal) (Bg : ℕ → EReal) (R h : ℕ)
    (h4 : ∀ (r : Fin 512) (x : Fin 128), x4 (ix2 r x) = if x.val < 16 then X (R + r.val) (6144 + x.val) else if x.val < 32 then X (R + r.val) (12304 + (x.val - 16)) else 0)
    (h5 : ∀ (x : Fin 128) (k : Fin 256), x5 (ix2 x k) = if 16 ≤ x.val ∧ x.val < 32 then W (x.val - 16) (256 * h + k.val) else 0)
    (h6 : ∀ k : Fin 256, x6 (ix2 0 k) = Bg (256 * h + k.val)) (r : Fin 512) (k : Fin 256) :
    ∑ x : Fin 128, x4 (ix2 r x) * x5 (ix2 x k) + x6 (ix2 0 k) = gA X W Bg (R + r.val) (256 * h + k.val) := by
  unfold gA
  refine congrArg₂ (· + ·) ?_ (h6 k)
  refine Eq.trans (Finset.sum_congr rfl fun x _ => ?_) (sum_window (fun n => X (R + r.val) (12304 + n) * W n (256 * h + k.val)))
  rw [h4, h5]
  by_cases q : 16 ≤ x.val ∧ x.val < 32
  · rw [if_neg (by omega), if_pos q.2, if_pos q, if_pos q]
  · rw [if_neg q, if_neg q, mul_zero]

/-- Every point's blocks are the rows and columns of the mathematics' arrays. -/
theorem blk (t : Fin cfg0.N) :
    Blk (iblk m c 0 t) (iblk m c 1 t) (iblk m c 2 t) (iblk m c 3 t) (iblk m c 4 t) (iblk m c 5 t) (iblk m c 6 t) (iblk m c 7 t) (iblk m c 8 t)
      (qA (Xm m c)) (kA (Xm m c)) (vA (Xm m c)) (rA (Xm m c)) (laA (Xm m c) (Wm m c) (Bm m c)) (Gm m c) (512 * (t.val % 16)) (t.val / 16) where
  hR := by omega
  h0 := fun r k => by
    have := lt_N t; have := k.isLt
    refine (blk_0 m c t r k).trans ((main16 m c _ _).trans ?_)
    dsimp only
    rw [if_neg (by omega), if_pos (by omega)]
    unfold qA
    rw [show 16 + (256 * (24 + t.val / 16) + k.val) = 6160 + (256 * (t.val / 16) + k.val) by omega]
  h1 := fun r k => by
    have := lt_N t; have := k.isLt
    refine (blk_1 m c t r k).trans ((main16 m c _ _).trans ?_)
    dsimp only
    rw [if_neg (by omega), if_neg (by omega), if_neg (by omega), mul_one]
    unfold kA
    rw [show 16 + (256 * (28 + t.val / 16) + k.val) = 7184 + (256 * (t.val / 16) + k.val) by omega]
  h2 := fun r k => by
    have := lt_N t; have := k.isLt
    refine (blk_2 m c t r k).trans ((main16 m c _ _).trans ?_)
    dsimp only
    rw [if_neg (by omega), if_neg (by omega), if_neg (by omega), mul_one]
    unfold vA
    rw [show 16 + (512 * (16 + t.val / 16) + k.val) = 8208 + (512 * (t.val / 16) + k.val) by omega]
  h3 := fun r k => by
    have := lt_N t; have := k.isLt
    refine (blk_3 m c t r k).trans ((main16 m c _ _).trans ?_)
    dsimp only
    rw [if_neg (by omega), if_neg (by omega), if_neg (by omega), mul_one]
    unfold rA
    rw [show 16 + (512 * (20 + t.val / 16) + k.val) = 10256 + (512 * (t.val / 16) + k.val) by omega]
  hla := fun r k => by
    have := lt_N t; have := k.isLt
    have hg := gate_sum (iblk m c 4 t) (iblk m c 5 t) (iblk m c 6 t) (Xm m c) (Wm m c) (Bm m c) (512 * (t.val % 16)) (t.val / 16)
      (fun r x => (blk_4 m c t r x).trans (main6 m c _ _)) (fun x k => (blk_5 m c t x k).trans (main20 m c _ _))
      (fun k => (blk_6 m c t k).trans (main21 m c _)) r k
    unfold laK laA
    rw [hg]
  htop := laA_ne_top _ _ _
  h7 := fun k => (blk_7 m c t k).trans (main22 m c k)
  h8 := fun i j => (blk_8 m c t i j).trans (main36 m c i j)

end Cert.GlaIdeal.Body
-- ==== Proof.GlaV.Final.lean ====
/- What the launch leaves: every element of the result is the normalised, gated attention output. -/
module

public import proofs.«01_k».proof.Proof.GlaV.Blocks

@[expose] public section

set_option maxRecDepth 16384

noncomputable section

namespace Cert.GlaIdeal.Body

open Idealize.ShloMosaic Idealize.ShloMosaic.TcCoe Idealize.ShloMosaic.Tactic Cert.GlaIdeal.Gen Cert.GlaIdeal.Value Cert.GlaV

variable (m : (l : Loc nD τ sig) → Buf (Elt Ideal) l) (c : Dev nD)

/-- The head's state before chunk `n`, of the launch memory. -/
abbrev STm (h n e d : ℕ) : EReal := GlaV.ST (kA (Xm m c)) (vA (Xm m c)) (laA (Xm m c) (Wm m c) (Bm m c)) h n e d
/-- The result, of the launch memory. -/
abbrev OUTm (h s e : ℕ) : EReal :=
  OUT (qA (Xm m c)) (kA (Xm m c)) (vA (Xm m c)) (rA (Xm m c)) (laA (Xm m c) (Wm m c) (Bm m c)) (Gm m c) h s e

/-- At a head's first point the output block holds its rows of the result, the scratch the head's state, … -/
theorem outs_A (t : Fin cfg0.N) (h0 : t.val % 16 = 0) :
    (∀ y, (outsAt0 m c t.val t.isLt).1 y = OUTm m c (t.val / 16) (512 * (t.val % 16) + (y 0).val) (y 1).val)
      ∧ ∀ (e : Fin 512) (d : Fin 256), (outsAt0 m c t.val t.isLt).2 (ix2 e d) = STm m c (t.val / 16) (512 * (t.val % 16) / 64 + 8) e.val d.val := by
  have H := blk m c t
  have hR : 512 * (t.val % 16) = 0 := by omega
  have e1 := out_A_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) H ((hcond0_0 t).mpr h0) hR
  have e2 := sout_A_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) H ((hcond0_0 t).mpr h0) hR
  have e := outsAt0_A m c t h0
  rw [e]
  dsimp only
  rw [e1]
  exact ⟨fun y => rfl, e2⟩

/-- … and at a later point, over what the point before left. -/
theorem outs_B (t : Fin cfg0.N) (h0 : ¬t.val % 16 = 0)
    (hs : ∀ (e : Fin 512) (d : Fin 256), (outsAt0 m c (t.val - 1) (by omega)).2 (ix2 e d) = STm m c (t.val / 16) (512 * (t.val % 16) / 64) e.val d.val) :
    (∀ y, (outsAt0 m c t.val t.isLt).1 y = OUTm m c (t.val / 16) (512 * (t.val % 16) + (y 0).val) (y 1).val)
      ∧ ∀ (e : Fin 512) (d : Fin 256), (outsAt0 m c t.val t.isLt).2 (ix2 e d) = STm m c (t.val / 16) (512 * (t.val % 16) / 64 + 8) e.val d.val := by
  have H := blk m c t
  have e1 := out_B_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) H (fun h => h0 ((hcond0_0 t).mp h)) hs
  have e2 := sout_B_spec c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) H (fun h => h0 ((hcond0_0 t).mp h)) hs
  have e := outsAt0_B m c t h0
  rw [e]
  dsimp only
  rw [e1]
  exact ⟨fun y => rfl, e2⟩

/-- So after every point. -/
theorem outs_spec : ∀ (n : ℕ) (hn : n < cfg0.N),
    (∀ y, (outsAt0 m c n hn).1 y = OUTm m c (n / 16) (512 * (n % 16) + (y 0).val) (y 1).val)
      ∧ ∀ (e : Fin 512) (d : Fin 256), (outsAt0 m c n hn).2 (ix2 e d) = STm m c (n / 16) (512 * (n % 16) / 64 + 8) e.val d.val := by
  intro n
  induction n with
  | zero => exact fun hn => outs_A m c ⟨0, hn⟩ (Nat.zero_mod _)
  | succ n ih =>
    intro hn
    by_cases h0 : (n + 1) % 16 = 0
    · exact outs_A m c ⟨n + 1, hn⟩ h0
    · refine outs_B m c ⟨n + 1, hn⟩ h0 fun e d => ((ih (Nat.lt_of_succ_lt hn)).2 e d).trans ?_
      show STm m c (n / 16) (512 * (n % 16) / 64 + 8) _ _ = STm m c ((n + 1) / 16) (512 * ((n + 1) % 16) / 64) _ _
      rw [show (n + 1) / 16 = n / 16 by omega, show 512 * ((n + 1) % 16) / 64 = 512 * (n % 16) / 64 + 8 by omega]

/-- The result array, at every element. -/
theorem G9_spec (s : Fin 8192) (j : Fin 2048) : G9 m c (ix2 s j) = OUTm m c (j.val / 512) s.val (j.val % 512) := by
  have hp : pt9Of (ix2 s j) = s.val / 512 + 16 * (j.val / 512) := by
    show 1 * (s.val / 512 - 0) + 16 * (j.val / 512 - 0) = _
    omega
  have hlt : pt9Of (ix2 s j) < cfg0.N := by rw [hp, show cfg0.N = 64 from N_eq]; omega
  unfold G9
  rw [dif_pos hlt, ← outsAt0_sweep m c _ hlt, (outs_spec m c _ hlt).1]
  rw [hp]
  have h0 : (loc9Of (ix2 s j) 0).val = s.val % 512 := rfl
  have h1 : (loc9Of (ix2 s j) 1).val = j.val % 512 := rfl
  rw [h0, h1, show (s.val / 512 + 16 * (j.val / 512)) / 16 = j.val / 512 by omega,
    show 512 * ((s.val / 512 + 16 * (j.val / 512)) % 16) + s.val % 512 = s.val by omega]

end Cert.GlaIdeal.Body
-- ==== Proof.GlaV.RefCum.lean ====
/- The reference's running sum along a chunk, read at an element. -/
module

public import proofs.«01_k».proof.Proof.GlaV.Args
public import proofs.«01_k».proof.Proof.Gen.GlaRefIdeal

@[expose] public section

noncomputable section

namespace Cert.GlaRefIdeal.Body

open Idealize.ShloMosaic Cert.GlaRefIdeal.Gen Cert.GlaV

/-- The shape of the window: 64 rows of one column. -/
abbrev Wn : Shape := ⟨4, ![1, 1, 64, 1]⟩

theorem numel_Wn : Wn.numel = 64 := by decide

/-- The `n`-th position of the window is its `n`-th row. -/
theorem symm_Wn (n : Fin Wn.numel) : (Wn.rowMajor.symm n 2).val = n.val ∧ (Wn.rowMajor.symm n 0).val = 0
    ∧ (Wn.rowMajor.symm n 1).val = 0 ∧ (Wn.rowMajor.symm n 3).val = 0 := by
  have h0 : (Wn.rowMajor.symm n 0).val < 1 := (Wn.rowMajor.symm n 0).isLt
  have h1 : (Wn.rowMajor.symm n 1).val < 1 := (Wn.rowMajor.symm n 1).isLt
  have h3 : (Wn.rowMajor.symm n 3).val < 1 := (Wn.rowMajor.symm n 3).isLt
  have e := rowMajor_val4 (Wn.rowMajor.symm n) 64 64 1 rfl rfl rfl
  rw [Equiv.apply_symm_apply] at e
  refine ⟨?_, by omega, by omega, by omega⟩
  have e' : n.val = _ := e
  omega

theorem foldl_add {ι : Type} (l : List ι) (g : ι → EReal) (a : EReal) : l.foldl (fun r n => r + g n) a = a + (l.map g).sum := by
  induction l generalizing a with
  | nil => simp
  | cons x l ih => rw [List.foldl_cons, ih, List.map_cons, List.sum_cons, add_assoc]

/-- A sum over the window's rows, those above the array's top left out, is the sum up to the row. -/
theorem sum_rows (f : ℕ → EReal) (t : ℕ) (ht : t < 64) :
    ∑ w : Fin 64, (if 63 ≤ t + w.val then f (t + w.val - 63) else 0) = ∑ r : Fin 64, (if r.val ≤ t then f r.val else 0) := by
  rw [← Finset.sum_filter, ← Finset.sum_filter]
  refine Finset.sum_bij' (fun w _ => (⟨t + w.val - 63, by have := w.isLt; omega⟩ : Fin 64))
    (fun r hr => (⟨(r.val + 63 - t) % 64, Nat.mod_lt _ (by norm_num)⟩ : Fin 64)) ?_ ?_ ?_ ?_ ?_
  · intro w hw; simp only [Finset.mem_filter, Finset.mem_univ, true_and] at hw ⊢; have := w.isLt; omega
  · intro r hr; simp only [Finset.mem_filter, Finset.mem_univ, true_and] at hr ⊢; have := r.isLt; omega
  · intro w hw; simp only [Finset.mem_filter, Finset.mem_univ, true_and] at hw; have := w.isLt; ext; dsimp only; omega
  · intro r hr; simp only [Finset.mem_filter, Finset.mem_univ, true_and] at hr; have := r.isLt; ext; dsimp only; omega
  · intro w hw; rfl

/-- The running sum: the elements of the chunk's column down to the row. -/
theorem cum_apply (x : FVec Ideal S4x128x64x256 .f32) (init : FVec Ideal S_ .f32)
    (hinit : ∀ i, init i = (0 : EReal)) (h : Fin 4) (n : Fin 128) (t : Fin 64) (d : Fin 256) :
    (Host.reduceWindowAdd (F := Ideal) ![1, 1, 64, 1] ![1, 1, 1, 1] ![0, 0, 63, 0] ![0, 0, 0, 0] x init
      reduceWindows_S4x128x64x256_S4x128x64x256_w1s1p0_0_w1s1p0_0_w64s1p63_0_w1s1p0_0 h_S_ (ix4 h n t d) : EReal)
      = ∑ r : Fin 64, (if r.val ≤ t.val then x (ix4 h n r d) else 0 : EReal) := by
  have hd := d.isLt
  have hn := n.isLt
  have hh := h.isLt
  have ht := t.isLt
  unfold Host.reduceWindowAdd
  rw [hinit]
  simp only [Ideal.hostReduceWindowAdd_def]
  unfold Ideal.hostReduceWindowAdd Host.reduceWindow
  dsimp only
  rw [foldl_add, zero_add, ← Fin.sum_univ_def]
  rw [← (sum_rows (fun r => if hr : r < 64 then x (ix4 h n ⟨r, hr⟩ d) else 0) t.val ht).trans
    (Finset.sum_congr rfl fun r _ => by simp only [r.isLt, dite_true])]
  refine Fintype.sum_equiv (finCongr numel_Wn) _ _ fun w => ?_
  obtain ⟨w2, w0, w1, w3⟩ := symm_Wn w
  have hw : w.val < 64 := numel_Wn ▸ w.isLt
  have hc : ((finCongr numel_Wn) w).val = w.val := rfl
  rw [hc]
  split
  · next hin =>
    have i2 := hin 2
    change 63 ≤ t.val * 1 + (Wn.rowMajor.symm w 2).val ∧ t.val * 1 + (Wn.rowMajor.symm w 2).val - 63 < 64 at i2
    rw [w2] at i2
    rw [if_pos (by omega), dif_pos (by omega)]
    refine congrArg x (funext fun a => Fin.ext ?_)
    match a with
    | ⟨0, _⟩ => show h.val * 1 + (Wn.rowMajor.symm w 0).val - 0 = h.val; omega
    | ⟨1, _⟩ => show n.val * 1 + (Wn.rowMajor.symm w 1).val - 0 = n.val; omega
    | ⟨2, _⟩ => show t.val * 1 + (Wn.rowMajor.symm w 2).val - 63 = t.val + w.val - 63; omega
    | ⟨3, _⟩ => show d.val * 1 + (Wn.rowMajor.symm w 3).val - 0 = d.val; omega
  · next hin =>
    rw [if_neg]
    intro hle
    refine hin fun a => ?_
    match a with
    | ⟨0, _⟩ =>
      show 0 ≤ h.val * 1 + (Wn.rowMajor.symm w 0).val ∧ h.val * 1 + (Wn.rowMajor.symm w 0).val - 0 < 4
      omega
    | ⟨1, _⟩ =>
      show 0 ≤ n.val * 1 + (Wn.rowMajor.symm w 1).val ∧ n.val * 1 + (Wn.rowMajor.symm w 1).val - 0 < 128
      omega
    | ⟨2, _⟩ =>
      show 63 ≤ t.val * 1 + (Wn.rowMajor.symm w 2).val ∧ t.val * 1 + (Wn.rowMajor.symm w 2).val - 63 < 64
      omega
    | ⟨3, _⟩ =>
      show 0 ≤ d.val * 1 + (Wn.rowMajor.symm w 3).val ∧ d.val * 1 + (Wn.rowMajor.symm w 3).val - 0 < 256
      omega

end Cert.GlaRefIdeal.Body
end
-- ==== Proof.GlaV.RefTerms.lean ====
/- The reference's arrays before its scan, as terms in its arguments, and each read at an element. -/
module

public import proofs.«01_k».proof.Proof.GlaV.RefCum
public import Idealize.ShloMosaic.Lib.Claim
public import Idealize.ShloMosaic.Lib.WordCmp

@[expose] public section

set_option maxRecDepth 16384

noncomputable section

namespace Cert.GlaRefIdeal.Body

open Idealize.ShloMosaic Idealize.ShloMosaic.TcCoe Cert.GlaRefIdeal.Gen Cert.GlaV

variable (x : FVec Ideal S8192x12320 .f32) (w : FVec Ideal S16x1024 .f32) (bg : FVec Ideal S1024 .f32)

abbrev zero_ : FVec Ideal S_ .f32 := constant (F := Ideal) S_ .f32 0x00000000#32

/-- The gate's product with its bias. -/
def tG : FVec Ideal S8192x1024 .f32 :=
  addf (Host.dotGeneral (φ₁ := .f32) (φ₂ := .f32) dot_S8192x16_S16x1024_S8192x1024_1_0_0_1_n_n none
    (extractStridedSlice S8192x16 ![0, 12304] x slices_S8192x12320_S8192x16_0_12304) w)
    (broadcastInDim S8192x1024 ![0, 1] bcast_S1x1024_S8192x1024_0_1 (broadcastInDim S1x1024 ![1] bcast_S1024_S1x1024_1 bg))

/-- The softplus of an array. -/
def tSp (n : FVec Ideal S8192x1024 .f32) : FVec Ideal S8192x1024 .f32 :=
  select (α := EReal) (cmpf (F := Ideal) .une (subf n (broadcastInDim S8192x1024 ![] bcast_S_S8192x1024 zero_)) (subf n (broadcastInDim S8192x1024 ![] bcast_S_S8192x1024 zero_)))
    (addf n (broadcastInDim S8192x1024 ![] bcast_S_S8192x1024 zero_))
    (addf (maximumf n (broadcastInDim S8192x1024 ![] bcast_S_S8192x1024 zero_))
      (Host.log1p (Host.exp (Host.negf (Host.absf (subf n (broadcastInDim S8192x1024 ![] bcast_S_S8192x1024 zero_)))))))

/-- The gates' logarithms. -/
def tLA : FVec Ideal S8192x1024 .f32 :=
  Host.divf (Host.negf (tSp (Host.negf (tG x w bg)))) (broadcastInDim S8192x1024 ![] bcast_S_S8192x1024 (constant (F := Ideal) S_ .f32 0x41800000#32))

/-- An array of 1024 columns, by head, chunk and row. -/
def tCh (y : FVec Ideal S8192x1024 .f32) : FVec Ideal S4x128x64x256 .f32 :=
  transpose S4x128x64x256 [2, 0, 1, 3] (shapeCast S128x64x4x256 y shapeCasts_S8192x1024_S128x64x4x256) transposes_S128x64x4x256_S4x128x64x256_2_0_1_3

def tQ : FVec Ideal S4x128x64x256 .f32 :=
  mulf (tCh (extractStridedSlice S8192x1024 ![0, 6160] x slices_S8192x12320_S8192x1024_0_6160))
    (broadcastInDim S4x128x64x256 ![] bcast_S_S4x128x64x256 (constant (F := Ideal) S_ .f32 0x3D800000#32))
def tK : FVec Ideal S4x128x64x256 .f32 :=
  tCh (extractStridedSlice S8192x1024 ![0, 7184] x slices_S8192x12320_S8192x1024_0_7184)
def tV : FVec Ideal S4x128x64x512 .f32 :=
  transpose S4x128x64x512 [2, 0, 1, 3] (shapeCast S128x64x4x512
    (extractStridedSlice S8192x2048 ![0, 8208] x slices_S8192x12320_S8192x2048_0_8208) shapeCasts_S8192x2048_S128x64x4x512)
    transposes_S128x64x4x512_S4x128x64x512_2_0_1_3
def tB : FVec Ideal S4x128x64x256 .f32 :=
  Host.reduceWindowAdd (F := Ideal) ![1, 1, 64, 1] ![1, 1, 1, 1] ![0, 0, 63, 0] ![0, 0, 0, 0] (tCh (tLA x w bg))
    (broadcastInDim S_ ![] bcast_S_S_ zero_)
    reduceWindows_S4x128x64x256_S4x128x64x256_w1s1p0_0_w1s1p0_0_w64s1p63_0_w1s1p0_0 h_S_
def tBl : FVec Ideal S4x128x1x256 .f32 :=
  extractStridedSlice S4x128x1x256 ![0, 0, 63, 0] (tB x w bg) slices_S4x128x64x256_S4x128x1x256_0_0_63_0
def tQD : FVec Ideal S4x128x64x256 .f32 := mulf (tQ x) (Host.exp (tB x w bg))
def tKI : FVec Ideal S4x128x64x256 .f32 := mulf (tK x) (Host.exp (Host.negf (tB x w bg)))
def tKE : FVec Ideal S4x128x64x256 .f32 :=
  mulf (tK x) (Host.exp (subf (broadcastInDim S4x128x64x256 ![0, 1, 2, 3] bcast_S4x128x1x256_S4x128x64x256_0_1_2_3 (tBl x w bg)) (tB x w bg)))
/-- The causal mask of a chunk. -/
def tM : IVec S64x64 1 :=
  select (cmpi .sge (addi (iotaInDim S64x64 32 0) (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))
def tA : FVec Ideal S4x128x64x64 .f32 :=
  select (broadcastInDim S4x128x64x64 ![2, 3] bcast_S64x64_S4x128x64x64_2_3 tM)
    (Host.dotGeneral (F := Ideal) (φ₁ := .f32) (φ₂ := .f32) dot_S4x128x64x256_S4x128x64x256_S4x128x64x64_3_3_2_2_01_01 none (tQD x w bg) (tKI x w bg) : FVec Ideal S4x128x64x64 .f32)
    (broadcastInDim S4x128x64x64 ![] bcast_S_S4x128x64x64 (id zero_))
def tOI : FVec Ideal S4x128x64x512 .f32 :=
  Host.dotGeneral (F := Ideal) (φ₁ := .f32) (φ₂ := .f32) dot_S4x128x64x64_S4x128x64x512_S4x128x64x512_3_2_2_3_01_01 none (tA x w bg) (tV x)

end Cert.GlaRefIdeal.Body
end
-- ==== Proof.GlaV.RefEntry.lean ====
/- What the scan's arrays hold when it starts: the terms of the arguments. -/
module

public import proofs.«01_k».proof.Proof.GlaV.RefTerms
public import proofs.«01_k».proof.Proof.Gen.GlaRefIdeal.Run

@[expose] public section

set_option maxRecDepth 16384

noncomputable section

namespace Cert.GlaRefIdeal.Body

open Idealize.ShloMosaic Idealize.ShloMosaic.TcCoe Idealize.ShloMosaic.StableHlo Cert.GlaRefIdeal.Gen Cert.GlaRefIdeal.Value Cert.GlaV

variable (m : (l : Loc nD τ sig) → Buf (Elt Ideal) l) (c : Dev nD)

abbrev X0 : FVec Ideal S8192x12320 .f32 := m ((c : Thread nD τ).loc main_arg0)
abbrev W0 : FVec Ideal S16x1024 .f32 := m ((c : Thread nD τ).loc main_arg1)
abbrev B0 : FVec Ideal S1024 .f32 := m ((c : Thread nD τ).loc main_arg2)
abbrev N0 : FVec Ideal S512 .f32 := m ((c : Thread nD τ).loc main_arg3)

set_option maxHeartbeats 4000000 in
theorem entry2 : entryContents preI m c (Proc.devRef .tc main_v45_2)
    = (transpose S128x4x64x512 [1, 0, 2, 3] (tV (X0 m c)) transposes_S4x128x64x512_S128x4x64x512_1_0_2_3 : FVec Ideal S128x4x64x512 .f32) := by
  unfold tV
  simp only [preI, afterL_cons, afterL_nil, hostOps0, hostOps0_1, hostOps0_2, hostOps0_3, hostOps0_4, hostOps0_5, hostOps0_6, hostOps0_7, hostOps0_8]
  after_results_entrywise []

set_option maxHeartbeats 4000000 in
theorem entry0 : entryContents preI m c (Proc.devRef .tc main_v45_0)
    = (transpose S128x4x64x256 [1, 0, 2, 3] (tQD (X0 m c) (W0 m c) (B0 m c)) transposes_S4x128x64x256_S128x4x64x256_1_0_2_3 : FVec Ideal S128x4x64x256 .f32) := by
  simp only [preI, afterL_cons, afterL_nil, hostOps0, hostOps0_1, hostOps0_2, hostOps0_3, hostOps0_4, hostOps0_5, hostOps0_6, hostOps0_7, hostOps0_8]
  after_results_entrywise []

set_option maxHeartbeats 4000000 in
theorem entry1 : entryContents preI m c (Proc.devRef .tc main_v45_1)
    = (transpose S128x4x64x256 [1, 0, 2, 3] (tKE (X0 m c) (W0 m c) (B0 m c)) transposes_S4x128x64x256_S128x4x64x256_1_0_2_3 : FVec Ideal S128x4x64x256 .f32) := by
  simp only [preI, afterL_cons, afterL_nil, hostOps0, hostOps0_1, hostOps0_2, hostOps0_3, hostOps0_4, hostOps0_5, hostOps0_6, hostOps0_7, hostOps0_8]
  after_results_entrywise []

set_option maxHeartbeats 4000000 in
theorem entry3 : entryContents preI m c (Proc.devRef .tc main_v45_3)
    = (transpose S128x4x256 [1, 0, 2] (shapeCast S4x128x256 (tBl (X0 m c) (W0 m c) (B0 m c)) shapeCasts_S4x128x1x256_S4x128x256) transposes_S4x128x256_S128x4x256_1_0_2 : FVec Ideal S128x4x256 .f32) := by
  simp only [preI, afterL_cons, afterL_nil, hostOps0, hostOps0_1, hostOps0_2, hostOps0_3, hostOps0_4, hostOps0_5, hostOps0_6, hostOps0_7, hostOps0_8]
  after_results_entrywise []

set_option maxHeartbeats 4000000 in
theorem entry4 : entryContents preI m c (Proc.devRef .tc main_v45_4)
    = (transpose S128x4x64x512 [1, 0, 2, 3] (tOI (X0 m c) (W0 m c) (B0 m c)) transposes_S4x128x64x512_S128x4x64x512_1_0_2_3 : FVec Ideal S128x4x64x512 .f32) := by
  simp only [preI, afterL_cons, afterL_nil, hostOps0, hostOps0_1, hostOps0_2, hostOps0_3, hostOps0_4, hostOps0_5, hostOps0_6, hostOps0_7, hostOps0_8]
  after_results_entrywise []

set_option maxHeartbeats 4000000 in
theorem entry5 : entryContents preI m c (Proc.devRef .tc main_v45_5)
    = (fun _ => (0#32 : BitVec 32)) := by
  exact ctr_entry m c

set_option maxHeartbeats 4000000 in
theorem entry6 : entryContents preI m c (Proc.devRef .tc main_v45_6)
    = (broadcastInDim S4x256x512 ![] bcast_S_S4x256x512 zero_ : FVec Ideal S4x256x512 .f32) := by
  simp only [preI, afterL_cons, afterL_nil, hostOps0, hostOps0_1, hostOps0_2, hostOps0_3, hostOps0_4, hostOps0_5, hostOps0_6, hostOps0_7, hostOps0_8]
  after_results_entrywise []

set_option maxHeartbeats 4000000 in
theorem entry7 : entryContents preI m c (Proc.devRef .tc main_v45_7)
    = (broadcastInDim S128x4x64x512 ![] bcast_S_S128x4x64x512 zero_ : FVec Ideal S128x4x64x512 .f32) := by
  simp only [preI, afterL_cons, afterL_nil, hostOps0, hostOps0_1, hostOps0_2, hostOps0_3, hostOps0_4, hostOps0_5, hostOps0_6, hostOps0_7, hostOps0_8]
  after_results_entrywise []

end Cert.GlaRefIdeal.Body
end
-- ==== Proof.GlaV.RefStep.lean ====
/- One trip of the reference's scan, at an element: the state's step and the chunk's output. -/
module

public import proofs.«01_k».proof.Proof.GlaV.RefEntry
public import Idealize.ShloMosaic.Lib.DynamicIndex
public import Idealize.ShloMosaic.Lib.Pipeline.Value

@[expose] public section

set_option maxRecDepth 16384

noncomputable section

namespace Cert.GlaRefIdeal.Body

open Idealize.ShloMosaic Idealize.ShloMosaic.TcCoe Idealize.ShloMosaic.StableHlo Cert.GlaRefIdeal.Gen Cert.GlaRefIdeal.Value Cert.GlaV

variable (a0 a1 : FVec Ideal S128x4x64x256 .f32) (a2 a4 o : FVec Ideal S128x4x64x512 .f32) (a3 : FVec Ideal S128x4x256 .f32)
  (s : FVec Ideal S4x256x512 .f32) (i : IVec S_ 32)

/-- A trip's offsets: the chunk's number on the first axis. -/
abbrev start4 : Fin 4 → Int := fun k => (((![i, constantI S_ 32 0#32, constantI S_ 32 0#32, constantI S_ 32 0#32] : Fin 4 → IVec S_ 32)) k (Shape.Idx.first h_S_)).toInt
abbrev start3 : Fin 3 → Int := fun k => (((![i, constantI S_ 32 0#32, constantI S_ 32 0#32] : Fin 3 → IVec S_ 32)) k (Shape.Idx.first h_S_)).toInt

/-- The state after a trip, … -/
def st6 : FVec Ideal S4x256x512 .f32 :=
  (addf (F := Ideal) (φ := .f32) (mulf (broadcastInDim S4x256x512 ![0, 1, 2] bcast_S4x256x1_S4x256x512_0_1_2 (broadcastInDim S4x256x1 ![0, 1] bcast_S4x256_S4x256x1_0_1 (Host.exp (F := Ideal) (φ := .f32) (shapeCast S4x256 (Host.dynamicSlice S1x4x256 a3 (start3 i) sliceFits_S128x4x256_S1x4x256) shapeCasts_S1x4x256_S4x256)))) s) (Host.dotGeneral (F := Ideal) (φ₁ := .f32) (φ₂ := .f32) dot_S4x64x256_S4x64x512_S4x256x512_1_1_2_2_0_0 none (shapeCast S4x64x256 (Host.dynamicSlice S1x4x64x256 a1 (start4 i) sliceFits_S128x4x64x256_S1x4x64x256) shapeCasts_S1x4x64x256_S4x64x256) (shapeCast S4x64x512 (Host.dynamicSlice S1x4x64x512 a2 (start4 i) sliceFits_S128x4x64x512_S1x4x64x512) shapeCasts_S1x4x64x512_S4x64x512)))
/-- … the chunk's output, … -/
def st7 : FVec Ideal S128x4x64x512 .f32 :=
  (Host.dynamicUpdateSlice o (broadcastInDim S1x4x64x512 ![1, 2, 3] bcast_S4x64x512_S1x4x64x512_1_2_3 (addf (F := Ideal) (φ := .f32) (shapeCast S4x64x512 (Host.dynamicSlice S1x4x64x512 a4 (start4 i) sliceFits_S128x4x64x512_S1x4x64x512) shapeCasts_S1x4x64x512_S4x64x512) (Host.dotGeneral (F := Ideal) (φ₁ := .f32) (φ₂ := .f32) dot_S4x64x256_S4x256x512_S4x64x512_2_1_1_2_0_0 none (shapeCast S4x64x256 (Host.dynamicSlice S1x4x64x256 a0 (start4 i) sliceFits_S128x4x64x256_S1x4x64x256) shapeCasts_S1x4x64x256_S4x64x256) s))) (start4 i) updateFits_S128x4x64x512_S1x4x64x512)

theorem step6_eq (V0 : Valuation τ sig (Elt Ideal)) : step_main_v45_6 V0 = st6 (V0 (Proc.devRef .tc main_v45_1)) (V0 (Proc.devRef .tc main_v45_2))
    (V0 (Proc.devRef .tc main_v45_3)) (V0 (Proc.devRef .tc main_v45_6)) (V0 (Proc.devRef .tc main_v45_5)) := rfl
theorem step7_eq (V0 : Valuation τ sig (Elt Ideal)) : step_main_v45_7 V0 = st7 (V0 (Proc.devRef .tc main_v45_0)) (V0 (Proc.devRef .tc main_v45_4))
    (V0 (Proc.devRef .tc main_v45_7)) (V0 (Proc.devRef .tc main_v45_6)) (V0 (Proc.devRef .tc main_v45_5)) := by
  unfold step_main_v45_7 st7
  rw [id_eq]
  rfl

variable (n : Fin 128) (hi : ∀ k, i k = BitVec.ofNat 32 n.val)
include hi

theorem start4_eq (k : Fin 4) : start4 i k = ((![n.val, 0, 0, 0] : Fin 4 → ℕ) k : Int) := by
  have hn := n.isLt
  match k with
  | ⟨0, _⟩ =>
    show (i (Shape.Idx.first h_S_)).toInt = (n.val : Int)
    rw [hi, BitVec.toInt_ofNat', Int.bmod_eq_of_le (by omega) (by omega)]
  | ⟨1, _⟩ => rfl
  | ⟨2, _⟩ => rfl
  | ⟨3, _⟩ => rfl
theorem start3_eq (k : Fin 3) : start3 i k = ((![n.val, 0, 0] : Fin 3 → ℕ) k : Int) := by
  have hn := n.isLt
  match k with
  | ⟨0, _⟩ =>
    show (i (Shape.Idx.first h_S_)).toInt = (n.val : Int)
    rw [hi, BitVec.toInt_ofNat', Int.bmod_eq_of_le (by omega) (by omega)]
  | ⟨1, _⟩ => rfl
  | ⟨2, _⟩ => rfl

theorem slice256 (x : FVec Ideal S128x4x64x256 .f32) (h : Fin 4) (t : Fin 64) (d : Fin 256) :
    (Host.dynamicSlice S1x4x64x256 x (start4 i) sliceFits_S128x4x64x256_S1x4x64x256 (ix4 0 h t d) : EReal) = x (ix4 n h t d) := by
  have hn := n.isLt
  rw [Host.dynamicSlice_eq_extractStridedSlice S1x4x64x256 x (start4 i) ![n.val, 0, 0, 0] _ ⟨rfl, fun a => by
    match a with
    | ⟨0, _⟩ => show n.val + 1 ≤ 128; omega
    | ⟨1, _⟩ => show 0 + 4 ≤ 4; omega
    | ⟨2, _⟩ => show 0 + 64 ≤ 64; omega
    | ⟨3, _⟩ => show 0 + 256 ≤ 256; omega⟩ (start4_eq i n hi)]
  pointwise

theorem slice512 (x : FVec Ideal S128x4x64x512 .f32) (h : Fin 4) (t : Fin 64) (d : Fin 512) :
    (Host.dynamicSlice S1x4x64x512 x (start4 i) sliceFits_S128x4x64x512_S1x4x64x512 (ix4 0 h t d) : EReal) = x (ix4 n h t d) := by
  have hn := n.isLt
  rw [Host.dynamicSlice_eq_extractStridedSlice S1x4x64x512 x (start4 i) ![n.val, 0, 0, 0] _ ⟨rfl, fun a => by
    match a with
    | ⟨0, _⟩ => show n.val + 1 ≤ 128; omega
    | ⟨1, _⟩ => show 0 + 4 ≤ 4; omega
    | ⟨2, _⟩ => show 0 + 64 ≤ 64; omega
    | ⟨3, _⟩ => show 0 + 512 ≤ 512; omega⟩ (start4_eq i n hi)]
  pointwise

theorem slice3 (x : FVec Ideal S128x4x256 .f32) (h : Fin 4) (d : Fin 256) :
    (Host.dynamicSlice S1x4x256 x (start3 i) sliceFits_S128x4x256_S1x4x256 (ix3 0 h d) : EReal) = x (ix3 n h d) := by
  have hn := n.isLt
  rw [Host.dynamicSlice_eq_extractStridedSlice S1x4x256 x (start3 i) ![n.val, 0, 0] _ ⟨rfl, fun a => by
    match a with
    | ⟨0, _⟩ => show n.val + 1 ≤ 128; omega
    | ⟨1, _⟩ => show 0 + 4 ≤ 4; omega
    | ⟨2, _⟩ => show 0 + 256 ≤ 256; omega⟩ (start3_eq i n hi)]
  pointwise

theorem update_ix (u : FVec Ideal S1x4x64x512 .f32) (k : Fin 128) (h : Fin 4) (t : Fin 64) (e : Fin 512) :
    (Host.dynamicUpdateSlice o u (start4 i) updateFits_S128x4x64x512_S1x4x64x512 (ix4 k h t e) : EReal)
      = if k = n then u (ix4 0 h t e) else o (ix4 k h t e) := by
  have hn := n.isLt
  have hh := h.isLt
  have ht := t.isLt
  have he := e.isLt
  have hadj : ∀ a : Fin 4, (min (max (start4 i a) 0) ((S128x4x64x512.size a - S1x4x64x512.size a : ℕ) : Int)).toNat = (![n.val, 0, 0, 0] : Fin 4 → ℕ) a := by
    intro a
    rw [start4_eq i n hi a]
    match a with
    | ⟨0, _⟩ => show (min (max ((n.val : ℕ) : Int) 0) ((127 : ℕ) : Int)).toNat = n.val; omega
    | ⟨1, _⟩ => rfl
    | ⟨2, _⟩ => rfl
    | ⟨3, _⟩ => rfl
  have h' : S128x4x64x512.Slices (![n.val, 0, 0, 0] : Fin 4 → ℕ) S1x4x64x512 := ⟨rfl, fun a => by
    match a with
    | ⟨0, _⟩ => show n.val + 1 ≤ 128; omega
    | ⟨1, _⟩ => show 0 + 4 ≤ 4; omega
    | ⟨2, _⟩ => show 0 + 64 ≤ 64; omega
    | ⟨3, _⟩ => show 0 + 512 ≤ 512; omega⟩
  refine (congrFun (Host.dynamicUpdateSlice_eq_updateSlice o u (start4 i) updateFits_S128x4x64x512_S1x4x64x512 ![n.val, 0, 0, 0] hadj h') _).trans ?_
  pointwise
  by_cases hk : k = n
  · subst hk
    rw [dif_pos (by omega), if_pos rfl]
    exact congrArg (fun z => u (ix4 z h t e)) (Fin.ext (by show k.val - k.val = 0; omega))
  · have hv : k.val ≠ n.val := fun h => hk (Fin.ext h)
    rw [dif_neg (by omega), if_neg hk]

theorem st6_ix (h : Fin 4) (d : Fin 256) (e : Fin 512) : (st6 a1 a2 a3 s i (ix3 h d e) : EReal)
    = Ideal.exp (a3 (ix3 n h d)) * s (ix3 h d e) + ∑ r : Fin 64, a1 (ix4 n h r d) * a2 (ix4 n h r e) := by
  unfold st6
  have e1 := slice256 i n hi a1
  have e2 := slice512 i n hi a2
  have e3 := slice3 i n hi a3
  generalize Host.dynamicSlice S1x4x64x256 a1 (start4 i) sliceFits_S128x4x64x256_S1x4x64x256 = b1 at e1 ⊢
  generalize Host.dynamicSlice S1x4x64x512 a2 (start4 i) sliceFits_S128x4x64x512_S1x4x64x512 = b2 at e2 ⊢
  generalize Host.dynamicSlice S1x4x256 a3 (start3 i) sliceFits_S128x4x256_S1x4x256 = b3 at e3 ⊢
  pointwise
  simp only [e1, e2, e3]

theorem st7_ix (k : Fin 128) (h : Fin 4) (t : Fin 64) (e : Fin 512) : (st7 a0 a4 o s i (ix4 k h t e) : EReal)
    = if k = n then a4 (ix4 n h t e) + ∑ d : Fin 256, a0 (ix4 n h t d) * s (ix3 h d e) else o (ix4 k h t e) := by
  unfold st7
  have e1 := slice256 i n hi a0
  have e2 := slice512 i n hi a4
  generalize Host.dynamicSlice S1x4x64x256 a0 (start4 i) sliceFits_S128x4x64x256_S1x4x64x256 = b1 at e1 ⊢
  generalize Host.dynamicSlice S1x4x64x512 a4 (start4 i) sliceFits_S128x4x64x512_S1x4x64x512 = b2 at e2 ⊢
  have hn := n.isLt
  rw [update_ix o i n hi]
  split
  · pointwise
    simp only [e1, e2]
  · rfl

end Cert.GlaRefIdeal.Body
end
-- ==== Proof.GlaV.RefIdx.lean ====
/- The reference's arrays before its scan, at an element: the recurrence's quantities at row `64 n + t` and the head's columns. -/
module

public import proofs.«01_k».proof.Proof.GlaV.RefTerms

@[expose] public section

set_option maxRecDepth 16384

noncomputable section

namespace Cert.GlaRefIdeal.Body

open Idealize.ShloMosaic Idealize.ShloMosaic.TcCoe Cert.GlaRefIdeal.Gen Cert.GlaV

variable (x : FVec Ideal S8192x12320 .f32) (w : FVec Ideal S16x1024 .f32) (bg : FVec Ideal S1024 .f32)

/-- The arguments as numbered matrices. -/
abbrev Xn : ℕ → ℕ → EReal := at2 (n := 8192) (k := 12320) x
abbrev Wn' : ℕ → ℕ → EReal := at2 (n := 16) (k := 1024) w
abbrev Bn : ℕ → EReal := at1 (n := 1024) bg

theorem tG_ix (s : Fin 8192) (j : Fin 1024) : (tG x w bg (ix2 s j) : EReal) = gA (Xn x) (Wn' w) (Bn bg) s.val j.val := by
  unfold tG gA
  pointwise
  simp only [at2_ix, at1_ix]

theorem tSp_ix (n : FVec Ideal S8192x1024 .f32) (i : S8192x1024.Idx) :
    (tSp n i : EReal) = max (n i) 0 + Ideal.log (1 + Ideal.exp (-(max (n i) (-(n i))))) := by
  unfold tSp
  pointwise
  rw [if_neg (fun h => h rfl)]
  rfl

theorem sixteen : Ideal.ofBits FTy.f32 1098907648#32 = ((16 : ℝ) : EReal) := by
  simp [Ideal.ofBits, Ideal.ieee, -EReal.coe_mul]; norm_num

theorem tLA_ix (s : Fin 8192) (j : Fin 1024) : (tLA x w bg (ix2 s j) : EReal) = laA (Xn x) (Wn' w) (Bn bg) s.val j.val := by
  unfold tLA laA
  pointwise
  rw [tSp_ix]
  pointwise
  rw [tG_ix]
  generalize gA (Xn x) (Wn' w) (Bn bg) s.val j.val = g
  rw [show FloatOps.absf (F := Ideal) (φ := .f32) g = max g (-g) from rfl, logsig, k16_eq, sixteen, Ideal.div_coe (by norm_num)]

theorem tCh_ix (y : FVec Ideal S8192x1024 .f32) (h : Fin 4) (n : Fin 128) (t : Fin 64) (d : Fin 256) :
    (tCh y (ix4 h n t d) : EReal) = at2 (n := 8192) (k := 1024) y (64 * n.val + t.val) (256 * h.val + d.val) := by
  unfold tCh
  pointwise
  refine (at2_ix (n := 8192) (k := 1024) y _ _).trans ?_
  congr 1 <;> (dsimp only; omega)

theorem tV_ix (h : Fin 4) (n : Fin 128) (t : Fin 64) (d : Fin 512) :
    (tV x (ix4 h n t d) : EReal) = vA (Xn x) (64 * n.val + t.val) (512 * h.val + d.val) := by
  unfold tV vA
  pointwise
  refine (at2_ix (n := 8192) (k := 12320) x _ _).trans ?_
  congr 1 <;> (dsimp only; omega)

theorem tM_ix (t r : Fin 64) : tM (ix2 t r) = if r.val ≤ t.val then 1#1 else 0#1 := by
  unfold tM
  pointwise
  rw [IntOp.addi, BitVec.add_zero, WordCmp.cmpi_sge_ofNat (by have := t.isLt; omega) (by have := r.isLt; omega)]
  by_cases h : r.val ≤ t.val
  · rw [if_pos h]; simp [h, Scalar.select]
  · rw [if_neg h]; simp [h, Scalar.select]

section Chunk

variable (h : Fin 4) (n : Fin 128) (t : Fin 64) (d : Fin 256) (e : Fin 512)

abbrev laN : ℕ → ℕ → EReal := laA (Xn x) (Wn' w) (Bn bg)

theorem at2_of (A : FVec Ideal S8192x1024 .f32) (f : ℕ → ℕ → EReal) (hA : ∀ (s : Fin 8192) (j : Fin 1024), (A (ix2 s j) : EReal) = f s.val j.val)
    (s j : ℕ) (hs : s < 8192) (hj : j < 1024) : at2 (n := 8192) (k := 1024) A s j = f s j := by
  unfold at2; rw [dif_pos ⟨hs, hj⟩]; exact hA ⟨s, hs⟩ ⟨j, hj⟩

theorem tQ_ix : (tQ x (ix4 h n t d) : EReal) = qA (Xn x) (64 * n.val + t.val) (256 * h.val + d.val) := by
  have h1 := h.isLt; have h2 := n.isLt; have h3 := t.isLt; have h4 := d.isLt
  unfold tQ qA
  pointwise
  rw [tCh_ix, at2_of _ (fun s j => Xn x s (6160 + j)) _ _ _ (by omega) (by omega)]
  intro s j
  pointwise
  exact at2_ix (n := 8192) (k := 12320) x s _

theorem tK_ix : (tK x (ix4 h n t d) : EReal) = kA (Xn x) (64 * n.val + t.val) (256 * h.val + d.val) := by
  have h1 := h.isLt; have h2 := n.isLt; have h3 := t.isLt; have h4 := d.isLt
  unfold tK kA
  rw [tCh_ix, at2_of _ (fun s j => Xn x s (7184 + j)) _ _ _ (by omega) (by omega)]
  intro s j
  pointwise
  exact at2_ix (n := 8192) (k := 12320) x s _

theorem tB_ix : (tB x w bg (ix4 h n t d) : EReal) = B (laN x w bg) (64 * n.val + t.val) (256 * h.val + d.val) := by
  have h1 := h.isLt; have h2 := n.isLt; have h3 := t.isLt; have h4 := d.isLt
  unfold tB B
  rw [cum_apply]
  · refine Finset.sum_congr rfl fun r _ => ?_
    have h5 := r.isLt
    rw [tCh_ix, at2_of _ _ (tLA_ix x w bg) _ _ (by omega) (by omega), show (64 * n.val + t.val) % 64 = t.val by omega,
      show (64 * n.val + t.val) / 64 = n.val by omega]
  · intro i; exact Ideal.ofBits_zero_f32

theorem tBl_ix : (tBl x w bg (ix4 h n 0 d) : EReal) = BL (laN x w bg) (64 * n.val + t.val) (256 * h.val + d.val) := by
  have h1 := h.isLt; have h2 := n.isLt; have h3 := t.isLt; have h4 := d.isLt
  unfold tBl BL
  pointwise
  rw [show (64 * n.val + t.val) / 64 = n.val by omega]
  exact tB_ix x w bg h n ⟨63, by norm_num⟩ d

theorem tQD_ix : (tQD x w bg (ix4 h n t d) : EReal) = QD (qA (Xn x)) (laN x w bg) (64 * n.val + t.val) (256 * h.val + d.val) := by
  unfold tQD QD
  pointwise
  rw [tQ_ix, tB_ix]

theorem tKI_ix : (tKI x w bg (ix4 h n t d) : EReal) = KI (kA (Xn x)) (laN x w bg) (64 * n.val + t.val) (256 * h.val + d.val) := by
  unfold tKI KI
  pointwise
  rw [tK_ix, tB_ix, zero_sub]

theorem tKE_ix : (tKE x w bg (ix4 h n t d) : EReal) = KE (kA (Xn x)) (laN x w bg) (64 * n.val + t.val) (256 * h.val + d.val) := by
  unfold tKE KE
  pointwise
  rw [tK_ix, tB_ix, tBl_ix x w bg h n t d]

theorem tA_ix (r : Fin 64) : (tA x w bg (ix4 h n t r) : EReal)
    = if r.val ≤ t.val then ∑ d : Fin 256, QD (qA (Xn x)) (laN x w bg) (64 * n.val + t.val) (256 * h.val + d.val)
        * KI (kA (Xn x)) (laN x w bg) (64 * n.val + r.val) (256 * h.val + d.val) else 0 := by
  unfold tA
  pointwise
  simp only [tM_ix, tQD_ix, tKI_ix]
  by_cases hr : r.val ≤ t.val
  · simp only [if_pos hr]; simp [Scalar.select]
  · simp only [if_neg hr]; simp only [Scalar.select, zero_, constant]; exact Ideal.ofBits_zero_f32

theorem tOI_ix : (tOI x w bg (ix4 h n t e) : EReal)
    = OI (qA (Xn x)) (kA (Xn x)) (vA (Xn x)) (laN x w bg) h.val (64 * n.val + t.val) e.val := by
  have h2 := n.isLt; have h3 := t.isLt
  unfold tOI OI
  pointwise
  refine Finset.sum_congr rfl fun r _ => ?_
  rw [tA_ix, tV_ix, show (64 * n.val + t.val) % 64 = t.val by omega, show (64 * n.val + t.val) / 64 = n.val by omega]

end Chunk

end Cert.GlaRefIdeal.Body
end
-- ==== Proof.GlaV.RefLoop.lean ====
/- The reference's scan: after `n` trips the state is the recurrence's, and the first `n` chunks of the output are its outputs. -/
module

public import proofs.«01_k».proof.Proof.GlaV.RefStep
public import proofs.«01_k».proof.Proof.GlaV.RefIdx

@[expose] public section

set_option maxRecDepth 16384

noncomputable section

namespace Cert.GlaRefIdeal.Body

open Idealize.ShloMosaic Idealize.ShloMosaic.TcCoe Idealize.ShloMosaic.StableHlo Cert.GlaRefIdeal.Gen Cert.GlaRefIdeal.Value Cert.GlaV

variable (m : (l : Loc nD τ sig) → Buf (Elt Ideal) l) (c : Dev nD)

/-- The recurrence's arrays in this launch's arguments. -/
abbrev Qr : ℕ → ℕ → EReal := qA (Xn (X0 m c))
abbrev Kr : ℕ → ℕ → EReal := kA (Xn (X0 m c))
abbrev Vr : ℕ → ℕ → EReal := vA (Xn (X0 m c))
abbrev Lr : ℕ → ℕ → EReal := laN (X0 m c) (W0 m c) (B0 m c)

/-- The buffers after `n` trips. -/
abbrev Vn (n : ℕ) : Valuation τ sig (Elt Ideal) := STEP^[n] (entryContents preI m c)

theorem Vn_succ (n : ℕ) : Vn m c (n + 1) = STEP (Vn m c n) := Function.iterate_succ_apply' _ _ _

theorem Vn_0 (n : ℕ) : Vn m c n (Proc.devRef .tc main_v45_0) = entryContents preI m c (Proc.devRef .tc main_v45_0) := by
  induction n with
  | zero => rfl
  | succ n ih => rw [Vn_succ, STEP_main_v45_0, ih]
theorem Vn_1 (n : ℕ) : Vn m c n (Proc.devRef .tc main_v45_1) = entryContents preI m c (Proc.devRef .tc main_v45_1) := by
  induction n with
  | zero => rfl
  | succ n ih => rw [Vn_succ, STEP_main_v45_1, ih]
theorem Vn_2 (n : ℕ) : Vn m c n (Proc.devRef .tc main_v45_2) = entryContents preI m c (Proc.devRef .tc main_v45_2) := by
  induction n with
  | zero => rfl
  | succ n ih => rw [Vn_succ, STEP_main_v45_2, ih]
theorem Vn_3 (n : ℕ) : Vn m c n (Proc.devRef .tc main_v45_3) = entryContents preI m c (Proc.devRef .tc main_v45_3) := by
  induction n with
  | zero => rfl
  | succ n ih => rw [Vn_succ, STEP_main_v45_3, ih]
theorem Vn_4 (n : ℕ) : Vn m c n (Proc.devRef .tc main_v45_4) = entryContents preI m c (Proc.devRef .tc main_v45_4) := by
  induction n with
  | zero => rfl
  | succ n ih => rw [Vn_succ, STEP_main_v45_4, ih]

/-- The counter counts the trips. -/
theorem Vn_5 (n : ℕ) (k : S_.Idx) : (Vn m c n (Proc.devRef .tc main_v45_5) : IVec S_ 32) k = BitVec.ofNat 32 n := by
  induction n with
  | zero => exact congrFun (entry5 m c) k
  | succ n ih =>
    rw [Vn_succ, STEP_main_v45_5]
    have e : (step_main_v45_5 (Vn m c n) : IVec S_ 32) k = BitVec.ofNat 32 n + 1#32 := congrArg (fun z : BitVec 32 => z + 1#32) ih
    exact e.trans (BitVec.ofNat_add n 1).symm

theorem in0 (n : Fin 128) (h : Fin 4) (t : Fin 64) (d : Fin 256) :
    ((entryContents preI m c (Proc.devRef .tc main_v45_0) : FVec Ideal S128x4x64x256 .f32) (ix4 n h t d) : EReal)
      = QD (Qr m c) (Lr m c) (64 * n.val + t.val) (256 * h.val + d.val) := by
  rw [entry0]
  pointwise
  rw [tQD_ix]
theorem in1 (n : Fin 128) (h : Fin 4) (t : Fin 64) (d : Fin 256) :
    ((entryContents preI m c (Proc.devRef .tc main_v45_1) : FVec Ideal S128x4x64x256 .f32) (ix4 n h t d) : EReal)
      = KE (Kr m c) (Lr m c) (64 * n.val + t.val) (256 * h.val + d.val) := by
  rw [entry1]
  pointwise
  rw [tKE_ix]
theorem in2 (n : Fin 128) (h : Fin 4) (t : Fin 64) (e : Fin 512) :
    ((entryContents preI m c (Proc.devRef .tc main_v45_2) : FVec Ideal S128x4x64x512 .f32) (ix4 n h t e) : EReal)
      = Vr m c (64 * n.val + t.val) (512 * h.val + e.val) := by
  rw [entry2]
  pointwise
  rw [tV_ix]
theorem in3 (n : Fin 128) (h : Fin 4) (d : Fin 256) :
    ((entryContents preI m c (Proc.devRef .tc main_v45_3) : FVec Ideal S128x4x256 .f32) (ix3 n h d) : EReal)
      = BL (Lr m c) (64 * n.val) (256 * h.val + d.val) := by
  rw [entry3]
  pointwise
  exact tBl_ix (X0 m c) (W0 m c) (B0 m c) h n ⟨0, by norm_num⟩ d
theorem in4 (n : Fin 128) (h : Fin 4) (t : Fin 64) (e : Fin 512) :
    ((entryContents preI m c (Proc.devRef .tc main_v45_4) : FVec Ideal S128x4x64x512 .f32) (ix4 n h t e) : EReal)
      = OI (Qr m c) (Kr m c) (Vr m c) (Lr m c) h.val (64 * n.val + t.val) e.val := by
  rw [entry4]
  pointwise
  rw [tOI_ix]

/-- The state after `n` trips. -/
theorem Vn_6 (n : ℕ) (hn : n ≤ 128) (h : Fin 4) (d : Fin 256) (e : Fin 512) :
    ((Vn m c n (Proc.devRef .tc main_v45_6) : FVec Ideal S4x256x512 .f32) (ix3 h d e) : EReal)
      = GlaV.ST (Kr m c) (Vr m c) (Lr m c) h.val n e.val d.val := by
  induction n generalizing h d e with
  | zero =>
    rw [show Vn m c 0 = entryContents preI m c from rfl, entry6]
    exact Ideal.ofBits_zero_f32
  | succ n ih =>
    have hn' : n < 128 := hn
    rw [Vn_succ, STEP_main_v45_6, step6_eq]
    refine (st6_ix _ _ _ _ _ ⟨n, hn'⟩ (Vn_5 m c n) h d e).trans ?_
    rw [Vn_1, Vn_2, Vn_3, ih (by omega), in3, GlaV.ST_succ, mul_comm (Ideal.exp _)]
    refine congrArg (_ + ·) (Finset.sum_congr rfl fun r _ => ?_)
    rw [in1, in2, mul_comm]

/-- The chunks written after `n` trips. -/
theorem Vn_7 (n : ℕ) (hn : n ≤ 128) (k : Fin 128) (hk : k.val < n) (h : Fin 4) (t : Fin 64) (e : Fin 512) :
    ((Vn m c n (Proc.devRef .tc main_v45_7) : FVec Ideal S128x4x64x512 .f32) (ix4 k h t e) : EReal)
      = O (Qr m c) (Kr m c) (Vr m c) (Lr m c) h.val (64 * k.val + t.val) e.val := by
  have ht := t.isLt
  induction n with
  | zero => omega
  | succ n ih =>
    have hn' : n < 128 := hn
    rw [Vn_succ, STEP_main_v45_7, step7_eq]
    refine (st7_ix _ _ _ _ _ ⟨n, hn'⟩ (Vn_5 m c n) k h t e).trans ?_
    by_cases hkn : k = ⟨n, hn'⟩
    · rw [if_pos hkn]
      subst hkn
      rw [Vn_4, in4]
      unfold O
      refine congrArg (_ + ·) (Finset.sum_congr rfl fun d _ => ?_)
      rw [Vn_0, in0, Vn_6 m c n (by omega), show (64 * n + t.val) / 64 = n by omega]
    · rw [if_neg hkn]
      exact ih (by omega) (lt_of_le_of_ne (by omega) fun h => hkn (Fin.ext h))

end Cert.GlaRefIdeal.Body
end
-- ==== Proof.GlaV.RefOut.lean ====
/- The reference's result at an element: the layer's specification at the row and the head's column. -/
module

public import proofs.«01_k».proof.Proof.GlaV.RefLoop

@[expose] public section

set_option maxRecDepth 16384

noncomputable section

namespace Cert.GlaRefIdeal.Body

open Idealize.ShloMosaic Idealize.ShloMosaic.TcCoe Idealize.ShloMosaic.StableHlo Cert.GlaRefIdeal.Gen Cert.GlaRefIdeal.Value Cert.GlaV

section Terms

variable (x : FVec Ideal S8192x12320 .f32) (o : FVec Ideal S128x4x64x512 .f32) (g : FVec Ideal S512 .f32)

/-- The scan's outputs by row and head; the output gate's columns. -/
def tO : FVec Ideal S8192x4x512 .f32 :=
  shapeCast S8192x4x512 (transpose S128x64x4x512 [0, 2, 1, 3] o transposes_S128x4x64x512_S128x64x4x512_0_2_1_3) shapeCasts_S128x64x4x512_S8192x4x512
def tR : FVec Ideal S8192x2048 .f32 := extractStridedSlice S8192x2048 ![0, 10256] x slices_S8192x12320_S8192x2048_0_10256
/-- The result. -/
def tOut : FVec Ideal S8192x2048 .bf16 :=
  truncf (F := Ideal) (φ := .f32) .bf16 (shapeCast S8192x2048 (mulf (mulf (mulf (tO o) (broadcastInDim S8192x4x512 ![0, 1, 2] bcast_S8192x4x1_S8192x4x512_0_1_2 (Host.rsqrt (addf (Host.divf (broadcastInDim S8192x4x1 ![0, 1] bcast_S8192x4_S8192x4x1_0_1 (Host.reduceAdd (mulf (tO o) (tO o)) (constant S_ .f32 0x00000000#32) reducesTo_S8192x4x512_S8192x4_d2 h_S_)) (broadcastInDim S8192x4x1 ![] bcast_S_S8192x4x1 (constant S_ .f32 0x44000000#32))) (broadcastInDim S8192x4x1 ![] bcast_S_S8192x4x1 (constant S_ .f32 0x358637BD#32)))))) (broadcastInDim S8192x4x512 ![0, 1, 2] bcast_S1x1x512_S8192x4x512_0_1_2 (broadcastInDim S1x1x512 ![2] bcast_S512_S1x1x512_2 g))) (shapeCast S8192x4x512 (mulf (tR x) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (tR x)))))) shapeCasts_S8192x2048_S8192x4x512)) shapeCasts_S8192x4x512_S8192x2048) bitsLt_bf16_f32

theorem out_eq (V0 : Valuation τ sig (Elt Ideal)) : out_main_v66 V0 = tOut (V0 (Proc.devRef .tc main_arg0)) (V0 (Proc.devRef .tc main_v45_7)) (V0 (Proc.devRef .tc main_arg3)) := by
  unfold out_main_v66 tOut tO tR
  rfl

theorem tO_ix (s : Fin 8192) (h : Fin 4) (e : Fin 512) : (tO o (ix3 s h e) : EReal)
    = o (ix4 ⟨s.val / 64, by have := s.isLt; omega⟩ h ⟨s.val % 64, Nat.mod_lt _ (by norm_num)⟩ e) := by
  unfold tO
  pointwise

theorem tR_ix (s : Fin 8192) (j : Fin 2048) : (tR x (ix2 s j) : EReal) = rA (Xn x) s.val j.val := by
  unfold tR rA
  pointwise
  exact at2_ix (n := 8192) (k := 12320) x s _

theorem tOut_ix (s : Fin 8192) (j : Fin 2048) (f : ℕ → EReal)
    (hf : ∀ e : Fin 512, (tO o (ix3 s ⟨j.val / 512, by have := j.isLt; omega⟩ e) : EReal) = f e.val) : (tOut x o g (ix2 s j) : EReal)
    = f (j.val % 512) * Ideal.rsqrt (Ideal.div (∑ e : Fin 512, f e.val * f e.val) (Ideal.ofBits FTy.f32 1140850688#32) + Ideal.ofBits FTy.f32 897988541#32)
      * at1 (n := 512) g (j.val % 512) * (rA (Xn x) s.val j.val * Ideal.logistic (rA (Xn x) s.val j.val)) := by
  unfold tOut
  pointwise
  simp only [hf, tR_ix]
  exact congrArg (fun z => _ * z * _) (at1_ix (n := 512) g _)

end Terms

variable (m : (l : Loc nD τ sig) → Buf (Elt Ideal) l) (c : Dev nD)

/-- The reference's result is the specification. -/
theorem ref_spec (s : Fin 8192) (j : Fin 2048) :
    ((out_main_v66 (Vn m c 128) : FVec Ideal S8192x2048 .bf16) (ix2 s j) : EReal)
      = OUT (Qr m c) (Kr m c) (Vr m c) (rA (Xn (X0 m c))) (Lr m c) (at1 (n := 512) (N0 m c)) (j.val / 512) s.val (j.val % 512) := by
  have hs := s.isLt
  rw [out_eq]
  refine (tOut_ix _ _ _ s j (fun e => O (Qr m c) (Kr m c) (Vr m c) (Lr m c) (j.val / 512) s.val e) (fun e => ?_)).trans ?_
  · rw [tO_ix]
    refine (Vn_7 m c 128 le_rfl _ (by dsimp only; omega) _ _ e).trans ?_
    dsimp only
    rw [show 64 * (s.val / 64) + s.val % 64 = s.val by omega]
  · have e0 : Vn m c 128 (Proc.devRef .tc main_arg0) = X0 m c := iter_main_arg0 m c 128
    have e3 : Vn m c 128 (Proc.devRef .tc main_arg3) = N0 m c := iter_main_arg3 m c 128
    rw [e0, e3]
    unfold OUT
    rw [show 512 * (j.val / 512) + j.val % 512 = j.val by omega]

end Cert.GlaRefIdeal.Body
end
-- ==== Proof.GlaV.Equation.lean ====
/- The recurrence's call and its reference: both results are the layer's specification of the arguments. -/
module

public import proofs.«01_k».proof.Defs
public import proofs.«01_k».proof.Proof.GlaV.Final
public import proofs.«01_k».proof.Proof.GlaV.RefOut
public import proofs.«01_k».proof.Proof.Gen.Gla.Frame

@[expose] public section

noncomputable section

namespace Cert.GlaV

open Idealize.ShloMosaic Idealize.SL.Sem

/-- On every device the launch's result is the reference's, where the arguments agree. -/
theorem results_eq (m : (l : Loc GlaIdeal.nD GlaIdeal.τ GlaIdeal.sig) → Buf (Elt Ideal) l)
    (m' : (l : Loc GlaRefIdeal.nD GlaRefIdeal.τ GlaRefIdeal.sig) → Buf (Elt Ideal) l) (c : Dev GlaIdeal.nD)
    (h0 : GlaRefIdeal.Body.X0 m' c = (m ((c.tc : Thread GlaIdeal.nD GlaIdeal.τ).loc GlaIdeal.main_arg0) : FVec Ideal GlaIdeal.S8192x12320 .f32))
    (h1 : GlaRefIdeal.Body.W0 m' c = (m ((c.tc : Thread GlaIdeal.nD GlaIdeal.τ).loc GlaIdeal.main_arg1) : FVec Ideal GlaIdeal.S16x1024 .f32))
    (h2 : GlaRefIdeal.Body.B0 m' c = (m ((c.tc : Thread GlaIdeal.nD GlaIdeal.τ).loc GlaIdeal.main_arg2) : FVec Ideal GlaIdeal.S1024 .f32))
    (h3 : GlaRefIdeal.Body.N0 m' c = (m ((c.tc : Thread GlaIdeal.nD GlaIdeal.τ).loc GlaIdeal.main_arg3) : FVec Ideal GlaIdeal.S512 .f32)) :
    (GlaRefIdeal.Value.out_main_v66 (GlaRefIdeal.Body.Vn m' c 128) : FVec Ideal GlaIdeal.S8192x2048 .bf16) = GlaIdeal.Value.G9 m c := by
  funext i
  obtain ⟨s, j, rfl⟩ : ∃ (s : Fin 8192) (j : Fin 2048), i = ix2 s j := ⟨i 0, i 1, eq_ix2 i⟩
  refine (GlaRefIdeal.Body.ref_spec m' c s j).trans (Eq.trans ?_ (GlaIdeal.Body.G9_spec m c s j).symm)
  unfold GlaRefIdeal.Body.Qr GlaRefIdeal.Body.Kr GlaRefIdeal.Body.Vr GlaRefIdeal.Body.Lr
  rw [h0, h1, h2, h3]

theorem frame_kernel : Cert.quiescent_Gla := fun m ρ _ => Cert.Gla.Gen.frame m ρ
theorem frame_ideal : Cert.quiescent_GlaIdeal := fun m ρ _ => Cert.GlaIdeal.Gen.frame m ρ
theorem frame_ref : Cert.quiescent_GlaRefIdeal := fun m ρ _ => (θ_run Cert.GlaRefIdeal.defs _ _).mono
  (fun r h => ⟨fun c => (h c).2, sem_eq_zero_of_no_sems (by decide) r.2⟩) (Cert.GlaRefIdeal.Value.run m ρ)

theorem equation : Cert.algebraic_GlaIdeal_GlaRefIdeal := by
  intro m ρ m' ρ' _ h
  refine ⟨fun c => Cert.GlaIdeal.Value.G9 m c, Cert.GlaIdeal.Value.run m ρ, ?_⟩
  refine (θ_run Cert.GlaRefIdeal.defs _ _).mono (fun _ hr c => ⟨(hr c).1.trans ?_, (hr c).2⟩) (Cert.GlaRefIdeal.Value.run m' ρ')
  exact results_eq m m' c (h c).1 (h c).2.1 (h c).2.2.1 (h c).2.2.2

end Cert.GlaV
end
-- ==== Proof.RowsV.Rows.lean ====
/- Arrays of 4096 columns worked on 32 rows at a time: a chunk of 32 rows, the load that reads it, and four stores of chunks
   that follow one another. -/
module

public import Idealize.ShloMosaic.Lib.WritesUnit
public import Idealize.ShloMosaic.Lib.VecWindow
public import Idealize.ShloMosaic.Lib.Pointwise

@[expose] public section

noncomputable section

namespace Cert.Rows

open Idealize.ShloMosaic Idealize.ShloMosaic.TcCoe

variable {F : FTy → Type} {sig : RefSig} {e : EltTy} {n : ℕ} [NeZero n]

/-- The shape of `n` rows of 4096 columns. -/
abbrev rows (n : ℕ) : Shape := ⟨2, ![n, 4096]⟩

/-- The 32 rows from row `o` on. -/
def win (x : Vec F (rows n) e) (o : ℕ) : Vec F (rows 32) e :=
  fun z => x (ix2 ⟨(o + (z 0).val) % n, Nat.mod_lt _ (Nat.pos_of_neZero n)⟩ (z 1))

/-- The position of a row and column within its chunk of 32 rows. -/
def loc (y : (rows n).Idx) : (rows 32).Idx := ix2 ⟨(y 0).val % 32, Nat.mod_lt _ (by decide)⟩ (y 1)

/-- A load of 32 rows reads those rows. -/
theorem readAt_rows (v : View sig .tc .vmem (rows n) e) (f : v.ty.Contents (Elt F)) {off : Fin 2 → ℕ} (inb : ∀ a, off a + (rows 32).size a ≤ (rows n).size a)
    (o : ℕ) (h : off = ![o, 0]) : v.readAt (Elt F) (Rect.unit (s := (rows n)) off (rows 32).size inb).toLoadRect f = win (v.read (Elt F) f) o := by
  subst h
  funext z
  refine congrArg (v.read (Elt F) f) (funext fun a => Fin.ext ?_)
  have h0 : o + 32 ≤ n := inb 0
  have hz : (z 0).val < 32 := (z 0).isLt
  match a with
  | ⟨0, _⟩ => show o + 1 * (z 0).val = (o + (z 0).val) % n; rw [Nat.mod_eq_of_lt (by omega)]; omega
  | ⟨1, _⟩ => show 0 + 1 * (z 1).val = (z 1).val; omega

/-- Four stores of 32 consecutive rows, read at an element. -/
theorem read_rows4 (v : View sig .tc .vmem (rows n) e) (f : v.ty.Contents (Elt F)) {f0 f1 f2 f3 : Fin 2 → ℕ}
    (i0 : ∀ a, f0 a + (rows 32).size a ≤ (rows n).size a) (i1 : ∀ a, f1 a + (rows 32).size a ≤ (rows n).size a)
    (i2 : ∀ a, f2 a + (rows 32).size a ≤ (rows n).size a) (i3 : ∀ a, f3 a + (rows 32).size a ≤ (rows n).size a)
    (w0 w1 w2 w3 : Vec F (rows 32) e) (o : ℕ) (ho : o % 32 = 0) (h0 : f0 = ![o, 0]) (h1 : f1 = ![o + 32, 0]) (h2 : f2 = ![o + 64, 0]) (h3 : f3 = ![o + 96, 0])
    (G : Vec F (rows n) e)
    (g0 : ∀ y, (y 0).val / 32 = o / 32 → w0 (loc y) = G y) (g1 : ∀ y, (y 0).val / 32 = o / 32 + 1 → w1 (loc y) = G y)
    (g2 : ∀ y, (y 0).val / 32 = o / 32 + 2 → w2 (loc y) = G y) (g3 : ∀ y, (y 0).val / 32 = o / 32 + 3 → w3 (loc y) = G y) (y : (rows n).Idx) :
    v.read (Elt F) (v.writes (Elt F) f [⟨Rect.unit (s := (rows n)) f3 (rows 32).size i3, w3⟩, ⟨Rect.unit (s := (rows n)) f2 (rows 32).size i2, w2⟩,
      ⟨Rect.unit (s := (rows n)) f1 (rows 32).size i1, w1⟩, ⟨Rect.unit (s := (rows n)) f0 (rows 32).size i0, w0⟩]) y
      = if o ≤ (y 0).val ∧ (y 0).val < o + 128 then G y else v.read (Elt F) f y := by
  by_cases c3 : (y 0).val / 32 = o / 32 + 3
  · rw [if_pos (by omega), ← g3 y c3]
    exact View.read_writes_cons_rows_of_mem v f i3 w3 _ y (loc y) h3 (by show (y 0).val = o + 96 + (y 0).val % 32; omega) rfl
  rw [View.read_writes_cons_rows_of_not_mem v f i3 w3 _ y h3 (W := 32) rfl (by omega)]
  by_cases c2 : (y 0).val / 32 = o / 32 + 2
  · rw [if_pos (by omega), ← g2 y c2]
    exact View.read_writes_cons_rows_of_mem v f i2 w2 _ y (loc y) h2 (by show (y 0).val = o + 64 + (y 0).val % 32; omega) rfl
  rw [View.read_writes_cons_rows_of_not_mem v f i2 w2 _ y h2 (W := 32) rfl (by omega)]
  by_cases c1 : (y 0).val / 32 = o / 32 + 1
  · rw [if_pos (by omega), ← g1 y c1]
    exact View.read_writes_cons_rows_of_mem v f i1 w1 _ y (loc y) h1 (by show (y 0).val = o + 32 + (y 0).val % 32; omega) rfl
  rw [View.read_writes_cons_rows_of_not_mem v f i1 w1 _ y h1 (W := 32) rfl (by omega)]
  by_cases c0 : (y 0).val / 32 = o / 32
  · rw [if_pos (by omega), ← g0 y c0]
    exact View.read_writes_cons_rows_of_mem v f i0 w0 _ y (loc y) h0 (by show (y 0).val = o + (y 0).val % 32; omega) rfl
  rw [View.read_writes_cons_rows_of_not_mem v f i0 w0 _ y h0 (W := 32) rfl (by omega), if_neg (by omega)]
  rfl

theorem win_congr {x x' : Vec F (rows n) e} (o : ℕ) (ho : o + 32 ≤ n) (h : ∀ y : (rows n).Idx, o ≤ (y 0).val → x y = x' y) : win x o = win x' o := by
  funext z
  have hz : (z 0).val < 32 := (z 0).isLt
  refine h _ ?_
  show o ≤ (o + (z 0).val) % n
  rw [Nat.mod_eq_of_lt (by omega)]; omega

theorem win_at (x : Vec F (rows n) e) (r : Fin n) (k : Fin 4096) (h : r.val % 32 < 32) :
    win x (32 * (r.val / 32)) (ix2 ⟨r.val % 32, h⟩ k) = x (ix2 r k) := by
  unfold win
  refine congrArg x (congrArg₂ ix2 (Fin.ext ?_) rfl)
  have := r.isLt
  show (32 * (r.val / 32) + r.val % 32) % n = r.val
  rw [Nat.mod_eq_of_lt (by omega)]; omega

end Cert.Rows
-- ==== Proof.FirstV.Spec.lean ====
/- What one grid point of the first feed-forward call leaves in its scratch arrays and in its output block, as functions of the
   blocks the point stages. -/
module

public import proofs.«01_k».proof.Proof.Gen.FirstIdeal.Loops
public import proofs.«01_k».proof.Proof.RowsV.Rows
public import Idealize.ShloMosaic.Lib.WritesUnit
public import Idealize.ShloMosaic.Lib.VecWindow
public import Idealize.ShloMosaic.Lib.Pointwise

@[expose] public section

set_option maxRecDepth 16384

noncomputable section

namespace Cert.FirstIdeal.Body

open Idealize.ShloMosaic Idealize.ShloMosaic.TcCoe Cert.FirstIdeal.Gen Cert.Rows

variable {F : FTy → Type} [FloatOps F]

/-- The rows normalised, scaled and rounded to sixteen bits, 32 rows at a time. -/
def XN (x : Vec F S512x4096 .f32) (g : Vec F S1x4096 .f32) : Vec F S512x4096 .bf16 :=
  fun y => k0_pay17 (k0_pay12 (win x (32 * ((y 0).val / 32)))) (win x (32 * ((y 0).val / 32))) g (loc y)

/-- The accumulator cleared. -/
def ZERO : Vec F S512x4096 .f32 := fun y => k0_pay18 (F := F) (loc y)

/-- The half of the normalised rows' columns starting at `2048 k`. -/
def half (k : ℕ) (xn : Vec F S512x4096 .bf16) : Vec F S512x2048 .bf16 :=
  fun z => xn (ix2 (z 0) ⟨(2048 * k + (z 1).val) % 4096, Nat.mod_lt _ (by decide)⟩)

/-- One hidden block's contribution added to the accumulator, of the second halves of the two projections and of the first
   halves kept in the scratch arrays. -/
abbrev ACC (xn : Vec F S512x4096 .bf16) (wg wu : Vec F S1x2048x256 .f32) (wd : Vec F S256x4096 .f32) (g u : Vec F S512x256 .f32) (acc : Vec F S512x4096 .f32) : Vec F S512x4096 .f32 :=
  k0_pay8 wg wu (half 1 xn) wd g u acc

/-- The accumulated rows normalised, scaled, halved and added to the residual, 32 rows at a time. -/
def FIN (a : Vec F S512x4096 .f32) (x : Vec F S512x4096 .f32) (g : Vec F S1x4096 .f32) : Vec F S512x4096 .f32 :=
  fun y => k0_pay25 (k0_pay20 (win a (32 * ((y 0).val / 32)))) (win a (32 * ((y 0).val / 32))) g (win x (32 * ((y 0).val / 32))) (loc y)

theorem off1_0 : ∀ k : Fin k0_t1_loop.trips, k0_off1 k 0#32 = ![128 * k.val, 0] := by decide +kernel
theorem off1_1 : ∀ k : Fin k0_t1_loop.trips, k0_off1 k 32#32 = ![128 * k.val + 32, 0] := by decide +kernel
theorem off1_2 : ∀ k : Fin k0_t1_loop.trips, k0_off1 k 64#32 = ![128 * k.val + 64, 0] := by decide +kernel
theorem off1_3 : ∀ k : Fin k0_t1_loop.trips, k0_off1 k 96#32 = ![128 * k.val + 96, 0] := by decide +kernel
theorem trips1_eq : k0_t1_loop.trips = 4 := by decide +kernel
theorem off12_0 : ∀ k : Fin k0_t2_loop.trips, k0_off12 k 0#32 = ![128 * k.val, 0] := by decide +kernel
theorem off12_1 : ∀ k : Fin k0_t2_loop.trips, k0_off12 k 32#32 = ![128 * k.val + 32, 0] := by decide +kernel
theorem off12_2 : ∀ k : Fin k0_t2_loop.trips, k0_off12 k 64#32 = ![128 * k.val + 64, 0] := by decide +kernel
theorem off12_3 : ∀ k : Fin k0_t2_loop.trips, k0_off12 k 96#32 = ![128 * k.val + 96, 0] := by decide +kernel
theorem trips2_eq : k0_t2_loop.trips = 4 := by decide +kernel

end Cert.FirstIdeal.Body
-- ==== Proof.FirstV.Copies.lean ====
/- The two weight operands the first feed-forward call copies itself: their memrefs, the semaphore cells, and when the
   copies start. -/
module

public import proofs.«01_k».proof.Proof.FirstV.Spec
public import proofs.«01_k».proof.Proof.Gen.FirstIdeal.Launch
public import proofs.«01_k».proof.Proof.Gen.FirstIdeal.Skeleton
public import proofs.«01_k».proof.Proof.Gen.FirstIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.FirstIdeal.Body

open Cert.FirstIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The gate weights and the up weights, whole, and the two arrays of three slots their half blocks are copied into. -/
abbrev opG : Memref sig .tc .hbm S4096x11008 .f32 := Memref.whole main_arg2
abbrev opU : Memref sig .tc .hbm S4096x11008 .f32 := Memref.whole main_arg3
abbrev bufG : Memref sig .tc .vmem S3x2048x256 .f32 := Memref.whole cc0_scratch3
abbrev bufU : Memref sig .tc .vmem S3x2048x256 .f32 := Memref.whole cc0_scratch4
/-- The normalised rows and the two half products kept between a step's halves. -/
abbrev memXn : Memref sig .tc .vmem S512x4096 .bf16 := Memref.whole cc0_scratch0
abbrev memG : Memref sig .tc .vmem S512x256 .f32 := Memref.whole cc0_scratch1
abbrev memU : Memref sig .tc .vmem S512x256 .f32 := Memref.whole cc0_scratch2

/-- What the buffer under a memref holds on one core, and that buffer held whole. -/
abbrev Held (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : Held (F := F) c M) : sProp 𝕄 :=
  M.view.loc (c : Thread nD τ) ↦{fullShare} f

instance : NeZero grid0.N := ⟨by rw [N_0]; decide⟩

/-- The copies are primed at the first point, and a further block is started while one is left. -/
theorem prime_iff : ∀ t : Fin grid0.N, k0_cond1 (grid0.coords t) = 1#1 ↔ t.val = 0 := by decide +kernel
theorem more_iff : ∀ t : Fin grid0.N, k0_cond2 (grid0.coords t) = 1#1 ↔ t.val < 84 := by decide +kernel

/-- The half block step `t` works on: rows `2048 (t mod 2)` on, columns `256 (t div 2)` on. -/
def BLK (W : S4096x11008.Idx → F .f32) (t : ℕ) : Vec F S1x2048x256 .f32 :=
  fun z => W (ix2 ⟨(2048 * (t % 2) + (z 1).val) % 4096, Nat.mod_lt _ (by decide)⟩ ⟨(256 * (t / 2) + (z 2).val) % 11008, Nat.mod_lt _ (by decide)⟩)

end Cert.FirstIdeal.Body

end
-- ==== Proof.FfnV.Spec.lean ====
/- What one grid point of the feed-forward kernel leaves in its scratch array and in its output block, as functions of the
   blocks the point stages. -/
module

public import proofs.«01_k».proof.Proof.Gen.FfnIdeal.Loops
public import proofs.«01_k».proof.Proof.RowsV.Rows
public import Idealize.ShloMosaic.Lib.WritesUnit
public import Idealize.ShloMosaic.Lib.VecWindow
public import Idealize.ShloMosaic.Lib.Pointwise

@[expose] public section

set_option maxRecDepth 16384

noncomputable section

namespace Cert.FfnIdeal.Body

open Idealize.ShloMosaic Idealize.ShloMosaic.TcCoe Cert.FfnIdeal.Gen Cert.Rows

variable {F : FTy → Type} [FloatOps F]

/-- The rows normalised, scaled and rounded to sixteen bits, 32 rows at a time. -/
def XN (x : Vec F S512x4096 .f32) (g : Vec F S1x4096 .f32) : Vec F S512x4096 .bf16 :=
  fun y => k0_pay15 (k0_pay10 (win x (32 * ((y 0).val / 32)))) (win x (32 * ((y 0).val / 32))) g (loc y)

/-- The accumulator cleared. -/
def ZERO : Vec F S512x4096 .f32 := fun y => k0_pay16 (F := F) (loc y)

/-- One hidden block's contribution added to the accumulator. -/
abbrev ACC (xn : Vec F S512x4096 .bf16) (wg wu : Vec F S4096x256 .bf16) (acc : Vec F S512x4096 .f32) (wd : Vec F S256x4096 .bf16) : Vec F S512x4096 .f32 :=
  k0_pay6 xn wg wu acc wd

/-- The accumulated rows normalised, scaled, halved and added to the residual, 32 rows at a time. -/
def FIN (a : Vec F S512x4096 .f32) (x : Vec F S512x4096 .f32) (g : Vec F S1x4096 .f32) : Vec F S512x4096 .f32 :=
  fun y => k0_pay23 (k0_pay18 (win a (32 * ((y 0).val / 32)))) (win a (32 * ((y 0).val / 32))) g (win x (32 * ((y 0).val / 32))) (loc y)

/-- The rows `128 n` to `128 n + 127` replaced by a block of 128 rows. -/
def FST (n : ℕ) (x6 : Vec F S128x4096 .f32) (Y : Vec F S512x4096 .f32) : Vec F S512x4096 .f32 :=
  fun y => if 128 * n ≤ (y 0).val ∧ (y 0).val < 128 * n + 128 then x6 (ix2 ⟨(y 0).val % 128, Nat.mod_lt _ (by decide)⟩ (y 1)) else Y y

theorem off2_0 : ∀ k : Fin k0_t1_loop.trips, k0_off2 k 0#32 = ![128 * k.val, 0] := by decide +kernel
theorem off2_1 : ∀ k : Fin k0_t1_loop.trips, k0_off2 k 32#32 = ![128 * k.val + 32, 0] := by decide +kernel
theorem off2_2 : ∀ k : Fin k0_t1_loop.trips, k0_off2 k 64#32 = ![128 * k.val + 64, 0] := by decide +kernel
theorem off2_3 : ∀ k : Fin k0_t1_loop.trips, k0_off2 k 96#32 = ![128 * k.val + 96, 0] := by decide +kernel
theorem trips1_eq : k0_t1_loop.trips = 4 := by decide +kernel
theorem off3_0 : ∀ k : Fin k0_t2_loop.trips, k0_off3 k 0#32 = ![128 * k.val, 0] := by decide +kernel
theorem off3_1 : ∀ k : Fin k0_t2_loop.trips, k0_off3 k 32#32 = ![128 * k.val + 32, 0] := by decide +kernel
theorem off3_2 : ∀ k : Fin k0_t2_loop.trips, k0_off3 k 64#32 = ![128 * k.val + 64, 0] := by decide +kernel
theorem off3_3 : ∀ k : Fin k0_t2_loop.trips, k0_off3 k 96#32 = ![128 * k.val + 96, 0] := by decide +kernel
theorem trips2_eq : k0_t2_loop.trips = 4 := by decide +kernel

end Cert.FfnIdeal.Body
-- ==== Proof.FfnV.Math.lean ====
/- The feed-forward layer over the extended reals, and what the kernel's blocks are in those terms. -/
module

public import proofs.«01_k».proof.Proof.FfnV.Spec
public import proofs.«01_k».proof.Proof.GlaV.Spec

@[expose] public section

set_option maxRecDepth 16384

noncomputable section

namespace Cert.FfnV

open Idealize.ShloMosaic

section
variable (X : ℕ → ℕ → EReal) (G : ℕ → EReal) (Wg Wu Wd : ℕ → ℕ → EReal)

/-- The inverse of a row's root mean square, … -/
def S (s : ℕ) : EReal :=
  Ideal.rsqrt (Ideal.div (∑ j : Fin 4096, X s j.val * X s j.val) (Ideal.ofBits FTy.f32 1166016512#32) + Ideal.ofBits FTy.f32 897988541#32)
/-- … the row normalised and scaled, … -/
def N (s j : ℕ) : EReal := X s j * S X s * G j
/-- … the product of a normalised row and a column, … -/
def PR (s q : ℕ) : EReal := ∑ x : Fin 4096, N X G s x.val * Wg x.val q
/-- … the gated hidden value, … -/
def HID (s q : ℕ) : EReal := PR X G Wg s q * Ideal.logistic (PR X G Wg s q) * PR X G Wu s q
/-- … and the product back. -/
def D (s j : ℕ) : EReal := ∑ q : Fin 11008, HID X G Wg Wu s q.val * Wd q.val j

/-- The residual with half the normalised product added. -/
def Y (Go : ℕ → EReal) (s j : ℕ) : EReal := X s j + Ideal.ofBits FTy.f32 1056964608#32 * N (D X G Wg Wu Wd) Go s j

/-- The layer, its first 512 rows given. -/
def RES (First : ℕ → ℕ → EReal) (Go : ℕ → EReal) (s j : ℕ) : EReal := if s < 512 then First s j else Y X G Wg Wu Wd Go s j

/-- The product back, one hidden block of 256 after another. -/
theorem D_blocks (s j : ℕ) : D X G Wg Wu Wd s j = ∑ f : Fin 43, ∑ z : Fin 256, HID X G Wg Wu s (f.val * 256 + z.val) * Wd (f.val * 256 + z.val) j :=
  Fin.sum_univ_tiles 43 256 rfl _
end

end Cert.FfnV

namespace Cert.FfnIdeal.Body

open Idealize.ShloMosaic Idealize.ShloMosaic.TcCoe Idealize.ShloMosaic.Tactic Cert.FfnIdeal.Gen Cert.Rows Cert.FfnV

theorem XN_val (x : Vec Ideal S512x4096 .f32) (g : Vec Ideal S1x4096 .f32) (r : Fin 512) (k : Fin 4096) :
    (XN x g (ix2 r k) : EReal) = x (ix2 r k) * Ideal.rsqrt (Ideal.div (∑ j : Fin 4096, x (ix2 r j) * x (ix2 r j)) (Ideal.ofBits FTy.f32 1166016512#32) + Ideal.ofBits FTy.f32 897988541#32)
      * g (ix2 0 k) := by
  unfold XN loc
  have h : r.val % 32 < 32 := Nat.mod_lt _ (by decide)
  show k0_pay15 (k0_pay10 (win x (32 * (r.val / 32)))) (win x (32 * (r.val / 32))) g (ix2 ⟨r.val % 32, h⟩ k) = _
  unfold_payloads
  pointwise
  simp only [win_at]

theorem FIN_val (a x : Vec Ideal S512x4096 .f32) (g : Vec Ideal S1x4096 .f32) (r : Fin 512) (k : Fin 4096) :
    (FIN a x g (ix2 r k) : EReal) = x (ix2 r k) + Ideal.ofBits FTy.f32 1056964608#32 * (a (ix2 r k)
      * Ideal.rsqrt (Ideal.div (∑ j : Fin 4096, a (ix2 r j) * a (ix2 r j)) (Ideal.ofBits FTy.f32 1166016512#32) + Ideal.ofBits FTy.f32 897988541#32) * g (ix2 0 k)) := by
  unfold FIN loc
  have h : r.val % 32 < 32 := Nat.mod_lt _ (by decide)
  show k0_pay23 (k0_pay18 (win a (32 * (r.val / 32)))) (win a (32 * (r.val / 32))) g (win x (32 * (r.val / 32))) (ix2 ⟨r.val % 32, h⟩ k) = _
  unfold_payloads
  pointwise
  simp only [win_at]

theorem ZERO_val (r : Fin 512) (k : Fin 4096) : (ZERO (F := Ideal) (ix2 r k) : EReal) = 0 := by
  unfold ZERO loc
  unfold_payloads
  pointwise

theorem ACC_val (xn : Vec Ideal S512x4096 .bf16) (wg wu : Vec Ideal S4096x256 .bf16) (acc : Vec Ideal S512x4096 .f32) (wd : Vec Ideal S256x4096 .bf16)
    (r : Fin 512) (k : Fin 4096) :
    (ACC xn wg wu acc wd (ix2 r k) : EReal) = acc (ix2 r k) + ∑ z : Fin 256, ((∑ x : Fin 4096, xn (ix2 r x) * wg (ix2 x z)) * Ideal.logistic (∑ x : Fin 4096, xn (ix2 r x) * wg (ix2 x z))
      * (∑ x : Fin 4096, xn (ix2 r x) * wu (ix2 x z))) * wd (ix2 z k) := by
  unfold ACC
  unfold_payloads
  pointwise

end Cert.FfnIdeal.Body
-- ==== Proof.FirstV.Math.lean ====
/- The first feed-forward call's blocks over the extended reals. -/
module

public import proofs.«01_k».proof.Proof.FirstV.Copies
public import proofs.«01_k».proof.Proof.FirstV.Spec
public import proofs.«01_k».proof.Proof.FfnV.Math

@[expose] public section

set_option maxRecDepth 16384

noncomputable section

namespace Cert.FirstIdeal.Body

open Idealize.ShloMosaic Idealize.ShloMosaic.TcCoe Idealize.ShloMosaic.Tactic Idealize.SL.Sem Cert.FirstIdeal.Gen Cert.Rows Cert.FfnV

theorem XN_val (x : Vec Ideal S512x4096 .f32) (g : Vec Ideal S1x4096 .f32) (r : Fin 512) (k : Fin 4096) :
    (XN x g (ix2 r k) : EReal) = x (ix2 r k) * Ideal.rsqrt (Ideal.div (∑ j : Fin 4096, x (ix2 r j) * x (ix2 r j)) (Ideal.ofBits FTy.f32 1166016512#32) + Ideal.ofBits FTy.f32 897988541#32)
      * g (ix2 0 k) := by
  unfold XN loc
  have h : r.val % 32 < 32 := Nat.mod_lt _ (by decide)
  show k0_pay17 (k0_pay12 (win x (32 * (r.val / 32)))) (win x (32 * (r.val / 32))) g (ix2 ⟨r.val % 32, h⟩ k) = _
  unfold_payloads
  pointwise
  simp only [win_at]

theorem FIN_val (a x : Vec Ideal S512x4096 .f32) (g : Vec Ideal S1x4096 .f32) (r : Fin 512) (k : Fin 4096) :
    (FIN a x g (ix2 r k) : EReal) = x (ix2 r k) + Ideal.ofBits FTy.f32 1056964608#32 * (a (ix2 r k)
      * Ideal.rsqrt (Ideal.div (∑ j : Fin 4096, a (ix2 r j) * a (ix2 r j)) (Ideal.ofBits FTy.f32 1166016512#32) + Ideal.ofBits FTy.f32 897988541#32) * g (ix2 0 k)) := by
  unfold FIN loc
  have h : r.val % 32 < 32 := Nat.mod_lt _ (by decide)
  show k0_pay25 (k0_pay20 (win a (32 * (r.val / 32)))) (win a (32 * (r.val / 32))) g (win x (32 * (r.val / 32))) (ix2 ⟨r.val % 32, h⟩ k) = _
  unfold_payloads
  pointwise
  simp only [win_at]

theorem ZERO_val (r : Fin 512) (k : Fin 4096) : (ZERO (F := Ideal) (ix2 r k) : EReal) = 0 := by
  unfold ZERO loc
  unfold_payloads
  pointwise

theorem narrowG_val (w : Vec Ideal S1x2048x256 .f32) (i : Fin 2048) (j : Fin 256) : (k0_pay1 w (ix2 i j) : EReal) = w (ix3 0 i j) := by
  unfold_payloads
  pointwise
theorem narrowU_val (w : Vec Ideal S1x2048x256 .f32) (i : Fin 2048) (j : Fin 256) : (k0_pay2 w (ix2 i j) : EReal) = w (ix3 0 i j) := by
  unfold_payloads
  pointwise
theorem narrowD_val (w : Vec Ideal S256x4096 .f32) (i : Fin 256) (j : Fin 4096) : (k0_pay7 w (ix2 i j) : EReal) = w (ix2 i j) := by
  unfold_payloads
  pointwise

theorem keptG_val (w : Vec Ideal S1x2048x256 .f32) (x : Vec Ideal S512x2048 .bf16) (r : Fin 512) (z : Fin 256) :
    (k0_pay5 w x (ix2 r z) : EReal) = ∑ k : Fin 2048, x (ix2 r k) * w (ix3 0 k z) := by
  unfold_payloads
  pointwise
theorem keptU_val (w : Vec Ideal S1x2048x256 .f32) (x : Vec Ideal S512x2048 .bf16) (r : Fin 512) (z : Fin 256) :
    (k0_pay6 w x (ix2 r z) : EReal) = ∑ k : Fin 2048, x (ix2 r k) * w (ix3 0 k z) := by
  unfold_payloads
  pointwise

theorem ADD_val (wg wu : Vec Ideal S1x2048x256 .f32) (x : Vec Ideal S512x2048 .bf16) (wd : Vec Ideal S256x4096 .f32) (g u : Vec Ideal S512x256 .f32) (acc : Vec Ideal S512x4096 .f32)
    (r : Fin 512) (k : Fin 4096) :
    (k0_pay8 wg wu x wd g u acc (ix2 r k) : EReal) = acc (ix2 r k) + ∑ z : Fin 256, ((g (ix2 r z) + ∑ x' : Fin 2048, x (ix2 r x') * wg (ix3 0 x' z)) * Ideal.logistic (g (ix2 r z) + ∑ x' : Fin 2048, x (ix2 r x') * wg (ix3 0 x' z))
      * (u (ix2 r z) + ∑ x' : Fin 2048, x (ix2 r x') * wu (ix3 0 x' z))) * wd (ix2 z k) := by
  unfold_payloads
  pointwise

end Cert.FirstIdeal.Body

namespace Cert.FirstV

open Idealize.ShloMosaic Cert.FfnV

/-- A product over the columns, half after half. -/
theorem PR_halves (X : ℕ → ℕ → EReal) (G : ℕ → EReal) (W : ℕ → ℕ → EReal) (s q : ℕ) :
    PR X G W s q = (∑ x : Fin 2048, N X G s x.val * W x.val q) + ∑ x : Fin 2048, N X G s (2048 + x.val) * W (2048 + x.val) q := by
  unfold PR
  exact Fin.sum_univ_two_halves 2048 2048 rfl (fun x : Fin 4096 => N X G s x.val * W x.val q)

end Cert.FirstV
-- ==== Proof.FirstV.Open.lean ====
/- The prologue of a row block: the row loop that normalises the block into the scratch array and clears the output block. -/
module

public import proofs.«01_k».proof.Proof.FirstV.Spec

@[expose] public section

set_option maxRecDepth 16384

noncomputable section

namespace Cert.FirstIdeal.Body

open Idealize.ShloMosaic Idealize.ShloMosaic.TcCoe Idealize.ShloMosaic.Tactic Cert.FirstIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

variable {e : EltTy}

/-- A chunk of the normalised rows, at an element of that chunk. -/
theorem XN_at (x : Vec F S512x4096 .f32) (g : Vec F S1x4096 .f32) (y : S512x4096.Idx) (o : ℕ) (h : 32 * ((y 0).val / 32) = o) :
    k0_pay17 (k0_pay12 (win x o)) (win x o) g (loc y) = XN x g y := by
  unfold XN; rw [h]

section
variable (𝒱 : Variants) (c : Dev nD) (bd : Option 𝒱.V) (E : Set ℕ) (i : grid0.Coords) (arg2 : Memref sig .tc .vmem S512x4096 .f32) (harg2 : arg2.IsWhole) (arg3 : Memref sig .tc .vmem S1x4096 .f32) (harg3 : arg3.IsWhole) (arg4 : Memref sig .tc .hbm S4096x11008 .f32) (harg4 : arg4.IsWhole) (arg5 : Memref sig .tc .hbm S4096x11008 .f32) (harg5 : arg5.IsWhole) (arg6 : Memref sig .tc .vmem S256x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x4096 .bf16) (harg11 : arg11.IsWhole) (arg12 : Memref sig .tc .vmem S512x4096 .bf16) (harg12 : arg12.IsWhole) (arg13 : Memref sig .tc .vmem S512x256 .f32) (harg13 : arg13.IsWhole) (arg14 : Memref sig .tc .vmem S512x256 .f32) (harg14 : arg14.IsWhole) (arg15 : Memref sig .tc .vmem S3x2048x256 .f32) (harg15 : arg15.IsWhole) (arg16 : Memref sig .tc .vmem S3x2048x256 .f32) (harg16 : arg16.IsWhole) (arg17 : DmaSems sig S2x3) (k0_h1 : k0_cond1 i = 1#1)
  (X2 : BufTy.Contents (Elt F) arg2.view.ty) (X3 : BufTy.Contents (Elt F) arg3.view.ty)

/-- What a trip holds: the block and the norm it reads, the output block and the scratch array. -/
abbrev held1 (f9 : BufTy.Contents (Elt F) arg8.view.ty) (f10 : BufTy.Contents (Elt F) arg12.view.ty) : sProp 𝕄G :=
  iprop((arg2.view.loc (c : Thread nD τ) ↦[arg2.view.set]{fullShare} X2) ∗ (arg3.view.loc (c : Thread nD τ) ↦[arg3.view.set]{fullShare} X3) ∗ (arg8.view.loc (c : Thread nD τ) ↦[arg8.view.set]{fullShare} f9) ∗ (arg12.view.loc (c : Thread nD τ) ↦[arg12.view.set]{fullShare} f10))

/-- The same with the first `n` rows done. -/
abbrev done1 (n : ℕ) : sProp 𝕄G :=
  iprop((arg2.view.loc (c : Thread nD τ) ↦[arg2.view.set]{fullShare} X2) ∗ (arg3.view.loc (c : Thread nD τ) ↦[arg3.view.set]{fullShare} X3)
    ∗ (∃ f, (arg8.view.loc (c : Thread nD τ) ↦[arg8.view.set]{fullShare} f) ∗ ⌜∀ y, (y 0).val < n → arg8.view.read (Elt F) f y = ZERO (F := F) y⌝)
    ∗ (∃ f, (arg12.view.loc (c : Thread nD τ) ↦[arg12.view.set]{fullShare} f) ∗ ⌜∀ y, (y 0).val < n → arg12.view.read (Elt F) f y = XN (arg2.view.read (Elt F) X2) (arg3.view.read (Elt F) X3) y⌝))

set_option maxHeartbeats 1000000 in
/-- One trip. -/
theorem trip1 (k : Fin k0_t1_loop.trips)
    (f9 : BufTy.Contents (Elt F) arg8.view.ty) (f10 : BufTy.Contents (Elt F) arg12.view.ty)
    (h9 : ∀ y, (y 0).val < 128 * k.val → arg8.view.read (Elt F) f9 y = ZERO (F := F) y)
    (h10 : ∀ y, (y 0).val < 128 * k.val → arg12.view.read (Elt F) f10 y = XN (arg2.view.read (Elt F) X2) (arg3.view.read (Elt F) X3) y) :
      held1 (F := F) c arg2 arg3 arg8 arg12 X2 X3 f9 f10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h1 k PUnit.unit)
          (fun _ => done1 (F := F) c arg2 arg3 arg8 arg12 X2 X3 (128 * (k.val + 1))) := by
  have hk : k.val < 4 := Nat.lt_of_lt_of_le k.isLt k0_t1_abs.2.1
  unfold k0_t1_body
  iintro ⟨H2, H3, H9, H10⟩
  sl_exec
  sl_step
  isplitl [H2]; · iexact H2
  isplitl [H3]; · iexact H3
  isplitl [H9]
  · iexists _; isplitl [H9]; · iexact H9
    ipureintro
    intro y hy
    sl_unfold_run_names
    have R := read_rows4 arg8.view f9 (k0_off1_inb i k k0_h1 0) (k0_off1_inb i k k0_h1 1) (k0_off1_inb i k k0_h1 2) (k0_off1_inb i k k0_h1 3)
      (k0_pay18 (F := F))
      (k0_pay27 (FloatOps.ofBits FTy.f32 0#32))
      (k0_pay29 (F := F))
      (k0_pay31 (F := F))
      (128 * k.val) (by omega) (off1_0 k) (off1_1 k) (off1_2 k) (off1_3 k) (ZERO (F := F))
      (fun _ _ => rfl) (fun _ _ => rfl) (fun _ _ => rfl) (fun _ _ => rfl) y
    refine R.trans ?_
    by_cases hc : 128 * k.val ≤ (y 0).val
    · rw [if_pos ⟨hc, by omega⟩]
    · rw [if_neg (by omega), h9 y (by omega)]
  · iexists _; isplitl [H10]; · iexact H10
    ipureintro
    intro y hy
    sl_unfold_run_names
    have eg := View.readAt_full arg3.view X3 inb_S1x4096_S1x4096_0_0
    have R := read_rows4 arg12.view f10 (k0_off1_inb i k k0_h1 0) (k0_off1_inb i k k0_h1 1) (k0_off1_inb i k k0_h1 2) (k0_off1_inb i k k0_h1 3)
      (k0_pay17 (k0_pay12 (arg2.view.readAt (Elt F) (Rect.unit (s := S512x4096) (k0_off1 k 0#32) S32x4096.size (k0_off1_inb i k k0_h1 0)).toLoadRect X2)) (arg2.view.readAt (Elt F) (Rect.unit (s := S512x4096) (k0_off1 k 0#32) S32x4096.size (k0_off1_inb i k k0_h1 0)).toLoadRect X2) (arg3.view.readAt (Elt F) (Rect.unit (s := S1x4096) ![0, 0] S1x4096.size inb_S1x4096_S1x4096_0_0).toLoadRect X3))
      (k0_pay19 (k0_pay13 (arg2.view.readAt (Elt F) (Rect.unit (s := S512x4096) (k0_off1 k 32#32) S32x4096.size (k0_off1_inb i k k0_h1 1)).toLoadRect X2)) (arg2.view.readAt (Elt F) (Rect.unit (s := S512x4096) (k0_off1 k 32#32) S32x4096.size (k0_off1_inb i k k0_h1 1)).toLoadRect X2) (arg3.view.readAt (Elt F) (Rect.unit (s := S1x4096) ![0, 0] S1x4096.size inb_S1x4096_S1x4096_0_0).toLoadRect X3))
      (k0_pay28 (k0_pay15 (k0_pay14 (arg2.view.readAt (Elt F) (Rect.unit (s := S512x4096) (k0_off1 k 64#32) S32x4096.size (k0_off1_inb i k k0_h1 2)).toLoadRect X2)) (FloatOps.ofBits FTy.f32 897988541#32)) (arg2.view.readAt (Elt F) (Rect.unit (s := S512x4096) (k0_off1 k 64#32) S32x4096.size (k0_off1_inb i k k0_h1 2)).toLoadRect X2) (arg3.view.readAt (Elt F) (Rect.unit (s := S1x4096) ![0, 0] S1x4096.size inb_S1x4096_S1x4096_0_0).toLoadRect X3))
      (k0_pay30 (k0_pay16 (arg2.view.readAt (Elt F) (Rect.unit (s := S512x4096) (k0_off1 k 96#32) S32x4096.size (k0_off1_inb i k k0_h1 3)).toLoadRect X2)) (arg2.view.readAt (Elt F) (Rect.unit (s := S512x4096) (k0_off1 k 96#32) S32x4096.size (k0_off1_inb i k k0_h1 3)).toLoadRect X2) (arg3.view.readAt (Elt F) (Rect.unit (s := S1x4096) ![0, 0] S1x4096.size inb_S1x4096_S1x4096_0_0).toLoadRect X3))
      (128 * k.val) (by omega) (off1_0 k) (off1_1 k) (off1_2 k) (off1_3 k) (XN (arg2.view.read (Elt F) X2) (arg3.view.read (Elt F) X3))
      (fun y hy => by rw [readAt_rows arg2.view X2 _ _ (off1_0 k), eg]; exact XN_at _ _ y _ (by omega))
      (fun y hy => by rw [readAt_rows arg2.view X2 _ _ (off1_1 k), eg]; exact XN_at _ _ y _ (by omega))
      (fun y hy => by rw [readAt_rows arg2.view X2 _ _ (off1_2 k), eg]; exact XN_at _ _ y _ (by omega))
      (fun y hy => by rw [readAt_rows arg2.view X2 _ _ (off1_3 k), eg]; exact XN_at _ _ y _ (by omega)) y
    refine R.trans ?_
    by_cases hc : 128 * k.val ≤ (y 0).val
    · rw [if_pos ⟨hc, by omega⟩]
    · rw [if_neg (by omega), h10 y (by omega)]

set_option warn.classDefReducibility false in
/-- The loop by its invariant. -/
@[sl_loop] def loop1 :
    LoopInvTy_k0_t1 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h1 where
  inv k _ := done1 (F := F) c arg2 arg3 arg8 arg12 X2 X3 (128 * k)
  step k acc := by
    iintro ⟨H2, H3, ⟨%f9, H9, %h9⟩, ⟨%f10, H10, %h10⟩⟩
    iapply (trip1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h1 X2 X3 k f9 f10 h9 h10)
    isplitl [H2]; · iexact H2
    isplitl [H3]; · iexact H3
    isplitl [H9]; · iexact H9
    iexact H10
end

end Cert.FirstIdeal.Body
-- ==== Proof.FirstV.Close.lean ====
/- The epilogue of a row block: the row loop that turns the accumulated output block into the block written back. -/
module

public import proofs.«01_k».proof.Proof.FirstV.Open

@[expose] public section

set_option maxRecDepth 16384

noncomputable section

namespace Cert.FirstIdeal.Body

open Idealize.ShloMosaic Idealize.ShloMosaic.TcCoe Idealize.ShloMosaic.Tactic Cert.FirstIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (Pipeline.UD sig nD τ) ℕ

/-- A chunk of the finished rows, at an element of that chunk. -/
theorem FIN_at (a x : Vec F S512x4096 .f32) (g : Vec F S1x4096 .f32) (y : S512x4096.Idx) (o : ℕ) (h : 32 * ((y 0).val / 32) = o) :
    k0_pay25 (k0_pay20 (win a o)) (win a o) g (win x o) (loc y) = FIN a x g y := by
  unfold FIN; rw [h]

section
variable (𝒱 : Variants) (c : Dev nD) (bd : Option 𝒱.V) (E : Set ℕ) (i : grid0.Coords) (arg2 : Memref sig .tc .vmem S512x4096 .f32) (harg2 : arg2.IsWhole) (arg3 : Memref sig .tc .vmem S1x4096 .f32) (harg3 : arg3.IsWhole) (arg4 : Memref sig .tc .hbm S4096x11008 .f32) (harg4 : arg4.IsWhole) (arg5 : Memref sig .tc .hbm S4096x11008 .f32) (harg5 : arg5.IsWhole) (arg6 : Memref sig .tc .vmem S256x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x4096 .bf16) (harg11 : arg11.IsWhole) (arg12 : Memref sig .tc .vmem S512x4096 .bf16) (harg12 : arg12.IsWhole) (arg13 : Memref sig .tc .vmem S512x256 .f32) (harg13 : arg13.IsWhole) (arg14 : Memref sig .tc .vmem S512x256 .f32) (harg14 : arg14.IsWhole) (arg15 : Memref sig .tc .vmem S3x2048x256 .f32) (harg15 : arg15.IsWhole) (arg16 : Memref sig .tc .vmem S3x2048x256 .f32) (harg16 : arg16.IsWhole) (arg17 : DmaSems sig S2x3) (k0_h5 : k0_cond5 i = 1#1)
  (X2 : BufTy.Contents (Elt F) arg2.view.ty) (X7 : BufTy.Contents (Elt F) arg7.view.ty)

/-- What a trip holds: the block and the norm it reads, the output block. -/
abbrev held2 (f9 : BufTy.Contents (Elt F) arg8.view.ty) : sProp 𝕄G :=
  iprop((arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} f9))

set_option maxHeartbeats 1000000 in
/-- One trip. -/
theorem trip2 (a : Vec F S512x4096 .f32) (k : Fin k0_t2_loop.trips)
    (f9 : BufTy.Contents (Elt F) arg8.view.ty)
    (h9 : ∀ y, arg8.view.read (Elt F) f9 y = if (y 0).val < 128 * k.val then FIN a (arg2.view.read (Elt F) X2) (arg7.view.read (Elt F) X7) y else a y) :
      held2 (F := F) c arg2 arg7 arg8 X2 X7 f9
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h5 k PUnit.unit)
          (fun _ => (iprop((arg2.view.loc (c : Thread nD τ) ↦[arg2.view.set]{fullShare} X2) ∗ (arg7.view.loc (c : Thread nD τ) ↦[arg7.view.set]{fullShare} X7)
            ∗ (∃ f, (arg8.view.loc (c : Thread nD τ) ↦[arg8.view.set]{fullShare} f) ∗ ⌜∀ y, arg8.view.read (Elt F) f y = if (y 0).val < 128 * (k.val + 1) then FIN a (arg2.view.read (Elt F) X2) (arg7.view.read (Elt F) X7) y else a y⌝)) : sProp 𝕄G)) := by
  have hk : k.val < 4 := Nat.lt_of_lt_of_le k.isLt k0_t2_abs.2.1
  unfold k0_t2_body
  iintro ⟨H2, H7, H9⟩
  sl_exec
  sl_step
  isplitl [H2]; · iexact H2
  isplitl [H7]; · iexact H7
  iexists _; isplitl [H9]; · iexact H9
  ipureintro
  intro y
  sl_unfold_run_names
  have hw : ∀ (r : ℕ), r < 4 → win (arg8.view.read (Elt F) f9) (128 * k.val + 32 * r) = win a (128 * k.val + 32 * r) := fun r hr =>
    win_congr _ (by omega) fun y hy => by rw [h9 y, if_neg (by omega)]
  have e0 := (readAt_rows (off := k0_off12 k (0#32)) arg8.view f9 (k0_off12_inb i k k0_h5 0) _ (off12_0 k)).trans (hw 0 (by omega))
  have x0 := readAt_rows (off := k0_off12 k (0#32)) arg2.view X2 (k0_off12_inb i k k0_h5 0) _ (off12_0 k)
  have e1 := (readAt_rows (off := k0_off12 k (32#32)) arg8.view f9 (k0_off12_inb i k k0_h5 1) _ (off12_1 k)).trans (hw 1 (by omega))
  have x1 := readAt_rows (off := k0_off12 k (32#32)) arg2.view X2 (k0_off12_inb i k k0_h5 1) _ (off12_1 k)
  have e2 := (readAt_rows (off := k0_off12 k (64#32)) arg8.view f9 (k0_off12_inb i k k0_h5 2) _ (off12_2 k)).trans (hw 2 (by omega))
  have x2 := readAt_rows (off := k0_off12 k (64#32)) arg2.view X2 (k0_off12_inb i k k0_h5 2) _ (off12_2 k)
  have e3 := (readAt_rows (off := k0_off12 k (96#32)) arg8.view f9 (k0_off12_inb i k k0_h5 3) _ (off12_3 k)).trans (hw 3 (by omega))
  have x3 := readAt_rows (off := k0_off12 k (96#32)) arg2.view X2 (k0_off12_inb i k k0_h5 3) _ (off12_3 k)
  have eg := View.readAt_full arg7.view X7 inb_S1x4096_S1x4096_0_0
  have R := read_rows4 arg8.view f9 (k0_off12_inb i k k0_h5 0) (k0_off12_inb i k k0_h5 1) (k0_off12_inb i k k0_h5 2) (k0_off12_inb i k k0_h5 3)
      (k0_pay25 (k0_pay20 (arg8.view.readAt (Elt F) (Rect.unit (s := S512x4096) (k0_off12 k 0#32) S32x4096.size (k0_off12_inb i k k0_h5 0)).toLoadRect f9)) (arg8.view.readAt (Elt F) (Rect.unit (s := S512x4096) (k0_off12 k 0#32) S32x4096.size (k0_off12_inb i k k0_h5 0)).toLoadRect f9) (arg7.view.readAt (Elt F) (Rect.unit (s := S1x4096) ![0, 0] S1x4096.size inb_S1x4096_S1x4096_0_0).toLoadRect X7) (arg2.view.readAt (Elt F) (Rect.unit (s := S512x4096) (k0_off12 k 0#32) S32x4096.size (k0_off12_inb i k k0_h5 0)).toLoadRect X2))
      (k0_pay9 (k0_pay26 (k0_pay21 (arg8.view.readAt (Elt F) (Rect.unit (s := S512x4096) (k0_off12 k 32#32) S32x4096.size (k0_off12_inb i k k0_h5 1)).toLoadRect f9)) (arg8.view.readAt (Elt F) (Rect.unit (s := S512x4096) (k0_off12 k 32#32) S32x4096.size (k0_off12_inb i k k0_h5 1)).toLoadRect f9) (arg7.view.readAt (Elt F) (Rect.unit (s := S1x4096) ![0, 0] S1x4096.size inb_S1x4096_S1x4096_0_0).toLoadRect X7)) (arg2.view.readAt (Elt F) (Rect.unit (s := S512x4096) (k0_off12 k 32#32) S32x4096.size (k0_off12_inb i k k0_h5 1)).toLoadRect X2) (FloatOps.ofBits FTy.f32 1056964608#32))
      (k0_pay10 (k0_pay23 (k0_pay22 (arg8.view.readAt (Elt F) (Rect.unit (s := S512x4096) (k0_off12 k 64#32) S32x4096.size (k0_off12_inb i k k0_h5 2)).toLoadRect f9)) (FloatOps.ofBits FTy.f32 1166016512#32)) (arg8.view.readAt (Elt F) (Rect.unit (s := S512x4096) (k0_off12 k 64#32) S32x4096.size (k0_off12_inb i k k0_h5 2)).toLoadRect f9) (arg7.view.readAt (Elt F) (Rect.unit (s := S1x4096) ![0, 0] S1x4096.size inb_S1x4096_S1x4096_0_0).toLoadRect X7) (arg2.view.readAt (Elt F) (Rect.unit (s := S512x4096) (k0_off12 k 64#32) S32x4096.size (k0_off12_inb i k k0_h5 2)).toLoadRect X2))
      (k0_pay11 (k0_pay24 (arg8.view.readAt (Elt F) (Rect.unit (s := S512x4096) (k0_off12 k 96#32) S32x4096.size (k0_off12_inb i k k0_h5 3)).toLoadRect f9)) (arg8.view.readAt (Elt F) (Rect.unit (s := S512x4096) (k0_off12 k 96#32) S32x4096.size (k0_off12_inb i k k0_h5 3)).toLoadRect f9) (arg7.view.readAt (Elt F) (Rect.unit (s := S1x4096) ![0, 0] S1x4096.size inb_S1x4096_S1x4096_0_0).toLoadRect X7) (arg2.view.readAt (Elt F) (Rect.unit (s := S512x4096) (k0_off12 k 96#32) S32x4096.size (k0_off12_inb i k k0_h5 3)).toLoadRect X2))
      (128 * k.val) (by omega) (off12_0 k) (off12_1 k) (off12_2 k) (off12_3 k) (FIN a (arg2.view.read (Elt F) X2) (arg7.view.read (Elt F) X7))
      (fun y hy => by rw [e0, x0, eg]; exact FIN_at a _ _ y _ (by omega))
      (fun y hy => by rw [e1, x1, eg]; exact FIN_at a _ _ y _ (by omega))
      (fun y hy => by rw [e2, x2, eg]; exact FIN_at a _ _ y _ (by omega))
      (fun y hy => by rw [e3, x3, eg]; exact FIN_at a _ _ y _ (by omega)) y
  refine R.trans ?_
  by_cases hc : 128 * k.val ≤ (y 0).val
  · by_cases hd : (y 0).val < 128 * k.val + 128
    · rw [if_pos ⟨hc, hd⟩, if_pos (by omega)]
    · rw [if_neg (by omega), if_neg (by omega), h9 y, if_neg (by omega)]
  · rw [if_neg (by omega), if_pos (by omega), h9 y, if_pos (by omega)]

/-- What the output block holds before trip `k`, of the contents `G` the loop finds there. -/
def C8 (G : BufTy.Contents (Elt F) arg8.view.ty) : ℕ → BufTy.Contents (Elt F) arg8.view.ty
  | 0 => G
  | k + 1 => harg8.unread (fun y => if (y 0).val < 128 * (k + 1) then FIN (arg8.view.read (Elt F) G) (arg2.view.read (Elt F) X2) (arg7.view.read (Elt F) X7) y else arg8.view.read (Elt F) G y)

theorem read_C8 (G : BufTy.Contents (Elt F) arg8.view.ty) (k : ℕ) (y : S512x4096.Idx) :
    arg8.view.read (Elt F) (C8 arg2 arg7 arg8 harg8 X2 X7 G k) y
      = if (y 0).val < 128 * k then FIN (arg8.view.read (Elt F) G) (arg2.view.read (Elt F) X2) (arg7.view.read (Elt F) X7) y else arg8.view.read (Elt F) G y := by
  cases k with
  | zero => rw [if_neg (by omega)]; rfl
  | succ k => exact congrFun (harg8.read_unread _) y

set_option warn.classDefReducibility false in
/-- The loop by its invariant. -/
@[sl_loop] def loop2 (G9 : BufTy.Contents (Elt F) arg8.view.ty) :
    LoopInvTy_k0_t2 (F := F) Unit ℕ (Pipeline.UD sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h5 where
  inv k _ := (iprop((arg2.view.loc (c : Thread nD τ) ↦[arg2.view.set]{fullShare} X2) ∗ (arg7.view.loc (c : Thread nD τ) ↦[arg7.view.set]{fullShare} X7) ∗ (arg8.view.loc (c : Thread nD τ) ↦[arg8.view.set]{fullShare} C8 arg2 arg7 arg8 harg8 X2 X7 G9 k)) : sProp 𝕄G)
  step k acc := by
    iintro ⟨H2, H7, H9⟩
    iapply (wp_wand_r Idealize.ShloMosaic.frame (wpE (defs₀ (F := F)) 𝒱 (c : Thread nD τ) bd) E)
    isplitl [H2 H7 H9]
    · iapply (trip2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 k0_h5 X2 X7 (arg8.view.read (Elt F) G9) k _ (read_C8 arg2 arg7 arg8 harg8 X2 X7 G9 k.val))
      isplitl [H2]; · iexact H2
      isplitl [H7]; · iexact H7
      iexact H9
    · iintro %_ ⟨H2, H7, ⟨%f9, H9, %h9⟩⟩
      isplitl [H2]; · iexact H2
      isplitl [H7]; · iexact H7
      have e9 : f9 = C8 arg2 arg7 arg8 harg8 X2 X7 G9 (k.val + 1) := harg8.eq_unread (funext h9)
      rw [← e9]; iexact H9
end

end Cert.FirstIdeal.Body
-- ==== Proof.FirstV.SlotsG.lean ====
/- The gate weights streamed half block by half block through three slots: who holds what, what the launch hands over and takes
   back, and the slots, cells and blocks the body names at each point. -/
module

public import proofs.«01_k».proof.Proof.FirstV.Copies

@[expose] public section

set_option maxRecDepth 16384

noncomputable section

namespace Cert.FirstIdeal.Body

open Cert.FirstIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inSlotG (s : Fin 3) : ∀ a, (![s.val, 0, 0] : Fin 3 → Nat) a + S1x2048x256.size a ≤ S3x2048x256.size a := by
  have := s.isLt; intro a; fin_cases a <;> simp <;> omega
theorem inSrcG (b : Fin 86) : ∀ a, (![2048 * (b.val % 2), 256 * (b.val / 2)] : Fin 2 → Nat) a + S2048x256.size a ≤ S4096x11008.size a := by
  have := b.isLt; intro a; fin_cases a <;> simp <;> omega
theorem inCellG (s : Fin 3) : ∀ a, (![0, s.val] : Fin 2 → Nat) a + S1x1.size a ≤ S2x3.size a := by
  have := s.isLt; intro a; fin_cases a <;> simp <;> omega
/-- Slot `s`, half block `b` of the operand, and the cell that counts the copies into slot `s`. -/
def slotG (s : Fin 3) : Memref sig .tc .vmem S2048x256 .f32 :=
  (bufG.slice (Rect.unit (s := S3x2048x256) ![s.val, 0, 0] S1x2048x256.size (inSlotG s)) (fun _ => rfl)).squeeze S2048x256 squeezes_S1x2048x256_S2048x256
def srcG (b : Fin 86) : Memref sig .tc .hbm S2048x256 .f32 :=
  opG.slice (Rect.unit (s := S4096x11008) ![2048 * (b.val % 2), 256 * (b.val / 2)] S2048x256.size (inSrcG b)) (fun _ => rfl)
def cellG (s : Fin 3) : DmaSems sig S_ := (cc0_scratch5.slice (Rect.unit (s := S2x3) ![0, s.val] S1x1.size (inCellG s))).squeeze S_ squeezes_S1x1_S_
abbrev cellLocG (s : Fin 3) : SemLoc sig := SemLoc.dma (cellG s).sem
theorem cellLocG_0 : cellLocG 0 = SemLoc.dma 12 := by decide
theorem cellLocG_1 : cellLocG 1 = SemLoc.dma 13 := by decide
theorem cellLocG_2 : cellLocG 2 = SemLoc.dma 14 := by decide

section Hold
variable (c : Dev nD) (W : Held (F := F) c opG)
/-- The part of the operand lent to slot `s`: a half, and the two halves of the other half. -/
abbrev partG (s : Fin 3) : PosShare TreeShare := if s.val = 0 then fullShare.left else if s.val = 1 then fullShare.right.left else fullShare.right.right
/-- A slot held; a cell at zero; the elements of block `b` in slot `s`'s part of the operand; the other elements of that
   part (a definition, so that no run sees it); the part whole. -/
abbrev hasSlotG (s : Fin 3) (f : Held (F := F) c (slotG s)) : sProp 𝕄 := (slotG s).view.loc (c : Thread nD τ) ↦[(slotG s).view.set]{fullShare} f
abbrev hasCellG (s : Fin 3) : sProp 𝕄 := semVal ((c : Thread nD τ), cellLocG s) 0
abbrev hasSrcG (s : Fin 3) (b : Fin 86) : sProp 𝕄 := (srcG b).view.loc (c : Thread nD τ) ↦[(srcG b).view.set]{partG s} W
def othersG (s : Fin 3) (b : Fin 86) : sProp 𝕄 := ((c : Thread nD τ).loc main_arg2) ↦[Finset.univ \ (srcG b).view.set]{partG s} W
abbrev hasPartG (s : Fin 3) : sProp 𝕄 := ((c : Thread nD τ).loc main_arg2) ↦[Finset.univ]{partG s} W
/-- Slot `s` once block `b` landed in it. -/
abbrev landedG (s : Fin 3) (b : Fin 86) (f : Held (F := F) c (slotG s)) : Held (F := F) c (slotG s) :=
  (slotG s).view.writes (Elt F) f [⟨Rect.whole S2048x256, ReadAs.same.apply ((srcG b).view.read (Elt F) W)⟩]
/-- A copy under way: it will deliver the slot landed and the lent elements. -/
abbrev copyingG (s : Fin 3) (b : Fin 86) (f : Held (F := F) c (slotG s)) : sProp 𝕄 :=
  Transfers.Flight countersEmb (c : Thread nD τ) (cellLocG s) default ((slotG s).view.amount (cellLocG s))
    iprop(hasSlotG c s (landedG c W s b f) ∗ hasSrcG c W s b)
/-- An idle slot with its part of the operand, and a copy under way with the rest of the part it borrowed from. -/
abbrev idleSlotG (s : Fin 3) (f : Held (F := F) c (slotG s)) : sProp 𝕄 := iprop(hasSlotG c s f ∗ hasPartG c W s)
abbrev busySlotG (s : Fin 3) (b : Fin 86) (f : Held (F := F) c (slotG s)) : sProp 𝕄 := iprop(copyingG c W s b f ∗ othersG c W s b)
abbrev noBlockG (b : Fin 86) : sProp 𝕄 := iprop(emp)
/-- The slots before step `k`: all idle before the first, then two copies under way and one slot idle. -/
def slotsAtG (k : ℕ) : sProp 𝕄 :=
  if k = 0 then Ring.At₀ (hasCellG c) (idleSlotG c W) noBlockG
  else Ring.At 2 (hasCellG c) (idleSlotG c W) noBlockG (busySlotG c W) k
omit [FloatOps F] in
theorem hasCellG_0 : hasCellG (F := F) c 0 = semVal ((c : Thread nD τ), SemLoc.dma 12) 0 := congrArg (fun x => (semVal ((c : Thread nD τ), x) 0 : sProp 𝕄)) cellLocG_0
omit [FloatOps F] in
theorem hasCellG_1 : hasCellG (F := F) c 1 = semVal ((c : Thread nD τ), SemLoc.dma 13) 0 := congrArg (fun x => (semVal ((c : Thread nD τ), x) 0 : sProp 𝕄)) cellLocG_1
omit [FloatOps F] in
theorem hasCellG_2 : hasCellG (F := F) c 2 = semVal ((c : Thread nD τ), SemLoc.dma 14) 0 := congrArg (fun x => (semVal ((c : Thread nD τ), x) 0 : sProp 𝕄)) cellLocG_2
end Hold

/-- The three slots are disjoint and make up the array. -/
abbrev areaG (s : Fin 3) : Finset S3x2048x256.Idx := (Rect.unit (s := S3x2048x256) ![s.val, 0, 0] S1x2048x256.size (inSlotG s)).set
theorem areaG_eq (s : Fin 3) : (slotG s).view.set = areaG s := by
  simp only [slotG, Memref.view_squeeze, View.set_reshape]; exact View.set_slice_whole _ _
theorem areasG_disjoint (s s' : Fin 3) (h : s ≠ s') : Disjoint (areaG s) (areaG s') :=
  Ring.lead_disjoint (s := S3x2048x256) (0 : Fin 3) 1 (fun s : Fin 3 => (![s.val, 0, 0] : Fin 3 → Nat)) S1x2048x256.size inSlotG (fun s => by simp) rfl s s' h
theorem areasG_cover : Finset.univ.biUnion areaG = Finset.univ :=
  Ring.lead_cover (s := S3x2048x256) (0 : Fin 3) 1 (fun s : Fin 3 => (![s.val, 0, 0] : Fin 3 → Nat)) S1x2048x256.size inSlotG (fun s => by simp)
    (fun s a ha => by fin_cases a <;> first | exact absurd rfl ha | rfl) rfl (fun a ha => by fin_cases a <;> first | exact absurd rfl ha | rfl) rfl

section HandOver
variable (c : Dev nD) (W : Held (F := F) c opG)
theorem hasSlotG_eq (s : Fin 3) (f) : hasSlotG (F := F) c s f = (((c : Thread nD τ).loc cc0_scratch3) ↦[areaG s]{fullShare} f : sProp 𝕄) := by
  unfold hasSlotG; rw [areaG_eq]; rfl
/-- A part of the operand is block `b`'s elements and the others. -/
theorem partG_split (s : Fin 3) (b : Fin 86) : hasPartG (F := F) c W s ⊣⊢ iprop(hasSrcG c W s b ∗ othersG c W s b) := by
  unfold othersG; exact pointsTo_split_subset (Finset.subset_univ _)
/-- An operand is its three parts. -/
theorem op_parts (M : Memref sig .tc .hbm S4096x11008 .f32) (W : Held (F := F) c M) : (heldAt c M W : sProp 𝕄)
    ⊣⊢ iprop((M.view.loc (c : Thread nD τ) ↦[Finset.univ]{partG 0} W) ∗ (M.view.loc (c : Thread nD τ) ↦[Finset.univ]{partG 1} W) ∗ (M.view.loc (c : Thread nD τ) ↦[Finset.univ]{partG 2} W)) := by
  refine ⟨?_, ?_⟩
  · iintro H
    ihave H' := (pointsTo_share (PosShare.mem_left_op_right fullShare)).1 $$ H
    icases H' with ⟨H0, H12⟩
    ihave H'' := (pointsTo_share (PosShare.mem_left_op_right fullShare.right)).1 $$ H12
    icases H'' with ⟨H1, H2⟩
    isplitl [H0]; · iexact H0
    isplitl [H1]; · iexact H1
    iexact H2
  · iintro ⟨H0, H1, H2⟩
    iapply (pointsTo_share (PosShare.mem_left_op_right fullShare)).2
    isplitl [H0]; · iexact H0
    iapply (pointsTo_share (PosShare.mem_left_op_right fullShare.right)).2
    isplitl [H1]; · iexact H1
    iexact H2
theorem opG_parts : (heldAt c opG W : sProp 𝕄) ⊣⊢ iprop(hasPartG c W 0 ∗ hasPartG c W 1 ∗ hasPartG c W 2) := op_parts c opG W
set_option maxHeartbeats 1000000 in
/-- The array of slots is its slots, and back. -/
theorem bufG_slots : iprop(∃ d, owns (c : Thread nD τ) bufG fullShare d) ⊢ (iprop((∃ f, hasSlotG (F := F) c 0 f) ∗ (∃ f, hasSlotG (F := F) c 1 f) ∗ ∃ f, hasSlotG (F := F) c 2 f) : sProp 𝕄) := by
  simp only [bufG, owns_whole]
  exact Ring.slots3_split (U := Pipeline.UD sig nD τ) (ℓ := (c : Thread nD τ).loc cc0_scratch3) (q := fullShare) areaG areasG_disjoint areasG_cover
    (hasSlotG c 0) (hasSlotG c 1) (hasSlotG c 2) (hasSlotG_eq c 0) (hasSlotG_eq c 1) (hasSlotG_eq c 2)
set_option maxHeartbeats 1000000 in
theorem slots_bufG : (iprop((∃ f, hasSlotG (F := F) c 0 f) ∗ (∃ f, hasSlotG (F := F) c 1 f) ∗ ∃ f, hasSlotG (F := F) c 2 f) : sProp 𝕄) ⊢ iprop(∃ d, owns (c : Thread nD τ) bufG fullShare d) := by
  simp only [bufG, owns_whole]
  exact Ring.slots3_join (U := Pipeline.UD sig nD τ) (ℓ := (c : Thread nD τ).loc cc0_scratch3) (q := fullShare) areaG areasG_disjoint areasG_cover
    (hasSlotG c 0) (hasSlotG c 1) (hasSlotG c 2) (hasSlotG_eq c 0) (hasSlotG_eq c 1) (hasSlotG_eq c 2)

/-- The array of slots, the three cells at zero and the operand are the slots before the first step. -/
theorem slotsG_start :
    iprop((∃ d, owns (c : Thread nD τ) bufG fullShare d) ∗ (semVal ((c : Thread nD τ), SemLoc.dma 12) 0 ∗ semVal ((c : Thread nD τ), SemLoc.dma 13) 0 ∗ semVal ((c : Thread nD τ), SemLoc.dma 14) 0) ∗ heldAt c opG W)
      ⊢ slotsAtG c W 0 := by
  unfold slotsAtG; rw [if_pos rfl]; unfold Ring.At₀
  rw [Ring.bigSep_fin3]
  simp only [Ring.free, hasCellG_0, hasCellG_1, hasCellG_2]
  iintro ⟨HS, Hc, HW⟩
  iapply Ring.with_homes₀
  icases Hc with ⟨H0, H1, H2⟩
  ihave HS' := (bufG_slots (F := F) c) $$ HS
  icases HS' with ⟨⟨%d0, HS0⟩, ⟨%d1, HS1⟩, ⟨%d2, HS2⟩⟩
  ihave HW' := (opG_parts (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- After the last step they are handed back. -/
theorem slotsG_end :
    slotsAtG c W 86
      ⊢ iprop((∃ d, owns (c : Thread nD τ) bufG fullShare d) ∗ (semVal ((c : Thread nD τ), SemLoc.dma 12) 0 ∗ semVal ((c : Thread nD τ), SemLoc.dma 13) 0 ∗ semVal ((c : Thread nD τ), SemLoc.dma 14) 0) ∗ heldAt c opG W) := by
  unfold slotsAtG; rw [if_neg (by decide)]
  iintro H
  ihave H' := (Ring.free3_of_At_last _ _ _ _) $$ H
  simp only [Ring.free, hasCellG_0, hasCellG_1, hasCellG_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_bufG (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (opG_parts (F := F) c W).2; isplitl [HW0]; · iexact HW0
    isplitl [HW1]; · iexact HW1
    iexact HW2
end HandOver

section Names
omit [FloatOps F]
theorem as_slot {M N : Memref sig .tc .vmem S1x2048x256 .f32} (h : M = N) :
    M.squeeze S2048x256 squeezes_S1x2048x256_S2048x256 = N.squeeze S2048x256 squeezes_S1x2048x256_S2048x256 := by rw [h]
theorem as_cell {A B : DmaSems sig S1x1} (h : A = B) : A.squeeze S_ squeezes_S1x1_S_ = B.squeeze S_ squeezes_S1x1_S_ := by rw [h]
set_option synthInstance.maxSize 4096 in
theorem whereG_s0 : ∀ t : Fin grid0.N, k0_cond1 (grid0.coords t) = 1#1 → (![0, 0, 0] : Fin 3 → Nat) = ![(Ring.sl 3 t.val).val, 0, 0] := by decide +kernel
@[sl_canon] theorem nameG_s0 (t : Fin grid0.N) (h1 : k0_cond1 (grid0.coords t) = 1#1) :
    (bufG.slice (Rect.unit (s := S3x2048x256) ![0, 0, 0] S1x2048x256.size inb_S3x2048x256_S1x2048x256_0_0_0) (fun _ => rfl)).squeeze S2048x256 squeezes_S1x2048x256_S2048x256 = slotG (Ring.sl 3 t.val) :=
  as_slot (Memref.slice_unit_congr _ (whereG_s0 t h1) _ _ (fun _ => rfl) (fun _ => rfl))
set_option synthInstance.maxSize 4096 in
theorem whereG_c0 : ∀ t : Fin grid0.N, k0_cond1 (grid0.coords t) = 1#1 → (![0, 0] : Fin 2 → Nat) = ![0, (Ring.sl 3 t.val).val] := by decide +kernel
@[sl_canon] theorem nameG_c0 (t : Fin grid0.N) (h1 : k0_cond1 (grid0.coords t) = 1#1) :
    (cc0_scratch5.slice (Rect.unit (s := S2x3) ![0, 0] S1x1.size inb_S2x3_S1x1_0_0)).squeeze S_ squeezes_S1x1_S_ = cellG (Ring.sl 3 t.val) :=
  as_cell (SemArray.slice_unit_congr _ (whereG_c0 t h1) _ _)
set_option synthInstance.maxSize 4096 in
theorem whereG_b0 : ∀ t : Fin grid0.N, k0_cond1 (grid0.coords t) = 1#1 → (![0, 0] : Fin 2 → Nat) = ![2048 * ((Ring.bk 86 t.val).val % 2), 256 * ((Ring.bk 86 t.val).val / 2)] := by decide +kernel
@[sl_canon] theorem nameG_b0 (t : Fin grid0.N) (h1 : k0_cond1 (grid0.coords t) = 1#1) :
    opG.slice (Rect.unit (s := S4096x11008) ![0, 0] S2048x256.size inb_S4096x11008_S2048x256_0_0) (fun _ => rfl) = srcG (Ring.bk 86 t.val) :=
  Memref.slice_unit_congr _ (whereG_b0 t h1) _ _ (fun _ => rfl) (fun _ => rfl)
set_option synthInstance.maxSize 4096 in
theorem whereG_s1 : ∀ t : Fin grid0.N, k0_cond1 (grid0.coords t) = 1#1 → (![1, 0, 0] : Fin 3 → Nat) = ![(Ring.sl 3 (t.val + 1)).val, 0, 0] := by decide +kernel
@[sl_canon] theorem nameG_s1 (t : Fin grid0.N) (h1 : k0_cond1 (grid0.coords t) = 1#1) :
    (bufG.slice (Rect.unit (s := S3x2048x256) ![1, 0, 0] S1x2048x256.size inb_S3x2048x256_S1x2048x256_1_0_0) (fun _ => rfl)).squeeze S2048x256 squeezes_S1x2048x256_S2048x256 = slotG (Ring.sl 3 (t.val + 1)) :=
  as_slot (Memref.slice_unit_congr _ (whereG_s1 t h1) _ _ (fun _ => rfl) (fun _ => rfl))
set_option synthInstance.maxSize 4096 in
theorem whereG_c1 : ∀ t : Fin grid0.N, k0_cond1 (grid0.coords t) = 1#1 → (![0, 1] : Fin 2 → Nat) = ![0, (Ring.sl 3 (t.val + 1)).val] := by decide +kernel
@[sl_canon] theorem nameG_c1 (t : Fin grid0.N) (h1 : k0_cond1 (grid0.coords t) = 1#1) :
    (cc0_scratch5.slice (Rect.unit (s := S2x3) ![0, 1] S1x1.size inb_S2x3_S1x1_0_1)).squeeze S_ squeezes_S1x1_S_ = cellG (Ring.sl 3 (t.val + 1)) :=
  as_cell (SemArray.slice_unit_congr _ (whereG_c1 t h1) _ _)
set_option synthInstance.maxSize 4096 in
theorem whereG_b1 : ∀ t : Fin grid0.N, k0_cond1 (grid0.coords t) = 1#1 → (![2048, 0] : Fin 2 → Nat) = ![2048 * ((Ring.bk 86 (t.val + 1)).val % 2), 256 * ((Ring.bk 86 (t.val + 1)).val / 2)] := by decide +kernel
@[sl_canon] theorem nameG_b1 (t : Fin grid0.N) (h1 : k0_cond1 (grid0.coords t) = 1#1) :
    opG.slice (Rect.unit (s := S4096x11008) ![2048, 0] S2048x256.size inb_S4096x11008_S2048x256_2048_0) (fun _ => rfl) = srcG (Ring.bk 86 (t.val + 1)) :=
  Memref.slice_unit_congr _ (whereG_b1 t h1) _ _ (fun _ => rfl) (fun _ => rfl)
set_option synthInstance.maxSize 4096 in
theorem whereG_s2 : ∀ t : Fin grid0.N, k0_off3 (grid0.coords t) = ![(Ring.sl 3 (t.val + 2)).val, 0, 0] := by decide +kernel
@[sl_canon] theorem nameG_s2 (t : Fin grid0.N) (h2 : k0_cond2 (grid0.coords t) = 1#1) :
    (bufG.slice (Rect.unit (s := S3x2048x256) (k0_off3 (grid0.coords t)) S1x2048x256.size (k0_off3_inb (grid0.coords t) h2)) (fun _ => rfl)).squeeze S2048x256 squeezes_S1x2048x256_S2048x256 = slotG (Ring.sl 3 (t.val + 2)) :=
  as_slot (Memref.slice_unit_congr _ (whereG_s2 t) _ _ (fun _ => rfl) (fun _ => rfl))
set_option synthInstance.maxSize 4096 in
theorem whereG_c2 : ∀ t : Fin grid0.N, k0_off2 (grid0.coords t) = ![0, (Ring.sl 3 (t.val + 2)).val] := by decide +kernel
@[sl_canon] theorem nameG_c2 (t : Fin grid0.N) (h2 : k0_cond2 (grid0.coords t) = 1#1) :
    (cc0_scratch5.slice (Rect.unit (s := S2x3) (k0_off2 (grid0.coords t)) S1x1.size (k0_off2_inb (grid0.coords t) h2))).squeeze S_ squeezes_S1x1_S_ = cellG (Ring.sl 3 (t.val + 2)) :=
  as_cell (SemArray.slice_unit_congr _ (whereG_c2 t) _ _)
set_option synthInstance.maxSize 4096 in
theorem whereG_b2 : ∀ t : Fin grid0.N, k0_cond2 (grid0.coords t) = 1#1 → k0_off4 (grid0.coords t) = ![2048 * ((Ring.bk 86 (t.val + 2)).val % 2), 256 * ((Ring.bk 86 (t.val + 2)).val / 2)] := by decide +kernel
@[sl_canon] theorem nameG_b2 (t : Fin grid0.N) (h2 : k0_cond2 (grid0.coords t) = 1#1) :
    opG.slice (Rect.unit (s := S4096x11008) (k0_off4 (grid0.coords t)) S2048x256.size (k0_off4_inb (grid0.coords t) h2)) (fun _ => rfl) = srcG (Ring.bk 86 (t.val + 2)) :=
  Memref.slice_unit_congr _ (whereG_b2 t h2) _ _ (fun _ => rfl) (fun _ => rfl)
set_option synthInstance.maxSize 4096 in
theorem whereG_sw : ∀ t : Fin grid0.N, k0_off7 (grid0.coords t) = ![(Ring.sl 3 t.val).val, 0, 0] := by decide +kernel
@[sl_canon] theorem nameG_sw (t : Fin grid0.N) :
    (bufG.slice (Rect.unit (s := S3x2048x256) (k0_off7 (grid0.coords t)) S1x2048x256.size (k0_off7_inb (grid0.coords t))) (fun _ => rfl)).squeeze S2048x256 squeezes_S1x2048x256_S2048x256 = slotG (Ring.sl 3 t.val) :=
  as_slot (Memref.slice_unit_congr _ (whereG_sw t) _ _ (fun _ => rfl) (fun _ => rfl))
set_option synthInstance.maxSize 4096 in
theorem whereG_cw : ∀ t : Fin grid0.N, k0_off6 (grid0.coords t) = ![0, (Ring.sl 3 t.val).val] := by decide +kernel
@[sl_canon] theorem nameG_cw (t : Fin grid0.N) :
    (cc0_scratch5.slice (Rect.unit (s := S2x3) (k0_off6 (grid0.coords t)) S1x1.size (k0_off6_inb (grid0.coords t)))).squeeze S_ squeezes_S1x1_S_ = cellG (Ring.sl 3 t.val) :=
  as_cell (SemArray.slice_unit_congr _ (whereG_cw t) _ _)
set_option synthInstance.maxSize 4096 in
theorem whereG_load : ∀ t : Fin grid0.N, k0_off10 (grid0.coords t) = ![(Ring.sl 3 t.val).val, 0, 0] := by decide +kernel
/-- The slot a point loads is the one it waited for. -/
instance (priority := high) closedLoad (t : Fin grid0.N) : ClosedOff (k0_off10 (grid0.coords t)) := ⟨![(Ring.sl 3 t.val).val, 0, 0], whereG_load t⟩
end Names

end Cert.FirstIdeal.Body

end
-- ==== Proof.FirstV.SlotsU.lean ====
/- The up weights streamed half block by half block through three slots: who holds what, what the launch hands over and takes
   back, and the slots, cells and blocks the body names at each point. -/
module

public import proofs.«01_k».proof.Proof.FirstV.SlotsG

@[expose] public section

set_option maxRecDepth 16384

noncomputable section

namespace Cert.FirstIdeal.Body

open Cert.FirstIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem inCellU (s : Fin 3) : ∀ a, (![1, s.val] : Fin 2 → Nat) a + S1x1.size a ≤ S2x3.size a := by
  have := s.isLt; intro a; fin_cases a <;> simp <;> omega
/-- Slot `s`, half block `b` of the operand, and the cell that counts the copies into slot `s`. -/
def slotU (s : Fin 3) : Memref sig .tc .vmem S2048x256 .f32 :=
  (bufU.slice (Rect.unit (s := S3x2048x256) ![s.val, 0, 0] S1x2048x256.size (inSlotG s)) (fun _ => rfl)).squeeze S2048x256 squeezes_S1x2048x256_S2048x256
def srcU (b : Fin 86) : Memref sig .tc .hbm S2048x256 .f32 :=
  opU.slice (Rect.unit (s := S4096x11008) ![2048 * (b.val % 2), 256 * (b.val / 2)] S2048x256.size (inSrcG b)) (fun _ => rfl)
def cellU (s : Fin 3) : DmaSems sig S_ := (cc0_scratch5.slice (Rect.unit (s := S2x3) ![1, s.val] S1x1.size (inCellU s))).squeeze S_ squeezes_S1x1_S_
abbrev cellLocU (s : Fin 3) : SemLoc sig := SemLoc.dma (cellU s).sem
theorem cellLocU_0 : cellLocU 0 = SemLoc.dma 15 := by decide
theorem cellLocU_1 : cellLocU 1 = SemLoc.dma 16 := by decide
theorem cellLocU_2 : cellLocU 2 = SemLoc.dma 17 := by decide

section Hold
variable (c : Dev nD) (W : Held (F := F) c opU)
/-- A slot held; a cell at zero; the elements of block `b` in slot `s`'s part of the operand; the other elements of that
   part (a definition, so that no run sees it); the part whole. -/
abbrev hasSlotU (s : Fin 3) (f : Held (F := F) c (slotU s)) : sProp 𝕄 := (slotU s).view.loc (c : Thread nD τ) ↦[(slotU s).view.set]{fullShare} f
abbrev hasCellU (s : Fin 3) : sProp 𝕄 := semVal ((c : Thread nD τ), cellLocU s) 0
abbrev hasSrcU (s : Fin 3) (b : Fin 86) : sProp 𝕄 := (srcU b).view.loc (c : Thread nD τ) ↦[(srcU b).view.set]{partG s} W
def othersU (s : Fin 3) (b : Fin 86) : sProp 𝕄 := ((c : Thread nD τ).loc main_arg3) ↦[Finset.univ \ (srcU b).view.set]{partG s} W
abbrev hasPartU (s : Fin 3) : sProp 𝕄 := ((c : Thread nD τ).loc main_arg3) ↦[Finset.univ]{partG s} W
/-- Slot `s` once block `b` landed in it. -/
abbrev landedU (s : Fin 3) (b : Fin 86) (f : Held (F := F) c (slotU s)) : Held (F := F) c (slotU s) :=
  (slotU s).view.writes (Elt F) f [⟨Rect.whole S2048x256, ReadAs.same.apply ((srcU b).view.read (Elt F) W)⟩]
/-- A copy under way: it will deliver the slot landed and the lent elements. -/
abbrev copyingU (s : Fin 3) (b : Fin 86) (f : Held (F := F) c (slotU s)) : sProp 𝕄 :=
  Transfers.Flight countersEmb (c : Thread nD τ) (cellLocU s) default ((slotU s).view.amount (cellLocU s))
    iprop(hasSlotU c s (landedU c W s b f) ∗ hasSrcU c W s b)
/-- An idle slot with its part of the operand, and a copy under way with the rest of the part it borrowed from. -/
abbrev idleSlotU (s : Fin 3) (f : Held (F := F) c (slotU s)) : sProp 𝕄 := iprop(hasSlotU c s f ∗ hasPartU c W s)
abbrev busySlotU (s : Fin 3) (b : Fin 86) (f : Held (F := F) c (slotU s)) : sProp 𝕄 := iprop(copyingU c W s b f ∗ othersU c W s b)
abbrev noBlockU (b : Fin 86) : sProp 𝕄 := iprop(emp)
/-- The slots before step `k`: all idle before the first, then two copies under way and one slot idle. -/
def slotsAtU (k : ℕ) : sProp 𝕄 :=
  if k = 0 then Ring.At₀ (hasCellU c) (idleSlotU c W) noBlockU
  else Ring.At 2 (hasCellU c) (idleSlotU c W) noBlockU (busySlotU c W) k
omit [FloatOps F] in
theorem hasCellU_0 : hasCellU (F := F) c 0 = semVal ((c : Thread nD τ), SemLoc.dma 15) 0 := congrArg (fun x => (semVal ((c : Thread nD τ), x) 0 : sProp 𝕄)) cellLocU_0
omit [FloatOps F] in
theorem hasCellU_1 : hasCellU (F := F) c 1 = semVal ((c : Thread nD τ), SemLoc.dma 16) 0 := congrArg (fun x => (semVal ((c : Thread nD τ), x) 0 : sProp 𝕄)) cellLocU_1
omit [FloatOps F] in
theorem hasCellU_2 : hasCellU (F := F) c 2 = semVal ((c : Thread nD τ), SemLoc.dma 17) 0 := congrArg (fun x => (semVal ((c : Thread nD τ), x) 0 : sProp 𝕄)) cellLocU_2
end Hold

theorem areaU_eq (s : Fin 3) : (slotU s).view.set = areaG s := by
  simp only [slotU, Memref.view_squeeze, View.set_reshape]; exact View.set_slice_whole _ _

section HandOver
variable (c : Dev nD) (W : Held (F := F) c opU)
theorem hasSlotU_eq (s : Fin 3) (f) : hasSlotU (F := F) c s f = (((c : Thread nD τ).loc cc0_scratch4) ↦[areaG s]{fullShare} f : sProp 𝕄) := by
  unfold hasSlotU; rw [areaU_eq]; rfl
/-- A part of the operand is block `b`'s elements and the others. -/
theorem partU_split (s : Fin 3) (b : Fin 86) : hasPartU (F := F) c W s ⊣⊢ iprop(hasSrcU c W s b ∗ othersU c W s b) := by
  unfold othersU; exact pointsTo_split_subset (Finset.subset_univ _)
theorem opU_parts : (heldAt c opU W : sProp 𝕄) ⊣⊢ iprop(hasPartU c W 0 ∗ hasPartU c W 1 ∗ hasPartU c W 2) := op_parts c opU W
set_option maxHeartbeats 1000000 in
/-- The array of slots is its slots, and back. -/
theorem bufU_slots : iprop(∃ d, owns (c : Thread nD τ) bufU fullShare d) ⊢ (iprop((∃ f, hasSlotU (F := F) c 0 f) ∗ (∃ f, hasSlotU (F := F) c 1 f) ∗ ∃ f, hasSlotU (F := F) c 2 f) : sProp 𝕄) := by
  simp only [bufU, owns_whole]
  exact Ring.slots3_split (U := Pipeline.UD sig nD τ) (ℓ := (c : Thread nD τ).loc cc0_scratch4) (q := fullShare) areaG areasG_disjoint areasG_cover
    (hasSlotU c 0) (hasSlotU c 1) (hasSlotU c 2) (hasSlotU_eq c 0) (hasSlotU_eq c 1) (hasSlotU_eq c 2)
set_option maxHeartbeats 1000000 in
theorem slots_bufU : (iprop((∃ f, hasSlotU (F := F) c 0 f) ∗ (∃ f, hasSlotU (F := F) c 1 f) ∗ ∃ f, hasSlotU (F := F) c 2 f) : sProp 𝕄) ⊢ iprop(∃ d, owns (c : Thread nD τ) bufU fullShare d) := by
  simp only [bufU, owns_whole]
  exact Ring.slots3_join (U := Pipeline.UD sig nD τ) (ℓ := (c : Thread nD τ).loc cc0_scratch4) (q := fullShare) areaG areasG_disjoint areasG_cover
    (hasSlotU c 0) (hasSlotU c 1) (hasSlotU c 2) (hasSlotU_eq c 0) (hasSlotU_eq c 1) (hasSlotU_eq c 2)

/-- The array of slots, the three cells at zero and the operand are the slots before the first step. -/
theorem slotsU_start :
    iprop((∃ d, owns (c : Thread nD τ) bufU fullShare d) ∗ (semVal ((c : Thread nD τ), SemLoc.dma 15) 0 ∗ semVal ((c : Thread nD τ), SemLoc.dma 16) 0 ∗ semVal ((c : Thread nD τ), SemLoc.dma 17) 0) ∗ heldAt c opU W)
      ⊢ slotsAtU c W 0 := by
  unfold slotsAtU; rw [if_pos rfl]; unfold Ring.At₀
  rw [Ring.bigSep_fin3]
  simp only [Ring.free, hasCellU_0, hasCellU_1, hasCellU_2]
  iintro ⟨HS, Hc, HW⟩
  iapply Ring.with_homes₀
  icases Hc with ⟨H0, H1, H2⟩
  ihave HS' := (bufU_slots (F := F) c) $$ HS
  icases HS' with ⟨⟨%d0, HS0⟩, ⟨%d1, HS1⟩, ⟨%d2, HS2⟩⟩
  ihave HW' := (opU_parts (F := F) c W).1 $$ HW
  icases HW' with ⟨HW0, HW1, HW2⟩
  isplitl [H0 HS0 HW0]
  · isplitl [H0]; · iexact H0
    iexists d0; isplitl [HS0]; · iexact HS0
    iexact HW0
  isplitl [H1 HS1 HW1]
  · isplitl [H1]; · iexact H1
    iexists d1; isplitl [HS1]; · iexact HS1
    iexact HW1
  · isplitl [H2]; · iexact H2
    iexists d2; isplitl [HS2]; · iexact HS2
    iexact HW2
/-- After the last step they are handed back. -/
theorem slotsU_end :
    slotsAtU c W 86
      ⊢ iprop((∃ d, owns (c : Thread nD τ) bufU fullShare d) ∗ (semVal ((c : Thread nD τ), SemLoc.dma 15) 0 ∗ semVal ((c : Thread nD τ), SemLoc.dma 16) 0 ∗ semVal ((c : Thread nD τ), SemLoc.dma 17) 0) ∗ heldAt c opU W) := by
  unfold slotsAtU; rw [if_neg (by decide)]
  iintro H
  ihave H' := (Ring.free3_of_At_last _ _ _ _) $$ H
  simp only [Ring.free, hasCellU_0, hasCellU_1, hasCellU_2]
  icases H' with ⟨-, ⟨H0, ⟨%f0, HS0, HW0⟩⟩, ⟨H1, ⟨%f1, HS1, HW1⟩⟩, ⟨H2, ⟨%f2, HS2, HW2⟩⟩⟩
  isplitl [HS0 HS1 HS2]
  · iapply (slots_bufU (F := F) c); isplitl [HS0]; · iexists f0; iexact HS0
    isplitl [HS1]; · iexists f1; iexact HS1
    iexists f2; iexact HS2
  isplitl [H0 H1 H2]
  · isplitl [H0]; · iexact H0
    isplitl [H1]; · iexact H1
    iexact H2
  · iapply (opU_parts (F := F) c W).2; isplitl [HW0]; · iexact HW0
    isplitl [HW1]; · iexact HW1
    iexact HW2
end HandOver

section Names
omit [FloatOps F]
@[sl_canon] theorem nameU_s0 (t : Fin grid0.N) (h1 : k0_cond1 (grid0.coords t) = 1#1) :
    (bufU.slice (Rect.unit (s := S3x2048x256) ![0, 0, 0] S1x2048x256.size inb_S3x2048x256_S1x2048x256_0_0_0) (fun _ => rfl)).squeeze S2048x256 squeezes_S1x2048x256_S2048x256 = slotU (Ring.sl 3 t.val) :=
  as_slot (Memref.slice_unit_congr _ (whereG_s0 t h1) _ _ (fun _ => rfl) (fun _ => rfl))
set_option synthInstance.maxSize 4096 in
theorem whereU_c0 : ∀ t : Fin grid0.N, k0_cond1 (grid0.coords t) = 1#1 → (![1, 0] : Fin 2 → Nat) = ![1, (Ring.sl 3 t.val).val] := by decide +kernel
@[sl_canon] theorem nameU_c0 (t : Fin grid0.N) (h1 : k0_cond1 (grid0.coords t) = 1#1) :
    (cc0_scratch5.slice (Rect.unit (s := S2x3) ![1, 0] S1x1.size inb_S2x3_S1x1_1_0)).squeeze S_ squeezes_S1x1_S_ = cellU (Ring.sl 3 t.val) :=
  as_cell (SemArray.slice_unit_congr _ (whereU_c0 t h1) _ _)
@[sl_canon] theorem nameU_b0 (t : Fin grid0.N) (h1 : k0_cond1 (grid0.coords t) = 1#1) :
    opU.slice (Rect.unit (s := S4096x11008) ![0, 0] S2048x256.size inb_S4096x11008_S2048x256_0_0) (fun _ => rfl) = srcU (Ring.bk 86 t.val) :=
  Memref.slice_unit_congr _ (whereG_b0 t h1) _ _ (fun _ => rfl) (fun _ => rfl)
@[sl_canon] theorem nameU_s1 (t : Fin grid0.N) (h1 : k0_cond1 (grid0.coords t) = 1#1) :
    (bufU.slice (Rect.unit (s := S3x2048x256) ![1, 0, 0] S1x2048x256.size inb_S3x2048x256_S1x2048x256_1_0_0) (fun _ => rfl)).squeeze S2048x256 squeezes_S1x2048x256_S2048x256 = slotU (Ring.sl 3 (t.val + 1)) :=
  as_slot (Memref.slice_unit_congr _ (whereG_s1 t h1) _ _ (fun _ => rfl) (fun _ => rfl))
set_option synthInstance.maxSize 4096 in
theorem whereU_c1 : ∀ t : Fin grid0.N, k0_cond1 (grid0.coords t) = 1#1 → (![1, 1] : Fin 2 → Nat) = ![1, (Ring.sl 3 (t.val + 1)).val] := by decide +kernel
@[sl_canon] theorem nameU_c1 (t : Fin grid0.N) (h1 : k0_cond1 (grid0.coords t) = 1#1) :
    (cc0_scratch5.slice (Rect.unit (s := S2x3) ![1, 1] S1x1.size inb_S2x3_S1x1_1_1)).squeeze S_ squeezes_S1x1_S_ = cellU (Ring.sl 3 (t.val + 1)) :=
  as_cell (SemArray.slice_unit_congr _ (whereU_c1 t h1) _ _)
@[sl_canon] theorem nameU_b1 (t : Fin grid0.N) (h1 : k0_cond1 (grid0.coords t) = 1#1) :
    opU.slice (Rect.unit (s := S4096x11008) ![2048, 0] S2048x256.size inb_S4096x11008_S2048x256_2048_0) (fun _ => rfl) = srcU (Ring.bk 86 (t.val + 1)) :=
  Memref.slice_unit_congr _ (whereG_b1 t h1) _ _ (fun _ => rfl) (fun _ => rfl)
@[sl_canon] theorem nameU_s2 (t : Fin grid0.N) (h2 : k0_cond2 (grid0.coords t) = 1#1) :
    (bufU.slice (Rect.unit (s := S3x2048x256) (k0_off3 (grid0.coords t)) S1x2048x256.size (k0_off3_inb (grid0.coords t) h2)) (fun _ => rfl)).squeeze S2048x256 squeezes_S1x2048x256_S2048x256 = slotU (Ring.sl 3 (t.val + 2)) :=
  as_slot (Memref.slice_unit_congr _ (whereG_s2 t) _ _ (fun _ => rfl) (fun _ => rfl))
set_option synthInstance.maxSize 4096 in
theorem whereU_c2 : ∀ t : Fin grid0.N, k0_off5 (grid0.coords t) = ![1, (Ring.sl 3 (t.val + 2)).val] := by decide +kernel
@[sl_canon] theorem nameU_c2 (t : Fin grid0.N) (h2 : k0_cond2 (grid0.coords t) = 1#1) :
    (cc0_scratch5.slice (Rect.unit (s := S2x3) (k0_off5 (grid0.coords t)) S1x1.size (k0_off5_inb (grid0.coords t) h2))).squeeze S_ squeezes_S1x1_S_ = cellU (Ring.sl 3 (t.val + 2)) :=
  as_cell (SemArray.slice_unit_congr _ (whereU_c2 t) _ _)
@[sl_canon] theorem nameU_b2 (t : Fin grid0.N) (h2 : k0_cond2 (grid0.coords t) = 1#1) :
    opU.slice (Rect.unit (s := S4096x11008) (k0_off4 (grid0.coords t)) S2048x256.size (k0_off4_inb (grid0.coords t) h2)) (fun _ => rfl) = srcU (Ring.bk 86 (t.val + 2)) :=
  Memref.slice_unit_congr _ (whereG_b2 t h2) _ _ (fun _ => rfl) (fun _ => rfl)
@[sl_canon] theorem nameU_sw (t : Fin grid0.N) :
    (bufU.slice (Rect.unit (s := S3x2048x256) (k0_off7 (grid0.coords t)) S1x2048x256.size (k0_off7_inb (grid0.coords t))) (fun _ => rfl)).squeeze S2048x256 squeezes_S1x2048x256_S2048x256 = slotU (Ring.sl 3 t.val) :=
  as_slot (Memref.slice_unit_congr _ (whereG_sw t) _ _ (fun _ => rfl) (fun _ => rfl))
set_option synthInstance.maxSize 4096 in
theorem whereU_cw : ∀ t : Fin grid0.N, k0_off9 (grid0.coords t) = ![1, (Ring.sl 3 t.val).val] := by decide +kernel
@[sl_canon] theorem nameU_cw (t : Fin grid0.N) :
    (cc0_scratch5.slice (Rect.unit (s := S2x3) (k0_off9 (grid0.coords t)) S1x1.size (k0_off9_inb (grid0.coords t)))).squeeze S_ squeezes_S1x1_S_ = cellU (Ring.sl 3 t.val) :=
  as_cell (SemArray.slice_unit_congr _ (whereU_cw t) _ _)
end Names

end Cert.FirstIdeal.Body

end
-- ==== Proof.FirstV.Reads.lean ====
/- What a point of the first feed-forward call reads: the half block it waited for, and half of the normalised rows. -/
module

public import proofs.«01_k».proof.Proof.FirstV.Close
public import proofs.«01_k».proof.Proof.FirstV.SlotsU
public import Idealize.ShloMosaic.Lib.ValueLayout

@[expose] public section

set_option maxRecDepth 16384

noncomputable section

namespace Cert.FirstIdeal.Body

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The point is the first half of its step. -/
abbrev first_half (i : grid0.Coords) : BitVec 1 := Scalar.cmpi .ne (Scalar.extui (Scalar.cmpi .eq (BitVec.ofNat 32 (i 1).val) 0#32) : BitVec 32) 0#32
theorem first_iff : ∀ t : Fin grid0.N, first_half (grid0.coords t) = 1#1 ↔ t.val % 2 = 0 := by decide +kernel
theorem second_iff : ∀ t : Fin grid0.N, k0_cond4 (grid0.coords t) = 1#1 ↔ t.val % 2 = 1 := by decide +kernel
theorem end_iff : ∀ t : Fin grid0.N, k0_cond5 (grid0.coords t) = 1#1 ↔ t.val = 85 := by decide +kernel
theorem columns : ∀ t : Fin grid0.N, k0_off11 (grid0.coords t) = ![0, 2048 * (t.val % 2)] := by decide +kernel

theorem block_no : ∀ t : Fin grid0.N, (Ring.bk 86 t.val).val = t.val := by decide +kernel

/-- A load of one slot of the array reads the slot. -/
theorem of_slotG (s : Fin 3) (off : Fin 3 → ℕ) (h : off = ![s.val, 0, 0]) (inb : ∀ a, off a + S1x2048x256.size a ≤ S3x2048x256.size a) (f : bufG.view.ty.Contents (Elt F)) :
    View.readAt (Elt F) bufG.view (Rect.unit (s := S3x2048x256) off S1x2048x256.size inb).toLoadRect f = fun z => (slotG s).view.read (Elt F) f (ix2 (z 1) (z 2)) := by
  subst h
  funext z
  have hz0 : (z 0).val = 0 := Nat.lt_one_iff.mp (z 0).isLt
  have e : Shape.reshapeEquiv squeezes_S1x2048x256_S2048x256.numel_eq (ix2 (z 1) (z 2)) = ix3 (0 : Fin 1) (z 1) (z 2) := Idealize.ShloMosaic.ValueIdx.reshapeEquiv_ix2_1ab _ _ _
  show bufG.view.read (Elt F) f _ = bufG.view.read (Elt F) f ((Rect.unit (s := S3x2048x256) ![s.val, 0, 0] S1x2048x256.size inb).emb (Shape.reshapeEquiv squeezes_S1x2048x256_S2048x256.numel_eq (ix2 (z 1) (z 2))))
  rw [e]
  refine congrArg (bufG.view.read (Elt F) f) (funext fun a => Fin.ext ?_)
  fin_cases a
  · show s.val + 1 * (z 0).val = s.val + 1 * 0
    rw [hz0]
  · rfl
  · rfl

/-- What half block `t` of the operand holds. -/
theorem of_srcG (c : Dev nD) (t : Fin cfg0.N) (W : Held (F := F) c opG) (i : Fin 2048) (j : Fin 256) :
    (srcG (Ring.bk 86 t.val)).view.read (Elt F) W (ix2 i j) = BLK W t.val (ix3 (0 : Fin 1) i j) := by
  have h1 := i.isLt
  have h2 := j.isLt
  have ht : t.val < 86 := lt_of_lt_of_eq t.isLt N_0
  have hb := block_no t
  refine congrArg (opG.view.read (Elt F) W) (funext fun a => Fin.ext ?_)
  fin_cases a
  · show 2048 * ((Ring.bk 86 t.val).val % 2) + 1 * i.val = (2048 * (t.val % 2) + i.val) % 4096
    rw [hb]; omega
  · show 256 * ((Ring.bk 86 t.val).val / 2) + 1 * j.val = (256 * (t.val / 2) + j.val) % 11008
    rw [hb]; omega

/-- The load of the slot a point waited for reads the half block of that point. -/
theorem loadG (c : Dev nD) (t : Fin cfg0.N) (inb : ∀ a, (k0_off10 (grid0.coords t)) a + S1x2048x256.size a ≤ S3x2048x256.size a) (W : Held (F := F) c opG) (f : Held (F := F) c (slotG (Ring.sl 3 t.val))) :
    View.readAt (Elt F) bufG.view (Rect.unit (s := S3x2048x256) (k0_off10 (grid0.coords t)) S1x2048x256.size inb).toLoadRect
      ((slotG (Ring.sl 3 t.val)).view.writes (Elt F) f [⟨Rect.whole S2048x256, ReadAs.same.apply ((srcG (Ring.bk 86 t.val)).view.read (Elt F) W)⟩])
      = BLK W t.val := by
  refine (of_slotG (Ring.sl 3 t.val) _ (whereG_load t) inb _).trans ?_
  funext z
  refine (congrFun (View.read_writes_whole (slotG (Ring.sl 3 t.val)).view f (ReadAs.same.apply ((srcG (Ring.bk 86 t.val)).view.read (Elt F) W))) (ix2 (z 1) (z 2))).trans ?_
  exact of_srcG c t W (z 1) (z 2)

/-- A load of one slot of the array reads the slot. -/
theorem of_slotU (s : Fin 3) (off : Fin 3 → ℕ) (h : off = ![s.val, 0, 0]) (inb : ∀ a, off a + S1x2048x256.size a ≤ S3x2048x256.size a) (f : bufU.view.ty.Contents (Elt F)) :
    View.readAt (Elt F) bufU.view (Rect.unit (s := S3x2048x256) off S1x2048x256.size inb).toLoadRect f = fun z => (slotU s).view.read (Elt F) f (ix2 (z 1) (z 2)) := by
  subst h
  funext z
  have hz0 : (z 0).val = 0 := Nat.lt_one_iff.mp (z 0).isLt
  have e : Shape.reshapeEquiv squeezes_S1x2048x256_S2048x256.numel_eq (ix2 (z 1) (z 2)) = ix3 (0 : Fin 1) (z 1) (z 2) := Idealize.ShloMosaic.ValueIdx.reshapeEquiv_ix2_1ab _ _ _
  show bufU.view.read (Elt F) f _ = bufU.view.read (Elt F) f ((Rect.unit (s := S3x2048x256) ![s.val, 0, 0] S1x2048x256.size inb).emb (Shape.reshapeEquiv squeezes_S1x2048x256_S2048x256.numel_eq (ix2 (z 1) (z 2))))
  rw [e]
  refine congrArg (bufU.view.read (Elt F) f) (funext fun a => Fin.ext ?_)
  fin_cases a
  · show s.val + 1 * (z 0).val = s.val + 1 * 0
    rw [hz0]
  · rfl
  · rfl

/-- What half block `t` of the operand holds. -/
theorem of_srcU (c : Dev nD) (t : Fin cfg0.N) (W : Held (F := F) c opU) (i : Fin 2048) (j : Fin 256) :
    (srcU (Ring.bk 86 t.val)).view.read (Elt F) W (ix2 i j) = BLK W t.val (ix3 (0 : Fin 1) i j) := by
  have h1 := i.isLt
  have h2 := j.isLt
  have ht : t.val < 86 := lt_of_lt_of_eq t.isLt N_0
  have hb := block_no t
  refine congrArg (opU.view.read (Elt F) W) (funext fun a => Fin.ext ?_)
  fin_cases a
  · show 2048 * ((Ring.bk 86 t.val).val % 2) + 1 * i.val = (2048 * (t.val % 2) + i.val) % 4096
    rw [hb]; omega
  · show 256 * ((Ring.bk 86 t.val).val / 2) + 1 * j.val = (256 * (t.val / 2) + j.val) % 11008
    rw [hb]; omega

/-- The load of the slot a point waited for reads the half block of that point. -/
theorem loadU (c : Dev nD) (t : Fin cfg0.N) (inb : ∀ a, (k0_off10 (grid0.coords t)) a + S1x2048x256.size a ≤ S3x2048x256.size a) (W : Held (F := F) c opU) (f : Held (F := F) c (slotU (Ring.sl 3 t.val))) :
    View.readAt (Elt F) bufU.view (Rect.unit (s := S3x2048x256) (k0_off10 (grid0.coords t)) S1x2048x256.size inb).toLoadRect
      ((slotU (Ring.sl 3 t.val)).view.writes (Elt F) f [⟨Rect.whole S2048x256, ReadAs.same.apply ((srcU (Ring.bk 86 t.val)).view.read (Elt F) W)⟩])
      = BLK W t.val := by
  refine (of_slotU (Ring.sl 3 t.val) _ (whereG_load t) inb _).trans ?_
  funext z
  refine (congrFun (View.read_writes_whole (slotU (Ring.sl 3 t.val)).view f (ReadAs.same.apply ((srcU (Ring.bk 86 t.val)).view.read (Elt F) W))) (ix2 (z 1) (z 2))).trans ?_
  exact of_srcU c t W (z 1) (z 2)

/-- The load of a half of the normalised rows. -/
theorem load_half (t : Fin cfg0.N) (inb : ∀ a, (k0_off11 (grid0.coords t)) a + S512x2048.size a ≤ S512x4096.size a) (f : memXn.view.ty.Contents (Elt F)) (xn : Vec F S512x4096 .bf16)
    (k : ℕ) (hk : t.val % 2 = k) (h : memXn.view.read (Elt F) f = xn) :
    View.readAt (Elt F) memXn.view (Rect.unit (s := S512x4096) (k0_off11 (grid0.coords t)) S512x2048.size inb).toLoadRect f = half k xn := by
  subst h hk
  funext z
  have h1 : (z 1).val < 2048 := (z 1).isLt
  refine congrArg (memXn.view.read (Elt F) f) (funext fun a => Fin.ext ?_)
  have e := congrFun (columns t) a
  show (k0_off11 (grid0.coords t)) a + 1 * (z a).val = _
  rw [e]
  fin_cases a
  · show 0 + 1 * (z 0).val = (z 0).val
    omega
  · show 2048 * (t.val % 2) + 1 * (z 1).val = (2048 * (t.val % 2) + (z 1).val) % 4096
    omega

theorem all_rows {e : EltTy} (v : View sig .tc .vmem S512x4096 e) (f : v.ty.Contents (Elt F)) (G : Vec F S512x4096 e)
    (h : ∀ y : S512x4096.Idx, (y 0).val < 128 * k0_t1_loop.trips → v.read (Elt F) f y = G y) : v.read (Elt F) f = G := by
  funext y
  have hy : (y 0).val < 512 := (y 0).isLt
  exact h y (by rw [trips1_eq]; omega)

theorem read_fin (arg2 : Memref sig .tc .vmem S512x4096 .f32) (arg7 : Memref sig .tc .vmem S1x4096 .f32) (arg8 : Memref sig .tc .vmem S512x4096 .f32) (harg8 : arg8.IsWhole)
    (X2 : BufTy.Contents (Elt F) arg2.view.ty) (X7 : BufTy.Contents (Elt F) arg7.view.ty) (G : BufTy.Contents (Elt F) arg8.view.ty)
    (a x : Vec F S512x4096 .f32) (g : Vec F S1x4096 .f32) (ha : arg8.view.read (Elt F) G = a) (hx : arg2.view.read (Elt F) X2 = x) (hg : arg7.view.read (Elt F) X7 = g) :
    arg8.view.read (Elt F) (C8 arg2 arg7 arg8 harg8 X2 X7 G k0_t2_loop.trips) = FIN a x g := by
  subst ha hx hg
  funext y
  have hy : (y 0).val < 512 := (y 0).isLt
  rw [read_C8, if_pos (by rw [trips2_eq]; omega)]

theorem acc_congr {wg wg' wu wu' : Vec F S1x2048x256 .f32} {xn xn' : Vec F S512x2048 .bf16} {wd wd' : Vec F S256x4096 .f32} {g g' u u' : Vec F S512x256 .f32} {a a' : Vec F S512x4096 .f32}
    (e1 : wg = wg') (e2 : wu = wu') (e3 : xn = xn') (e4 : wd = wd') (e5 : g = g') (e6 : u = u') (e7 : a = a') : k0_pay8 wg wu xn wd g u a = k0_pay8 wg' wu' xn' wd' g' u' a' := by
  rw [e1, e2, e3, e4, e5, e6, e7]

theorem wholeXn : memXn.IsWhole := Memref.isWhole_whole _
theorem wholeG : memG.IsWhole := Memref.isWhole_whole _
theorem wholeU : memU.IsWhole := Memref.isWhole_whole _

end Cert.FirstIdeal.Body

end
-- ==== Proof.FirstV.State.lean ====
/- What the scratch arrays and the two rings of slots hold between grid points of the first feed-forward call, what a point
   makes of its output blocks, and the launch's data. The accumulator's block and the narrowed down weights' block are
   constrained by relations, since a point may leave them as it found them. -/
module

public import proofs.«01_k».proof.Proof.FirstV.Reads
public import proofs.«01_k».proof.Proof.Gen.FirstIdeal.Frame
public import Idealize.ShloMosaic.Lib.Claim

@[expose] public section

set_option maxRecDepth 16384

noncomputable section

namespace Cert.FirstIdeal.Body

open Cert.FirstIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The gate and up weights as the launch finds them. -/
def heldG (c : Dev nD) : Held (F := F) c opG := V m c main_arg2
def heldU (c : Dev nD) : Held (F := F) c opU := V m c main_arg3

/-- The first point. -/
def origin : Fin cfg0.N := ⟨0, by rw [show cfg0.N = 86 from N_0]; decide⟩

/-- The normalised rows. -/
def xnV (c : Dev nD) : Vec F S512x4096 .bf16 := XN (iblk m c 0 origin) (iblk m c 1 origin)

/-- The two products of half block `n`, kept for the second half of the step. -/
def gV (c : Dev nD) (n : ℕ) : Vec F S512x256 .f32 := k0_pay5 (BLK (heldG m c) n) (half 0 (xnV m c))
def uV (c : Dev nD) (n : ℕ) : Vec F S512x256 .f32 := k0_pay6 (BLK (heldU m c) n) (half 0 (xnV m c))

/-- The accumulation of point `t` onto `Y`. -/
def addAt (c : Dev nD) (t : Fin cfg0.N) (Y : Vec F S512x4096 .f32) : Vec F S512x4096 .f32 :=
  ACC (xnV m c) (BLK (heldG m c) t.val) (BLK (heldU m c) t.val) (iblk m c 2 t) (gV m c (t.val - 1)) (uV m c (t.val - 1)) Y

/-- What point `t` makes of an accumulator block that held `Y`. -/
def stepAt (c : Dev nD) (t : Fin cfg0.N) (Y : Vec F S512x4096 .f32) : Vec F S512x4096 .f32 :=
  if t.val = 0 then ZERO
  else if t.val % 2 = 0 then Y
  else if t.val = 85 then FIN (addAt m c t Y) (iblk m c 0 t) (iblk m c 3 t)
  else addAt m c t Y

/-- What point `t` makes of a block of narrowed down weights that held `R`. -/
def downAt (c : Dev nD) (t : Fin cfg0.N) (R : Vec F S256x4096 .bf16) : Vec F S256x4096 .bf16 :=
  if t.val % 2 = 0 then R else k0_pay7 (iblk m c 2 t)

abbrev st0 (t : Fin cfg0.N) : Memref sig .tc .vmem S512x4096 .f32 := win0_0.stage (cfg0.slots t 0)
abbrev st1 (t : Fin cfg0.N) : Memref sig .tc .vmem S1x4096 .f32 := win0_1.stage (cfg0.slots t 1)
abbrev st2 (t : Fin cfg0.N) : Memref sig .tc .vmem S256x4096 .f32 := win0_2.stage (cfg0.slots t 2)
abbrev st3 (t : Fin cfg0.N) : Memref sig .tc .vmem S1x4096 .f32 := win0_3.stage (cfg0.slots t 3)
abbrev st4 (t : Fin cfg0.N) : Memref sig .tc .vmem S512x4096 .f32 := win0_4.stage (cfg0.slots t 4)
abbrev st5 (t : Fin cfg0.N) : Memref sig .tc .vmem S2048x256 .bf16 := win0_5.stage (cfg0.slots t 5)
abbrev st6 (t : Fin cfg0.N) : Memref sig .tc .vmem S2048x256 .bf16 := win0_6.stage (cfg0.slots t 6)
abbrev st7 (t : Fin cfg0.N) : Memref sig .tc .vmem S256x4096 .bf16 := win0_7.stage (cfg0.slots t 7)

/-- The scratch arrays and the rings before position `n`. -/
def carried (c : Dev nD) (n : ℕ) : sProp 𝕄 :=
  iprop((∃ r, prngReg c r) ∗ slotsAtG c (heldG m c) n ∗ slotsAtU c (heldU m c) n
    ∗ (if n = 0 then iprop(∃ d, owns (c : Thread nD τ) memXn fullShare d) else owns (c : Thread nD τ) memXn fullShare (xnV m c))
    ∗ (if n % 2 = 1 then iprop(owns (c : Thread nD τ) memG fullShare (gV m c (n - 1)) ∗ owns (c : Thread nD τ) memU fullShare (uV m c (n - 1)))
        else iprop((∃ d, owns (c : Thread nD τ) memG fullShare d) ∗ (∃ d, owns (c : Thread nD τ) memU fullShare d))))

/-- The launch's data, the accumulator's and the down weights' blocks aside. -/
def data (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, _⟩ => k0_pay1 (BLK (heldG m c) t.val)
    | ⟨6, _⟩ => k0_pay2 (BLK (heldU m c) t.val)
    | ⟨7, h⟩ => Pipeline.Dat.unnamed (cfg := cfg0) ⟨7, h⟩ t
  Φ t := carried m c t.val
  q _ := fullShare
  owed _ := 0

theorem data_A (c : Dev nD) (w : Fin cfg0.W) : (data m 0 c).A w = V m c (Pipeline.arrRef spec0 w) := by
  dsimp only [data]
theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left5 (c : Dev nD) (t : Fin cfg0.N) : (data m 0 c).after 5 t = k0_pay1 (BLK (heldG m c) t.val) := by dsimp only [data]
theorem left6 (c : Dev nD) (t : Fin cfg0.N) : (data m 0 c).after 6 t = k0_pay2 (BLK (heldU m c) t.val) := by dsimp only [data]
theorem found0 (c : Dev nD) (t : Fin cfg0.N) (d) : (data m 0 c).before 0 t d = iblk m c 0 t :=
  ((data m 0 c).before_in_eq_fetched 0 rfl (fun _ => rfl) (fun _ _ _ => rfl) (fun t => by rw [left0]; unfold Dat.blockOf iblk; rw [data_A]; try rfl) t d).trans
    (by unfold Dat.fetched Dat.blockOf iblk; rw [data_A]; try rfl)
theorem found1 (c : Dev nD) (t : Fin cfg0.N) (d) : (data m 0 c).before 1 t d = iblk m c 1 t :=
  ((data m 0 c).before_in_eq_fetched 1 rfl (fun _ => rfl) (fun _ _ _ => rfl) (fun t => by rw [left1]; unfold Dat.blockOf iblk; rw [data_A]; try rfl) t d).trans
    (by unfold Dat.fetched Dat.blockOf iblk; rw [data_A]; try rfl)
theorem found2 (c : Dev nD) (t : Fin cfg0.N) (d) : (data m 0 c).before 2 t d = iblk m c 2 t :=
  ((data m 0 c).before_in_eq_fetched 2 rfl (fun _ => rfl) (fun _ _ _ => rfl) (fun t => by rw [left2]; unfold Dat.blockOf iblk; rw [data_A]; try rfl) t d).trans
    (by unfold Dat.fetched Dat.blockOf iblk; rw [data_A]; try rfl)
theorem found3 (c : Dev nD) (t : Fin cfg0.N) (d) : (data m 0 c).before 3 t d = iblk m c 3 t :=
  ((data m 0 c).before_in_eq_fetched 3 rfl (fun _ => rfl) (fun _ _ _ => rfl) (fun t => by rw [left3]; unfold Dat.blockOf iblk; rw [data_A]; try rfl) t d).trans
    (by unfold Dat.fetched Dat.blockOf iblk; rw [data_A]; try rfl)

/-- The relations the two blocks obey. -/
def relates (c : Dev nD) : (w : Fin cfg0.W) → Option (Fin cfg0.N → (Y X : (cfg0.win w).block.Idx → Elt F (cfg0.win w).elt) → Prop)
  | ⟨4, _⟩ => some fun t Y X => X = stepAt m c t Y
  | ⟨7, _⟩ => some fun t Y X => X = downAt m c t Y
  | _ => none

/-- The launch's data. -/
def rdata (c : Dev nD) : RDat τ (Elt F) Unit ℕ (Pipeline.UD sig nD τ) ℕ cfg0 c := (data m 0 c).toR.override (relates m c)

theorem rdata_A (c : Dev nD) (w : Fin cfg0.W) : (rdata m c).A w = V m c (Pipeline.arrRef spec0 w) := data_A m c w

theorem after4 (c : Dev nD) : (rdata m c).after 4 = fun t Y X => X = stepAt m c t Y :=
  RDat.override_after_of_eq_some (data m 0 c).toR (ovr := relates m c) (w := 4) rfl
theorem after7 (c : Dev nD) : (rdata m c).after 7 = fun t Y X => X = downAt m c t Y :=
  RDat.override_after_of_eq_some (data m 0 c).toR (ovr := relates m c) (w := 7) rfl
theorem finds0 (c : Dev nD) (t : Fin cfg0.N) (X) (h : (rdata m c).Finds 0 t X) : X = iblk m c 0 t := by
  obtain ⟨d, e⟩ := (data m 0 c).toR_finds 0 t X ((RDat.override_finds (data m 0 c).toR (ovr := relates m c) (w := 0) rfl t X).mp h)
  exact e.trans (found0 m c t d)
theorem finds1 (c : Dev nD) (t : Fin cfg0.N) (X) (h : (rdata m c).Finds 1 t X) : X = iblk m c 1 t := by
  obtain ⟨d, e⟩ := (data m 0 c).toR_finds 1 t X ((RDat.override_finds (data m 0 c).toR (ovr := relates m c) (w := 1) rfl t X).mp h)
  exact e.trans (found1 m c t d)
theorem finds2 (c : Dev nD) (t : Fin cfg0.N) (X) (h : (rdata m c).Finds 2 t X) : X = iblk m c 2 t := by
  obtain ⟨d, e⟩ := (data m 0 c).toR_finds 2 t X ((RDat.override_finds (data m 0 c).toR (ovr := relates m c) (w := 2) rfl t X).mp h)
  exact e.trans (found2 m c t d)
theorem finds3 (c : Dev nD) (t : Fin cfg0.N) (X) (h : (rdata m c).Finds 3 t X) : X = iblk m c 3 t := by
  obtain ⟨d, e⟩ := (data m 0 c).toR_finds 3 t X ((RDat.override_finds (data m 0 c).toR (ovr := relates m c) (w := 3) rfl t X).mp h)
  exact e.trans (found3 m c t d)
theorem leaves0 (c : Dev nD) (t : Fin cfg0.N) (Y) : (rdata m c).after 0 t Y (iblk m c 0 t) := by
  have e : (rdata m c).after 0 = (data m 0 c).toR.after 0 := RDat.override_after_of_eq_none (data m 0 c).toR (ovr := relates m c) (w := 0) rfl
  rw [e]
  show iblk m c 0 t = (data m 0 c).after 0 t
  exact (left0 m c t).symm
theorem leaves1 (c : Dev nD) (t : Fin cfg0.N) (Y) : (rdata m c).after 1 t Y (iblk m c 1 t) := by
  have e : (rdata m c).after 1 = (data m 0 c).toR.after 1 := RDat.override_after_of_eq_none (data m 0 c).toR (ovr := relates m c) (w := 1) rfl
  rw [e]
  show iblk m c 1 t = (data m 0 c).after 1 t
  exact (left1 m c t).symm
theorem leaves2 (c : Dev nD) (t : Fin cfg0.N) (Y) : (rdata m c).after 2 t Y (iblk m c 2 t) := by
  have e : (rdata m c).after 2 = (data m 0 c).toR.after 2 := RDat.override_after_of_eq_none (data m 0 c).toR (ovr := relates m c) (w := 2) rfl
  rw [e]
  show iblk m c 2 t = (data m 0 c).after 2 t
  exact (left2 m c t).symm
theorem leaves3 (c : Dev nD) (t : Fin cfg0.N) (Y) : (rdata m c).after 3 t Y (iblk m c 3 t) := by
  have e : (rdata m c).after 3 = (data m 0 c).toR.after 3 := RDat.override_after_of_eq_none (data m 0 c).toR (ovr := relates m c) (w := 3) rfl
  rw [e]
  show iblk m c 3 t = (data m 0 c).after 3 t
  exact (left3 m c t).symm
theorem leaves5 (c : Dev nD) (t : Fin cfg0.N) (Y) : (rdata m c).after 5 t Y (k0_pay1 (BLK (heldG m c) t.val)) := by
  have e : (rdata m c).after 5 = (data m 0 c).toR.after 5 := RDat.override_after_of_eq_none (data m 0 c).toR (ovr := relates m c) (w := 5) rfl
  rw [e]
  show k0_pay1 (BLK (heldG m c) t.val) = (data m 0 c).after 5 t
  exact (left5 m c t).symm
theorem leaves6 (c : Dev nD) (t : Fin cfg0.N) (Y) : (rdata m c).after 6 t Y (k0_pay2 (BLK (heldU m c) t.val)) := by
  have e : (rdata m c).after 6 = (data m 0 c).toR.after 6 := RDat.override_after_of_eq_none (data m 0 c).toR (ovr := relates m c) (w := 6) rfl
  rw [e]
  show k0_pay2 (BLK (heldU m c) t.val) = (data m 0 c).after 6 t
  exact (left6 m c t).symm

end Cert.FirstIdeal.Body

end
-- ==== Proof.FirstV.Run.lean ====
/- One point of the first feed-forward call: its five cases. -/
module

public import proofs.«01_k».proof.Proof.FirstV.Reads

@[expose] public section

set_option maxRecDepth 16384

noncomputable section

namespace Cert.FirstIdeal.Body

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section
variable (c : Dev nD) (t : Fin cfg0.N) (arg2 : Memref sig .tc .vmem S512x4096 .f32) (harg2 : arg2.IsWhole) (arg3 : Memref sig .tc .vmem S1x4096 .f32) (harg3 : arg3.IsWhole) (arg6 : Memref sig .tc .vmem S256x4096 .f32) (harg6 : arg6.IsWhole) (arg7 : Memref sig .tc .vmem S1x4096 .f32) (harg7 : arg7.IsWhole) (arg8 : Memref sig .tc .vmem S512x4096 .f32) (harg8 : arg8.IsWhole) (arg9 : Memref sig .tc .vmem S2048x256 .bf16) (harg9 : arg9.IsWhole) (arg10 : Memref sig .tc .vmem S2048x256 .bf16) (harg10 : arg10.IsWhole) (arg11 : Memref sig .tc .vmem S256x4096 .bf16) (harg11 : arg11.IsWhole)

/-- The blocks, the output blocks and three of the scratch arrays held, with what else is. -/
abbrev holds (y0 : Vec F S512x4096 .f32) (y1 : Vec F S1x4096 .f32) (y2 : Vec F S256x4096 .f32) (y3 : Vec F S1x4096 .f32) (y4 : Vec F S512x4096 .f32) (y5 : Vec F S2048x256 .bf16) (y6 : Vec F S2048x256 .bf16) (y7 : Vec F S256x4096 .bf16) (y8 : Vec F S512x4096 .bf16) (y9 : Vec F S512x256 .f32) (y10 : Vec F S512x256 .f32) (R : sProp 𝕄) : sProp 𝕄 :=
  iprop(owns (c : Thread nD τ) arg2 fullShare y0 ∗ owns (c : Thread nD τ) arg3 fullShare y1 ∗ owns (c : Thread nD τ) arg6 fullShare y2 ∗ owns (c : Thread nD τ) arg7 fullShare y3 ∗ owns (c : Thread nD τ) arg8 fullShare y4 ∗ owns (c : Thread nD τ) arg9 fullShare y5 ∗ owns (c : Thread nD τ) arg10 fullShare y6 ∗ owns (c : Thread nD τ) arg11 fullShare y7 ∗ owns (c : Thread nD τ) memXn fullShare y8 ∗ owns (c : Thread nD τ) memG fullShare y9 ∗ owns (c : Thread nD τ) memU fullShare y10 ∗ R)

/-- The slot of step `k` idle, and the copy of step `k`'s block under way. -/
abbrev freeG (W : Held (F := F) c opG) (k : ℕ) : sProp 𝕄 := Ring.free (hasCellG c) (idleSlotG c W) (Ring.sl 3 k)
abbrev flyG (W : Held (F := F) c opG) (k : ℕ) : sProp 𝕄 := Ring.inflight (busySlotG c W) (Ring.sl 3 k) (Ring.bk 86 k)
abbrev freeU (W : Held (F := F) c opU) (k : ℕ) : sProp 𝕄 := Ring.free (hasCellU c) (idleSlotU c W) (Ring.sl 3 k)
abbrev flyU (W : Held (F := F) c opU) (k : ℕ) : sProp 𝕄 := Ring.inflight (busySlotU c W) (Ring.sl 3 k) (Ring.bk 86 k)

set_option maxHeartbeats 4000000 in
/-- The first point: the rows normalised, the output block zeroed, three copies started and the first awaited. -/
theorem runA (hc0 : k0_cond1 (grid0.coords t) = 1#1) (hc1 : k0_cond2 (grid0.coords t) = 1#1) (hc2 : first_half (grid0.coords t) = 1#1) (hc3 : ¬k0_cond4 (grid0.coords t) = 1#1) (hc4 : ¬k0_cond5 (grid0.coords t) = 1#1)
    (WG : Held (F := F) c opG) (WU : Held (F := F) c opU) (x0 : Vec F S512x4096 .f32) (x1 : Vec F S1x4096 .f32) (x2 : Vec F S256x4096 .f32) (x3 : Vec F S1x4096 .f32) (Y : Vec F S512x4096 .f32) (P : Vec F S2048x256 .bf16) (Q : Vec F S2048x256 .bf16) (R : Vec F S256x4096 .bf16) (S : Vec F S512x4096 .bf16) (G : Vec F S512x256 .f32) (U : Vec F S512x256 .f32) :
      ∀ (W : Waits sig Unit) (K : PUnit → sProp 𝕄),
        (holds c arg2 arg3 arg6 arg7 arg8 arg9 arg10 arg11 x0 x1 x2 x3 Y P Q R S G U iprop(freeG c WG t.val ∗ freeG c WG (t.val + 1) ∗ freeG c WG (t.val + 2) ∗ freeU c WU t.val ∗ freeU c WU (t.val + 1) ∗ freeU c WU (t.val + 2) ∗ owes (c : Thread nD τ) 0 W
            ∗ ((holds c arg2 arg3 arg6 arg7 arg8 arg9 arg10 arg11 x0 x1 x2 x3 ZERO (k0_pay1 (BLK WG t.val)) (k0_pay2 (BLK WU t.val)) R (XN x0 x1) (k0_pay5 (BLK WG t.val) (half 0 (XN x0 x1))) (k0_pay6 (BLK WU t.val) (half 0 (XN x0 x1))) iprop(flyG c WG (t.val + 1) ∗ flyG c WG (t.val + 2) ∗ freeG c WG t.val ∗ flyU c WU (t.val + 1) ∗ flyU c WU (t.val + 2) ∗ freeU c WU t.val ∗ (∃ W', owes (c : Thread nD τ) 0 W'))) -∗ K ⟨⟩)))
          ⊢ wp frame (wpE (defs₀ (F := F)) Variants.none c none) Set.univ (cc0_ffn_first (grid0.coords t) arg2 harg2 arg3 harg3 opG (Memref.isWhole_whole _) opU (Memref.isWhole_whole _) arg6 harg6 arg7 harg7 arg8 harg8 arg9 harg9 arg10 harg10 arg11 harg11 memXn (Memref.isWhole_whole _) memG (Memref.isWhole_whole _) memU (Memref.isWhole_whole _) bufG (Memref.isWhole_whole _) bufU (Memref.isWhole_whole _) cc0_scratch5) K := by
    intro W K
    haveI : Fact (k0_cond1 (grid0.coords t) = 1#1) := ⟨hc0⟩
    haveI : Fact (k0_cond2 (grid0.coords t) = 1#1) := ⟨hc1⟩
    haveI : Fact (first_half (grid0.coords t) = 1#1) := ⟨hc2⟩
    haveI : Fact (¬k0_cond4 (grid0.coords t) = 1#1) := ⟨hc3⟩
    haveI : Fact (¬k0_cond5 (grid0.coords t) = 1#1) := ⟨hc4⟩
    simp only [cc0_ffn_first_eq_skeleton]; unfold cc0_ffn_first_skel
    simp only [k0_part5_eq_skeleton]
    have nameGs0 := nameG_s0 t hc0
    have nameGc0 := nameG_c0 t hc0
    have nameGb0 := nameG_b0 t hc0
    have nameGs1 := nameG_s1 t hc0
    have nameGc1 := nameG_c1 t hc0
    have nameGb1 := nameG_b1 t hc0
    have nameUs0 := nameU_s0 t hc0
    have nameUc0 := nameU_c0 t hc0
    have nameUb0 := nameU_b0 t hc0
    have nameUs1 := nameU_s1 t hc0
    have nameUc1 := nameU_c1 t hc0
    have nameUb1 := nameU_b1 t hc0
    unfold holds freeG freeU flyG flyU owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨HcG0, ⟨%fsG0, HsG0, HwG0⟩⟩, ⟨HcG1, ⟨%fsG1, HsG1, HwG1⟩⟩, ⟨HcG2, ⟨%fsG2, HsG2, HwG2⟩⟩, ⟨HcU0, ⟨%fsU0, HsU0, HwU0⟩⟩, ⟨HcU1, ⟨%fsU1, HsU1, HwU1⟩⟩, ⟨HcU2, ⟨%fsU2, HsU2, HwU2⟩⟩, HW, Hk⟩
    obtain rfl := harg2.eq_unread hf0; obtain rfl := harg3.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := wholeXn.eq_unread hf8; obtain rfl := wholeG.eq_unread hf9; obtain rfl := wholeU.eq_unread hf10
    ihave HspG0 := (partG_split c WG (Ring.sl 3 t.val) (Ring.bk 86 t.val)).1 $$ HwG0
    icases HspG0 with ⟨HhG0, HrG0⟩
    ihave HspG1 := (partG_split c WG (Ring.sl 3 (t.val + 1)) (Ring.bk 86 (t.val + 1))).1 $$ HwG1
    icases HspG1 with ⟨HhG1, HrG1⟩
    ihave HspG2 := (partG_split c WG (Ring.sl 3 (t.val + 2)) (Ring.bk 86 (t.val + 2))).1 $$ HwG2
    icases HspG2 with ⟨HhG2, HrG2⟩
    ihave HspU0 := (partU_split c WU (Ring.sl 3 t.val) (Ring.bk 86 t.val)).1 $$ HwU0
    icases HspU0 with ⟨HhU0, HrU0⟩
    ihave HspU1 := (partU_split c WU (Ring.sl 3 (t.val + 1)) (Ring.bk 86 (t.val + 1))).1 $$ HwU1
    icases HspU1 with ⟨HhU1, HrU1⟩
    ihave HspU2 := (partU_split c WU (Ring.sl 3 (t.val + 2)) (Ring.bk 86 (t.val + 2))).1 $$ HwU2
    icases HspU2 with ⟨HhU2, HrU2⟩
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg6.read_unread _
    isplitl [H3]
    · iexists _; isplitr; swap; · iexact H3
      ipureintro; exact harg7.read_unread _
    isplitl [H4]
    · iexists _; isplitr; swap; · iexact H4
      ipureintro
      exact all_rows arg8.view _ ZERO (by assumption)
    isplitl [H5]
    · iexists _; isplitr; swap; · iexact H5
      ipureintro
      sl_unfold_run_names
      refine (View.read_writes_full arg9.view _ inb_S2048x256_S2048x256_0_0 _ []).trans ?_
      exact congrArg k0_pay1 (loadG c t _ WG _)
    isplitl [H6]
    · iexists _; isplitr; swap; · iexact H6
      ipureintro
      sl_unfold_run_names
      refine (View.read_writes_full arg10.view _ inb_S2048x256_S2048x256_0_0 _ []).trans ?_
      exact congrArg k0_pay2 (loadU c t _ WU _)
    isplitl [H7]
    · iexists _; isplitr; swap; · iexact H7
      ipureintro; exact harg11.read_unread _
    isplitl [H8]
    · iexists _; isplitr; swap; · iexact H8
      ipureintro
      exact all_rows memXn.view _ (XN x0 x1) (by rw [← harg2.read_unread x0, ← harg3.read_unread x1]; assumption)
    isplitl [H9]
    · iexists _; isplitr; swap; · iexact H9
      ipureintro
      sl_unfold_run_names
      refine (View.read_writes_full memG.view _ inb_S512x256_S512x256_0_0 _ []).trans ?_
      exact congrArg₂ k0_pay5 (loadG c t _ WG _) (load_half t _ _ _ 0 ((first_iff t).mp hc2) (all_rows memXn.view _ (XN x0 x1) (by rw [← harg2.read_unread x0, ← harg3.read_unread x1]; assumption)))
    isplitl [H10]
    · iexists _; isplitr; swap; · iexact H10
      ipureintro
      sl_unfold_run_names
      refine (View.read_writes_full memU.view _ inb_S512x256_S512x256_0_0 _ []).trans ?_
      exact congrArg₂ k0_pay6 (loadU c t _ WU _) (load_half t _ _ _ 0 ((first_iff t).mp hc2) (all_rows memXn.view _ (XN x0 x1) (by rw [← harg2.read_unread x0, ← harg3.read_unread x1]; assumption)))
    isplitl [HcG1 HrG1]
    · iexists _; isplitl [HcG1]; · iexact HcG1
      iexact HrG1
    isplitl [HcG2 HrG2]
    · iexists _; isplitl [HcG2]; · iexact HcG2
      iexact HrG2
    isplitl [HcG0 HsG0 HhG0 HrG0]
    · isplitl [HcG0]; · iexact HcG0
      iexists _; isplitl [HsG0]; · iexact HsG0
      iapply (partG_split c WG (Ring.sl 3 t.val) (Ring.bk 86 t.val)).2; isplitl [HhG0]; · iexact HhG0
      iexact HrG0
    isplitl [HcU1 HrU1]
    · iexists _; isplitl [HcU1]; · iexact HcU1
      iexact HrU1
    isplitl [HcU2 HrU2]
    · iexists _; isplitl [HcU2]; · iexact HcU2
      iexact HrU2
    isplitl [HcU0 HsU0 HhU0 HrU0]
    · isplitl [HcU0]; · iexact HcU0
      iexists _; isplitl [HsU0]; · iexact HsU0
      iapply (partU_split c WU (Ring.sl 3 t.val) (Ring.bk 86 t.val)).2; isplitl [HhU0]; · iexact HhU0
      iexact HrU0
    iexists _; iexact HW

set_option maxHeartbeats 4000000 in
/-- The first half of a step: the half products are kept. -/
theorem runB (hc0 : ¬k0_cond1 (grid0.coords t) = 1#1) (hc1 : k0_cond2 (grid0.coords t) = 1#1) (hc2 : first_half (grid0.coords t) = 1#1) (hc3 : ¬k0_cond4 (grid0.coords t) = 1#1) (hc4 : ¬k0_cond5 (grid0.coords t) = 1#1)
    (WG : Held (F := F) c opG) (WU : Held (F := F) c opU) (x0 : Vec F S512x4096 .f32) (x1 : Vec F S1x4096 .f32) (x2 : Vec F S256x4096 .f32) (x3 : Vec F S1x4096 .f32) (Y : Vec F S512x4096 .f32) (P : Vec F S2048x256 .bf16) (Q : Vec F S2048x256 .bf16) (R : Vec F S256x4096 .bf16) (S : Vec F S512x4096 .bf16) (G : Vec F S512x256 .f32) (U : Vec F S512x256 .f32) :
      ∀ (W : Waits sig Unit) (K : PUnit → sProp 𝕄),
        (holds c arg2 arg3 arg6 arg7 arg8 arg9 arg10 arg11 x0 x1 x2 x3 Y P Q R S G U iprop(flyG c WG t.val ∗ flyG c WG (t.val + 1) ∗ freeG c WG (t.val + 2) ∗ flyU c WU t.val ∗ flyU c WU (t.val + 1) ∗ freeU c WU (t.val + 2) ∗ owes (c : Thread nD τ) 0 W
            ∗ ((holds c arg2 arg3 arg6 arg7 arg8 arg9 arg10 arg11 x0 x1 x2 x3 Y (k0_pay1 (BLK WG t.val)) (k0_pay2 (BLK WU t.val)) R S (k0_pay5 (BLK WG t.val) (half 0 S)) (k0_pay6 (BLK WU t.val) (half 0 S)) iprop(flyG c WG (t.val + 1) ∗ flyG c WG (t.val + 2) ∗ freeG c WG t.val ∗ flyU c WU (t.val + 1) ∗ flyU c WU (t.val + 2) ∗ freeU c WU t.val ∗ (∃ W', owes (c : Thread nD τ) 0 W'))) -∗ K ⟨⟩)))
          ⊢ wp frame (wpE (defs₀ (F := F)) Variants.none c none) Set.univ (cc0_ffn_first (grid0.coords t) arg2 harg2 arg3 harg3 opG (Memref.isWhole_whole _) opU (Memref.isWhole_whole _) arg6 harg6 arg7 harg7 arg8 harg8 arg9 harg9 arg10 harg10 arg11 harg11 memXn (Memref.isWhole_whole _) memG (Memref.isWhole_whole _) memU (Memref.isWhole_whole _) bufG (Memref.isWhole_whole _) bufU (Memref.isWhole_whole _) cc0_scratch5) K := by
    intro W K
    haveI : Fact (¬k0_cond1 (grid0.coords t) = 1#1) := ⟨hc0⟩
    haveI : Fact (k0_cond2 (grid0.coords t) = 1#1) := ⟨hc1⟩
    haveI : Fact (first_half (grid0.coords t) = 1#1) := ⟨hc2⟩
    haveI : Fact (¬k0_cond4 (grid0.coords t) = 1#1) := ⟨hc3⟩
    haveI : Fact (¬k0_cond5 (grid0.coords t) = 1#1) := ⟨hc4⟩
    simp only [cc0_ffn_first_eq_skeleton]; unfold cc0_ffn_first_skel
    simp only [k0_part5_eq_skeleton]
    unfold holds freeG freeU flyG flyU owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ffG0, HfG0, HrfG0⟩, ⟨%ffG1, HfG1, HrfG1⟩, ⟨HcG2, ⟨%fsG2, HsG2, HwG2⟩⟩, ⟨%ffU0, HfU0, HrfU0⟩, ⟨%ffU1, HfU1, HrfU1⟩, ⟨HcU2, ⟨%fsU2, HsU2, HwU2⟩⟩, HW, Hk⟩
    obtain rfl := harg2.eq_unread hf0; obtain rfl := harg3.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := wholeXn.eq_unread hf8; obtain rfl := wholeG.eq_unread hf9; obtain rfl := wholeU.eq_unread hf10
    ihave HspG2 := (partG_split c WG (Ring.sl 3 (t.val + 2)) (Ring.bk 86 (t.val + 2))).1 $$ HwG2
    icases HspG2 with ⟨HhG2, HrG2⟩
    ihave HspU2 := (partU_split c WU (Ring.sl 3 (t.val + 2)) (Ring.bk 86 (t.val + 2))).1 $$ HwU2
    icases HspU2 with ⟨HhU2, HrU2⟩
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg6.read_unread _
    isplitl [H3]
    · iexists _; isplitr; swap; · iexact H3
      ipureintro; exact harg7.read_unread _
    isplitl [H4]
    · iexists _; isplitr; swap; · iexact H4
      ipureintro; exact harg8.read_unread _
    isplitl [H5]
    · iexists _; isplitr; swap; · iexact H5
      ipureintro
      sl_unfold_run_names
      refine (View.read_writes_full arg9.view _ inb_S2048x256_S2048x256_0_0 _ []).trans ?_
      exact congrArg k0_pay1 (loadG c t _ WG _)
    isplitl [H6]
    · iexists _; isplitr; swap; · iexact H6
      ipureintro
      sl_unfold_run_names
      refine (View.read_writes_full arg10.view _ inb_S2048x256_S2048x256_0_0 _ []).trans ?_
      exact congrArg k0_pay2 (loadU c t _ WU _)
    isplitl [H7]
    · iexists _; isplitr; swap; · iexact H7
      ipureintro; exact harg11.read_unread _
    isplitl [H8]
    · iexists _; isplitr; swap; · iexact H8
      ipureintro; exact wholeXn.read_unread _
    isplitl [H9]
    · iexists _; isplitr; swap; · iexact H9
      ipureintro
      sl_unfold_run_names
      refine (View.read_writes_full memG.view _ inb_S512x256_S512x256_0_0 _ []).trans ?_
      exact congrArg₂ k0_pay5 (loadG c t _ WG _) (load_half t _ _ _ 0 ((first_iff t).mp hc2) (wholeXn.read_unread _))
    isplitl [H10]
    · iexists _; isplitr; swap; · iexact H10
      ipureintro
      sl_unfold_run_names
      refine (View.read_writes_full memU.view _ inb_S512x256_S512x256_0_0 _ []).trans ?_
      exact congrArg₂ k0_pay6 (loadU c t _ WU _) (load_half t _ _ _ 0 ((first_iff t).mp hc2) (wholeXn.read_unread _))
    isplitl [HfG1 HrfG1]
    · iexists ffG1; isplitl [HfG1]; · iexact HfG1
      iexact HrfG1
    isplitl [HcG2 HrG2]
    · iexists _; isplitl [HcG2]; · iexact HcG2
      iexact HrG2
    isplitl [HfG0 HfG0_dst HfG0_src HrfG0]
    · isplitl [HfG0]; · iexact HfG0
      iexists _; isplitl [HfG0_dst]; · iexact HfG0_dst
      iapply (partG_split c WG (Ring.sl 3 t.val) (Ring.bk 86 t.val)).2; isplitl [HfG0_src]; · iexact HfG0_src
      iexact HrfG0
    isplitl [HfU1 HrfU1]
    · iexists ffU1; isplitl [HfU1]; · iexact HfU1
      iexact HrfU1
    isplitl [HcU2 HrU2]
    · iexists _; isplitl [HcU2]; · iexact HcU2
      iexact HrU2
    isplitl [HfU0 HfU0_dst HfU0_src HrfU0]
    · isplitl [HfU0]; · iexact HfU0
      iexists _; isplitl [HfU0_dst]; · iexact HfU0_dst
      iapply (partU_split c WU (Ring.sl 3 t.val) (Ring.bk 86 t.val)).2; isplitl [HfU0_src]; · iexact HfU0_src
      iexact HrfU0
    iexists _; iexact HW

set_option maxHeartbeats 4000000 in
/-- The second half of a step: the hidden block is added to the accumulator. -/
theorem runC (hc0 : ¬k0_cond1 (grid0.coords t) = 1#1) (hc1 : k0_cond2 (grid0.coords t) = 1#1) (hc2 : ¬first_half (grid0.coords t) = 1#1) (hc3 : k0_cond4 (grid0.coords t) = 1#1) (hc4 : ¬k0_cond5 (grid0.coords t) = 1#1)
    (WG : Held (F := F) c opG) (WU : Held (F := F) c opU) (x0 : Vec F S512x4096 .f32) (x1 : Vec F S1x4096 .f32) (x2 : Vec F S256x4096 .f32) (x3 : Vec F S1x4096 .f32) (Y : Vec F S512x4096 .f32) (P : Vec F S2048x256 .bf16) (Q : Vec F S2048x256 .bf16) (R : Vec F S256x4096 .bf16) (S : Vec F S512x4096 .bf16) (G : Vec F S512x256 .f32) (U : Vec F S512x256 .f32) :
      ∀ (W : Waits sig Unit) (K : PUnit → sProp 𝕄),
        (holds c arg2 arg3 arg6 arg7 arg8 arg9 arg10 arg11 x0 x1 x2 x3 Y P Q R S G U iprop(flyG c WG t.val ∗ flyG c WG (t.val + 1) ∗ freeG c WG (t.val + 2) ∗ flyU c WU t.val ∗ flyU c WU (t.val + 1) ∗ freeU c WU (t.val + 2) ∗ owes (c : Thread nD τ) 0 W
            ∗ ((holds c arg2 arg3 arg6 arg7 arg8 arg9 arg10 arg11 x0 x1 x2 x3 (ACC S (BLK WG t.val) (BLK WU t.val) x2 G U Y) (k0_pay1 (BLK WG t.val)) (k0_pay2 (BLK WU t.val)) (k0_pay7 x2) S G U iprop(flyG c WG (t.val + 1) ∗ flyG c WG (t.val + 2) ∗ freeG c WG t.val ∗ flyU c WU (t.val + 1) ∗ flyU c WU (t.val + 2) ∗ freeU c WU t.val ∗ (∃ W', owes (c : Thread nD τ) 0 W'))) -∗ K ⟨⟩)))
          ⊢ wp frame (wpE (defs₀ (F := F)) Variants.none c none) Set.univ (cc0_ffn_first (grid0.coords t) arg2 harg2 arg3 harg3 opG (Memref.isWhole_whole _) opU (Memref.isWhole_whole _) arg6 harg6 arg7 harg7 arg8 harg8 arg9 harg9 arg10 harg10 arg11 harg11 memXn (Memref.isWhole_whole _) memG (Memref.isWhole_whole _) memU (Memref.isWhole_whole _) bufG (Memref.isWhole_whole _) bufU (Memref.isWhole_whole _) cc0_scratch5) K := by
    intro W K
    haveI : Fact (¬k0_cond1 (grid0.coords t) = 1#1) := ⟨hc0⟩
    haveI : Fact (k0_cond2 (grid0.coords t) = 1#1) := ⟨hc1⟩
    haveI : Fact (¬first_half (grid0.coords t) = 1#1) := ⟨hc2⟩
    haveI : Fact (k0_cond4 (grid0.coords t) = 1#1) := ⟨hc3⟩
    haveI : Fact (¬k0_cond5 (grid0.coords t) = 1#1) := ⟨hc4⟩
    simp only [cc0_ffn_first_eq_skeleton]; unfold cc0_ffn_first_skel
    simp only [k0_part5_eq_skeleton]
    unfold holds freeG freeU flyG flyU owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ffG0, HfG0, HrfG0⟩, ⟨%ffG1, HfG1, HrfG1⟩, ⟨HcG2, ⟨%fsG2, HsG2, HwG2⟩⟩, ⟨%ffU0, HfU0, HrfU0⟩, ⟨%ffU1, HfU1, HrfU1⟩, ⟨HcU2, ⟨%fsU2, HsU2, HwU2⟩⟩, HW, Hk⟩
    obtain rfl := harg2.eq_unread hf0; obtain rfl := harg3.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := wholeXn.eq_unread hf8; obtain rfl := wholeG.eq_unread hf9; obtain rfl := wholeU.eq_unread hf10
    ihave HspG2 := (partG_split c WG (Ring.sl 3 (t.val + 2)) (Ring.bk 86 (t.val + 2))).1 $$ HwG2
    icases HspG2 with ⟨HhG2, HrG2⟩
    ihave HspU2 := (partU_split c WU (Ring.sl 3 (t.val + 2)) (Ring.bk 86 (t.val + 2))).1 $$ HwU2
    icases HspU2 with ⟨HhU2, HrU2⟩
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg6.read_unread _
    isplitl [H3]
    · iexists _; isplitr; swap; · iexact H3
      ipureintro; exact harg7.read_unread _
    isplitl [H4]
    · iexists _; isplitr; swap; · iexact H4
      ipureintro
      sl_unfold_run_names
      refine (View.read_writes_full arg8.view _ inb_S512x4096_S512x4096_0_0 _ []).trans ?_
      exact acc_congr (loadG c t _ WG _) (loadU c t _ WU _) (load_half t _ _ _ 1 ((second_iff t).mp hc3) (wholeXn.read_unread _)) ((View.readAt_full _ _ _).trans (harg6.read_unread _)) ((View.readAt_full _ _ _).trans (wholeG.read_unread _)) ((View.readAt_full _ _ _).trans (wholeU.read_unread _)) ((View.readAt_full _ _ _).trans (harg8.read_unread _))
    isplitl [H5]
    · iexists _; isplitr; swap; · iexact H5
      ipureintro
      sl_unfold_run_names
      refine (View.read_writes_full arg9.view _ inb_S2048x256_S2048x256_0_0 _ []).trans ?_
      exact congrArg k0_pay1 (loadG c t _ WG _)
    isplitl [H6]
    · iexists _; isplitr; swap; · iexact H6
      ipureintro
      sl_unfold_run_names
      refine (View.read_writes_full arg10.view _ inb_S2048x256_S2048x256_0_0 _ []).trans ?_
      exact congrArg k0_pay2 (loadU c t _ WU _)
    isplitl [H7]
    · iexists _; isplitr; swap; · iexact H7
      ipureintro
      sl_unfold_run_names
      refine (View.read_writes_full arg11.view _ inb_S256x4096_S256x4096_0_0 _ []).trans ?_
      exact congrArg k0_pay7 ((View.readAt_full _ _ _).trans (harg6.read_unread _))
    isplitl [H8]
    · iexists _; isplitr; swap; · iexact H8
      ipureintro; exact wholeXn.read_unread _
    isplitl [H9]
    · iexists _; isplitr; swap; · iexact H9
      ipureintro; exact wholeG.read_unread _
    isplitl [H10]
    · iexists _; isplitr; swap; · iexact H10
      ipureintro; exact wholeU.read_unread _
    isplitl [HfG1 HrfG1]
    · iexists ffG1; isplitl [HfG1]; · iexact HfG1
      iexact HrfG1
    isplitl [HcG2 HrG2]
    · iexists _; isplitl [HcG2]; · iexact HcG2
      iexact HrG2
    isplitl [HfG0 HfG0_dst HfG0_src HrfG0]
    · isplitl [HfG0]; · iexact HfG0
      iexists _; isplitl [HfG0_dst]; · iexact HfG0_dst
      iapply (partG_split c WG (Ring.sl 3 t.val) (Ring.bk 86 t.val)).2; isplitl [HfG0_src]; · iexact HfG0_src
      iexact HrfG0
    isplitl [HfU1 HrfU1]
    · iexists ffU1; isplitl [HfU1]; · iexact HfU1
      iexact HrfU1
    isplitl [HcU2 HrU2]
    · iexists _; isplitl [HcU2]; · iexact HcU2
      iexact HrU2
    isplitl [HfU0 HfU0_dst HfU0_src HrfU0]
    · isplitl [HfU0]; · iexact HfU0
      iexists _; isplitl [HfU0_dst]; · iexact HfU0_dst
      iapply (partU_split c WU (Ring.sl 3 t.val) (Ring.bk 86 t.val)).2; isplitl [HfU0_src]; · iexact HfU0_src
      iexact HrfU0
    iexists _; iexact HW

set_option maxHeartbeats 4000000 in
/-- The first half of the last step: no copy is started. -/
theorem runD (hc0 : ¬k0_cond1 (grid0.coords t) = 1#1) (hc1 : ¬k0_cond2 (grid0.coords t) = 1#1) (hc2 : first_half (grid0.coords t) = 1#1) (hc3 : ¬k0_cond4 (grid0.coords t) = 1#1) (hc4 : ¬k0_cond5 (grid0.coords t) = 1#1)
    (WG : Held (F := F) c opG) (WU : Held (F := F) c opU) (x0 : Vec F S512x4096 .f32) (x1 : Vec F S1x4096 .f32) (x2 : Vec F S256x4096 .f32) (x3 : Vec F S1x4096 .f32) (Y : Vec F S512x4096 .f32) (P : Vec F S2048x256 .bf16) (Q : Vec F S2048x256 .bf16) (R : Vec F S256x4096 .bf16) (S : Vec F S512x4096 .bf16) (G : Vec F S512x256 .f32) (U : Vec F S512x256 .f32) :
      ∀ (W : Waits sig Unit) (K : PUnit → sProp 𝕄),
        (holds c arg2 arg3 arg6 arg7 arg8 arg9 arg10 arg11 x0 x1 x2 x3 Y P Q R S G U iprop(flyG c WG t.val ∗ Ring.slotAt 2 (hasCellG c) (idleSlotG c WG) (busySlotG c WG) t.val 1 ∗ freeG c WG (t.val + 2) ∗ flyU c WU t.val ∗ Ring.slotAt 2 (hasCellU c) (idleSlotU c WU) (busySlotU c WU) t.val 1 ∗ freeU c WU (t.val + 2) ∗ owes (c : Thread nD τ) 0 W
            ∗ ((holds c arg2 arg3 arg6 arg7 arg8 arg9 arg10 arg11 x0 x1 x2 x3 Y (k0_pay1 (BLK WG t.val)) (k0_pay2 (BLK WU t.val)) R S (k0_pay5 (BLK WG t.val) (half 0 S)) (k0_pay6 (BLK WU t.val) (half 0 S)) iprop(Ring.slotAt 2 (hasCellG c) (idleSlotG c WG) (busySlotG c WG) t.val 1 ∗ freeG c WG (t.val + 2) ∗ freeG c WG t.val ∗ Ring.slotAt 2 (hasCellU c) (idleSlotU c WU) (busySlotU c WU) t.val 1 ∗ freeU c WU (t.val + 2) ∗ freeU c WU t.val ∗ (∃ W', owes (c : Thread nD τ) 0 W'))) -∗ K ⟨⟩)))
          ⊢ wp frame (wpE (defs₀ (F := F)) Variants.none c none) Set.univ (cc0_ffn_first (grid0.coords t) arg2 harg2 arg3 harg3 opG (Memref.isWhole_whole _) opU (Memref.isWhole_whole _) arg6 harg6 arg7 harg7 arg8 harg8 arg9 harg9 arg10 harg10 arg11 harg11 memXn (Memref.isWhole_whole _) memG (Memref.isWhole_whole _) memU (Memref.isWhole_whole _) bufG (Memref.isWhole_whole _) bufU (Memref.isWhole_whole _) cc0_scratch5) K := by
    intro W K
    haveI : Fact (¬k0_cond1 (grid0.coords t) = 1#1) := ⟨hc0⟩
    haveI : Fact (¬k0_cond2 (grid0.coords t) = 1#1) := ⟨hc1⟩
    haveI : Fact (first_half (grid0.coords t) = 1#1) := ⟨hc2⟩
    haveI : Fact (¬k0_cond4 (grid0.coords t) = 1#1) := ⟨hc3⟩
    haveI : Fact (¬k0_cond5 (grid0.coords t) = 1#1) := ⟨hc4⟩
    simp only [cc0_ffn_first_eq_skeleton]; unfold cc0_ffn_first_skel
    simp only [k0_part5_eq_skeleton]
    unfold holds freeG freeU flyG flyU owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ffG0, HfG0, HrfG0⟩, HoG, ⟨HcG2, ⟨%fsG2, HsG2, HwG2⟩⟩, ⟨%ffU0, HfU0, HrfU0⟩, HoU, ⟨HcU2, ⟨%fsU2, HsU2, HwU2⟩⟩, HW, Hk⟩
    obtain rfl := harg2.eq_unread hf0; obtain rfl := harg3.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := wholeXn.eq_unread hf8; obtain rfl := wholeG.eq_unread hf9; obtain rfl := wholeU.eq_unread hf10
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg6.read_unread _
    isplitl [H3]
    · iexists _; isplitr; swap; · iexact H3
      ipureintro; exact harg7.read_unread _
    isplitl [H4]
    · iexists _; isplitr; swap; · iexact H4
      ipureintro; exact harg8.read_unread _
    isplitl [H5]
    · iexists _; isplitr; swap; · iexact H5
      ipureintro
      sl_unfold_run_names
      refine (View.read_writes_full arg9.view _ inb_S2048x256_S2048x256_0_0 _ []).trans ?_
      exact congrArg k0_pay1 (loadG c t _ WG _)
    isplitl [H6]
    · iexists _; isplitr; swap; · iexact H6
      ipureintro
      sl_unfold_run_names
      refine (View.read_writes_full arg10.view _ inb_S2048x256_S2048x256_0_0 _ []).trans ?_
      exact congrArg k0_pay2 (loadU c t _ WU _)
    isplitl [H7]
    · iexists _; isplitr; swap; · iexact H7
      ipureintro; exact harg11.read_unread _
    isplitl [H8]
    · iexists _; isplitr; swap; · iexact H8
      ipureintro; exact wholeXn.read_unread _
    isplitl [H9]
    · iexists _; isplitr; swap; · iexact H9
      ipureintro
      sl_unfold_run_names
      refine (View.read_writes_full memG.view _ inb_S512x256_S512x256_0_0 _ []).trans ?_
      exact congrArg₂ k0_pay5 (loadG c t _ WG _) (load_half t _ _ _ 0 ((first_iff t).mp hc2) (wholeXn.read_unread _))
    isplitl [H10]
    · iexists _; isplitr; swap; · iexact H10
      ipureintro
      sl_unfold_run_names
      refine (View.read_writes_full memU.view _ inb_S512x256_S512x256_0_0 _ []).trans ?_
      exact congrArg₂ k0_pay6 (loadU c t _ WU _) (load_half t _ _ _ 0 ((first_iff t).mp hc2) (wholeXn.read_unread _))
    isplitl [HoG]; · iexact HoG
    isplitl [HcG2 HsG2 HwG2]
    · isplitl [HcG2]; · iexact HcG2
      iexists _; isplitl [HsG2]; · iexact HsG2
      iexact HwG2
    isplitl [HfG0 HfG0_dst HfG0_src HrfG0]
    · isplitl [HfG0]; · iexact HfG0
      iexists _; isplitl [HfG0_dst]; · iexact HfG0_dst
      iapply (partG_split c WG (Ring.sl 3 t.val) (Ring.bk 86 t.val)).2; isplitl [HfG0_src]; · iexact HfG0_src
      iexact HrfG0
    isplitl [HoU]; · iexact HoU
    isplitl [HcU2 HsU2 HwU2]
    · isplitl [HcU2]; · iexact HcU2
      iexists _; isplitl [HsU2]; · iexact HsU2
      iexact HwU2
    isplitl [HfU0 HfU0_dst HfU0_src HrfU0]
    · isplitl [HfU0]; · iexact HfU0
      iexists _; isplitl [HfU0_dst]; · iexact HfU0_dst
      iapply (partU_split c WU (Ring.sl 3 t.val) (Ring.bk 86 t.val)).2; isplitl [HfU0_src]; · iexact HfU0_src
      iexact HrfU0
    iexists _; iexact HW

set_option maxHeartbeats 4000000 in
/-- The second half of the last step: the sum is normalised and the residual added. -/
theorem runE (hc0 : ¬k0_cond1 (grid0.coords t) = 1#1) (hc1 : ¬k0_cond2 (grid0.coords t) = 1#1) (hc2 : ¬first_half (grid0.coords t) = 1#1) (hc3 : k0_cond4 (grid0.coords t) = 1#1) (hc4 : k0_cond5 (grid0.coords t) = 1#1)
    (WG : Held (F := F) c opG) (WU : Held (F := F) c opU) (x0 : Vec F S512x4096 .f32) (x1 : Vec F S1x4096 .f32) (x2 : Vec F S256x4096 .f32) (x3 : Vec F S1x4096 .f32) (Y : Vec F S512x4096 .f32) (P : Vec F S2048x256 .bf16) (Q : Vec F S2048x256 .bf16) (R : Vec F S256x4096 .bf16) (S : Vec F S512x4096 .bf16) (G : Vec F S512x256 .f32) (U : Vec F S512x256 .f32) :
      ∀ (W : Waits sig Unit) (K : PUnit → sProp 𝕄),
        (holds c arg2 arg3 arg6 arg7 arg8 arg9 arg10 arg11 x0 x1 x2 x3 Y P Q R S G U iprop(flyG c WG t.val ∗ Ring.slotAt 2 (hasCellG c) (idleSlotG c WG) (busySlotG c WG) t.val 1 ∗ freeG c WG (t.val + 2) ∗ flyU c WU t.val ∗ Ring.slotAt 2 (hasCellU c) (idleSlotU c WU) (busySlotU c WU) t.val 1 ∗ freeU c WU (t.val + 2) ∗ owes (c : Thread nD τ) 0 W
            ∗ ((holds c arg2 arg3 arg6 arg7 arg8 arg9 arg10 arg11 x0 x1 x2 x3 (FIN (ACC S (BLK WG t.val) (BLK WU t.val) x2 G U Y) x0 x3) (k0_pay1 (BLK WG t.val)) (k0_pay2 (BLK WU t.val)) (k0_pay7 x2) S G U iprop(Ring.slotAt 2 (hasCellG c) (idleSlotG c WG) (busySlotG c WG) t.val 1 ∗ freeG c WG (t.val + 2) ∗ freeG c WG t.val ∗ Ring.slotAt 2 (hasCellU c) (idleSlotU c WU) (busySlotU c WU) t.val 1 ∗ freeU c WU (t.val + 2) ∗ freeU c WU t.val ∗ (∃ W', owes (c : Thread nD τ) 0 W'))) -∗ K ⟨⟩)))
          ⊢ wp frame (wpE (defs₀ (F := F)) Variants.none c none) Set.univ (cc0_ffn_first (grid0.coords t) arg2 harg2 arg3 harg3 opG (Memref.isWhole_whole _) opU (Memref.isWhole_whole _) arg6 harg6 arg7 harg7 arg8 harg8 arg9 harg9 arg10 harg10 arg11 harg11 memXn (Memref.isWhole_whole _) memG (Memref.isWhole_whole _) memU (Memref.isWhole_whole _) bufG (Memref.isWhole_whole _) bufU (Memref.isWhole_whole _) cc0_scratch5) K := by
    intro W K
    haveI : Fact (¬k0_cond1 (grid0.coords t) = 1#1) := ⟨hc0⟩
    haveI : Fact (¬k0_cond2 (grid0.coords t) = 1#1) := ⟨hc1⟩
    haveI : Fact (¬first_half (grid0.coords t) = 1#1) := ⟨hc2⟩
    haveI : Fact (k0_cond4 (grid0.coords t) = 1#1) := ⟨hc3⟩
    haveI : Fact (k0_cond5 (grid0.coords t) = 1#1) := ⟨hc4⟩
    simp only [cc0_ffn_first_eq_skeleton]; unfold cc0_ffn_first_skel
    simp only [k0_part5_eq_skeleton]
    unfold holds freeG freeU flyG flyU owns Ring.free Ring.inflight
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ffG0, HfG0, HrfG0⟩, HoG, ⟨HcG2, ⟨%fsG2, HsG2, HwG2⟩⟩, ⟨%ffU0, HfU0, HrfU0⟩, HoU, ⟨HcU2, ⟨%fsU2, HsU2, HwU2⟩⟩, HW, Hk⟩
    obtain rfl := harg2.eq_unread hf0; obtain rfl := harg3.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := wholeXn.eq_unread hf8; obtain rfl := wholeG.eq_unread hf9; obtain rfl := wholeU.eq_unread hf10
    sl_exec (disch := first | sl_exact hc0 | sl_exact hc1 | sl_exact hc2 | sl_exact hc3 | sl_exact hc4)
    sl_step
    iapply Hk
    isplitl [H0]
    · iexists _; isplitr; swap; · iexact H0
      ipureintro; exact harg2.read_unread _
    isplitl [H1]
    · iexists _; isplitr; swap; · iexact H1
      ipureintro; exact harg3.read_unread _
    isplitl [H2]
    · iexists _; isplitr; swap; · iexact H2
      ipureintro; exact harg6.read_unread _
    isplitl [H3]
    · iexists _; isplitr; swap; · iexact H3
      ipureintro; exact harg7.read_unread _
    isplitl [H4]
    · iexists _; isplitr; swap; · iexact H4
      ipureintro
      refine read_fin arg2 arg7 arg8 harg8 _ _ _ _ _ _ ?_ (harg2.read_unread _) (harg7.read_unread _)
      sl_unfold_run_names
      refine (View.read_writes_full arg8.view _ inb_S512x4096_S512x4096_0_0 _ []).trans ?_
      exact acc_congr (loadG c t _ WG _) (loadU c t _ WU _) (load_half t _ _ _ 1 ((second_iff t).mp hc3) (wholeXn.read_unread _)) ((View.readAt_full _ _ _).trans (harg6.read_unread _)) ((View.readAt_full _ _ _).trans (wholeG.read_unread _)) ((View.readAt_full _ _ _).trans (wholeU.read_unread _)) ((View.readAt_full _ _ _).trans (harg8.read_unread _))
    isplitl [H5]
    · iexists _; isplitr; swap; · iexact H5
      ipureintro
      sl_unfold_run_names
      refine (View.read_writes_full arg9.view _ inb_S2048x256_S2048x256_0_0 _ []).trans ?_
      exact congrArg k0_pay1 (loadG c t _ WG _)
    isplitl [H6]
    · iexists _; isplitr; swap; · iexact H6
      ipureintro
      sl_unfold_run_names
      refine (View.read_writes_full arg10.view _ inb_S2048x256_S2048x256_0_0 _ []).trans ?_
      exact congrArg k0_pay2 (loadU c t _ WU _)
    isplitl [H7]
    · iexists _; isplitr; swap; · iexact H7
      ipureintro
      sl_unfold_run_names
      refine (View.read_writes_full arg11.view _ inb_S256x4096_S256x4096_0_0 _ []).trans ?_
      exact congrArg k0_pay7 ((View.readAt_full _ _ _).trans (harg6.read_unread _))
    isplitl [H8]
    · iexists _; isplitr; swap; · iexact H8
      ipureintro; exact wholeXn.read_unread _
    isplitl [H9]
    · iexists _; isplitr; swap; · iexact H9
      ipureintro; exact wholeG.read_unread _
    isplitl [H10]
    · iexists _; isplitr; swap; · iexact H10
      ipureintro; exact wholeU.read_unread _
    isplitl [HoG]; · iexact HoG
    isplitl [HcG2 HsG2 HwG2]
    · isplitl [HcG2]; · iexact HcG2
      iexists _; isplitl [HsG2]; · iexact HsG2
      iexact HwG2
    isplitl [HfG0 HfG0_dst HfG0_src HrfG0]
    · isplitl [HfG0]; · iexact HfG0
      iexists _; isplitl [HfG0_dst]; · iexact HfG0_dst
      iapply (partG_split c WG (Ring.sl 3 t.val) (Ring.bk 86 t.val)).2; isplitl [HfG0_src]; · iexact HfG0_src
      iexact HrfG0
    isplitl [HoU]; · iexact HoU
    isplitl [HcU2 HsU2 HwU2]
    · isplitl [HcU2]; · iexact HcU2
      iexists _; isplitl [HsU2]; · iexact HsU2
      iexact HwU2
    isplitl [HfU0 HfU0_dst HfU0_src HrfU0]
    · isplitl [HfU0]; · iexact HfU0
      iexists _; isplitl [HfU0_dst]; · iexact HfU0_dst
      iapply (partU_split c WU (Ring.sl 3 t.val) (Ring.bk 86 t.val)).2; isplitl [HfU0_src]; · iexact HfU0_src
      iexact HrfU0
    iexists _; iexact HW

end

end Cert.FirstIdeal.Body

end
-- ==== Proof.FirstV.Points.lean ====
/- The points of the first feed-forward call: each keeps the launch's data. -/
module

public import proofs.«01_k».proof.Proof.FirstV.State
public import proofs.«01_k».proof.Proof.FirstV.Run

@[expose] public section

set_option maxRecDepth 16384

noncomputable section

namespace Cert.FirstIdeal.Body

open Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the body is handed at point `t`, its output blocks holding `Y`, `P`, `Q` and `R`, -/
def given (c : Dev nD) (t : Fin cfg0.N) (Y : Vec F S512x4096 .f32) (P Q : Vec F S2048x256 .bf16) (R : Vec F S256x4096 .bf16) : sProp 𝕄 :=
  iprop(carried m c t.val ∗ (data m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare Y
    ∗ owns (c : Thread nD τ) (st5 t) fullShare P
    ∗ owns (c : Thread nD τ) (st6 t) fullShare Q
    ∗ owns (c : Thread nD τ) (st7 t) fullShare R)

/-- and what it hands back. -/
def handed (c : Dev nD) (t : Fin cfg0.N) (Y : Vec F S512x4096 .f32) (R : Vec F S256x4096 .bf16) : sProp 𝕄 :=
  iprop(carried m c (t.val + 1) ∗ (data m 0 c).owesAt () t.succ
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (stepAt m c t Y)
    ∗ owns (c : Thread nD τ) (st5 t) fullShare (k0_pay1 (BLK (heldG m c) t.val))
    ∗ owns (c : Thread nD τ) (st6 t) fullShare (k0_pay2 (BLK (heldU m c) t.val))
    ∗ owns (c : Thread nD τ) (st7 t) fullShare (downAt m c t R))

theorem origin_eq (t : Fin cfg0.N) (h : t.val = 0) : t = origin := Fin.ext h

set_option maxHeartbeats 1600000 in
/-- The first point. -/
theorem pointA (c : Dev nD) (t : Fin cfg0.N) (Y : Vec F S512x4096 .f32) (P Q : Vec F S2048x256 .bf16) (R : Vec F S256x4096 .bf16) (h0 : t.val = 0) :
    given m c t Y P Q R ⊢ wp frame (wpE (defs₀ (F := F)) Variants.none c none) Set.univ (bodyAt0 t) (fun _ => handed m c t Y R) := by
  unfold given handed bodyAt0
  rw [show stepAt m c t Y = ZERO from by unfold stepAt; rw [if_pos h0], show downAt m c t R = R from by unfold downAt; rw [if_pos (by omega)]]
  have hK : t.val = 0 := h0
  unfold carried slotsAtG slotsAtU Dat.owesAt Pipeline.owesWithin
  rw [show (data m 0 c).owed t.castSucc = 0 from rfl, show (data m 0 c).owed t.succ = 0 from rfl]
  simp only [if_pos h0, if_neg (show ¬t.val + 1 = 0 by omega), if_neg (show ¬t.val % 2 = 1 by omega), if_pos (show (t.val + 1) % 2 = 1 by omega), Nat.add_sub_cancel]
  rw [Ring.At₀_eq3' _ _ _ t.val hK (by decide : 3 ≤ 86), Ring.At3_one' _ _ _ _ t.val hK (by decide : 3 ≤ 86)]
  rw [Ring.At₀_eq3' _ _ _ t.val hK (by decide : 3 ≤ 86), Ring.At3_one' _ _ _ _ t.val hK (by decide : 3 ≤ 86)]
  have ex : xnV m c = XN (iblk m c 0 t) (iblk m c 1 t) := by unfold xnV; rw [origin_eq t h0]
  iintro ⟨⟨Hr, ⟨-, Ha0, Ha1, Ha2⟩, ⟨-, Hb0, Hb1, Hb2⟩, ⟨%S, HX⟩, ⟨⟨%G, Hg⟩, ⟨%U, Hu⟩⟩⟩, ⟨%W, -, HW⟩, H0, H1, H2, H3, H4, H5, H6, H7⟩
  iapply (runA c t _ _ _ _ _ _ _ _ _ _ _ _ _ _ _ _ ((prime_iff t).mpr h0) ((more_iff t).mpr (by omega)) ((first_iff t).mpr (by omega)) (fun h => by have := (second_iff t).mp h; omega) (fun h => by have := (end_iff t).mp h; omega) (heldG m c) (heldU m c) (iblk m c 0 t) (iblk m c 1 t) (iblk m c 2 t) (iblk m c 3 t) Y P Q R S G U W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [Hg]; · iexact Hg
  isplitl [Hu]; · iexact Hu
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, H7, HX, Hg, Hu, Ha0, Ha1, Ha2, Hb0, Hb1, Hb2, ⟨%W', HW⟩⟩
  isplitl [Hr HX Hg Hu Ha0 Ha1 Ha2 Hb0 Hb1 Hb2]
  · isplitl [Hr]; · iexact Hr
    isplitl [Ha0 Ha1 Ha2]
    · iapply (Ring.with_homes (Idealize.SL.BI.Entails.refl _))
      isplitl [Ha0]; · iexact Ha0
      isplitl [Ha1]; · iexact Ha1
      iexact Ha2
    isplitl [Hb0 Hb1 Hb2]
    · iapply (Ring.with_homes (Idealize.SL.BI.Entails.refl _))
      isplitl [Hb0]; · iexact Hb0
      isplitl [Hb1]; · iexact Hb1
      iexact Hb2
    isplitl [HX]
    · rw [ex]; iexact HX
    unfold gV uV; rw [ex]; isplitl [Hg]; · iexact Hg
    iexact Hu
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- A later first half, copies going on. -/
theorem pointB (c : Dev nD) (t : Fin cfg0.N) (Y : Vec F S512x4096 .f32) (P Q : Vec F S2048x256 .bf16) (R : Vec F S256x4096 .bf16) (h0 : t.val ≠ 0) (h1 : t.val < 84) (h2 : t.val % 2 = 0) :
    given m c t Y P Q R ⊢ wp frame (wpE (defs₀ (F := F)) Variants.none c none) Set.univ (bodyAt0 t) (fun _ => handed m c t Y R) := by
  unfold given handed bodyAt0
  rw [show stepAt m c t Y = Y from by unfold stepAt; rw [if_neg h0, if_pos h2], show downAt m c t R = R from by unfold downAt; rw [if_pos (by omega)]]
  have hK : t.val + 2 < 86 := by omega
  unfold carried slotsAtG slotsAtU Dat.owesAt Pipeline.owesWithin
  rw [show (data m 0 c).owed t.castSucc = 0 from rfl, show (data m 0 c).owed t.succ = 0 from rfl]
  simp only [if_neg (show ¬t.val = 0 by omega), if_neg (show ¬t.val + 1 = 0 by omega), if_neg (show ¬t.val % 2 = 1 by omega), if_pos (show (t.val + 1) % 2 = 1 by omega), Nat.add_sub_cancel]
  rw [Ring.At3_here _ _ _ _ t.val hK, Ring.At3_next _ _ _ _ t.val hK, Ring.slotAt3_next0 _ _ _ t.val (by omega), Ring.slotAt3_next1 _ _ _ t.val hK]
  rw [Ring.At3_here _ _ _ _ t.val hK, Ring.At3_next _ _ _ _ t.val hK, Ring.slotAt3_next0 _ _ _ t.val (by omega), Ring.slotAt3_next1 _ _ _ t.val hK]
  iintro ⟨⟨Hr, ⟨-, Ha0, Ha1, Ha2⟩, ⟨-, Hb0, Hb1, Hb2⟩, HX, ⟨⟨%G, Hg⟩, ⟨%U, Hu⟩⟩⟩, ⟨%W, -, HW⟩, H0, H1, H2, H3, H4, H5, H6, H7⟩
  iapply (runB c t _ _ _ _ _ _ _ _ _ _ _ _ _ _ _ _ (fun h => h0 ((prime_iff t).mp h)) ((more_iff t).mpr h1) ((first_iff t).mpr h2) (fun h => by have := (second_iff t).mp h; omega) (fun h => by have := (end_iff t).mp h; omega) (heldG m c) (heldU m c) (iblk m c 0 t) (iblk m c 1 t) (iblk m c 2 t) (iblk m c 3 t) Y P Q R (xnV m c) G U W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [Hg]; · iexact Hg
  isplitl [Hu]; · iexact Hu
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, H7, HX, Hg, Hu, Ha0, Ha1, Ha2, Hb0, Hb1, Hb2, ⟨%W', HW⟩⟩
  isplitl [Hr HX Hg Hu Ha0 Ha1 Ha2 Hb0 Hb1 Hb2]
  · isplitl [Hr]; · iexact Hr
    isplitl [Ha0 Ha1 Ha2]
    · iapply (Ring.with_homes (Idealize.SL.BI.Entails.refl _))
      isplitl [Ha0]; · iexact Ha0
      isplitl [Ha1]; · iexact Ha1
      iexact Ha2
    isplitl [Hb0 Hb1 Hb2]
    · iapply (Ring.with_homes (Idealize.SL.BI.Entails.refl _))
      isplitl [Hb0]; · iexact Hb0
      isplitl [Hb1]; · iexact Hb1
      iexact Hb2
    isplitl [HX]
    · iexact HX
    unfold gV uV; isplitl [Hg]; · iexact Hg
    iexact Hu
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- A second half, copies going on. -/
theorem pointC (c : Dev nD) (t : Fin cfg0.N) (Y : Vec F S512x4096 .f32) (P Q : Vec F S2048x256 .bf16) (R : Vec F S256x4096 .bf16) (h1 : t.val < 84) (h2 : t.val % 2 = 1) :
    given m c t Y P Q R ⊢ wp frame (wpE (defs₀ (F := F)) Variants.none c none) Set.univ (bodyAt0 t) (fun _ => handed m c t Y R) := by
  unfold given handed bodyAt0
  rw [show stepAt m c t Y = addAt m c t Y from by unfold stepAt; rw [if_neg (by omega), if_neg (by omega), if_neg (by omega)], show downAt m c t R = k0_pay7 (iblk m c 2 t) from by unfold downAt; rw [if_neg (by omega)]]
  have hK : t.val + 2 < 86 := by omega
  unfold carried slotsAtG slotsAtU Dat.owesAt Pipeline.owesWithin
  rw [show (data m 0 c).owed t.castSucc = 0 from rfl, show (data m 0 c).owed t.succ = 0 from rfl]
  simp only [if_neg (show ¬t.val = 0 by omega), if_neg (show ¬t.val + 1 = 0 by omega), if_pos (show t.val % 2 = 1 by omega), if_neg (show ¬(t.val + 1) % 2 = 1 by omega), Nat.add_sub_cancel]
  rw [Ring.At3_here _ _ _ _ t.val hK, Ring.At3_next _ _ _ _ t.val hK, Ring.slotAt3_next0 _ _ _ t.val (by omega), Ring.slotAt3_next1 _ _ _ t.val hK]
  rw [Ring.At3_here _ _ _ _ t.val hK, Ring.At3_next _ _ _ _ t.val hK, Ring.slotAt3_next0 _ _ _ t.val (by omega), Ring.slotAt3_next1 _ _ _ t.val hK]
  iintro ⟨⟨Hr, ⟨-, Ha0, Ha1, Ha2⟩, ⟨-, Hb0, Hb1, Hb2⟩, HX, ⟨Hg, Hu⟩⟩, ⟨%W, -, HW⟩, H0, H1, H2, H3, H4, H5, H6, H7⟩
  iapply (runC c t _ _ _ _ _ _ _ _ _ _ _ _ _ _ _ _ (fun h => by have := (prime_iff t).mp h; omega) ((more_iff t).mpr h1) (fun h => by have := (first_iff t).mp h; omega) ((second_iff t).mpr h2) (fun h => by have := (end_iff t).mp h; omega) (heldG m c) (heldU m c) (iblk m c 0 t) (iblk m c 1 t) (iblk m c 2 t) (iblk m c 3 t) Y P Q R (xnV m c) (gV m c (t.val - 1)) (uV m c (t.val - 1)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [Hg]; · iexact Hg
  isplitl [Hu]; · iexact Hu
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, H7, HX, Hg, Hu, Ha0, Ha1, Ha2, Hb0, Hb1, Hb2, ⟨%W', HW⟩⟩
  isplitl [Hr HX Hg Hu Ha0 Ha1 Ha2 Hb0 Hb1 Hb2]
  · isplitl [Hr]; · iexact Hr
    isplitl [Ha0 Ha1 Ha2]
    · iapply (Ring.with_homes (Idealize.SL.BI.Entails.refl _))
      isplitl [Ha0]; · iexact Ha0
      isplitl [Ha1]; · iexact Ha1
      iexact Ha2
    isplitl [Hb0 Hb1 Hb2]
    · iapply (Ring.with_homes (Idealize.SL.BI.Entails.refl _))
      isplitl [Hb0]; · iexact Hb0
      isplitl [Hb1]; · iexact Hb1
      iexact Hb2
    isplitl [HX]
    · iexact HX
    isplitl [Hg]
    · iexists _; iexact Hg
    iexists _; iexact Hu
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · unfold addAt; iexact H4
  isplitl [H5]; · iexact H5
  isplitl [H6]; · iexact H6
  iexact H7

set_option maxHeartbeats 1600000 in
/-- The last first half. -/
theorem pointD (c : Dev nD) (t : Fin cfg0.N) (Y : Vec F S512x4096 .f32) (P Q : Vec F S2048x256 .bf16) (R : Vec F S256x4096 .bf16) (h1 : t.val = 84) :
    given m c t Y P Q R ⊢ wp frame (wpE (defs₀ (F := F)) Variants.none c none) Set.univ (bodyAt0 t) (fun _ => handed m c t Y R) := by
  unfold given handed bodyAt0
  rw [show stepAt m c t Y = Y from by unfold stepAt; rw [if_neg (by omega), if_pos (by omega)], show downAt m c t R = R from by unfold downAt; rw [if_pos (by omega)]]
  have hK : 86 ≤ t.val + 2 := by omega
  have hlt : t.val < 86 := by omega
  unfold carried slotsAtG slotsAtU Dat.owesAt Pipeline.owesWithin
  rw [show (data m 0 c).owed t.castSucc = 0 from rfl, show (data m 0 c).owed t.succ = 0 from rfl]
  simp only [if_neg (show ¬t.val = 0 by omega), if_neg (show ¬t.val + 1 = 0 by omega), if_neg (show ¬t.val % 2 = 1 by omega), if_pos (show (t.val + 1) % 2 = 1 by omega), Nat.add_sub_cancel]
  rw [Ring.At3_here_tail _ _ _ _ t.val hlt, Ring.At3_next_tail _ _ _ _ t.val hK hlt, Ring.slotAt3_tail_role _ _ _ t.val]
  rw [Ring.At3_here_tail _ _ _ _ t.val hlt, Ring.At3_next_tail _ _ _ _ t.val hK hlt, Ring.slotAt3_tail_role _ _ _ t.val]
  iintro ⟨⟨Hr, ⟨-, Ha0, Ha1, Ha2⟩, ⟨-, Hb0, Hb1, Hb2⟩, HX, ⟨⟨%G, Hg⟩, ⟨%U, Hu⟩⟩⟩, ⟨%W, -, HW⟩, H0, H1, H2, H3, H4, H5, H6, H7⟩
  iapply (runD c t _ _ _ _ _ _ _ _ _ _ _ _ _ _ _ _ (fun h => by have := (prime_iff t).mp h; omega) (fun h => by have := (more_iff t).mp h; omega) ((first_iff t).mpr (by omega)) (fun h => by have := (second_iff t).mp h; omega) (fun h => by have := (end_iff t).mp h; omega) (heldG m c) (heldU m c) (iblk m c 0 t) (iblk m c 1 t) (iblk m c 2 t) (iblk m c 3 t) Y P Q R (xnV m c) G U W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [Hg]; · iexact Hg
  isplitl [Hu]; · iexact Hu
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, H7, HX, Hg, Hu, Ha0, Ha1, Ha2, Hb0, Hb1, Hb2, ⟨%W', HW⟩⟩
  isplitl [Hr HX Hg Hu Ha0 Ha1 Ha2 Hb0 Hb1 Hb2]
  · isplitl [Hr]; · iexact Hr
    isplitl [Ha0 Ha1 Ha2]
    · iapply (Ring.with_homes (Idealize.SL.BI.Entails.refl _))
      isplitl [Ha0]; · iexact Ha0
      isplitl [Ha1]; · iexact Ha1
      iexact Ha2
    isplitl [Hb0 Hb1 Hb2]
    · iapply (Ring.with_homes (Idealize.SL.BI.Entails.refl _))
      isplitl [Hb0]; · iexact Hb0
      isplitl [Hb1]; · iexact Hb1
      iexact Hb2
    isplitl [HX]
    · iexact HX
    unfold gV uV; isplitl [Hg]; · iexact Hg
    iexact Hu
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The last point. -/
theorem pointE (c : Dev nD) (t : Fin cfg0.N) (Y : Vec F S512x4096 .f32) (P Q : Vec F S2048x256 .bf16) (R : Vec F S256x4096 .bf16) (h1 : t.val = 85) :
    given m c t Y P Q R ⊢ wp frame (wpE (defs₀ (F := F)) Variants.none c none) Set.univ (bodyAt0 t) (fun _ => handed m c t Y R) := by
  unfold given handed bodyAt0
  rw [show stepAt m c t Y = FIN (addAt m c t Y) (iblk m c 0 t) (iblk m c 3 t) from by unfold stepAt; rw [if_neg (by omega), if_neg (by omega), if_pos h1], show downAt m c t R = k0_pay7 (iblk m c 2 t) from by unfold downAt; rw [if_neg (by omega)]]
  have hK : 86 ≤ t.val + 2 := by omega
  have hlt : t.val < 86 := by omega
  unfold carried slotsAtG slotsAtU Dat.owesAt Pipeline.owesWithin
  rw [show (data m 0 c).owed t.castSucc = 0 from rfl, show (data m 0 c).owed t.succ = 0 from rfl]
  simp only [if_neg (show ¬t.val = 0 by omega), if_neg (show ¬t.val + 1 = 0 by omega), if_pos (show t.val % 2 = 1 by omega), if_neg (show ¬(t.val + 1) % 2 = 1 by omega), Nat.add_sub_cancel]
  rw [Ring.At3_here_tail _ _ _ _ t.val hlt, Ring.At3_next_tail _ _ _ _ t.val hK hlt, Ring.slotAt3_tail_role _ _ _ t.val]
  rw [Ring.At3_here_tail _ _ _ _ t.val hlt, Ring.At3_next_tail _ _ _ _ t.val hK hlt, Ring.slotAt3_tail_role _ _ _ t.val]
  iintro ⟨⟨Hr, ⟨-, Ha0, Ha1, Ha2⟩, ⟨-, Hb0, Hb1, Hb2⟩, HX, ⟨Hg, Hu⟩⟩, ⟨%W, -, HW⟩, H0, H1, H2, H3, H4, H5, H6, H7⟩
  iapply (runE c t _ _ _ _ _ _ _ _ _ _ _ _ _ _ _ _ (fun h => by have := (prime_iff t).mp h; omega) (fun h => by have := (more_iff t).mp h; omega) (fun h => by have := (first_iff t).mp h; omega) ((second_iff t).mpr (by omega)) ((end_iff t).mpr h1) (heldG m c) (heldU m c) (iblk m c 0 t) (iblk m c 1 t) (iblk m c 2 t) (iblk m c 3 t) Y P Q R (xnV m c) (gV m c (t.val - 1)) (uV m c (t.val - 1)) W _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HX]; · iexact HX
  isplitl [Hg]; · iexact Hg
  isplitl [Hu]; · iexact Hu
  isplitl [Ha0]; · iexact Ha0
  isplitl [Ha1]; · iexact Ha1
  isplitl [Ha2]; · iexact Ha2
  isplitl [Hb0]; · iexact Hb0
  isplitl [Hb1]; · iexact Hb1
  isplitl [Hb2]; · iexact Hb2
  isplitl [HW]; · iexact HW
  iintro ⟨H0, H1, H2, H3, H4, H5, H6, H7, HX, Hg, Hu, Ha0, Ha1, Ha2, Hb0, Hb1, Hb2, ⟨%W', HW⟩⟩
  isplitl [Hr HX Hg Hu Ha0 Ha1 Ha2 Hb0 Hb1 Hb2]
  · isplitl [Hr]; · iexact Hr
    isplitl [Ha0 Ha1 Ha2]
    · iapply (Ring.with_homes (Idealize.SL.BI.Entails.refl _))
      isplitl [Ha0]; · iexact Ha0
      isplitl [Ha1]; · iexact Ha1
      iexact Ha2
    isplitl [Hb0 Hb1 Hb2]
    · iapply (Ring.with_homes (Idealize.SL.BI.Entails.refl _))
      isplitl [Hb0]; · iexact Hb0
      isplitl [Hb1]; · iexact Hb1
      iexact Hb2
    isplitl [HX]
    · iexact HX
    isplitl [Hg]
    · iexists _; iexact Hg
    iexists _; iexact Hu
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · unfold addAt; iexact H4
  isplitl [H5]; · iexact H5
  isplitl [H6]; · iexact H6
  iexact H7

theorem point (c : Dev nD) (t : Fin cfg0.N) (Y : Vec F S512x4096 .f32) (P Q : Vec F S2048x256 .bf16) (R : Vec F S256x4096 .bf16) :
    given m c t Y P Q R ⊢ wp frame (wpE (defs₀ (F := F)) Variants.none c none) Set.univ (bodyAt0 t) (fun _ => handed m c t Y R) := by
  have ht : t.val < 86 := lt_of_lt_of_eq t.isLt N_0
  by_cases h0 : t.val = 0
  · exact pointA m c t Y P Q R h0
  by_cases h1 : t.val < 84
  · by_cases h2 : t.val % 2 = 0
    · exact pointB m c t Y P Q R h0 h1 h2
    · exact pointC m c t Y P Q R h1 (by omega)
  by_cases h2 : t.val = 84
  · exact pointD m c t Y P Q R h2
  · exact pointE m c t Y P Q R (by omega)

end Cert.FirstIdeal.Body

end
-- ==== Proof.FirstV.Launch.lean ====
/- The launch of the first feed-forward call: every grid point keeps the launch's data, and the whole program runs, keeps its
   arguments and ends with its counters at rest. -/
module

public import proofs.«01_k».proof.Proof.FirstV.Points

@[expose] public section

set_option maxRecDepth 16384

noncomputable section

namespace Cert.FirstIdeal.Body

open Cert.FirstIdeal.Gen Cert.Rows
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

theorem data_carried (c : Dev nD) (t : Fin cfg0.N) : (data m 0 c).Φ t.castSucc = carried m c t.val := rfl

theorem obligation (c : Dev nD) : (rdata (F := F) m c).BodyObligation (defs₀ (F := F)) Variants.none () Set.univ := fun t Y hY => by
  have e0 := finds0 m c t _ (hY 0)
  have e1 := finds1 m c t _ (hY 1)
  have e2 := finds2 m c t _ (hY 2)
  have e3 := finds3 m c t _ (hY 3)
  rw [bigSep_W0, bigSep_W0, row]
  refine triple_restated (point m c t (Y 4) (Y 5) (Y 6) (Y 7)) rfl ?_ fun _ => ?_
  · rw [e0, e1, e2, e3]
    unfold given
    rw [← data_carried m c t]
    exact .rfl
  · rw [show (rdata m c).Φ t.succ = carried m c (t.val + 1) from rfl, show (rdata m c).owesAt () t.succ = (data m 0 c).owesAt () t.succ from rfl]
    unfold handed
    iintro ⟨Hc, Ho, H0, H1, H2, H3, H4, H5, H6, H7⟩
    isplitl [Hc]; · iexact Hc
    isplitl [Ho]; · iexact Ho
    isplitl [H0]
    · iexists _; isplitr; swap; · iexact H0
      ipureintro; exact leaves0 m c t _
    isplitl [H1]
    · iexists _; isplitr; swap; · iexact H1
      ipureintro; exact leaves1 m c t _
    isplitl [H2]
    · iexists _; isplitr; swap; · iexact H2
      ipureintro; exact leaves2 m c t _
    isplitl [H3]
    · iexists _; isplitr; swap; · iexact H3
      ipureintro; exact leaves3 m c t _
    isplitl [H4]
    · iexists _; isplitr; swap; · iexact H4
      ipureintro; rw [after4]
    isplitl [H5]
    · iexists _; isplitr; swap; · iexact H5
      ipureintro; exact leaves5 m c t _
    isplitl [H6]
    · iexists _; isplitr; swap; · iexact H6
      ipureintro; exact leaves6 m c t _
    iexists _; isplitr; swap; · iexact H7
    ipureintro; rw [after7]

/-- The call's own counters, and the operands it copies itself. -/
def counters : Fin 6 → SemLoc sig := fun j => (![SemLoc.dma 12, SemLoc.dma 13, SemLoc.dma 14, SemLoc.dma 15, SemLoc.dma 16, SemLoc.dma 17] : Fin 6 → SemLoc sig) j
theorem counters_own : Pipeline.OwnSemFacts spec0 counters := by decide
def copied : Finset (Ref sig .tc) := {main_arg2, main_arg3}
theorem copied_rest : copied ⊆ Pipeline.restRefs sig spec0 := by decide

theorem counters_eq (c : Dev nD) : (Pipeline.ownSems0 (Ix := Unit) (Name := ℕ) (U := Pipeline.UD sig nD τ) (Lvl := ℕ) (Val := Elt F) (τ := τ) counters c : sProp 𝕄)
    = iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0) := by
  rw [Pipeline.ownSems0_eq_of_list c counters [0, 1, 2, 3, 4, 5] (by decide) (by decide)]; rfl

theorem copied_eq (c : Dev nD) : (bigSep copied (fun b => ((c : Thread nD τ).loc b) ↦{fullShare} V m c b) : sProp 𝕄) = iprop(heldAt c opG (heldG m c) ∗ heldAt c opU (heldU m c)) := by
  rw [BI.bigSep_eq_bigSepL_of_eq [main_arg2, main_arg3] (by decide) (by decide)]; rfl

/-- What the launch hands the call, piece by piece. -/
theorem handed_eq (c : Dev nD) : (Pipeline.ΦD counters spec0 copied (V m) c : sProp 𝕄)
    = iprop(iprop((∃ d, owns (c : Thread nD τ) memXn fullShare d) ∗ (∃ d, owns (c : Thread nD τ) memG fullShare d) ∗ (∃ d, owns (c : Thread nD τ) memU fullShare d) ∗ (∃ d, owns (c : Thread nD τ) bufG fullShare d) ∗ (∃ d, owns (c : Thread nD τ) bufU fullShare d))
      ∗ (∃ r, prngReg c r)
      ∗ iprop(semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0)
      ∗ iprop(heldAt c opG (heldG m c) ∗ heldAt c opU (heldU m c))) := by
  rw [Pipeline.ΦD_eq, scopedRest0_eq, counters_eq, copied_eq]; simp only [memXn, memG, memU, bufG, bufU, owns_whole]; try rfl

theorem enter (c : Dev nD) : Pipeline.ΦD counters spec0 copied (V m) c ⊢ (rdata m c).Φ 0 := by
  rw [handed_eq, show (rdata m c).Φ 0 = carried m c 0 from rfl]
  unfold carried
  simp only [if_pos, Nat.zero_mod, if_neg (show ¬(0 = 1) by decide)]
  iintro ⟨⟨HX, Hg, Hu, Ha, Hb⟩, Hr, ⟨Hq0, Hq1, Hq2, Hq3, Hq4, Hq5⟩, ⟨Hh0, Hh1⟩⟩
  isplitl [Hr]; · iexact Hr
  isplitl [Ha Hq0 Hq1 Hq2 Hh0]
  · iapply (slotsG_start (F := F) c (heldG m c))
    isplitl [Ha]; · iexact Ha
    isplitl [Hq0 Hq1 Hq2]
    · isplitl [Hq0]; · iexact Hq0
      isplitl [Hq1]; · iexact Hq1
      iexact Hq2
    iexact Hh0
  isplitl [Hb Hq3 Hq4 Hq5 Hh1]
  · iapply (slotsU_start (F := F) c (heldU m c))
    isplitl [Hb]; · iexact Hb
    isplitl [Hq3 Hq4 Hq5]
    · isplitl [Hq3]; · iexact Hq3
      isplitl [Hq4]; · iexact Hq4
      iexact Hq5
    iexact Hh1
  isplitl [HX]; · iexact HX
  isplitl [Hg]; · iexact Hg
  iexact Hu

theorem leave (c : Dev nD) : (rdata m c).Φ (Fin.last cfg0.N) ⊢ Pipeline.ΦD counters spec0 copied (V m) c := by
  rw [handed_eq, show (rdata m c).Φ (Fin.last cfg0.N) = carried m c grid0.N from rfl, show grid0.N = 86 from N_0]
  unfold carried
  simp only [if_neg (show ¬(86 = 0) by decide), if_neg (show ¬(86 % 2 = 1) by decide)]
  iintro ⟨Hr, Ha, Hb, HX, Hg, Hu⟩
  ihave Ha' := (slotsG_end (F := F) c (heldG m c)) $$ Ha
  icases Ha' with ⟨Ha, ⟨Hq0, Hq1, Hq2⟩, Hh0⟩
  ihave Hb' := (slotsU_end (F := F) c (heldU m c)) $$ Hb
  icases Hb' with ⟨Hb, ⟨Hq3, Hq4, Hq5⟩, Hh1⟩
  isplitl [Ha Hb HX Hg Hu]
  · isplitl [HX]; · iexists _; iexact HX
    isplitl [Hg]; · iexact Hg
    isplitl [Hu]; · iexact Hu
    isplitl [Ha]; · iexact Ha
    iexact Hb
  isplitl [Hr]; · iexact Hr
  isplitl [Hq0 Hq1 Hq2 Hq3 Hq4 Hq5]
  · isplitl [Hq0]; · iexact Hq0
    isplitl [Hq1]; · iexact Hq1
    isplitl [Hq2]; · iexact Hq2
    isplitl [Hq3]; · iexact Hq3
    isplitl [Hq4]; · iexact Hq4
    iexact Hq5
  isplitl [Hh0]; · iexact Hh0
  iexact Hh1

/-- The program up to the launch. -/
theorem prefix_runs : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The program runs to arrays the launch's data allow, with its counters at rest. -/
theorem runs : θ_run defs (onTc (τ := τ) (main (F := F))) (s₀ m ρ) (fun r => (Pipeline.RDat.FramePost (cfgs 0) (fun c => rdata m c) (V m)) r ∧ r.2.sem = fun _ => 0) :=
  Pipeline.RDat.θ_run_frame_dma (Q' := _) cfgs (0 : Fin 1) launch0 counters defs₀ Variants.none (fun c => rdata m c) counters_own copied copied_rest m ρ main
    (hbody := fun c => obligation m c) (hshare := fun c => (data m 0 c).share_full fun _ => rfl)
    (howed := fun _ _ => rfl) (V := V m) (hmain := prefix_runs m) (hA := rdata_A m) (hin := enter m) (hout := leave m)

theorem runs_arrays : θ_run defs (onTc (τ := τ) (main (F := F))) (s₀ m ρ) (Pipeline.RDat.FramePost (cfgs 0) (fun c => rdata m c) (V m)) :=
  (θ_run defs _ _).mono (fun _ h => h.1) (runs m ρ)

/-- The arguments end as they began, and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => ⟨(Pipeline.RDat.FramePost.arr_in h c 0 rfl).trans ((rdata_A m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      (Pipeline.RDat.FramePost.arr_in h c 2 rfl).trans ((rdata_A m c 2).trans (V_main_arg4 m c)),
      ((h c).2 main_arg5 (Pipeline.mem_restRefs_of main_arg5 (by decide) (by decide))).trans (V_main_arg5 m c)⟩) (runs_arrays m ρ)) ((θ_run defs _ _).mono (fun _ h => h.2) (runs m ρ))

end Cert.FirstIdeal.Body

end
-- ==== Proof.FirstV.Outcome.lean ====
/- What the launch's data leave in each output block where it is written back: the accumulator's closed accumulation, and the
   narrowed blocks of the weights. -/
module

public import proofs.«01_k».proof.Proof.FirstV.Launch

@[expose] public section

set_option maxRecDepth 16384

noncomputable section

namespace Cert.FirstIdeal.Body

open Idealize.ShloMosaic Idealize.ShloMosaic.TcCoe Idealize.ShloMosaic.Tactic Idealize.SL.Sem Cert.FirstIdeal.Gen Cert.Rows
open Idealize.ShloMosaic.Pipeline (Dat RDat Cfg Window)

variable {F : FTy → Type} [FloatOps F]

variable (m : (ℓ : Loc nD τ sig) → Buf (Elt F) ℓ)

/-- The point of a number. -/
def pt (n : ℕ) : Fin cfg0.N := ⟨n % 86, by rw [show cfg0.N = 86 from N_0]; exact Nat.mod_lt _ (by decide)⟩

theorem pt_self (t : Fin cfg0.N) (n : ℕ) (h : n = t.val) : pt n = t := by
  subst h
  exact Fin.ext (Nat.mod_eq_of_lt (Nat.lt_of_lt_of_eq t.isLt N_0))

/-- The accumulation over the first `k` hidden blocks. -/
def accTo (c : Dev nD) : ℕ → Vec F S512x4096 .f32
  | 0 => ZERO
  | k + 1 => addAt m c (pt (2 * k + 1)) (accTo c k)

theorem accTo_step (c : Dev nD) (t : Fin cfg0.N) (h : t.val % 2 = 1) : addAt m c t (accTo m c (t.val / 2)) = accTo m c (t.val / 2 + 1) := by
  rw [accTo, pt_self t (2 * (t.val / 2) + 1) (by omega)]

/-- The accumulator's block is never fetched. -/
theorem unfetched (t : Fin cfg0.N) : (cfg0.win 4).fetch t = false := rfl

theorem before_of_pos (c : Dev nD) (t : Fin cfg0.N) (h : t.val ≠ 0) (Y : Vec F S512x4096 .f32) (hY : (rdata m c).Finds 4 t Y) :
    (rdata m c).Leaves 4 ⟨t.val - 1, Nat.lt_of_le_of_lt (Nat.sub_le _ _) t.isLt⟩ Y := by
  have ht : t.val < 86 := lt_of_lt_of_eq t.isLt N_0
  rcases ((rdata m c).finds_of_pos (unfetched t) (by omega) Y).mp hY with hf | hl
  · have := (flush0_4 _).mp hf
    exact absurd this (by show (t.val - 1) % 86 ≠ 85; omega)
  · exact hl

/-- The accumulation before the last point. -/
theorem leaves_acc (c : Dev nD) (n : ℕ) : ∀ (t : Fin cfg0.N) (X : Vec F S512x4096 .f32), t.val = n → n < 85 → (rdata m c).Leaves 4 t X →
    X = accTo m c ((t.val + 1) / 2) := by
  induction n with
  | zero =>
    intro t X ht _ ⟨Y, hY, hX⟩
    rw [after4] at hX
    rw [hX, ht]
    unfold stepAt
    rw [if_pos ht]
    rfl
  | succ n ih =>
    intro t X ht h ⟨Y, hY, hX⟩
    rw [after4] at hX
    have e := ih _ Y (by show t.val - 1 = n; omega) (by omega) (before_of_pos m c t (by omega) Y hY)
    rw [show (⟨t.val - 1, Nat.lt_of_le_of_lt (Nat.sub_le _ _) t.isLt⟩ : Fin cfg0.N).val = t.val - 1 from rfl,
      show t.val - 1 + 1 = t.val by omega] at e
    rw [hX, e]
    unfold stepAt
    rw [if_neg (by omega)]
    by_cases h0 : t.val % 2 = 0
    · rw [if_pos h0, show (t.val + 1) / 2 = t.val / 2 by omega]
    · rw [if_neg h0, if_neg (by omega), accTo_step m c t (by omega), show (t.val + 1) / 2 = t.val / 2 + 1 by omega]

/-- The rows, written back. -/
theorem leaves_rows (c : Dev nD) (t : Fin cfg0.N) (X : Vec F S512x4096 .f32) (hf : (cfg0.win 4).flush t = true) (hL : (rdata m c).Leaves 4 t X) :
    X = FIN (accTo m c 43) (iblk m c 0 t) (iblk m c 3 t) := by
  have ht : t.val < 86 := lt_of_lt_of_eq t.isLt N_0
  have h : t.val = 85 := by have := (flush0_4 t).mp hf; omega
  obtain ⟨Y, hY, hX⟩ := hL
  rw [after4] at hX
  have e := leaves_acc m c (t.val - 1) _ Y rfl (by omega) (before_of_pos m c t (by omega) Y hY)
  rw [show (⟨t.val - 1, Nat.lt_of_le_of_lt (Nat.sub_le _ _) t.isLt⟩ : Fin cfg0.N).val = t.val - 1 from rfl,
    show (t.val - 1 + 1) / 2 = t.val / 2 by omega] at e
  have s := accTo_step m c t (by omega)
  rw [show t.val / 2 + 1 = 43 by omega] at s
  rw [hX, e]
  unfold stepAt
  rw [if_neg (by omega), if_neg (by omega), if_pos h, s]

/-- The narrowed gate weights, up weights and down weights, written back. -/
theorem leaves_gate (c : Dev nD) (t : Fin cfg0.N) (X : Vec F S2048x256 .bf16) (hL : (rdata m c).Leaves 5 t X) : X = k0_pay1 (BLK (heldG m c) t.val) := by
  obtain ⟨Y, -, hX⟩ := hL
  have e : (rdata m c).after 5 = (data m 0 c).toR.after 5 := RDat.override_after_of_eq_none (data m 0 c).toR (ovr := relates m c) (w := 5) rfl
  rw [e] at hX
  exact (show X = (data m 0 c).after 5 t from hX).trans (left5 m c t)
theorem leaves_up (c : Dev nD) (t : Fin cfg0.N) (X : Vec F S2048x256 .bf16) (hL : (rdata m c).Leaves 6 t X) : X = k0_pay2 (BLK (heldU m c) t.val) := by
  obtain ⟨Y, -, hX⟩ := hL
  have e : (rdata m c).after 6 = (data m 0 c).toR.after 6 := RDat.override_after_of_eq_none (data m 0 c).toR (ovr := relates m c) (w := 6) rfl
  rw [e] at hX
  exact (show X = (data m 0 c).after 6 t from hX).trans (left6 m c t)
theorem leaves_down (c : Dev nD) (t : Fin cfg0.N) (X : Vec F S256x4096 .bf16) (hf : (cfg0.win 7).flush t = true) (hL : (rdata m c).Leaves 7 t X) : X = k0_pay7 (iblk m c 2 t) := by
  have h := (flush0_7 t).mp hf
  obtain ⟨Y, -, hX⟩ := hL
  rw [after7] at hX
  rw [hX]
  unfold downAt
  rw [if_neg (by omega)]

end Cert.FirstIdeal.Body
-- ==== Proof.FirstV.Blocks.lean ====
/- Every grid point's blocks of the first feed-forward call, read at an element of the arguments: point `t` is half `t % 2` of
   hidden block `t / 2`. -/
module

public import proofs.«01_k».proof.Proof.FirstV.Math
public import proofs.«01_k».proof.Proof.FirstV.Outcome
public import Idealize.ShloMosaic.Lib.Pipeline.ValueKit
public import Idealize.ShloMosaic.Lib.StableHlo.Run

@[expose] public section

set_option maxRecDepth 16384

noncomputable section

namespace Cert.FirstIdeal.Body

open Idealize.ShloMosaic Idealize.ShloMosaic.TcCoe Idealize.ShloMosaic.Tactic Idealize.SL.Sem Cert.FirstIdeal.Gen Cert.Rows Cert.FfnV Cert.GlaV

variable (m : (l : Loc nD τ sig) → Buf (Elt Ideal) l) (c : Dev nD)

/-- The launch memory's arguments, as numbered matrices. -/
abbrev Xm : ℕ → ℕ → EReal := at2 (n := 8192) (k := 4096) (m ((c : Thread nD τ).loc main_arg0))
abbrev Gm : ℕ → EReal := at1 (n := 4096) (m ((c : Thread nD τ).loc main_arg1))
abbrev Wgm : ℕ → ℕ → EReal := at2 (n := 4096) (k := 11008) (m ((c : Thread nD τ).loc main_arg2))
abbrev Wum : ℕ → ℕ → EReal := at2 (n := 4096) (k := 11008) (m ((c : Thread nD τ).loc main_arg3))
abbrev Wdm : ℕ → ℕ → EReal := at2 (n := 11008) (k := 4096) (m ((c : Thread nD τ).loc main_arg4))
abbrev Gom : ℕ → EReal := at1 (n := 4096) (m ((c : Thread nD τ).loc main_arg5))

theorem main0 (j : Fin 4096) : V m c main_v0 (ix2 0 j) = (Gm m c j : EReal) := by
  show StableHlo.after _ _ _ _ = _
  simp only [hostOps0, List.flatten_cons, List.flatten_nil, List.append_nil]
  entry_read
  pointwise
  exact at1_ix (n := 4096) _ _

theorem main1 (j : Fin 4096) : V m c main_v1 (ix2 0 j) = (Gom m c j : EReal) := by
  show StableHlo.after _ _ _ _ = _
  simp only [hostOps0, List.flatten_cons, List.flatten_nil, List.append_nil]
  entry_read
  pointwise
  exact at1_ix (n := 4096) _ _

theorem ix_0 : ∀ t : Fin cfg0.N, win0_0.index t 0 = 0 ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val / 2 ∧ win0_2.index t 1 = 0 := by decide +kernel
theorem ix_3 : ∀ t : Fin cfg0.N, win0_3.index t 0 = 0 ∧ win0_3.index t 1 = 0 := by decide +kernel
theorem ix_4 : ∀ t : Fin cfg0.N, win0_4.index t 0 = 0 ∧ win0_4.index t 1 = 0 := by decide +kernel
theorem ix_5 : ∀ t : Fin cfg0.N, win0_5.index t 0 = t.val % 2 ∧ win0_5.index t 1 = t.val / 2 := by decide +kernel
theorem ix_6 : ∀ t : Fin cfg0.N, win0_6.index t 0 = t.val % 2 ∧ win0_6.index t 1 = t.val / 2 := by decide +kernel
theorem ix_7 : ∀ t : Fin cfg0.N, win0_7.index t 0 = t.val / 2 ∧ win0_7.index t 1 = 0 := by decide +kernel

theorem lt_N (t : Fin cfg0.N) : t.val < 86 := lt_of_lt_of_eq t.isLt N_0

theorem blk_0 (t : Fin cfg0.N) (r : Fin 512) (k : Fin 4096) : iblk m c 0 t (ix2 r k) = (Xm m c r k : EReal) := by
  have h := ix_0 t
  have e : iblk m c 0 t (ix2 r k) = V m c main_arg0 (ix2 ⟨r.val, by omega⟩ k) := by blk_ext [iblk, h.1, h.2]
  rw [e, V_main_arg0]
  exact at2_ix (n := 8192) (k := 4096) _ _ _
theorem blk_1 (t : Fin cfg0.N) (k : Fin 4096) : iblk m c 1 t (ix2 0 k) = (Gm m c k : EReal) := by
  have h := ix_1 t
  have e : iblk m c 1 t (ix2 0 k) = V m c main_v0 (ix2 0 k) := by blk_ext [iblk, h.1, h.2]
  rw [e, main0]
theorem blk_2 (t : Fin cfg0.N) (r : Fin 256) (k : Fin 4096) : iblk m c 2 t (ix2 r k) = (Wdm m c (t.val / 2 * 256 + r.val) k : EReal) := by
  have h := ix_2 t
  have ht := lt_N t
  have e : iblk m c 2 t (ix2 r k) = V m c main_arg4 (ix2 ⟨t.val / 2 * 256 + r.val, by omega⟩ k) := by blk_ext [iblk, h.1, h.2]
  rw [e, V_main_arg4]
  exact at2_ix (n := 11008) (k := 4096) _ _ _
theorem blk_3 (t : Fin cfg0.N) (k : Fin 4096) : iblk m c 3 t (ix2 0 k) = (Gom m c k : EReal) := by
  have h := ix_3 t
  have e : iblk m c 3 t (ix2 0 k) = V m c main_v1 (ix2 0 k) := by blk_ext [iblk, h.1, h.2]
  rw [e, main1]

/-- The half blocks the call copies itself, at an element. -/
theorem half_G (n : ℕ) (h : n < 86) (i : Fin 2048) (j : Fin 256) : (BLK (F := Ideal) (heldG m c) n (ix3 0 i j) : EReal) = Wgm m c (2048 * (n % 2) + i.val) (n / 2 * 256 + j.val) := by
  have h1 := i.isLt
  have h2 := j.isLt
  unfold BLK heldG
  rw [V_main_arg2]
  refine (at2_ix (n := 4096) (k := 11008) _ _ _).trans ?_
  show Wgm m c ((2048 * (n % 2) + i.val) % 4096) ((256 * (n / 2) + j.val) % 11008) = _
  rw [Nat.mod_eq_of_lt (by omega : 2048 * (n % 2) + i.val < 4096), Nat.mod_eq_of_lt (by omega : 256 * (n / 2) + j.val < 11008), Nat.mul_comm 256 (n / 2)]
theorem half_U (n : ℕ) (h : n < 86) (i : Fin 2048) (j : Fin 256) : (BLK (F := Ideal) (heldU m c) n (ix3 0 i j) : EReal) = Wum m c (2048 * (n % 2) + i.val) (n / 2 * 256 + j.val) := by
  have h1 := i.isLt
  have h2 := j.isLt
  unfold BLK heldU
  rw [V_main_arg3]
  refine (at2_ix (n := 4096) (k := 11008) _ _ _).trans ?_
  show Wum m c ((2048 * (n % 2) + i.val) % 4096) ((256 * (n / 2) + j.val) % 11008) = _
  rw [Nat.mod_eq_of_lt (by omega : 2048 * (n % 2) + i.val < 4096), Nat.mod_eq_of_lt (by omega : 256 * (n / 2) + j.val < 11008), Nat.mul_comm 256 (n / 2)]

/-- The normalised rows, and half their columns, at an element. -/
theorem xn_val (r : Fin 512) (k : Fin 4096) : (xnV m c (ix2 r k) : EReal) = N (Xm m c) (Gm m c) r.val k.val := by
  unfold xnV
  rw [XN_val]
  simp only [blk_0, blk_1]
  rfl
theorem half_val (b : ℕ) (hb : b < 2) (r : Fin 512) (k : Fin 2048) : (half b (xnV m c) (ix2 r k) : EReal) = N (Xm m c) (Gm m c) r.val (2048 * b + k.val) := by
  have hk := k.isLt
  unfold half
  refine (xn_val m c r _).trans ?_
  show N (Xm m c) (Gm m c) r.val ((2048 * b + k.val) % 4096) = _
  rw [Nat.mod_eq_of_lt (by omega)]

theorem gV_val (n : ℕ) (h : n < 86) (h' : n % 2 = 0) (r : Fin 512) (z : Fin 256) :
    (gV m c n (ix2 r z) : EReal) = ∑ x : Fin 2048, N (Xm m c) (Gm m c) r.val x.val * Wgm m c x.val (n / 2 * 256 + z.val) := by
  unfold gV
  rw [keptG_val]
  simp only [half_val m c 0 (by decide), half_G m c n h, h', Nat.mul_zero, Nat.zero_add]
theorem uV_val (n : ℕ) (h : n < 86) (h' : n % 2 = 0) (r : Fin 512) (z : Fin 256) :
    (uV m c n (ix2 r z) : EReal) = ∑ x : Fin 2048, N (Xm m c) (Gm m c) r.val x.val * Wum m c x.val (n / 2 * 256 + z.val) := by
  unfold uV
  rw [keptU_val]
  simp only [half_val m c 0 (by decide), half_U m c n h, h', Nat.mul_zero, Nat.zero_add]

/-- One hidden block's contribution, at an element. -/
theorem addAt_val (t : Fin cfg0.N) (h : t.val % 2 = 1) (Y : Vec Ideal S512x4096 .f32) (r : Fin 512) (k : Fin 4096) :
    (addAt m c t Y (ix2 r k) : EReal) = Y (ix2 r k) + ∑ z : Fin 256, HID (Xm m c) (Gm m c) (Wgm m c) (Wum m c) r.val (t.val / 2 * 256 + z.val) * Wdm m c (t.val / 2 * 256 + z.val) k.val := by
  have ht := lt_N t
  unfold addAt ACC HID
  rw [ADD_val]
  simp only [gV_val m c (t.val - 1) (by omega) (by omega), uV_val m c (t.val - 1) (by omega) (by omega), half_val m c 1 (by decide), half_G m c t.val ht, half_U m c t.val ht,
    blk_2, h, Nat.mul_one, show (t.val - 1) / 2 = t.val / 2 by omega, ← Cert.FirstV.PR_halves]

/-- The accumulation, at an element. -/
theorem accTo_val (n : ℕ) (hn : n ≤ 43) (r : Fin 512) (k : Fin 4096) :
    (accTo m c n (ix2 r k) : EReal) = ∑ f : Fin n, ∑ z : Fin 256, HID (Xm m c) (Gm m c) (Wgm m c) (Wum m c) r.val (f.val * 256 + z.val) * Wdm m c (f.val * 256 + z.val) k.val := by
  induction n with
  | zero => rw [accTo, ZERO_val]; rfl
  | succ n ih =>
    have hv : (pt (2 * n + 1)).val = 2 * n + 1 := by show (2 * n + 1) % 86 = _; omega
    rw [accTo, addAt_val m c _ (by rw [hv]; omega), Fin.sum_univ_castSucc (n := n), ih (by omega), hv, show (2 * n + 1) / 2 = n by omega]
    rfl

end Cert.FirstIdeal.Body
-- ==== Proof.FirstV.Final.lean ====
/- What the first feed-forward call's launch leaves: the first 512 rows of the residual plus half the normalised product, and
   the three weights narrowed. -/
module

public import proofs.«01_k».proof.Proof.FirstV.Blocks
public import Idealize.ShloMosaic.Lib.Pipeline.ArrRel
public import Idealize.ShloMosaic.Lib.Claim

@[expose] public section

set_option maxRecDepth 16384

noncomputable section

namespace Cert.FirstIdeal.Body

open Idealize.ShloMosaic Idealize.ShloMosaic.TcCoe Idealize.ShloMosaic.Tactic Idealize.SL.Sem Cert.FirstIdeal.Gen Cert.Rows Cert.FfnV Cert.GlaV

variable (m : (l : Loc nD τ sig) → Buf (Elt Ideal) l) (ρ : Dev nD → PrngReg) (c : Dev nD)

/-- The rows, of the launch memory. -/
abbrev Ym (s j : ℕ) : EReal := Y (Xm m c) (Gm m c) (Wgm m c) (Wum m c) (Wdm m c) (Gom m c) s j

theorem rows_val (t : Fin cfg0.N) (r : Fin 512) (k : Fin 4096) : (FIN (accTo m c 43) (iblk m c 0 t) (iblk m c 3 t) (ix2 r k) : EReal) = Ym m c r.val k.val := by
  have e : ∀ j : Fin 4096, (accTo m c 43 (ix2 r j) : EReal) = D (Xm m c) (Gm m c) (Wgm m c) (Wum m c) (Wdm m c) r.val j.val :=
    fun j => (accTo_val m c 43 le_rfl r j).trans (D_blocks _ _ _ _ _ _ _).symm
  rw [FIN_val]
  simp only [e, blk_0, blk_3]
  rfl

/-- The result arrays. -/
def ROWS : Buf (Elt Ideal) ((c : Thread nD τ).loc main_v2_0) := (fun i => Ym m c (i 0).val (i 1).val : FVec Ideal S512x4096 .f32)
def GATE : Buf (Elt Ideal) ((c : Thread nD τ).loc main_v2_1) := (fun i => Wgm m c (i 0).val (i 1).val : FVec Ideal S4096x11008 .bf16)
def UP : Buf (Elt Ideal) ((c : Thread nD τ).loc main_v2_2) := (fun i => Wum m c (i 0).val (i 1).val : FVec Ideal S4096x11008 .bf16)
def DOWN : Buf (Elt Ideal) ((c : Thread nD τ).loc main_v2_3) := (fun i => Wdm m c (i 0).val (i 1).val : FVec Ideal S11008x4096 .bf16)

/-- Each write-back is a block of its result, … -/
theorem flushed_rows (t : Fin cfg0.N) : (cfg0.win 4).cut (grid0.coords t) (FIN (accTo m c 43) (iblk m c 0 t) (iblk m c 3 t)) = ((cfg0.win 4).blk t).view.read (Elt Ideal) (ROWS m c) := by
  have h := ix_4 t
  funext y
  obtain ⟨r, k, rfl⟩ : ∃ (r : Fin 512) (k : Fin 4096), y = ix2 r k := ⟨y 0, y 1, eq_ix2 y⟩
  rw [View.read_apply]
  refine (rows_val m c t r k).trans ?_
  show _ = Ym m c (win0_4.index t 0 * 512 + 1 * r.val) (win0_4.index t 1 * 4096 + 1 * k.val)
  rw [h.1, h.2]
  congr 1 <;> omega
theorem flushed_gate (t : Fin cfg0.N) : (cfg0.win 5).cut (grid0.coords t) (k0_pay1 (F := Ideal) (BLK (heldG m c) t.val)) = ((cfg0.win 5).blk t).view.read (Elt Ideal) (GATE m c) := by
  have h := ix_5 t
  funext y
  obtain ⟨r, k, rfl⟩ : ∃ (r : Fin 2048) (k : Fin 256), y = ix2 r k := ⟨y 0, y 1, eq_ix2 y⟩
  rw [View.read_apply]
  refine ((narrowG_val _ r k).trans (half_G m c t.val (lt_N t) r k)).trans ?_
  show _ = Wgm m c (win0_5.index t 0 * 2048 + 1 * r.val) (win0_5.index t 1 * 256 + 1 * k.val)
  rw [h.1, h.2]
  congr 1 <;> omega
theorem flushed_up (t : Fin cfg0.N) : (cfg0.win 6).cut (grid0.coords t) (k0_pay2 (F := Ideal) (BLK (heldU m c) t.val)) = ((cfg0.win 6).blk t).view.read (Elt Ideal) (UP m c) := by
  have h := ix_6 t
  funext y
  obtain ⟨r, k, rfl⟩ : ∃ (r : Fin 2048) (k : Fin 256), y = ix2 r k := ⟨y 0, y 1, eq_ix2 y⟩
  rw [View.read_apply]
  refine ((narrowU_val _ r k).trans (half_U m c t.val (lt_N t) r k)).trans ?_
  show _ = Wum m c (win0_6.index t 0 * 2048 + 1 * r.val) (win0_6.index t 1 * 256 + 1 * k.val)
  rw [h.1, h.2]
  congr 1 <;> omega
theorem flushed_down (t : Fin cfg0.N) : (cfg0.win 7).cut (grid0.coords t) (k0_pay7 (iblk m c 2 t)) = ((cfg0.win 7).blk t).view.read (Elt Ideal) (DOWN m c) := by
  have h := ix_7 t
  funext y
  obtain ⟨r, k, rfl⟩ : ∃ (r : Fin 256) (k : Fin 4096), y = ix2 r k := ⟨y 0, y 1, eq_ix2 y⟩
  rw [View.read_apply]
  refine ((narrowD_val _ r k).trans (blk_2 m c t r k)).trans ?_
  show _ = Wdm m c (win0_7.index t 0 * 256 + 1 * r.val) (win0_7.index t 1 * 4096 + 1 * k.val)
  rw [h.1, h.2]
  congr 1 <;> omega

/-- … and the blocks cover it. -/
theorem covered_rows (i : S512x4096.Idx) : ∃ t : Fin cfg0.N, (cfg0.win 4).flush t = true ∧ i ∈ ((cfg0.win 4).blk t).view.set := by
  have h0 : (i 0 : Nat) < 512 := (i 0).isLt
  have h1 : (i 1 : Nat) < 4096 := (i 1).isLt
  let t : Fin cfg0.N := ⟨85, by rw [show cfg0.N = 86 from N_0]; omega⟩
  have ht : t.val = 85 := rfl
  refine ⟨t, (flush0_4 t).mpr (by rw [ht]), ?_⟩
  have h := ix_4 t
  show i ∈ ((View.whole main_v2_0).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [h.1]; omega
  | ⟨1, _⟩ =>
    show win0_4.index t 1 * 4096 ≤ (i 1 : Nat) ∧ (i 1 : Nat) < win0_4.index t 1 * 4096 + 4096
    rw [h.2]; omega
theorem covered_gate (i : S4096x11008.Idx) : ∃ t : Fin cfg0.N, (cfg0.win 5).flush t = true ∧ i ∈ ((cfg0.win 5).blk t).view.set := by
  have h0 : (i 0 : Nat) < 4096 := (i 0).isLt
  have h1 : (i 1 : Nat) < 11008 := (i 1).isLt
  let t : Fin cfg0.N := ⟨2 * ((i 1 : Nat) / 256) + (i 0 : Nat) / 2048, by rw [show cfg0.N = 86 from N_0]; omega⟩
  have ht : t.val = 2 * ((i 1 : Nat) / 256) + (i 0 : Nat) / 2048 := rfl
  refine ⟨t, flush0_5 t, ?_⟩
  have h := ix_5 t
  show i ∈ ((View.whole main_v2_1).slice (win0_5.rect t)).set
  rw [View.set_slice_whole, Rect.mem_set_unit]
  intro a
  match a with
  | ⟨0, _⟩ =>
    show win0_5.index t 0 * 2048 ≤ (i 0 : Nat) ∧ (i 0 : Nat) < win0_5.index t 0 * 2048 + 2048
    rw [h.1]; omega
  | ⟨1, _⟩ =>
    show win0_5.index t 1 * 256 ≤ (i 1 : Nat) ∧ (i 1 : Nat) < win0_5.index t 1 * 256 + 256
    rw [h.2]; omega
theorem covered_up (i : S4096x11008.Idx) : ∃ t : Fin cfg0.N, (cfg0.win 6).flush t = true ∧ i ∈ ((cfg0.win 6).blk t).view.set := by
  have h0 : (i 0 : Nat) < 4096 := (i 0).isLt
  have h1 : (i 1 : Nat) < 11008 := (i 1).isLt
  let t : Fin cfg0.N := ⟨2 * ((i 1 : Nat) / 256) + (i 0 : Nat) / 2048, by rw [show cfg0.N = 86 from N_0]; omega⟩
  have ht : t.val = 2 * ((i 1 : Nat) / 256) + (i 0 : Nat) / 2048 := rfl
  refine ⟨t, flush0_6 t, ?_⟩
  have h := ix_6 t
  show i ∈ ((View.whole main_v2_2).slice (win0_6.rect t)).set
  rw [View.set_slice_whole, Rect.mem_set_unit]
  intro a
  match a with
  | ⟨0, _⟩ =>
    show win0_6.index t 0 * 2048 ≤ (i 0 : Nat) ∧ (i 0 : Nat) < win0_6.index t 0 * 2048 + 2048
    rw [h.1]; omega
  | ⟨1, _⟩ =>
    show win0_6.index t 1 * 256 ≤ (i 1 : Nat) ∧ (i 1 : Nat) < win0_6.index t 1 * 256 + 256
    rw [h.2]; omega
theorem covered_down (i : S11008x4096.Idx) : ∃ t : Fin cfg0.N, (cfg0.win 7).flush t = true ∧ i ∈ ((cfg0.win 7).blk t).view.set := by
  have h0 : (i 0 : Nat) < 11008 := (i 0).isLt
  have h1 : (i 1 : Nat) < 4096 := (i 1).isLt
  let t : Fin cfg0.N := ⟨2 * ((i 0 : Nat) / 256) + 1, by rw [show cfg0.N = 86 from N_0]; omega⟩
  have ht : t.val = 2 * ((i 0 : Nat) / 256) + 1 := rfl
  refine ⟨t, (flush0_7 t).mpr (by rw [ht]; omega), ?_⟩
  have h := ix_7 t
  show i ∈ ((View.whole main_v2_3).slice (win0_7.rect t)).set
  rw [View.set_slice_whole, Rect.mem_set_unit]
  intro a
  match a with
  | ⟨0, _⟩ =>
    show win0_7.index t 0 * 256 ≤ (i 0 : Nat) ∧ (i 0 : Nat) < win0_7.index t 0 * 256 + 256
    rw [h.1]; omega
  | ⟨1, _⟩ =>
    show win0_7.index t 1 * 4096 ≤ (i 1 : Nat) ∧ (i 1 : Nat) < win0_7.index t 1 * 4096 + 4096
    rw [h.2]; omega

/-- The launch's post, read at the results. -/
theorem final (r : PUnit × MemSt nD τ sig (Elt Ideal)) (h : Pipeline.RDat.FramePost (cfgs 0) (fun c => rdata m c) (V m) r) :
    r.2.mem ((c.tc : Thread nD τ).loc main_v2_0) = ROWS m c ∧ r.2.mem ((c.tc : Thread nD τ).loc main_v2_1) = GATE m c
    ∧ r.2.mem ((c.tc : Thread nD τ).loc main_v2_2) = UP m c ∧ r.2.mem ((c.tc : Thread nD τ).loc main_v2_3) = DOWN m c := by
  obtain ⟨after, hL, hA⟩ := Pipeline.RDat.FramePost.exists_exact (cfg₁ := cfgs 0) h c
  refine ⟨?_, ?_, ?_, ?_⟩
  · refine (hA 4).trans (((rdata m c).withAfter after).arrAt_eq_of_cover 4 (ROWS m c) (fun t ht => ?_) covered_rows)
    refine Eq.trans ?_ (flushed_rows m c t)
    show (cfg0.win 4).cut (grid0.coords t) (after 4 t) = _
    rw [leaves_rows m c t (after 4 t) ht (hL 4 t ht)]
  · refine (hA 5).trans (((rdata m c).withAfter after).arrAt_eq_of_cover 5 (GATE m c) (fun t ht => ?_) covered_gate)
    refine Eq.trans ?_ (flushed_gate m c t)
    show (cfg0.win 5).cut (grid0.coords t) (after 5 t) = _
    rw [leaves_gate m c t (after 5 t) (hL 5 t ht)]
  · refine (hA 6).trans (((rdata m c).withAfter after).arrAt_eq_of_cover 6 (UP m c) (fun t ht => ?_) covered_up)
    refine Eq.trans ?_ (flushed_up m c t)
    show (cfg0.win 6).cut (grid0.coords t) (after 6 t) = _
    rw [leaves_up m c t (after 6 t) (hL 6 t ht)]
  · refine (hA 7).trans (((rdata m c).withAfter after).arrAt_eq_of_cover 7 (DOWN m c) (fun t ht => ?_) covered_down)
    refine Eq.trans ?_ (flushed_down m c t)
    show (cfg0.win 7).cut (grid0.coords t) (after 7 t) = _
    rw [leaves_down m c t (after 7 t) ht (hL 7 t ht)]

/-- The run, read: the result arrays, the arguments unchanged. -/
theorem run : θ_run defs (onTc (τ := τ) (main (F := Ideal))) ⟨m, fun _ => 0, ρ⟩ fun r => ∀ c : Dev nD,
      r.2.mem ((c.tc : Thread nD τ).loc main_v2_0) = ROWS m c
      ∧ r.2.mem ((c.tc : Thread nD τ).loc main_v2_1) = GATE m c
      ∧ r.2.mem ((c.tc : Thread nD τ).loc main_v2_2) = UP m c
      ∧ r.2.mem ((c.tc : Thread nD τ).loc main_v2_3) = DOWN m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(final m c r h.1).1, (final m c r h.1).2.1, (final m c r h.1).2.2.1, (final m c r h.1).2.2.2, h.2.1 c⟩)
    (θ_run_and (runs_arrays m ρ) (kept m ρ))

end Cert.FirstIdeal.Body
-- ==== Proof.FfnV.Ref.lean ====
/- What the reference computes, read at an element: the normalised rows, the gated hidden values, the product back, and the
   result, each of the one before. -/
module

public import proofs.«01_k».proof.Proof.FfnV.Math
public import proofs.«01_k».proof.Proof.Gen.FfnRefIdeal.Run

@[expose] public section

set_option maxRecDepth 16384

noncomputable section

namespace Cert.FfnRefIdeal.Body

open Idealize.ShloMosaic Cert.FfnRefIdeal.Gen Cert.FfnV Cert.GlaV

/-- The rows of an array normalised and scaled. -/
def norm (x : FVec Ideal S8192x4096 .f32) (g : FVec Ideal S4096 .f32) : FVec Ideal S8192x4096 .f32 :=
  mulf (mulf x (broadcastInDim S8192x4096 ![0, 1] bcast_S8192x1_S8192x4096_0_1 (Host.rsqrt (addf (Host.divf (broadcastInDim S8192x1 ![0] bcast_S8192_S8192x1_0 (Host.reduceAdd (mulf x x) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 g))

/-- The product of rows and columns. -/
def prod (x : FVec Ideal S8192x4096 .f32) (w : FVec Ideal S4096x11008 .f32) : FVec Ideal S8192x11008 .f32 :=
  Host.dotGeneral dot_S8192x4096_S4096x11008_S8192x11008_1_0_0_1_n_n none x w

/-- The gated hidden values, of the two products. -/
def hid (g u : FVec Ideal S8192x11008 .f32) : FVec Ideal S8192x11008 .f32 :=
  mulf (mulf g (Host.divf (broadcastInDim S8192x11008 ![] bcast_S_S8192x11008 (constant S_ .f32 0x3F800000#32)) (addf (broadcastInDim S8192x11008 ![] bcast_S_S8192x11008 (constant S_ .f32 0x3F800000#32)) (Host.exp (Host.negf g))))) u

/-- The product back. -/
def back (h : FVec Ideal S8192x11008 .f32) (w : FVec Ideal S11008x4096 .f32) : FVec Ideal S8192x4096 .f32 :=
  Host.dotGeneral dot_S8192x11008_S11008x4096_S8192x4096_1_0_0_1_n_n none h w

/-- The residual with half the normalised product. -/
def sum (x d : FVec Ideal S8192x4096 .f32) : FVec Ideal S8192x4096 .f32 :=
  addf x (mulf (broadcastInDim S8192x4096 ![] bcast_S_S8192x4096 (constant S_ .f32 0x3F000000#32)) d)

/-- The result: the given rows, then the sum's from row 512 on. -/
def join (f : FVec Ideal S512x4096 .f32) (y : FVec Ideal S8192x4096 .f32) : FVec Ideal S8192x4096 .f32 :=
  concatenate S8192x4096 0 [⟨S512x4096, f⟩, ⟨S7680x4096, (extractStridedSlice S7680x4096 ![512, 0] y slices_S8192x4096_S7680x4096_512_0)⟩] concatenates_S512x4096_S7680x4096_S8192x4096_d0

/-- The reference's result of seven arrays. -/
def res (a0 : FVec Ideal S8192x4096 .f32) (a1 : FVec Ideal S512x4096 .f32) (a2 : FVec Ideal S4096 .f32) (a3 a4 : FVec Ideal S4096x11008 .f32)
    (a5 : FVec Ideal S11008x4096 .f32) (a6 : FVec Ideal S4096 .f32) : FVec Ideal S8192x4096 .f32 :=
  join a1 (sum a0 (norm (back (hid (prod (norm a0 a2) a3) (prod (norm a0 a2) a4)) a5) a6))

theorem norm_val (x : FVec Ideal S8192x4096 .f32) (g : FVec Ideal S4096 .f32) (s : Fin 8192) (j : Fin 4096) :
    (norm x g (ix2 s j) : EReal) = x (ix2 s j) * Ideal.rsqrt (Ideal.div (∑ j : Fin 4096, x (ix2 s j) * x (ix2 s j)) (Ideal.ofBits FTy.f32 1166016512#32) + Ideal.ofBits FTy.f32 897988541#32)
      * g (ix1 j) := by
  unfold norm
  pointwise

theorem prod_val (x : FVec Ideal S8192x4096 .f32) (w : FVec Ideal S4096x11008 .f32) (s : Fin 8192) (q : Fin 11008) :
    (prod x w (ix2 s q) : EReal) = ∑ k : Fin 4096, x (ix2 s k) * w (ix2 k q) := by
  unfold prod
  pointwise

theorem hid_val (g u : FVec Ideal S8192x11008 .f32) (s : Fin 8192) (q : Fin 11008) :
    (hid g u (ix2 s q) : EReal) = g (ix2 s q) * Ideal.logistic (g (ix2 s q)) * u (ix2 s q) := by
  unfold hid
  pointwise
  rfl

theorem back_val (h : FVec Ideal S8192x11008 .f32) (w : FVec Ideal S11008x4096 .f32) (s : Fin 8192) (j : Fin 4096) :
    (back h w (ix2 s j) : EReal) = ∑ q : Fin 11008, h (ix2 s q) * w (ix2 q j) := by
  unfold back
  pointwise

theorem sum_val (x d : FVec Ideal S8192x4096 .f32) (s : Fin 8192) (j : Fin 4096) :
    (sum x d (ix2 s j) : EReal) = x (ix2 s j) + Ideal.ofBits FTy.f32 1056964608#32 * d (ix2 s j) := by
  unfold sum
  pointwise

theorem join_val (f : FVec Ideal S512x4096 .f32) (y : FVec Ideal S8192x4096 .f32) (s : Fin 8192) (j : Fin 4096) :
    (join f y (ix2 s j) : EReal) = if s.val < 512 then at2 (n := 512) (k := 4096) f s.val j.val else at2 (n := 8192) (k := 4096) y s.val j.val := by
  unfold join
  pointwise
  split_ifs with h
  · exact at2_ix (n := 512) (k := 4096) f ⟨s.val, h⟩ j
  · refine Eq.trans (congrArg y (congrArg₂ ix2 (Fin.ext ?_) (Fin.ext ?_))) (at2_ix (n := 8192) (k := 4096) y s j)
    · show 512 + (s.val - 512) = s.val; omega
    · rfl
  · exact absurd rfl (by assumption)

theorem res_val (a0 : FVec Ideal S8192x4096 .f32) (a1 : FVec Ideal S512x4096 .f32) (a2 : FVec Ideal S4096 .f32) (a3 a4 : FVec Ideal S4096x11008 .f32)
    (a5 : FVec Ideal S11008x4096 .f32) (a6 : FVec Ideal S4096 .f32) (s : Fin 8192) (j : Fin 4096) :
    (res a0 a1 a2 a3 a4 a5 a6 (ix2 s j) : EReal) = RES (at2 (n := 8192) (k := 4096) a0) (at1 (n := 4096) a2) (at2 (n := 4096) (k := 11008) a3)
      (at2 (n := 4096) (k := 11008) a4) (at2 (n := 11008) (k := 4096) a5) (at2 (n := 512) (k := 4096) a1) (at1 (n := 4096) a6) s.val j.val := by
  unfold res RES
  rw [join_val]
  refine if_congr Iff.rfl rfl ?_
  rw [← at2_ix, sum_val]
  simp only [norm_val, back_val, hid_val, prod_val]
  simp only [at2_ix, at1_ix]
  rfl

end Cert.FfnRefIdeal.Body
-- ==== Proof.FirstV.Ref.lean ====
/- What the first call's reference computes, read at an element: the result's first 512 rows, of the functions the
   other call's reference is composed of. -/
module

public import proofs.«01_k».proof.Proof.FfnV.Ref
public import proofs.«01_k».proof.Proof.Gen.FirstRefIdeal.Run

@[expose] public section

set_option maxRecDepth 16384

noncomputable section

namespace Cert.FirstRefIdeal.Body

open Idealize.ShloMosaic Cert.FirstRefIdeal.Gen Cert.FfnV Cert.GlaV
open Cert.FfnRefIdeal.Body (norm prod hid back sum norm_val prod_val hid_val back_val sum_val)

/-- The first 512 rows. -/
def top (y : FVec Ideal S8192x4096 .f32) : FVec Ideal S512x4096 .f32 := extractStridedSlice S512x4096 ![0, 0] y slices_S8192x4096_S512x4096_0_0

/-- The reference's first result of six arrays. -/
def res (a0 : FVec Ideal S8192x4096 .f32) (a1 : FVec Ideal S4096 .f32) (a2 a3 : FVec Ideal S4096x11008 .f32)
    (a4 : FVec Ideal S11008x4096 .f32) (a5 : FVec Ideal S4096 .f32) : FVec Ideal S512x4096 .f32 :=
  top (sum a0 (norm (back (hid (prod (norm a0 a1) a2) (prod (norm a0 a1) a3)) a4) a5))

theorem top_val (y : FVec Ideal S8192x4096 .f32) (s : Fin 512) (j : Fin 4096) :
    (top y (ix2 s j) : EReal) = y (ix2 ⟨s.val, by omega⟩ j) := by
  unfold top
  refine congrArg y (funext fun a => Fin.ext ?_)
  fin_cases a
  · show 0 + s.val = s.val; omega
  · show 0 + j.val = j.val; omega

theorem res_val (a0 : FVec Ideal S8192x4096 .f32) (a1 : FVec Ideal S4096 .f32) (a2 a3 : FVec Ideal S4096x11008 .f32)
    (a4 : FVec Ideal S11008x4096 .f32) (a5 : FVec Ideal S4096 .f32) (s : Fin 512) (j : Fin 4096) :
    (res a0 a1 a2 a3 a4 a5 (ix2 s j) : EReal) = Y (at2 (n := 8192) (k := 4096) a0) (at1 (n := 4096) a1) (at2 (n := 4096) (k := 11008) a2)
      (at2 (n := 4096) (k := 11008) a3) (at2 (n := 11008) (k := 4096) a4) (at1 (n := 4096) a5) s.val j.val := by
  unfold res
  rw [top_val, sum_val]
  simp only [norm_val, back_val, hid_val, prod_val]
  simp only [at2_ix, at1_ix]
  rfl

end Cert.FirstRefIdeal.Body
-- ==== Proof.FirstV.Equation.lean ====
/- The first feed-forward call and its reference: the results are the first 512 rows of the residual plus half the normalised
   product of the arguments, and the three weights narrowed. -/
module

public import proofs.«01_k».proof.Defs
public import proofs.«01_k».proof.Proof.FirstV.Final
public import proofs.«01_k».proof.Proof.FirstV.Ref
public import proofs.«01_k».proof.Proof.Gen.First

@[expose] public section

set_option maxRecDepth 16384

noncomputable section

namespace Cert.FirstV

open Idealize.ShloMosaic Idealize.SL.Sem Cert.GlaV

variable (m : (l : Loc FirstIdeal.nD FirstIdeal.τ FirstIdeal.sig) → Buf (Elt Ideal) l) (c : Dev FirstIdeal.nD)

/-- The launch's results are the reference's of the same arrays. -/
theorem rows_eq : FirstRefIdeal.Body.res (m ((c.tc : Thread FirstIdeal.nD FirstIdeal.τ).loc FirstIdeal.main_arg0)) (m ((c.tc : Thread FirstIdeal.nD FirstIdeal.τ).loc FirstIdeal.main_arg1)) (m ((c.tc : Thread FirstIdeal.nD FirstIdeal.τ).loc FirstIdeal.main_arg2)) (m ((c.tc : Thread FirstIdeal.nD FirstIdeal.τ).loc FirstIdeal.main_arg3)) (m ((c.tc : Thread FirstIdeal.nD FirstIdeal.τ).loc FirstIdeal.main_arg4)) (m ((c.tc : Thread FirstIdeal.nD FirstIdeal.τ).loc FirstIdeal.main_arg5)) = FirstIdeal.Body.ROWS m c := by
  funext i
  obtain ⟨s, j, rfl⟩ : ∃ (s : Fin 512) (j : Fin 4096), i = ix2 s j := ⟨i 0, i 1, eq_ix2 i⟩
  exact FirstRefIdeal.Body.res_val _ _ _ _ _ _ s j
theorem gate_eq (h : FTy.bits .bf16 < FTy.bits .f32) : (truncf .bf16 ((m ((c.tc : Thread FirstIdeal.nD FirstIdeal.τ).loc FirstIdeal.main_arg2)) : FVec Ideal FirstIdeal.S4096x11008 .f32) h : FVec Ideal FirstIdeal.S4096x11008 .bf16) = FirstIdeal.Body.GATE m c := by
  funext i
  obtain ⟨s, j, rfl⟩ : ∃ (s : Fin 4096) (j : Fin 11008), i = ix2 s j := ⟨i 0, i 1, eq_ix2 i⟩
  exact at2_ix (n := 4096) (k := 11008) _ s j
theorem up_eq (h : FTy.bits .bf16 < FTy.bits .f32) : (truncf .bf16 ((m ((c.tc : Thread FirstIdeal.nD FirstIdeal.τ).loc FirstIdeal.main_arg3)) : FVec Ideal FirstIdeal.S4096x11008 .f32) h : FVec Ideal FirstIdeal.S4096x11008 .bf16) = FirstIdeal.Body.UP m c := by
  funext i
  obtain ⟨s, j, rfl⟩ : ∃ (s : Fin 4096) (j : Fin 11008), i = ix2 s j := ⟨i 0, i 1, eq_ix2 i⟩
  exact at2_ix (n := 4096) (k := 11008) _ s j
theorem down_eq (h : FTy.bits .bf16 < FTy.bits .f32) : (truncf .bf16 ((m ((c.tc : Thread FirstIdeal.nD FirstIdeal.τ).loc FirstIdeal.main_arg4)) : FVec Ideal FirstIdeal.S11008x4096 .f32) h : FVec Ideal FirstIdeal.S11008x4096 .bf16) = FirstIdeal.Body.DOWN m c := by
  funext i
  obtain ⟨s, j, rfl⟩ : ∃ (s : Fin 11008) (j : Fin 4096), i = ix2 s j := ⟨i 0, i 1, eq_ix2 i⟩
  exact at2_ix (n := 11008) (k := 4096) _ s j

/-- The program and its idealized form have one body table, … -/
theorem bodies_eq : Cert.First.defs₀ (F := Bits) = Cert.FirstIdeal.defs₀ := by
  unfold Cert.First.defs₀ Cert.FirstIdeal.defs₀
  refine congrArg Defs.onTc ?_
  funext l a
  match l, a with
  | ⟨0, _⟩, (t, s) =>
    show Cert.First.cc0_ffn_first _ _ _ _ _ _ _ _ _ _ _ _ _ _ _ _ _ _ _ _ _ _ _ _ _ _ _ _ _ _ _ _ = _
    unfold Cert.First.cc0_ffn_first
    rfl
theorem defs_eq : Cert.First.defs (F := Bits) = Cert.FirstIdeal.defs := congrArg (Pipeline.defs Cert.FirstIdeal.pcfgs) bodies_eq

/-- … so the frame of the one is the frame of the other. -/
theorem frame_kernel : Cert.quiescent_First := fun m ρ _ => by
  rw [defs_eq]
  exact Cert.FirstIdeal.Body.kept (F := Bits) m ρ
theorem frame_ideal : Cert.quiescent_FirstIdeal := fun m ρ _ => Cert.FirstIdeal.Body.kept m ρ
theorem frame_ref : Cert.quiescent_FirstRefIdeal := fun m ρ _ => (θ_run Cert.FirstRefIdeal.defs _ _).mono
  (fun r h => ⟨fun c => (h c).2.2.2.2, sem_eq_zero_of_no_sems (by decide) r.2⟩) (Cert.FirstRefIdeal.Value.run m ρ)

theorem equation : Cert.algebraic_FirstIdeal_FirstRefIdeal := by
  intro m ρ m' ρ' _ h
  refine ⟨fun c => Cert.FirstIdeal.Body.ROWS m c, fun c => Cert.FirstIdeal.Body.GATE m c, fun c => Cert.FirstIdeal.Body.UP m c, fun c => Cert.FirstIdeal.Body.DOWN m c, Cert.FirstIdeal.Body.run m ρ, ?_⟩
  refine (θ_run Cert.FirstRefIdeal.defs _ _).mono (fun _ hr c => ⟨(hr c).1.trans ?_, (hr c).2.1.trans ?_, (hr c).2.2.1.trans ?_, (hr c).2.2.2.1.trans ?_, (hr c).2.2.2.2⟩) (Cert.FirstRefIdeal.Value.run m' ρ')
  · obtain ⟨h0, h1, h2, h3, h4, h5⟩ := h c
    unfold Cert.FirstRefIdeal.Value.res_main_v34
    rw [h0, h1, h2, h3, h4, h5]
    exact rows_eq m c
  · rw [(h c).2.2.1]; exact gate_eq m c _
  · rw [(h c).2.2.2.1]; exact up_eq m c _
  · rw [(h c).2.2.2.2.1]; exact down_eq m c _

end Cert.FirstV
end
-- ==== Proof.FfnV.Open.lean ====
/- The prologue of a row block: the row loop that normalises the block into the scratch array and clears the output block. -/
module

public import proofs.«01_k».proof.Proof.FfnV.Spec

@[expose] public section

set_option maxRecDepth 16384

noncomputable section

namespace Cert.FfnIdeal.Body

open Idealize.ShloMosaic Idealize.ShloMosaic.TcCoe Idealize.ShloMosaic.Tactic Cert.FfnIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable {e : EltTy}

/-- A chunk of the normalised rows, at an element of that chunk. -/
theorem XN_at (x : Vec F S512x4096 .f32) (g : Vec F S1x4096 .f32) (y : S512x4096.Idx) (o : ℕ) (h : 32 * ((y 0).val / 32) = o) :
    k0_pay15 (k0_pay10 (win x o)) (win x o) g (loc y) = XN x g y := by
  unfold XN; rw [h]

section
variable (𝒱 : Variants) (c : Dev nD) (bd : Option 𝒱.V) (E : Set ℕ) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S128x4096 .f32) (harg8 : arg8.IsWhole) (arg9 : Memref sig .tc .vmem S512x4096 .f32) (harg9 : arg9.IsWhole) (arg10 : Memref sig .tc .vmem S512x4096 .bf16) (harg10 : arg10.IsWhole) (k0_h2 : k0_cond2 i = 1#1) (k0_h3 : k0_cond3 i = 1#1)
  (X2 : BufTy.Contents (Elt F) arg2.view.ty) (X3 : BufTy.Contents (Elt F) arg3.view.ty)

/-- What a trip holds: the block and the norm it reads, the output block and the scratch array. -/
abbrev held1 (f9 : BufTy.Contents (Elt F) arg9.view.ty) (f10 : BufTy.Contents (Elt F) arg10.view.ty) : sProp 𝕄G :=
  iprop((arg2.view.loc (c : Thread nD τ) ↦[arg2.view.set]{fullShare} X2) ∗ (arg3.view.loc (c : Thread nD τ) ↦[arg3.view.set]{fullShare} X3) ∗ (arg9.view.loc (c : Thread nD τ) ↦[arg9.view.set]{fullShare} f9) ∗ (arg10.view.loc (c : Thread nD τ) ↦[arg10.view.set]{fullShare} f10))

/-- The same with the first `n` rows done. -/
abbrev done1 (n : ℕ) : sProp 𝕄G :=
  iprop((arg2.view.loc (c : Thread nD τ) ↦[arg2.view.set]{fullShare} X2) ∗ (arg3.view.loc (c : Thread nD τ) ↦[arg3.view.set]{fullShare} X3)
    ∗ (∃ f, (arg9.view.loc (c : Thread nD τ) ↦[arg9.view.set]{fullShare} f) ∗ ⌜∀ y, (y 0).val < n → arg9.view.read (Elt F) f y = ZERO (F := F) y⌝)
    ∗ (∃ f, (arg10.view.loc (c : Thread nD τ) ↦[arg10.view.set]{fullShare} f) ∗ ⌜∀ y, (y 0).val < n → arg10.view.read (Elt F) f y = XN (arg2.view.read (Elt F) X2) (arg3.view.read (Elt F) X3) y⌝))

set_option maxHeartbeats 1000000 in
/-- One trip. -/
theorem trip1 (k : Fin k0_t1_loop.trips)
    (f9 : BufTy.Contents (Elt F) arg9.view.ty) (f10 : BufTy.Contents (Elt F) arg10.view.ty)
    (h9 : ∀ y, (y 0).val < 128 * k.val → arg9.view.read (Elt F) f9 y = ZERO (F := F) y)
    (h10 : ∀ y, (y 0).val < 128 * k.val → arg10.view.read (Elt F) f10 y = XN (arg2.view.read (Elt F) X2) (arg3.view.read (Elt F) X3) y) :
      held1 (F := F) c arg2 arg3 arg9 arg10 X2 X3 f9 f10
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 k0_h2 k0_h3 k PUnit.unit)
          (fun _ => done1 (F := F) c arg2 arg3 arg9 arg10 X2 X3 (128 * (k.val + 1))) := by
  have hk : k.val < 4 := Nat.lt_of_lt_of_le k.isLt k0_t1_abs.2.1
  unfold k0_t1_body
  iintro ⟨H2, H3, H9, H10⟩
  sl_exec
  sl_step
  isplitl [H2]; · iexact H2
  isplitl [H3]; · iexact H3
  isplitl [H9]
  · iexists _; isplitl [H9]; · iexact H9
    ipureintro
    intro y hy
    sl_unfold_run_names
    have R := read_rows4 arg9.view f9 (k0_off2_inb i k k0_h2 k0_h3 0) (k0_off2_inb i k k0_h2 k0_h3 1) (k0_off2_inb i k k0_h2 k0_h3 2) (k0_off2_inb i k k0_h2 k0_h3 3)
      (k0_pay16 (F := F))
      (k0_pay1 (FloatOps.ofBits FTy.f32 0#32))
      (k0_pay3 (F := F))
      (k0_pay5 (F := F))
      (128 * k.val) (by omega) (off2_0 k) (off2_1 k) (off2_2 k) (off2_3 k) (ZERO (F := F))
      (fun _ _ => rfl) (fun _ _ => rfl) (fun _ _ => rfl) (fun _ _ => rfl) y
    refine R.trans ?_
    by_cases hc : 128 * k.val ≤ (y 0).val
    · rw [if_pos ⟨hc, by omega⟩]
    · rw [if_neg (by omega), h9 y (by omega)]
  · iexists _; isplitl [H10]; · iexact H10
    ipureintro
    intro y hy
    sl_unfold_run_names
    have eg := View.readAt_full arg3.view X3 inb_S1x4096_S1x4096_0_0
    have R := read_rows4 arg10.view f10 (k0_off2_inb i k k0_h2 k0_h3 0) (k0_off2_inb i k k0_h2 k0_h3 1) (k0_off2_inb i k k0_h2 k0_h3 2) (k0_off2_inb i k k0_h2 k0_h3 3)
      (k0_pay15 (k0_pay10 (arg2.view.readAt (Elt F) (Rect.unit (s := S512x4096) (k0_off2 k 0#32) S32x4096.size (k0_off2_inb i k k0_h2 k0_h3 0)).toLoadRect X2)) (arg2.view.readAt (Elt F) (Rect.unit (s := S512x4096) (k0_off2 k 0#32) S32x4096.size (k0_off2_inb i k k0_h2 k0_h3 0)).toLoadRect X2) (arg3.view.readAt (Elt F) (Rect.unit (s := S1x4096) ![0, 0] S1x4096.size inb_S1x4096_S1x4096_0_0).toLoadRect X3))
      (k0_pay17 (k0_pay11 (arg2.view.readAt (Elt F) (Rect.unit (s := S512x4096) (k0_off2 k 32#32) S32x4096.size (k0_off2_inb i k k0_h2 k0_h3 1)).toLoadRect X2)) (arg2.view.readAt (Elt F) (Rect.unit (s := S512x4096) (k0_off2 k 32#32) S32x4096.size (k0_off2_inb i k k0_h2 k0_h3 1)).toLoadRect X2) (arg3.view.readAt (Elt F) (Rect.unit (s := S1x4096) ![0, 0] S1x4096.size inb_S1x4096_S1x4096_0_0).toLoadRect X3))
      (k0_pay2 (k0_pay13 (k0_pay12 (arg2.view.readAt (Elt F) (Rect.unit (s := S512x4096) (k0_off2 k 64#32) S32x4096.size (k0_off2_inb i k k0_h2 k0_h3 2)).toLoadRect X2)) (FloatOps.ofBits FTy.f32 897988541#32)) (arg2.view.readAt (Elt F) (Rect.unit (s := S512x4096) (k0_off2 k 64#32) S32x4096.size (k0_off2_inb i k k0_h2 k0_h3 2)).toLoadRect X2) (arg3.view.readAt (Elt F) (Rect.unit (s := S1x4096) ![0, 0] S1x4096.size inb_S1x4096_S1x4096_0_0).toLoadRect X3))
      (k0_pay4 (k0_pay14 (arg2.view.readAt (Elt F) (Rect.unit (s := S512x4096) (k0_off2 k 96#32) S32x4096.size (k0_off2_inb i k k0_h2 k0_h3 3)).toLoadRect X2)) (arg2.view.readAt (Elt F) (Rect.unit (s := S512x4096) (k0_off2 k 96#32) S32x4096.size (k0_off2_inb i k k0_h2 k0_h3 3)).toLoadRect X2) (arg3.view.readAt (Elt F) (Rect.unit (s := S1x4096) ![0, 0] S1x4096.size inb_S1x4096_S1x4096_0_0).toLoadRect X3))
      (128 * k.val) (by omega) (off2_0 k) (off2_1 k) (off2_2 k) (off2_3 k) (XN (arg2.view.read (Elt F) X2) (arg3.view.read (Elt F) X3))
      (fun y hy => by rw [readAt_rows arg2.view X2 _ _ (off2_0 k), eg]; exact XN_at _ _ y _ (by omega))
      (fun y hy => by rw [readAt_rows arg2.view X2 _ _ (off2_1 k), eg]; exact XN_at _ _ y _ (by omega))
      (fun y hy => by rw [readAt_rows arg2.view X2 _ _ (off2_2 k), eg]; exact XN_at _ _ y _ (by omega))
      (fun y hy => by rw [readAt_rows arg2.view X2 _ _ (off2_3 k), eg]; exact XN_at _ _ y _ (by omega)) y
    refine R.trans ?_
    by_cases hc : 128 * k.val ≤ (y 0).val
    · rw [if_pos ⟨hc, by omega⟩]
    · rw [if_neg (by omega), h10 y (by omega)]

set_option warn.classDefReducibility false in
/-- The loop by its invariant. -/
@[sl_loop] def loop1 :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 k0_h2 k0_h3 where
  inv k _ := done1 (F := F) c arg2 arg3 arg9 arg10 X2 X3 (128 * k)
  step k acc := by
    iintro ⟨H2, H3, ⟨%f9, H9, %h9⟩, ⟨%f10, H10, %h10⟩⟩
    iapply (trip1 (F := F) 𝒱 c bd E i arg2 harg2 arg3 harg3 arg4 harg4 arg5 harg5 arg6 harg6 arg7 harg7 arg8 harg8 arg9 harg9 arg10 harg10 k0_h2 k0_h3 X2 X3 k f9 f10 h9 h10)
    isplitl [H2]; · iexact H2
    isplitl [H3]; · iexact H3
    isplitl [H9]; · iexact H9
    iexact H10
end

end Cert.FfnIdeal.Body
-- ==== Proof.FfnV.Close.lean ====
/- The epilogue of a row block: the row loop that turns the accumulated output block into the block written back. -/
module

public import proofs.«01_k».proof.Proof.FfnV.Open

@[expose] public section

set_option maxRecDepth 16384

noncomputable section

namespace Cert.FfnIdeal.Body

open Idealize.ShloMosaic Idealize.ShloMosaic.TcCoe Idealize.ShloMosaic.Tactic Cert.FfnIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A chunk of the finished rows, at an element of that chunk. -/
theorem FIN_at (a x : Vec F S512x4096 .f32) (g : Vec F S1x4096 .f32) (y : S512x4096.Idx) (o : ℕ) (h : 32 * ((y 0).val / 32) = o) :
    k0_pay23 (k0_pay18 (win a o)) (win a o) g (win x o) (loc y) = FIN a x g y := by
  unfold FIN; rw [h]

section
variable (𝒱 : Variants) (c : Dev nD) (bd : Option 𝒱.V) (E : Set ℕ) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S128x4096 .f32) (harg8 : arg8.IsWhole) (arg9 : Memref sig .tc .vmem S512x4096 .f32) (harg9 : arg9.IsWhole) (arg10 : Memref sig .tc .vmem S512x4096 .bf16) (harg10 : arg10.IsWhole) (k0_h2 : k0_cond2 i = 1#1) (k0_h4 : k0_cond4 i = 1#1)
  (X2 : BufTy.Contents (Elt F) arg2.view.ty) (X7 : BufTy.Contents (Elt F) arg7.view.ty)

/-- What a trip holds: the block and the norm it reads, the output block. -/
abbrev held2 (f9 : BufTy.Contents (Elt F) arg9.view.ty) : sProp 𝕄G :=
  iprop((arg2.view.loc (c : Thread nD τ) ↦[arg2.view.set]{fullShare} X2) ∗ (arg7.view.loc (c : Thread nD τ) ↦[arg7.view.set]{fullShare} X7) ∗ (arg9.view.loc (c : Thread nD τ) ↦[arg9.view.set]{fullShare} f9))

set_option maxHeartbeats 1000000 in
/-- One trip. -/
theorem trip2 (a : Vec F S512x4096 .f32) (k : Fin k0_t2_loop.trips)
    (f9 : BufTy.Contents (Elt F) arg9.view.ty)
    (h9 : ∀ y, arg9.view.read (Elt F) f9 y = if (y 0).val < 128 * k.val then FIN a (arg2.view.read (Elt F) X2) (arg7.view.read (Elt F) X7) y else a y) :
      held2 (F := F) c arg2 arg7 arg9 X2 X7 f9
      ⊢ wp frame (wpE (defs₀ (F := F)) 𝒱 (c : Thread nD τ) bd) E (k0_t2_body (F := F) i arg2 harg2 arg3 harg3 arg4 harg4 arg5 harg5 arg6 harg6 arg7 harg7 arg8 harg8 arg9 harg9 arg10 harg10 k0_h2 k0_h4 k PUnit.unit)
          (fun _ => (iprop((arg2.view.loc (c : Thread nD τ) ↦[arg2.view.set]{fullShare} X2) ∗ (arg7.view.loc (c : Thread nD τ) ↦[arg7.view.set]{fullShare} X7)
            ∗ (∃ f, (arg9.view.loc (c : Thread nD τ) ↦[arg9.view.set]{fullShare} f) ∗ ⌜∀ y, arg9.view.read (Elt F) f y = if (y 0).val < 128 * (k.val + 1) then FIN a (arg2.view.read (Elt F) X2) (arg7.view.read (Elt F) X7) y else a y⌝)) : sProp 𝕄G)) := by
  have hk : k.val < 4 := Nat.lt_of_lt_of_le k.isLt k0_t2_abs.2.1
  unfold k0_t2_body
  iintro ⟨H2, H7, H9⟩
  sl_exec
  sl_step
  isplitl [H2]; · iexact H2
  isplitl [H7]; · iexact H7
  iexists _; isplitl [H9]; · iexact H9
  ipureintro
  intro y
  sl_unfold_run_names
  have hw : ∀ (r : ℕ), r < 4 → win (arg9.view.read (Elt F) f9) (128 * k.val + 32 * r) = win a (128 * k.val + 32 * r) := fun r hr =>
    win_congr _ (by omega) fun y hy => by rw [h9 y, if_neg (by omega)]
  have e0 := (readAt_rows (off := k0_off3 k (0#32)) arg9.view f9 (k0_off3_inb i k k0_h2 k0_h4 0) _ (off3_0 k)).trans (hw 0 (by omega))
  have x0 := readAt_rows (off := k0_off3 k (0#32)) arg2.view X2 (k0_off3_inb i k k0_h2 k0_h4 0) _ (off3_0 k)
  have e1 := (readAt_rows (off := k0_off3 k (32#32)) arg9.view f9 (k0_off3_inb i k k0_h2 k0_h4 1) _ (off3_1 k)).trans (hw 1 (by omega))
  have x1 := readAt_rows (off := k0_off3 k (32#32)) arg2.view X2 (k0_off3_inb i k k0_h2 k0_h4 1) _ (off3_1 k)
  have e2 := (readAt_rows (off := k0_off3 k (64#32)) arg9.view f9 (k0_off3_inb i k k0_h2 k0_h4 2) _ (off3_2 k)).trans (hw 2 (by omega))
  have x2 := readAt_rows (off := k0_off3 k (64#32)) arg2.view X2 (k0_off3_inb i k k0_h2 k0_h4 2) _ (off3_2 k)
  have e3 := (readAt_rows (off := k0_off3 k (96#32)) arg9.view f9 (k0_off3_inb i k k0_h2 k0_h4 3) _ (off3_3 k)).trans (hw 3 (by omega))
  have x3 := readAt_rows (off := k0_off3 k (96#32)) arg2.view X2 (k0_off3_inb i k k0_h2 k0_h4 3) _ (off3_3 k)
  have eg := View.readAt_full arg7.view X7 inb_S1x4096_S1x4096_0_0
  have R := read_rows4 arg9.view f9 (k0_off3_inb i k k0_h2 k0_h4 0) (k0_off3_inb i k k0_h2 k0_h4 1) (k0_off3_inb i k k0_h2 k0_h4 2) (k0_off3_inb i k k0_h2 k0_h4 3)
      (k0_pay23 (k0_pay18 (arg9.view.readAt (Elt F) (Rect.unit (s := S512x4096) (k0_off3 k 0#32) S32x4096.size (k0_off3_inb i k k0_h2 k0_h4 0)).toLoadRect f9)) (arg9.view.readAt (Elt F) (Rect.unit (s := S512x4096) (k0_off3 k 0#32) S32x4096.size (k0_off3_inb i k k0_h2 k0_h4 0)).toLoadRect f9) (arg7.view.readAt (Elt F) (Rect.unit (s := S1x4096) ![0, 0] S1x4096.size inb_S1x4096_S1x4096_0_0).toLoadRect X7) (arg2.view.readAt (Elt F) (Rect.unit (s := S512x4096) (k0_off3 k 0#32) S32x4096.size (k0_off3_inb i k k0_h2 k0_h4 0)).toLoadRect X2))
      (k0_pay7 (k0_pay24 (k0_pay19 (arg9.view.readAt (Elt F) (Rect.unit (s := S512x4096) (k0_off3 k 32#32) S32x4096.size (k0_off3_inb i k k0_h2 k0_h4 1)).toLoadRect f9)) (arg9.view.readAt (Elt F) (Rect.unit (s := S512x4096) (k0_off3 k 32#32) S32x4096.size (k0_off3_inb i k k0_h2 k0_h4 1)).toLoadRect f9) (arg7.view.readAt (Elt F) (Rect.unit (s := S1x4096) ![0, 0] S1x4096.size inb_S1x4096_S1x4096_0_0).toLoadRect X7)) (arg2.view.readAt (Elt F) (Rect.unit (s := S512x4096) (k0_off3 k 32#32) S32x4096.size (k0_off3_inb i k k0_h2 k0_h4 1)).toLoadRect X2) (FloatOps.ofBits FTy.f32 1056964608#32))
      (k0_pay8 (k0_pay21 (k0_pay20 (arg9.view.readAt (Elt F) (Rect.unit (s := S512x4096) (k0_off3 k 64#32) S32x4096.size (k0_off3_inb i k k0_h2 k0_h4 2)).toLoadRect f9)) (FloatOps.ofBits FTy.f32 1166016512#32)) (arg9.view.readAt (Elt F) (Rect.unit (s := S512x4096) (k0_off3 k 64#32) S32x4096.size (k0_off3_inb i k k0_h2 k0_h4 2)).toLoadRect f9) (arg7.view.readAt (Elt F) (Rect.unit (s := S1x4096) ![0, 0] S1x4096.size inb_S1x4096_S1x4096_0_0).toLoadRect X7) (arg2.view.readAt (Elt F) (Rect.unit (s := S512x4096) (k0_off3 k 64#32) S32x4096.size (k0_off3_inb i k k0_h2 k0_h4 2)).toLoadRect X2))
      (k0_pay9 (k0_pay22 (arg9.view.readAt (Elt F) (Rect.unit (s := S512x4096) (k0_off3 k 96#32) S32x4096.size (k0_off3_inb i k k0_h2 k0_h4 3)).toLoadRect f9)) (arg9.view.readAt (Elt F) (Rect.unit (s := S512x4096) (k0_off3 k 96#32) S32x4096.size (k0_off3_inb i k k0_h2 k0_h4 3)).toLoadRect f9) (arg7.view.readAt (Elt F) (Rect.unit (s := S1x4096) ![0, 0] S1x4096.size inb_S1x4096_S1x4096_0_0).toLoadRect X7) (arg2.view.readAt (Elt F) (Rect.unit (s := S512x4096) (k0_off3 k 96#32) S32x4096.size (k0_off3_inb i k k0_h2 k0_h4 3)).toLoadRect X2))
      (128 * k.val) (by omega) (off3_0 k) (off3_1 k) (off3_2 k) (off3_3 k) (FIN a (arg2.view.read (Elt F) X2) (arg7.view.read (Elt F) X7))
      (fun y hy => by rw [e0, x0, eg]; exact FIN_at a _ _ y _ (by omega))
      (fun y hy => by rw [e1, x1, eg]; exact FIN_at a _ _ y _ (by omega))
      (fun y hy => by rw [e2, x2, eg]; exact FIN_at a _ _ y _ (by omega))
      (fun y hy => by rw [e3, x3, eg]; exact FIN_at a _ _ y _ (by omega)) y
  refine R.trans ?_
  by_cases hc : 128 * k.val ≤ (y 0).val
  · by_cases hd : (y 0).val < 128 * k.val + 128
    · rw [if_pos ⟨hc, hd⟩, if_pos (by omega)]
    · rw [if_neg (by omega), if_neg (by omega), h9 y, if_neg (by omega)]
  · rw [if_neg (by omega), if_pos (by omega), h9 y, if_pos (by omega)]

/-- What the output block holds before trip `k`, of the contents `G` the loop finds there. -/
def C9 (G : BufTy.Contents (Elt F) arg9.view.ty) : ℕ → BufTy.Contents (Elt F) arg9.view.ty
  | 0 => G
  | k + 1 => harg9.unread (fun y => if (y 0).val < 128 * (k + 1) then FIN (arg9.view.read (Elt F) G) (arg2.view.read (Elt F) X2) (arg7.view.read (Elt F) X7) y else arg9.view.read (Elt F) G y)

theorem read_C9 (G : BufTy.Contents (Elt F) arg9.view.ty) (k : ℕ) (y : S512x4096.Idx) :
    arg9.view.read (Elt F) (C9 arg2 arg7 arg9 harg9 X2 X7 G k) y
      = if (y 0).val < 128 * k then FIN (arg9.view.read (Elt F) G) (arg2.view.read (Elt F) X2) (arg7.view.read (Elt F) X7) y else arg9.view.read (Elt F) G y := by
  cases k with
  | zero => rw [if_neg (by omega)]; rfl
  | succ k => exact congrFun (harg9.read_unread _) y

set_option warn.classDefReducibility false in
/-- The loop by its invariant. -/
@[sl_loop] def loop2 (G9 : BufTy.Contents (Elt F) arg9.view.ty) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 k0_h2 k0_h4 where
  inv k _ := (iprop((arg2.view.loc (c : Thread nD τ) ↦[arg2.view.set]{fullShare} X2) ∗ (arg7.view.loc (c : Thread nD τ) ↦[arg7.view.set]{fullShare} X7) ∗ (arg9.view.loc (c : Thread nD τ) ↦[arg9.view.set]{fullShare} C9 arg2 arg7 arg9 harg9 X2 X7 G9 k)) : sProp 𝕄G)
  step k acc := by
    iintro ⟨H2, H7, H9⟩
    iapply (wp_wand_r Idealize.ShloMosaic.frame (wpE (defs₀ (F := F)) 𝒱 (c : Thread nD τ) bd) E)
    isplitl [H2 H7 H9]
    · iapply (trip2 (F := F) 𝒱 c bd E i arg2 harg2 arg3 harg3 arg4 harg4 arg5 harg5 arg6 harg6 arg7 harg7 arg8 harg8 arg9 harg9 arg10 harg10 k0_h2 k0_h4 X2 X7 (arg9.view.read (Elt F) G9) k _ (read_C9 arg2 arg7 arg9 harg9 X2 X7 G9 k.val))
      isplitl [H2]; · iexact H2
      isplitl [H7]; · iexact H7
      iexact H9
    · iintro %_ ⟨H2, H7, ⟨%f9, H9, %h9⟩⟩
      isplitl [H2]; · iexact H2
      isplitl [H7]; · iexact H7
      have e9 : f9 = C9 arg2 arg7 arg9 harg9 X2 X7 G9 (k.val + 1) := harg9.eq_unread (funext h9)
      rw [← e9]; iexact H9
end

end Cert.FfnIdeal.Body
-- ==== Proof.FfnV.Run.lean ====
/- The kernel's body at one grid point, in its five cases. -/
module

public import proofs.«01_k».proof.Proof.FfnV.Close
public import proofs.«01_k».proof.Proof.Gen.FfnIdeal.Points
public import Idealize.ShloMosaic.Lib.Pipeline.FrameBody

@[expose] public section

set_option maxRecDepth 16384

noncomputable section

namespace Cert.FfnIdeal.Body

open Idealize.ShloMosaic Idealize.ShloMosaic.TcCoe Idealize.ShloMosaic.Tactic Cert.FfnIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The store of 128 rows replaces those rows. -/
theorem read_first (v : View sig .tc .vmem S512x4096 .f32) (f : v.ty.Contents (Elt F)) {off : Fin 2 → ℕ} (inb : ∀ a, off a + S128x4096.size a ≤ S512x4096.size a)
    (n : ℕ) (h : off = ![128 * n, 0]) (w : Vec F S128x4096 .f32) :
    v.read (Elt F) (v.writes (Elt F) f [⟨Rect.unit (s := S512x4096) off S128x4096.size inb, w⟩]) = FST n w (v.read (Elt F) f) := by
  funext y
  unfold FST
  by_cases c : 128 * n ≤ (y 0).val ∧ (y 0).val < 128 * n + 128
  · rw [if_pos c]
    exact View.read_writes_cons_rows_of_mem v f inb w _ y (ix2 ⟨(y 0).val % 128, Nat.mod_lt _ (by decide)⟩ (y 1)) h (by show (y 0).val = 128 * n + (y 0).val % 128; omega) rfl
  · rw [if_neg c, View.read_writes_cons_rows_of_not_mem v f inb w _ y h (W := 128) rfl (by omega)]
    rfl

theorem acc_congr {xn xn' : Vec F S512x4096 .bf16} {wg wg' wu wu' : Vec F S4096x256 .bf16} {a a' : Vec F S512x4096 .f32} {wd wd' : Vec F S256x4096 .bf16}
    (e1 : xn = xn') (e2 : wg = wg') (e3 : wu = wu') (e4 : a = a') (e5 : wd = wd') : k0_pay6 xn wg wu a wd = k0_pay6 xn' wg' wu' a' wd' := by
  rw [e1, e2, e3, e4, e5]

theorem all_rows1 {e : EltTy} (v : View sig .tc .vmem S512x4096 e) (f : v.ty.Contents (Elt F)) (G : Vec F S512x4096 e)
    (h : ∀ y : S512x4096.Idx, (y 0).val < 128 * k0_t1_loop.trips → v.read (Elt F) f y = G y) : v.read (Elt F) f = G := by
  funext y
  have hy : (y 0).val < 512 := (y 0).isLt
  exact h y (by rw [trips1_eq]; omega)

/-- The store of the accumulated block. -/
theorem read_acc (v : View sig .tc .vmem S512x4096 .f32) (f : v.ty.Contents (Elt F)) (w : Vec F S512x4096 .f32) :
    v.read (Elt F) (v.writes (Elt F) f [⟨(Rect.unit (s := S512x4096) ![0, 0] S512x4096.size inb_S512x4096_S512x4096_0_0), w⟩]) = w := View.read_writes_full v f inb_S512x4096_S512x4096_0_0 w []

theorem read_fin (arg2 : Memref sig .tc .vmem S512x4096 .f32) (arg7 : Memref sig .tc .vmem S1x4096 .f32) (arg9 : Memref sig .tc .vmem S512x4096 .f32) (harg9 : arg9.IsWhole)
    (X2 : BufTy.Contents (Elt F) arg2.view.ty) (X7 : BufTy.Contents (Elt F) arg7.view.ty) (G : BufTy.Contents (Elt F) arg9.view.ty)
    (a x : Vec F S512x4096 .f32) (g : Vec F S1x4096 .f32) (ha : arg9.view.read (Elt F) G = a) (hx : arg2.view.read (Elt F) X2 = x) (hg : arg7.view.read (Elt F) X7 = g) :
    arg9.view.read (Elt F) (C9 arg2 arg7 arg9 harg9 X2 X7 G k0_t2_loop.trips) = FIN a x g := by
  subst ha hx hg
  funext y
  have hy : (y 0).val < 512 := (y 0).isLt
  rw [read_C9, if_pos (by rw [trips2_eq]; omega)]

section
variable (c : Dev nD) (i : grid0.Coords) (arg2 : Memref sig .tc .vmem S512x4096 .f32) (harg2 : arg2.IsWhole) (arg3 : Memref sig .tc .vmem S1x4096 .f32) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S256x4096 .bf16) (harg6 : arg6.IsWhole) (arg7 : Memref sig .tc .vmem S1x4096 .f32) (harg7 : arg7.IsWhole) (arg8 : Memref sig .tc .vmem S128x4096 .f32) (harg8 : arg8.IsWhole) (arg9 : Memref sig .tc .vmem S512x4096 .f32) (harg9 : arg9.IsWhole) (arg10 : Memref sig .tc .vmem S512x4096 .bf16) (harg10 : arg10.IsWhole)

/-- The blocks and the output block held, with what else is. -/
abbrev holds (y0 : Vec F S512x4096 .f32) (y1 : Vec F S1x4096 .f32) (y2 : Vec F S4096x256 .bf16) (y3 : Vec F S4096x256 .bf16) (y4 : Vec F S256x4096 .bf16) (y5 : Vec F S1x4096 .f32) (y6 : Vec F S128x4096 .f32) (y7 : Vec F S512x4096 .f32) (R : sProp 𝕄G) : sProp 𝕄G :=
  iprop(owns (c : Thread nD τ) arg2 fullShare y0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ owns (c : Thread nD τ) arg8 fullShare y6 ∗ owns (c : Thread nD τ) arg9 fullShare y7 ∗ R)

set_option maxHeartbeats 1000000 in
/-- The first row block, its first four points: 128 rows of the output block are filled. -/
theorem runA (hc0 : k0_cond1 i = 1#1) (hc1 : ¬k0_cond2 i = 1#1)
    (x0 : Vec F S512x4096 .f32) (x1 : Vec F S1x4096 .f32) (x2 : Vec F S4096x256 .bf16) (x3 : Vec F S4096x256 .bf16) (x4 : Vec F S256x4096 .bf16) (x5 : Vec F S1x4096 .f32) (x6 : Vec F S128x4096 .f32) (Y : Vec F S512x4096 .f32) (S : Vec F S512x4096 .bf16) :
      ∀ (E : Set ℕ) (K : PUnit → sProp 𝕄G),
        (holds c arg2 arg3 arg4 arg5 arg6 arg7 arg8 arg9 x0 x1 x2 x3 x4 x5 x6 Y iprop(owns (c : Thread nD τ) arg10 fullShare S
            ∗ ((holds c arg2 arg3 arg4 arg5 arg6 arg7 arg8 arg9 x0 x1 x2 x3 x4 x5 x6 (FST (i 1).val x6 Y) iprop(owns (c : Thread nD τ) arg10 fullShare S)) -∗ K ⟨⟩)))
          ⊢ wp frame (wpE (defs₀ (F := F)) Variants.none c none) E (cc0_ffn i arg2 harg2 arg3 harg3 arg4 harg4 arg5 harg5 arg6 harg6 arg7 harg7 arg8 harg8 arg9 harg9 arg10 harg10) K := by
    intro E K
    simp only [cc0_ffn_eq_skeleton]; unfold cc0_ffn_skel
    unfold holds owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      sl_unfold_run_names
      rw [read_first _ _ _ (i 1).val (k0_off1_eq i), harg9.read_unread, View.readAt_full, harg8.read_unread]
    iexists _; isplitr; swap; · iexact H8
    ipureintro
    exact harg10.read_unread _

set_option maxHeartbeats 1000000 in
/-- The first row block, its other points: nothing. -/
theorem runB (hc0 : ¬k0_cond1 i = 1#1) (hc1 : ¬k0_cond2 i = 1#1)
    (x0 : Vec F S512x4096 .f32) (x1 : Vec F S1x4096 .f32) (x2 : Vec F S4096x256 .bf16) (x3 : Vec F S4096x256 .bf16) (x4 : Vec F S256x4096 .bf16) (x5 : Vec F S1x4096 .f32) (x6 : Vec F S128x4096 .f32) (Y : Vec F S512x4096 .f32) (S : Vec F S512x4096 .bf16) :
      ∀ (E : Set ℕ) (K : PUnit → sProp 𝕄G),
        (holds c arg2 arg3 arg4 arg5 arg6 arg7 arg8 arg9 x0 x1 x2 x3 x4 x5 x6 Y iprop(owns (c : Thread nD τ) arg10 fullShare S
            ∗ ((holds c arg2 arg3 arg4 arg5 arg6 arg7 arg8 arg9 x0 x1 x2 x3 x4 x5 x6 Y iprop(owns (c : Thread nD τ) arg10 fullShare S)) -∗ K ⟨⟩)))
          ⊢ wp frame (wpE (defs₀ (F := F)) Variants.none c none) E (cc0_ffn i arg2 harg2 arg3 harg3 arg4 harg4 arg5 harg5 arg6 harg6 arg7 harg7 arg8 harg8 arg9 harg9 arg10 harg10) K := by
    intro E K
    simp only [cc0_ffn_eq_skeleton]; unfold cc0_ffn_skel
    unfold holds owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      exact harg9.read_unread _
    iexists _; isplitr; swap; · iexact H8
    ipureintro
    exact harg10.read_unread _

set_option maxHeartbeats 1000000 in
/-- The first point of a later row block. -/
theorem runC (hc0 : ¬k0_cond1 i = 1#1) (hc1 : k0_cond2 i = 1#1) (hc2 : k0_cond3 i = 1#1) (hc3 : ¬k0_cond4 i = 1#1)
    (x0 : Vec F S512x4096 .f32) (x1 : Vec F S1x4096 .f32) (x2 : Vec F S4096x256 .bf16) (x3 : Vec F S4096x256 .bf16) (x4 : Vec F S256x4096 .bf16) (x5 : Vec F S1x4096 .f32) (x6 : Vec F S128x4096 .f32) (Y : Vec F S512x4096 .f32) (S : Vec F S512x4096 .bf16) :
      ∀ (E : Set ℕ) (K : PUnit → sProp 𝕄G),
        (holds c arg2 arg3 arg4 arg5 arg6 arg7 arg8 arg9 x0 x1 x2 x3 x4 x5 x6 Y iprop(owns (c : Thread nD τ) arg10 fullShare S
            ∗ ((holds c arg2 arg3 arg4 arg5 arg6 arg7 arg8 arg9 x0 x1 x2 x3 x4 x5 x6 (ACC (XN x0 x1) x2 x3 ZERO x4) iprop(owns (c : Thread nD τ) arg10 fullShare (XN x0 x1))) -∗ K ⟨⟩)))
          ⊢ wp frame (wpE (defs₀ (F := F)) Variants.none c none) E (cc0_ffn i arg2 harg2 arg3 harg3 arg4 harg4 arg5 harg5 arg6 harg6 arg7 harg7 arg8 harg8 arg9 harg9 arg10 harg10) K := by
    intro E K
    simp only [cc0_ffn_eq_skeleton]; unfold cc0_ffn_skel
    unfold holds owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      sl_unfold_run_names
      refine (read_acc arg9.view _ _).trans ?_
      exact acc_congr ((View.readAt_full _ _ _).trans (all_rows1 arg10.view _ (XN x0 x1) (by rw [← harg2.read_unread x0, ← harg3.read_unread x1]; assumption))) ((View.readAt_full _ _ _).trans (harg4.read_unread _)) ((View.readAt_full _ _ _).trans (harg5.read_unread _))
        ((View.readAt_full _ _ _).trans (all_rows1 arg9.view _ ZERO (by assumption))) ((View.readAt_full _ _ _).trans (harg6.read_unread _))
    iexists _; isplitr; swap; · iexact H8
    ipureintro
    exact (all_rows1 arg10.view _ (XN x0 x1) (by rw [← harg2.read_unread x0, ← harg3.read_unread x1]; assumption))

set_option maxHeartbeats 1000000 in
/-- A middle point of a later row block. -/
theorem runD (hc0 : ¬k0_cond1 i = 1#1) (hc1 : k0_cond2 i = 1#1) (hc2 : ¬k0_cond3 i = 1#1) (hc3 : ¬k0_cond4 i = 1#1)
    (x0 : Vec F S512x4096 .f32) (x1 : Vec F S1x4096 .f32) (x2 : Vec F S4096x256 .bf16) (x3 : Vec F S4096x256 .bf16) (x4 : Vec F S256x4096 .bf16) (x5 : Vec F S1x4096 .f32) (x6 : Vec F S128x4096 .f32) (Y : Vec F S512x4096 .f32) (S : Vec F S512x4096 .bf16) :
      ∀ (E : Set ℕ) (K : PUnit → sProp 𝕄G),
        (holds c arg2 arg3 arg4 arg5 arg6 arg7 arg8 arg9 x0 x1 x2 x3 x4 x5 x6 Y iprop(owns (c : Thread nD τ) arg10 fullShare S
            ∗ ((holds c arg2 arg3 arg4 arg5 arg6 arg7 arg8 arg9 x0 x1 x2 x3 x4 x5 x6 (ACC S x2 x3 Y x4) iprop(owns (c : Thread nD τ) arg10 fullShare S)) -∗ K ⟨⟩)))
          ⊢ wp frame (wpE (defs₀ (F := F)) Variants.none c none) E (cc0_ffn i arg2 harg2 arg3 harg3 arg4 harg4 arg5 harg5 arg6 harg6 arg7 harg7 arg8 harg8 arg9 harg9 arg10 harg10) K := by
    intro E K
    simp only [cc0_ffn_eq_skeleton]; unfold cc0_ffn_skel
    unfold holds owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      sl_unfold_run_names
      refine (read_acc arg9.view _ _).trans ?_
      exact acc_congr ((View.readAt_full _ _ _).trans (harg10.read_unread _)) ((View.readAt_full _ _ _).trans (harg4.read_unread _)) ((View.readAt_full _ _ _).trans (harg5.read_unread _))
        ((View.readAt_full _ _ _).trans (harg9.read_unread _)) ((View.readAt_full _ _ _).trans (harg6.read_unread _))
    iexists _; isplitr; swap; · iexact H8
    ipureintro
    exact harg10.read_unread _

set_option maxHeartbeats 1000000 in
/-- The last point of a later row block. -/
theorem runE (hc0 : ¬k0_cond1 i = 1#1) (hc1 : k0_cond2 i = 1#1) (hc2 : ¬k0_cond3 i = 1#1) (hc3 : k0_cond4 i = 1#1)
    (x0 : Vec F S512x4096 .f32) (x1 : Vec F S1x4096 .f32) (x2 : Vec F S4096x256 .bf16) (x3 : Vec F S4096x256 .bf16) (x4 : Vec F S256x4096 .bf16) (x5 : Vec F S1x4096 .f32) (x6 : Vec F S128x4096 .f32) (Y : Vec F S512x4096 .f32) (S : Vec F S512x4096 .bf16) :
      ∀ (E : Set ℕ) (K : PUnit → sProp 𝕄G),
        (holds c arg2 arg3 arg4 arg5 arg6 arg7 arg8 arg9 x0 x1 x2 x3 x4 x5 x6 Y iprop(owns (c : Thread nD τ) arg10 fullShare S
            ∗ ((holds c arg2 arg3 arg4 arg5 arg6 arg7 arg8 arg9 x0 x1 x2 x3 x4 x5 x6 (FIN (ACC S x2 x3 Y x4) x0 x5) iprop(owns (c : Thread nD τ) arg10 fullShare S)) -∗ K ⟨⟩)))
          ⊢ wp frame (wpE (defs₀ (F := F)) Variants.none c none) E (cc0_ffn i arg2 harg2 arg3 harg3 arg4 harg4 arg5 harg5 arg6 harg6 arg7 harg7 arg8 harg8 arg9 harg9 arg10 harg10) K := by
    intro E K
    simp only [cc0_ffn_eq_skeleton]; unfold cc0_ffn_skel
    unfold holds owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; swap; · iexact H7
      ipureintro
      refine read_fin arg2 arg7 arg9 harg9 _ _ _ _ _ _ ?_ (harg2.read_unread _) (harg7.read_unread _)
      sl_unfold_run_names
      refine (read_acc arg9.view _ _).trans ?_
      exact acc_congr ((View.readAt_full _ _ _).trans (harg10.read_unread _)) ((View.readAt_full _ _ _).trans (harg4.read_unread _)) ((View.readAt_full _ _ _).trans (harg5.read_unread _))
        ((View.readAt_full _ _ _).trans (harg9.read_unread _)) ((View.readAt_full _ _ _).trans (harg6.read_unread _))
    iexists _; isplitr; swap; · iexact H8
    ipureintro
    exact harg10.read_unread _
end

end Cert.FfnIdeal.Body
-- ==== Proof.FfnV.State.lean ====
/- What the scratch array holds between grid points, what a point makes of its output block, and the launch's data: the
   output block is constrained by a relation, since its first contents are whatever the buffer held. -/
module

public import proofs.«01_k».proof.Proof.FfnV.Run
public import proofs.«01_k».proof.Proof.Gen.FfnIdeal.Frame
public import Idealize.ShloMosaic.Lib.WordCmp
public import Idealize.ShloMosaic.Lib.Claim

@[expose] public section

set_option maxRecDepth 16384

noncomputable section

namespace Cert.FfnIdeal.Body

open Idealize.ShloMosaic Idealize.ShloMosaic.TcCoe Idealize.ShloMosaic.Tactic Cert.FfnIdeal.Gen Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

theorem first_iff : ∀ t : Fin cfg0.N, k0_cond1 (grid0.coords t) = 1#1 ↔ t.val < 4 :=
  (by decide +kernel : ∀ t : Fin grid0.N, k0_cond1 (grid0.coords t) = 1#1 ↔ t.val < 4)
theorem later_iff : ∀ t : Fin cfg0.N, k0_cond2 (grid0.coords t) = 1#1 ↔ 43 ≤ t.val :=
  (by decide +kernel : ∀ t : Fin grid0.N, k0_cond2 (grid0.coords t) = 1#1 ↔ 43 ≤ t.val)
theorem opens_iff (t : Fin cfg0.N) : k0_cond3 (grid0.coords t) = 1#1 ↔ t.val % 43 = 0 := by
  have ht : t.val < 688 := Nat.lt_of_lt_of_eq t.isLt N_0
  have e1 : (grid0.coords t 1).val = t.val / 1 % 43 := Pipeline.Grid.coords_val t 1 (by decide) rfl
  simp only [k0_cond3, e1]
  word_cmp
theorem closes_iff (t : Fin cfg0.N) : k0_cond4 (grid0.coords t) = 1#1 ↔ t.val % 43 = 42 := by
  have ht : t.val < 688 := Nat.lt_of_lt_of_eq t.isLt N_0
  have e1 : (grid0.coords t 1).val = t.val / 1 % 43 := Pipeline.Grid.coords_val t 1 (by decide) rfl
  simp only [k0_cond4, e1]
  word_cmp
theorem inner_val (t : Fin cfg0.N) : (grid0.coords t 1).val = t.val % 43 :=
  (Pipeline.Grid.coords_val t 1 (by decide) rfl : _ = t.val / 1 % 43).trans (by rw [Nat.div_one])

/-- The first point of a point's row block. -/
def lead (n : ℕ) (h : n < cfg0.N) : Fin cfg0.N := ⟨43 * (n / 43), by omega⟩

theorem lead_eq (n k : ℕ) (hn : n < cfg0.N) (hk : k < cfg0.N) (e : n / 43 = k / 43) : lead n hn = lead k hk := by
  unfold lead; exact Fin.ext (by show 43 * (n / 43) = 43 * (k / 43); rw [e])
theorem lead_self (t : Fin cfg0.N) (h : t.val % 43 = 0) : lead t.val t.isLt = t :=
  Fin.ext (by show 43 * (t.val / 43) = t.val; omega)

/-- The normalised rows of the row block of point `n`. -/
def xnAt (c : Dev nD) (n : ℕ) (h : n < cfg0.N) : Vec F S512x4096 .bf16 := XN (iblk m c 0 (lead n h)) (iblk m c 1 (lead n h))

/-- What point `t` makes of an output block that held `Y`. -/
def stepAt (c : Dev nD) (t : Fin cfg0.N) (Y : Vec F S512x4096 .f32) : Vec F S512x4096 .f32 :=
  if t.val < 4 then FST t.val (iblk m c 6 t) Y
  else if t.val < 43 then Y
  else if t.val % 43 = 0 then ACC (xnAt m c t.val t.isLt) (iblk m c 2 t) (iblk m c 3 t) ZERO (iblk m c 4 t)
  else if t.val % 43 = 42 then FIN (ACC (xnAt m c t.val t.isLt) (iblk m c 2 t) (iblk m c 3 t) Y (iblk m c 4 t)) (iblk m c 0 t) (iblk m c 5 t)
  else ACC (xnAt m c t.val t.isLt) (iblk m c 2 t) (iblk m c 3 t) Y (iblk m c 4 t)

abbrev st0 (t : Fin cfg0.N) : Memref sig .tc .vmem S512x4096 .f32 := win0_0.stage (cfg0.slots t 0)
abbrev st1 (t : Fin cfg0.N) : Memref sig .tc .vmem S1x4096 .f32 := win0_1.stage (cfg0.slots t 1)
abbrev st2 (t : Fin cfg0.N) : Memref sig .tc .vmem S4096x256 .bf16 := win0_2.stage (cfg0.slots t 2)
abbrev st3 (t : Fin cfg0.N) : Memref sig .tc .vmem S4096x256 .bf16 := win0_3.stage (cfg0.slots t 3)
abbrev st4 (t : Fin cfg0.N) : Memref sig .tc .vmem S256x4096 .bf16 := win0_4.stage (cfg0.slots t 4)
abbrev st5 (t : Fin cfg0.N) : Memref sig .tc .vmem S1x4096 .f32 := win0_5.stage (cfg0.slots t 5)
abbrev st6 (t : Fin cfg0.N) : Memref sig .tc .vmem S128x4096 .f32 := win0_6.stage (cfg0.slots t 6)
abbrev st7 (t : Fin cfg0.N) : Memref sig .tc .vmem S512x4096 .f32 := win0_7.stage (cfg0.slots t 7)
abbrev sc0 : Memref sig .tc .vmem S512x4096 .bf16 := Memref.whole cc0_scratch0

/-- The launch's scratch array, at any contents, and the generator register. -/
theorem rest_eq (c : Dev nD) : (Pipeline.ΦA spec0 c : sProp 𝕄G)
    = iprop((∃ d, owns (c : Thread nD τ) sc0 fullShare d) ∗ (∃ r, prngReg c r)) := by
  unfold Pipeline.ΦA; rw [scopedRest0_eq]; simp only [sc0, owns_whole]; rfl

/-- The scratch array before position `n`. -/
def carried (c : Dev nD) (n : ℕ) (hn : n ≤ cfg0.N) : sProp 𝕄G :=
  if h : 43 < n then iprop(owns (c : Thread nD τ) sc0 fullShare (xnAt m c (n - 1) (by omega)) ∗ (∃ r, prngReg c r)) else Pipeline.ΦA spec0 c

theorem carried_low (c : Dev nD) (n : ℕ) (h : n ≤ cfg0.N) (hz : n ≤ 43) : carried m c n h = Pipeline.ΦA spec0 c := by
  unfold carried; rw [dif_neg (by omega)]
theorem carried_high (c : Dev nD) (n k : ℕ) (h : n ≤ cfg0.N) (hk : k < cfg0.N) (hz : 43 < n) (e : (n - 1) / 43 = k / 43) : carried m c n h
    = iprop(owns (c : Thread nD τ) sc0 fullShare (xnAt m c k hk) ∗ (∃ r, prngReg c r)) := by
  unfold carried; rw [dif_pos hz]
  have : xnAt m c (n - 1) (by omega) = xnAt m c k hk := by unfold xnAt; rw [lead_eq (n - 1) k (by omega) hk e]
  rw [this]

/-- Whatever the scratch array holds, it holds something. -/
theorem carried_any (c : Dev nD) (n : ℕ) (h : n ≤ cfg0.N) : carried m c n h ⊢ Pipeline.ΦA spec0 c := by
  by_cases hz : 43 < n
  · rw [carried_high m c n (n - 1) h (by omega) hz rfl, rest_eq]
    iintro ⟨H0, Hg⟩
    isplitl [H0]; · iexists _; iexact H0
    iexact Hg
  · rw [carried_low m c n h (by omega)]

/-- The launch's data, the output block aside. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
  Φ t := carried m c t.val (Nat.le_of_lt_succ t.isLt)
  q _ := fullShare
  owed _ := 0

theorem data_A (c : Dev nD) (w : Fin cfg0.W) : (data m 0 c).A w = V m c (Pipeline.arrRef spec0 w) := by
  dsimp only [data]
theorem data_carried (c : Dev nD) (t : Fin cfg0.N) : (data m 0 c).Φ t.castSucc = carried m c t.val (Nat.le_of_lt t.isLt) := by
  dsimp only [data]; exact Pipeline.Dat.Φ_castSucc (carried m c) t
theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = iblk m c 4 t := by dsimp only [data]
theorem left5 (c : Dev nD) (t : Fin cfg0.N) : (data m 0 c).after 5 t = iblk m c 5 t := by dsimp only [data]
theorem left6 (c : Dev nD) (t : Fin cfg0.N) : (data m 0 c).after 6 t = iblk m c 6 t := by dsimp only [data]
theorem found0 (c : Dev nD) (t : Fin cfg0.N) (d) : (data m 0 c).before 0 t d = iblk m c 0 t := before0_0_of m (data m 0 c) (data_A m c 0) (left0 m c) t d
theorem found1 (c : Dev nD) (t : Fin cfg0.N) (d) : (data m 0 c).before 1 t d = iblk m c 1 t := before0_1_of m (data m 0 c) (data_A m c 1) (left1 m c) t d
theorem found2 (c : Dev nD) (t : Fin cfg0.N) (d) : (data m 0 c).before 2 t d = iblk m c 2 t := before0_2_of m (data m 0 c) (data_A m c 2) (left2 m c) t d
theorem found3 (c : Dev nD) (t : Fin cfg0.N) (d) : (data m 0 c).before 3 t d = iblk m c 3 t := before0_3_of m (data m 0 c) (data_A m c 3) (left3 m c) t d
theorem found4 (c : Dev nD) (t : Fin cfg0.N) (d) : (data m 0 c).before 4 t d = iblk m c 4 t := before0_4_of m (data m 0 c) (data_A m c 4) (left4 m c) t d
theorem found5 (c : Dev nD) (t : Fin cfg0.N) (d) : (data m 0 c).before 5 t d = iblk m c 5 t := before0_5_of m (data m 0 c) (data_A m c 5) (left5 m c) t d
theorem found6 (c : Dev nD) (t : Fin cfg0.N) (d) : (data m 0 c).before 6 t d = iblk m c 6 t := before0_6_of m (data m 0 c) (data_A m c 6) (left6 m c) t d

/-- The relation the output block obeys. -/
def relates (c : Dev nD) : (w : Fin cfg0.W) → Option (Fin cfg0.N → (Y X : (cfg0.win w).block.Idx → Elt F (cfg0.win w).elt) → Prop)
  | ⟨7, _⟩ => some fun t Y X => X = stepAt m c t Y
  | _ => none

/-- The launch's data. -/
def rdata (c : Dev nD) : RDat τ (Elt F) Unit ℕ (UR sig nD τ) ℕ cfg0 c := (data m 0 c).toR.override (relates m c)

theorem rdata_A (c : Dev nD) (w : Fin cfg0.W) : (rdata m c).A w = V m c (Pipeline.arrRef spec0 w) := data_A m c w

theorem after7 (c : Dev nD) : (rdata m c).after 7 = fun t Y X => X = stepAt m c t Y :=
  RDat.override_after_of_eq_some (data m 0 c).toR (ovr := relates m c) (w := 7) rfl
theorem finds0 (c : Dev nD) (t : Fin cfg0.N) (X) (h : (rdata m c).Finds 0 t X) : X = iblk m c 0 t := by
  obtain ⟨d, e⟩ := (data m 0 c).toR_finds 0 t X ((RDat.override_finds (data m 0 c).toR (ovr := relates m c) (w := 0) rfl t X).mp h)
  exact e.trans (found0 m c t d)
theorem leaves0 (c : Dev nD) (t : Fin cfg0.N) (Y) : (rdata m c).after 0 t Y (iblk m c 0 t) := by
  have e : (rdata m c).after 0 = (data m 0 c).toR.after 0 := RDat.override_after_of_eq_none (data m 0 c).toR (ovr := relates m c) (w := 0) rfl
  rw [e]
  show iblk m c 0 t = (data m 0 c).after 0 t
  exact (left0 m c t).symm
theorem finds1 (c : Dev nD) (t : Fin cfg0.N) (X) (h : (rdata m c).Finds 1 t X) : X = iblk m c 1 t := by
  obtain ⟨d, e⟩ := (data m 0 c).toR_finds 1 t X ((RDat.override_finds (data m 0 c).toR (ovr := relates m c) (w := 1) rfl t X).mp h)
  exact e.trans (found1 m c t d)
theorem leaves1 (c : Dev nD) (t : Fin cfg0.N) (Y) : (rdata m c).after 1 t Y (iblk m c 1 t) := by
  have e : (rdata m c).after 1 = (data m 0 c).toR.after 1 := RDat.override_after_of_eq_none (data m 0 c).toR (ovr := relates m c) (w := 1) rfl
  rw [e]
  show iblk m c 1 t = (data m 0 c).after 1 t
  exact (left1 m c t).symm
theorem finds2 (c : Dev nD) (t : Fin cfg0.N) (X) (h : (rdata m c).Finds 2 t X) : X = iblk m c 2 t := by
  obtain ⟨d, e⟩ := (data m 0 c).toR_finds 2 t X ((RDat.override_finds (data m 0 c).toR (ovr := relates m c) (w := 2) rfl t X).mp h)
  exact e.trans (found2 m c t d)
theorem leaves2 (c : Dev nD) (t : Fin cfg0.N) (Y) : (rdata m c).after 2 t Y (iblk m c 2 t) := by
  have e : (rdata m c).after 2 = (data m 0 c).toR.after 2 := RDat.override_after_of_eq_none (data m 0 c).toR (ovr := relates m c) (w := 2) rfl
  rw [e]
  show iblk m c 2 t = (data m 0 c).after 2 t
  exact (left2 m c t).symm
theorem finds3 (c : Dev nD) (t : Fin cfg0.N) (X) (h : (rdata m c).Finds 3 t X) : X = iblk m c 3 t := by
  obtain ⟨d, e⟩ := (data m 0 c).toR_finds 3 t X ((RDat.override_finds (data m 0 c).toR (ovr := relates m c) (w := 3) rfl t X).mp h)
  exact e.trans (found3 m c t d)
theorem leaves3 (c : Dev nD) (t : Fin cfg0.N) (Y) : (rdata m c).after 3 t Y (iblk m c 3 t) := by
  have e : (rdata m c).after 3 = (data m 0 c).toR.after 3 := RDat.override_after_of_eq_none (data m 0 c).toR (ovr := relates m c) (w := 3) rfl
  rw [e]
  show iblk m c 3 t = (data m 0 c).after 3 t
  exact (left3 m c t).symm
theorem finds4 (c : Dev nD) (t : Fin cfg0.N) (X) (h : (rdata m c).Finds 4 t X) : X = iblk m c 4 t := by
  obtain ⟨d, e⟩ := (data m 0 c).toR_finds 4 t X ((RDat.override_finds (data m 0 c).toR (ovr := relates m c) (w := 4) rfl t X).mp h)
  exact e.trans (found4 m c t d)
theorem leaves4 (c : Dev nD) (t : Fin cfg0.N) (Y) : (rdata m c).after 4 t Y (iblk m c 4 t) := by
  have e : (rdata m c).after 4 = (data m 0 c).toR.after 4 := RDat.override_after_of_eq_none (data m 0 c).toR (ovr := relates m c) (w := 4) rfl
  rw [e]
  show iblk m c 4 t = (data m 0 c).after 4 t
  exact (left4 m c t).symm
theorem finds5 (c : Dev nD) (t : Fin cfg0.N) (X) (h : (rdata m c).Finds 5 t X) : X = iblk m c 5 t := by
  obtain ⟨d, e⟩ := (data m 0 c).toR_finds 5 t X ((RDat.override_finds (data m 0 c).toR (ovr := relates m c) (w := 5) rfl t X).mp h)
  exact e.trans (found5 m c t d)
theorem leaves5 (c : Dev nD) (t : Fin cfg0.N) (Y) : (rdata m c).after 5 t Y (iblk m c 5 t) := by
  have e : (rdata m c).after 5 = (data m 0 c).toR.after 5 := RDat.override_after_of_eq_none (data m 0 c).toR (ovr := relates m c) (w := 5) rfl
  rw [e]
  show iblk m c 5 t = (data m 0 c).after 5 t
  exact (left5 m c t).symm
theorem finds6 (c : Dev nD) (t : Fin cfg0.N) (X) (h : (rdata m c).Finds 6 t X) : X = iblk m c 6 t := by
  obtain ⟨d, e⟩ := (data m 0 c).toR_finds 6 t X ((RDat.override_finds (data m 0 c).toR (ovr := relates m c) (w := 6) rfl t X).mp h)
  exact e.trans (found6 m c t d)
theorem leaves6 (c : Dev nD) (t : Fin cfg0.N) (Y) : (rdata m c).after 6 t Y (iblk m c 6 t) := by
  have e : (rdata m c).after 6 = (data m 0 c).toR.after 6 := RDat.override_after_of_eq_none (data m 0 c).toR (ovr := relates m c) (w := 6) rfl
  rw [e]
  show iblk m c 6 t = (data m 0 c).after 6 t
  exact (left6 m c t).symm

end Cert.FfnIdeal.Body
-- ==== Proof.FfnV.Launch.lean ====
/- The launch of the feed-forward kernel: every grid point keeps the launch's data, and the whole program runs, keeps its
   arguments and ends with its counters at rest. -/
module

public import proofs.«01_k».proof.Proof.FfnV.State

@[expose] public section

set_option maxRecDepth 16384

noncomputable section

namespace Cert.FfnIdeal.Body

open Idealize.ShloMosaic Idealize.ShloMosaic.TcCoe Idealize.ShloMosaic.Tactic Cert.FfnIdeal.Gen Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What the body is handed at point `t`, the output block holding `Y`, -/
def given (c : Dev nD) (t : Fin cfg0.N) (Y : Vec F S512x4096 .f32) : sProp 𝕄G :=
  iprop(carried m c t.val (Nat.le_of_lt t.isLt) ∗ (data m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare (iblk m c 6 t)
    ∗ owns (c : Thread nD τ) (st7 t) fullShare Y)

/-- and what it hands back. -/
def handed (c : Dev nD) (t : Fin cfg0.N) (Y : Vec F S512x4096 .f32) : sProp 𝕄G :=
  iprop(carried m c (t.val + 1) t.isLt ∗ (data m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare (iblk m c 6 t)
    ∗ owns (c : Thread nD τ) (st7 t) fullShare (stepAt m c t Y))

set_option maxHeartbeats 1600000 in
/-- The first four points. -/
theorem pointA (c : Dev nD) (t : Fin cfg0.N) (Y : Vec F S512x4096 .f32) (h : t.val < 4) :
    given m c t Y ⊢ wp frame (wpE (defs₀ (F := F)) Variants.none c none) Set.univ (bodyAt0 t) (fun _ => handed m c t Y) := by
  unfold given handed bodyAt0
  rw [carried_low m c t.val _ (by omega), carried_low m c (t.val + 1) _ (by omega), rest_eq,
    show stepAt m c t Y = FST (grid0.coords t 1).val (iblk m c 6 t) Y from by rw [inner_val, Nat.mod_eq_of_lt (by omega : t.val < 43)]; unfold stepAt; rw [if_pos h]]
  iintro ⟨⟨⟨%S, HS⟩, Hg⟩, Ho, H0, H1, H2, H3, H4, H5, H6, H7⟩
  iapply (runA c (grid0.coords t) _ _ _ _ _ _ _ _ _ _ _ _ _ _ _ _ _ _ ((first_iff t).mpr h) (fun h' => by have := (later_iff t).mp h'; omega) (iblk m c 0 t) (iblk m c 1 t) (iblk m c 2 t) (iblk m c 3 t) (iblk m c 4 t) (iblk m c 5 t) (iblk m c 6 t) Y S Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The other points of the first row block. -/
theorem pointB (c : Dev nD) (t : Fin cfg0.N) (Y : Vec F S512x4096 .f32) (h : 4 ≤ t.val) (h' : t.val < 43) :
    given m c t Y ⊢ wp frame (wpE (defs₀ (F := F)) Variants.none c none) Set.univ (bodyAt0 t) (fun _ => handed m c t Y) := by
  unfold given handed bodyAt0
  rw [carried_low m c t.val _ (by omega), carried_low m c (t.val + 1) _ (by omega), rest_eq,
    show stepAt m c t Y = Y from by unfold stepAt; rw [if_neg (by omega), if_pos h']]
  iintro ⟨⟨⟨%S, HS⟩, Hg⟩, Ho, H0, H1, H2, H3, H4, H5, H6, H7⟩
  iapply (runB c (grid0.coords t) _ _ _ _ _ _ _ _ _ _ _ _ _ _ _ _ _ _ (fun hh => by have := (first_iff t).mp hh; omega) (fun hh => by have := (later_iff t).mp hh; omega) (iblk m c 0 t) (iblk m c 1 t) (iblk m c 2 t) (iblk m c 3 t) (iblk m c 4 t) (iblk m c 5 t) (iblk m c 6 t) Y S Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexists _; iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The first point of a later row block. -/
theorem pointC (c : Dev nD) (t : Fin cfg0.N) (Y : Vec F S512x4096 .f32) (h : 43 ≤ t.val) (h' : t.val % 43 = 0) :
    given m c t Y ⊢ wp frame (wpE (defs₀ (F := F)) Variants.none c none) Set.univ (bodyAt0 t) (fun _ => handed m c t Y) := by
  unfold given handed bodyAt0
  have ex : XN (iblk m c 0 t) (iblk m c 1 t) = xnAt m c t.val t.isLt := by unfold xnAt; rw [lead_self t h']
  refine BIBase.Entails.trans (sep_mono_l (carried_any m c _ _)) ?_
  rw [rest_eq, carried_high m c (t.val + 1) t.val _ t.isLt (by omega) rfl,
    show stepAt m c t Y = ACC (xnAt m c t.val t.isLt) (iblk m c 2 t) (iblk m c 3 t) ZERO (iblk m c 4 t) from by unfold stepAt; rw [if_neg (by omega), if_neg (by omega), if_pos h'], ← ex]
  change iprop(_ ∗ _) ⊢ _
  iintro ⟨⟨⟨%S, HS⟩, Hg⟩, Ho, H0, H1, H2, H3, H4, H5, H6, H7⟩
  iapply (runC c (grid0.coords t) _ _ _ _ _ _ _ _ _ _ _ _ _ _ _ _ _ _ (fun hh => by have := (first_iff t).mp hh; omega) ((later_iff t).mpr h) ((opens_iff t).mpr h') (fun hh => by have := (closes_iff t).mp hh; omega) (iblk m c 0 t) (iblk m c 1 t) (iblk m c 2 t) (iblk m c 3 t) (iblk m c 4 t) (iblk m c 5 t) (iblk m c 6 t) Y S Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- A middle point of a later row block. -/
theorem pointD (c : Dev nD) (t : Fin cfg0.N) (Y : Vec F S512x4096 .f32) (h : 43 ≤ t.val) (h' : t.val % 43 ≠ 0) (h'' : t.val % 43 ≠ 42) :
    given m c t Y ⊢ wp frame (wpE (defs₀ (F := F)) Variants.none c none) Set.univ (bodyAt0 t) (fun _ => handed m c t Y) := by
  unfold given handed bodyAt0
  rw [carried_high m c t.val t.val _ t.isLt (by omega) (by omega), carried_high m c (t.val + 1) t.val _ t.isLt (by omega) rfl,
    show stepAt m c t Y = ACC (xnAt m c t.val t.isLt) (iblk m c 2 t) (iblk m c 3 t) Y (iblk m c 4 t) from by unfold stepAt; rw [if_neg (by omega), if_neg (by omega), if_neg h', if_neg h'']]
  iintro ⟨⟨HS, Hg⟩, Ho, H0, H1, H2, H3, H4, H5, H6, H7⟩
  iapply (runD c (grid0.coords t) _ _ _ _ _ _ _ _ _ _ _ _ _ _ _ _ _ _ (fun hh => by have := (first_iff t).mp hh; omega) ((later_iff t).mpr h) (fun hh => h' ((opens_iff t).mp hh)) (fun hh => h'' ((closes_iff t).mp hh)) (iblk m c 0 t) (iblk m c 1 t) (iblk m c 2 t) (iblk m c 3 t) (iblk m c 4 t) (iblk m c 5 t) (iblk m c 6 t) Y (xnAt m c t.val t.isLt) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
/-- The last point of a later row block. -/
theorem pointE (c : Dev nD) (t : Fin cfg0.N) (Y : Vec F S512x4096 .f32) (h : 43 ≤ t.val) (h'' : t.val % 43 = 42) :
    given m c t Y ⊢ wp frame (wpE (defs₀ (F := F)) Variants.none c none) Set.univ (bodyAt0 t) (fun _ => handed m c t Y) := by
  unfold given handed bodyAt0
  rw [carried_high m c t.val t.val _ t.isLt (by omega) (by omega), carried_high m c (t.val + 1) t.val _ t.isLt (by omega) rfl,
    show stepAt m c t Y = FIN (ACC (xnAt m c t.val t.isLt) (iblk m c 2 t) (iblk m c 3 t) Y (iblk m c 4 t)) (iblk m c 0 t) (iblk m c 5 t) from by unfold stepAt; rw [if_neg (by omega), if_neg (by omega), if_neg (by omega), if_pos h'']]
  iintro ⟨⟨HS, Hg⟩, Ho, H0, H1, H2, H3, H4, H5, H6, H7⟩
  iapply (runE c (grid0.coords t) _ _ _ _ _ _ _ _ _ _ _ _ _ _ _ _ _ _ (fun hh => by have := (first_iff t).mp hh; omega) ((later_iff t).mpr h) (fun hh => by have := (opens_iff t).mp hh; omega) ((closes_iff t).mpr h'') (iblk m c 0 t) (iblk m c 1 t) (iblk m c 2 t) (iblk m c 3 t) (iblk m c 4 t) (iblk m c 5 t) (iblk m c 6 t) Y (xnAt m c t.val t.isLt) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS]; · iexact HS
  iintro ⟨H0, H1, H2, H3, H4, H5, H6, H7, HS⟩
  isplitl [HS Hg]
  · isplitl [HS]
    · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem point (c : Dev nD) (t : Fin cfg0.N) (Y : Vec F S512x4096 .f32) :
    given m c t Y ⊢ wp frame (wpE (defs₀ (F := F)) Variants.none c none) Set.univ (bodyAt0 t) (fun _ => handed m c t Y) := by
  by_cases h0 : t.val < 4
  · exact pointA m c t Y h0
  by_cases h1 : t.val < 43
  · exact pointB m c t Y (by omega) h1
  by_cases h2 : t.val % 43 = 0
  · exact pointC m c t Y (by omega) h2
  by_cases h3 : t.val % 43 = 42
  · exact pointE m c t Y (by omega) h3
  · exact pointD m c t Y (by omega) h2 h3

theorem row (t : Fin cfg0.N) : defs₀ (F := F) .tc cfg0.body (cfg0.bodyArgs t (cfg0.slots t)) = bodyAt0 t := by
  unfold defs₀; rw [Defs.onTc_tc]

theorem obligation (c : Dev nD) : (rdata (F := F) m c).BodyObligation (defs₀ (F := F)) Variants.none () Set.univ := fun t Y hY => by
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  have e6 := finds6 m c t _ (hY 6)
  rw [bigSep_W0, bigSep_W0, row]
  refine triple_restated (point m c t (Y 7)) rfl ?_ fun _ => ?_
  · rw [e0, e1, e2, e3, e4, e5, e6]
    unfold given
    rw [← data_carried m c t]
    exact .rfl
  · rw [show (rdata m c).Φ t.succ = carried m c (t.val + 1) t.isLt from rfl, show (rdata m c).owesAt () t.succ = (data m 0 c).owesAt () t.castSucc from rfl]
    unfold handed
    iintro ⟨Hc, Ho, H0, H1, H2, H3, H4, H5, H6, H7⟩
    isplitl [Hc]; · iexact Hc
    isplitl [Ho]; · iexact Ho
    isplitl [H0]
    · iexists _; isplitr; swap; · iexact H0
      ipureintro; exact leaves0 m c t _
    isplitl [H1]
    · iexists _; isplitr; swap; · iexact H1
      ipureintro; exact leaves1 m c t _
    isplitl [H2]
    · iexists _; isplitr; swap; · iexact H2
      ipureintro; exact leaves2 m c t _
    isplitl [H3]
    · iexists _; isplitr; swap; · iexact H3
      ipureintro; exact leaves3 m c t _
    isplitl [H4]
    · iexists _; isplitr; swap; · iexact H4
      ipureintro; exact leaves4 m c t _
    isplitl [H5]
    · iexists _; isplitr; swap; · iexact H5
      ipureintro; exact leaves5 m c t _
    isplitl [H6]
    · iexists _; isplitr; swap; · iexact H6
      ipureintro; exact leaves6 m c t _
    iexists _; isplitr; swap; · iexact H7
    ipureintro; rw [after7]

theorem enter (c : Dev nD) : Pipeline.ΦA spec0 c ⊢ (rdata m c).Φ 0 := by
  rw [show (rdata m c).Φ 0 = carried m c 0 (Nat.zero_le _) from rfl, carried_low m c 0 _ (by omega)]

theorem leave (c : Dev nD) : (rdata m c).Φ (Fin.last cfg0.N) ⊢ Pipeline.ΦA spec0 c := by
  rw [show (rdata m c).Φ (Fin.last cfg0.N) = carried m c (Fin.last cfg0.N).val (Nat.le_of_lt_succ (Fin.last cfg0.N).isLt) from rfl]
  exact carried_any m c _ _

set_option backward.isDefEq.respectTransparency.types false in
/-- The program runs to arrays the launch's data allow, with its counters at rest. -/
theorem runs : θ_run defs (onTc (τ := τ) (main (F := F))) (s₀ m ρ) (fun r => (Pipeline.RDat.FramePost (cfgs 0) (fun c => rdata m c) (V m)) r ∧ r.2.sem = fun _ => 0) :=
  Pipeline.RDat.θ_run_frame_track (Q' := _) cfgs (0 : Fin 1) launch0 defs₀ Variants.none (fun c => rdata m c) m ρ main
    (hbody := fun c => obligation m c) (hshare := fun c => (data m 0 c).share_full fun _ => rfl)
    (howed := fun _ _ => rfl) (V := V m) (hmain := hmain m Variants.none) (hA := rdata_A m) (hin := enter m) (hout := leave m)

theorem runs_arrays : θ_run defs (onTc (τ := τ) (main (F := F))) (s₀ m ρ) (Pipeline.RDat.FramePost (cfgs 0) (fun c => rdata m c) (V m)) :=
  (θ_run defs _ _).mono (fun _ h => h.1) (runs m ρ)

/-- The arguments end as they began, and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and ((θ_run defs _ _).mono (fun _ h c => ⟨(Pipeline.RDat.FramePost.arr_in h c 0 rfl).trans ((rdata_A m c 0).trans (V_main_arg0 m c)),
      (Pipeline.RDat.FramePost.arr_in h c 6 rfl).trans ((rdata_A m c 6).trans (V_main_arg1 m c)),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c)⟩) (runs_arrays m ρ)) ((θ_run defs _ _).mono (fun _ h => h.2) (runs m ρ))

end Cert.FfnIdeal.Body
-- ==== Proof.FfnV.Outcome.lean ====
/- What the launch's data leave in the output block where it is written back: the first row block is the given rows, every
   later one the closed accumulation over the 43 hidden blocks. -/
module

public import proofs.«01_k».proof.Proof.FfnV.Launch

@[expose] public section

set_option maxRecDepth 16384

noncomputable section

namespace Cert.FfnIdeal.Body

open Idealize.ShloMosaic Idealize.ShloMosaic.TcCoe Idealize.ShloMosaic.Tactic Cert.FfnIdeal.Gen Cert.Rows
open Idealize.ShloMosaic.Pipeline (Dat RDat Cfg Window)

variable {F : FTy → Type} [FloatOps F]

variable (m : (ℓ : Loc nD τ sig) → Buf (Elt F) ℓ)

/-- The point of a number. -/
def pt (n : ℕ) : Fin cfg0.N := ⟨n % 688, by rw [show cfg0.N = 688 from N_0]; exact Nat.mod_lt _ (by decide)⟩

theorem pt_self (t : Fin cfg0.N) (n : ℕ) (h : n = t.val) : pt n = t := by
  subst h
  exact Fin.ext (Nat.mod_eq_of_lt (Nat.lt_of_lt_of_eq t.isLt N_0))

/-- The accumulation of row block `i` over its first `k` hidden blocks. -/
def accTo (c : Dev nD) (i : ℕ) : ℕ → Vec F S512x4096 .f32
  | 0 => ZERO
  | k + 1 => ACC (XN (iblk m c 0 (pt (43 * i))) (iblk m c 1 (pt (43 * i)))) (iblk m c 2 (pt (43 * i + k))) (iblk m c 3 (pt (43 * i + k))) (accTo c i k) (iblk m c 4 (pt (43 * i + k)))

theorem xnAt_eq (c : Dev nD) (t : Fin cfg0.N) :
    xnAt m c t.val t.isLt = XN (iblk m c 0 (pt (43 * (t.val / 43)))) (iblk m c 1 (pt (43 * (t.val / 43)))) := by
  unfold xnAt
  rw [pt_self (lead t.val t.isLt) (43 * (t.val / 43)) rfl]

theorem accTo_step (c : Dev nD) (t : Fin cfg0.N) :
    ACC (xnAt m c t.val t.isLt) (iblk m c 2 t) (iblk m c 3 t) (accTo m c (t.val / 43) (t.val % 43)) (iblk m c 4 t) = accTo m c (t.val / 43) (t.val % 43 + 1) := by
  rw [xnAt_eq, accTo, pt_self t (43 * (t.val / 43) + t.val % 43) (by omega)]

/-- The output window is never fetched. -/
theorem unfetched (t : Fin cfg0.N) : (cfg0.win 7).fetch t = false := rfl

theorem before_of_pos (c : Dev nD) (t : Fin cfg0.N) (h : t.val % 43 ≠ 0) (Y : Vec F S512x4096 .f32) (hY : (rdata m c).Finds 7 t Y) :
    (rdata m c).Leaves 7 ⟨t.val - 1, Nat.lt_of_le_of_lt (Nat.sub_le _ _) t.isLt⟩ Y := by
  rcases ((rdata m c).finds_of_pos (unfetched t) (by omega) Y).mp hY with hf | hl
  · have := (flush0_7 _).mp hf
    exact absurd this (by show (t.val - 1) % 43 ≠ 42; omega)
  · exact hl

/-- The accumulation before the last hidden block. -/
theorem leaves_acc (c : Dev nD) (n : ℕ) : ∀ (t : Fin cfg0.N) (X : Vec F S512x4096 .f32), t.val = n → 43 ≤ n → n % 43 ≠ 42 → (rdata m c).Leaves 7 t X →
    X = accTo m c (t.val / 43) (t.val % 43 + 1) := by
  induction n with
  | zero => intro t X _ h; omega
  | succ n ih =>
    intro t X ht h h' ⟨Y, hY, hX⟩
    rw [after7] at hX
    rw [← accTo_step, hX]
    unfold stepAt
    rw [if_neg (by omega), if_neg (by omega)]
    by_cases h0 : t.val % 43 = 0
    · rw [if_pos h0, h0]; rfl
    · rw [if_neg h0, if_neg (by omega)]
      have e := ih _ Y (by show t.val - 1 = n; omega) (by omega) (by omega) (before_of_pos m c t h0 Y hY)
      rw [show (⟨t.val - 1, Nat.lt_of_le_of_lt (Nat.sub_le _ _) t.isLt⟩ : Fin cfg0.N).val = t.val - 1 from rfl,
        show (t.val - 1) / 43 = t.val / 43 by omega, show (t.val - 1) % 43 + 1 = t.val % 43 by omega] at e
      rw [e]

/-- The later row blocks, written back. -/
theorem leaves_last (c : Dev nD) (t : Fin cfg0.N) (X : Vec F S512x4096 .f32) (h : 43 ≤ t.val) (h' : t.val % 43 = 42) (hL : (rdata m c).Leaves 7 t X) :
    X = FIN (accTo m c (t.val / 43) 43) (iblk m c 0 t) (iblk m c 5 t) := by
  obtain ⟨Y, hY, hX⟩ := hL
  rw [after7] at hX
  have e := leaves_acc m c (t.val - 1) _ Y rfl (by omega) (by omega) (before_of_pos m c t (by omega) Y hY)
  rw [show (⟨t.val - 1, Nat.lt_of_le_of_lt (Nat.sub_le _ _) t.isLt⟩ : Fin cfg0.N).val = t.val - 1 from rfl,
    show (t.val - 1) / 43 = t.val / 43 by omega, show (t.val - 1) % 43 + 1 = t.val % 43 by omega] at e
  have s := accTo_step m c t
  rw [h'] at s e
  rw [hX, ← s, e]
  unfold stepAt
  rw [if_neg (by omega), if_neg (by omega), if_neg (by omega), if_pos h']

/-- The given rows, as the points stage them. -/
def firstAt (c : Dev nD) : Vec F S512x4096 .f32 :=
  fun y => (iblk m c 6 (pt ((y 0).val / 128)) : Vec F S128x4096 .f32) (ix2 ⟨(y 0).val % 128, Nat.mod_lt _ (by decide)⟩ (y 1))

theorem leaves_first (c : Dev nD) (n : ℕ) : ∀ (t : Fin cfg0.N) (X : Vec F S512x4096 .f32), t.val = n → n < 43 → (rdata m c).Leaves 7 t X →
    ∀ y : S512x4096.Idx, (y 0).val < 128 * (n + 1) → X y = firstAt m c y := by
  induction n with
  | zero =>
    intro t X ht _ ⟨Y, hY, hX⟩ y hy
    rw [after7] at hX
    rw [hX]
    unfold stepAt FST firstAt
    rw [if_pos (by omega), if_pos ⟨by omega, by omega⟩, pt_self t _ (by omega)]
  | succ n ih =>
    intro t X ht h ⟨Y, hY, hX⟩ y hy
    rw [after7] at hX
    have e := ih _ Y (by show t.val - 1 = n; omega) (by omega) (before_of_pos m c t (by omega) Y hY) y
    have hy' : (y 0).val < 512 := (y 0).isLt
    rw [hX]
    unfold stepAt
    by_cases h4 : t.val < 4
    · rw [if_pos h4]
      unfold FST
      by_cases hr : 128 * t.val ≤ (y 0).val
      · rw [if_pos ⟨hr, by omega⟩]
        unfold firstAt
        rw [pt_self t _ (by omega)]
      · rw [if_neg (by omega)]
        exact e (by omega)
    · rw [if_neg h4, if_pos (by omega)]
      exact e (by omega)

/-- What the output block holds where it is written back. -/
def outAt (c : Dev nD) (t : Fin cfg0.N) : Vec F S512x4096 .f32 :=
  if t.val < 43 then firstAt m c else FIN (accTo m c (t.val / 43) 43) (iblk m c 0 t) (iblk m c 5 t)

theorem leaves_out (c : Dev nD) (t : Fin cfg0.N) (X : Vec F S512x4096 .f32) (hf : (cfg0.win 7).flush t = true) (hL : (rdata m c).Leaves 7 t X) : X = outAt m c t := by
  have h' := (flush0_7 t).mp hf
  unfold outAt
  by_cases h : t.val < 43
  · rw [if_pos h]
    funext y
    have hy' : (y 0).val < 512 := (y 0).isLt
    exact leaves_first m c t.val t X rfl h hL y (by omega)
  · rw [if_neg h]
    exact leaves_last m c t X (by omega) h' hL

end Cert.FfnIdeal.Body
-- ==== Proof.FfnV.Blocks.lean ====
/- Every grid point's blocks, read at an element of the arguments: point `t` is row block `t / 43` and, from the second row
   block on, hidden block `t % 43`. -/
module

public import proofs.«01_k».proof.Proof.FfnV.Math
public import proofs.«01_k».proof.Proof.FfnV.Outcome
public import Idealize.ShloMosaic.Lib.Pipeline.ValueKit
public import Idealize.ShloMosaic.Lib.StableHlo.Run

@[expose] public section

set_option maxRecDepth 16384

noncomputable section

namespace Cert.FfnIdeal.Body

open Idealize.ShloMosaic Idealize.ShloMosaic.TcCoe Idealize.ShloMosaic.Tactic Cert.FfnIdeal.Gen Cert.Rows Cert.FfnV Cert.GlaV

variable (m : (l : Loc nD τ sig) → Buf (Elt Ideal) l) (c : Dev nD)

/-- The launch memory's arguments, as numbered matrices. -/
abbrev Xm : ℕ → ℕ → EReal := at2 (n := 8192) (k := 4096) (m ((c : Thread nD τ).loc main_arg0))
abbrev Fm : ℕ → ℕ → EReal := at2 (n := 512) (k := 4096) (m ((c : Thread nD τ).loc main_arg1))
abbrev Gm : ℕ → EReal := at1 (n := 4096) (m ((c : Thread nD τ).loc main_arg2))
abbrev Wgm : ℕ → ℕ → EReal := at2 (n := 4096) (k := 11008) (m ((c : Thread nD τ).loc main_arg3))
abbrev Wum : ℕ → ℕ → EReal := at2 (n := 4096) (k := 11008) (m ((c : Thread nD τ).loc main_arg4))
abbrev Wdm : ℕ → ℕ → EReal := at2 (n := 11008) (k := 4096) (m ((c : Thread nD τ).loc main_arg5))
abbrev Gom : ℕ → EReal := at1 (n := 4096) (m ((c : Thread nD τ).loc main_arg6))

theorem main0 (j : Fin 4096) : V m c main_v0 (ix2 0 j) = (Gm m c j : EReal) := by
  show StableHlo.after _ _ _ _ = _
  simp only [hostOps0, List.flatten_cons, List.flatten_nil, List.append_nil]
  entry_read
  pointwise
  exact at1_ix (n := 4096) _ _

theorem main1 (r : Fin 4096) (j : Fin 11008) : V m c main_v1 (ix2 r j) = (Wgm m c r j : EReal) := by
  show StableHlo.after _ _ _ _ = _
  simp only [hostOps0, List.flatten_cons, List.flatten_nil, List.append_nil]
  entry_read
  pointwise
  exact at2_ix (n := 4096) (k := 11008) _ _ _

theorem main2 (r : Fin 4096) (j : Fin 11008) : V m c main_v2 (ix2 r j) = (Wum m c r j : EReal) := by
  show StableHlo.after _ _ _ _ = _
  simp only [hostOps0, List.flatten_cons, List.flatten_nil, List.append_nil]
  entry_read
  pointwise
  exact at2_ix (n := 4096) (k := 11008) _ _ _

theorem main3 (r : Fin 11008) (j : Fin 4096) : V m c main_v3 (ix2 r j) = (Wdm m c r j : EReal) := by
  show StableHlo.after _ _ _ _ = _
  simp only [hostOps0, List.flatten_cons, List.flatten_nil, List.append_nil]
  entry_read
  pointwise
  exact at2_ix (n := 11008) (k := 4096) _ _ _

theorem main4 (j : Fin 4096) : V m c main_v4 (ix2 0 j) = (Gom m c j : EReal) := by
  show StableHlo.after _ _ _ _ = _
  simp only [hostOps0, List.flatten_cons, List.flatten_nil, List.append_nil]
  entry_read
  pointwise
  exact at1_ix (n := 4096) _ _

theorem ix_0 : ∀ t : Fin cfg0.N, win0_0.index t 0 = t.val / 43 ∧ win0_0.index t 1 = 0 := by decide +kernel
theorem ix_1 : ∀ t : Fin cfg0.N, win0_1.index t 0 = 0 ∧ win0_1.index t 1 = 0 := by decide +kernel
theorem ix_2 : ∀ t : Fin cfg0.N, 43 ≤ t.val → win0_2.index t 0 = 0 ∧ win0_2.index t 1 = t.val % 43 := by decide +kernel
theorem ix_3 : ∀ t : Fin cfg0.N, 43 ≤ t.val → win0_3.index t 0 = 0 ∧ win0_3.index t 1 = t.val % 43 := by decide +kernel
theorem ix_4 : ∀ t : Fin cfg0.N, 43 ≤ t.val → win0_4.index t 0 = t.val % 43 ∧ win0_4.index t 1 = 0 := by decide +kernel
theorem ix_5 : ∀ t : Fin cfg0.N, win0_5.index t 0 = 0 ∧ win0_5.index t 1 = 0 := by decide +kernel
theorem ix_6 : ∀ t : Fin cfg0.N, t.val < 4 → win0_6.index t 0 = t.val ∧ win0_6.index t 1 = 0 := by decide +kernel
theorem ix_7 : ∀ t : Fin cfg0.N, win0_7.index t 0 = t.val / 43 ∧ win0_7.index t 1 = 0 := by decide +kernel

theorem lt_N (t : Fin cfg0.N) : t.val < 688 := lt_of_lt_of_eq t.isLt N_0

theorem blk_0 (t : Fin cfg0.N) (r : Fin 512) (k : Fin 4096) : iblk m c 0 t (ix2 r k) = (Xm m c (512 * (t.val / 43) + r.val) k : EReal) := by
  have h := ix_0 t
  have ht := lt_N t
  have e : iblk m c 0 t (ix2 r k) = V m c main_arg0 (ix2 ⟨512 * (t.val / 43) + r.val, by omega⟩ k) := by blk_ext [iblk, h.1, h.2]
  rw [e, V_main_arg0]
  exact at2_ix (n := 8192) (k := 4096) _ _ _
theorem blk_1 (t : Fin cfg0.N) (k : Fin 4096) : iblk m c 1 t (ix2 0 k) = (Gm m c k : EReal) := by
  have h := ix_1 t
  have e : iblk m c 1 t (ix2 0 k) = V m c main_v0 (ix2 0 k) := by blk_ext [iblk, h.1, h.2]
  rw [e, main0]
theorem blk_2 (t : Fin cfg0.N) (h' : 43 ≤ t.val) (r : Fin 4096) (k : Fin 256) : iblk m c 2 t (ix2 r k) = (Wgm m c r (t.val % 43 * 256 + k.val) : EReal) := by
  have h := ix_2 t h'
  have e : iblk m c 2 t (ix2 r k) = V m c main_v1 (ix2 r ⟨t.val % 43 * 256 + k.val, by omega⟩) := by blk_ext [iblk, h.1, h.2]
  rw [e, main1]
theorem blk_3 (t : Fin cfg0.N) (h' : 43 ≤ t.val) (r : Fin 4096) (k : Fin 256) : iblk m c 3 t (ix2 r k) = (Wum m c r (t.val % 43 * 256 + k.val) : EReal) := by
  have h := ix_3 t h'
  have e : iblk m c 3 t (ix2 r k) = V m c main_v2 (ix2 r ⟨t.val % 43 * 256 + k.val, by omega⟩) := by blk_ext [iblk, h.1, h.2]
  rw [e, main2]
theorem blk_4 (t : Fin cfg0.N) (h' : 43 ≤ t.val) (r : Fin 256) (k : Fin 4096) : iblk m c 4 t (ix2 r k) = (Wdm m c (t.val % 43 * 256 + r.val) k : EReal) := by
  have h := ix_4 t h'
  have e : iblk m c 4 t (ix2 r k) = V m c main_v3 (ix2 ⟨t.val % 43 * 256 + r.val, by omega⟩ k) := by blk_ext [iblk, h.1, h.2]
  rw [e, main3]
theorem blk_5 (t : Fin cfg0.N) (k : Fin 4096) : iblk m c 5 t (ix2 0 k) = (Gom m c k : EReal) := by
  have h := ix_5 t
  have e : iblk m c 5 t (ix2 0 k) = V m c main_v4 (ix2 0 k) := by blk_ext [iblk, h.1, h.2]
  rw [e, main4]
theorem blk_6 (t : Fin cfg0.N) (h' : t.val < 4) (r : Fin 128) (k : Fin 4096) : iblk m c 6 t (ix2 r k) = (Fm m c (128 * t.val + r.val) k : EReal) := by
  have h := ix_6 t h'
  have e : iblk m c 6 t (ix2 r k) = V m c main_arg1 (ix2 ⟨128 * t.val + r.val, by omega⟩ k) := by blk_ext [iblk, h.1, h.2]
  rw [e, V_main_arg1]
  exact at2_ix (n := 512) (k := 4096) _ _ _

/-- The given rows, at an element. -/
theorem firstAt_val (r : Fin 512) (k : Fin 4096) : (firstAt m c (ix2 r k) : EReal) = Fm m c r.val k.val := by
  unfold firstAt
  have hr := r.isLt
  have hp : (pt (r.val / 128)).val = r.val / 128 := by show r.val / 128 % 688 = _; omega
  refine (blk_6 m c (pt (r.val / 128)) (by rw [hp]; omega) ⟨r.val % 128, Nat.mod_lt _ (by decide)⟩ k).trans ?_
  rw [hp]
  show Fm m c (128 * (r.val / 128) + r.val % 128) k.val = _
  rw [Nat.div_add_mod]

/-- The normalised rows, at an element. -/
theorem xn_val (i : ℕ) (hi : i < 16) (r : Fin 512) (k : Fin 4096) :
    (XN (iblk m c 0 (pt (43 * i))) (iblk m c 1 (pt (43 * i))) (ix2 r k) : EReal) = N (Xm m c) (Gm m c) (512 * i + r.val) k.val := by
  have hp : (pt (43 * i)).val / 43 = i := by show 43 * i % 688 / 43 = i; omega
  rw [XN_val]
  simp only [blk_0, blk_1, hp]
  rfl

/-- The accumulation, at an element. -/
theorem accTo_val (i : ℕ) (h1 : 1 ≤ i) (hi : i < 16) (n : ℕ) (hn : n ≤ 43) (r : Fin 512) (k : Fin 4096) :
    (accTo m c i n (ix2 r k) : EReal) = ∑ f : Fin n, ∑ z : Fin 256, HID (Xm m c) (Gm m c) (Wgm m c) (Wum m c) (512 * i + r.val) (f.val * 256 + z.val) * Wdm m c (f.val * 256 + z.val) k.val := by
  induction n with
  | zero => rw [accTo, ZERO_val]; rfl
  | succ n ih =>
    have hv : (pt (43 * i + n)).val = 43 * i + n := by show (43 * i + n) % 688 = _; omega
    have hp : (pt (43 * i + n)).val % 43 = n := by rw [hv]; omega
    rw [accTo, ACC_val, Fin.sum_univ_castSucc (n := n), ih (by omega)]
    simp only [xn_val m c i hi, blk_2 m c _ (show 43 ≤ (pt (43 * i + n)).val by rw [hv]; omega), blk_3 m c _ (show 43 ≤ (pt (43 * i + n)).val by rw [hv]; omega),
      blk_4 m c _ (show 43 ≤ (pt (43 * i + n)).val by rw [hv]; omega), hp]
    rfl

end Cert.FfnIdeal.Body
-- ==== Proof.FfnV.Final.lean ====
/- What the layer's launch leaves: the first 512 rows as given, every later element the residual plus half the normalised
   product. -/
module

public import proofs.«01_k».proof.Proof.FfnV.Blocks
public import Idealize.ShloMosaic.Lib.Pipeline.ArrRel
public import Idealize.ShloMosaic.Lib.Claim

@[expose] public section

set_option maxRecDepth 16384

noncomputable section

namespace Cert.FfnIdeal.Body

open Idealize.ShloMosaic Idealize.ShloMosaic.TcCoe Idealize.ShloMosaic.Tactic Idealize.SL.Sem Cert.FfnIdeal.Gen Cert.Rows Cert.FfnV Cert.GlaV

variable (m : (l : Loc nD τ sig) → Buf (Elt Ideal) l) (ρ : Dev nD → PrngReg) (c : Dev nD)

/-- The result, of the launch memory. -/
abbrev RESm (s j : ℕ) : EReal := RES (Xm m c) (Gm m c) (Wgm m c) (Wum m c) (Wdm m c) (Fm m c) (Gom m c) s j

/-- The whole accumulation of a row block is the product back. -/
theorem acc_val (i : ℕ) (h1 : 1 ≤ i) (hi : i < 16) (r : Fin 512) (k : Fin 4096) :
    (accTo m c i 43 (ix2 r k) : EReal) = D (Xm m c) (Gm m c) (Wgm m c) (Wum m c) (Wdm m c) (512 * i + r.val) k.val :=
  (accTo_val m c i h1 hi 43 le_rfl r k).trans (D_blocks _ _ _ _ _ _ _).symm

/-- A point's output block where it is written back, at an element. -/
theorem outAt_val (t : Fin cfg0.N) (r : Fin 512) (k : Fin 4096) :
    outAt m c t (ix2 r k) = RESm m c (512 * (t.val / 43) + r.val) k.val := by
  have ht := lt_N t
  have hr := r.isLt
  unfold outAt RESm RES
  by_cases h : t.val < 43
  · have h0 : t.val / 43 = 0 := by omega
    rw [if_pos h, h0, Nat.mul_zero, Nat.zero_add, if_pos hr]
    exact firstAt_val m c r k
  · rw [if_neg h, if_neg (by omega), FIN_val]
    simp only [acc_val m c (t.val / 43) (by omega) (by omega), blk_0, blk_5]
    rfl

/-- The result array. -/
def RESULT : Buf (Elt Ideal) ((c : Thread nD τ).loc main_v5) :=
  (fun i => RESm m c (i 0).val (i 1).val : FVec Ideal S8192x4096 .f32)

theorem RESULT_val (s : Fin 8192) (j : Fin 4096) : (RESULT m c : FVec Ideal S8192x4096 .f32) (ix2 s j) = RESm m c s.val j.val := rfl

/-- A write-back of what is left is a block of the result, … -/
theorem flushed (t : Fin cfg0.N) : (cfg0.win 7).cut (grid0.coords t) (outAt m c t) = ((cfg0.win 7).blk t).view.read (Elt Ideal) (RESULT m c) := by
  have h := ix_7 t
  funext y
  obtain ⟨r, k, rfl⟩ : ∃ (r : Fin 512) (k : Fin 4096), y = ix2 r k := ⟨y 0, y 1, eq_ix2 y⟩
  rw [View.read_apply]
  refine (outAt_val m c t r k).trans ?_
  show _ = RESm m c (win0_7.index t 0 * 512 + 1 * r.val) (win0_7.index t 1 * 4096 + 1 * k.val)
  rw [h.1, h.2]
  congr 1 <;> omega

/-- … and the blocks cover it. -/
theorem covered (i : S8192x4096.Idx) : ∃ t : Fin cfg0.N, (cfg0.win 7).flush t = true ∧ i ∈ ((cfg0.win 7).blk t).view.set := by
  have h0 : (i 0 : Nat) < 8192 := (i 0).isLt
  have h1 : (i 1 : Nat) < 4096 := (i 1).isLt
  let t : Fin cfg0.N := ⟨43 * ((i 0 : Nat) / 512) + 42, by rw [show cfg0.N = 688 from N_0]; omega⟩
  have ht : t.val = 43 * ((i 0 : Nat) / 512) + 42 := rfl
  refine ⟨t, (flush0_7 t).mpr (by rw [ht]; omega), ?_⟩
  have h := ix_7 t
  show i ∈ ((View.whole main_v5).slice (win0_7.rect t)).set
  rw [View.set_slice_whole, Rect.mem_set_unit]
  intro a
  match a with
  | ⟨0, _⟩ =>
    show win0_7.index t 0 * 512 ≤ (i 0 : Nat) ∧ (i 0 : Nat) < win0_7.index t 0 * 512 + 512
    rw [h.1, ht]; omega
  | ⟨1, _⟩ =>
    show win0_7.index t 1 * 4096 ≤ (i 1 : Nat) ∧ (i 1 : Nat) < win0_7.index t 1 * 4096 + 4096
    rw [h.2]; omega

/-- The launch's post, read at the result. -/
theorem final (r : PUnit × MemSt nD τ sig (Elt Ideal)) (h : Pipeline.RDat.FramePost (cfgs 0) (fun c => rdata m c) (V m) r) :
    r.2.mem ((c.tc : Thread nD τ).loc main_v5) = RESULT m c := by
  obtain ⟨after, hL, hA⟩ := Pipeline.RDat.FramePost.exists_exact (cfg₁ := cfgs 0) h c
  refine (hA 7).trans (((rdata m c).withAfter after).arrAt_eq_of_cover 7 (RESULT m c) (fun t ht => ?_) covered)
  refine Eq.trans ?_ (flushed m c t)
  show (cfg0.win 7).cut (grid0.coords t) (after 7 t) = _
  rw [leaves_out m c t (after 7 t) ht (hL 7 t ht)]

/-- The run, read: the result array, the arguments unchanged. -/
theorem run : θ_run defs (onTc (τ := τ) (main (F := Ideal))) ⟨m, fun _ => 0, ρ⟩ fun r => ∀ c : Dev nD,
      r.2.mem ((c.tc : Thread nD τ).loc main_v5) = RESULT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨final m c r h.1, h.2.1 c⟩) (θ_run_and (runs_arrays m ρ) (kept m ρ))

end Cert.FfnIdeal.Body
-- ==== Proof.FfnV.Equation.lean ====
/- The feed-forward call and its reference: both results are the given rows, then the residual plus half the normalised
   product of the arguments. -/
module

public import proofs.«01_k».proof.Defs
public import proofs.«01_k».proof.Proof.FfnV.Final
public import proofs.«01_k».proof.Proof.FfnV.Ref
public import proofs.«01_k».proof.Proof.Gen.Ffn

@[expose] public section

set_option maxRecDepth 16384

noncomputable section

namespace Cert.FfnV

open Idealize.ShloMosaic Idealize.SL.Sem

/-- The launch's result is the reference's of the same arrays. -/
theorem results_eq (m : (l : Loc FfnIdeal.nD FfnIdeal.τ FfnIdeal.sig) → Buf (Elt Ideal) l) (c : Dev FfnIdeal.nD) :
    FfnRefIdeal.Body.res (m ((c.tc : Thread FfnIdeal.nD FfnIdeal.τ).loc FfnIdeal.main_arg0)) (m ((c.tc : Thread FfnIdeal.nD FfnIdeal.τ).loc FfnIdeal.main_arg1)) (m ((c.tc : Thread FfnIdeal.nD FfnIdeal.τ).loc FfnIdeal.main_arg2))
      (m ((c.tc : Thread FfnIdeal.nD FfnIdeal.τ).loc FfnIdeal.main_arg3)) (m ((c.tc : Thread FfnIdeal.nD FfnIdeal.τ).loc FfnIdeal.main_arg4))
      (m ((c.tc : Thread FfnIdeal.nD FfnIdeal.τ).loc FfnIdeal.main_arg5)) (m ((c.tc : Thread FfnIdeal.nD FfnIdeal.τ).loc FfnIdeal.main_arg6)) = FfnIdeal.Body.RESULT m c := by
  funext i
  obtain ⟨s, j, rfl⟩ : ∃ (s : Fin 8192) (j : Fin 4096), i = ix2 s j := ⟨i 0, i 1, eq_ix2 i⟩
  exact (FfnRefIdeal.Body.res_val _ _ _ _ _ _ _ s j).trans (FfnIdeal.Body.RESULT_val m c s j).symm

/-- The program and its idealized form have one body table, … -/
theorem bodies_eq : Cert.Ffn.defs₀ (F := Bits) = Cert.FfnIdeal.defs₀ := by
  unfold Cert.Ffn.defs₀ Cert.FfnIdeal.defs₀
  refine congrArg Defs.onTc ?_
  funext l a
  match l, a with
  | ⟨0, _⟩, (t, s) =>
    show Cert.Ffn.cc0_ffn _ _ _ _ _ _ _ _ _ _ _ _ _ _ _ _ _ _ _ = _
    unfold Cert.Ffn.cc0_ffn
    rfl
theorem defs_eq : Cert.Ffn.defs (F := Bits) = Cert.FfnIdeal.defs := congrArg (Pipeline.defs Cert.FfnIdeal.pcfgs) bodies_eq

/-- … so the frame of the one is the frame of the other. -/
theorem frame_kernel : Cert.quiescent_Ffn := fun m ρ _ => by
  rw [defs_eq]
  exact Cert.FfnIdeal.Body.kept (F := Bits) m ρ
theorem frame_ideal : Cert.quiescent_FfnIdeal := fun m ρ _ => Cert.FfnIdeal.Body.kept m ρ
theorem frame_ref : Cert.quiescent_FfnRefIdeal := fun m ρ _ => (θ_run Cert.FfnRefIdeal.defs _ _).mono
  (fun r h => ⟨fun c => (h c).2, sem_eq_zero_of_no_sems (by decide) r.2⟩) (Cert.FfnRefIdeal.Value.run m ρ)

theorem equation : Cert.algebraic_FfnIdeal_FfnRefIdeal := by
  intro m ρ m' ρ' _ h
  refine ⟨fun c => Cert.FfnIdeal.Body.RESULT m c, Cert.FfnIdeal.Body.run m ρ, ?_⟩
  refine (θ_run Cert.FfnRefIdeal.defs _ _).mono (fun _ hr c => ⟨(hr c).1.trans ?_, (hr c).2⟩) (Cert.FfnRefIdeal.Value.run m' ρ')
  obtain ⟨h0, h1, h2, h3, h4, h5, h6⟩ := h c
  unfold Cert.FfnRefIdeal.Value.res_main_v35
  rw [h0, h1, h2, h3, h4, h5, h6]
  exact results_eq m c

end Cert.FfnV
end
-- ==== Proof.InprojV.Spec.lean ====
/- What the scratch array of the input projection holds, and what one grid point leaves in its two output blocks, as
   functions of the blocks the point stages; and the row loop, after which the scratch array holds the normalised rows. -/
module

public import proofs.«01_k».proof.Proof.Gen.InprojIdeal.Loops
public import proofs.«01_k».proof.Proof.RowsV.Rows
public import Idealize.ShloMosaic.Lib.WritesUnit
public import Idealize.ShloMosaic.Lib.VecWindow
public import Idealize.ShloMosaic.Lib.Pointwise

@[expose] public section

set_option maxRecDepth 16384

noncomputable section

namespace Cert.InprojIdeal.Body

open Idealize.ShloMosaic Idealize.ShloMosaic.TcCoe Idealize.ShloMosaic.Tactic Cert.InprojIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable {e : EltTy}

/-- The rows normalised, 32 rows at a time. -/
def EN (x : Vec F S1024x4096 .f32) (g : Vec F S1x4096 .f32) : Vec F S1024x4096 .bf16 :=
  fun y => k0_pay7 (k0_pay3 (win x (32 * ((y 0).val / 32)))) (win x (32 * ((y 0).val / 32))) g (loc y)
/-- The 256 rows of the weights' block from row `o` on. -/
def wrows (x : Vec F S1024x4096 .bf16) (o : ℕ) : Vec F S256x4096 .bf16 :=
  fun z => x (ix2 ⟨(o + (z 0).val) % 1024, Nat.mod_lt _ (by decide)⟩ (z 1))
/-- The 256 columns of the scale from column `o` on. -/
def scols (x : Vec F S1x1024 .f32) (o : ℕ) : Vec F S1x256 .f32 :=
  fun z => x (ix2 (z 0) ⟨(o + (z 1).val) % 1024, Nat.mod_lt _ (by decide)⟩)
/-- The output block, 256 columns at a time. -/
def OUT (w : Vec F S1024x4096 .bf16) (s : Vec F S1x1024 .f32) (a : Vec F S1024x4096 .bf16) : Vec F S1024x1024 .bf16 :=
  fun y => k0_pay13 a (wrows w (256 * ((y 1).val / 256))) (scols s (256 * ((y 1).val / 256))) (ix2 (y 0) ⟨(y 1).val % 256, Nat.mod_lt _ (by decide)⟩)

theorem off1_0 : ∀ k : Fin k0_t1_loop.trips, k0_off1 k 0#32 = ![128 * k.val, 0] := by decide +kernel
theorem off1_1 : ∀ k : Fin k0_t1_loop.trips, k0_off1 k 32#32 = ![128 * k.val + 32, 0] := by decide +kernel
theorem off1_2 : ∀ k : Fin k0_t1_loop.trips, k0_off1 k 64#32 = ![128 * k.val + 64, 0] := by decide +kernel
theorem off1_3 : ∀ k : Fin k0_t1_loop.trips, k0_off1 k 96#32 = ![128 * k.val + 96, 0] := by decide +kernel
theorem trips_eq : k0_t1_loop.trips = 8 := by decide +kernel

/-- The normalised rows of a chunk, at an element of that chunk. -/
theorem EN_at (x : Vec F S1024x4096 .f32) (g : Vec F S1x4096 .f32) (y : S1024x4096.Idx) (o : ℕ) (h : 32 * ((y 0).val / 32) = o) :
    k0_pay7 (k0_pay3 (win x o)) (win x o) g (loc y) = EN x g y := by
  unfold EN; rw [h]

variable (𝒱 : Variants) (c : Dev nD) (bd : Option 𝒱.V) (i : grid0.Coords) (arg2 : Memref sig .tc .vmem S1024x4096 .bf16) (harg2 : arg2.IsWhole) (arg3 : Memref sig .tc .vmem S1x4096 .f32) (harg3 : arg3.IsWhole) (arg4 : Memref sig .tc .vmem S1024x4096 .f32) (harg4 : arg4.IsWhole) (arg5 : Memref sig .tc .vmem S128x4096 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x4096 .bf16) (harg9 : arg9.IsWhole) (k0_h1 : k0_cond1 i = 1#1)
  (X3 : BufTy.Contents (Elt F) arg3.view.ty) (X4 : BufTy.Contents (Elt F) arg4.view.ty)

/-- One trip's stores, read back. -/
theorem trip_read (k : Fin k0_t1_loop.trips) (f : BufTy.Contents (Elt F) arg9.view.ty) (y : S1024x4096.Idx) :
    arg9.view.read (Elt F) (arg9.view.writes (Elt F) f (tripL_k0_t1 (F := F) 𝒱 c bd i arg2 harg2 arg3 harg3 arg4 harg4 arg5 harg5 arg6 harg6 arg7 harg7 arg8 harg8 arg9 harg9 k0_h1 X3 X4 k)) y
      = if 128 * k.val ≤ (y 0).val ∧ (y 0).val < 128 * k.val + 128 then EN (arg4.view.read (Elt F) X4) (arg3.view.read (Elt F) X3) y else arg9.view.read (Elt F) f y := by
  unfold tripL_k0_t1 trip_k0_t1
  dsimp only
  have eg := View.readAt_full arg3.view X3 inb_S1x4096_S1x4096_0_0
  refine read_rows4 arg9.view f (k0_off1_inb i k k0_h1 0) (k0_off1_inb i k k0_h1 1) (k0_off1_inb i k k0_h1 2) (k0_off1_inb i k k0_h1 3)
    (k0_pay7 (k0_pay3 (arg4.view.readAt (Elt F) (Rect.unit (s := S1024x4096) (k0_off1 k 0#32) S32x4096.size (k0_off1_inb i k k0_h1 0)).toLoadRect X4)) (arg4.view.readAt (Elt F) (Rect.unit (s := S1024x4096) (k0_off1 k 0#32) S32x4096.size (k0_off1_inb i k k0_h1 0)).toLoadRect X4) (arg3.view.readAt (Elt F) (Rect.unit (s := S1x4096) ![0, 0] S1x4096.size inb_S1x4096_S1x4096_0_0).toLoadRect X3))
    (k0_pay8 (k0_pay4 (arg4.view.readAt (Elt F) (Rect.unit (s := S1024x4096) (k0_off1 k 32#32) S32x4096.size (k0_off1_inb i k k0_h1 1)).toLoadRect X4)) (arg4.view.readAt (Elt F) (Rect.unit (s := S1024x4096) (k0_off1 k 32#32) S32x4096.size (k0_off1_inb i k k0_h1 1)).toLoadRect X4) (arg3.view.readAt (Elt F) (Rect.unit (s := S1x4096) ![0, 0] S1x4096.size inb_S1x4096_S1x4096_0_0).toLoadRect X3))
    (k0_pay10 (k0_pay9 (k0_pay5 (arg4.view.readAt (Elt F) (Rect.unit (s := S1024x4096) (k0_off1 k 64#32) S32x4096.size (k0_off1_inb i k k0_h1 2)).toLoadRect X4)) (FloatOps.ofBits FTy.f32 897988541#32) (arg4.view.readAt (Elt F) (Rect.unit (s := S1024x4096) (k0_off1 k 64#32) S32x4096.size (k0_off1_inb i k k0_h1 2)).toLoadRect X4)) (arg3.view.readAt (Elt F) (Rect.unit (s := S1x4096) ![0, 0] S1x4096.size inb_S1x4096_S1x4096_0_0).toLoadRect X3))
    (k0_pay11 (k0_pay6 (arg4.view.readAt (Elt F) (Rect.unit (s := S1024x4096) (k0_off1 k 96#32) S32x4096.size (k0_off1_inb i k k0_h1 3)).toLoadRect X4)) (arg4.view.readAt (Elt F) (Rect.unit (s := S1024x4096) (k0_off1 k 96#32) S32x4096.size (k0_off1_inb i k k0_h1 3)).toLoadRect X4) (arg3.view.readAt (Elt F) (Rect.unit (s := S1x4096) ![0, 0] S1x4096.size inb_S1x4096_S1x4096_0_0).toLoadRect X3))
    (128 * k.val) (by omega) (off1_0 k) (off1_1 k) (off1_2 k) (off1_3 k) (EN (arg4.view.read (Elt F) X4) (arg3.view.read (Elt F) X3))
    (fun y hy => by rw [readAt_rows arg4.view X4 _ _ (off1_0 k), eg]; exact EN_at _ _ y _ (by omega))
    (fun y hy => by rw [readAt_rows arg4.view X4 _ _ (off1_1 k), eg]; exact EN_at _ _ y _ (by omega))
    (fun y hy => by rw [readAt_rows arg4.view X4 _ _ (off1_2 k), eg]; exact EN_at _ _ y _ (by omega))
    (fun y hy => by rw [readAt_rows arg4.view X4 _ _ (off1_3 k), eg]; exact EN_at _ _ y _ (by omega)) y

/-- The stores of the trips before `k`, read back. -/
theorem trips_read (G : BufTy.Contents (Elt F) arg9.view.ty) (y : S1024x4096.Idx) : ∀ k : ℕ, k ≤ 8 →
    arg9.view.read (Elt F) (arg9.view.writes (Elt F) G (pb_k0_t1 (F := F) 𝒱 c bd i arg2 harg2 arg3 harg3 arg4 harg4 arg5 harg5 arg6 harg6 arg7 harg7 arg8 harg8 arg9 harg9 k0_h1 X3 X4 k)) y
      = if (y 0).val < 128 * k then EN (arg4.view.read (Elt F) X4) (arg3.view.read (Elt F) X3) y else arg9.view.read (Elt F) G y
  | 0, _ => by rw [if_neg (by omega)]; rfl
  | k + 1, h => by
    have hk : k < k0_t1_loop.trips := by rw [trips_eq]; omega
    rw [pb_k0_t1_succ 𝒱 c bd i arg2 harg2 arg3 harg3 arg4 harg4 arg5 harg5 arg6 harg6 arg7 harg7 arg8 harg8 arg9 harg9 k0_h1 X3 X4 ⟨k, hk⟩, View.writes_append, trip_read, trips_read G y k (by omega)]
    dsimp only
    split_ifs <;> first | rfl | omega

/-- After the loop the scratch array holds the normalised rows. -/
theorem scratch (G : BufTy.Contents (Elt F) arg9.view.ty) :
    arg9.view.read (Elt F) (arg9.view.writes (Elt F) G (pb_k0_t1 (F := F) 𝒱 c bd i arg2 harg2 arg3 harg3 arg4 harg4 arg5 harg5 arg6 harg6 arg7 harg7 arg8 harg8 arg9 harg9 k0_h1 X3 X4 k0_t1_loop.trips))
      = EN (arg4.view.read (Elt F) X4) (arg3.view.read (Elt F) X3) := by
  funext y
  have hy : (y 0).val < 1024 := (y 0).isLt
  rw [trips_eq, trips_read 𝒱 c bd i arg2 harg2 arg3 harg3 arg4 harg4 arg5 harg5 arg6 harg6 arg7 harg7 arg8 harg8 arg9 harg9 k0_h1 X3 X4 G y 8 (by omega), if_pos (by omega)]

end Cert.InprojIdeal.Body
-- ==== Proof.InprojV.Math.lean ====
/- The input projection over the extended reals, and what the kernel's blocks are in those terms. -/
module

public import proofs.«01_k».proof.Proof.InprojV.Spec
public import proofs.«01_k».proof.Proof.GlaV.Args

@[expose] public section

set_option maxRecDepth 16384

noncomputable section

namespace Cert.InprojV

open Idealize.ShloMosaic Cert.GlaV

section
variable (H W : ℕ → ℕ → EReal) (G : ℕ → EReal)

/-- The normalised rows, … -/
def N (s x : ℕ) : EReal :=
  H s x * Ideal.rsqrt (Ideal.div (∑ j : Fin 4096, H s j.val * H s j.val) (Ideal.ofBits FTy.f32 1166016512#32) + Ideal.ofBits FTy.f32 897988541#32) * G x
/-- … their product with the weights, … -/
def P (s j : ℕ) : EReal := ∑ x : Fin 4096, N H G s x.val * W x.val j
/-- … the scale of a wide column, … -/
def SC (j : ℕ) : EReal := if 6144 ≤ j ∧ j < 7168 then k16 else if j < 2048 then Ideal.ofBits FTy.f32 1040356334#32 else 1
/-- … the wide columns, scaled, … -/
def WIDE (s j : ℕ) : EReal := P H W G s (if j < 6144 then j else 16 + j) * SC j
/-- … and the small ones with zeros after them. -/
def SMALL (s j : ℕ) : EReal := if j < 16 then P H W G s (6144 + j) else if j < 32 then P H W G s (12304 + (j - 16)) else 0
end

end Cert.InprojV

namespace Cert.InprojIdeal.Body

open Idealize.ShloMosaic Idealize.ShloMosaic.TcCoe Idealize.ShloMosaic.Tactic Cert.InprojIdeal.Gen Cert.Rows Cert.InprojV

theorem EN_val (x : Vec Ideal S1024x4096 .f32) (g : Vec Ideal S1x4096 .f32) (r : Fin 1024) (k : Fin 4096) :
    (EN x g (ix2 r k) : EReal) = x (ix2 r k) * Ideal.rsqrt (Ideal.div (∑ j : Fin 4096, x (ix2 r j) * x (ix2 r j)) (Ideal.ofBits FTy.f32 1166016512#32) + Ideal.ofBits FTy.f32 897988541#32)
      * g (ix2 0 k) := by
  unfold EN loc
  have h : r.val % 32 < 32 := Nat.mod_lt _ (by decide)
  show k0_pay7 (k0_pay3 (win x (32 * (r.val / 32)))) (win x (32 * (r.val / 32))) g (ix2 ⟨r.val % 32, h⟩ k) = _
  unfold_payloads
  pointwise
  simp only [win_at]

theorem small_val (a : Vec Ideal S1024x4096 .bf16) (w : Vec Ideal S128x4096 .bf16) (r : Fin 1024) (k : Fin 128) :
    (k0_pay12 (F := Ideal) a w (ix2 r k) : EReal) = ∑ x : Fin 4096, a (ix2 r x) * w (ix2 k x) := by
  unfold_payloads
  pointwise

theorem OUT_val (w : Vec Ideal S1024x4096 .bf16) (s : Vec Ideal S1x1024 .f32) (a : Vec Ideal S1024x4096 .bf16) (r k : Fin 1024) :
    (OUT w s a (ix2 r k) : EReal) = (∑ x : Fin 4096, a (ix2 r x) * w (ix2 k x)) * s (ix2 0 k) := by
  have hk := k.isLt
  have es : scols s (256 * (k.val / 256)) (ix2 0 ⟨k.val % 256, Nat.mod_lt _ (by decide)⟩) = s (ix2 0 k) := by
    refine congrArg s (congrArg₂ ix2 rfl (Fin.ext ?_))
    show (256 * (k.val / 256) + k.val % 256) % 1024 = k.val
    omega
  have ew : ∀ z : Fin 4096, wrows w (256 * (k.val / 256)) (ix2 ⟨k.val % 256, Nat.mod_lt _ (by decide)⟩ z) = w (ix2 k z) := fun z => by
    refine congrArg w (congrArg₂ ix2 (Fin.ext ?_) rfl)
    show (256 * (k.val / 256) + k.val % 256) % 1024 = k.val
    omega
  rw [← es]
  simp only [← ew]
  unfold OUT
  show k0_pay13 a (wrows w (256 * (k.val / 256))) (scols s (256 * (k.val / 256))) (ix2 r ⟨k.val % 256, Nat.mod_lt _ (by decide)⟩) = _
  unfold_payloads
  generalize wrows w (256 * (k.val / 256)) = w', scols s (256 * (k.val / 256)) = s', (⟨k.val % 256, Nat.mod_lt _ (by decide)⟩ : Fin 256) = q
  pointwise

end Cert.InprojIdeal.Body
-- ==== Proof.InprojV.Run.lean ====
/- The kernel's body at one grid point. At the first column block of a row block it normalises the rows into the scratch
   array and writes the small product; at the others both are as the point before left them. -/
module

public import proofs.«01_k».proof.Proof.InprojV.Spec
public import proofs.«01_k».proof.Proof.Gen.InprojIdeal.Points
public import Idealize.ShloMosaic.Lib.Pipeline.FrameBody

@[expose] public section

set_option maxRecDepth 16384

noncomputable section

namespace Cert.InprojIdeal.Body

open Idealize.ShloMosaic Idealize.ShloMosaic.TcCoe Idealize.ShloMosaic.Tactic Cert.InprojIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem readAt_wrows (v : View sig .tc .vmem S1024x4096 .bf16) (f : v.ty.Contents (Elt F)) (o : ℕ) (inb : ∀ a, (![o, 0] : Fin 2 → ℕ) a + S256x4096.size a ≤ S1024x4096.size a) :
    v.readAt (Elt F) (Rect.unit (s := S1024x4096) ![o, 0] S256x4096.size inb).toLoadRect f = wrows (v.read (Elt F) f) o := by
  funext z
  refine congrArg (v.read (Elt F) f) (funext fun a => Fin.ext ?_)
  have h0 : o + 256 ≤ 1024 := inb 0
  have hz : (z 0).val < 256 := (z 0).isLt
  match a with
  | ⟨0, _⟩ => show o + 1 * (z 0).val = (o + (z 0).val) % 1024; rw [Nat.mod_eq_of_lt (by omega)]; omega
  | ⟨1, _⟩ => show 0 + 1 * (z 1).val = (z 1).val; omega

theorem readAt_scols (v : View sig .tc .vmem S1x1024 .f32) (f : v.ty.Contents (Elt F)) (o : ℕ) (inb : ∀ a, (![0, o] : Fin 2 → ℕ) a + S1x256.size a ≤ S1x1024.size a) :
    v.readAt (Elt F) (Rect.unit (s := S1x1024) ![0, o] S1x256.size inb).toLoadRect f = scols (v.read (Elt F) f) o := by
  funext z
  refine congrArg (v.read (Elt F) f) (funext fun a => Fin.ext ?_)
  have h0 : o + 256 ≤ 1024 := inb 1
  have hz : (z 1).val < 256 := (z 1).isLt
  match a with
  | ⟨0, _⟩ => show 0 + 1 * (z 0).val = (z 0).val; omega
  | ⟨1, _⟩ => show o + 1 * (z 1).val = (o + (z 1).val) % 1024; rw [Nat.mod_eq_of_lt (by omega)]; omega

/-- The position of a column within its group of 256. -/
abbrev cloc (y : S1024x1024.Idx) : S1024x256.Idx := ix2 (y 0) ⟨(y 1).val % 256, Nat.mod_lt _ (by decide)⟩

/-- The four stores of 256 columns leave the output block. -/
theorem read_out (v : View sig .tc .vmem S1024x1024 .bf16) (f : v.ty.Contents (Elt F)) (w0 w1 w2 w3 : Vec F S1024x256 .bf16)
    (w : Vec F S1024x4096 .bf16) (s : Vec F S1x1024 .f32) (a : Vec F S1024x4096 .bf16)
    (h0 : w0 = k0_pay13 a (wrows w 0) (scols s 0)) (h1 : w1 = k0_pay13 a (wrows w 256) (scols s 256))
    (h2 : w2 = k0_pay13 a (wrows w 512) (scols s 512)) (h3 : w3 = k0_pay13 a (wrows w 768) (scols s 768)) :
    v.read (Elt F) (v.writes (Elt F) f [⟨Rect.unit (s := S1024x1024) ![0, 768] S1024x256.size inb_S1024x1024_S1024x256_0_768, w3⟩, ⟨Rect.unit (s := S1024x1024) ![0, 512] S1024x256.size inb_S1024x1024_S1024x256_0_512, w2⟩,
      ⟨Rect.unit (s := S1024x1024) ![0, 256] S1024x256.size inb_S1024x1024_S1024x256_0_256, w1⟩, ⟨Rect.unit (s := S1024x1024) ![0, 0] S1024x256.size inb_S1024x1024_S1024x256_0_0, w0⟩])
      = OUT w s a := by
  funext y
  have hy : (y 1).val < 1024 := (y 1).isLt
  unfold OUT
  by_cases c3 : (y 1).val / 256 = 3
  · rw [c3]
    refine (View.read_writes_cons_unit_of_mem v f inb_S1024x1024_S1024x256_0_768 w3 _ y (cloc y) rfl fun a => ?_).trans (congrFun h3 _)
    match a with
    | ⟨0, _⟩ => show (y 0).val = 0 + (y 0).val; omega
    | ⟨1, _⟩ => show (y 1).val = 768 + (y 1).val % 256; omega
  rw [View.read_writes_cons_unit_of_not_mem v f inb_S1024x1024_S1024x256_0_768 w3 _ y rfl 1 (.inl (show (y 1).val < 768 by omega))]
  by_cases c2 : (y 1).val / 256 = 2
  · rw [c2]
    refine (View.read_writes_cons_unit_of_mem v f inb_S1024x1024_S1024x256_0_512 w2 _ y (cloc y) rfl fun a => ?_).trans (congrFun h2 _)
    match a with
    | ⟨0, _⟩ => show (y 0).val = 0 + (y 0).val; omega
    | ⟨1, _⟩ => show (y 1).val = 512 + (y 1).val % 256; omega
  rw [View.read_writes_cons_unit_of_not_mem v f inb_S1024x1024_S1024x256_0_512 w2 _ y rfl 1 (.inl (show (y 1).val < 512 by omega))]
  by_cases c1 : (y 1).val / 256 = 1
  · rw [c1]
    refine (View.read_writes_cons_unit_of_mem v f inb_S1024x1024_S1024x256_0_256 w1 _ y (cloc y) rfl fun a => ?_).trans (congrFun h1 _)
    match a with
    | ⟨0, _⟩ => show (y 0).val = 0 + (y 0).val; omega
    | ⟨1, _⟩ => show (y 1).val = 256 + (y 1).val % 256; omega
  rw [View.read_writes_cons_unit_of_not_mem v f inb_S1024x1024_S1024x256_0_256 w1 _ y rfl 1 (.inl (show (y 1).val < 256 by omega))]
  have c0 : (y 1).val / 256 = 0 := by omega
  rw [c0]
  refine (View.read_writes_cons_unit_of_mem v f inb_S1024x1024_S1024x256_0_0 w0 _ y (cloc y) rfl fun a => ?_).trans (congrFun h0 _)
  match a with
  | ⟨0, _⟩ => show (y 0).val = 0 + (y 0).val; omega
  | ⟨1, _⟩ => show (y 1).val = 0 + (y 1).val % 256; omega

theorem pay_congr {a a' : Vec F S1024x4096 .bf16} {w w' : Vec F S256x4096 .bf16} {s s' : Vec F S1x256 .f32}
    (e1 : a = a') (e2 : w = w') (e3 : s = s') : k0_pay13 a w s = k0_pay13 a' w' s' := by
  rw [e1, e2, e3]
theorem small_congr {a a' : Vec F S1024x4096 .bf16} {w w' : Vec F S128x4096 .bf16} (e1 : a = a') (e2 : w = w') : k0_pay12 a w = k0_pay12 a' w' := by
  rw [e1, e2]

variable (c : Dev nD) (i : grid0.Coords) (arg2 : Memref sig .tc .vmem S1024x4096 .bf16) (harg2 : arg2.IsWhole) (arg3 : Memref sig .tc .vmem S1x4096 .f32) (harg3 : arg3.IsWhole) (arg4 : Memref sig .tc .vmem S1024x4096 .f32) (harg4 : arg4.IsWhole) (arg5 : Memref sig .tc .vmem S128x4096 .bf16) (harg5 : arg5.IsWhole) (arg6 : Memref sig .tc .vmem S1x1024 .f32) (harg6 : arg6.IsWhole) (arg7 : Memref sig .tc .vmem S1024x1024 .bf16) (harg7 : arg7.IsWhole) (arg8 : Memref sig .tc .vmem S1024x128 .f32) (harg8 : arg8.IsWhole) (arg9 : Memref sig .tc .vmem S1024x4096 .bf16) (harg9 : arg9.IsWhole)
    (x0 : Vec F S1024x4096 .bf16) (x1 : Vec F S1x4096 .f32) (x2 : Vec F S1024x4096 .f32) (x3 : Vec F S128x4096 .bf16) (x4 : Vec F S1x1024 .f32)

/-- The blocks held, with what else is. -/
abbrev holds (y0 : Vec F S1024x4096 .bf16) (y1 : Vec F S1x4096 .f32) (y2 : Vec F S1024x4096 .f32) (y3 : Vec F S128x4096 .bf16) (y4 : Vec F S1x1024 .f32) (R : sProp 𝕄G) : sProp 𝕄G :=
  iprop(owns (c : Thread nD τ) arg2 fullShare y0 ∗ owns (c : Thread nD τ) arg3 fullShare y1 ∗ owns (c : Thread nD τ) arg4 fullShare y2 ∗ owns (c : Thread nD τ) arg5 fullShare y3 ∗ owns (c : Thread nD τ) arg6 fullShare y4 ∗ R)

set_option maxHeartbeats 1000000 in
/-- The body at a column block that is not the first: the scratch array and the small product are kept. -/
theorem runB (hc0 : ¬k0_cond1 i = 1#1) (os : Vec F S1024x128 .f32) (a : Vec F S1024x4096 .bf16) :
      ∀ (E : Set ℕ) (K : PUnit → sProp 𝕄G),
        (holds c arg2 arg3 arg4 arg5 arg6 x0 x1 x2 x3 x4 iprop((∃ d, owns (c : Thread nD τ) arg7 fullShare d) ∗ owns (c : Thread nD τ) arg8 fullShare os ∗ owns (c : Thread nD τ) arg9 fullShare a
            ∗ ((holds c arg2 arg3 arg4 arg5 arg6 x0 x1 x2 x3 x4 iprop(owns (c : Thread nD τ) arg7 fullShare (OUT x0 x4 a) ∗ owns (c : Thread nD τ) arg8 fullShare os ∗ owns (c : Thread nD τ) arg9 fullShare a)) -∗ K ⟨⟩)))
          ⊢ wp frame (wpE (defs₀ (F := F)) Variants.none c none) E (cc0_inproj i arg2 harg2 arg3 harg3 arg4 harg4 arg5 harg5 arg6 harg6 arg7 harg7 arg8 harg8 arg9 harg9) K := by
    intro E K
    simp only [cc0_inproj_eq_skeleton]; unfold cc0_inproj_skel
    simp only [k0_part3_eq_skeleton]
    unfold holds owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_run_names
      refine read_out arg7.view _ _ _ _ _ x0 x4 a
        (pay_congr ?_ ((readAt_wrows arg2.view _ 0 _).trans (congrArg (fun x => wrows x 0) hf0)) ((readAt_scols arg6.view _ 0 _).trans (congrArg (fun x => scols x 0) hf4)))
        (pay_congr ?_ ((readAt_wrows arg2.view _ 256 _).trans (congrArg (fun x => wrows x 256) hf0)) ((readAt_scols arg6.view _ 256 _).trans (congrArg (fun x => scols x 256) hf4)))
        (pay_congr ?_ ((readAt_wrows arg2.view _ 512 _).trans (congrArg (fun x => wrows x 512) hf0)) ((readAt_scols arg6.view _ 512 _).trans (congrArg (fun x => scols x 512) hf4)))
        (pay_congr ?_ ((readAt_wrows arg2.view _ 768 _).trans (congrArg (fun x => wrows x 768) hf0)) ((readAt_scols arg6.view _ 768 _).trans (congrArg (fun x => scols x 768) hf4)))
      all_goals exact (View.readAt_full arg9.view _ _).trans hs0
    isplitl [H6]
    · iexists _; isplitr; swap; · iexact H6
      ipureintro; exact harg8.read_unread _
    iexists _; isplitr; swap; · iexact HS0
    ipureintro; exact harg9.read_unread _

set_option maxHeartbeats 1000000 in
/-- The body at the first column block of a row block. -/
theorem runA (hc0 : k0_cond1 i = 1#1) :
      ∀ (E : Set ℕ) (K : PUnit → sProp 𝕄G),
        (holds c arg2 arg3 arg4 arg5 arg6 x0 x1 x2 x3 x4 iprop((∃ d, owns (c : Thread nD τ) arg7 fullShare d) ∗ (∃ d, owns (c : Thread nD τ) arg8 fullShare d) ∗ (∃ d, owns (c : Thread nD τ) arg9 fullShare d)
            ∗ ((holds c arg2 arg3 arg4 arg5 arg6 x0 x1 x2 x3 x4 iprop(owns (c : Thread nD τ) arg7 fullShare (OUT x0 x4 (EN x2 x1)) ∗ owns (c : Thread nD τ) arg8 fullShare (k0_pay12 (EN x2 x1) x3) ∗ owns (c : Thread nD τ) arg9 fullShare (EN x2 x1))) -∗ K ⟨⟩)))
          ⊢ wp frame (wpE (defs₀ (F := F)) Variants.none c none) E (cc0_inproj i arg2 harg2 arg3 harg3 arg4 harg4 arg5 harg5 arg6 harg6 arg7 harg7 arg8 harg8 arg9 harg9) K := by
    intro E K
    simp only [cc0_inproj_eq_skeleton]; unfold cc0_inproj_skel
    simp only [k0_part3_eq_skeleton]
    unfold holds owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_run_names
      refine read_out arg7.view _ _ _ _ _ x0 x4 (EN x2 x1)
        (pay_congr ?_ ((readAt_wrows arg2.view _ 0 _).trans (congrArg (fun x => wrows x 0) hf0)) ((readAt_scols arg6.view _ 0 _).trans (congrArg (fun x => scols x 0) hf4)))
        (pay_congr ?_ ((readAt_wrows arg2.view _ 256 _).trans (congrArg (fun x => wrows x 256) hf0)) ((readAt_scols arg6.view _ 256 _).trans (congrArg (fun x => scols x 256) hf4)))
        (pay_congr ?_ ((readAt_wrows arg2.view _ 512 _).trans (congrArg (fun x => wrows x 512) hf0)) ((readAt_scols arg6.view _ 512 _).trans (congrArg (fun x => scols x 512) hf4)))
        (pay_congr ?_ ((readAt_wrows arg2.view _ 768 _).trans (congrArg (fun x => wrows x 768) hf0)) ((readAt_scols arg6.view _ 768 _).trans (congrArg (fun x => scols x 768) hf4)))
      all_goals exact (View.readAt_full arg9.view _ _).trans (((scratch (F := F) Variants.none c none i arg2 harg2 arg3 harg3 arg4 harg4 arg5 harg5 arg6 harg6 arg7 harg7 arg8 harg8 arg9 harg9 hc0 _ _ _).trans (by rw [hf1, hf2])))
    isplitl [H6]
    · iexists _; isplitr; swap; · iexact H6
      ipureintro
      sl_unfold_run_names
      refine (View.read_writes_full arg8.view _ _ _ _).trans ?_
      refine small_congr ((View.readAt_full arg9.view _ _).trans (((scratch (F := F) Variants.none c none i arg2 harg2 arg3 harg3 arg4 harg4 arg5 harg5 arg6 harg6 arg7 harg7 arg8 harg8 arg9 harg9 hc0 _ _ _).trans (by rw [hf1, hf2])))) ((View.readAt_full arg5.view _ _).trans hf3)
    iexists _; isplitr; swap; · iexact HS0
    ipureintro; exact ((scratch (F := F) Variants.none c none i arg2 harg2 arg3 harg3 arg4 harg4 arg5 harg5 arg6 harg6 arg7 harg7 arg8 harg8 arg9 harg9 hc0 _ _ _).trans (by rw [hf1, hf2]))

end Cert.InprojIdeal.Body
-- ==== Proof.InprojV.Launch.lean ====
/- The launch of the input projection: what its scratch array holds between grid points, what every point leaves in its
   output blocks, and that the whole program runs, keeps its arguments and ends with its counters at rest. -/
module

public import proofs.«01_k».proof.Proof.InprojV.Run
public import proofs.«01_k».proof.Proof.Gen.InprojIdeal.Frame
public import Idealize.ShloMosaic.Lib.WordCmp
public import Idealize.ShloMosaic.Lib.Claim

@[expose] public section

set_option maxRecDepth 16384

noncomputable section

namespace Cert.InprojIdeal.Body

open Idealize.ShloMosaic Idealize.ShloMosaic.TcCoe Idealize.ShloMosaic.Tactic Cert.InprojIdeal.Gen Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The scratch array is filled at the points ≡ 0 (mod 12). -/
theorem fills_iff (t : Fin cfg0.N) : k0_cond1 (grid0.coords t) = 1#1 ↔ t.val % 12 = 0 := by
  have ht : t.val < 96 := Nat.lt_of_lt_of_eq t.isLt N_0
  have e1 : (grid0.coords t 1).val = t.val / 1 % 12 := Pipeline.Grid.coords_val t 1 (by decide) rfl
  simp only [k0_cond1, e1]
  word_cmp

/-- The first point of a point's row block. -/
def lead (n : ℕ) (h : n < cfg0.N) : Fin cfg0.N := ⟨12 * (n / 12), by omega⟩

/-- The normalised rows of the row block of point `n`, and their product with the small weights. -/
def aAt (c : Dev nD) (n : ℕ) (h : n < cfg0.N) : Vec F S1024x4096 .bf16 := EN (iblk m c 2 (lead n h)) (iblk m c 1 (lead n h))
def smAt (c : Dev nD) (n : ℕ) (h : n < cfg0.N) : Vec F S1024x128 .f32 := k0_pay12 (aAt m c n h) (iblk m c 3 (lead n h))
/-- What point `t` leaves in the wide output block. -/
def outAt (c : Dev nD) (t : Fin cfg0.N) : Vec F S1024x1024 .bf16 := OUT (iblk m c 0 t) (iblk m c 4 t) (aAt m c t.val t.isLt)

theorem lead_eq (n k : ℕ) (hn : n < cfg0.N) (hk : k < cfg0.N) (e : n / 12 = k / 12) : lead n hn = lead k hk := by
  unfold lead; exact Fin.ext (by show 12 * (n / 12) = 12 * (k / 12); rw [e])
theorem lead_self (t : Fin cfg0.N) (h : t.val % 12 = 0) : lead t.val t.isLt = t :=
  Fin.ext (by show 12 * (t.val / 12) = t.val; omega)

abbrev st0 (t : Fin cfg0.N) : Memref sig .tc .vmem S1024x4096 .bf16 := win0_0.stage (cfg0.slots t 0)
abbrev st1 (t : Fin cfg0.N) : Memref sig .tc .vmem S1x4096 .f32 := win0_1.stage (cfg0.slots t 1)
abbrev st2 (t : Fin cfg0.N) : Memref sig .tc .vmem S1024x4096 .f32 := win0_2.stage (cfg0.slots t 2)
abbrev st3 (t : Fin cfg0.N) : Memref sig .tc .vmem S128x4096 .bf16 := win0_3.stage (cfg0.slots t 3)
abbrev st4 (t : Fin cfg0.N) : Memref sig .tc .vmem S1x1024 .f32 := win0_4.stage (cfg0.slots t 4)
abbrev st5 (t : Fin cfg0.N) : Memref sig .tc .vmem S1024x1024 .bf16 := win0_5.stage (cfg0.slots t 5)
abbrev st6 (t : Fin cfg0.N) : Memref sig .tc .vmem S1024x128 .f32 := win0_6.stage (cfg0.slots t 6)
abbrev sc0 : Memref sig .tc .vmem S1024x4096 .bf16 := Memref.whole cc0_scratch0

/-- The launch's scratch array, at any contents, and the generator register. -/
theorem rest_eq (c : Dev nD) : (Pipeline.ΦA spec0 c : sProp 𝕄G)
    = iprop((∃ d, owns (c : Thread nD τ) sc0 fullShare d) ∗ (∃ r, prngReg c r)) := by
  unfold Pipeline.ΦA; rw [scopedRest0_eq]; simp only [sc0, owns_whole]; rfl

/-- The scratch array before position `n`. -/
def carried (c : Dev nD) : (n : ℕ) → n ≤ cfg0.N → sProp 𝕄G
  | 0, _ => Pipeline.ΦA spec0 c
  | n + 1, hn => iprop(owns (c : Thread nD τ) sc0 fullShare (aAt m c n hn) ∗ (∃ r, prngReg c r))

theorem carried_zero (c : Dev nD) (n : ℕ) (h : n ≤ cfg0.N) (hz : n = 0) : carried m c n h = Pipeline.ΦA spec0 c := by
  subst hz; rfl
theorem carried_pos (c : Dev nD) (n : ℕ) (h : n ≤ cfg0.N) (hz : n ≠ 0) : carried m c n h
    = iprop(owns (c : Thread nD τ) sc0 fullShare (aAt m c (n - 1) (by omega)) ∗ (∃ r, prngReg c r)) := by
  cases n with
  | zero => exact absurd rfl hz
  | succ n => rfl

/-- Whatever the scratch array holds, it holds something. -/
theorem carried_any (c : Dev nD) (n : ℕ) (h : n ≤ cfg0.N) : carried m c n h ⊢ Pipeline.ΦA spec0 c := by
  by_cases hz : n = 0
  · rw [carried_zero m c n h hz]
  · rw [carried_pos m c n h hz, rest_eq]
    iintro ⟨H0, Hg⟩
    isplitl [H0]; · iexists _; iexact H0
    iexact Hg

/-- The pipeline's data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
    | ⟨6, _⟩ => smAt m c t.val t.isLt
  Φ t := carried m c t.val (Nat.le_of_lt_succ t.isLt)
  q _ := fullShare
  owed _ := 0

theorem data_A (c : Dev nD) (w : Fin cfg0.W) : (data m 0 c).A w = V m c (Pipeline.arrRef spec0 w) := by
  dsimp only [data]
theorem data_carried (c : Dev nD) (t : Fin cfg0.N) : (data m 0 c).Φ t.castSucc = carried m c t.val (Nat.le_of_lt t.isLt) := by
  dsimp only [data]; exact Pipeline.Dat.Φ_castSucc (carried m c) t
theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = iblk m c 4 t := by dsimp only [data]
theorem left5 (c : Dev nD) (t : Fin cfg0.N) : (data m 0 c).after 5 t = outAt m c t := by dsimp only [data]
theorem left6 (c : Dev nD) (t : Fin cfg0.N) : (data m 0 c).after 6 t = smAt m c t.val t.isLt := by dsimp only [data]
theorem found0 (c : Dev nD) (t : Fin cfg0.N) (d) : (data m 0 c).before 0 t d = iblk m c 0 t := before0_0_of m (data m 0 c) (data_A m c 0) (left0 m c) t d
theorem found1 (c : Dev nD) (t : Fin cfg0.N) (d) : (data m 0 c).before 1 t d = iblk m c 1 t := before0_1_of m (data m 0 c) (data_A m c 1) (left1 m c) t d
theorem found2 (c : Dev nD) (t : Fin cfg0.N) (d) : (data m 0 c).before 2 t d = iblk m c 2 t := before0_2_of m (data m 0 c) (data_A m c 2) (left2 m c) t d
theorem found3 (c : Dev nD) (t : Fin cfg0.N) (d) : (data m 0 c).before 3 t d = iblk m c 3 t := before0_3_of m (data m 0 c) (data_A m c 3) (left3 m c) t d
theorem found4 (c : Dev nD) (t : Fin cfg0.N) (d) : (data m 0 c).before 4 t d = iblk m c 4 t := before0_4_of m (data m 0 c) (data_A m c 4) (left4 m c) t d

/-- The body stores into the small output block at the first point of a row block only. -/
theorem idle_iff (t : Fin cfg0.N) : cfg0.idle 6 (grid0.coords t) = true ↔ t.val % 12 ≠ 0 := by
  rw [show cfg0.idle 6 (grid0.coords t) = !(k0_cond1 (grid0.coords t) == 1#1) from rfl, Bool.not_eq_true', beq_eq_false_iff_ne, Ne, fills_iff]

/-- After it the block is as that point left it. -/
theorem found6 (c : Dev nD) (n : ℕ) : ∀ (t : Fin cfg0.N) (_ : t.val = n) (_ : t.val % 12 ≠ 0) (d), (data m 0 c).before 6 t d = smAt m c t.val t.isLt := by
  induction n with
  | zero => intro t h0 h; omega
  | succ n ih =>
    intro t hn h d
    have hf : (cfg0.win 6).flush ⟨t.val - 1, Nat.lt_of_le_of_lt (Nat.sub_le _ _) t.isLt⟩ = false := by
      rw [Bool.eq_false_iff]; intro h'
      have h1 := (flush0_6 _).mp h'
      dsimp only at h1; omega
    have e : smAt m c (t.val - 1) (Nat.lt_of_le_of_lt (Nat.sub_le _ _) t.isLt) = smAt m c t.val t.isLt := by
      unfold smAt aAt
      rw [lead_eq (t.val - 1) t.val _ t.isLt (by omega)]
    rw [(data m 0 c).before_of_pos 6 t (by omega) ((cfg0.win 6).fetch_out rfl t), hf, if_neg Bool.false_ne_true]
    unfold Dat.left
    cases hi : cfg0.idle 6 (cfg0.grid.coords ⟨t.val - 1, Nat.lt_of_le_of_lt (Nat.sub_le _ _) t.isLt⟩)
    · show (data m 0 c).kept 6 _ d = _
      unfold Dat.kept
      rw [Pipeline.fill_of_clip_none (cfg := cfg0) 6 _ (fun _ => rfl) d ((data m 0 c).after 6 _), Window.fill_cut, left6]
      exact e
    · exact (ih _ (by show t.val - 1 = n; omega) ((idle_iff _).mp hi) d).trans e

/-- So it is at the row block's product at every point, whichever way the launch asks for it. -/
theorem leaves6 (c : Dev nD) (t : Fin cfg0.N) : owns (c : Thread nD τ) (st6 t) fullShare (smAt m c t.val t.isLt) ⊢ ((data m 0 c).leavesExact 6 t : sProp 𝕄G) := by
  unfold Dat.leavesExact
  cases hi : cfg0.idle 6 (cfg0.grid.coords t)
  · dsimp only; rw [left6]
  · cases hf : (cfg0.win 6).flush t
    · dsimp only
      simp only [found6 m c t.val t rfl ((idle_iff t).mp hi)]
      iintro H
      iexists (smAt m c t.val t.isLt)
      iexact H
    · dsimp only; rw [left6]

/-- What the body is handed at point `t`, -/
def given (c : Dev nD) (t : Fin cfg0.N) : sProp 𝕄G :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare ((data m 0 c).before 3 t d))
    ∗ (∃ d, owns (c : Thread nD τ) (st4 t) fullShare ((data m 0 c).before 4 t d))
    ∗ (∃ d, owns (c : Thread nD τ) (st5 t) fullShare ((data m 0 c).before 5 t d))
    ∗ (∃ d, owns (c : Thread nD τ) (st6 t) fullShare ((data m 0 c).before 6 t d)))

/-- and what it hands back. -/
def handed (c : Dev nD) (t : Fin cfg0.N) : sProp 𝕄G :=
  iprop((data m 0 c).Φ t.succ ∗ (data m 0 c).owesAt () t.succ
    ∗ owns (c : Thread nD τ) (st0 t) fullShare ((data m 0 c).after 0 t)
    ∗ owns (c : Thread nD τ) (st1 t) fullShare ((data m 0 c).after 1 t)
    ∗ owns (c : Thread nD τ) (st2 t) fullShare ((data m 0 c).after 2 t)
    ∗ owns (c : Thread nD τ) (st3 t) fullShare ((data m 0 c).after 3 t)
    ∗ owns (c : Thread nD τ) (st4 t) fullShare ((data m 0 c).after 4 t)
    ∗ owns (c : Thread nD τ) (st5 t) fullShare ((data m 0 c).after 5 t)
    ∗ (data m 0 c).leavesExact 6 t)

set_option maxHeartbeats 1600000 in
theorem point (c : Dev nD) (t : Fin cfg0.N) :
    given m c t ⊢ wp frame (wpE (defs₀ (F := F)) Variants.none c none) Set.univ (bodyAt0 t) (fun _ => handed m c t) := by
  unfold given handed bodyAt0
  simp only [found0, found1, found2, found3, found4]
  rw [show (data m 0 c).owesAt () t.succ = (data m 0 c).owesAt () t.castSucc from rfl,
    left0, left1, left2, left3, left4, left5, data_carried m c t,
    show (data m 0 c).Φ t.succ = iprop(owns (c : Thread nD τ) sc0 fullShare (aAt m c t.val t.isLt) ∗ (∃ r, prngReg c r)) from rfl]
  by_cases h0 : t.val % 12 = 0
  · have e9 : EN (iblk m c 2 t) (iblk m c 1 t) = aAt m c t.val t.isLt := by unfold aAt; rw [lead_self t h0]
    have e8 : k0_pay12 (aAt m c t.val t.isLt) (iblk m c 3 t) = smAt m c t.val t.isLt := by unfold smAt; rw [lead_self t h0]
    have e7 : OUT (iblk m c 0 t) (iblk m c 4 t) (aAt m c t.val t.isLt) = outAt m c t := rfl
    refine BIBase.Entails.trans (sep_mono_l (carried_any m c _ _)) ?_
    rw [rest_eq]
    change iprop(_ ∗ _) ⊢ _
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (runA c (grid0.coords t) _ _ _ _ _ _ _ _ _ _ _ _ _ _ _ _ (iblk m c 0 t) (iblk m c 1 t) (iblk m c 2 t) (iblk m c 3 t) (iblk m c 4 t) ((fills_iff t).mpr h0) Set.univ _)
    rw [e9, e8, e7]
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t); iexact H6
  · have hz : t.val ≠ 0 := by omega
    have e9 : aAt m c (t.val - 1) (by omega) = aAt m c t.val t.isLt := by unfold aAt; rw [lead_eq (t.val - 1) t.val (by omega) t.isLt (by omega)]
    have e7 : OUT (iblk m c 0 t) (iblk m c 4 t) (aAt m c t.val t.isLt) = outAt m c t := rfl
    rw [carried_pos m c _ _ hz, e9]
    simp only [found6 m c t.val t rfl h0]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (runB c (grid0.coords t) _ _ _ _ _ _ _ _ _ _ _ _ _ _ _ _ (iblk m c 0 t) (iblk m c 1 t) (iblk m c 2 t) (iblk m c 3 t) (iblk m c 4 t) (fun h => h0 ((fills_iff t).mp h))
      (smAt m c t.val t.isLt) (aAt m c t.val t.isLt) Set.univ _)
    rw [e7]
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t); iexact H6

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (point m c t) rfl .rfl fun _ => .rfl

theorem enter (c : Dev nD) : Pipeline.ΦA spec0 c ⊢ (data m 0 c).Φ 0 := by
  rw [show (data m 0 c).Φ 0 = carried m c 0 (Nat.zero_le _) from rfl, carried_zero m c 0 _ rfl]

theorem leave (c : Dev nD) : (data m 0 c).Φ (Fin.last cfg0.N) ⊢ Pipeline.ΦA spec0 c := by
  rw [show (data m 0 c).Φ (Fin.last cfg0.N) = carried m c (Fin.last cfg0.N).val (Nat.le_of_lt_succ (Fin.last cfg0.N).isLt) from rfl]
  exact carried_any m c _ _

set_option backward.isDefEq.respectTransparency.types false in
/-- The program runs to the library's computed arrays, with its counters at rest. -/
theorem runs : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enter m) (hout := leave m)

theorem runs_arrays : θ_run defs (onTc (τ := τ) (main (F := F))) (s₀ m ρ) (Pipeline.FramePost cfgs (data m) 0 (V m)) :=
  (θ_run defs _ _).mono (fun _ h => h.1) (runs m ρ)

/-- The arguments end as they began, and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (data m) (data_A m) (runs_arrays m ρ)) ((θ_run defs _ _).mono (fun _ h => h.2) (runs m ρ))

end Cert.InprojIdeal.Body
-- ==== Proof.InprojV.Blocks.lean ====
/- Every grid point's blocks, read at an element of the arguments: point `t` is row block `t / 12`, column block `t % 12`. -/
module

public import proofs.«01_k».proof.Proof.InprojV.Math
public import proofs.«01_k».proof.Proof.InprojV.Launch
public import proofs.«01_k».proof.Proof.GlaV.Scatter
public import Idealize.ShloMosaic.Lib.Pipeline.ValueKit
public import Idealize.ShloMosaic.Lib.StableHlo.Run

@[expose] public section

set_option maxRecDepth 16384

noncomputable section

namespace Cert.InprojIdeal.Body

open Idealize.ShloMosaic Idealize.ShloMosaic.TcCoe Idealize.ShloMosaic.Tactic Cert.InprojIdeal.Gen Cert.Rows Cert.InprojV Cert.GlaV

variable (m : (l : Loc nD τ sig) → Buf (Elt Ideal) l) (c : Dev nD)

/-- The launch memory's arguments, as numbered matrices. -/
abbrev Hm : ℕ → ℕ → EReal := at2 (n := 8192) (k := 4096) (m ((c : Thread nD τ).loc main_arg0))
abbrev Gm : ℕ → EReal := at1 (n := 4096) (m ((c : Thread nD τ).loc main_arg1))
abbrev Wm : ℕ → ℕ → EReal := at2 (n := 4096) (k := 12320) (m ((c : Thread nD τ).loc main_arg2))

theorem main1 (r : Fin 12320) (j : Fin 4096) : V m c main_v1 (ix2 r j) = (Wm m c j r : EReal) := by
  show StableHlo.after _ _ _ _ = _
  simp only [hostOps0, List.flatten_cons, List.flatten_nil, List.append_nil]
  entry_read
  pointwise
  exact at2_ix (n := 4096) (k := 12320) _ _ _

theorem main13 (j : Fin 4096) : V m c main_v13 (ix2 0 j) = (Gm m c j : EReal) := by
  show StableHlo.after _ _ _ _ = _
  simp only [hostOps0, List.flatten_cons, List.flatten_nil, List.append_nil]
  entry_read
  pointwise
  exact at1_ix (n := 4096) _ _

theorem main12 (j : Fin 12288) : V m c main_v12 (ix2 0 j) = (SC j : EReal) := by
  show StableHlo.after _ _ _ _ = _
  simp only [hostOps0, List.flatten_cons, List.flatten_nil, List.append_nil]
  entry_read
  pointwise
  rw [scatter_slab _ _ 0 6144 _ _ (by intro j; rfl) (by intro j; rfl) (by intro j; rfl) (by intro j; rfl)]
  rw [scatter_slab _ _ 0 0 _ _ (by intro j; rfl) (by intro j; rfl) (by intro j; rfl) (by intro j; rfl)]
  have := j.isLt
  unfold SC
  split
  · rename_i h
    rw [if_pos ⟨h.2.2.1, by omega⟩]; rfl
  · rename_i h
    rw [if_neg (fun q => h ⟨Nat.zero_le _, Nat.one_pos, q.1, by omega⟩)]
    split
    · rename_i h
      rw [if_pos (by omega)]; rfl
    · rename_i h
      rw [if_neg (fun q => h ⟨Nat.zero_le _, Nat.one_pos, Nat.zero_le _, by omega⟩)]
      exact one_bits

theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The small weights: sixteen rows, sixteen more, zeros. -/
theorem main5 (s : Fin 128) (j : Fin 4096) :
    V m c main_v5 (ix2 s j) = (if s.val < 16 then Wm m c j (6144 + s.val) else if s.val < 32 then Wm m c j (12304 + (s.val - 16)) else 0 : EReal) := by
  have e2 : StableHlo.after hostOps0 (fun b => m (c, b)) (Proc.devRef .tc main_v5)
      = (concatenate S128x4096 0 [⟨S16x4096, (StableHlo.after (List.take 6 hostOps0) (fun b => m (c, b)) (Proc.devRef .tc main_v3) : Vec Ideal S16x4096 .bf16)⟩,
          ⟨S16x4096, (StableHlo.after (List.take 6 hostOps0) (fun b => m (c, b)) (Proc.devRef .tc main_v4) : Vec Ideal S16x4096 .bf16)⟩,
          ⟨S96x4096, (StableHlo.after (List.take 6 hostOps0) (fun b => m (c, b)) (Proc.devRef .tc main_v2) : Vec Ideal S96x4096 .bf16)⟩]
          concatenates_S16x4096_S16x4096_S96x4096_S128x4096_d0 : Vec Ideal S128x4096 .bf16) := by
    conv_lhs => rw [← List.take_append_drop 6 (hostOps0 : List (HloOp τ sig (Elt Ideal))), after_append]
    generalize StableHlo.after (List.take 6 hostOps0) (fun b => m (c, b)) = W
    have hd : List.drop 6 (hostOps0 : List (HloOp τ sig (Elt Ideal))) = hostOps0[6] :: List.drop 7 hostOps0 := rfl
    rw [hd]
    show StableHlo.after (List.drop 7 hostOps0) (HloOp.result hostOps0[6] W) _ = _
    refine (StableHlo.after_of_forall_not_mem _ _ (List.forall_iff_forall_mem.mp ?_)).trans ?_
    · simp only [hostOps0, List.drop_succ_cons, List.drop_zero, List.Forall, StableHlo.nullary_writes,
        StableHlo.unary_writes, StableHlo.binary_writes, StableHlo.ternary_writes, StableHlo.reshape_writes, Finset.mem_singleton]
      repeat' apply And.intro
      all_goals exact StableHlo.devRef_ne_of_ne (by decide)
    · simp only [hostOps0, List.getElem_cons_succ, List.getElem_cons_zero]
      rw [StableHlo.nary_result]
      rfl
  have a3 : ∀ (r : Fin 16) (k : Fin 4096), (StableHlo.after (List.take 6 hostOps0) (fun b => m (c, b)) (Proc.devRef .tc main_v3) : Vec Ideal S16x4096 .bf16) (ix2 r k) = (Wm m c k (6144 + r.val) : EReal) := by
    intro r k
    simp only [hostOps0, List.take_succ_cons, List.take_zero]
    entry_read
    pointwise
    exact at2_ix (n := 4096) (k := 12320) _ _ _
  have a4 : ∀ (r : Fin 16) (k : Fin 4096), (StableHlo.after (List.take 6 hostOps0) (fun b => m (c, b)) (Proc.devRef .tc main_v4) : Vec Ideal S16x4096 .bf16) (ix2 r k) = (Wm m c k (12304 + r.val) : EReal) := by
    intro r k
    simp only [hostOps0, List.take_succ_cons, List.take_zero]
    entry_read
    pointwise
    exact at2_ix (n := 4096) (k := 12320) _ _ _
  have a2 : ∀ (r : Fin 96) (k : Fin 4096), (StableHlo.after (List.take 6 hostOps0) (fun b => m (c, b)) (Proc.devRef .tc main_v2) : Vec Ideal S96x4096 .bf16) (ix2 r k) = (0 : EReal) := by
    intro r k
    simp only [hostOps0, List.take_succ_cons, List.take_zero]
    entry_read
    pointwise
  show StableHlo.after hostOps0 (fun b => m (c, b)) (Proc.devRef .tc main_v5) (ix2 s j) = _
  rw [e2]
  generalize hz : (if s.val < 16 then Wm m c j (6144 + s.val) else if s.val < 32 then Wm m c j (12304 + (s.val - 16)) else 0 : EReal) = z
  pointwise
  subst hz
  have := s.isLt
  by_cases h1 : s.val < 16
  · rw [dif_pos h1, if_pos h1]; exact a3 _ _
  · rw [dif_neg h1, if_neg h1]
    by_cases h2 : s.val < 32
    · rw [dif_pos (by omega), if_pos h2]; exact a4 _ _
    · rw [dif_neg (by omega), if_neg h2]; exact a2 _ _

/-- The first row of the weights a column block takes. -/
def wo (n : ℕ) : ℕ := if n < 6 then 1024 * n else 6160 + 1024 * (n - 6)
theorem wo_lt (n : ℕ) (h : n < 12) : wo n + 1024 ≤ 12320 := by unfold wo; split <;> omega
theorem wo_eq (n k : ℕ) (h : n < 12) (hk : k < 1024) : wo n + k = if 1024 * n + k < 6144 then 1024 * n + k else 16 + (1024 * n + k) := by
  unfold wo; split <;> split <;> omega

theorem ix_0 : ∀ t : Fin cfg0.N, win0_0.index t 0 = wo (t.val % 12) ∧ win0_0.index t 1 = 0 := by decide +kernel
theorem ix_1 : ∀ t : Fin cfg0.N, win0_1.index t 0 = 0 ∧ win0_1.index t 1 = 0 := by decide +kernel
theorem ix_2 : ∀ t : Fin cfg0.N, win0_2.index t 0 = t.val / 12 ∧ win0_2.index t 1 = 0 := by decide +kernel
theorem ix_3 : ∀ t : Fin cfg0.N, win0_3.index t 0 = 0 ∧ win0_3.index t 1 = 0 := by decide +kernel
theorem ix_4 : ∀ t : Fin cfg0.N, win0_4.index t 0 = 0 ∧ win0_4.index t 1 = t.val % 12 := by decide +kernel
theorem ix_5 : ∀ t : Fin cfg0.N, win0_5.index t 0 = t.val / 12 ∧ win0_5.index t 1 = t.val % 12 := by decide +kernel
theorem ix_6 : ∀ t : Fin cfg0.N, win0_6.index t 0 = t.val / 12 ∧ win0_6.index t 1 = 0 := by decide +kernel

theorem lt_N (t : Fin cfg0.N) : t.val < 96 := lt_of_lt_of_eq t.isLt N_0

theorem blk_0 (t : Fin cfg0.N) (r : Fin 1024) (k : Fin 4096) : iblk m c 0 t (ix2 r k) = (Wm m c k (wo (t.val % 12) + r.val) : EReal) := by
  have h := ix_0 t
  have hw := wo_lt (t.val % 12) (by omega)
  have e : iblk m c 0 t (ix2 r k) = V m c main_v1 (ix2 ⟨wo (t.val % 12) + r.val, by omega⟩ k) := by
    refine congrArg (V m c main_v1) (funext fun a => Fin.ext ?_)
    match a with
    | ⟨0, _⟩ =>
      show win0_0.index t 0 + 1 * r.val = _
      rw [h.1]; show _ = wo (t.val % 12) + r.val; omega
    | ⟨1, _⟩ =>
      show win0_0.index t 1 + 1 * k.val = _
      rw [h.2]; show _ = k.val; omega
  rw [e, main1]
theorem blk_1 (t : Fin cfg0.N) (k : Fin 4096) : iblk m c 1 t (ix2 0 k) = (Gm m c k : EReal) := by
  have h := ix_1 t
  have e : iblk m c 1 t (ix2 0 k) = V m c main_v13 (ix2 0 k) := by blk_ext [iblk, h.1, h.2]
  rw [e, main13]
theorem blk_2 (t : Fin cfg0.N) (r : Fin 1024) (k : Fin 4096) : iblk m c 2 t (ix2 r k) = (Hm m c (1024 * (t.val / 12) + r.val) k : EReal) := by
  have h := ix_2 t
  have ht := lt_N t
  have e : iblk m c 2 t (ix2 r k) = V m c main_arg0 (ix2 ⟨1024 * (t.val / 12) + r.val, by omega⟩ k) := by blk_ext [iblk, h.1, h.2]
  rw [e, V_main_arg0]
  exact at2_ix (n := 8192) (k := 4096) _ _ _
theorem blk_3 (t : Fin cfg0.N) (s : Fin 128) (k : Fin 4096) : iblk m c 3 t (ix2 s k)
    = (if s.val < 16 then Wm m c k (6144 + s.val) else if s.val < 32 then Wm m c k (12304 + (s.val - 16)) else 0 : EReal) := by
  have h := ix_3 t
  have e : iblk m c 3 t (ix2 s k) = V m c main_v5 (ix2 s k) := by blk_ext [iblk, h.1, h.2]
  rw [e, main5]
theorem blk_4 (t : Fin cfg0.N) (k : Fin 1024) : iblk m c 4 t (ix2 0 k) = (SC (1024 * (t.val % 12) + k.val) : EReal) := by
  have h := ix_4 t
  have e : iblk m c 4 t (ix2 0 k) = V m c main_v12 (ix2 0 ⟨1024 * (t.val % 12) + k.val, by omega⟩) := by
    refine congrArg (V m c main_v12) (funext fun a => Fin.ext ?_)
    match a with
    | ⟨0, _⟩ =>
      show win0_4.index t 0 * 1 + 1 * 0 = _
      rw [h.1]; rfl
    | ⟨1, _⟩ =>
      show win0_4.index t 1 * 1024 + 1 * k.val = _
      rw [h.2]; show _ = 1024 * (t.val % 12) + k.val; omega
  rw [e, main12]

end Cert.InprojIdeal.Body
-- ==== Proof.InprojV.Final.lean ====
/- What the launch leaves: the scaled wide columns of the product of the normalised rows, and its small columns. -/
module

public import proofs.«01_k».proof.Proof.InprojV.Blocks
public import Idealize.ShloMosaic.Lib.Pipeline.ArrRel
public import Idealize.ShloMosaic.Lib.Claim

@[expose] public section

set_option maxRecDepth 16384

noncomputable section

namespace Cert.InprojIdeal.Body

open Idealize.ShloMosaic Idealize.ShloMosaic.TcCoe Idealize.ShloMosaic.Tactic Idealize.SL.Sem Cert.InprojIdeal.Gen Cert.Rows Cert.InprojV Cert.GlaV

variable (m : (l : Loc nD τ sig) → Buf (Elt Ideal) l) (ρ : Dev nD → PrngReg) (c : Dev nD)

theorem lead_div (t : Fin cfg0.N) : (lead t.val t.isLt).val / 12 = t.val / 12 := by
  show 12 * (t.val / 12) / 12 = _; omega

/-- The normalised rows, at an element. -/
theorem aAt_val (t : Fin cfg0.N) (r : Fin 1024) (k : Fin 4096) :
    (aAt m c t.val t.isLt (ix2 r k) : EReal) = N (Hm m c) (Gm m c) (1024 * (t.val / 12) + r.val) k.val := by
  unfold aAt
  rw [EN_val]
  simp only [blk_1, blk_2, lead_div]
  rfl

/-- A point's wide block, at an element, … -/
theorem outAt_val (t : Fin cfg0.N) (r k : Fin 1024) :
    (outAt m c t (ix2 r k) : EReal) = WIDE (Hm m c) (Wm m c) (Gm m c) (1024 * (t.val / 12) + r.val) (1024 * (t.val % 12) + k.val) := by
  unfold outAt
  rw [OUT_val]
  simp only [aAt_val, blk_0, blk_4, wo_eq (t.val % 12) k.val (Nat.mod_lt _ (by decide)) k.isLt]
  rfl

/-- … and its small one. -/
theorem smAt_val (t : Fin cfg0.N) (r : Fin 1024) (k : Fin 128) :
    (smAt m c t.val t.isLt (ix2 r k) : EReal) = SMALL (Hm m c) (Wm m c) (Gm m c) (1024 * (t.val / 12) + r.val) k.val := by
  unfold smAt
  rw [small_val]
  simp only [aAt_val, blk_3]
  unfold SMALL P
  split
  · rfl
  · split
    · rfl
    · simp only [mul_zero, Finset.sum_const_zero]

/-- The result arrays. -/
def WIDES : Buf (Elt Ideal) ((c : Thread nD τ).loc main_v14_0) := (fun i => WIDE (Hm m c) (Wm m c) (Gm m c) (i 0).val (i 1).val : FVec Ideal S8192x12288 .bf16)
def SMALLS : Buf (Elt Ideal) ((c : Thread nD τ).loc main_v14_1) := (fun i => SMALL (Hm m c) (Wm m c) (Gm m c) (i 0).val (i 1).val : FVec Ideal S8192x128 .f32)

/-- Each write-back is a block of its result, … -/
theorem flushed_wide (t : Fin cfg0.N) : (data m 0 c).flushed 5 t = ((cfg0.win 5).blk t).view.read (Elt Ideal) (WIDES m c) := by
  show (cfg0.win 5).cut (grid0.coords t) ((data m 0 c).after 5 t) = _
  rw [left5]
  have h := ix_5 t
  funext y
  obtain ⟨r, k, rfl⟩ : ∃ (r k : Fin 1024), y = ix2 r k := ⟨y 0, y 1, eq_ix2 y⟩
  rw [View.read_apply]
  refine (outAt_val m c t r k).trans ?_
  show _ = WIDE (Hm m c) (Wm m c) (Gm m c) (win0_5.index t 0 * 1024 + 1 * r.val) (win0_5.index t 1 * 1024 + 1 * k.val)
  rw [h.1, h.2]
  congr 1 <;> omega
theorem flushed_small (t : Fin cfg0.N) : (data m 0 c).flushed 6 t = ((cfg0.win 6).blk t).view.read (Elt Ideal) (SMALLS m c) := by
  show (cfg0.win 6).cut (grid0.coords t) ((data m 0 c).after 6 t) = _
  rw [left6]
  have h := ix_6 t
  funext y
  obtain ⟨r, k, rfl⟩ : ∃ (r : Fin 1024) (k : Fin 128), y = ix2 r k := ⟨y 0, y 1, eq_ix2 y⟩
  rw [View.read_apply]
  refine (smAt_val m c t r k).trans ?_
  show _ = SMALL (Hm m c) (Wm m c) (Gm m c) (win0_6.index t 0 * 1024 + 1 * r.val) (win0_6.index t 1 * 128 + 1 * k.val)
  rw [h.1, h.2]
  congr 1 <;> omega

/-- … and the blocks cover it. -/
theorem final_wide : (data m 0 c).arrAt 5 cfg0.N = WIDES m c :=
  (data m 0 c).arrAt_eq_of_cover 5 (WIDES m c) (fun t _ => flushed_wide m c t) fun i => by
    have h0 : (i 0 : Nat) < 8192 := (i 0).isLt
    have h1 : (i 1 : Nat) < 12288 := (i 1).isLt
    let t : Fin cfg0.N := ⟨12 * ((i 0 : Nat) / 1024) + (i 1 : Nat) / 1024, by rw [show cfg0.N = 96 from N_0]; omega⟩
    have ht : t.val = 12 * ((i 0 : Nat) / 1024) + (i 1 : Nat) / 1024 := rfl
    refine ⟨t, flush0_5 t, ?_⟩
    have h := ix_5 t
    show i ∈ ((View.whole main_v14_0).slice (win0_5.rect t)).set
    rw [View.set_slice_whole, Rect.mem_set_unit]
    intro a
    match a with
    | ⟨0, _⟩ =>
      show win0_5.index t 0 * 1024 ≤ (i 0 : Nat) ∧ (i 0 : Nat) < win0_5.index t 0 * 1024 + 1024
      rw [h.1, ht]; omega
    | ⟨1, _⟩ =>
      show win0_5.index t 1 * 1024 ≤ (i 1 : Nat) ∧ (i 1 : Nat) < win0_5.index t 1 * 1024 + 1024
      rw [h.2, ht]; omega
theorem final_small : (data m 0 c).arrAt 6 cfg0.N = SMALLS m c :=
  (data m 0 c).arrAt_eq_of_cover 6 (SMALLS m c) (fun t _ => flushed_small m c t) fun i => by
    have h0 : (i 0 : Nat) < 8192 := (i 0).isLt
    have h1 : (i 1 : Nat) < 128 := (i 1).isLt
    let t : Fin cfg0.N := ⟨12 * ((i 0 : Nat) / 1024) + 11, by rw [show cfg0.N = 96 from N_0]; omega⟩
    have ht : t.val = 12 * ((i 0 : Nat) / 1024) + 11 := rfl
    refine ⟨t, (flush0_6 t).mpr (by rw [ht]; omega), ?_⟩
    have h := ix_6 t
    show i ∈ ((View.whole main_v14_1).slice (win0_6.rect t)).set
    rw [View.set_slice_whole, Rect.mem_set_unit]
    intro a
    match a with
    | ⟨0, _⟩ =>
      show win0_6.index t 0 * 1024 ≤ (i 0 : Nat) ∧ (i 0 : Nat) < win0_6.index t 0 * 1024 + 1024
      rw [h.1, ht]; omega
    | ⟨1, _⟩ =>
      show win0_6.index t 1 * 128 ≤ (i 1 : Nat) ∧ (i 1 : Nat) < win0_6.index t 1 * 128 + 128
      rw [h.2]; omega

/-- The run, read: the result arrays, the arguments unchanged. -/
theorem run : θ_run defs (onTc (τ := τ) (main (F := Ideal))) ⟨m, fun _ => 0, ρ⟩ fun r => ∀ c : Dev nD,
      r.2.mem ((c.tc : Thread nD τ).loc main_v14_0) = WIDES m c
      ∧ r.2.mem ((c.tc : Thread nD τ).loc main_v14_1) = SMALLS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨((h.1 c).1 5).trans (final_wide m c), ((h.1 c).1 6).trans (final_small m c), h.2.1 c⟩) (θ_run_and (runs_arrays m ρ) (kept m ρ))

end Cert.InprojIdeal.Body
-- ==== Proof.InprojV.Ref.lean ====
/- What the reference computes, read at an element. -/
module

public import proofs.«01_k».proof.Proof.InprojV.Math
public import proofs.«01_k».proof.Proof.Gen.InprojRefIdeal.Run

@[expose] public section

set_option maxRecDepth 16384

noncomputable section

namespace Cert.InprojRefIdeal.Body

open Idealize.ShloMosaic Cert.InprojRefIdeal.Gen Cert.InprojV Cert.GlaV

/-- The reference's product of the normalised rows, … -/
def prod (a0 : FVec Ideal S8192x4096 .f32) (a1 : FVec Ideal S4096 .f32) (a2 : FVec Ideal S4096x12320 .f32) : FVec Ideal S8192x12320 .f32 :=
  Host.dotGeneral dot_S8192x4096_S4096x12320_S8192x12320_1_0_0_1_n_n none (mulf (mulf a0 (broadcastInDim S8192x4096 ![0, 1] bcast_S8192x1_S8192x4096_0_1 (Host.rsqrt (addf (Host.divf (broadcastInDim S8192x1 ![0] bcast_S8192_S8192x1_0 (Host.reduceAdd (mulf a0 a0) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a1))) a2
/-- … its wide columns, scaled, … -/
def wide (p : FVec Ideal S8192x12320 .f32) : FVec Ideal S8192x12288 .f32 :=
  concatenate S8192x12288 1 [⟨S8192x2048, (mulf (extractStridedSlice S8192x2048 ![0, 0] p slices_S8192x12320_S8192x2048_0_0) (broadcastInDim S8192x2048 ![] bcast_S_S8192x2048 (constant S_ .f32 0x3E0293EE#32)) : FVec Ideal S8192x2048 .f32)⟩,
    ⟨S8192x4096, (extractStridedSlice S8192x4096 ![0, 2048] p slices_S8192x12320_S8192x4096_0_2048 : FVec Ideal S8192x4096 .f32)⟩,
    ⟨S8192x1024, (mulf (extractStridedSlice S8192x1024 ![0, 6160] p slices_S8192x12320_S8192x1024_0_6160) (broadcastInDim S8192x1024 ![] bcast_S_S8192x1024 (constant S_ .f32 0x3D800000#32)) : FVec Ideal S8192x1024 .f32)⟩,
    ⟨S8192x5120, (extractStridedSlice S8192x5120 ![0, 7184] p slices_S8192x12320_S8192x5120_0_7184 : FVec Ideal S8192x5120 .f32)⟩]
    concatenates_S8192x2048_S8192x4096_S8192x1024_S8192x5120_S8192x12288_d1
/-- … and its small ones. -/
def small (p : FVec Ideal S8192x12320 .f32) : FVec Ideal S8192x128 .f32 :=
  concatenate S8192x128 1 [⟨S8192x16, (extractStridedSlice S8192x16 ![0, 6144] p slices_S8192x12320_S8192x16_0_6144 : FVec Ideal S8192x16 .f32)⟩,
    ⟨S8192x16, (extractStridedSlice S8192x16 ![0, 12304] p slices_S8192x12320_S8192x16_0_12304 : FVec Ideal S8192x16 .f32)⟩,
    ⟨S8192x96, (broadcastInDim S8192x96 ![] bcast_S_S8192x96 (constant S_ .f32 0x00000000#32) : FVec Ideal S8192x96 .f32)⟩]
    concatenates_S8192x16_S8192x16_S8192x96_S8192x128_d1

theorem prod_val (a0 : FVec Ideal S8192x4096 .f32) (a1 : FVec Ideal S4096 .f32) (a2 : FVec Ideal S4096x12320 .f32) (s : Fin 8192) (j : Fin 12320) :
    (prod a0 a1 a2 (ix2 s j) : EReal) = P (at2 (n := 8192) (k := 4096) a0) (at2 (n := 4096) (k := 12320) a2) (at1 (n := 4096) a1) s.val j.val := by
  unfold prod
  pointwise
  unfold P N
  simp only [← at2_ix, ← at1_ix]

theorem wide_val (p : FVec Ideal S8192x12320 .f32) (s : Fin 8192) (j : Fin 12288) (q : Fin 12320) (hq : q.val = if j.val < 6144 then j.val else 16 + j.val)
    (x : EReal) (hx : x = SC j.val) : (wide p (ix2 s j) : EReal) = p (ix2 s q) * x := by
  have hj := j.isLt
  unfold SC at hx
  unfold wide
  pointwise
  by_cases h1 : j.val < 2048
  · rw [if_neg (by omega), if_pos h1] at hx
    rw [if_pos (by omega)] at hq
    rw [dif_pos h1, hx]
    exact congrArg (fun z => p (ix2 s z) * Ideal.ofBits FTy.f32 1040356334#32) (Fin.ext (by rw [hq]; try omega))
  · rw [dif_neg h1]
    by_cases h2 : j.val < 6144
    · rw [if_neg (by omega), if_neg h1] at hx
      rw [if_pos h2] at hq
      rw [dif_pos (by omega), hx, mul_one]
      exact congrArg (fun z => p (ix2 s z)) (Fin.ext (by rw [hq]; show 2048 + (j.val - 2048) = j.val; omega))
    · rw [if_neg h2] at hq
      rw [dif_neg (by omega)]
      by_cases h3 : j.val < 7168
      · rw [if_pos (by omega)] at hx
        rw [dif_pos (by omega), hx]
        refine congrArg (fun z => p (ix2 s z) * k16) (Fin.ext ?_)
        rw [hq]; dsimp only; omega
      · rw [if_neg (by omega), if_neg h1] at hx
        rw [dif_neg (by omega), hx, mul_one]
        refine congrArg (fun z => p (ix2 s z)) (Fin.ext ?_)
        rw [hq]; dsimp only; omega

theorem small_val (p : FVec Ideal S8192x12320 .f32) (s : Fin 8192) (j : Fin 128) (q q' : Fin 12320) (hq : j.val < 16 → q.val = 6144 + j.val)
    (hq' : 16 ≤ j.val → j.val < 32 → q'.val = 12304 + (j.val - 16)) :
    (small p (ix2 s j) : EReal) = if j.val < 16 then p (ix2 s q) else if j.val < 32 then p (ix2 s q') else 0 := by
  have hj := j.isLt
  unfold small
  generalize hz : (if j.val < 16 then p (ix2 s q) else if j.val < 32 then p (ix2 s q') else (0 : EReal)) = z
  pointwise
  subst hz
  by_cases h1 : j.val < 16
  · rw [dif_pos h1, if_pos h1]
    exact congrArg (fun z => p (ix2 s z)) (Fin.ext (hq h1).symm)
  · rw [dif_neg h1, if_neg h1]
    by_cases h2 : j.val < 32
    · rw [dif_pos (by omega), if_pos h2]
      exact congrArg (fun z => p (ix2 s z)) (Fin.ext (hq' (by omega) h2).symm)
    · rw [dif_neg (by omega), if_neg h2]

/-- The results, of the arguments. -/
theorem res0_val (a0 : FVec Ideal S8192x4096 .f32) (a1 : FVec Ideal S4096 .f32) (a2 : FVec Ideal S4096x12320 .f32) (h : FTy.bits .bf16 < FTy.bits .f32) (s : Fin 8192) (j : Fin 12288) :
    ((truncf .bf16 (wide (prod a0 a1 a2)) h : FVec Ideal S8192x12288 .bf16) (ix2 s j) : EReal)
      = WIDE (at2 (n := 8192) (k := 4096) a0) (at2 (n := 4096) (k := 12320) a2) (at1 (n := 4096) a1) s.val j.val := by
  show (wide (prod a0 a1 a2) (ix2 s j) : EReal) = _
  have hj := j.isLt
  rw [wide_val _ _ _ ⟨if j.val < 6144 then j.val else 16 + j.val, by split <;> omega⟩ rfl _ rfl, prod_val]
  rfl
theorem res1_val (a0 : FVec Ideal S8192x4096 .f32) (a1 : FVec Ideal S4096 .f32) (a2 : FVec Ideal S4096x12320 .f32) (s : Fin 8192) (j : Fin 128) :
    (small (prod a0 a1 a2) (ix2 s j) : EReal)
      = SMALL (at2 (n := 8192) (k := 4096) a0) (at2 (n := 4096) (k := 12320) a2) (at1 (n := 4096) a1) s.val j.val := by
  rw [small_val _ _ _ ⟨(6144 + j.val) % 12320, Nat.mod_lt _ (by decide)⟩ ⟨(12304 + (j.val - 16)) % 12320, Nat.mod_lt _ (by decide)⟩
    (fun h => Nat.mod_eq_of_lt (by omega)) (fun h h' => Nat.mod_eq_of_lt (by omega)), prod_val, prod_val]
  have hj := j.isLt
  unfold SMALL
  dsimp only
  split
  · rw [Nat.mod_eq_of_lt (by omega)]
  · split
    · rw [Nat.mod_eq_of_lt (by omega)]
    · rfl

end Cert.InprojRefIdeal.Body
-- ==== Proof.InprojV.Equation.lean ====
/- The input projection and its reference: the results are the scaled wide columns of the product of the normalised rows, and
   its small columns with zeros after them. -/
module

public import proofs.«01_k».proof.Defs
public import proofs.«01_k».proof.Proof.InprojV.Final
public import proofs.«01_k».proof.Proof.InprojV.Ref
public import proofs.«01_k».proof.Proof.Gen.Inproj

@[expose] public section

set_option maxRecDepth 16384

noncomputable section

namespace Cert.InprojV

open Idealize.ShloMosaic Idealize.SL.Sem Cert.GlaV

variable (m : (l : Loc InprojIdeal.nD InprojIdeal.τ InprojIdeal.sig) → Buf (Elt Ideal) l) (c : Dev InprojIdeal.nD)

/-- The launch's results are the reference's of the same arrays. -/
theorem wide_eq (h : FTy.bits .bf16 < FTy.bits .f32) : (truncf .bf16 (InprojRefIdeal.Body.wide (InprojRefIdeal.Body.prod (m ((c.tc : Thread InprojIdeal.nD InprojIdeal.τ).loc InprojIdeal.main_arg0)) (m ((c.tc : Thread InprojIdeal.nD InprojIdeal.τ).loc InprojIdeal.main_arg1)) (m ((c.tc : Thread InprojIdeal.nD InprojIdeal.τ).loc InprojIdeal.main_arg2)))) h : FVec Ideal InprojIdeal.S8192x12288 .bf16) = InprojIdeal.Body.WIDES m c := by
  funext i
  obtain ⟨s, j, rfl⟩ : ∃ (s : Fin 8192) (j : Fin 12288), i = ix2 s j := ⟨i 0, i 1, eq_ix2 i⟩
  exact InprojRefIdeal.Body.res0_val _ _ _ h s j
theorem small_eq : InprojRefIdeal.Body.small (InprojRefIdeal.Body.prod (m ((c.tc : Thread InprojIdeal.nD InprojIdeal.τ).loc InprojIdeal.main_arg0)) (m ((c.tc : Thread InprojIdeal.nD InprojIdeal.τ).loc InprojIdeal.main_arg1)) (m ((c.tc : Thread InprojIdeal.nD InprojIdeal.τ).loc InprojIdeal.main_arg2))) = InprojIdeal.Body.SMALLS m c := by
  funext i
  obtain ⟨s, j, rfl⟩ : ∃ (s : Fin 8192) (j : Fin 128), i = ix2 s j := ⟨i 0, i 1, eq_ix2 i⟩
  exact InprojRefIdeal.Body.res1_val _ _ _ s j

/-- The program and its idealized form have one body table, … -/
theorem bodies_eq : Cert.Inproj.defs₀ (F := Bits) = Cert.InprojIdeal.defs₀ := by
  unfold Cert.Inproj.defs₀ Cert.InprojIdeal.defs₀
  refine congrArg Defs.onTc ?_
  funext l a
  match l, a with
  | ⟨0, _⟩, (t, s) =>
    show Cert.Inproj.cc0_inproj _ _ _ _ _ _ _ _ _ _ _ _ _ _ _ _ _ = _
    unfold Cert.Inproj.cc0_inproj
    rfl
theorem defs_eq : Cert.Inproj.defs (F := Bits) = Cert.InprojIdeal.defs := congrArg (Pipeline.defs Cert.InprojIdeal.pcfgs) bodies_eq

/-- … so the frame of the one is the frame of the other. -/
theorem frame_kernel : Cert.quiescent_Inproj := fun m ρ _ => by
  rw [defs_eq]
  exact Cert.InprojIdeal.Body.kept (F := Bits) m ρ
theorem frame_ideal : Cert.quiescent_InprojIdeal := fun m ρ _ => Cert.InprojIdeal.Body.kept m ρ
theorem frame_ref : Cert.quiescent_InprojRefIdeal := fun m ρ _ => (θ_run Cert.InprojRefIdeal.defs _ _).mono
  (fun r h => ⟨fun c => (h c).2.2, sem_eq_zero_of_no_sems (by decide) r.2⟩) (Cert.InprojRefIdeal.Value.run m ρ)

theorem equation : Cert.algebraic_InprojIdeal_InprojRefIdeal := by
  intro m ρ m' ρ' _ h
  refine ⟨fun c => Cert.InprojIdeal.Body.WIDES m c, fun c => Cert.InprojIdeal.Body.SMALLS m c, Cert.InprojIdeal.Body.run m ρ, ?_⟩
  refine (θ_run Cert.InprojRefIdeal.defs _ _).mono (fun _ hr c => ⟨(hr c).1.trans ?_, (hr c).2.1.trans ?_, (hr c).2.2⟩) (Cert.InprojRefIdeal.Value.run m' ρ')
  · obtain ⟨h0, h1, h2⟩ := h c
    unfold Cert.InprojRefIdeal.Value.res_main_v25
    rw [h0, h1, h2]
    exact wide_eq m c _
  · obtain ⟨h0, h1, h2⟩ := h c
    rw [h0, h1, h2]
    exact small_eq m c

end Cert.InprojV
end
-- ==== Proof.OutV.Spec.lean ====
/- What one grid point of the output projection leaves in its output block, as a function of the blocks the point stages. -/
module

public import proofs.«01_k».proof.Proof.Gen.OutprojIdeal.Loops
public import proofs.«01_k».proof.Proof.RowsV.Rows
public import Idealize.ShloMosaic.Lib.WritesUnit
public import Idealize.ShloMosaic.Lib.VecWindow
public import Idealize.ShloMosaic.Lib.Pointwise

@[expose] public section

set_option maxRecDepth 16384

noncomputable section

namespace Cert.OutprojIdeal.Body

open Idealize.ShloMosaic Idealize.ShloMosaic.TcCoe Cert.OutprojIdeal.Gen Cert.Rows

variable {F : FTy → Type} [FloatOps F]

/-- Half `j` of a block's columns. -/
def half {e : EltTy} (x : Vec F S2048x512 e) (j : ℕ) : Vec F S2048x256 e :=
  fun z => x (ix2 (z 0) ⟨(256 * j + (z 1).val) % 512, Nat.mod_lt _ (by decide)⟩)

/-- The position of a row and column within its piece of 256 columns. -/
def loc2 (y : S512x4096.Idx) : S512x256.Idx := ix2 (y 0) ⟨(y 1).val % 256, Nat.mod_lt _ (by decide)⟩

/-- The columns `512 n` to `512 n + 511` replaced by the two products' sum, 256 columns at a time. -/
def PUT (n : ℕ) (x0 x1 : Vec F S512x2048 .bf16) (x2 x3 : Vec F S2048x512 .bf16) (Y : Vec F S512x4096 .f32) : Vec F S512x4096 .f32 :=
  fun y => if (y 1).val / 512 = n then k0_pay10 x0 (half x2 ((y 1).val / 256 % 2)) x1 (half x3 ((y 1).val / 256 % 2)) (loc2 y) else Y y

/-- The projected rows normalised, scaled and added to the residual, 32 rows at a time. -/
def FIN (a : Vec F S512x4096 .f32) (x : Vec F S512x4096 .f32) (g : Vec F S1x4096 .f32) : Vec F S512x4096 .f32 :=
  fun y => k0_pay8 (k0_pay3 (win a (32 * ((y 0).val / 32)))) (win a (32 * ((y 0).val / 32))) g (win x (32 * ((y 0).val / 32))) (loc y)

theorem off2_0 : ∀ k : Fin k0_t1_loop.trips, k0_off2 k 0#32 = ![128 * k.val, 0] := by decide +kernel
theorem off2_1 : ∀ k : Fin k0_t1_loop.trips, k0_off2 k 32#32 = ![128 * k.val + 32, 0] := by decide +kernel
theorem off2_2 : ∀ k : Fin k0_t1_loop.trips, k0_off2 k 64#32 = ![128 * k.val + 64, 0] := by decide +kernel
theorem off2_3 : ∀ k : Fin k0_t1_loop.trips, k0_off2 k 96#32 = ![128 * k.val + 96, 0] := by decide +kernel
theorem trips1_eq : k0_t1_loop.trips = 4 := by decide +kernel

end Cert.OutprojIdeal.Body
-- ==== Proof.OutV.Math.lean ====
/- The output projection over the extended reals, and what the kernel's blocks are in those terms. -/
module

public import proofs.«01_k».proof.Proof.OutV.Spec
public import proofs.«01_k».proof.Proof.GlaV.Spec

@[expose] public section

set_option maxRecDepth 16384

noncomputable section

namespace Cert.OutV

open Idealize.ShloMosaic

section
variable (A B : ℕ → ℕ → EReal) (W : ℕ → ℕ → EReal)

/-- The product of a row of the two arrays side by side and a column of the weights, … -/
def PROJ (s j : ℕ) : EReal := ∑ x : Fin 4096, (if x.val < 2048 then A s x.val else B s (x.val - 2048)) * W x.val j

/-- … and the residual with the normalised product added. -/
def RES (H : ℕ → ℕ → EReal) (G : ℕ → EReal) (s j : ℕ) : EReal :=
  H s j + PROJ A B W s j * Ideal.rsqrt (Ideal.div (∑ j : Fin 4096, PROJ A B W s j.val * PROJ A B W s j.val) (Ideal.ofBits FTy.f32 1166016512#32) + Ideal.ofBits FTy.f32 897988541#32) * G j

/-- The product is the first array's with the weights' upper half and the second's with their lower half. -/
theorem PROJ_halves (s j : ℕ) : PROJ A B W s j = (∑ x : Fin 2048, A s x.val * W x.val j) + ∑ x : Fin 2048, B s x.val * W (2048 + x.val) j := by
  unfold PROJ
  refine (Fin.sum_univ_add (a := 2048) (b := 2048) (fun x : Fin 4096 => (if x.val < 2048 then A s x.val else B s (x.val - 2048)) * W x.val j)).trans ?_
  refine congrArg₂ (· + ·) (Finset.sum_congr rfl fun x _ => ?_) (Finset.sum_congr rfl fun x _ => ?_)
  · have h : (Fin.castAdd 2048 x).val = x.val := rfl
    show (if (Fin.castAdd 2048 x).val < 2048 then _ else _) * _ = _
    rw [h, if_pos x.isLt]
  · have h : (Fin.natAdd 2048 x).val = 2048 + x.val := rfl
    show (if (Fin.natAdd 2048 x).val < 2048 then _ else _) * _ = _
    rw [h, if_neg (by omega), Nat.add_sub_cancel_left]
end

end Cert.OutV

namespace Cert.OutprojIdeal.Body

open Idealize.ShloMosaic Idealize.ShloMosaic.TcCoe Idealize.ShloMosaic.Tactic Cert.OutprojIdeal.Gen Cert.Rows Cert.OutV

/-- The half that holds a column, at that column. -/
theorem half_at {e : EltTy} (x : Vec Ideal S2048x512 e) (r : Fin 2048) (k : ℕ) (h : k % 256 < 256) :
    half x (k / 256 % 2) (ix2 r ⟨k % 256, h⟩) = x (ix2 r ⟨k % 512, Nat.mod_lt _ (by decide)⟩) := by
  unfold half
  refine congrArg x (congrArg₂ ix2 rfl (Fin.ext ?_))
  show (256 * (k / 256 % 2) + k % 256) % 512 = k % 512
  omega

theorem FIN_val (a x : Vec Ideal S512x4096 .f32) (g : Vec Ideal S1x4096 .f32) (r : Fin 512) (k : Fin 4096) :
    (FIN a x g (ix2 r k) : EReal) = x (ix2 r k) + a (ix2 r k)
      * Ideal.rsqrt (Ideal.div (∑ j : Fin 4096, a (ix2 r j) * a (ix2 r j)) (Ideal.ofBits FTy.f32 1166016512#32) + Ideal.ofBits FTy.f32 897988541#32) * g (ix2 0 k) := by
  unfold FIN loc
  have h : r.val % 32 < 32 := Nat.mod_lt _ (by decide)
  show k0_pay8 (k0_pay3 (win a (32 * (r.val / 32)))) (win a (32 * (r.val / 32))) g (win x (32 * (r.val / 32))) (ix2 ⟨r.val % 32, h⟩ k) = _
  unfold_payloads
  pointwise
  simp only [win_at]

theorem two_val (x0 : Vec Ideal S512x2048 .bf16) (w2 : Vec Ideal S2048x256 .bf16) (x1 : Vec Ideal S512x2048 .bf16) (w3 : Vec Ideal S2048x256 .bf16)
    (r : Fin 512) (k : Fin 256) :
    (k0_pay10 x0 w2 x1 w3 (ix2 r k) : EReal) = (∑ x : Fin 2048, x0 (ix2 r x) * w2 (ix2 x k)) + ∑ x : Fin 2048, x1 (ix2 r x) * w3 (ix2 x k) := by
  unfold_payloads
  pointwise

end Cert.OutprojIdeal.Body
-- ==== Proof.OutV.Close.lean ====
/- The epilogue of a row block: the row loop that turns the accumulated output block into the block written back. -/
module

public import proofs.«01_k».proof.Proof.OutV.Spec

@[expose] public section

set_option maxRecDepth 16384

noncomputable section

namespace Cert.OutprojIdeal.Body

open Idealize.ShloMosaic Idealize.ShloMosaic.TcCoe Idealize.ShloMosaic.Tactic Cert.OutprojIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable {e : EltTy}

/-- A chunk of the finished rows, at an element of that chunk. -/
theorem FIN_at (a x : Vec F S512x4096 .f32) (g : Vec F S1x4096 .f32) (y : S512x4096.Idx) (o : ℕ) (h : 32 * ((y 0).val / 32) = o) :
    k0_pay8 (k0_pay3 (win a o)) (win a o) g (win x o) (loc y) = FIN a x g y := by
  unfold FIN; rw [h]

section
variable (𝒱 : Variants) (c : Dev nD) (bd : Option 𝒱.V) (E : Set ℕ) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x4096 .f32) (harg6 : arg6.IsWhole) (arg7 : Memref sig .tc .vmem S1x4096 .f32) (harg7 : arg7.IsWhole) (arg8 : Memref sig .tc .vmem S512x4096 .f32) (harg8 : arg8.IsWhole) (k0_h1 : k0_cond1 i = 1#1)
  (X6 : BufTy.Contents (Elt F) arg6.view.ty) (X7 : BufTy.Contents (Elt F) arg7.view.ty)

/-- What a trip holds: the block and the norm it reads, the output block. -/
abbrev held1 (f8 : BufTy.Contents (Elt F) arg8.view.ty) : sProp 𝕄G :=
  iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8))

set_option maxHeartbeats 1000000 in
/-- One trip. -/
theorem trip1 (a : Vec F S512x4096 .f32) (k : Fin k0_t1_loop.trips)
    (f8 : BufTy.Contents (Elt F) arg8.view.ty)
    (h8 : ∀ y, arg8.view.read (Elt F) f8 y = if (y 0).val < 128 * k.val then FIN a (arg6.view.read (Elt F) X6) (arg7.view.read (Elt F) X7) y else a y) :
      held1 (F := F) c arg6 arg7 arg8 X6 X7 f8
      ⊢ wp frame (wpE (defs₀ (F := F)) 𝒱 (c : Thread nD τ) bd) E (k0_t1_body (F := F) i arg2 harg2 arg3 harg3 arg4 harg4 arg5 harg5 arg6 harg6 arg7 harg7 arg8 harg8 k0_h1 k PUnit.unit)
          (fun _ => (iprop((arg6.view.loc (c : Thread nD τ) ↦[arg6.view.set]{fullShare} X6) ∗ (arg7.view.loc (c : Thread nD τ) ↦[arg7.view.set]{fullShare} X7)
            ∗ (∃ f, (arg8.view.loc (c : Thread nD τ) ↦[arg8.view.set]{fullShare} f) ∗ ⌜∀ y, arg8.view.read (Elt F) f y = if (y 0).val < 128 * (k.val + 1) then FIN a (arg6.view.read (Elt F) X6) (arg7.view.read (Elt F) X7) y else a y⌝)) : sProp 𝕄G)) := by
  have hk : k.val < 4 := Nat.lt_of_lt_of_le k.isLt k0_t1_abs.2.1
  unfold k0_t1_body
  iintro ⟨H6, H7, H8⟩
  sl_exec
  sl_step
  isplitl [H6]; · iexact H6
  isplitl [H7]; · iexact H7
  iexists _; isplitl [H8]; · iexact H8
  ipureintro
  intro y
  sl_unfold_run_names
  have hw : ∀ (r : ℕ), r < 4 → win (arg8.view.read (Elt F) f8) (128 * k.val + 32 * r) = win a (128 * k.val + 32 * r) := fun r hr =>
    win_congr _ (by omega) fun y hy => by rw [h8 y, if_neg (by omega)]
  have e0 := (readAt_rows (off := k0_off2 k (0#32)) arg8.view f8 (k0_off2_inb i k k0_h1 0) _ (off2_0 k)).trans (hw 0 (by omega))
  have x0 := readAt_rows (off := k0_off2 k (0#32)) arg6.view X6 (k0_off2_inb i k k0_h1 0) _ (off2_0 k)
  have e1 := (readAt_rows (off := k0_off2 k (32#32)) arg8.view f8 (k0_off2_inb i k k0_h1 1) _ (off2_1 k)).trans (hw 1 (by omega))
  have x1 := readAt_rows (off := k0_off2 k (32#32)) arg6.view X6 (k0_off2_inb i k k0_h1 1) _ (off2_1 k)
  have e2 := (readAt_rows (off := k0_off2 k (64#32)) arg8.view f8 (k0_off2_inb i k k0_h1 2) _ (off2_2 k)).trans (hw 2 (by omega))
  have x2 := readAt_rows (off := k0_off2 k (64#32)) arg6.view X6 (k0_off2_inb i k k0_h1 2) _ (off2_2 k)
  have e3 := (readAt_rows (off := k0_off2 k (96#32)) arg8.view f8 (k0_off2_inb i k k0_h1 3) _ (off2_3 k)).trans (hw 3 (by omega))
  have x3 := readAt_rows (off := k0_off2 k (96#32)) arg6.view X6 (k0_off2_inb i k k0_h1 3) _ (off2_3 k)
  have eg := View.readAt_full arg7.view X7 inb_S1x4096_S1x4096_0_0
  have R := read_rows4 arg8.view f8 (k0_off2_inb i k k0_h1 0) (k0_off2_inb i k k0_h1 1) (k0_off2_inb i k k0_h1 2) (k0_off2_inb i k k0_h1 3)
      (k0_pay8 (k0_pay3 (arg8.view.readAt (Elt F) (Rect.unit (s := S512x4096) (k0_off2 k 0#32) S32x4096.size (k0_off2_inb i k k0_h1 0)).toLoadRect f8)) (arg8.view.readAt (Elt F) (Rect.unit (s := S512x4096) (k0_off2 k 0#32) S32x4096.size (k0_off2_inb i k k0_h1 0)).toLoadRect f8) (arg7.view.readAt (Elt F) (Rect.unit (s := S1x4096) ![0, 0] S1x4096.size inb_S1x4096_S1x4096_0_0).toLoadRect X7) (arg6.view.readAt (Elt F) (Rect.unit (s := S512x4096) (k0_off2 k 0#32) S32x4096.size (k0_off2_inb i k k0_h1 0)).toLoadRect X6))
      (k0_pay9 (k0_pay4 (arg8.view.readAt (Elt F) (Rect.unit (s := S512x4096) (k0_off2 k 32#32) S32x4096.size (k0_off2_inb i k k0_h1 1)).toLoadRect f8)) (arg8.view.readAt (Elt F) (Rect.unit (s := S512x4096) (k0_off2 k 32#32) S32x4096.size (k0_off2_inb i k k0_h1 1)).toLoadRect f8) (arg7.view.readAt (Elt F) (Rect.unit (s := S1x4096) ![0, 0] S1x4096.size inb_S1x4096_S1x4096_0_0).toLoadRect X7) (arg6.view.readAt (Elt F) (Rect.unit (s := S512x4096) (k0_off2 k 32#32) S32x4096.size (k0_off2_inb i k k0_h1 1)).toLoadRect X6))
      (k0_pay1 (k0_pay6 (k0_pay5 (arg8.view.readAt (Elt F) (Rect.unit (s := S512x4096) (k0_off2 k 64#32) S32x4096.size (k0_off2_inb i k k0_h1 2)).toLoadRect f8)) (FloatOps.ofBits FTy.f32 1166016512#32)) (arg8.view.readAt (Elt F) (Rect.unit (s := S512x4096) (k0_off2 k 64#32) S32x4096.size (k0_off2_inb i k k0_h1 2)).toLoadRect f8) (arg7.view.readAt (Elt F) (Rect.unit (s := S1x4096) ![0, 0] S1x4096.size inb_S1x4096_S1x4096_0_0).toLoadRect X7) (arg6.view.readAt (Elt F) (Rect.unit (s := S512x4096) (k0_off2 k 64#32) S32x4096.size (k0_off2_inb i k k0_h1 2)).toLoadRect X6))
      (k0_pay2 (k0_pay7 (arg8.view.readAt (Elt F) (Rect.unit (s := S512x4096) (k0_off2 k 96#32) S32x4096.size (k0_off2_inb i k k0_h1 3)).toLoadRect f8)) (arg8.view.readAt (Elt F) (Rect.unit (s := S512x4096) (k0_off2 k 96#32) S32x4096.size (k0_off2_inb i k k0_h1 3)).toLoadRect f8) (arg7.view.readAt (Elt F) (Rect.unit (s := S1x4096) ![0, 0] S1x4096.size inb_S1x4096_S1x4096_0_0).toLoadRect X7) (arg6.view.readAt (Elt F) (Rect.unit (s := S512x4096) (k0_off2 k 96#32) S32x4096.size (k0_off2_inb i k k0_h1 3)).toLoadRect X6))
      (128 * k.val) (by omega) (off2_0 k) (off2_1 k) (off2_2 k) (off2_3 k) (FIN a (arg6.view.read (Elt F) X6) (arg7.view.read (Elt F) X7))
      (fun y hy => by rw [e0, x0, eg]; exact FIN_at a _ _ y _ (by omega))
      (fun y hy => by rw [e1, x1, eg]; exact FIN_at a _ _ y _ (by omega))
      (fun y hy => by rw [e2, x2, eg]; exact FIN_at a _ _ y _ (by omega))
      (fun y hy => by rw [e3, x3, eg]; exact FIN_at a _ _ y _ (by omega)) y
  refine R.trans ?_
  by_cases hc : 128 * k.val ≤ (y 0).val
  · by_cases hd : (y 0).val < 128 * k.val + 128
    · rw [if_pos ⟨hc, hd⟩, if_pos (by omega)]
    · rw [if_neg (by omega), if_neg (by omega), h8 y, if_neg (by omega)]
  · rw [if_neg (by omega), if_pos (by omega), h8 y, if_pos (by omega)]

/-- What the output block holds before trip `k`, of the contents `G` the loop finds there. -/
def C8 (G : BufTy.Contents (Elt F) arg8.view.ty) : ℕ → BufTy.Contents (Elt F) arg8.view.ty
  | 0 => G
  | k + 1 => harg8.unread (fun y => if (y 0).val < 128 * (k + 1) then FIN (arg8.view.read (Elt F) G) (arg6.view.read (Elt F) X6) (arg7.view.read (Elt F) X7) y else arg8.view.read (Elt F) G y)

theorem read_C8 (G : BufTy.Contents (Elt F) arg8.view.ty) (k : ℕ) (y : S512x4096.Idx) :
    arg8.view.read (Elt F) (C8 arg6 arg7 arg8 harg8 X6 X7 G k) y
      = if (y 0).val < 128 * k then FIN (arg8.view.read (Elt F) G) (arg6.view.read (Elt F) X6) (arg7.view.read (Elt F) X7) y else arg8.view.read (Elt F) G y := by
  cases k with
  | zero => rw [if_neg (by omega)]; rfl
  | succ k => exact congrFun (harg8.read_unread _) y

set_option warn.classDefReducibility false in
/-- The loop by its invariant. -/
@[sl_loop] def loop1 (G8 : BufTy.Contents (Elt F) arg8.view.ty) :
    LoopInvTy_k0_t1 (F := F) Unit ℕ (UR sig nD τ) ℕ 𝒱 c bd E i arg2 harg2 arg3 harg3 arg4 harg4 arg5 harg5 arg6 harg6 arg7 harg7 arg8 harg8 k0_h1 where
  inv k _ := (iprop((arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} C8 arg6 arg7 arg8 harg8 X6 X7 G8 k)) : sProp 𝕄G)
  step k acc := by
    iintro ⟨H6, H7, H8⟩
    iapply (wp_wand_r Idealize.ShloMosaic.frame (wpE (defs₀ (F := F)) 𝒱 (c : Thread nD τ) bd) E)
    isplitl [H6 H7 H8]
    · iapply (trip1 (F := F) 𝒱 c bd E i arg2 harg2 arg3 harg3 arg4 harg4 arg5 harg5 arg6 harg6 arg7 harg7 arg8 harg8 k0_h1 X6 X7 (arg8.view.read (Elt F) G8) k _ (read_C8 arg6 arg7 arg8 harg8 X6 X7 G8 k.val))
      isplitl [H6]; · iexact H6
      isplitl [H7]; · iexact H7
      iexact H8
    · iintro %_ ⟨H6, H7, ⟨%f8, H8, %h8⟩⟩
      isplitl [H6]; · iexact H6
      isplitl [H7]; · iexact H7
      have e8 : f8 = C8 arg6 arg7 arg8 harg8 X6 X7 G8 (k.val + 1) := harg8.eq_unread (funext h8)
      rw [← e8]; iexact H8
end

end Cert.OutprojIdeal.Body
-- ==== Proof.OutV.Run.lean ====
/- A grid point of the output projection, run: two products of 256 columns each, and at a row block's last point the row
   loop over the projected rows. -/
module

public import proofs.«01_k».proof.Proof.OutV.Close

@[expose] public section

set_option maxRecDepth 16384

noncomputable section

namespace Cert.OutprojIdeal.Body

open Idealize.ShloMosaic Idealize.ShloMosaic.TcCoe Idealize.ShloMosaic.Tactic Cert.OutprojIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A load of 256 columns reads that half of the columns. -/
theorem readAt_half {e : EltTy} (v : View sig .tc .vmem S2048x512 e) (f : v.ty.Contents (Elt F)) {off : Fin 2 → ℕ} (inb : ∀ a, off a + S2048x256.size a ≤ S2048x512.size a)
    (j : ℕ) (h : off = ![0, 256 * j]) : v.readAt (Elt F) (Rect.unit (s := S2048x512) off S2048x256.size inb).toLoadRect f = half (v.read (Elt F) f) j := by
  subst h
  funext z
  refine congrArg (v.read (Elt F) f) (funext fun a => Fin.ext ?_)
  have h1 : 256 * j + 256 ≤ 512 := inb 1
  have hz : (z 1).val < 256 := (z 1).isLt
  match a with
  | ⟨0, _⟩ => show 0 + 1 * (z 0).val = (z 0).val; omega
  | ⟨1, _⟩ => show 256 * j + 1 * (z 1).val = (256 * j + (z 1).val) % 512; rw [Nat.mod_eq_of_lt (by omega)]; omega

/-- The two stores of a point replace its columns. -/
theorem read_put (v : View sig .tc .vmem S512x4096 .f32) (f : v.ty.Contents (Elt F)) {f0 f1 : Fin 2 → ℕ}
    (i0 : ∀ a, f0 a + S512x256.size a ≤ S512x4096.size a) (i1 : ∀ a, f1 a + S512x256.size a ≤ S512x4096.size a)
    (w0 w1 : Vec F S512x256 .f32) (n : ℕ) (h0 : f0 = ![0, 512 * n + 256 * 0]) (h1 : f1 = ![0, 512 * n + 256 * 1])
    (x0 x1 : Vec F S512x2048 .bf16) (x2 x3 : Vec F S2048x512 .bf16)
    (e0 : w0 = k0_pay10 x0 (half x2 0) x1 (half x3 0)) (e1 : w1 = k0_pay10 x0 (half x2 1) x1 (half x3 1)) :
    v.read (Elt F) (v.writes (Elt F) f [⟨Rect.unit (s := S512x4096) f1 S512x256.size i1, w1⟩, ⟨Rect.unit (s := S512x4096) f0 S512x256.size i0, w0⟩])
      = PUT n x0 x1 x2 x3 (v.read (Elt F) f) := by
  funext y
  unfold PUT
  subst e0 e1
  by_cases c1 : (y 1).val / 256 = 2 * n + 1
  · rw [if_pos (by omega), show (y 1).val / 256 % 2 = 1 by omega]
    refine View.read_writes_cons_unit_of_mem v f i1 _ _ y (loc2 y) h1 fun a => ?_
    match a with
    | ⟨0, _⟩ => show (y 0).val = 0 + (y 0).val; omega
    | ⟨1, _⟩ => show (y 1).val = 512 * n + 256 * 1 + (y 1).val % 256; omega
  refine (View.read_writes_cons_unit_of_not_mem v f i1 _ _ y h1 1 (by show (y 1).val < 512 * n + 256 * 1 ∨ 512 * n + 256 * 1 + 256 ≤ (y 1).val; omega)).trans ?_
  by_cases c0 : (y 1).val / 256 = 2 * n
  · rw [if_pos (by omega), show (y 1).val / 256 % 2 = 0 by omega]
    refine View.read_writes_cons_unit_of_mem v f i0 _ _ y (loc2 y) h0 fun a => ?_
    match a with
    | ⟨0, _⟩ => show (y 0).val = 0 + (y 0).val; omega
    | ⟨1, _⟩ => show (y 1).val = 512 * n + 256 * 0 + (y 1).val % 256; omega
  refine (View.read_writes_cons_unit_of_not_mem v f i0 _ _ y h0 1 (by show (y 1).val < 512 * n + 256 * 0 ∨ 512 * n + 256 * 0 + 256 ≤ (y 1).val; omega)).trans ?_
  rw [if_neg (by omega)]
  rfl

theorem pay_congr {x0 x0' x1 x1' : Vec F S512x2048 .bf16} {x2 x2' x3 x3' : Vec F S2048x256 .bf16} (e0 : x0 = x0') (e1 : x1 = x1') (e2 : x2 = x2') (e3 : x3 = x3') :
    k0_pay10 x0 x2 x1 x3 = k0_pay10 x0' x2' x1' x3' := by rw [e0, e1, e2, e3]

theorem read_fin (arg6 : Memref sig .tc .vmem S512x4096 .f32) (arg7 : Memref sig .tc .vmem S1x4096 .f32) (arg8 : Memref sig .tc .vmem S512x4096 .f32) (harg8 : arg8.IsWhole)
    (X6 : BufTy.Contents (Elt F) arg6.view.ty) (X7 : BufTy.Contents (Elt F) arg7.view.ty) (G : BufTy.Contents (Elt F) arg8.view.ty)
    (a x : Vec F S512x4096 .f32) (g : Vec F S1x4096 .f32) (ha : arg8.view.read (Elt F) G = a) (hx : arg6.view.read (Elt F) X6 = x) (hg : arg7.view.read (Elt F) X7 = g) :
    arg8.view.read (Elt F) (C8 arg6 arg7 arg8 harg8 X6 X7 G k0_t1_loop.trips) = FIN a x g := by
  subst ha hx hg
  funext y
  have hy : (y 0).val < 512 := (y 0).isLt
  rw [read_C8, if_pos (by rw [trips1_eq]; omega)]

section
variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x4096 .f32) (harg6 : arg6.IsWhole) (arg7 : Memref sig .tc .vmem S1x4096 .f32) (harg7 : arg7.IsWhole) (arg8 : Memref sig .tc .vmem S512x4096 .f32) (harg8 : arg8.IsWhole)

/-- The blocks held, with what else is. -/
abbrev holds (y0 : Vec F S512x2048 .bf16) (y1 : Vec F S512x2048 .bf16) (y2 : Vec F S2048x512 .bf16) (y3 : Vec F S2048x512 .bf16) (y4 : Vec F S512x4096 .f32) (y5 : Vec F S1x4096 .f32) (R : sProp 𝕄G) : sProp 𝕄G :=
  iprop(owns (c : Thread nD τ) arg2 fullShare y0 ∗ owns (c : Thread nD τ) arg3 fullShare y1 ∗ owns (c : Thread nD τ) arg4 fullShare y2 ∗ owns (c : Thread nD τ) arg5 fullShare y3 ∗ owns (c : Thread nD τ) arg6 fullShare y4 ∗ owns (c : Thread nD τ) arg7 fullShare y5 ∗ R)

set_option maxHeartbeats 1000000 in
/-- A point that is not its row block's last: its columns. -/
theorem runA (hc0 : ¬k0_cond1 i = 1#1)
    (x0 : Vec F S512x2048 .bf16) (x1 : Vec F S512x2048 .bf16) (x2 : Vec F S2048x512 .bf16) (x3 : Vec F S2048x512 .bf16) (x4 : Vec F S512x4096 .f32) (x5 : Vec F S1x4096 .f32) (Y : Vec F S512x4096 .f32) :
      ∀ (E : Set ℕ) (K : PUnit → sProp 𝕄G),
        (holds c arg2 arg3 arg4 arg5 arg6 arg7 x0 x1 x2 x3 x4 x5 iprop(owns (c : Thread nD τ) arg8 fullShare Y
            ∗ ((holds c arg2 arg3 arg4 arg5 arg6 arg7 x0 x1 x2 x3 x4 x5 iprop(owns (c : Thread nD τ) arg8 fullShare (PUT (i 1).val x0 x1 x2 x3 Y))) -∗ K ⟨⟩)))
          ⊢ wp frame (wpE (defs₀ (F := F)) Variants.none c none) E (cc0_outproj i arg2 harg2 arg3 harg3 arg4 harg4 arg5 harg5 arg6 harg6 arg7 harg7 arg8 harg8) K := by
    intro E K
    simp only [cc0_outproj_eq_skeleton]; unfold cc0_outproj_skel
    unfold holds owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; swap; · iexact H6
    ipureintro
    sl_unfold_run_names
    refine (read_put arg8.view _ (k0_off1_inb i 0) (k0_off1_inb i 1) _ _ (i 1).val (k0_off1_eq i 0) (k0_off1_eq i 1) x0 x1 x2 x3 ?_ ?_).trans ?_
    · exact pay_congr ((View.readAt_full _ _ _).trans (harg2.read_unread _)) ((View.readAt_full _ _ _).trans (harg3.read_unread _))
        ((readAt_half arg4.view _ _ 0 rfl).trans (by rw [harg4.read_unread])) ((readAt_half arg5.view _ _ 0 rfl).trans (by rw [harg5.read_unread]))
    · exact pay_congr ((View.readAt_full _ _ _).trans (harg2.read_unread _)) ((View.readAt_full _ _ _).trans (harg3.read_unread _))
        ((readAt_half arg4.view _ _ 1 rfl).trans (by rw [harg4.read_unread])) ((readAt_half arg5.view _ _ 1 rfl).trans (by rw [harg5.read_unread]))
    · rw [harg8.read_unread]

set_option maxHeartbeats 1000000 in
/-- A row block's last point: its columns, then the rows finished. -/
theorem runB (hc0 : k0_cond1 i = 1#1)
    (x0 : Vec F S512x2048 .bf16) (x1 : Vec F S512x2048 .bf16) (x2 : Vec F S2048x512 .bf16) (x3 : Vec F S2048x512 .bf16) (x4 : Vec F S512x4096 .f32) (x5 : Vec F S1x4096 .f32) (Y : Vec F S512x4096 .f32) :
      ∀ (E : Set ℕ) (K : PUnit → sProp 𝕄G),
        (holds c arg2 arg3 arg4 arg5 arg6 arg7 x0 x1 x2 x3 x4 x5 iprop(owns (c : Thread nD τ) arg8 fullShare Y
            ∗ ((holds c arg2 arg3 arg4 arg5 arg6 arg7 x0 x1 x2 x3 x4 x5 iprop(owns (c : Thread nD τ) arg8 fullShare (FIN (PUT (i 1).val x0 x1 x2 x3 Y) x4 x5))) -∗ K ⟨⟩)))
          ⊢ wp frame (wpE (defs₀ (F := F)) Variants.none c none) E (cc0_outproj i arg2 harg2 arg3 harg3 arg4 harg4 arg5 harg5 arg6 harg6 arg7 harg7 arg8 harg8) K := by
    intro E K
    simp only [cc0_outproj_eq_skeleton]; unfold cc0_outproj_skel
    unfold holds owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr; swap; · iexact H6
    ipureintro
    refine read_fin arg6 arg7 arg8 harg8 _ _ _ _ _ _ ?_ (harg6.read_unread _) (harg7.read_unread _)
    sl_unfold_run_names
    refine (read_put arg8.view _ (k0_off1_inb i 0) (k0_off1_inb i 1) _ _ (i 1).val (k0_off1_eq i 0) (k0_off1_eq i 1) x0 x1 x2 x3 ?_ ?_).trans ?_
    · exact pay_congr ((View.readAt_full _ _ _).trans (harg2.read_unread _)) ((View.readAt_full _ _ _).trans (harg3.read_unread _))
        ((readAt_half arg4.view _ _ 0 rfl).trans (by rw [harg4.read_unread])) ((readAt_half arg5.view _ _ 0 rfl).trans (by rw [harg5.read_unread]))
    · exact pay_congr ((View.readAt_full _ _ _).trans (harg2.read_unread _)) ((View.readAt_full _ _ _).trans (harg3.read_unread _))
        ((readAt_half arg4.view _ _ 1 rfl).trans (by rw [harg4.read_unread])) ((readAt_half arg5.view _ _ 1 rfl).trans (by rw [harg5.read_unread]))
    · rw [harg8.read_unread]
end

end Cert.OutprojIdeal.Body
-- ==== Proof.OutV.State.lean ====
/- What a grid point of the output projection makes of its output block, and the launch's data: the output block is
   constrained by a relation, since its first contents are whatever the buffer held. -/
module

public import proofs.«01_k».proof.Proof.OutV.Run
public import proofs.«01_k».proof.Proof.Gen.OutprojIdeal.Frame
public import Idealize.ShloMosaic.Lib.WordCmp
public import Idealize.ShloMosaic.Lib.Claim

@[expose] public section

set_option maxRecDepth 16384

noncomputable section

namespace Cert.OutprojIdeal.Body

open Idealize.ShloMosaic Idealize.ShloMosaic.TcCoe Idealize.ShloMosaic.Tactic Cert.OutprojIdeal.Gen Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

theorem closes_iff (t : Fin cfg0.N) : k0_cond1 (grid0.coords t) = 1#1 ↔ t.val % 8 = 7 := by
  have ht : t.val < 128 := Nat.lt_of_lt_of_eq t.isLt N_0
  have e1 : (grid0.coords t 1).val = t.val / 1 % 8 := Pipeline.Grid.coords_val t 1 (by decide) rfl
  simp only [k0_cond1, e1]
  word_cmp
theorem inner_val (t : Fin cfg0.N) : (grid0.coords t 1).val = t.val % 8 :=
  (Pipeline.Grid.coords_val t 1 (by decide) rfl : _ = t.val / 1 % 8).trans (by rw [Nat.div_one])

/-- The columns point `t` puts into an output block that held `Y`. -/
def putAt (c : Dev nD) (t : Fin cfg0.N) (Y : Vec F S512x4096 .f32) : Vec F S512x4096 .f32 :=
  PUT (t.val % 8) (iblk m c 0 t) (iblk m c 1 t) (iblk m c 2 t) (iblk m c 3 t) Y

/-- What point `t` makes of an output block that held `Y`. -/
def stepAt (c : Dev nD) (t : Fin cfg0.N) (Y : Vec F S512x4096 .f32) : Vec F S512x4096 .f32 :=
  if t.val % 8 = 7 then FIN (putAt m c t Y) (iblk m c 4 t) (iblk m c 5 t) else putAt m c t Y

abbrev st0 (t : Fin cfg0.N) : Memref sig .tc .vmem S512x2048 .bf16 := win0_0.stage (cfg0.slots t 0)
abbrev st1 (t : Fin cfg0.N) : Memref sig .tc .vmem S512x2048 .bf16 := win0_1.stage (cfg0.slots t 1)
abbrev st2 (t : Fin cfg0.N) : Memref sig .tc .vmem S2048x512 .bf16 := win0_2.stage (cfg0.slots t 2)
abbrev st3 (t : Fin cfg0.N) : Memref sig .tc .vmem S2048x512 .bf16 := win0_3.stage (cfg0.slots t 3)
abbrev st4 (t : Fin cfg0.N) : Memref sig .tc .vmem S512x4096 .f32 := win0_4.stage (cfg0.slots t 4)
abbrev st5 (t : Fin cfg0.N) : Memref sig .tc .vmem S1x4096 .f32 := win0_5.stage (cfg0.slots t 5)
abbrev st6 (t : Fin cfg0.N) : Memref sig .tc .vmem S512x4096 .f32 := win0_6.stage (cfg0.slots t 6)

/-- The launch's data, the output block aside; two windows stage one array, whose share is dealt between them. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q w := Pipeline.shareOf spec0 w
  owed _ := 0

theorem data_A (c : Dev nD) (w : Fin cfg0.W) : (data m 0 c).A w = V m c (Pipeline.arrRef spec0 w) := by
  dsimp only [data]
theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = iblk m c 4 t := by dsimp only [data]
theorem left5 (c : Dev nD) (t : Fin cfg0.N) : (data m 0 c).after 5 t = iblk m c 5 t := by dsimp only [data]
theorem found0 (c : Dev nD) (t : Fin cfg0.N) (d) : (data m 0 c).before 0 t d = iblk m c 0 t := before0_0_of m (data m 0 c) (data_A m c 0) (left0 m c) t d
theorem found1 (c : Dev nD) (t : Fin cfg0.N) (d) : (data m 0 c).before 1 t d = iblk m c 1 t := before0_1_of m (data m 0 c) (data_A m c 1) (left1 m c) t d
theorem found2 (c : Dev nD) (t : Fin cfg0.N) (d) : (data m 0 c).before 2 t d = iblk m c 2 t := before0_2_of m (data m 0 c) (data_A m c 2) (left2 m c) t d
theorem found3 (c : Dev nD) (t : Fin cfg0.N) (d) : (data m 0 c).before 3 t d = iblk m c 3 t := before0_3_of m (data m 0 c) (data_A m c 3) (left3 m c) t d
theorem found4 (c : Dev nD) (t : Fin cfg0.N) (d) : (data m 0 c).before 4 t d = iblk m c 4 t := before0_4_of m (data m 0 c) (data_A m c 4) (left4 m c) t d
theorem found5 (c : Dev nD) (t : Fin cfg0.N) (d) : (data m 0 c).before 5 t d = iblk m c 5 t := before0_5_of m (data m 0 c) (data_A m c 5) (left5 m c) t d

/-- The relation the output block obeys. -/
def relates (c : Dev nD) : (w : Fin cfg0.W) → Option (Fin cfg0.N → (Y X : (cfg0.win w).block.Idx → Elt F (cfg0.win w).elt) → Prop)
  | ⟨6, _⟩ => some fun t Y X => X = stepAt m c t Y
  | _ => none

/-- The launch's data. -/
def rdata (c : Dev nD) : RDat τ (Elt F) Unit ℕ (UR sig nD τ) ℕ cfg0 c := (data m 0 c).toR.override (relates m c)

theorem rdata_A (c : Dev nD) (w : Fin cfg0.W) : (rdata m c).A w = V m c (Pipeline.arrRef spec0 w) := data_A m c w

theorem after6 (c : Dev nD) : (rdata m c).after 6 = fun t Y X => X = stepAt m c t Y :=
  RDat.override_after_of_eq_some (data m 0 c).toR (ovr := relates m c) (w := 6) rfl
theorem finds0 (c : Dev nD) (t : Fin cfg0.N) (X) (h : (rdata m c).Finds 0 t X) : X = iblk m c 0 t := by
  obtain ⟨d, e⟩ := (data m 0 c).toR_finds 0 t X ((RDat.override_finds (data m 0 c).toR (ovr := relates m c) (w := 0) rfl t X).mp h)
  exact e.trans (found0 m c t d)
theorem leaves0 (c : Dev nD) (t : Fin cfg0.N) (Y) : (rdata m c).after 0 t Y (iblk m c 0 t) := by
  have e : (rdata m c).after 0 = (data m 0 c).toR.after 0 := RDat.override_after_of_eq_none (data m 0 c).toR (ovr := relates m c) (w := 0) rfl
  rw [e]
  show iblk m c 0 t = (data m 0 c).after 0 t
  exact (left0 m c t).symm
theorem finds1 (c : Dev nD) (t : Fin cfg0.N) (X) (h : (rdata m c).Finds 1 t X) : X = iblk m c 1 t := by
  obtain ⟨d, e⟩ := (data m 0 c).toR_finds 1 t X ((RDat.override_finds (data m 0 c).toR (ovr := relates m c) (w := 1) rfl t X).mp h)
  exact e.trans (found1 m c t d)
theorem leaves1 (c : Dev nD) (t : Fin cfg0.N) (Y) : (rdata m c).after 1 t Y (iblk m c 1 t) := by
  have e : (rdata m c).after 1 = (data m 0 c).toR.after 1 := RDat.override_after_of_eq_none (data m 0 c).toR (ovr := relates m c) (w := 1) rfl
  rw [e]
  show iblk m c 1 t = (data m 0 c).after 1 t
  exact (left1 m c t).symm
theorem finds2 (c : Dev nD) (t : Fin cfg0.N) (X) (h : (rdata m c).Finds 2 t X) : X = iblk m c 2 t := by
  obtain ⟨d, e⟩ := (data m 0 c).toR_finds 2 t X ((RDat.override_finds (data m 0 c).toR (ovr := relates m c) (w := 2) rfl t X).mp h)
  exact e.trans (found2 m c t d)
theorem leaves2 (c : Dev nD) (t : Fin cfg0.N) (Y) : (rdata m c).after 2 t Y (iblk m c 2 t) := by
  have e : (rdata m c).after 2 = (data m 0 c).toR.after 2 := RDat.override_after_of_eq_none (data m 0 c).toR (ovr := relates m c) (w := 2) rfl
  rw [e]
  show iblk m c 2 t = (data m 0 c).after 2 t
  exact (left2 m c t).symm
theorem finds3 (c : Dev nD) (t : Fin cfg0.N) (X) (h : (rdata m c).Finds 3 t X) : X = iblk m c 3 t := by
  obtain ⟨d, e⟩ := (data m 0 c).toR_finds 3 t X ((RDat.override_finds (data m 0 c).toR (ovr := relates m c) (w := 3) rfl t X).mp h)
  exact e.trans (found3 m c t d)
theorem leaves3 (c : Dev nD) (t : Fin cfg0.N) (Y) : (rdata m c).after 3 t Y (iblk m c 3 t) := by
  have e : (rdata m c).after 3 = (data m 0 c).toR.after 3 := RDat.override_after_of_eq_none (data m 0 c).toR (ovr := relates m c) (w := 3) rfl
  rw [e]
  show iblk m c 3 t = (data m 0 c).after 3 t
  exact (left3 m c t).symm
theorem finds4 (c : Dev nD) (t : Fin cfg0.N) (X) (h : (rdata m c).Finds 4 t X) : X = iblk m c 4 t := by
  obtain ⟨d, e⟩ := (data m 0 c).toR_finds 4 t X ((RDat.override_finds (data m 0 c).toR (ovr := relates m c) (w := 4) rfl t X).mp h)
  exact e.trans (found4 m c t d)
theorem leaves4 (c : Dev nD) (t : Fin cfg0.N) (Y) : (rdata m c).after 4 t Y (iblk m c 4 t) := by
  have e : (rdata m c).after 4 = (data m 0 c).toR.after 4 := RDat.override_after_of_eq_none (data m 0 c).toR (ovr := relates m c) (w := 4) rfl
  rw [e]
  show iblk m c 4 t = (data m 0 c).after 4 t
  exact (left4 m c t).symm
theorem finds5 (c : Dev nD) (t : Fin cfg0.N) (X) (h : (rdata m c).Finds 5 t X) : X = iblk m c 5 t := by
  obtain ⟨d, e⟩ := (data m 0 c).toR_finds 5 t X ((RDat.override_finds (data m 0 c).toR (ovr := relates m c) (w := 5) rfl t X).mp h)
  exact e.trans (found5 m c t d)
theorem leaves5 (c : Dev nD) (t : Fin cfg0.N) (Y) : (rdata m c).after 5 t Y (iblk m c 5 t) := by
  have e : (rdata m c).after 5 = (data m 0 c).toR.after 5 := RDat.override_after_of_eq_none (data m 0 c).toR (ovr := relates m c) (w := 5) rfl
  rw [e]
  show iblk m c 5 t = (data m 0 c).after 5 t
  exact (left5 m c t).symm

end Cert.OutprojIdeal.Body
-- ==== Proof.OutV.Launch.lean ====
/- The launch of the output projection: every grid point keeps the launch's data, and the whole program runs, keeps its
   arguments and ends with its counters at rest. -/
module

public import proofs.«01_k».proof.Proof.OutV.State

@[expose] public section

set_option maxRecDepth 16384

noncomputable section

namespace Cert.OutprojIdeal.Body

open Idealize.ShloMosaic Idealize.ShloMosaic.TcCoe Idealize.ShloMosaic.Tactic Cert.OutprojIdeal.Gen Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- What the body is handed at point `t`, the output block holding `Y`. -/
def given (c : Dev nD) (t : Fin cfg0.N) (Y : Vec F S512x4096 .f32) : sProp 𝕄G :=
  iprop((Pipeline.ΦA spec0 c : sProp 𝕄G) ∗ (data m 0 c).owesAt () t.castSucc
    ∗ owns (c : Thread nD τ) (st0 t) fullShare (iblk m c 0 t)
    ∗ owns (c : Thread nD τ) (st1 t) fullShare (iblk m c 1 t)
    ∗ owns (c : Thread nD τ) (st2 t) fullShare (iblk m c 2 t)
    ∗ owns (c : Thread nD τ) (st3 t) fullShare (iblk m c 3 t)
    ∗ owns (c : Thread nD τ) (st4 t) fullShare (iblk m c 4 t)
    ∗ owns (c : Thread nD τ) (st5 t) fullShare (iblk m c 5 t)
    ∗ owns (c : Thread nD τ) (st6 t) fullShare Y)

set_option maxHeartbeats 1600000 in
/-- A point that is not its row block's last. -/
theorem pointA (c : Dev nD) (t : Fin cfg0.N) (Y : Vec F S512x4096 .f32) (h : t.val % 8 ≠ 7) :
    given m c t Y ⊢ wp frame (wpE (defs₀ (F := F)) Variants.none c none) Set.univ (bodyAt0 t) (fun _ => given m c t (stepAt m c t Y)) := by
  unfold given bodyAt0
  rw [show stepAt m c t Y = PUT (grid0.coords t 1).val (iblk m c 0 t) (iblk m c 1 t) (iblk m c 2 t) (iblk m c 3 t) Y from by rw [inner_val]; unfold stepAt putAt; rw [if_neg h]]
  iintro ⟨Hc, Ho, H0, H1, H2, H3, H4, H5, H6⟩
  iapply (runA c (grid0.coords t) _ _ _ _ _ _ _ _ _ _ _ _ _ _ (fun hh => h ((closes_iff t).mp hh)) (iblk m c 0 t) (iblk m c 1 t) (iblk m c 2 t) (iblk m c 3 t) (iblk m c 4 t) (iblk m c 5 t) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [Hc]; · iexact Hc
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1600000 in
/-- A row block's last point. -/
theorem pointB (c : Dev nD) (t : Fin cfg0.N) (Y : Vec F S512x4096 .f32) (h : t.val % 8 = 7) :
    given m c t Y ⊢ wp frame (wpE (defs₀ (F := F)) Variants.none c none) Set.univ (bodyAt0 t) (fun _ => given m c t (stepAt m c t Y)) := by
  unfold given bodyAt0
  rw [show stepAt m c t Y = FIN (PUT (grid0.coords t 1).val (iblk m c 0 t) (iblk m c 1 t) (iblk m c 2 t) (iblk m c 3 t) Y) (iblk m c 4 t) (iblk m c 5 t) from by rw [inner_val]; unfold stepAt putAt; rw [if_pos h]]
  iintro ⟨Hc, Ho, H0, H1, H2, H3, H4, H5, H6⟩
  iapply (runB c (grid0.coords t) _ _ _ _ _ _ _ _ _ _ _ _ _ _ ((closes_iff t).mpr h) (iblk m c 0 t) (iblk m c 1 t) (iblk m c 2 t) (iblk m c 3 t) (iblk m c 4 t) (iblk m c 5 t) Y Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [Hc]; · iexact Hc
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem point (c : Dev nD) (t : Fin cfg0.N) (Y : Vec F S512x4096 .f32) :
    given m c t Y ⊢ wp frame (wpE (defs₀ (F := F)) Variants.none c none) Set.univ (bodyAt0 t) (fun _ => given m c t (stepAt m c t Y)) := by
  by_cases h : t.val % 8 = 7
  · exact pointB m c t Y h
  · exact pointA m c t Y h

theorem row (t : Fin cfg0.N) : defs₀ (F := F) .tc cfg0.body (cfg0.bodyArgs t (cfg0.slots t)) = bodyAt0 t := by
  unfold defs₀; rw [Defs.onTc_tc]

theorem obligation (c : Dev nD) : (rdata (F := F) m c).BodyObligation (defs₀ (F := F)) Variants.none () Set.univ := fun t Y hY => by
  have e0 := finds0 m c t _ (hY 0)
  have e1 := finds1 m c t _ (hY 1)
  have e2 := finds2 m c t _ (hY 2)
  have e3 := finds3 m c t _ (hY 3)
  have e4 := finds4 m c t _ (hY 4)
  have e5 := finds5 m c t _ (hY 5)
  rw [bigSep_W0, bigSep_W0, row]
  refine triple_restated (point m c t (Y 6)) rfl ?_ fun _ => ?_
  · rw [e0, e1, e2, e3, e4, e5]
    unfold given
    rw [show (rdata m c).Φ t.castSucc = (Pipeline.ΦA spec0 c : sProp 𝕄G) from rfl]
    exact .rfl
  · rw [show (rdata m c).Φ t.succ = (Pipeline.ΦA spec0 c : sProp 𝕄G) from rfl, show (rdata m c).owesAt () t.succ = (data m 0 c).owesAt () t.castSucc from rfl]
    unfold given
    iintro ⟨Hc, Ho, H0, H1, H2, H3, H4, H5, H6⟩
    isplitl [Hc]; · iexact Hc
    isplitl [Ho]; · iexact Ho
    isplitl [H0]
    · iexists _; isplitr; swap; · iexact H0
      ipureintro; exact leaves0 m c t _
    isplitl [H1]
    · iexists _; isplitr; swap; · iexact H1
      ipureintro; exact leaves1 m c t _
    isplitl [H2]
    · iexists _; isplitr; swap; · iexact H2
      ipureintro; exact leaves2 m c t _
    isplitl [H3]
    · iexists _; isplitr; swap; · iexact H3
      ipureintro; exact leaves3 m c t _
    isplitl [H4]
    · iexists _; isplitr; swap; · iexact H4
      ipureintro; exact leaves4 m c t _
    isplitl [H5]
    · iexists _; isplitr; swap; · iexact H5
      ipureintro; exact leaves5 m c t _
    iexists _; isplitr; swap; · iexact H6
    ipureintro; rw [after6]

set_option backward.isDefEq.respectTransparency.types false in
/-- The program runs to arrays the launch's data allow, with its counters at rest. -/
theorem runs : θ_run defs (onTc (τ := τ) (main (F := F))) (s₀ m ρ) (fun r => (Pipeline.RDat.FramePost (cfgs 0) (fun c => rdata m c) (V m)) r ∧ r.2.sem = fun _ => 0) :=
  Pipeline.RDat.θ_run_frame_track_shared (Q' := _) cfgs (0 : Fin 1) launch₀0 defs₀ Variants.none (fun c => rdata m c) m ρ main
    (hbody := fun c => obligation m c) (hq := fun _ _ _ => rfl)
    (howed := fun _ _ => rfl) (V := V m) (hmain := hmain m Variants.none) (hA := rdata_A m) (hin := fun _ => .rfl) (hout := fun _ => .rfl)

theorem runs_arrays : θ_run defs (onTc (τ := τ) (main (F := F))) (s₀ m ρ) (Pipeline.RDat.FramePost (cfgs 0) (fun c => rdata m c) (V m)) :=
  (θ_run defs _ _).mono (fun _ h => h.1) (runs m ρ)

/-- The arguments end as they began, and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => ⟨(Pipeline.RDat.FramePost.arr_in h c 0 rfl).trans ((rdata_A m c 0).trans (V_main_arg0 m c)),
      (Pipeline.RDat.FramePost.arr_in h c 1 rfl).trans ((rdata_A m c 1).trans (V_main_arg1 m c)),
      ((h c).2 main_arg2 (Pipeline.mem_restRefs_of main_arg2 (by decide) (by decide))).trans (V_main_arg2 m c),
      (Pipeline.RDat.FramePost.arr_in h c 4 rfl).trans ((rdata_A m c 4).trans (V_main_arg3 m c)),
      ((h c).2 main_arg4 (Pipeline.mem_restRefs_of main_arg4 (by decide) (by decide))).trans (V_main_arg4 m c)⟩) (runs_arrays m ρ)) ((θ_run defs _ _).mono (fun _ h => h.2) (runs m ρ))

end Cert.OutprojIdeal.Body
-- ==== Proof.OutV.Outcome.lean ====
/- What the launch's data leave in the output block where it is written back: the whole product, then the rows finished. -/
module

public import proofs.«01_k».proof.Proof.OutV.Launch

@[expose] public section

set_option maxRecDepth 16384

noncomputable section

namespace Cert.OutprojIdeal.Body

open Idealize.ShloMosaic Idealize.ShloMosaic.TcCoe Idealize.ShloMosaic.Tactic Cert.OutprojIdeal.Gen Cert.Rows
open Idealize.ShloMosaic.Pipeline (Dat RDat Cfg Window)

variable {F : FTy → Type} [FloatOps F]

variable (m : (ℓ : Loc nD τ sig) → Buf (Elt F) ℓ)

/-- The point of a number. -/
def pt (n : ℕ) : Fin cfg0.N := ⟨n % 128, by rw [show cfg0.N = 128 from N_0]; exact Nat.mod_lt _ (by decide)⟩

theorem pt_self (t : Fin cfg0.N) (n : ℕ) (h : n = t.val) : pt n = t := by
  subst h
  exact Fin.ext (Nat.mod_eq_of_lt (Nat.lt_of_lt_of_eq t.isLt N_0))

/-- Row block `i` of the product, each column from the point that computes it. -/
def prodAt (c : Dev nD) (i : ℕ) : Vec F S512x4096 .f32 :=
  fun y => k0_pay10 (iblk m c 0 (pt (8 * i + (y 1).val / 512))) (half (iblk m c 2 (pt (8 * i + (y 1).val / 512))) ((y 1).val / 256 % 2))
    (iblk m c 1 (pt (8 * i + (y 1).val / 512))) (half (iblk m c 3 (pt (8 * i + (y 1).val / 512))) ((y 1).val / 256 % 2)) (loc2 y)

/-- The output window is never fetched. -/
theorem unfetched (t : Fin cfg0.N) : (cfg0.win 6).fetch t = false := rfl

theorem before_of_pos (c : Dev nD) (t : Fin cfg0.N) (h : t.val % 8 ≠ 0) (Y : Vec F S512x4096 .f32) (hY : (rdata m c).Finds 6 t Y) :
    (rdata m c).Leaves 6 ⟨t.val - 1, Nat.lt_of_le_of_lt (Nat.sub_le _ _) t.isLt⟩ Y := by
  rcases ((rdata m c).finds_of_pos (unfetched t) (by omega) Y).mp hY with hf | hl
  · have := (flush0_6 _).mp hf
    exact absurd this (by show (t.val - 1) % 8 ≠ 7; omega)
  · exact hl

/-- A point's columns are the product's; the columns before them stay what they were. -/
theorem put_at (c : Dev nD) (t : Fin cfg0.N) (Y : Vec F S512x4096 .f32) (y : S512x4096.Idx) (h : (y 1).val < 512 * (t.val % 8 + 1))
    (hY : (y 1).val < 512 * (t.val % 8) → Y y = prodAt m c (t.val / 8) y) : putAt m c t Y y = prodAt m c (t.val / 8) y := by
  unfold putAt PUT
  by_cases hc : (y 1).val / 512 = t.val % 8
  · rw [if_pos hc]
    unfold prodAt
    rw [pt_self t _ (by omega)]
  · rw [if_neg hc]
    exact hY (by omega)

/-- The columns computed so far. -/
theorem leaves_part (c : Dev nD) (n : ℕ) : ∀ (t : Fin cfg0.N) (X : Vec F S512x4096 .f32), t.val = n → n % 8 ≠ 7 → (rdata m c).Leaves 6 t X →
    ∀ y : S512x4096.Idx, (y 1).val < 512 * (t.val % 8 + 1) → X y = prodAt m c (t.val / 8) y := by
  induction n with
  | zero =>
    intro t X ht h ⟨Y, hY, hX⟩ y hy
    rw [after6] at hX
    rw [hX]
    unfold stepAt
    rw [if_neg (by omega)]
    exact put_at m c t Y y hy (fun h' => by omega)
  | succ n ih =>
    intro t X ht h ⟨Y, hY, hX⟩ y hy
    rw [after6] at hX
    rw [hX]
    unfold stepAt
    rw [if_neg (by omega)]
    refine put_at m c t Y y hy (fun h' => ?_)
    have e := ih _ Y (by show t.val - 1 = n; omega) (by omega) (before_of_pos m c t (by omega) Y hY) y
    rw [show (⟨t.val - 1, Nat.lt_of_le_of_lt (Nat.sub_le _ _) t.isLt⟩ : Fin cfg0.N).val = t.val - 1 from rfl,
      show (t.val - 1) / 8 = t.val / 8 by omega] at e
    exact e (by omega)

/-- What the output block holds where it is written back. -/
def outAt (c : Dev nD) (t : Fin cfg0.N) : Vec F S512x4096 .f32 := FIN (prodAt m c (t.val / 8)) (iblk m c 4 t) (iblk m c 5 t)

theorem leaves_out (c : Dev nD) (t : Fin cfg0.N) (X : Vec F S512x4096 .f32) (hf : (cfg0.win 6).flush t = true) (hL : (rdata m c).Leaves 6 t X) : X = outAt m c t := by
  have h' := (flush0_6 t).mp hf
  obtain ⟨Y, hY, hX⟩ := hL
  rw [after6] at hX
  rw [hX]
  unfold stepAt outAt
  rw [if_pos h']
  refine congrArg (fun a => FIN a (iblk m c 4 t) (iblk m c 5 t)) (funext fun y => ?_)
  have hy : (y 1).val < 4096 := (y 1).isLt
  refine put_at m c t Y y (by omega) (fun h'' => ?_)
  have e := leaves_part m c (t.val - 1) _ Y rfl (by omega) (before_of_pos m c t (by omega) Y hY) y
  rw [show (⟨t.val - 1, Nat.lt_of_le_of_lt (Nat.sub_le _ _) t.isLt⟩ : Fin cfg0.N).val = t.val - 1 from rfl,
    show (t.val - 1) / 8 = t.val / 8 by omega] at e
  exact e (by omega)

end Cert.OutprojIdeal.Body
-- ==== Proof.OutV.Blocks.lean ====
/- Every grid point's blocks, read at an element of the arguments: point `t` is row block `t / 8` and column block `t % 8`. -/
module

public import proofs.«01_k».proof.Proof.OutV.Math
public import proofs.«01_k».proof.Proof.OutV.Outcome
public import Idealize.ShloMosaic.Lib.Pipeline.ValueKit
public import Idealize.ShloMosaic.Lib.StableHlo.Run

@[expose] public section

set_option maxRecDepth 16384

noncomputable section

namespace Cert.OutprojIdeal.Body

open Idealize.ShloMosaic Idealize.ShloMosaic.TcCoe Idealize.ShloMosaic.Tactic Cert.OutprojIdeal.Gen Cert.Rows Cert.OutV Cert.GlaV

variable (m : (l : Loc nD τ sig) → Buf (Elt Ideal) l) (c : Dev nD)

/-- The launch memory's arguments, as numbered matrices. -/
abbrev Am : ℕ → ℕ → EReal := at2 (n := 8192) (k := 2048) (m ((c : Thread nD τ).loc main_arg0))
abbrev Bm : ℕ → ℕ → EReal := at2 (n := 8192) (k := 2048) (m ((c : Thread nD τ).loc main_arg1))
abbrev Wm : ℕ → ℕ → EReal := at2 (n := 4096) (k := 4096) (m ((c : Thread nD τ).loc main_arg2))
abbrev Hm : ℕ → ℕ → EReal := at2 (n := 8192) (k := 4096) (m ((c : Thread nD τ).loc main_arg3))
abbrev Gm : ℕ → EReal := at1 (n := 4096) (m ((c : Thread nD τ).loc main_arg4))

theorem main0 (r j : Fin 4096) : V m c main_v0 (ix2 r j) = (Wm m c r j : EReal) := by
  show StableHlo.after _ _ _ _ = _
  simp only [hostOps0, List.flatten_cons, List.flatten_nil, List.append_nil]
  entry_read
  pointwise
  exact at2_ix (n := 4096) (k := 4096) _ _ _

theorem main1 (j : Fin 4096) : V m c main_v1 (ix2 0 j) = (Gm m c j : EReal) := by
  show StableHlo.after _ _ _ _ = _
  simp only [hostOps0, List.flatten_cons, List.flatten_nil, List.append_nil]
  entry_read
  pointwise
  exact at1_ix (n := 4096) _ _

theorem ix_0 : ∀ t : Fin cfg0.N, win0_0.index t 0 = t.val / 8 ∧ win0_0.index t 1 = 0 := by decide +kernel
theorem ix_1 : ∀ t : Fin cfg0.N, win0_1.index t 0 = t.val / 8 ∧ win0_1.index t 1 = 0 := by decide +kernel
theorem ix_2 : ∀ t : Fin cfg0.N, win0_2.index t 0 = 0 ∧ win0_2.index t 1 = t.val % 8 := by decide +kernel
theorem ix_3 : ∀ t : Fin cfg0.N, win0_3.index t 0 = 1 ∧ win0_3.index t 1 = t.val % 8 := by decide +kernel
theorem ix_4 : ∀ t : Fin cfg0.N, win0_4.index t 0 = t.val / 8 ∧ win0_4.index t 1 = 0 := by decide +kernel
theorem ix_5 : ∀ t : Fin cfg0.N, win0_5.index t 0 = 0 ∧ win0_5.index t 1 = 0 := by decide +kernel
theorem ix_6 : ∀ t : Fin cfg0.N, win0_6.index t 0 = t.val / 8 ∧ win0_6.index t 1 = 0 := by decide +kernel

theorem lt_N (t : Fin cfg0.N) : t.val < 128 := lt_of_lt_of_eq t.isLt N_0

theorem blk_0 (t : Fin cfg0.N) (r : Fin 512) (k : Fin 2048) : iblk m c 0 t (ix2 r k) = (Am m c (512 * (t.val / 8) + r.val) k : EReal) := by
  have h := ix_0 t
  have ht := lt_N t
  have e : iblk m c 0 t (ix2 r k) = V m c main_arg0 (ix2 ⟨512 * (t.val / 8) + r.val, by omega⟩ k) := by blk_ext [iblk, h.1, h.2]
  rw [e, V_main_arg0]
  exact at2_ix (n := 8192) (k := 2048) _ _ _
theorem blk_1 (t : Fin cfg0.N) (r : Fin 512) (k : Fin 2048) : iblk m c 1 t (ix2 r k) = (Bm m c (512 * (t.val / 8) + r.val) k : EReal) := by
  have h := ix_1 t
  have ht := lt_N t
  have e : iblk m c 1 t (ix2 r k) = V m c main_arg1 (ix2 ⟨512 * (t.val / 8) + r.val, by omega⟩ k) := by blk_ext [iblk, h.1, h.2]
  rw [e, V_main_arg1]
  exact at2_ix (n := 8192) (k := 2048) _ _ _
theorem blk_4 (t : Fin cfg0.N) (r : Fin 512) (k : Fin 4096) : iblk m c 4 t (ix2 r k) = (Hm m c (512 * (t.val / 8) + r.val) k : EReal) := by
  have h := ix_4 t
  have ht := lt_N t
  have e : iblk m c 4 t (ix2 r k) = V m c main_arg3 (ix2 ⟨512 * (t.val / 8) + r.val, by omega⟩ k) := by blk_ext [iblk, h.1, h.2]
  rw [e, V_main_arg3]
  exact at2_ix (n := 8192) (k := 4096) _ _ _
theorem blk_2 (t : Fin cfg0.N) (r : Fin 2048) (k : Fin 512) : iblk m c 2 t (ix2 r k) = (Wm m c r (t.val % 8 * 512 + k.val) : EReal) := by
  have h := ix_2 t
  have e : iblk m c 2 t (ix2 r k) = V m c main_v0 (ix2 ⟨r.val, by omega⟩ ⟨t.val % 8 * 512 + k.val, by omega⟩) := by blk_ext [iblk, h.1, h.2]
  rw [e, main0]
theorem blk_3 (t : Fin cfg0.N) (r : Fin 2048) (k : Fin 512) : iblk m c 3 t (ix2 r k) = (Wm m c (2048 + r.val) (t.val % 8 * 512 + k.val) : EReal) := by
  have h := ix_3 t
  have e : iblk m c 3 t (ix2 r k) = V m c main_v0 (ix2 ⟨2048 + r.val, by omega⟩ ⟨t.val % 8 * 512 + k.val, by omega⟩) := by blk_ext [iblk, h.1, h.2]
  rw [e, main0]
theorem blk_5 (t : Fin cfg0.N) (k : Fin 4096) : iblk m c 5 t (ix2 0 k) = (Gm m c k : EReal) := by
  have h := ix_5 t
  have e : iblk m c 5 t (ix2 0 k) = V m c main_v1 (ix2 0 k) := by blk_ext [iblk, h.1, h.2]
  rw [e, main1]

/-- The projected rows of a row block, at an element. -/
theorem prodAt_val (i : ℕ) (hi : i < 16) (r : Fin 512) (k : Fin 4096) :
    (prodAt m c i (ix2 r k) : EReal) = PROJ (Am m c) (Bm m c) (Wm m c) (512 * i + r.val) k.val := by
  have hk := k.isLt
  have hv : (pt (8 * i + k.val / 512)).val = 8 * i + k.val / 512 := by show (8 * i + k.val / 512) % 128 = _; omega
  have hd : (pt (8 * i + k.val / 512)).val / 8 = i := by rw [hv]; omega
  have hm : (pt (8 * i + k.val / 512)).val % 8 = k.val / 512 := by rw [hv]; omega
  have hc : k.val / 512 * 512 + k.val % 512 = k.val := by omega
  unfold prodAt loc2
  refine (two_val _ _ _ _ r ⟨k.val % 256, Nat.mod_lt _ (by decide)⟩).trans ?_
  rw [PROJ_halves]
  refine congrArg₂ (· + ·) (Finset.sum_congr rfl fun x _ => ?_) (Finset.sum_congr rfl fun x _ => ?_)
  · refine congrArg₂ (· * ·) ((blk_0 m c _ r x).trans ?_) ((half_at _ x k.val _).trans ((blk_2 m c _ x _).trans ?_))
    · show Am m c (512 * ((pt (8 * i + k.val / 512)).val / 8) + r.val) x.val = _
      rw [hd]
    · show Wm m c x.val ((pt (8 * i + k.val / 512)).val % 8 * 512 + k.val % 512) = _
      rw [hm, hc]
  · refine congrArg₂ (· * ·) ((blk_1 m c _ r x).trans ?_) ((half_at _ x k.val _).trans ((blk_3 m c _ x _).trans ?_))
    · show Bm m c (512 * ((pt (8 * i + k.val / 512)).val / 8) + r.val) x.val = _
      rw [hd]
    · show Wm m c (2048 + x.val) ((pt (8 * i + k.val / 512)).val % 8 * 512 + k.val % 512) = _
      rw [hm, hc]

end Cert.OutprojIdeal.Body
-- ==== Proof.OutV.Final.lean ====
/- What the projection's launch leaves: every element the residual plus the normalised product. -/
module

public import proofs.«01_k».proof.Proof.OutV.Blocks
public import Idealize.ShloMosaic.Lib.Pipeline.ArrRel
public import Idealize.ShloMosaic.Lib.Claim

@[expose] public section

set_option maxRecDepth 16384

noncomputable section

namespace Cert.OutprojIdeal.Body

open Idealize.ShloMosaic Idealize.ShloMosaic.TcCoe Idealize.ShloMosaic.Tactic Idealize.SL.Sem Cert.OutprojIdeal.Gen Cert.Rows Cert.OutV Cert.GlaV

variable (m : (l : Loc nD τ sig) → Buf (Elt Ideal) l) (ρ : Dev nD → PrngReg) (c : Dev nD)

/-- The result, of the launch memory. -/
abbrev RESm (s j : ℕ) : EReal := RES (Am m c) (Bm m c) (Wm m c) (Hm m c) (Gm m c) s j

/-- A point's output block where it is written back, at an element. -/
theorem outAt_val (t : Fin cfg0.N) (r : Fin 512) (k : Fin 4096) :
    outAt m c t (ix2 r k) = RESm m c (512 * (t.val / 8) + r.val) k.val := by
  have ht := lt_N t
  unfold outAt RESm RES
  rw [FIN_val]
  simp only [prodAt_val m c (t.val / 8) (by omega), blk_4, blk_5]

/-- The result array. -/
def RESULT : Buf (Elt Ideal) ((c : Thread nD τ).loc main_v2) :=
  (fun i => RESm m c (i 0).val (i 1).val : FVec Ideal S8192x4096 .f32)

theorem RESULT_val (s : Fin 8192) (j : Fin 4096) : (RESULT m c : FVec Ideal S8192x4096 .f32) (ix2 s j) = RESm m c s.val j.val := rfl

/-- A write-back of what is left is a block of the result, … -/
theorem flushed (t : Fin cfg0.N) : (cfg0.win 6).cut (grid0.coords t) (outAt m c t) = ((cfg0.win 6).blk t).view.read (Elt Ideal) (RESULT m c) := by
  have h := ix_6 t
  funext y
  obtain ⟨r, k, rfl⟩ : ∃ (r : Fin 512) (k : Fin 4096), y = ix2 r k := ⟨y 0, y 1, eq_ix2 y⟩
  rw [View.read_apply]
  refine (outAt_val m c t r k).trans ?_
  show _ = RESm m c (win0_6.index t 0 * 512 + 1 * r.val) (win0_6.index t 1 * 4096 + 1 * k.val)
  rw [h.1, h.2]
  congr 1 <;> omega

/-- … and the blocks cover it. -/
theorem covered (i : S8192x4096.Idx) : ∃ t : Fin cfg0.N, (cfg0.win 6).flush t = true ∧ i ∈ ((cfg0.win 6).blk t).view.set := by
  have h0 : (i 0 : Nat) < 8192 := (i 0).isLt
  have h1 : (i 1 : Nat) < 4096 := (i 1).isLt
  let t : Fin cfg0.N := ⟨8 * ((i 0 : Nat) / 512) + 7, by rw [show cfg0.N = 128 from N_0]; omega⟩
  have ht : t.val = 8 * ((i 0 : Nat) / 512) + 7 := rfl
  refine ⟨t, (flush0_6 t).mpr (by rw [ht]; omega), ?_⟩
  have h := ix_6 t
  show i ∈ ((View.whole main_v2).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [h.1, ht]; omega
  | ⟨1, _⟩ =>
    show win0_6.index t 1 * 4096 ≤ (i 1 : Nat) ∧ (i 1 : Nat) < win0_6.index t 1 * 4096 + 4096
    rw [h.2]; omega

/-- The launch's post, read at the result. -/
theorem final (r : PUnit × MemSt nD τ sig (Elt Ideal)) (h : Pipeline.RDat.FramePost (cfgs 0) (fun c => rdata m c) (V m) r) :
    r.2.mem ((c.tc : Thread nD τ).loc main_v2) = RESULT m c := by
  obtain ⟨after, hL, hA⟩ := Pipeline.RDat.FramePost.exists_exact (cfg₁ := cfgs 0) h c
  refine (hA 6).trans (((rdata m c).withAfter after).arrAt_eq_of_cover 6 (RESULT m c) (fun t ht => ?_) covered)
  refine Eq.trans ?_ (flushed m c t)
  show (cfg0.win 6).cut (grid0.coords t) (after 6 t) = _
  rw [leaves_out m c t (after 6 t) ht (hL 6 t ht)]

/-- The run, read: the result array, the arguments unchanged. -/
theorem run : θ_run defs (onTc (τ := τ) (main (F := Ideal))) ⟨m, fun _ => 0, ρ⟩ fun r => ∀ c : Dev nD,
      r.2.mem ((c.tc : Thread nD τ).loc main_v2) = RESULT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨final m c r h.1, h.2.1 c⟩) (θ_run_and (runs_arrays m ρ) (kept m ρ))

end Cert.OutprojIdeal.Body
-- ==== Proof.OutV.Ref.lean ====
/- What the reference computes, read at an element: the two arrays side by side, the product, and the result, each of the one
   before. -/
module

public import proofs.«01_k».proof.Proof.OutV.Math
public import proofs.«01_k».proof.Proof.FfnV.Ref
public import proofs.«01_k».proof.Proof.Gen.OutprojRefIdeal.Run

@[expose] public section

set_option maxRecDepth 16384

noncomputable section

namespace Cert.OutprojRefIdeal.Body

open Idealize.ShloMosaic Cert.OutprojRefIdeal.Gen Cert.OutV Cert.GlaV
open Cert.FfnRefIdeal.Body (norm norm_val)

/-- The two arrays side by side. -/
def side (a b : FVec Ideal S8192x2048 .bf16) : FVec Ideal S8192x4096 .f32 :=
  concatenate S8192x4096 1 [⟨S8192x2048, (extf .f32 a bitsLt_bf16_f32)⟩, ⟨S8192x2048, (extf .f32 b bitsLt_bf16_f32)⟩] concatenates_S8192x2048_S8192x2048_S8192x4096_d1

/-- The product of rows and columns. -/
def prod (x : FVec Ideal S8192x4096 .f32) (w : FVec Ideal S4096x4096 .f32) : FVec Ideal S8192x4096 .f32 :=
  Host.dotGeneral dot_S8192x4096_S4096x4096_S8192x4096_1_0_0_1_n_n none x w

/-- The reference's result of five arrays. -/
def res (a0 a1 : FVec Ideal S8192x2048 .bf16) (a2 : FVec Ideal S4096x4096 .f32) (a3 : FVec Ideal S8192x4096 .f32) (a4 : FVec Ideal S4096 .f32) :
    FVec Ideal S8192x4096 .f32 :=
  addf a3 (norm (prod (side a0 a1) a2) a4)

theorem side_val (a b : FVec Ideal S8192x2048 .bf16) (s : Fin 8192) (x : Fin 4096) :
    (side a b (ix2 s x) : EReal) = if x.val < 2048 then at2 (n := 8192) (k := 2048) a s.val x.val else at2 (n := 8192) (k := 2048) b s.val (x.val - 2048) := by
  unfold side
  pointwise
  split_ifs with h
  · exact at2_ix (n := 8192) (k := 2048) a s ⟨x.val, h⟩
  · exact at2_ix (n := 8192) (k := 2048) b s ⟨x.val - 2048, by omega⟩
  · exact absurd rfl (by assumption)

theorem prod_val (x : FVec Ideal S8192x4096 .f32) (w : FVec Ideal S4096x4096 .f32) (s : Fin 8192) (q : Fin 4096) :
    (prod x w (ix2 s q) : EReal) = ∑ k : Fin 4096, x (ix2 s k) * w (ix2 k q) := by
  unfold prod
  pointwise

theorem res_val (a0 a1 : FVec Ideal S8192x2048 .bf16) (a2 : FVec Ideal S4096x4096 .f32) (a3 : FVec Ideal S8192x4096 .f32) (a4 : FVec Ideal S4096 .f32)
    (s : Fin 8192) (j : Fin 4096) :
    (res a0 a1 a2 a3 a4 (ix2 s j) : EReal) = RES (at2 (n := 8192) (k := 2048) a0) (at2 (n := 8192) (k := 2048) a1) (at2 (n := 4096) (k := 4096) a2)
      (at2 (n := 8192) (k := 4096) a3) (at1 (n := 4096) a4) s.val j.val := by
  have h : (res a0 a1 a2 a3 a4 (ix2 s j) : EReal) = a3 (ix2 s j) + norm (prod (side a0 a1) a2) a4 (ix2 s j) := rfl
  rw [h]
  unfold RES
  simp only [norm_val, prod_val, side_val]
  simp only [at2_ix, at1_ix]
  rfl

end Cert.OutprojRefIdeal.Body
-- ==== Proof.OutV.Equation.lean ====
/- The output projection and its reference: both results are the residual plus the normalised product of the arguments. -/
module

public import proofs.«01_k».proof.Defs
public import proofs.«01_k».proof.Proof.OutV.Final
public import proofs.«01_k».proof.Proof.OutV.Ref
public import proofs.«01_k».proof.Proof.Gen.Outproj

@[expose] public section

set_option maxRecDepth 16384

noncomputable section

namespace Cert.OutV

open Idealize.ShloMosaic Idealize.SL.Sem

/-- The launch's result is the reference's of the same arrays. -/
theorem results_eq (m : (l : Loc OutprojIdeal.nD OutprojIdeal.τ OutprojIdeal.sig) → Buf (Elt Ideal) l) (c : Dev OutprojIdeal.nD) :
    OutprojRefIdeal.Body.res (m ((c.tc : Thread OutprojIdeal.nD OutprojIdeal.τ).loc OutprojIdeal.main_arg0)) (m ((c.tc : Thread OutprojIdeal.nD OutprojIdeal.τ).loc OutprojIdeal.main_arg1)) (m ((c.tc : Thread OutprojIdeal.nD OutprojIdeal.τ).loc OutprojIdeal.main_arg2))
      (m ((c.tc : Thread OutprojIdeal.nD OutprojIdeal.τ).loc OutprojIdeal.main_arg3)) (m ((c.tc : Thread OutprojIdeal.nD OutprojIdeal.τ).loc OutprojIdeal.main_arg4)) = OutprojIdeal.Body.RESULT m c := by
  funext i
  obtain ⟨s, j, rfl⟩ : ∃ (s : Fin 8192) (j : Fin 4096), i = ix2 s j := ⟨i 0, i 1, eq_ix2 i⟩
  exact (OutprojRefIdeal.Body.res_val _ _ _ _ _ s j).trans (OutprojIdeal.Body.RESULT_val m c s j).symm

/-- The program and its idealized form have one body table, … -/
theorem bodies_eq : Cert.Outproj.defs₀ (F := Bits) = Cert.OutprojIdeal.defs₀ := by
  unfold Cert.Outproj.defs₀ Cert.OutprojIdeal.defs₀
  refine congrArg Defs.onTc ?_
  funext l a
  match l, a with
  | ⟨0, _⟩, (t, s) =>
    show Cert.Outproj.cc0_outproj _ _ _ _ _ _ _ _ _ _ _ _ _ _ _ = _
    unfold Cert.Outproj.cc0_outproj
    rfl
theorem defs_eq : Cert.Outproj.defs (F := Bits) = Cert.OutprojIdeal.defs := congrArg (Pipeline.defs Cert.OutprojIdeal.pcfgs) bodies_eq

/-- … so the frame of the one is the frame of the other. -/
theorem frame_kernel : Cert.quiescent_Outproj := fun m ρ _ => by
  rw [defs_eq]
  exact Cert.OutprojIdeal.Body.kept (F := Bits) m ρ
theorem frame_ideal : Cert.quiescent_OutprojIdeal := fun m ρ _ => Cert.OutprojIdeal.Body.kept m ρ
theorem frame_ref : Cert.quiescent_OutprojRefIdeal := fun m ρ _ => (θ_run Cert.OutprojRefIdeal.defs _ _).mono
  (fun r h => ⟨fun c => (h c).2, sem_eq_zero_of_no_sems (by decide) r.2⟩) (Cert.OutprojRefIdeal.Value.run m ρ)

theorem equation : Cert.algebraic_OutprojIdeal_OutprojRefIdeal := by
  intro m ρ m' ρ' _ h
  refine ⟨fun c => Cert.OutprojIdeal.Body.RESULT m c, Cert.OutprojIdeal.Body.run m ρ, ?_⟩
  refine (θ_run Cert.OutprojRefIdeal.defs _ _).mono (fun _ hr c => ⟨(hr c).1.trans ?_, (hr c).2⟩) (Cert.OutprojRefIdeal.Value.run m' ρ')
  obtain ⟨h0, h1, h2, h3, h4⟩ := h c
  rw [h0, h1, h2, h3, h4]
  exact results_eq m c

end Cert.OutV
end
-- ==== Proof.PleV.Spec.lean ====
/- What the two scratch arrays of the embedding kernel hold, and what one grid point leaves in the output block, as
   functions of the blocks the point stages. -/
module

public import proofs.«01_k».proof.Proof.Gen.PleIdeal.Loops
public import proofs.«01_k».proof.Proof.RowsV.Rows
public import Idealize.ShloMosaic.Lib.WritesUnit
public import Idealize.ShloMosaic.Lib.VecWindow
public import Idealize.ShloMosaic.Lib.Pointwise

@[expose] public section

set_option maxRecDepth 16384

noncomputable section

namespace Cert.PleIdeal.Body

open Idealize.ShloMosaic Idealize.ShloMosaic.TcCoe Cert.PleIdeal.Gen Cert.Rows

variable {F : FTy → Type} [FloatOps F]

/-- The embedding before its normalisation. -/
abbrev E0 (x1 : Vec F S512x256 .f32) (x2 : Vec F S256x4096 .bf16) : Vec F S512x4096 .f32 := k0_pay18 x1 x2

/-- The embedding normalised row by row, 32 rows at a time. -/
def EN (e : Vec F S512x4096 .f32) (g : Vec F S1x4096 .f32) : Vec F S512x4096 .f32 :=
  fun y => k0_pay9 (k0_pay3 (win e (32 * ((y 0).val / 32)))) (win e (32 * ((y 0).val / 32))) g (loc y)

/-- The residual rounded to sixteen bits, 32 rows at a time. -/
def HB (x : Vec F S512x4096 .f32) : Vec F S512x4096 .bf16 :=
  fun y => k0_pay8 (win x (32 * ((y 0).val / 32))) (loc y)

/-- The 256 columns of a 512-row array from column `o` on. -/
def cols (x : Vec F S512x4096 .f32) (o : ℕ) : Vec F S512x256 .f32 :=
  fun z => x (ix2 (z 0) ⟨(o + (z 1).val) % 4096, Nat.mod_lt _ (by decide)⟩)
/-- The 256 columns of the gate's weights from column `o` on. -/
def wcols (x : Vec F S4096x1024 .bf16) (o : ℕ) : Vec F S4096x256 .bf16 :=
  fun z => x (ix2 (z 0) ⟨(o + (z 1).val) % 1024, Nat.mod_lt _ (by decide)⟩)

/-- The output block of column block `n`. -/
def OUT (n : ℕ) (x0 : Vec F S512x4096 .f32) (x4 : Vec F S4096x1024 .bf16) (hb : Vec F S512x4096 .bf16) (en : Vec F S512x4096 .f32) :
    Vec F S512x1024 .f32 :=
  fun y => k0_pay20 hb (wcols x4 (256 * ((y 1).val / 256))) (cols x0 (1024 * n + 256 * ((y 1).val / 256)))
    (cols en (1024 * n + 256 * ((y 1).val / 256))) (ix2 (y 0) ⟨(y 1).val % 256, Nat.mod_lt _ (by decide)⟩)

theorem off1_0 : ∀ k : Fin k0_t1_loop.trips, k0_off1 k 0#32 = ![128 * k.val, 0] := by decide +kernel
theorem off1_1 : ∀ k : Fin k0_t1_loop.trips, k0_off1 k 32#32 = ![128 * k.val + 32, 0] := by decide +kernel
theorem off1_2 : ∀ k : Fin k0_t1_loop.trips, k0_off1 k 64#32 = ![128 * k.val + 64, 0] := by decide +kernel
theorem off1_3 : ∀ k : Fin k0_t1_loop.trips, k0_off1 k 96#32 = ![128 * k.val + 96, 0] := by decide +kernel
theorem trips_eq : k0_t1_loop.trips = 4 := by decide +kernel

theorem off2_0 : ∀ i : grid0.Coords, k0_off2 i 0#32 = ![0, 1024 * (i 1).val] := by decide +kernel
theorem off2_1 : ∀ i : grid0.Coords, k0_off2 i 256#32 = ![0, 1024 * (i 1).val + 256] := by decide +kernel
theorem off2_2 : ∀ i : grid0.Coords, k0_off2 i 512#32 = ![0, 1024 * (i 1).val + 512] := by decide +kernel
theorem off2_3 : ∀ i : grid0.Coords, k0_off2 i 768#32 = ![0, 1024 * (i 1).val + 768] := by decide +kernel

end Cert.PleIdeal.Body
-- ==== Proof.PleV.Math.lean ====
/- The gated embedding over the extended reals, and what the kernel's blocks are in those terms. -/
module

public import proofs.«01_k».proof.Proof.PleV.Spec
public import proofs.«01_k».proof.Proof.GlaV.Spec

@[expose] public section

set_option maxRecDepth 16384

noncomputable section

namespace Cert.PleV

open Idealize.ShloMosaic

section
variable (H P W A : ℕ → ℕ → EReal) (G : ℕ → EReal)

/-- The embedding's projection, … -/
def E (s j : ℕ) : EReal := ∑ x : Fin 256, P s x.val * W x.val j
/-- … the inverse of its row's root mean square, … -/
def S (s : ℕ) : EReal :=
  Ideal.rsqrt (Ideal.div (∑ j : Fin 4096, E P W s j.val * E P W s j.val) (Ideal.ofBits FTy.f32 1166016512#32) + Ideal.ofBits FTy.f32 897988541#32)
/-- … and the residual with the gated embedding added. -/
def RES (s j : ℕ) : EReal :=
  H s j + E P W s j * S P W s * G j * Ideal.logistic (∑ x : Fin 4096, H s x.val * A x.val j)
end

end Cert.PleV

namespace Cert.PleIdeal.Body

open Idealize.ShloMosaic Idealize.ShloMosaic.TcCoe Idealize.ShloMosaic.Tactic Cert.PleIdeal.Gen Cert.Rows Cert.PleV

theorem HB_val (x : Vec Ideal S512x4096 .f32) (r : Fin 512) (k : Fin 4096) : (HB x (ix2 r k) : EReal) = x (ix2 r k) := by
  unfold HB
  refine Eq.trans ?_ (win_at x r k (Nat.mod_lt _ (by decide)))
  unfold loc
  unfold_payloads
  pointwise

theorem E0_val (x1 : Vec Ideal S512x256 .f32) (x2 : Vec Ideal S256x4096 .bf16) (r : Fin 512) (k : Fin 4096) :
    E0 x1 x2 (ix2 r k) = ∑ x : Fin 256, x1 (ix2 r x) * x2 (ix2 x k) := by
  unfold E0
  unfold_payloads
  pointwise

theorem EN_val (e : Vec Ideal S512x4096 .f32) (g : Vec Ideal S1x4096 .f32) (r : Fin 512) (k : Fin 4096) :
    EN e g (ix2 r k) = e (ix2 r k) * Ideal.rsqrt (Ideal.div (∑ j : Fin 4096, e (ix2 r j) * e (ix2 r j)) (Ideal.ofBits FTy.f32 1166016512#32) + Ideal.ofBits FTy.f32 897988541#32)
      * g (ix2 0 k) := by
  unfold EN loc
  have h : r.val % 32 < 32 := Nat.mod_lt _ (by decide)
  show k0_pay9 (k0_pay3 (win e (32 * (r.val / 32)))) (win e (32 * (r.val / 32))) g (ix2 ⟨r.val % 32, h⟩ k) = _
  unfold_payloads
  pointwise
  simp only [win_at]

theorem OUT_val (n : ℕ) (hn : n < 4) (x0 : Vec Ideal S512x4096 .f32) (x4 : Vec Ideal S4096x1024 .bf16) (hb : Vec Ideal S512x4096 .bf16) (en : Vec Ideal S512x4096 .f32)
    (r : Fin 512) (k : Fin 1024) :
    OUT n x0 x4 hb en (ix2 r k) = x0 (ix2 r ⟨1024 * n + k.val, by omega⟩)
      + en (ix2 r ⟨1024 * n + k.val, by omega⟩) * Ideal.logistic (∑ x : Fin 4096, hb (ix2 r x) * x4 (ix2 x k)) := by
  have hk := k.isLt
  have ec : ∀ x : Vec Ideal S512x4096 .f32, cols x (1024 * n + 256 * (k.val / 256)) (ix2 r ⟨k.val % 256, Nat.mod_lt _ (by decide)⟩) = x (ix2 r ⟨1024 * n + k.val, by omega⟩) := fun x => by
    refine congrArg x (congrArg₂ ix2 rfl (Fin.ext ?_))
    show (1024 * n + 256 * (k.val / 256) + k.val % 256) % 4096 = 1024 * n + k.val
    omega
  have ew : ∀ z : Fin 4096, wcols x4 (256 * (k.val / 256)) (ix2 z ⟨k.val % 256, Nat.mod_lt _ (by decide)⟩) = x4 (ix2 z k) := fun z => by
    refine congrArg x4 (congrArg₂ ix2 rfl (Fin.ext ?_))
    show (256 * (k.val / 256) + k.val % 256) % 1024 = k.val
    omega
  rw [← ec x0, ← ec en]
  simp only [← ew]
  unfold OUT
  show k0_pay20 hb (wcols x4 (256 * (k.val / 256))) (cols x0 (1024 * n + 256 * (k.val / 256))) (cols en (1024 * n + 256 * (k.val / 256))) (ix2 r ⟨k.val % 256, Nat.mod_lt _ (by decide)⟩) = _
  unfold_payloads
  generalize wcols x4 (256 * (k.val / 256)) = w, cols x0 (1024 * n + 256 * (k.val / 256)) = c0, cols en (1024 * n + 256 * (k.val / 256)) = c1, (⟨k.val % 256, Nat.mod_lt _ (by decide)⟩ : Fin 256) = q
  pointwise

end Cert.PleIdeal.Body
-- ==== Proof.PleV.Loop.lean ====
/- One trip of the kernel's row loop, and the loop: after trip `k` the first `128 (k + 1)` rows of the two scratch arrays
   hold the rounded residual and the normalised embedding. -/
module

public import proofs.«01_k».proof.Proof.PleV.Spec

@[expose] public section

set_option maxRecDepth 16384

noncomputable section

namespace Cert.PleIdeal.Body

open Idealize.ShloMosaic Idealize.ShloMosaic.TcCoe Idealize.ShloMosaic.Tactic Cert.PleIdeal.Gen Cert.Rows
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable {e : EltTy}

/-- The normalised rows of a chunk, at an element of that chunk. -/
theorem EN_at (e : Vec F S512x4096 .f32) (g : Vec F S1x4096 .f32) (y : S512x4096.Idx) (o : ℕ) (h : 32 * ((y 0).val / 32) = o) :
    k0_pay9 (k0_pay3 (win e o)) (win e o) g (loc y) = EN e g y := by
  unfold EN; rw [h]
theorem HB_at (x : Vec F S512x4096 .f32) (y : S512x4096.Idx) (o : ℕ) (h : 32 * ((y 0).val / 32) = o) :
    k0_pay8 (win x o) (loc y) = HB x y := by
  unfold HB; rw [h]

section
variable (𝒱 : Variants) (c : Dev nD) (bd : Option 𝒱.V) (E : Set ℕ) (i : grid0.Coords) (arg2 : Memref sig .tc .vmem S512x4096 .f32) (harg2 : arg2.IsWhole) (arg3 : Memref sig .tc .vmem S512x256 .f32) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S512x4096 .f32) (harg9 : arg9.IsWhole) (k0_h1 : k0_cond1 i = 1#1)
  (X2 : BufTy.Contents (Elt F) arg2.view.ty) (X5 : BufTy.Contents (Elt F) arg5.view.ty)

/-- What a trip holds: the block and the norm it reads, the two scratch arrays. -/
abbrev held (f8 : BufTy.Contents (Elt F) arg8.view.ty) (f9 : BufTy.Contents (Elt F) arg9.view.ty) : sProp 𝕄G :=
  iprop((arg2.view.loc (c : Thread nD τ) ↦[arg2.view.set]{fullShare} X2) ∗ (arg5.view.loc (c : Thread nD τ) ↦[arg5.view.set]{fullShare} X5)
    ∗ (arg8.view.loc (c : Thread nD τ) ↦[arg8.view.set]{fullShare} f8) ∗ (arg9.view.loc (c : Thread nD τ) ↦[arg9.view.set]{fullShare} f9))

/-- One trip. -/
theorem trip
    (e : Vec F S512x4096 .f32) (k : Fin k0_t1_loop.trips)
    (f8 : BufTy.Contents (Elt F) arg8.view.ty) (f9 : BufTy.Contents (Elt F) arg9.view.ty)
    (h8 : ∀ y, (y 0).val < 128 * k.val → arg8.view.read (Elt F) f8 y = HB (arg2.view.read (Elt F) X2) y)
    (h9 : ∀ y, arg9.view.read (Elt F) f9 y = if (y 0).val < 128 * k.val then EN e (arg5.view.read (Elt F) X5) y else e y) :
      held (F := F) c arg2 arg5 arg8 arg9 X2 X5 f8 f9
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 k0_h1 k PUnit.unit)
          (fun _ => (iprop((arg2.view.loc (c : Thread nD τ) ↦[arg2.view.set]{fullShare} X2) ∗ (arg5.view.loc (c : Thread nD τ) ↦[arg5.view.set]{fullShare} X5)
            ∗ (∃ f, (arg8.view.loc (c : Thread nD τ) ↦[arg8.view.set]{fullShare} f) ∗ ⌜∀ y, (y 0).val < 128 * (k.val + 1) → arg8.view.read (Elt F) f y = HB (arg2.view.read (Elt F) X2) y⌝)
            ∗ (∃ f, (arg9.view.loc (c : Thread nD τ) ↦[arg9.view.set]{fullShare} f) ∗ ⌜∀ y, arg9.view.read (Elt F) f y = if (y 0).val < 128 * (k.val + 1) then EN e (arg5.view.read (Elt F) X5) y else e y⌝)) : sProp 𝕄G)) := by
  have hk : k.val < 4 := Nat.lt_of_lt_of_le k.isLt k0_t1_abs.2.1
  unfold k0_t1_body
  iintro ⟨HR_arg2, HR_arg5, HW_arg8, HW_arg9⟩
  sl_exec
  sl_step
  isplitl [HR_arg2]; · iexact HR_arg2
  isplitl [HR_arg5]; · iexact HR_arg5
  isplitl [HW_arg8]
  · iexists _; isplitl [HW_arg8]; · iexact HW_arg8
    ipureintro
    intro y hy
    sl_unfold_run_names
    have R := read_rows4 arg8.view f8 (k0_off1_inb i k k0_h1 0) (k0_off1_inb i k k0_h1 1) (k0_off1_inb i k k0_h1 2) (k0_off1_inb i k k0_h1 3)
      (k0_pay8 (arg2.view.readAt (Elt F) (Rect.unit (s := S512x4096) (k0_off1 k 0#32) S32x4096.size (k0_off1_inb i k k0_h1 0)).toLoadRect X2))
      (k0_pay12 (k0_pay11 (arg2.view.readAt (Elt F) (Rect.unit (s := S512x4096) (k0_off1 k 32#32) S32x4096.size (k0_off1_inb i k k0_h1 1)).toLoadRect X2)))
      (k0_pay14 (arg2.view.readAt (Elt F) (Rect.unit (s := S512x4096) (k0_off1 k 64#32) S32x4096.size (k0_off1_inb i k k0_h1 2)).toLoadRect X2))
      (k0_pay17 (arg2.view.readAt (Elt F) (Rect.unit (s := S512x4096) (k0_off1 k 96#32) S32x4096.size (k0_off1_inb i k k0_h1 3)).toLoadRect X2))
      (128 * k.val) (by omega) (off1_0 k) (off1_1 k) (off1_2 k) (off1_3 k) (HB (arg2.view.read (Elt F) X2))
      (fun y hy => by rw [readAt_rows arg2.view X2 _ _ (off1_0 k)]; exact HB_at _ y _ (by omega))
      (fun y hy => by rw [readAt_rows arg2.view X2 _ _ (off1_1 k)]; exact HB_at _ y _ (by omega))
      (fun y hy => by rw [readAt_rows arg2.view X2 _ _ (off1_2 k)]; exact HB_at _ y _ (by omega))
      (fun y hy => by rw [readAt_rows arg2.view X2 _ _ (off1_3 k)]; exact HB_at _ y _ (by omega)) y
    refine R.trans ?_
    by_cases hc : 128 * k.val ≤ (y 0).val
    · rw [if_pos ⟨hc, by omega⟩]
    · rw [if_neg (by omega), h8 y (by omega)]
  · iexists _; isplitl [HW_arg9]; · iexact HW_arg9
    ipureintro
    intro y
    sl_unfold_run_names
    have hw : ∀ (r : ℕ), r < 4 → win (arg9.view.read (Elt F) f9) (128 * k.val + 32 * r) = win e (128 * k.val + 32 * r) := fun r hr =>
      win_congr _ (by omega) fun y hy => by rw [h9 y, if_neg (by omega)]
    have e0 := (readAt_rows (off := k0_off1 k (0#32)) arg9.view f9 (k0_off1_inb i k k0_h1 0) _ (off1_0 k)).trans (hw 0 (by omega))
    have e1 := (readAt_rows (off := k0_off1 k (32#32)) arg9.view f9 (k0_off1_inb i k k0_h1 1) _ (off1_1 k)).trans (hw 1 (by omega))
    have e2 := (readAt_rows (off := k0_off1 k (64#32)) arg9.view f9 (k0_off1_inb i k k0_h1 2) _ (off1_2 k)).trans (hw 2 (by omega))
    have e3 := (readAt_rows (off := k0_off1 k (96#32)) arg9.view f9 (k0_off1_inb i k k0_h1 3) _ (off1_3 k)).trans (hw 3 (by omega))
    have eg := View.readAt_full arg5.view X5 inb_S1x4096_S1x4096_0_0
    have R := read_rows4 arg9.view f9 (k0_off1_inb i k k0_h1 0) (k0_off1_inb i k k0_h1 1) (k0_off1_inb i k k0_h1 2) (k0_off1_inb i k k0_h1 3)
      (k0_pay9 (k0_pay3 (arg9.view.readAt (Elt F) (Rect.unit (s := S512x4096) (k0_off1 k 0#32) S32x4096.size (k0_off1_inb i k k0_h1 0)).toLoadRect f9)) (arg9.view.readAt (Elt F) (Rect.unit (s := S512x4096) (k0_off1 k 0#32) S32x4096.size (k0_off1_inb i k k0_h1 0)).toLoadRect f9) (arg5.view.readAt (Elt F) (Rect.unit (s := S1x4096) ![0, 0] S1x4096.size inb_S1x4096_S1x4096_0_0).toLoadRect X5))
      (k0_pay13 (k0_pay10 (k0_pay4 (arg9.view.readAt (Elt F) (Rect.unit (s := S512x4096) (k0_off1 k 32#32) S32x4096.size (k0_off1_inb i k k0_h1 1)).toLoadRect f9)) (arg9.view.readAt (Elt F) (Rect.unit (s := S512x4096) (k0_off1 k 32#32) S32x4096.size (k0_off1_inb i k k0_h1 1)).toLoadRect f9) (arg5.view.readAt (Elt F) (Rect.unit (s := S1x4096) ![0, 0] S1x4096.size inb_S1x4096_S1x4096_0_0).toLoadRect X5)))
      (k0_pay15 (k0_pay6 (k0_pay5 (arg9.view.readAt (Elt F) (Rect.unit (s := S512x4096) (k0_off1 k 64#32) S32x4096.size (k0_off1_inb i k k0_h1 2)).toLoadRect f9)) (FloatOps.ofBits FTy.f32 897988541#32)) (arg9.view.readAt (Elt F) (Rect.unit (s := S512x4096) (k0_off1 k 64#32) S32x4096.size (k0_off1_inb i k k0_h1 2)).toLoadRect f9) (arg5.view.readAt (Elt F) (Rect.unit (s := S1x4096) ![0, 0] S1x4096.size inb_S1x4096_S1x4096_0_0).toLoadRect X5))
      (k0_pay19 (k0_pay16 (k0_pay7 (arg9.view.readAt (Elt F) (Rect.unit (s := S512x4096) (k0_off1 k 96#32) S32x4096.size (k0_off1_inb i k k0_h1 3)).toLoadRect f9)) (arg9.view.readAt (Elt F) (Rect.unit (s := S512x4096) (k0_off1 k 96#32) S32x4096.size (k0_off1_inb i k k0_h1 3)).toLoadRect f9) (arg5.view.readAt (Elt F) (Rect.unit (s := S1x4096) ![0, 0] S1x4096.size inb_S1x4096_S1x4096_0_0).toLoadRect X5)))
      (128 * k.val) (by omega) (off1_0 k) (off1_1 k) (off1_2 k) (off1_3 k) (EN e (arg5.view.read (Elt F) X5))
      (fun y hy => by rw [e0, eg]; exact EN_at e _ y _ (by omega))
      (fun y hy => by rw [e1, eg]; exact EN_at e _ y _ (by omega))
      (fun y hy => by rw [e2, eg]; exact EN_at e _ y _ (by omega))
      (fun y hy => by rw [e3, eg]; exact EN_at e _ y _ (by omega)) y
    refine R.trans ?_
    by_cases hc : 128 * k.val ≤ (y 0).val
    · by_cases hd : (y 0).val < 128 * k.val + 128
      · rw [if_pos ⟨hc, hd⟩, if_pos (by omega)]
      · rw [if_neg (by omega), if_neg (by omega), h9 y, if_neg (by omega)]
    · rw [if_neg (by omega), if_pos (by omega), h9 y, if_pos (by omega)]

/-- What the second scratch array holds before trip `k`, of the contents `G` the loop finds there. -/
def C9 (G : BufTy.Contents (Elt F) arg9.view.ty) : ℕ → BufTy.Contents (Elt F) arg9.view.ty
  | 0 => G
  | k + 1 => harg9.unread (fun y => if (y 0).val < 128 * (k + 1) then EN (arg9.view.read (Elt F) G) (arg5.view.read (Elt F) X5) y else arg9.view.read (Elt F) G y)

theorem read_C9 (G : BufTy.Contents (Elt F) arg9.view.ty) (k : ℕ) (y : S512x4096.Idx) : arg9.view.read (Elt F) (C9 arg5 arg9 harg9 X5 G k) y
      = if (y 0).val < 128 * k then EN (arg9.view.read (Elt F) G) (arg5.view.read (Elt F) X5) y else arg9.view.read (Elt F) G y := by
  cases k with
  | zero => rw [if_neg (by omega)]; rfl
  | succ k => exact congrFun (harg9.read_unread _) y

set_option warn.classDefReducibility false in
/-- The loop by its invariant. -/
@[sl_loop] def rowLoop (G9 : BufTy.Contents (Elt F) arg9.view.ty) :
    LoopInvTy_k0_t1 (F := F) Unit ℕ (UR sig nD τ) ℕ 𝒱 c bd E i arg2 harg2 arg3 harg3 arg4 harg4 arg5 harg5 arg6 harg6 arg7 harg7 arg8 harg8 arg9 harg9 k0_h1 where
  inv k _ := (iprop((arg2.view.loc (c : Thread nD τ) ↦[arg2.view.set]{fullShare} X2) ∗ (arg5.view.loc (c : Thread nD τ) ↦[arg5.view.set]{fullShare} X5)
    ∗ (∃ f, (arg8.view.loc (c : Thread nD τ) ↦[arg8.view.set]{fullShare} f) ∗ ⌜∀ y, (y 0).val < 128 * k → arg8.view.read (Elt F) f y = HB (arg2.view.read (Elt F) X2) y⌝)
    ∗ (arg9.view.loc (c : Thread nD τ) ↦[arg9.view.set]{fullShare} C9 arg5 arg9 harg9 X5 G9 k)) : sProp 𝕄G)
  step k acc := by
    iintro ⟨H2, H5, ⟨%f8, H8, %h8⟩, H9⟩
    iapply (wp_wand_r Idealize.ShloMosaic.frame (wpE (defs₀ (F := F)) 𝒱 (c : Thread nD τ) bd) E)
    isplitl [H2 H5 H8 H9]
    · iapply (trip (F := F) 𝒱 c bd E i arg2 harg2 arg3 harg3 arg4 harg4 arg5 harg5 arg6 harg6 arg7 harg7 arg8 harg8 arg9 harg9 k0_h1 X2 X5 (arg9.view.read (Elt F) G9) k f8 _ h8 (read_C9 arg5 arg9 harg9 X5 G9 k.val))
      isplitl [H2]; · iexact H2
      isplitl [H5]; · iexact H5
      isplitl [H8]; · iexact H8
      iexact H9
    · iintro %_ ⟨H2, H5, H8, ⟨%f9, H9, %h9⟩⟩
      isplitl [H2]; · iexact H2
      isplitl [H5]; · iexact H5
      isplitl [H8]; · iexact H8
      have e9 : f9 = C9 arg5 arg9 harg9 X5 G9 (k.val + 1) := harg9.eq_unread (funext h9)
      rw [← e9]; iexact H9
end

end Cert.PleIdeal.Body
-- ==== Proof.PleV.Run.lean ====
/- The kernel's body at one grid point. At the first column block of a row block it fills the two scratch arrays and then
   computes its output block; at the others the scratch arrays are as the point before left them. -/
module

public import proofs.«01_k».proof.Proof.PleV.Loop
public import proofs.«01_k».proof.Proof.Gen.PleIdeal.Points
public import Idealize.ShloMosaic.Lib.Pipeline.FrameBody

@[expose] public section

set_option maxRecDepth 16384

noncomputable section

namespace Cert.PleIdeal.Body

open Idealize.ShloMosaic Idealize.ShloMosaic.TcCoe Idealize.ShloMosaic.Tactic Cert.PleIdeal.Gen
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- A load of 256 columns reads those columns. -/
theorem readAt_cols (v : View sig .tc .vmem S512x4096 .f32) (f : v.ty.Contents (Elt F)) {off : Fin 2 → ℕ} (inb : ∀ a, off a + S512x256.size a ≤ S512x4096.size a)
    (o : ℕ) (h : off = ![0, o]) : v.readAt (Elt F) (Rect.unit (s := S512x4096) off S512x256.size inb).toLoadRect f = cols (v.read (Elt F) f) o := by
  subst h
  funext z
  refine congrArg (v.read (Elt F) f) (funext fun a => Fin.ext ?_)
  have h0 : o + 256 ≤ 4096 := inb 1
  have hz : (z 1).val < 256 := (z 1).isLt
  match a with
  | ⟨0, _⟩ => show 0 + 1 * (z 0).val = (z 0).val; omega
  | ⟨1, _⟩ => show o + 1 * (z 1).val = (o + (z 1).val) % 4096; rw [Nat.mod_eq_of_lt (by omega)]; omega

theorem readAt_wcols (v : View sig .tc .vmem S4096x1024 .bf16) (f : v.ty.Contents (Elt F)) (o : ℕ) (inb : ∀ a, (![0, o] : Fin 2 → ℕ) a + S4096x256.size a ≤ S4096x1024.size a) :
    v.readAt (Elt F) (Rect.unit (s := S4096x1024) ![0, o] S4096x256.size inb).toLoadRect f = wcols (v.read (Elt F) f) o := by
  funext z
  refine congrArg (v.read (Elt F) f) (funext fun a => Fin.ext ?_)
  have h0 : o + 256 ≤ 1024 := inb 1
  have hz : (z 1).val < 256 := (z 1).isLt
  match a with
  | ⟨0, _⟩ => show 0 + 1 * (z 0).val = (z 0).val; omega
  | ⟨1, _⟩ => show o + 1 * (z 1).val = (o + (z 1).val) % 1024; rw [Nat.mod_eq_of_lt (by omega)]; omega

/-- The position of a column within its group of 256. -/
abbrev cloc (y : S512x1024.Idx) : S512x256.Idx := ix2 (y 0) ⟨(y 1).val % 256, Nat.mod_lt _ (by decide)⟩

/-- The four stores of 256 columns leave the output block. -/
theorem read_out (v : View sig .tc .vmem S512x1024 .f32) (f : v.ty.Contents (Elt F)) (w0 w1 w2 w3 : Vec F S512x256 .f32)
    (n : ℕ) (x0 : Vec F S512x4096 .f32) (x4 : Vec F S4096x1024 .bf16) (hb : Vec F S512x4096 .bf16) (en : Vec F S512x4096 .f32)
    (h0 : w0 = k0_pay20 hb (wcols x4 0) (cols x0 (1024 * n)) (cols en (1024 * n)))
    (h1 : w1 = k0_pay20 hb (wcols x4 256) (cols x0 (1024 * n + 256)) (cols en (1024 * n + 256)))
    (h2 : w2 = k0_pay20 hb (wcols x4 512) (cols x0 (1024 * n + 512)) (cols en (1024 * n + 512)))
    (h3 : w3 = k0_pay20 hb (wcols x4 768) (cols x0 (1024 * n + 768)) (cols en (1024 * n + 768))) :
    v.read (Elt F) (v.writes (Elt F) f [⟨Rect.unit (s := S512x1024) ![0, 768] S512x256.size inb_S512x1024_S512x256_0_768, w3⟩, ⟨Rect.unit (s := S512x1024) ![0, 512] S512x256.size inb_S512x1024_S512x256_0_512, w2⟩,
      ⟨Rect.unit (s := S512x1024) ![0, 256] S512x256.size inb_S512x1024_S512x256_0_256, w1⟩, ⟨Rect.unit (s := S512x1024) ![0, 0] S512x256.size inb_S512x1024_S512x256_0_0, w0⟩])
      = OUT n x0 x4 hb en := by
  funext y
  have hy : (y 1).val < 1024 := (y 1).isLt
  unfold OUT
  by_cases c3 : (y 1).val / 256 = 3
  · rw [c3]
    refine (View.read_writes_cons_unit_of_mem v f inb_S512x1024_S512x256_0_768 w3 _ y (cloc y) rfl fun a => ?_).trans (congrFun h3 _)
    match a with
    | ⟨0, _⟩ => show (y 0).val = 0 + (y 0).val; omega
    | ⟨1, _⟩ => show (y 1).val = 768 + (y 1).val % 256; omega
  rw [View.read_writes_cons_unit_of_not_mem v f inb_S512x1024_S512x256_0_768 w3 _ y rfl 1 (.inl (show (y 1).val < 768 by omega))]
  by_cases c2 : (y 1).val / 256 = 2
  · rw [c2]
    refine (View.read_writes_cons_unit_of_mem v f inb_S512x1024_S512x256_0_512 w2 _ y (cloc y) rfl fun a => ?_).trans (congrFun h2 _)
    match a with
    | ⟨0, _⟩ => show (y 0).val = 0 + (y 0).val; omega
    | ⟨1, _⟩ => show (y 1).val = 512 + (y 1).val % 256; omega
  rw [View.read_writes_cons_unit_of_not_mem v f inb_S512x1024_S512x256_0_512 w2 _ y rfl 1 (.inl (show (y 1).val < 512 by omega))]
  by_cases c1 : (y 1).val / 256 = 1
  · rw [c1]
    refine (View.read_writes_cons_unit_of_mem v f inb_S512x1024_S512x256_0_256 w1 _ y (cloc y) rfl fun a => ?_).trans (congrFun h1 _)
    match a with
    | ⟨0, _⟩ => show (y 0).val = 0 + (y 0).val; omega
    | ⟨1, _⟩ => show (y 1).val = 256 + (y 1).val % 256; omega
  rw [View.read_writes_cons_unit_of_not_mem v f inb_S512x1024_S512x256_0_256 w1 _ y rfl 1 (.inl (show (y 1).val < 256 by omega))]
  have c0 : (y 1).val / 256 = 0 := by omega
  rw [c0]
  refine (View.read_writes_cons_unit_of_mem v f inb_S512x1024_S512x256_0_0 w0 _ y (cloc y) rfl fun a => ?_).trans (congrFun h0 _)
  match a with
  | ⟨0, _⟩ => show (y 0).val = 0 + (y 0).val; omega
  | ⟨1, _⟩ => show (y 1).val = 0 + (y 1).val % 256; omega

theorem pay_congr {hb hb' : Vec F S512x4096 .bf16} {w w' : Vec F S4096x256 .bf16} {h h' e e' : Vec F S512x256 .f32}
    (e1 : hb = hb') (e2 : w = w') (e3 : h = h') (e4 : e = e') : k0_pay20 hb w h e = k0_pay20 hb' w' h' e' := by
  rw [e1, e2, e3, e4]

theorem scratch_hb (arg8 : Memref sig .tc .vmem S512x4096 .bf16) (x0 : Vec F S512x4096 .f32) (f : BufTy.Contents (Elt F) arg8.view.ty)
    (h : ∀ y, (y 0).val < 128 * k0_t1_loop.trips → arg8.view.read (Elt F) f y = HB x0 y) : arg8.view.read (Elt F) f = HB x0 := by
  funext y
  have hy : (y 0).val < 512 := (y 0).isLt
  exact h y (by rw [trips_eq]; omega)

theorem scratch_en (arg3 : Memref sig .tc .vmem S512x256 .f32) (harg3 : arg3.IsWhole) (arg4 : Memref sig .tc .vmem S256x4096 .bf16) (harg4 : arg4.IsWhole)
    (arg5 : Memref sig .tc .vmem S1x4096 .f32) (harg5 : arg5.IsWhole) (arg9 : Memref sig .tc .vmem S512x4096 .f32) (harg9 : arg9.IsWhole)
    (x1 : Vec F S512x256 .f32) (x2 : Vec F S256x4096 .bf16) (x3 : Vec F S1x4096 .f32) (g : BufTy.Contents (Elt F) arg9.view.ty) :
    arg9.view.read (Elt F) (C9 arg5 arg9 harg9 (harg5.unread x3) (arg9.view.writes (Elt F) g [⟨Rect.unit (s := S512x4096) ![0, 0] S512x4096.size inb_S512x4096_S512x4096_0_0,
      k0_pay18 (arg3.view.readAt (Elt F) (Rect.unit (s := S512x256) ![0, 0] S512x256.size inb_S512x256_S512x256_0_0).toLoadRect (harg3.unread x1))
        (arg4.view.readAt (Elt F) (Rect.unit (s := S256x4096) ![0, 0] S256x4096.size inb_S256x4096_S256x4096_0_0).toLoadRect (harg4.unread x2))⟩]) k0_t1_loop.trips)
      = EN (E0 x1 x2) x3 := by
  funext y
  have hy : (y 0).val < 512 := (y 0).isLt
  rw [read_C9, if_pos (by rw [trips_eq]; omega), View.read_writes_full, harg5.read_unread, View.readAt_full, View.readAt_full, harg3.read_unread, harg4.read_unread]

section
variable (c : Dev nD) (i : grid0.Coords) (arg2 : Memref sig .tc .vmem S512x4096 .f32) (harg2 : arg2.IsWhole) (arg3 : Memref sig .tc .vmem S512x256 .f32) (harg3 : arg3.IsWhole) (arg4 : Memref sig .tc .vmem S256x4096 .bf16) (harg4 : arg4.IsWhole) (arg5 : Memref sig .tc .vmem S1x4096 .f32) (harg5 : arg5.IsWhole) (arg6 : Memref sig .tc .vmem S4096x1024 .bf16) (harg6 : arg6.IsWhole) (arg7 : Memref sig .tc .vmem S512x1024 .f32) (harg7 : arg7.IsWhole) (arg8 : Memref sig .tc .vmem S512x4096 .bf16) (harg8 : arg8.IsWhole) (arg9 : Memref sig .tc .vmem S512x4096 .f32) (harg9 : arg9.IsWhole)

/-- The blocks held, with what else is. -/
abbrev holds (y0 : Vec F S512x4096 .f32) (y1 : Vec F S512x256 .f32) (y2 : Vec F S256x4096 .bf16) (y3 : Vec F S1x4096 .f32) (y4 : Vec F S4096x1024 .bf16) (R : sProp 𝕄G) : sProp 𝕄G :=
  iprop(owns (c : Thread nD τ) arg2 fullShare y0 ∗ owns (c : Thread nD τ) arg3 fullShare y1 ∗ owns (c : Thread nD τ) arg4 fullShare y2 ∗ owns (c : Thread nD τ) arg5 fullShare y3 ∗ owns (c : Thread nD τ) arg6 fullShare y4 ∗ R)

set_option maxHeartbeats 1000000 in
/-- The body at a column block that is not the first: the scratch arrays are read and kept. -/
theorem runB (hc0 : ¬k0_cond1 i = 1#1)
    (x0 : Vec F S512x4096 .f32) (x1 : Vec F S512x256 .f32) (x2 : Vec F S256x4096 .bf16) (x3 : Vec F S1x4096 .f32) (x4 : Vec F S4096x1024 .bf16) (hb : Vec F S512x4096 .bf16) (en : Vec F S512x4096 .f32) :
      ∀ (E : Set ℕ) (K : PUnit → sProp 𝕄G),
        (holds c arg2 arg3 arg4 arg5 arg6 x0 x1 x2 x3 x4 iprop((∃ d, owns (c : Thread nD τ) arg7 fullShare d) ∗ owns (c : Thread nD τ) arg8 fullShare hb ∗ owns (c : Thread nD τ) arg9 fullShare en
            ∗ ((holds c arg2 arg3 arg4 arg5 arg6 x0 x1 x2 x3 x4 iprop(owns (c : Thread nD τ) arg7 fullShare (OUT (i 1).val x0 x4 hb en) ∗ owns (c : Thread nD τ) arg8 fullShare hb ∗ owns (c : Thread nD τ) arg9 fullShare en)) -∗ K ⟨⟩)))
          ⊢ wp frame (wpE (defs₀ (F := F)) Variants.none c none) E (cc0_ple i arg2 harg2 arg3 harg3 arg4 harg4 arg5 harg5 arg6 harg6 arg7 harg7 arg8 harg8 arg9 harg9) K := by
    intro E K
    simp only [cc0_ple_eq_skeleton]; unfold cc0_ple_skel
    simp only [k0_part4_eq_skeleton]
    unfold holds owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hs0; obtain rfl := harg9.eq_unread hs1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_run_names
      refine read_out arg7.view _ _ _ _ _ (i 1).val x0 x4 hb en
        (pay_congr ?_ ((readAt_wcols arg6.view _ 0 _).trans (congrArg (fun x => wcols x 0) hf4)) ((readAt_cols arg2.view _ _ _ (off2_0 i)).trans (congrArg (fun x => cols x _) hf0)) ?_)
        (pay_congr ?_ ((readAt_wcols arg6.view _ 256 _).trans (congrArg (fun x => wcols x 256) hf4)) ((readAt_cols arg2.view _ _ _ (off2_1 i)).trans (congrArg (fun x => cols x _) hf0)) ?_)
        (pay_congr ?_ ((readAt_wcols arg6.view _ 512 _).trans (congrArg (fun x => wcols x 512) hf4)) ((readAt_cols arg2.view _ _ _ (off2_2 i)).trans (congrArg (fun x => cols x _) hf0)) ?_)
        (pay_congr ?_ ((readAt_wcols arg6.view _ 768 _).trans (congrArg (fun x => wcols x 768) hf4)) ((readAt_cols arg2.view _ _ _ (off2_3 i)).trans (congrArg (fun x => cols x _) hf0)) ?_)
      · exact (View.readAt_full arg8.view _ _).trans hs0
      · exact (readAt_cols arg9.view _ _ _ (off2_0 i)).trans (congrArg (fun x => cols x _) hs1)
      · exact (View.readAt_full arg8.view _ _).trans hs0
      · exact (readAt_cols arg9.view _ _ _ (off2_1 i)).trans (congrArg (fun x => cols x _) hs1)
      · exact (View.readAt_full arg8.view _ _).trans hs0
      · exact (readAt_cols arg9.view _ _ _ (off2_2 i)).trans (congrArg (fun x => cols x _) hs1)
      · exact (View.readAt_full arg8.view _ _).trans hs0
      · exact (readAt_cols arg9.view _ _ _ (off2_3 i)).trans (congrArg (fun x => cols x _) hs1)
    isplitl [HS0]
    · iexists _; isplitr; swap; · iexact HS0
      ipureintro; exact harg8.read_unread _
    iexists _; isplitr; swap; · iexact HS1
    ipureintro; exact harg9.read_unread _

set_option maxHeartbeats 1000000 in
/-- The body at the first column block of a row block. -/
theorem runA (hc0 : k0_cond1 i = 1#1)
    (x0 : Vec F S512x4096 .f32) (x1 : Vec F S512x256 .f32) (x2 : Vec F S256x4096 .bf16) (x3 : Vec F S1x4096 .f32) (x4 : Vec F S4096x1024 .bf16) :
      ∀ (E : Set ℕ) (K : PUnit → sProp 𝕄G),
        (holds c arg2 arg3 arg4 arg5 arg6 x0 x1 x2 x3 x4 iprop((∃ d, owns (c : Thread nD τ) arg7 fullShare d) ∗ (∃ d, owns (c : Thread nD τ) arg8 fullShare d) ∗ (∃ d, owns (c : Thread nD τ) arg9 fullShare d)
            ∗ ((holds c arg2 arg3 arg4 arg5 arg6 x0 x1 x2 x3 x4 iprop(owns (c : Thread nD τ) arg7 fullShare (OUT (i 1).val x0 x4 (HB x0) (EN (E0 x1 x2) x3)) ∗ owns (c : Thread nD τ) arg8 fullShare (HB x0) ∗ owns (c : Thread nD τ) arg9 fullShare (EN (E0 x1 x2) x3))) -∗ K ⟨⟩)))
          ⊢ wp frame (wpE (defs₀ (F := F)) Variants.none c none) E (cc0_ple i arg2 harg2 arg3 harg3 arg4 harg4 arg5 harg5 arg6 harg6 arg7 harg7 arg8 harg8 arg9 harg9) K := by
    intro E K
    simp only [cc0_ple_eq_skeleton]; unfold cc0_ple_skel
    simp only [k0_part4_eq_skeleton]
    unfold holds owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      sl_unfold_run_names
      refine read_out arg7.view _ _ _ _ _ (i 1).val x0 x4 (HB x0) (EN (E0 x1 x2) x3)
        (pay_congr ?_ ((readAt_wcols arg6.view _ 0 _).trans (congrArg (fun x => wcols x 0) hf4)) ((readAt_cols arg2.view _ _ _ (off2_0 i)).trans (congrArg (fun x => cols x _) hf0)) ?_)
        (pay_congr ?_ ((readAt_wcols arg6.view _ 256 _).trans (congrArg (fun x => wcols x 256) hf4)) ((readAt_cols arg2.view _ _ _ (off2_1 i)).trans (congrArg (fun x => cols x _) hf0)) ?_)
        (pay_congr ?_ ((readAt_wcols arg6.view _ 512 _).trans (congrArg (fun x => wcols x 512) hf4)) ((readAt_cols arg2.view _ _ _ (off2_2 i)).trans (congrArg (fun x => cols x _) hf0)) ?_)
        (pay_congr ?_ ((readAt_wcols arg6.view _ 768 _).trans (congrArg (fun x => wcols x 768) hf4)) ((readAt_cols arg2.view _ _ _ (off2_3 i)).trans (congrArg (fun x => cols x _) hf0)) ?_)
      · exact (View.readAt_full arg8.view _ _).trans (scratch_hb arg8 x0 fL0 (fun y hy => (hL3 y hy).trans (congrArg (fun x => HB x y) hf0)))
      · exact (readAt_cols arg9.view _ _ _ (off2_0 i)).trans (congrArg (fun x => cols x _) (scratch_en (F := F) arg3 harg3 arg4 harg4 arg5 harg5 arg9 harg9 x1 x2 x3 _))
      · exact (View.readAt_full arg8.view _ _).trans (scratch_hb arg8 x0 fL0 (fun y hy => (hL3 y hy).trans (congrArg (fun x => HB x y) hf0)))
      · exact (readAt_cols arg9.view _ _ _ (off2_1 i)).trans (congrArg (fun x => cols x _) (scratch_en (F := F) arg3 harg3 arg4 harg4 arg5 harg5 arg9 harg9 x1 x2 x3 _))
      · exact (View.readAt_full arg8.view _ _).trans (scratch_hb arg8 x0 fL0 (fun y hy => (hL3 y hy).trans (congrArg (fun x => HB x y) hf0)))
      · exact (readAt_cols arg9.view _ _ _ (off2_2 i)).trans (congrArg (fun x => cols x _) (scratch_en (F := F) arg3 harg3 arg4 harg4 arg5 harg5 arg9 harg9 x1 x2 x3 _))
      · exact (View.readAt_full arg8.view _ _).trans (scratch_hb arg8 x0 fL0 (fun y hy => (hL3 y hy).trans (congrArg (fun x => HB x y) hf0)))
      · exact (readAt_cols arg9.view _ _ _ (off2_3 i)).trans (congrArg (fun x => cols x _) (scratch_en (F := F) arg3 harg3 arg4 harg4 arg5 harg5 arg9 harg9 x1 x2 x3 _))
    isplitl [HS0]
    · iexists _; isplitr; swap; · iexact HS0
      ipureintro; exact scratch_hb arg8 x0 fL0 (fun y hy => (hL3 y hy).trans (congrArg (fun x => HB x y) hf0))
    iexists _; isplitr; swap; · iexact HS1
    ipureintro; exact scratch_en (F := F) arg3 harg3 arg4 harg4 arg5 harg5 arg9 harg9 x1 x2 x3 _
end

end Cert.PleIdeal.Body
-- ==== Proof.PleV.Launch.lean ====
/- The launch of the embedding kernel: what its scratch arrays hold between grid points, what every point leaves in its
   output block, and that the whole program runs, keeps its arguments and ends with its counters at rest. -/
module

public import proofs.«01_k».proof.Proof.PleV.Run
public import proofs.«01_k».proof.Proof.Gen.PleIdeal.Frame
public import Idealize.ShloMosaic.Lib.WordCmp
public import Idealize.ShloMosaic.Lib.Claim

@[expose] public section

set_option maxRecDepth 16384

noncomputable section

namespace Cert.PleIdeal.Body

open Idealize.ShloMosaic Idealize.ShloMosaic.TcCoe Idealize.ShloMosaic.Tactic Cert.PleIdeal.Gen Cert.Rows
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The scratch arrays are filled at the points ≡ 0 (mod 4). -/
theorem fills_iff (t : Fin cfg0.N) : k0_cond1 (grid0.coords t) = 1#1 ↔ t.val % 4 = 0 := by
  have ht : t.val < 64 := Nat.lt_of_lt_of_eq t.isLt N_0
  have e1 : (grid0.coords t 1).val = t.val / 1 % 4 := Pipeline.Grid.coords_val t 1 (by decide) rfl
  simp only [k0_cond1, e1]
  word_cmp

/-- The first point of a point's row block. -/
def lead (n : ℕ) (h : n < cfg0.N) : Fin cfg0.N := ⟨4 * (n / 4), by omega⟩

/-- The rounded residual and the normalised embedding of the row block of point `n`. -/
def hbAt (c : Dev nD) (n : ℕ) (h : n < cfg0.N) : Vec F S512x4096 .bf16 := HB (iblk m c 0 (lead n h))
def enAt (c : Dev nD) (n : ℕ) (h : n < cfg0.N) : Vec F S512x4096 .f32 :=
  EN (E0 (iblk m c 1 (lead n h)) (iblk m c 2 (lead n h))) (iblk m c 3 (lead n h))
/-- What point `t` leaves in the output block. -/
def outAt (c : Dev nD) (t : Fin cfg0.N) : Vec F S512x1024 .f32 :=
  OUT (grid0.coords t 1).val (iblk m c 0 t) (iblk m c 4 t) (hbAt m c t.val t.isLt) (enAt m c t.val t.isLt)

theorem lead_eq (n k : ℕ) (hn : n < cfg0.N) (hk : k < cfg0.N) (e : n / 4 = k / 4) : lead n hn = lead k hk := by
  unfold lead; exact Fin.ext (by show 4 * (n / 4) = 4 * (k / 4); rw [e])
theorem lead_self (t : Fin cfg0.N) (h : t.val % 4 = 0) : lead t.val t.isLt = t :=
  Fin.ext (by show 4 * (t.val / 4) = t.val; omega)

abbrev st0 (t : Fin cfg0.N) : Memref sig .tc .vmem S512x4096 .f32 := win0_0.stage (cfg0.slots t 0)
abbrev st1 (t : Fin cfg0.N) : Memref sig .tc .vmem S512x256 .f32 := win0_1.stage (cfg0.slots t 1)
abbrev st2 (t : Fin cfg0.N) : Memref sig .tc .vmem S256x4096 .bf16 := win0_2.stage (cfg0.slots t 2)
abbrev st3 (t : Fin cfg0.N) : Memref sig .tc .vmem S1x4096 .f32 := win0_3.stage (cfg0.slots t 3)
abbrev st4 (t : Fin cfg0.N) : Memref sig .tc .vmem S4096x1024 .bf16 := win0_4.stage (cfg0.slots t 4)
abbrev st5 (t : Fin cfg0.N) : Memref sig .tc .vmem S512x1024 .f32 := win0_5.stage (cfg0.slots t 5)
abbrev sc0 : Memref sig .tc .vmem S512x4096 .bf16 := Memref.whole cc0_scratch0
abbrev sc1 : Memref sig .tc .vmem S512x4096 .f32 := Memref.whole cc0_scratch1

/-- The launch's scratch arrays, at any contents, and the generator register. -/
theorem rest_eq (c : Dev nD) : (Pipeline.ΦA spec0 c : sProp 𝕄G)
    = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; rfl

/-- The scratch arrays before position `n`. -/
def carried (c : Dev nD) : (n : ℕ) → n ≤ cfg0.N → sProp 𝕄G
  | 0, _ => Pipeline.ΦA spec0 c
  | n + 1, hn => iprop(iprop(owns (c : Thread nD τ) sc0 fullShare (hbAt m c n hn) ∗ owns (c : Thread nD τ) sc1 fullShare (enAt m c n hn)) ∗ (∃ r, prngReg c r))

theorem carried_zero (c : Dev nD) (n : ℕ) (h : n ≤ cfg0.N) (hz : n = 0) : carried m c n h = Pipeline.ΦA spec0 c := by
  subst hz; rfl
theorem carried_pos (c : Dev nD) (n : ℕ) (h : n ≤ cfg0.N) (hz : n ≠ 0) : carried m c n h
    = iprop(iprop(owns (c : Thread nD τ) sc0 fullShare (hbAt m c (n - 1) (by omega)) ∗ owns (c : Thread nD τ) sc1 fullShare (enAt m c (n - 1) (by omega))) ∗ (∃ r, prngReg c r)) := by
  cases n with
  | zero => exact absurd rfl hz
  | succ n => rfl

/-- Whatever the scratch arrays hold, they hold something. -/
theorem carried_any (c : Dev nD) (n : ℕ) (h : n ≤ cfg0.N) : carried m c n h ⊢ Pipeline.ΦA spec0 c := by
  by_cases hz : n = 0
  · rw [carried_zero m c n h hz]
  · rw [carried_pos m c n h hz, rest_eq]
    iintro ⟨⟨H0, H1⟩, Hg⟩
    isplitl [H0 H1]
    · isplitl [H0]; · iexists _; iexact H0
      iexists _; iexact H1
    iexact Hg

/-- The pipeline's data. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := carried m c t.val (Nat.le_of_lt_succ t.isLt)
  q _ := fullShare
  owed _ := 0

theorem data_A (c : Dev nD) (w : Fin cfg0.W) : (data m 0 c).A w = V m c (Pipeline.arrRef spec0 w) := by
  dsimp only [data]
theorem data_carried (c : Dev nD) (t : Fin cfg0.N) : (data m 0 c).Φ t.castSucc = carried m c t.val (Nat.le_of_lt t.isLt) := by
  dsimp only [data]; exact Pipeline.Dat.Φ_castSucc (carried m c) t
theorem left0 (c : Dev nD) (t : Fin cfg0.N) : (data m 0 c).after 0 t = iblk m c 0 t := by dsimp only [data]
theorem left1 (c : Dev nD) (t : Fin cfg0.N) : (data m 0 c).after 1 t = iblk m c 1 t := by dsimp only [data]
theorem left2 (c : Dev nD) (t : Fin cfg0.N) : (data m 0 c).after 2 t = iblk m c 2 t := by dsimp only [data]
theorem left3 (c : Dev nD) (t : Fin cfg0.N) : (data m 0 c).after 3 t = iblk m c 3 t := by dsimp only [data]
theorem left4 (c : Dev nD) (t : Fin cfg0.N) : (data m 0 c).after 4 t = iblk m c 4 t := by dsimp only [data]
theorem left5 (c : Dev nD) (t : Fin cfg0.N) : (data m 0 c).after 5 t = outAt m c t := by dsimp only [data]
theorem found0 (c : Dev nD) (t : Fin cfg0.N) (d) : (data m 0 c).before 0 t d = iblk m c 0 t := before0_0_of m (data m 0 c) (data_A m c 0) (left0 m c) t d
theorem found1 (c : Dev nD) (t : Fin cfg0.N) (d) : (data m 0 c).before 1 t d = iblk m c 1 t := before0_1_of m (data m 0 c) (data_A m c 1) (left1 m c) t d
theorem found2 (c : Dev nD) (t : Fin cfg0.N) (d) : (data m 0 c).before 2 t d = iblk m c 2 t := before0_2_of m (data m 0 c) (data_A m c 2) (left2 m c) t d
theorem found3 (c : Dev nD) (t : Fin cfg0.N) (d) : (data m 0 c).before 3 t d = iblk m c 3 t := before0_3_of m (data m 0 c) (data_A m c 3) (left3 m c) t d
theorem found4 (c : Dev nD) (t : Fin cfg0.N) (d) : (data m 0 c).before 4 t d = iblk m c 4 t := before0_4_of m (data m 0 c) (data_A m c 4) (left4 m c) t d

/-- What the body is handed at point `t`, -/
def given (c : Dev nD) (t : Fin cfg0.N) : sProp 𝕄G :=
  iprop((data m 0 c).Φ t.castSucc ∗ (data m 0 c).owesAt () t.castSucc
    ∗ (∃ d, owns (c : Thread nD τ) (st0 t) fullShare ((data m 0 c).before 0 t d))
    ∗ (∃ d, owns (c : Thread nD τ) (st1 t) fullShare ((data m 0 c).before 1 t d))
    ∗ (∃ d, owns (c : Thread nD τ) (st2 t) fullShare ((data m 0 c).before 2 t d))
    ∗ (∃ d, owns (c : Thread nD τ) (st3 t) fullShare ((data m 0 c).before 3 t d))
    ∗ (∃ d, owns (c : Thread nD τ) (st4 t) fullShare ((data m 0 c).before 4 t d))
    ∗ (∃ d, owns (c : Thread nD τ) (st5 t) fullShare ((data m 0 c).before 5 t d)))

/-- and what it hands back. -/
def handed (c : Dev nD) (t : Fin cfg0.N) : sProp 𝕄G :=
  iprop((data m 0 c).Φ t.succ ∗ (data m 0 c).owesAt () t.succ
    ∗ owns (c : Thread nD τ) (st0 t) fullShare ((data m 0 c).after 0 t)
    ∗ owns (c : Thread nD τ) (st1 t) fullShare ((data m 0 c).after 1 t)
    ∗ owns (c : Thread nD τ) (st2 t) fullShare ((data m 0 c).after 2 t)
    ∗ owns (c : Thread nD τ) (st3 t) fullShare ((data m 0 c).after 3 t)
    ∗ owns (c : Thread nD τ) (st4 t) fullShare ((data m 0 c).after 4 t)
    ∗ owns (c : Thread nD τ) (st5 t) fullShare ((data m 0 c).after 5 t))

set_option maxHeartbeats 1600000 in
theorem point (c : Dev nD) (t : Fin cfg0.N) :
    given m c t ⊢ wp frame (wpE (defs₀ (F := F)) Variants.none c none) Set.univ (bodyAt0 t) (fun _ => handed m c t) := by
  unfold given handed bodyAt0
  simp only [found0, found1, found2, found3, found4]
  rw [show (data m 0 c).owesAt () t.succ = (data m 0 c).owesAt () t.castSucc from rfl,
    left0, left1, left2, left3, left4, left5, data_carried m c t,
    show (data m 0 c).Φ t.succ = iprop(iprop(owns (c : Thread nD τ) sc0 fullShare (hbAt m c t.val t.isLt) ∗ owns (c : Thread nD τ) sc1 fullShare (enAt m c t.val t.isLt)) ∗ (∃ r, prngReg c r)) from rfl]
  by_cases h0 : t.val % 4 = 0
  · have e8 : HB (iblk m c 0 t) = hbAt m c t.val t.isLt := by unfold hbAt; rw [lead_self t h0]
    have e9 : EN (E0 (iblk m c 1 t) (iblk m c 2 t)) (iblk m c 3 t) = enAt m c t.val t.isLt := by unfold enAt; rw [lead_self t h0]
    have e7 : OUT (grid0.coords t 1).val (iblk m c 0 t) (iblk m c 4 t) (HB (iblk m c 0 t)) (EN (E0 (iblk m c 1 t) (iblk m c 2 t)) (iblk m c 3 t)) = outAt m c t := by
      rw [e8, e9]; rfl
    refine BIBase.Entails.trans (sep_mono_l (carried_any m c _ _)) ?_
    rw [rest_eq]
    change iprop(_ ∗ _) ⊢ _
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runA c (grid0.coords t) _ _ _ _ _ _ _ _ _ _ _ _ _ _ _ _ ((fills_iff t).mpr h0) (iblk m c 0 t) (iblk m c 1 t) (iblk m c 2 t) (iblk m c 3 t) (iblk m c 4 t) Set.univ _)
    rw [e7, e8, e9]
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · have hz : t.val ≠ 0 := by omega
    have el : lead (t.val - 1) (by omega) = lead t.val t.isLt := lead_eq _ _ _ _ (by omega)
    have e8 : hbAt m c (t.val - 1) (by omega) = hbAt m c t.val t.isLt := by unfold hbAt; rw [el]
    have e9 : enAt m c (t.val - 1) (by omega) = enAt m c t.val t.isLt := by unfold enAt; rw [el]
    rw [carried_pos m c _ _ hz, e8, e9]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply (runB c (grid0.coords t) _ _ _ _ _ _ _ _ _ _ _ _ _ _ _ _ (fun h => h0 ((fills_iff t).mp h)) (iblk m c 0 t) (iblk m c 1 t) (iblk m c 2 t) (iblk m c 3 t) (iblk m c 4 t)
      (hbAt m c t.val t.isLt) (enAt m c t.val t.isLt) Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

theorem row (t : Fin cfg0.N) : defs₀ (F := F) .tc cfg0.body (cfg0.bodyArgs t (cfg0.slots t)) = bodyAt0 t := by
  unfold defs₀; rw [Defs.onTc_tc]

theorem obligation (c : Dev nD) : BodyObligation (data (F := F) m 0 c) (defs₀ (F := F)) Variants.none () Set.univ := fun t => by
  rw [bigSep_W0, bigSep_W0, row]
  exact triple_restated (point m c t) rfl .rfl fun _ => .rfl

theorem enter (c : Dev nD) : Pipeline.ΦA spec0 c ⊢ (data m 0 c).Φ 0 := by
  rw [show (data m 0 c).Φ 0 = carried m c 0 (Nat.zero_le _) from rfl, carried_zero m c 0 _ rfl]

theorem leave (c : Dev nD) : (data m 0 c).Φ (Fin.last cfg0.N) ⊢ Pipeline.ΦA spec0 c := by
  rw [show (data m 0 c).Φ (Fin.last cfg0.N) = carried m c (Fin.last cfg0.N).val (Nat.le_of_lt_succ (Fin.last cfg0.N).isLt) from rfl]
  exact carried_any m c _ _

set_option backward.isDefEq.respectTransparency.types false in
/-- The program runs to the library's computed arrays, with its counters at rest. -/
theorem runs : θ_run defs (onTc (τ := τ) (main (F := F))) (s₀ m ρ) (fun r => (Pipeline.FramePost cfgs (data m) 0 (V m)) r ∧ r.2.sem = fun _ => 0) :=
  Pipeline.θ_run_frame_track (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_A m) (hin := enter m) (hout := leave m)

theorem runs_arrays : θ_run defs (onTc (τ := τ) (main (F := F))) (s₀ m ρ) (Pipeline.FramePost cfgs (data m) 0 (V m)) :=
  (θ_run defs _ _).mono (fun _ h => h.1) (runs m ρ)

/-- The arguments end as they began, and the counters at zero. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and ((θ_run defs _ _).mono (fun _ h c => ⟨
      ((h c).1 0).trans (((data m 0 c).arrAt_in 0 rfl _).trans ((data_A m c 0).trans (V_main_arg0 m c))),
      ((h c).1 1).trans (((data m 0 c).arrAt_in 1 rfl _).trans ((data_A m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (runs_arrays m ρ)) ((θ_run defs _ _).mono (fun _ h => h.2) (runs m ρ))

end Cert.PleIdeal.Body
-- ==== Proof.PleV.Blocks.lean ====
/- Every grid point's blocks, read at an element of the arguments: point `t` is row block `t / 4`, column block `t % 4`. -/
module

public import proofs.«01_k».proof.Proof.PleV.Math
public import proofs.«01_k».proof.Proof.PleV.Launch
public import Idealize.ShloMosaic.Lib.Pipeline.ValueKit
public import Idealize.ShloMosaic.Lib.StableHlo.Run

@[expose] public section

set_option maxRecDepth 16384

noncomputable section

namespace Cert.PleIdeal.Body

open Idealize.ShloMosaic Idealize.ShloMosaic.TcCoe Idealize.ShloMosaic.Tactic Cert.PleIdeal.Gen Cert.Rows Cert.PleV Cert.GlaV

variable (m : (l : Loc nD τ sig) → Buf (Elt Ideal) l) (c : Dev nD)

/-- The launch memory's arguments, as numbered matrices. -/
abbrev Hm : ℕ → ℕ → EReal := at2 (n := 8192) (k := 4096) (m ((c : Thread nD τ).loc main_arg0))
abbrev Pm : ℕ → ℕ → EReal := at2 (n := 8192) (k := 256) (m ((c : Thread nD τ).loc main_arg1))
abbrev Wm : ℕ → ℕ → EReal := at2 (n := 256) (k := 4096) (m ((c : Thread nD τ).loc main_arg2))
abbrev Gm : ℕ → EReal := at1 (n := 4096) (m ((c : Thread nD τ).loc main_arg3))
abbrev Am : ℕ → ℕ → EReal := at2 (n := 4096) (k := 4096) (m ((c : Thread nD τ).loc main_arg4))

theorem main0 (r : Fin 256) (j : Fin 4096) : V m c main_v0 (ix2 r j) = (Wm m c r j : EReal) := by
  show StableHlo.after _ _ _ _ = _
  simp only [hostOps0, List.flatten_cons, List.flatten_nil, List.append_nil]
  entry_read
  pointwise
  exact at2_ix (n := 256) (k := 4096) _ _ _

theorem main1 (j : Fin 4096) : V m c main_v1 (ix2 0 j) = (Gm m c j : EReal) := by
  show StableHlo.after _ _ _ _ = _
  simp only [hostOps0, List.flatten_cons, List.flatten_nil, List.append_nil]
  entry_read
  pointwise
  exact at1_ix (n := 4096) _ _

theorem main2 (r j : Fin 4096) : V m c main_v2 (ix2 r j) = (Am m c r j : EReal) := by
  show StableHlo.after _ _ _ _ = _
  simp only [hostOps0, List.flatten_cons, List.flatten_nil, List.append_nil]
  entry_read
  pointwise
  exact at2_ix (n := 4096) (k := 4096) _ _ _

theorem ix_0 : ∀ t : Fin cfg0.N, win0_0.index t 0 = t.val / 4 ∧ win0_0.index t 1 = 0 := by decide +kernel
theorem ix_1 : ∀ t : Fin cfg0.N, win0_1.index t 0 = t.val / 4 ∧ win0_1.index t 1 = 0 := by decide +kernel
theorem ix_2 : ∀ t : Fin cfg0.N, win0_2.index t 0 = 0 ∧ win0_2.index t 1 = 0 := by decide +kernel
theorem ix_3 : ∀ t : Fin cfg0.N, win0_3.index t 0 = 0 ∧ win0_3.index t 1 = 0 := by decide +kernel
theorem ix_4 : ∀ t : Fin cfg0.N, win0_4.index t 0 = 0 ∧ win0_4.index t 1 = t.val % 4 := by decide +kernel
theorem ix_5 : ∀ t : Fin cfg0.N, win0_5.index t 0 = t.val / 4 ∧ win0_5.index t 1 = t.val % 4 := by decide +kernel

theorem lt_N (t : Fin cfg0.N) : t.val < 64 := lt_of_lt_of_eq t.isLt N_0

theorem blk_0 (t : Fin cfg0.N) (r : Fin 512) (k : Fin 4096) : iblk m c 0 t (ix2 r k) = (Hm m c (512 * (t.val / 4) + r.val) k : EReal) := by
  have h := ix_0 t
  have ht := lt_N t
  have e : iblk m c 0 t (ix2 r k) = V m c main_arg0 (ix2 ⟨512 * (t.val / 4) + r.val, by omega⟩ k) := by blk_ext [iblk, h.1, h.2]
  rw [e, V_main_arg0]
  exact at2_ix (n := 8192) (k := 4096) _ _ _
theorem blk_1 (t : Fin cfg0.N) (r : Fin 512) (k : Fin 256) : iblk m c 1 t (ix2 r k) = (Pm m c (512 * (t.val / 4) + r.val) k : EReal) := by
  have h := ix_1 t
  have ht := lt_N t
  have e : iblk m c 1 t (ix2 r k) = V m c main_arg1 (ix2 ⟨512 * (t.val / 4) + r.val, by omega⟩ k) := by blk_ext [iblk, h.1, h.2]
  rw [e, V_main_arg1]
  exact at2_ix (n := 8192) (k := 256) _ _ _
theorem blk_2 (t : Fin cfg0.N) (r : Fin 256) (k : Fin 4096) : iblk m c 2 t (ix2 r k) = (Wm m c r k : EReal) := by
  have h := ix_2 t
  have e : iblk m c 2 t (ix2 r k) = V m c main_v0 (ix2 r k) := by blk_ext [iblk, h.1, h.2]
  rw [e, main0]
theorem blk_3 (t : Fin cfg0.N) (k : Fin 4096) : iblk m c 3 t (ix2 0 k) = (Gm m c k : EReal) := by
  have h := ix_3 t
  have e : iblk m c 3 t (ix2 0 k) = V m c main_v1 (ix2 0 k) := by blk_ext [iblk, h.1, h.2]
  rw [e, main1]
theorem blk_4 (t : Fin cfg0.N) (r : Fin 4096) (k : Fin 1024) : iblk m c 4 t (ix2 r k) = (Am m c r (1024 * (t.val % 4) + k.val) : EReal) := by
  have h := ix_4 t
  have e : iblk m c 4 t (ix2 r k) = V m c main_v2 (ix2 r ⟨1024 * (t.val % 4) + k.val, by omega⟩) := by blk_ext [iblk, h.1, h.2]
  rw [e, main2]

end Cert.PleIdeal.Body
-- ==== Proof.PleV.Final.lean ====
/- What the embedding's launch leaves: every element of the result is the residual plus the gated embedding. -/
module

public import proofs.«01_k».proof.Proof.PleV.Blocks

@[expose] public section

set_option maxRecDepth 16384

noncomputable section

namespace Cert.PleIdeal.Body

open Idealize.ShloMosaic Idealize.ShloMosaic.TcCoe Idealize.ShloMosaic.Tactic Idealize.SL.Sem Cert.PleIdeal.Gen Cert.Rows Cert.PleV Cert.GlaV

variable (m : (l : Loc nD τ sig) → Buf (Elt Ideal) l) (ρ : Dev nD → PrngReg) (c : Dev nD)

/-- The result, of the launch memory. -/
abbrev RESm (s j : ℕ) : EReal := RES (Hm m c) (Pm m c) (Wm m c) (Am m c) (Gm m c) s j

theorem lead_div (t : Fin cfg0.N) : (lead t.val t.isLt).val / 4 = t.val / 4 := by
  show 4 * (t.val / 4) / 4 = _; omega

/-- A point's output block, at an element. -/
theorem outAt_val (t : Fin cfg0.N) (r : Fin 512) (k : Fin 1024) :
    outAt m c t (ix2 r k) = RESm m c (512 * (t.val / 4) + r.val) (1024 * (t.val % 4) + k.val) := by
  have hn : (grid0.coords t 1).val = t.val % 4 := (Pipeline.Grid.coords_val t 1 (by decide) rfl : _ = t.val / 1 % 4).trans (by rw [Nat.div_one])
  unfold outAt
  rw [OUT_val _ (by rw [hn]; exact Nat.mod_lt _ (by decide))]
  simp only [hn, hbAt, enAt, HB_val, EN_val, E0_val]
  simp only [blk_0, blk_1, blk_2, blk_3, blk_4, lead_div]
  rfl

/-- The result array. -/
def RESULT : Buf (Elt Ideal) ((c : Thread nD τ).loc main_v3) :=
  (fun i => RESm m c (i 0).val (i 1).val : FVec Ideal S8192x4096 .f32)

theorem RESULT_val (s : Fin 8192) (j : Fin 4096) : (RESULT m c : FVec Ideal S8192x4096 .f32) (ix2 s j) = RESm m c s.val j.val := rfl

/-- Every point writes its block of it back, … -/
theorem flushed (t : Fin cfg0.N) : (data m 0 c).flushed 5 t = ((cfg0.win 5).blk t).view.read (Elt Ideal) (RESULT m c) := by
  show (cfg0.win 5).cut (grid0.coords t) ((data m 0 c).after 5 t) = _
  rw [left5]
  have h := ix_5 t
  funext y
  obtain ⟨r, k, rfl⟩ : ∃ (r : Fin 512) (k : Fin 1024), y = ix2 r k := ⟨y 0, y 1, eq_ix2 y⟩
  rw [View.read_apply]
  refine (outAt_val m c t r k).trans ?_
  show _ = RESm m c (win0_5.index t 0 * 512 + 1 * r.val) (win0_5.index t 1 * 1024 + 1 * k.val)
  rw [h.1, h.2]
  congr 1 <;> omega

/-- … and the blocks cover it. -/
theorem final : (data m 0 c).arrAt 5 cfg0.N = RESULT m c :=
  (data m 0 c).arrAt_eq_of_cover 5 (RESULT m c) (fun t _ => flushed m c t) fun i => by
    have h0 : (i 0 : Nat) < 8192 := (i 0).isLt
    have h1 : (i 1 : Nat) < 4096 := (i 1).isLt
    let t : Fin cfg0.N := ⟨4 * ((i 0 : Nat) / 512) + (i 1 : Nat) / 1024, by rw [show cfg0.N = 64 from N_0]; omega⟩
    have ht : t.val = 4 * ((i 0 : Nat) / 512) + (i 1 : Nat) / 1024 := rfl
    refine ⟨t, flush0_5 t, ?_⟩
    have h := ix_5 t
    show i ∈ ((View.whole main_v3).slice (win0_5.rect t)).set
    rw [View.set_slice_whole, Rect.mem_set_unit]
    intro a
    match a with
    | ⟨0, _⟩ =>
      show win0_5.index t 0 * 512 ≤ (i 0 : Nat) ∧ (i 0 : Nat) < win0_5.index t 0 * 512 + 512
      rw [h.1, ht]; omega
    | ⟨1, _⟩ =>
      show win0_5.index t 1 * 1024 ≤ (i 1 : Nat) ∧ (i 1 : Nat) < win0_5.index t 1 * 1024 + 1024
      rw [h.2, ht]; omega

/-- The run, read: the result array, the arguments unchanged. -/
theorem run : θ_run defs (onTc (τ := τ) (main (F := Ideal))) ⟨m, fun _ => 0, ρ⟩ fun r => ∀ c : Dev nD,
      r.2.mem ((c.tc : Thread nD τ).loc main_v3) = RESULT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 5).trans (final m c), h.2.1 c⟩) (θ_run_and (runs_arrays m ρ) (kept m ρ))

end Cert.PleIdeal.Body
-- ==== Proof.PleV.Ref.lean ====
/- What the reference computes, read at an element. -/
module

public import proofs.«01_k».proof.Proof.PleV.Math
public import proofs.«01_k».proof.Proof.Gen.PleRefIdeal.Run

@[expose] public section

set_option maxRecDepth 16384

noncomputable section

namespace Cert.PleRefIdeal.Body

open Idealize.ShloMosaic Cert.PleRefIdeal.Gen Cert.PleV Cert.GlaV

/-- The reference's result of five arrays. -/
def res (a0 : FVec Ideal S8192x4096 .f32) (a1 : FVec Ideal S8192x256 .f32) (a2 : FVec Ideal S256x4096 .f32) (a3 : FVec Ideal S4096 .f32)
    (a4 : FVec Ideal S4096x4096 .f32) : FVec Ideal S8192x4096 .f32 :=
  addf a0 (mulf (mulf (mulf (Host.dotGeneral dot_S8192x256_S256x4096_S8192x4096_1_0_0_1_n_n none a1 a2) (broadcastInDim S8192x4096 ![0, 1] bcast_S8192x1_S8192x4096_0_1 (Host.rsqrt (addf (Host.divf (broadcastInDim S8192x1 ![0] bcast_S8192_S8192x1_0 (Host.reduceAdd (mulf (Host.dotGeneral dot_S8192x256_S256x4096_S8192x4096_1_0_0_1_n_n none a1 a2) (Host.dotGeneral dot_S8192x256_S256x4096_S8192x4096_1_0_0_1_n_n none a1 a2)) (constant S_ .f32 0x00000000#32) reducesTo_S8192x4096_S8192_d1 h_S_)) (broadcastInDim S8192x1 ![] bcast_S_S8192x1 (constant S_ .f32 0x45800000#32))) (broadcastInDim S8192x1 ![] bcast_S_S8192x1 (constant S_ .f32 0x358637BD#32)))))) (broadcastInDim S8192x4096 ![0, 1] bcast_S1x4096_S8192x4096_0_1 (broadcastInDim S1x4096 ![1] bcast_S4096_S1x4096_1 a3))) (Host.divf (broadcastInDim S8192x4096 ![] bcast_S_S8192x4096 (constant S_ .f32 0x3F800000#32)) (addf (broadcastInDim S8192x4096 ![] bcast_S_S8192x4096 (constant S_ .f32 0x3F800000#32)) (Host.exp (Host.negf (Host.dotGeneral dot_S8192x4096_S4096x4096_S8192x4096_1_0_0_1_n_n none a0 a4))))))

theorem res_val (a0 : FVec Ideal S8192x4096 .f32) (a1 : FVec Ideal S8192x256 .f32) (a2 : FVec Ideal S256x4096 .f32) (a3 : FVec Ideal S4096 .f32)
    (a4 : FVec Ideal S4096x4096 .f32) (s : Fin 8192) (j : Fin 4096) :
    (res a0 a1 a2 a3 a4 (ix2 s j) : EReal) = RES (at2 (n := 8192) (k := 4096) a0) (at2 (n := 8192) (k := 256) a1) (at2 (n := 256) (k := 4096) a2)
      (at2 (n := 4096) (k := 4096) a4) (at1 (n := 4096) a3) s.val j.val := by
  unfold res
  pointwise
  unfold RES S E
  simp only [← at2_ix, ← at1_ix]
  rfl

end Cert.PleRefIdeal.Body
-- ==== Proof.PleV.Equation.lean ====
/- The embedding's call and its reference: both results are the residual plus the gated embedding of the arguments. -/
module

public import proofs.«01_k».proof.Defs
public import proofs.«01_k».proof.Proof.PleV.Final
public import proofs.«01_k».proof.Proof.PleV.Ref
public import proofs.«01_k».proof.Proof.Gen.Ple

@[expose] public section

set_option maxRecDepth 16384

noncomputable section

namespace Cert.PleV

open Idealize.ShloMosaic Idealize.SL.Sem

/-- The launch's result is the reference's of the same arrays. -/
theorem results_eq (m : (l : Loc PleIdeal.nD PleIdeal.τ PleIdeal.sig) → Buf (Elt Ideal) l) (c : Dev PleIdeal.nD) :
    PleRefIdeal.Body.res (m ((c.tc : Thread PleIdeal.nD PleIdeal.τ).loc PleIdeal.main_arg0)) (m ((c.tc : Thread PleIdeal.nD PleIdeal.τ).loc PleIdeal.main_arg1))
      (m ((c.tc : Thread PleIdeal.nD PleIdeal.τ).loc PleIdeal.main_arg2)) (m ((c.tc : Thread PleIdeal.nD PleIdeal.τ).loc PleIdeal.main_arg3))
      (m ((c.tc : Thread PleIdeal.nD PleIdeal.τ).loc PleIdeal.main_arg4)) = PleIdeal.Body.RESULT m c := by
  funext i
  obtain ⟨s, j, rfl⟩ : ∃ (s : Fin 8192) (j : Fin 4096), i = ix2 s j := ⟨i 0, i 1, eq_ix2 i⟩
  exact (PleRefIdeal.Body.res_val _ _ _ _ _ s j).trans (PleIdeal.Body.RESULT_val m c s j).symm

/-- The program and its idealized form have one body table, … -/
theorem bodies_eq : Cert.Ple.defs₀ (F := Bits) = Cert.PleIdeal.defs₀ := by
  unfold Cert.Ple.defs₀ Cert.PleIdeal.defs₀
  refine congrArg Defs.onTc ?_
  funext l a
  match l, a with
  | ⟨0, _⟩, (t, s) =>
    show Cert.Ple.cc0_ple _ _ _ _ _ _ _ _ _ _ _ _ _ _ _ _ _ = _
    unfold Cert.Ple.cc0_ple
    rfl
theorem defs_eq : Cert.Ple.defs (F := Bits) = Cert.PleIdeal.defs := congrArg (Pipeline.defs Cert.PleIdeal.pcfgs) bodies_eq

/-- … so the frame of the one is the frame of the other. -/
theorem frame_kernel : Cert.quiescent_Ple := fun m ρ _ => by
  rw [defs_eq]
  exact Cert.PleIdeal.Body.kept (F := Bits) m ρ
theorem frame_ideal : Cert.quiescent_PleIdeal := fun m ρ _ => Cert.PleIdeal.Body.kept m ρ
theorem frame_ref : Cert.quiescent_PleRefIdeal := fun m ρ _ => (θ_run Cert.PleRefIdeal.defs _ _).mono
  (fun r h => ⟨fun c => (h c).2, sem_eq_zero_of_no_sems (by decide) r.2⟩) (Cert.PleRefIdeal.Value.run m ρ)

theorem equation : Cert.algebraic_PleIdeal_PleRefIdeal := by
  intro m ρ m' ρ' _ h
  refine ⟨fun c => Cert.PleIdeal.Body.RESULT m c, Cert.PleIdeal.Body.run m ρ, ?_⟩
  refine (θ_run Cert.PleRefIdeal.defs _ _).mono (fun _ hr c => ⟨(hr c).1.trans ?_, (hr c).2⟩) (Cert.PleRefIdeal.Value.run m' ρ')
  obtain ⟨h0, h1, h2, h3, h4⟩ := h c
  rw [h0, h1, h2, h3, h4]
  exact results_eq m c

end Cert.PleV
end
-- ==== Proof.lean ====
/- The claims about the gated-linear-attention call, the two feed-forward calls, the input- and output-projection calls and
   the gated per-layer-embedding call. -/
module

public import proofs.«01_k».proof.Defs
public import proofs.«01_k».proof.Proof.GlaV.Equation
public import proofs.«01_k».proof.Proof.FirstV.Equation
public import proofs.«01_k».proof.Proof.FfnV.Equation
public import proofs.«01_k».proof.Proof.InprojV.Equation
public import proofs.«01_k».proof.Proof.OutV.Equation
public import proofs.«01_k».proof.Proof.PleV.Equation
public import Idealize.ShloMosaic.Adequacy
public import Idealize.ShloMosaic.Init

@[expose] public section

noncomputable section

namespace Cert.Proof

open Idealize.ShloMosaic Idealize.SL.Sem

theorem claim : Cert.Claim := ⟨Cert.Gla.Gen.facts, Cert.GlaIdeal.Gen.facts, Cert.GlaRefIdeal.Gen.facts,
  Cert.First.Gen.facts, Cert.FirstIdeal.Gen.facts, Cert.FirstRefIdeal.Gen.facts,
  Cert.Ffn.Gen.facts, Cert.FfnIdeal.Gen.facts, Cert.FfnRefIdeal.Gen.facts,
  Cert.Inproj.Gen.facts, Cert.InprojIdeal.Gen.facts, Cert.InprojRefIdeal.Gen.facts,
  Cert.Outproj.Gen.facts, Cert.OutprojIdeal.Gen.facts, Cert.OutprojRefIdeal.Gen.facts,
  Cert.Ple.Gen.facts, Cert.PleIdeal.Gen.facts, Cert.PleRefIdeal.Gen.facts,
  Cert.GlaV.frame_kernel, Cert.GlaV.frame_ideal, Cert.GlaV.frame_ref,
  Cert.FirstV.frame_kernel, Cert.FirstV.frame_ideal, Cert.FirstV.frame_ref,
  Cert.FfnV.frame_kernel, Cert.FfnV.frame_ideal, Cert.FfnV.frame_ref,
  Cert.InprojV.frame_kernel, Cert.InprojV.frame_ideal, Cert.InprojV.frame_ref,
  Cert.OutV.frame_kernel, Cert.OutV.frame_ideal, Cert.OutV.frame_ref,
  Cert.PleV.frame_kernel, Cert.PleV.frame_ideal, Cert.PleV.frame_ref,
  trivial, Cert.GlaV.equation, trivial, Cert.FirstV.equation, trivial, Cert.FfnV.equation,
  trivial, Cert.InprojV.equation, trivial, Cert.OutV.equation, trivial, Cert.PleV.equation⟩

end Cert.Proof
end
